-- ==== Defs.lean ====
def Pre_Kernel [hPre_sizes_fit : Cert.Pre_sizes_fit.Facts] (m : (ℓ : Loc Cert.Kernel.nD Cert.Kernel.τ Cert.Kernel.sig) → Buf (Elt Bits) ℓ) : Prop :=
  ∀ c : Dev Cert.Kernel.nD,
    (Cert.Pre_sizes_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_sizes_fit : Cert.Pre_sizes_fit.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_fit [hPre_sizes_fit : Cert.Pre_sizes_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_sizes_fit : Cert.Pre_sizes_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_sizes_fit : Cert.Pre_sizes_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sizes_fit [hReferenceIdeal : Cert.ReferenceIdeal.Facts] [hPre_sizes_fit : Cert.Pre_sizes_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sizes_fit : Cert.Pre_sizes_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sizes_fit : Cert.Pre_sizes_fit.Facts),
    quiescent_Kernel (hKernel := hKernel) (hPre_sizes_fit := hPre_sizes_fit)
    ∧ quiescent_KernelIdeal (hKernelIdeal := hKernelIdeal) (hPre_sizes_fit := hPre_sizes_fit)
    ∧ quiescent_ReferenceIdeal (hReferenceIdeal := hReferenceIdeal)
    ∧ quiescent_ReferenceIdeal_pre_sizes_fit (hReferenceIdeal := hReferenceIdeal) (hPre_sizes_fit := hPre_sizes_fit)
    ∧ preserves_Kernel_KernelIdeal
    ∧ algebraic_KernelIdeal_ReferenceIdeal (hKernelIdeal := hKernelIdeal) (hReferenceIdeal := hReferenceIdeal) (hPre_sizes_fit := hPre_sizes_fit)
-- ==== Pre_sizes_fit.lean ====
abbrev S768x2048 : Shape := ⟨2, ![768, 2048]⟩
abbrev S768x1 : Shape := ⟨2, ![768, 1]⟩
abbrev S32 : Shape := ⟨1, ![32]⟩
abbrev S32x2048x1536 : Shape := ⟨3, ![32, 2048, 1536]⟩
abbrev S32x1536 : Shape := ⟨2, ![32, 1536]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S768x2048 .fp8e4m3) (main_arg1 : FVec F S768x1 .f32) (main_arg2 : IVec S32 32) (main_arg3 : FVec F S32x2048x1536 .fp8e4m3) (main_arg4 : FVec F S32x1536 .f32) : IVec S32 1 :=
  let main_c : IVec S_ 32 := constantI S_ 32 0#32
  let main_v0 : IVec S32 32 := broadcastInDim S32 ![] bcast_S_S32 main_c
  let main_v1 : IVec S32 1 := cmpi .sge main_arg2 main_v0
  let main_c_0 : IVec S_ 32 := constantI S_ 32 768#32
  let main_v2 : IVec S32 32 := broadcastInDim S32 ![] bcast_S_S32 main_c_0
  let main_v3 : IVec S32 1 := cmpi .sle main_arg2 main_v2
  let main_v4 : IVec S32 1 := andi main_v1 main_v3
  main_v4
-- ==== Kernel.lean ====
abbrev S768x2048 : Shape := ⟨2, ![768, 2048]⟩
abbrev S768x1 : Shape := ⟨2, ![768, 1]⟩
abbrev S32 : Shape := ⟨1, ![32]⟩
abbrev S32x2048x1536 : Shape := ⟨3, ![32, 2048, 1536]⟩
abbrev S32x1536 : Shape := ⟨2, ![32, 1536]⟩
abbrev S768x1536 : Shape := ⟨2, ![768, 1536]⟩
abbrev S8x2048x1536 : Shape := ⟨3, ![8, 2048, 1536]⟩
abbrev S_ : Shape := ⟨0, ![]⟩
abbrev S8 : Shape := ⟨1, ![8]⟩
abbrev S1 : Shape := ⟨1, ![1]⟩
abbrev S1x2048x1536 : Shape := ⟨3, ![1, 2048, 1536]⟩
abbrev S2048x1536 : Shape := ⟨2, ![2048, 1536]⟩
abbrev S96x1 : Shape := ⟨2, ![96, 1]⟩
abbrev S96x2048 : Shape := ⟨2, ![96, 2048]⟩
abbrev S1x2048x512 : Shape := ⟨3, ![1, 2048, 512]⟩
abbrev S2048x512 : Shape := ⟨2, ![2048, 512]⟩
abbrev S96x512 : Shape := ⟨2, ![96, 512]⟩
abbrev S1x512 : Shape := ⟨2, ![1, 512]⟩

abbrev nBuf : Space → Nat
  | .hbm => 6
  | .vmem => 5
  | .smem => 3
  | _ => 0

abbrev bufTy : (tb : Table) → Fin (tcTables nBuf tb) → BufTy
  | .hbm, ⟨0, _⟩ => ⟨S768x2048, .fp8e4m3⟩
  | .hbm, ⟨1, _⟩ => ⟨S768x1, .f32⟩
  | .hbm, ⟨2, _⟩ => ⟨S32, .i32⟩
  | .hbm, ⟨3, _⟩ => ⟨S32x2048x1536, .fp8e4m3⟩
  | .hbm, ⟨4, _⟩ => ⟨S32x1536, .f32⟩
  | .hbm, ⟨5, _⟩ => ⟨S768x1536, .bf16⟩
  | .local _ .vmem, ⟨0, _⟩ => ⟨S768x1536, .bf16⟩
  | .local _ .vmem, ⟨1, _⟩ => ⟨S768x2048, .fp8e4m3⟩
  | .local _ .vmem, ⟨2, _⟩ => ⟨S768x1, .f32⟩
  | .local _ .vmem, ⟨3, _⟩ => ⟨S32x1536, .f32⟩
  | .local _ .vmem, ⟨4, _⟩ => ⟨S8x2048x1536, .fp8e4m3⟩
  | .local _ .smem, ⟨0, _⟩ => ⟨S32, .i32⟩
  | .local _ .smem, ⟨1, _⟩ => ⟨S32, .i32⟩
  | .local _ .smem, ⟨2, _⟩ => ⟨S32, .i32⟩
  | _, _ => ⟨S768x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_scratch3 : Ref sig .tc := ⟨.vmem, 1, rfl⟩
abbrev cc0_scratch4 : Ref sig .tc := ⟨.vmem, 2, rfl⟩
abbrev cc0_scratch5 : Ref sig .tc := ⟨.vmem, 3, rfl⟩
abbrev cc0_scratch6 : Ref sig .tc := ⟨.vmem, 4, rfl⟩
abbrev cc0_scratch0 : Ref sig .tc := ⟨.smem, 0, rfl⟩
abbrev cc0_scratch1 : Ref sig .tc := ⟨.smem, 1, rfl⟩
abbrev cc0_scratch2 : Ref sig .tc := ⟨.smem, 2, rfl⟩
abbrev cc0_sem0_0 : DmaSem sig := 0

abbrev nD : Nat := 1
abbrev τ : Topo := Topo.v7x

variable {F : FTy → Type} [FloatOps F]

abbrev grid0 : Pipeline.Grid := .none

def k0_off1 (v0 : BitVec 32) : Fin 1 → Nat :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let v9 : Index := Scalar.indexCast v5
  ![v9.toNat]

def k0_chk1 (v0 : BitVec 32) : Prop :=
  (∀ a, (k0_off1 v0) a + S1.size a ≤ S32.size a)
theorem k0_off1_inb : ∀ (v0 : BitVec 32) (k0_hw1 : k0_chk1 v0), ∀ a, (k0_off1 v0) a + S1.size a ≤ S32.size a := fun v0 k0_hw1 => k0_hw1

def k0_off2 (v0 : BitVec 32) (v7 : BitVec 32) : Fin 1 → Nat :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let v17 : Index := Scalar.indexCast v13
  ![v17.toNat]

def k0_chk2 (v0 : BitVec 32) (v7 : BitVec 32) : Prop :=
  (∀ a, (k0_off2 v0 v7) a + S1.size a ≤ S32.size a)
theorem k0_off2_inb : ∀ (v0 : BitVec 32) (v7 : BitVec 32) (k0_hw2 : k0_chk2 v0 v7), ∀ a, (k0_off2 v0 v7) a + S1.size a ≤ S32.size a := fun v0 v7 k0_hw2 => k0_hw2

def k0_off3 (v0 : BitVec 32) (v7 : BitVec 32) (v15 : BitVec 32) : Fin 1 → Nat :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let v25 : Index := Scalar.indexCast v21
  ![v25.toNat]

def k0_chk3 (v0 : BitVec 32) (v7 : BitVec 32) (v15 : BitVec 32) : Prop :=
  (∀ a, (k0_off3 v0 v7 v15) a + S1.size a ≤ S32.size a)
theorem k0_off3_inb : ∀ (v0 : BitVec 32) (v7 : BitVec 32) (v15 : BitVec 32) (k0_hw3 : k0_chk3 v0 v7 v15), ∀ a, (k0_off3 v0 v7 v15) a + S1.size a ≤ S32.size a := fun v0 v7 v15 k0_hw3 => k0_hw3

def k0_off4 (v0 : BitVec 32) (v7 : BitVec 32) (v15 : BitVec 32) (v23 : BitVec 32) : Fin 1 → Nat :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let v33 : Index := Scalar.indexCast v29
  ![v33.toNat]

def k0_chk4 (v0 : BitVec 32) (v7 : BitVec 32) (v15 : BitVec 32) (v23 : BitVec 32) : Prop :=
  (∀ a, (k0_off4 v0 v7 v15 v23) a + S1.size a ≤ S32.size a)
theorem k0_off4_inb : ∀ (v0 : BitVec 32) (v7 : BitVec 32) (v15 : BitVec 32) (v23 : BitVec 32) (k0_hw4 : k0_chk4 v0 v7 v15 v23), ∀ a, (k0_off4 v0 v7 v15 v23) a + S1.size a ≤ S32.size a := fun v0 v7 v15 v23 k0_hw4 => k0_hw4

def k0_off5 (v0 : BitVec 32) (v7 : BitVec 32) (v15 : BitVec 32) (v23 : BitVec 32) (v31 : BitVec 32) : Fin 1 → Nat :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let v41 : Index := Scalar.indexCast v37
  ![v41.toNat]

def k0_chk5 (v0 : BitVec 32) (v7 : BitVec 32) (v15 : BitVec 32) (v23 : BitVec 32) (v31 : BitVec 32) : Prop :=
  (∀ a, (k0_off5 v0 v7 v15 v23 v31) a + S1.size a ≤ S32.size a)
theorem k0_off5_inb : ∀ (v0 : BitVec 32) (v7 : BitVec 32) (v15 : BitVec 32) (v23 : BitVec 32) (v31 : BitVec 32) (k0_hw5 : k0_chk5 v0 v7 v15 v23 v31), ∀ a, (k0_off5 v0 v7 v15 v23 v31) a + S1.size a ≤ S32.size a := fun v0 v7 v15 v23 v31 k0_hw5 => k0_hw5

def k0_off6 (v0 : BitVec 32) (v7 : BitVec 32) (v15 : BitVec 32) (v23 : BitVec 32) (v31 : BitVec 32) (v39 : BitVec 32) : Fin 1 → Nat :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let v49 : Index := Scalar.indexCast v45
  ![v49.toNat]

def k0_chk6 (v0 : BitVec 32) (v7 : BitVec 32) (v15 : BitVec 32) (v23 : BitVec 32) (v31 : BitVec 32) (v39 : BitVec 32) : Prop :=
  (∀ a, (k0_off6 v0 v7 v15 v23 v31 v39) a + S1.size a ≤ S32.size a)
theorem k0_off6_inb : ∀ (v0 : BitVec 32) (v7 : BitVec 32) (v15 : BitVec 32) (v23 : BitVec 32) (v31 : BitVec 32) (v39 : BitVec 32) (k0_hw6 : k0_chk6 v0 v7 v15 v23 v31 v39), ∀ a, (k0_off6 v0 v7 v15 v23 v31 v39) a + S1.size a ≤ S32.size a := fun v0 v7 v15 v23 v31 v39 k0_hw6 => k0_hw6

def k0_off7 (v0 : BitVec 32) (v7 : BitVec 32) (v15 : BitVec 32) (v23 : BitVec 32) (v31 : BitVec 32) (v39 : BitVec 32) (v47 : BitVec 32) : Fin 1 → Nat :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let v57 : Index := Scalar.indexCast v53
  ![v57.toNat]

def k0_chk7 (v0 : BitVec 32) (v7 : BitVec 32) (v15 : BitVec 32) (v23 : BitVec 32) (v31 : BitVec 32) (v39 : BitVec 32) (v47 : BitVec 32) : Prop :=
  (∀ a, (k0_off7 v0 v7 v15 v23 v31 v39 v47) a + S1.size a ≤ S32.size a)
theorem k0_off7_inb : ∀ (v0 : BitVec 32) (v7 : BitVec 32) (v15 : BitVec 32) (v23 : BitVec 32) (v31 : BitVec 32) (v39 : BitVec 32) (v47 : BitVec 32) (k0_hw7 : k0_chk7 v0 v7 v15 v23 v31 v39 v47), ∀ a, (k0_off7 v0 v7 v15 v23 v31 v39 v47) a + S1.size a ≤ S32.size a := fun v0 v7 v15 v23 v31 v39 v47 k0_hw7 => k0_hw7

def k0_off8 (v0 : BitVec 32) (v7 : BitVec 32) (v15 : BitVec 32) (v23 : BitVec 32) (v31 : BitVec 32) (v39 : BitVec 32) (v47 : BitVec 32) (v55 : BitVec 32) : Fin 1 → Nat :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let v65 : Index := Scalar.indexCast v61
  ![v65.toNat]

def k0_chk8 (v0 : BitVec 32) (v7 : BitVec 32) (v15 : BitVec 32) (v23 : BitVec 32) (v31 : BitVec 32) (v39 : BitVec 32) (v47 : BitVec 32) (v55 : BitVec 32) : Prop :=
  (∀ a, (k0_off8 v0 v7 v15 v23 v31 v39 v47 v55) a + S1.size a ≤ S32.size a)
theorem k0_off8_inb : ∀ (v0 : BitVec 32) (v7 : BitVec 32) (v15 : BitVec 32) (v23 : BitVec 32) (v31 : BitVec 32) (v39 : BitVec 32) (v47 : BitVec 32) (v55 : BitVec 32) (k0_hw8 : k0_chk8 v0 v7 v15 v23 v31 v39 v47 v55), ∀ a, (k0_off8 v0 v7 v15 v23 v31 v39 v47 v55) a + S1.size a ≤ S32.size a := fun v0 v7 v15 v23 v31 v39 v47 v55 k0_hw8 => k0_hw8

def k0_off9 (v0 : BitVec 32) (v7 : BitVec 32) (v15 : BitVec 32) (v23 : BitVec 32) (v31 : BitVec 32) (v39 : BitVec 32) (v47 : BitVec 32) (v55 : BitVec 32) (v63 : BitVec 32) : Fin 1 → Nat :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let v73 : Index := Scalar.indexCast v69
  ![v73.toNat]

def k0_chk9 (v0 : BitVec 32) (v7 : BitVec 32) (v15 : BitVec 32) (v23 : BitVec 32) (v31 : BitVec 32) (v39 : BitVec 32) (v47 : BitVec 32) (v55 : BitVec 32) (v63 : BitVec 32) : Prop :=
  (∀ a, (k0_off9 v0 v7 v15 v23 v31 v39 v47 v55 v63) a + S1.size a ≤ S32.size a)
theorem k0_off9_inb : ∀ (v0 : BitVec 32) (v7 : BitVec 32) (v15 : BitVec 32) (v23 : BitVec 32) (v31 : BitVec 32) (v39 : BitVec 32) (v47 : BitVec 32) (v55 : BitVec 32) (v63 : BitVec 32) (k0_hw9 : k0_chk9 v0 v7 v15 v23 v31 v39 v47 v55 v63), ∀ a, (k0_off9 v0 v7 v15 v23 v31 v39 v47 v55 v63) a + S1.size a ≤ S32.size a := fun v0 v7 v15 v23 v31 v39 v47 v55 v63 k0_hw9 => k0_hw9

def k0_off10 (v0 : BitVec 32) (v7 : BitVec 32) (v15 : BitVec 32) (v23 : BitVec 32) (v31 : BitVec 32) (v39 : BitVec 32) (v47 : BitVec 32) (v55 : BitVec 32) (v63 : BitVec 32) (v71 : BitVec 32) : Fin 1 → Nat :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let v81 : Index := Scalar.indexCast v77
  ![v81.toNat]

def k0_chk10 (v0 : BitVec 32) (v7 : BitVec 32) (v15 : BitVec 32) (v23 : BitVec 32) (v31 : BitVec 32) (v39 : BitVec 32) (v47 : BitVec 32) (v55 : BitVec 32) (v63 : BitVec 32) (v71 : BitVec 32) : Prop :=
  (∀ a, (k0_off10 v0 v7 v15 v23 v31 v39 v47 v55 v63 v71) a + S1.size a ≤ S32.size a)
theorem k0_off10_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (k0_hw10 : k0_chk10 v0 v7 v15 v23 v31 v39 v47 v55 v63 v71), ∀ a, (k0_off10 v0 v7 v15 v23 v31 v39 v47 v55 v63 v71) a + S1.size a ≤ S32.size a := fun v0 v7 v15 v23 v31 v39 v47 v55 v63 v71 k0_hw10 => k0_hw10

def k0_off11 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) : Fin 1 → Nat :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let v89 : Index := Scalar.indexCast v85
  ![v89.toNat]

def k0_chk11 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) : Prop :=
  (∀ a, (k0_off11 v0 v7 v15 v23 v31 v39 v47 v55 v63 v71 v79) a + S1.size a ≤ S32.size a)
theorem k0_off11_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (k0_hw11 : k0_chk11 v0 v7 v15 v23 v31 v39 v47 v55 v63 v71 v79), ∀ a, (k0_off11 v0 v7 v15 v23 v31 v39 v47 v55 v63 v71 v79) a + S1.size a ≤ S32.size a := fun v0 v7 v15 v23 v31 v39 v47 v55 v63 v71 v79 k0_hw11 => k0_hw11

def k0_off12 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) : Fin 1 → Nat :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let v97 : Index := Scalar.indexCast v93
  ![v97.toNat]

def k0_chk12 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) : Prop :=
  (∀ a, (k0_off12 v0 v7 v15 v23 v31 v39 v47 v55 v63 v71 v79 v87) a + S1.size a ≤ S32.size a)
theorem k0_off12_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (k0_hw12 : k0_chk12 v0 v7 v15 v23 v31 v39 v47 v55 v63 v71 v79 v87), ∀ a, (k0_off12 v0 v7 v15 v23 v31 v39 v47 v55 v63 v71 v79 v87) a + S1.size a ≤ S32.size a := fun v0 v7 v15 v23 v31 v39 v47 v55 v63 v71 v79 v87 k0_hw12 => k0_hw12

def k0_off13 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) : Fin 1 → Nat :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let v105 : Index := Scalar.indexCast v101
  ![v105.toNat]

def k0_chk13 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) : Prop :=
  (∀ a, (k0_off13 v0 v7 v15 v23 v31 v39 v47 v55 v63 v71 v79 v87 v95) a + S1.size a ≤ S32.size a)
theorem k0_off13_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (k0_hw13 : k0_chk13 v0 v7 v15 v23 v31 v39 v47 v55 v63 v71 v79 v87 v95), ∀ a, (k0_off13 v0 v7 v15 v23 v31 v39 v47 v55 v63 v71 v79 v87 v95) a + S1.size a ≤ S32.size a := fun v0 v7 v15 v23 v31 v39 v47 v55 v63 v71 v79 v87 v95 k0_hw13 => k0_hw13

def k0_off14 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) : Fin 1 → Nat :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let v113 : Index := Scalar.indexCast v109
  ![v113.toNat]

def k0_chk14 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) : Prop :=
  (∀ a, (k0_off14 v0 v7 v15 v23 v31 v39 v47 v55 v63 v71 v79 v87 v95 v103) a + S1.size a ≤ S32.size a)
theorem k0_off14_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (k0_hw14 : k0_chk14 v0 v7 v15 v23 v31 v39 v47 v55 v63 v71 v79 v87 v95 v103), ∀ a, (k0_off14 v0 v7 v15 v23 v31 v39 v47 v55 v63 v71 v79 v87 v95 v103) a + S1.size a ≤ S32.size a := fun v0 v7 v15 v23 v31 v39 v47 v55 v63 v71 v79 v87 v95 v103 k0_hw14 => k0_hw14

def k0_off15 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) : Fin 1 → Nat :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let v121 : Index := Scalar.indexCast v117
  ![v121.toNat]

def k0_chk15 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) : Prop :=
  (∀ a, (k0_off15 v0 v7 v15 v23 v31 v39 v47 v55 v63 v71 v79 v87 v95 v103 v111) a + S1.size a ≤ S32.size a)
theorem k0_off15_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (k0_hw15 : k0_chk15 v0 v7 v15 v23 v31 v39 v47 v55 v63 v71 v79 v87 v95 v103 v111), ∀ a, (k0_off15 v0 v7 v15 v23 v31 v39 v47 v55 v63 v71 v79 v87 v95 v103 v111) a + S1.size a ≤ S32.size a := fun v0 v7 v15 v23 v31 v39 v47 v55 v63 v71 v79 v87 v95 v103 v111 k0_hw15 => k0_hw15

def k0_off16 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) : Fin 1 → Nat :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let v129 : Index := Scalar.indexCast v125
  ![v129.toNat]

def k0_chk16 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) : Prop :=
  (∀ a, (k0_off16 v0 v7 v15 v23 v31 v39 v47 v55 v63 v71 v79 v87 v95 v103 v111 v119) a + S1.size a ≤ S32.size a)
theorem k0_off16_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (k0_hw16 : k0_chk16 v0 v7 v15 v23 v31 v39 v47 v55 v63 v71 v79 v87 v95 v103 v111 v119), ∀ a, (k0_off16 v0 v7 v15 v23 v31 v39 v47 v55 v63 v71 v79 v87 v95 v103 v111 v119) a + S1.size a ≤ S32.size a := fun v0 v7 v15 v23 v31 v39 v47 v55 v63 v71 v79 v87 v95 v103 v111 v119 k0_hw16 => k0_hw16

def k0_off17 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) : Fin 1 → Nat :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let v137 : Index := Scalar.indexCast v133
  ![v137.toNat]

def k0_chk17 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) : Prop :=
  (∀ a, (k0_off17 v0 v7 v15 v23 v31 v39 v47 v55 v63 v71 v79 v87 v95 v103 v111 v119 v127) a + S1.size a ≤ S32.size a)
theorem k0_off17_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (k0_hw17 : k0_chk17 v0 v7 v15 v23 v31 v39 v47 v55 v63 v71 v79 v87 v95 v103 v111 v119 v127), ∀ a, (k0_off17 v0 v7 v15 v23 v31 v39 v47 v55 v63 v71 v79 v87 v95 v103 v111 v119 v127) a + S1.size a ≤ S32.size a := fun v0 v7 v15 v23 v31 v39 v47 v55 v63 v71 v79 v87 v95 v103 v111 v119 v127 k0_hw17 => k0_hw17

def k0_off18 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) : Fin 1 → Nat :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let v145 : Index := Scalar.indexCast v141
  ![v145.toNat]

def k0_chk18 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) : Prop :=
  (∀ a, (k0_off18 v0 v7 v15 v23 v31 v39 v47 v55 v63 v71 v79 v87 v95 v103 v111 v119 v127 v135) a + S1.size a ≤ S32.size a)
theorem k0_off18_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (k0_hw18 : k0_chk18 v0 v7 v15 v23 v31 v39 v47 v55 v63 v71 v79 v87 v95 v103 v111 v119 v127 v135), ∀ a, (k0_off18 v0 v7 v15 v23 v31 v39 v47 v55 v63 v71 v79 v87 v95 v103 v111 v119 v127 v135) a + S1.size a ≤ S32.size a := fun v0 v7 v15 v23 v31 v39 v47 v55 v63 v71 v79 v87 v95 v103 v111 v119 v127 v135 k0_hw18 => k0_hw18

def k0_off19 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) : Fin 1 → Nat :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let v153 : Index := Scalar.indexCast v149
  ![v153.toNat]

def k0_chk19 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) : Prop :=
  (∀ a, (k0_off19 v0 v7 v15 v23 v31 v39 v47 v55 v63 v71 v79 v87 v95 v103 v111 v119 v127 v135 v143) a + S1.size a ≤ S32.size a)
theorem k0_off19_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (k0_hw19 : k0_chk19 v0 v7 v15 v23 v31 v39 v47 v55 v63 v71 v79 v87 v95 v103 v111 v119 v127 v135 v143), ∀ a, (k0_off19 v0 v7 v15 v23 v31 v39 v47 v55 v63 v71 v79 v87 v95 v103 v111 v119 v127 v135 v143) a + S1.size a ≤ S32.size a := fun v0 v7 v15 v23 v31 v39 v47 v55 v63 v71 v79 v87 v95 v103 v111 v119 v127 v135 v143 k0_hw19 => k0_hw19

def k0_off20 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) : Fin 1 → Nat :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let v161 : Index := Scalar.indexCast v157
  ![v161.toNat]

def k0_chk20 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) : Prop :=
  (∀ a, (k0_off20 v0 v7 v15 v23 v31 v39 v47 v55 v63 v71 v79 v87 v95 v103 v111 v119 v127 v135 v143 v151) a + S1.size a ≤ S32.size a)
theorem k0_off20_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (k0_hw20 : k0_chk20 v0 v7 v15 v23 v31 v39 v47 v55 v63 v71 v79 v87 v95 v103 v111 v119 v127 v135 v143 v151), ∀ a, (k0_off20 v0 v7 v15 v23 v31 v39 v47 v55 v63 v71 v79 v87 v95 v103 v111 v119 v127 v135 v143 v151) a + S1.size a ≤ S32.size a := fun v0 v7 v15 v23 v31 v39 v47 v55 v63 v71 v79 v87 v95 v103 v111 v119 v127 v135 v143 v151 k0_hw20 => k0_hw20

def k0_off21 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) : Fin 1 → Nat :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let c0_i32_45 : BitVec 32 := 0#32
  let v163 : BitVec 1 := Scalar.cmpi .sgt v159 c0_i32_45
  let v164 : BitVec 32 := Scalar.extui v163
  let v165 : BitVec 32 := Scalar.addi v157 v164
  let v169 : Index := Scalar.indexCast v165
  ![v169.toNat]

def k0_chk21 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) : Prop :=
  (∀ a, (k0_off21 v0 v7 v15 v23 v31 v39 v47 v55 v63 v71 v79 v87 v95 v103 v111 v119 v127 v135 v143 v151 v159) a + S1.size a ≤ S32.size a)
theorem k0_off21_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (k0_hw21 : k0_chk21 v0 v7 v15 v23 v31 v39 v47 v55 v63 v71 v79 v87 v95 v103 v111 v119 v127 v135 v143 v151 v159), ∀ a, (k0_off21 v0 v7 v15 v23 v31 v39 v47 v55 v63 v71 v79 v87 v95 v103 v111 v119 v127 v135 v143 v151 v159) a + S1.size a ≤ S32.size a := fun v0 v7 v15 v23 v31 v39 v47 v55 v63 v71 v79 v87 v95 v103 v111 v119 v127 v135 v143 v151 v159 k0_hw21 => k0_hw21

def k0_off22 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) : Fin 1 → Nat :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let c0_i32_45 : BitVec 32 := 0#32
  let v163 : BitVec 1 := Scalar.cmpi .sgt v159 c0_i32_45
  let v164 : BitVec 32 := Scalar.extui v163
  let v165 : BitVec 32 := Scalar.addi v157 v164
  let c0_i32_47 : BitVec 32 := 0#32
  let v171 : BitVec 1 := Scalar.cmpi .sgt v167 c0_i32_47
  let v172 : BitVec 32 := Scalar.extui v171
  let v173 : BitVec 32 := Scalar.addi v165 v172
  let v177 : Index := Scalar.indexCast v173
  ![v177.toNat]

def k0_chk22 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) : Prop :=
  (∀ a, (k0_off22 v0 v7 v15 v23 v31 v39 v47 v55 v63 v71 v79 v87 v95 v103 v111 v119 v127 v135 v143 v151 v159 v167) a + S1.size a ≤ S32.size a)
theorem k0_off22_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (k0_hw22 : k0_chk22 v0 v7 v15 v23 v31 v39 v47 v55 v63 v71 v79 v87 v95 v103 v111 v119 v127 v135 v143 v151 v159 v167), ∀ a, (k0_off22 v0 v7 v15 v23 v31 v39 v47 v55 v63 v71 v79 v87 v95 v103 v111 v119 v127 v135 v143 v151 v159 v167) a + S1.size a ≤ S32.size a := fun v0 v7 v15 v23 v31 v39 v47 v55 v63 v71 v79 v87 v95 v103 v111 v119 v127 v135 v143 v151 v159 v167 k0_hw22 => k0_hw22

def k0_off23 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) : Fin 1 → Nat :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let c0_i32_45 : BitVec 32 := 0#32
  let v163 : BitVec 1 := Scalar.cmpi .sgt v159 c0_i32_45
  let v164 : BitVec 32 := Scalar.extui v163
  let v165 : BitVec 32 := Scalar.addi v157 v164
  let c0_i32_47 : BitVec 32 := 0#32
  let v171 : BitVec 1 := Scalar.cmpi .sgt v167 c0_i32_47
  let v172 : BitVec 32 := Scalar.extui v171
  let v173 : BitVec 32 := Scalar.addi v165 v172
  let c0_i32_49 : BitVec 32 := 0#32
  let v179 : BitVec 1 := Scalar.cmpi .sgt v175 c0_i32_49
  let v180 : BitVec 32 := Scalar.extui v179
  let v181 : BitVec 32 := Scalar.addi v173 v180
  let v185 : Index := Scalar.indexCast v181
  ![v185.toNat]

def k0_chk23 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) : Prop :=
  (∀ a, (k0_off23 v0 v7 v15 v23 v31 v39 v47 v55 v63 v71 v79 v87 v95 v103 v111 v119 v127 v135 v143 v151 v159 v167 v175) a + S1.size a ≤ S32.size a)
theorem k0_off23_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (k0_hw23 : k0_chk23 v0 v7 v15 v23 v31 v39 v47 v55 v63 v71 v79 v87 v95 v103 v111 v119 v127 v135 v143 v151 v159 v167 v175), ∀ a, (k0_off23 v0 v7 v15 v23 v31 v39 v47 v55 v63 v71 v79 v87 v95 v103 v111 v119 v127 v135 v143 v151 v159 v167 v175) a + S1.size a ≤ S32.size a := fun v0 v7 v15 v23 v31 v39 v47 v55 v63 v71 v79 v87 v95 v103 v111 v119 v127 v135 v143 v151 v159 v167 v175 k0_hw23 => k0_hw23

def k0_off24 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) : Fin 1 → Nat :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let c0_i32_45 : BitVec 32 := 0#32
  let v163 : BitVec 1 := Scalar.cmpi .sgt v159 c0_i32_45
  let v164 : BitVec 32 := Scalar.extui v163
  let v165 : BitVec 32 := Scalar.addi v157 v164
  let c0_i32_47 : BitVec 32 := 0#32
  let v171 : BitVec 1 := Scalar.cmpi .sgt v167 c0_i32_47
  let v172 : BitVec 32 := Scalar.extui v171
  let v173 : BitVec 32 := Scalar.addi v165 v172
  let c0_i32_49 : BitVec 32 := 0#32
  let v179 : BitVec 1 := Scalar.cmpi .sgt v175 c0_i32_49
  let v180 : BitVec 32 := Scalar.extui v179
  let v181 : BitVec 32 := Scalar.addi v173 v180
  let c0_i32_51 : BitVec 32 := 0#32
  let v187 : BitVec 1 := Scalar.cmpi .sgt v183 c0_i32_51
  let v188 : BitVec 32 := Scalar.extui v187
  let v189 : BitVec 32 := Scalar.addi v181 v188
  let v193 : Index := Scalar.indexCast v189
  ![v193.toNat]

def k0_chk24 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) : Prop :=
  (∀ a, (k0_off24 v0 v7 v15 v23 v31 v39 v47 v55 v63 v71 v79 v87 v95 v103 v111 v119 v127 v135 v143 v151 v159 v167 v175 v183) a + S1.size a ≤ S32.size a)
theorem k0_off24_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (k0_hw24 : k0_chk24 v0 v7 v15 v23 v31 v39 v47 v55 v63 v71 v79 v87 v95 v103 v111 v119 v127 v135 v143 v151 v159 v167 v175 v183), ∀ a, (k0_off24 v0 v7 v15 v23 v31 v39 v47 v55 v63 v71 v79 v87 v95 v103 v111 v119 v127 v135 v143 v151 v159 v167 v175 v183) a + S1.size a ≤ S32.size a := fun v0 v7 v15 v23 v31 v39 v47 v55 v63 v71 v79 v87 v95 v103 v111 v119 v127 v135 v143 v151 v159 v167 v175 v183 k0_hw24 => k0_hw24

def k0_off25 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) : Fin 1 → Nat :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let c0_i32_45 : BitVec 32 := 0#32
  let v163 : BitVec 1 := Scalar.cmpi .sgt v159 c0_i32_45
  let v164 : BitVec 32 := Scalar.extui v163
  let v165 : BitVec 32 := Scalar.addi v157 v164
  let c0_i32_47 : BitVec 32 := 0#32
  let v171 : BitVec 1 := Scalar.cmpi .sgt v167 c0_i32_47
  let v172 : BitVec 32 := Scalar.extui v171
  let v173 : BitVec 32 := Scalar.addi v165 v172
  let c0_i32_49 : BitVec 32 := 0#32
  let v179 : BitVec 1 := Scalar.cmpi .sgt v175 c0_i32_49
  let v180 : BitVec 32 := Scalar.extui v179
  let v181 : BitVec 32 := Scalar.addi v173 v180
  let c0_i32_51 : BitVec 32 := 0#32
  let v187 : BitVec 1 := Scalar.cmpi .sgt v183 c0_i32_51
  let v188 : BitVec 32 := Scalar.extui v187
  let v189 : BitVec 32 := Scalar.addi v181 v188
  let c0_i32_53 : BitVec 32 := 0#32
  let v195 : BitVec 1 := Scalar.cmpi .sgt v191 c0_i32_53
  let v196 : BitVec 32 := Scalar.extui v195
  let v197 : BitVec 32 := Scalar.addi v189 v196
  let v201 : Index := Scalar.indexCast v197
  ![v201.toNat]

def k0_chk25 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) : Prop :=
  (∀ a, (k0_off25 v0 v7 v15 v23 v31 v39 v47 v55 v63 v71 v79 v87 v95 v103 v111 v119 v127 v135 v143 v151 v159 v167 v175 v183 v191) a + S1.size a ≤ S32.size a)
theorem k0_off25_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (k0_hw25 : k0_chk25 v0 v7 v15 v23 v31 v39 v47 v55 v63 v71 v79 v87 v95 v103 v111 v119 v127 v135 v143 v151 v159 v167 v175 v183 v191), ∀ a, (k0_off25 v0 v7 v15 v23 v31 v39 v47 v55 v63 v71 v79 v87 v95 v103 v111 v119 v127 v135 v143 v151 v159 v167 v175 v183 v191) a + S1.size a ≤ S32.size a := fun v0 v7 v15 v23 v31 v39 v47 v55 v63 v71 v79 v87 v95 v103 v111 v119 v127 v135 v143 v151 v159 v167 v175 v183 v191 k0_hw25 => k0_hw25

def k0_off26 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) : Fin 1 → Nat :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let c0_i32_45 : BitVec 32 := 0#32
  let v163 : BitVec 1 := Scalar.cmpi .sgt v159 c0_i32_45
  let v164 : BitVec 32 := Scalar.extui v163
  let v165 : BitVec 32 := Scalar.addi v157 v164
  let c0_i32_47 : BitVec 32 := 0#32
  let v171 : BitVec 1 := Scalar.cmpi .sgt v167 c0_i32_47
  let v172 : BitVec 32 := Scalar.extui v171
  let v173 : BitVec 32 := Scalar.addi v165 v172
  let c0_i32_49 : BitVec 32 := 0#32
  let v179 : BitVec 1 := Scalar.cmpi .sgt v175 c0_i32_49
  let v180 : BitVec 32 := Scalar.extui v179
  let v181 : BitVec 32 := Scalar.addi v173 v180
  let c0_i32_51 : BitVec 32 := 0#32
  let v187 : BitVec 1 := Scalar.cmpi .sgt v183 c0_i32_51
  let v188 : BitVec 32 := Scalar.extui v187
  let v189 : BitVec 32 := Scalar.addi v181 v188
  let c0_i32_53 : BitVec 32 := 0#32
  let v195 : BitVec 1 := Scalar.cmpi .sgt v191 c0_i32_53
  let v196 : BitVec 32 := Scalar.extui v195
  let v197 : BitVec 32 := Scalar.addi v189 v196
  let c0_i32_55 : BitVec 32 := 0#32
  let v203 : BitVec 1 := Scalar.cmpi .sgt v199 c0_i32_55
  let v204 : BitVec 32 := Scalar.extui v203
  let v205 : BitVec 32 := Scalar.addi v197 v204
  let v209 : Index := Scalar.indexCast v205
  ![v209.toNat]

def k0_chk26 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) : Prop :=
  (∀ a, (k0_off26 v0 v7 v15 v23 v31 v39 v47 v55 v63 v71 v79 v87 v95 v103 v111 v119 v127 v135 v143 v151 v159 v167 v175 v183 v191 v199) a + S1.size a ≤ S32.size a)
theorem k0_off26_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (k0_hw26 : k0_chk26 v0 v7 v15 v23 v31 v39 v47 v55 v63 v71 v79 v87 v95 v103 v111 v119 v127 v135 v143 v151 v159 v167 v175 v183 v191 v199), ∀ a, (k0_off26 v0 v7 v15 v23 v31 v39 v47 v55 v63 v71 v79 v87 v95 v103 v111 v119 v127 v135 v143 v151 v159 v167 v175 v183 v191 v199) a + S1.size a ≤ S32.size a := fun v0 v7 v15 v23 v31 v39 v47 v55 v63 v71 v79 v87 v95 v103 v111 v119 v127 v135 v143 v151 v159 v167 v175 v183 v191 v199 k0_hw26 => k0_hw26

def k0_off27 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) : Fin 1 → Nat :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let c0_i32_45 : BitVec 32 := 0#32
  let v163 : BitVec 1 := Scalar.cmpi .sgt v159 c0_i32_45
  let v164 : BitVec 32 := Scalar.extui v163
  let v165 : BitVec 32 := Scalar.addi v157 v164
  let c0_i32_47 : BitVec 32 := 0#32
  let v171 : BitVec 1 := Scalar.cmpi .sgt v167 c0_i32_47
  let v172 : BitVec 32 := Scalar.extui v171
  let v173 : BitVec 32 := Scalar.addi v165 v172
  let c0_i32_49 : BitVec 32 := 0#32
  let v179 : BitVec 1 := Scalar.cmpi .sgt v175 c0_i32_49
  let v180 : BitVec 32 := Scalar.extui v179
  let v181 : BitVec 32 := Scalar.addi v173 v180
  let c0_i32_51 : BitVec 32 := 0#32
  let v187 : BitVec 1 := Scalar.cmpi .sgt v183 c0_i32_51
  let v188 : BitVec 32 := Scalar.extui v187
  let v189 : BitVec 32 := Scalar.addi v181 v188
  let c0_i32_53 : BitVec 32 := 0#32
  let v195 : BitVec 1 := Scalar.cmpi .sgt v191 c0_i32_53
  let v196 : BitVec 32 := Scalar.extui v195
  let v197 : BitVec 32 := Scalar.addi v189 v196
  let c0_i32_55 : BitVec 32 := 0#32
  let v203 : BitVec 1 := Scalar.cmpi .sgt v199 c0_i32_55
  let v204 : BitVec 32 := Scalar.extui v203
  let v205 : BitVec 32 := Scalar.addi v197 v204
  let c0_i32_57 : BitVec 32 := 0#32
  let v211 : BitVec 1 := Scalar.cmpi .sgt v207 c0_i32_57
  let v212 : BitVec 32 := Scalar.extui v211
  let v213 : BitVec 32 := Scalar.addi v205 v212
  let v217 : Index := Scalar.indexCast v213
  ![v217.toNat]

def k0_chk27 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) : Prop :=
  (∀ a, (k0_off27 v0 v7 v15 v23 v31 v39 v47 v55 v63 v71 v79 v87 v95 v103 v111 v119 v127 v135 v143 v151 v159 v167 v175 v183 v191 v199 v207) a + S1.size a ≤ S32.size a)
theorem k0_off27_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (k0_hw27 : k0_chk27 v0 v7 v15 v23 v31 v39 v47 v55 v63 v71 v79 v87 v95 v103 v111 v119 v127 v135 v143 v151 v159 v167 v175 v183 v191 v199 v207), ∀ a, (k0_off27 v0 v7 v15 v23 v31 v39 v47 v55 v63 v71 v79 v87 v95 v103 v111 v119 v127 v135 v143 v151 v159 v167 v175 v183 v191 v199 v207) a + S1.size a ≤ S32.size a := fun v0 v7 v15 v23 v31 v39 v47 v55 v63 v71 v79 v87 v95 v103 v111 v119 v127 v135 v143 v151 v159 v167 v175 v183 v191 v199 v207 k0_hw27 => k0_hw27

def k0_off28 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) : Fin 1 → Nat :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let c0_i32_45 : BitVec 32 := 0#32
  let v163 : BitVec 1 := Scalar.cmpi .sgt v159 c0_i32_45
  let v164 : BitVec 32 := Scalar.extui v163
  let v165 : BitVec 32 := Scalar.addi v157 v164
  let c0_i32_47 : BitVec 32 := 0#32
  let v171 : BitVec 1 := Scalar.cmpi .sgt v167 c0_i32_47
  let v172 : BitVec 32 := Scalar.extui v171
  let v173 : BitVec 32 := Scalar.addi v165 v172
  let c0_i32_49 : BitVec 32 := 0#32
  let v179 : BitVec 1 := Scalar.cmpi .sgt v175 c0_i32_49
  let v180 : BitVec 32 := Scalar.extui v179
  let v181 : BitVec 32 := Scalar.addi v173 v180
  let c0_i32_51 : BitVec 32 := 0#32
  let v187 : BitVec 1 := Scalar.cmpi .sgt v183 c0_i32_51
  let v188 : BitVec 32 := Scalar.extui v187
  let v189 : BitVec 32 := Scalar.addi v181 v188
  let c0_i32_53 : BitVec 32 := 0#32
  let v195 : BitVec 1 := Scalar.cmpi .sgt v191 c0_i32_53
  let v196 : BitVec 32 := Scalar.extui v195
  let v197 : BitVec 32 := Scalar.addi v189 v196
  let c0_i32_55 : BitVec 32 := 0#32
  let v203 : BitVec 1 := Scalar.cmpi .sgt v199 c0_i32_55
  let v204 : BitVec 32 := Scalar.extui v203
  let v205 : BitVec 32 := Scalar.addi v197 v204
  let c0_i32_57 : BitVec 32 := 0#32
  let v211 : BitVec 1 := Scalar.cmpi .sgt v207 c0_i32_57
  let v212 : BitVec 32 := Scalar.extui v211
  let v213 : BitVec 32 := Scalar.addi v205 v212
  let c0_i32_59 : BitVec 32 := 0#32
  let v219 : BitVec 1 := Scalar.cmpi .sgt v215 c0_i32_59
  let v220 : BitVec 32 := Scalar.extui v219
  let v221 : BitVec 32 := Scalar.addi v213 v220
  let v225 : Index := Scalar.indexCast v221
  ![v225.toNat]

def k0_chk28 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) : Prop :=
  (∀ a, (k0_off28 v0 v7 v15 v23 v31 v39 v47 v55 v63 v71 v79 v87 v95 v103 v111 v119 v127 v135 v143 v151 v159 v167 v175 v183 v191 v199 v207 v215) a + S1.size a ≤ S32.size a)
theorem k0_off28_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (k0_hw28 : k0_chk28 v0 v7 v15 v23 v31 v39 v47 v55 v63 v71 v79 v87 v95 v103 v111 v119 v127 v135 v143 v151 v159 v167 v175 v183 v191 v199 v207 v215), ∀ a, (k0_off28 v0 v7 v15 v23 v31 v39 v47 v55 v63 v71 v79 v87 v95 v103 v111 v119 v127 v135 v143 v151 v159 v167 v175 v183 v191 v199 v207 v215) a + S1.size a ≤ S32.size a := fun v0 v7 v15 v23 v31 v39 v47 v55 v63 v71 v79 v87 v95 v103 v111 v119 v127 v135 v143 v151 v159 v167 v175 v183 v191 v199 v207 v215 k0_hw28 => k0_hw28

def k0_off29 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) : Fin 1 → Nat :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let c0_i32_45 : BitVec 32 := 0#32
  let v163 : BitVec 1 := Scalar.cmpi .sgt v159 c0_i32_45
  let v164 : BitVec 32 := Scalar.extui v163
  let v165 : BitVec 32 := Scalar.addi v157 v164
  let c0_i32_47 : BitVec 32 := 0#32
  let v171 : BitVec 1 := Scalar.cmpi .sgt v167 c0_i32_47
  let v172 : BitVec 32 := Scalar.extui v171
  let v173 : BitVec 32 := Scalar.addi v165 v172
  let c0_i32_49 : BitVec 32 := 0#32
  let v179 : BitVec 1 := Scalar.cmpi .sgt v175 c0_i32_49
  let v180 : BitVec 32 := Scalar.extui v179
  let v181 : BitVec 32 := Scalar.addi v173 v180
  let c0_i32_51 : BitVec 32 := 0#32
  let v187 : BitVec 1 := Scalar.cmpi .sgt v183 c0_i32_51
  let v188 : BitVec 32 := Scalar.extui v187
  let v189 : BitVec 32 := Scalar.addi v181 v188
  let c0_i32_53 : BitVec 32 := 0#32
  let v195 : BitVec 1 := Scalar.cmpi .sgt v191 c0_i32_53
  let v196 : BitVec 32 := Scalar.extui v195
  let v197 : BitVec 32 := Scalar.addi v189 v196
  let c0_i32_55 : BitVec 32 := 0#32
  let v203 : BitVec 1 := Scalar.cmpi .sgt v199 c0_i32_55
  let v204 : BitVec 32 := Scalar.extui v203
  let v205 : BitVec 32 := Scalar.addi v197 v204
  let c0_i32_57 : BitVec 32 := 0#32
  let v211 : BitVec 1 := Scalar.cmpi .sgt v207 c0_i32_57
  let v212 : BitVec 32 := Scalar.extui v211
  let v213 : BitVec 32 := Scalar.addi v205 v212
  let c0_i32_59 : BitVec 32 := 0#32
  let v219 : BitVec 1 := Scalar.cmpi .sgt v215 c0_i32_59
  let v220 : BitVec 32 := Scalar.extui v219
  let v221 : BitVec 32 := Scalar.addi v213 v220
  let c0_i32_61 : BitVec 32 := 0#32
  let v227 : BitVec 1 := Scalar.cmpi .sgt v223 c0_i32_61
  let v228 : BitVec 32 := Scalar.extui v227
  let v229 : BitVec 32 := Scalar.addi v221 v228
  let v233 : Index := Scalar.indexCast v229
  ![v233.toNat]

def k0_chk29 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) : Prop :=
  (∀ a, (k0_off29 v0 v7 v15 v23 v31 v39 v47 v55 v63 v71 v79 v87 v95 v103 v111 v119 v127 v135 v143 v151 v159 v167 v175 v183 v191 v199 v207 v215 v223) a + S1.size a ≤ S32.size a)
theorem k0_off29_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (k0_hw29 : k0_chk29 v0 v7 v15 v23 v31 v39 v47 v55 v63 v71 v79 v87 v95 v103 v111 v119 v127 v135 v143 v151 v159 v167 v175 v183 v191 v199 v207 v215 v223), ∀ a, (k0_off29 v0 v7 v15 v23 v31 v39 v47 v55 v63 v71 v79 v87 v95 v103 v111 v119 v127 v135 v143 v151 v159 v167 v175 v183 v191 v199 v207 v215 v223) a + S1.size a ≤ S32.size a := fun v0 v7 v15 v23 v31 v39 v47 v55 v63 v71 v79 v87 v95 v103 v111 v119 v127 v135 v143 v151 v159 v167 v175 v183 v191 v199 v207 v215 v223 k0_hw29 => k0_hw29

def k0_off30 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) : Fin 1 → Nat :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let c0_i32_45 : BitVec 32 := 0#32
  let v163 : BitVec 1 := Scalar.cmpi .sgt v159 c0_i32_45
  let v164 : BitVec 32 := Scalar.extui v163
  let v165 : BitVec 32 := Scalar.addi v157 v164
  let c0_i32_47 : BitVec 32 := 0#32
  let v171 : BitVec 1 := Scalar.cmpi .sgt v167 c0_i32_47
  let v172 : BitVec 32 := Scalar.extui v171
  let v173 : BitVec 32 := Scalar.addi v165 v172
  let c0_i32_49 : BitVec 32 := 0#32
  let v179 : BitVec 1 := Scalar.cmpi .sgt v175 c0_i32_49
  let v180 : BitVec 32 := Scalar.extui v179
  let v181 : BitVec 32 := Scalar.addi v173 v180
  let c0_i32_51 : BitVec 32 := 0#32
  let v187 : BitVec 1 := Scalar.cmpi .sgt v183 c0_i32_51
  let v188 : BitVec 32 := Scalar.extui v187
  let v189 : BitVec 32 := Scalar.addi v181 v188
  let c0_i32_53 : BitVec 32 := 0#32
  let v195 : BitVec 1 := Scalar.cmpi .sgt v191 c0_i32_53
  let v196 : BitVec 32 := Scalar.extui v195
  let v197 : BitVec 32 := Scalar.addi v189 v196
  let c0_i32_55 : BitVec 32 := 0#32
  let v203 : BitVec 1 := Scalar.cmpi .sgt v199 c0_i32_55
  let v204 : BitVec 32 := Scalar.extui v203
  let v205 : BitVec 32 := Scalar.addi v197 v204
  let c0_i32_57 : BitVec 32 := 0#32
  let v211 : BitVec 1 := Scalar.cmpi .sgt v207 c0_i32_57
  let v212 : BitVec 32 := Scalar.extui v211
  let v213 : BitVec 32 := Scalar.addi v205 v212
  let c0_i32_59 : BitVec 32 := 0#32
  let v219 : BitVec 1 := Scalar.cmpi .sgt v215 c0_i32_59
  let v220 : BitVec 32 := Scalar.extui v219
  let v221 : BitVec 32 := Scalar.addi v213 v220
  let c0_i32_61 : BitVec 32 := 0#32
  let v227 : BitVec 1 := Scalar.cmpi .sgt v223 c0_i32_61
  let v228 : BitVec 32 := Scalar.extui v227
  let v229 : BitVec 32 := Scalar.addi v221 v228
  let c0_i32_63 : BitVec 32 := 0#32
  let v235 : BitVec 1 := Scalar.cmpi .sgt v231 c0_i32_63
  let v236 : BitVec 32 := Scalar.extui v235
  let v237 : BitVec 32 := Scalar.addi v229 v236
  let v241 : Index := Scalar.indexCast v237
  ![v241.toNat]

def k0_chk30 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) : Prop :=
  (∀ a, (k0_off30 v0 v7 v15 v23 v31 v39 v47 v55 v63 v71 v79 v87 v95 v103 v111 v119 v127 v135 v143 v151 v159 v167 v175 v183 v191 v199 v207 v215 v223 v231) a + S1.size a ≤ S32.size a)
theorem k0_off30_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (k0_hw30 : k0_chk30 v0 v7 v15 v23 v31 v39 v47 v55 v63 v71 v79 v87 v95 v103 v111 v119 v127 v135 v143 v151 v159 v167 v175 v183 v191 v199 v207 v215 v223 v231), ∀ a, (k0_off30 v0 v7 v15 v23 v31 v39 v47 v55 v63 v71 v79 v87 v95 v103 v111 v119 v127 v135 v143 v151 v159 v167 v175 v183 v191 v199 v207 v215 v223 v231) a + S1.size a ≤ S32.size a := fun v0 v7 v15 v23 v31 v39 v47 v55 v63 v71 v79 v87 v95 v103 v111 v119 v127 v135 v143 v151 v159 v167 v175 v183 v191 v199 v207 v215 v223 v231 k0_hw30 => k0_hw30

def k0_off31 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) : Fin 1 → Nat :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let c0_i32_45 : BitVec 32 := 0#32
  let v163 : BitVec 1 := Scalar.cmpi .sgt v159 c0_i32_45
  let v164 : BitVec 32 := Scalar.extui v163
  let v165 : BitVec 32 := Scalar.addi v157 v164
  let c0_i32_47 : BitVec 32 := 0#32
  let v171 : BitVec 1 := Scalar.cmpi .sgt v167 c0_i32_47
  let v172 : BitVec 32 := Scalar.extui v171
  let v173 : BitVec 32 := Scalar.addi v165 v172
  let c0_i32_49 : BitVec 32 := 0#32
  let v179 : BitVec 1 := Scalar.cmpi .sgt v175 c0_i32_49
  let v180 : BitVec 32 := Scalar.extui v179
  let v181 : BitVec 32 := Scalar.addi v173 v180
  let c0_i32_51 : BitVec 32 := 0#32
  let v187 : BitVec 1 := Scalar.cmpi .sgt v183 c0_i32_51
  let v188 : BitVec 32 := Scalar.extui v187
  let v189 : BitVec 32 := Scalar.addi v181 v188
  let c0_i32_53 : BitVec 32 := 0#32
  let v195 : BitVec 1 := Scalar.cmpi .sgt v191 c0_i32_53
  let v196 : BitVec 32 := Scalar.extui v195
  let v197 : BitVec 32 := Scalar.addi v189 v196
  let c0_i32_55 : BitVec 32 := 0#32
  let v203 : BitVec 1 := Scalar.cmpi .sgt v199 c0_i32_55
  let v204 : BitVec 32 := Scalar.extui v203
  let v205 : BitVec 32 := Scalar.addi v197 v204
  let c0_i32_57 : BitVec 32 := 0#32
  let v211 : BitVec 1 := Scalar.cmpi .sgt v207 c0_i32_57
  let v212 : BitVec 32 := Scalar.extui v211
  let v213 : BitVec 32 := Scalar.addi v205 v212
  let c0_i32_59 : BitVec 32 := 0#32
  let v219 : BitVec 1 := Scalar.cmpi .sgt v215 c0_i32_59
  let v220 : BitVec 32 := Scalar.extui v219
  let v221 : BitVec 32 := Scalar.addi v213 v220
  let c0_i32_61 : BitVec 32 := 0#32
  let v227 : BitVec 1 := Scalar.cmpi .sgt v223 c0_i32_61
  let v228 : BitVec 32 := Scalar.extui v227
  let v229 : BitVec 32 := Scalar.addi v221 v228
  let c0_i32_63 : BitVec 32 := 0#32
  let v235 : BitVec 1 := Scalar.cmpi .sgt v231 c0_i32_63
  let v236 : BitVec 32 := Scalar.extui v235
  let v237 : BitVec 32 := Scalar.addi v229 v236
  let c0_i32_65 : BitVec 32 := 0#32
  let v243 : BitVec 1 := Scalar.cmpi .sgt v239 c0_i32_65
  let v244 : BitVec 32 := Scalar.extui v243
  let v245 : BitVec 32 := Scalar.addi v237 v244
  let v249 : Index := Scalar.indexCast v245
  ![v249.toNat]

def k0_chk31 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) : Prop :=
  (∀ a, (k0_off31 v0 v7 v15 v23 v31 v39 v47 v55 v63 v71 v79 v87 v95 v103 v111 v119 v127 v135 v143 v151 v159 v167 v175 v183 v191 v199 v207 v215 v223 v231 v239) a + S1.size a ≤ S32.size a)
theorem k0_off31_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (k0_hw31 : k0_chk31 v0 v7 v15 v23 v31 v39 v47 v55 v63 v71 v79 v87 v95 v103 v111 v119 v127 v135 v143 v151 v159 v167 v175 v183 v191 v199 v207 v215 v223 v231 v239), ∀ a, (k0_off31 v0 v7 v15 v23 v31 v39 v47 v55 v63 v71 v79 v87 v95 v103 v111 v119 v127 v135 v143 v151 v159 v167 v175 v183 v191 v199 v207 v215 v223 v231 v239) a + S1.size a ≤ S32.size a := fun v0 v7 v15 v23 v31 v39 v47 v55 v63 v71 v79 v87 v95 v103 v111 v119 v127 v135 v143 v151 v159 v167 v175 v183 v191 v199 v207 v215 v223 v231 v239 k0_hw31 => k0_hw31

def k0_off32 : Fin 1 → Nat :=
  let c0_i32_91 : BitVec 32 := 0#32
  let c8_i32_92 : BitVec 32 := 8#32
  let v287 : BitVec 32 := Scalar.remsi c0_i32_91 c8_i32_92
  ![v287.toNat]
def k0_off33 : Fin 3 → Nat :=
  let c0_i32_91 : BitVec 32 := 0#32
  let c8_i32_92 : BitVec 32 := 8#32
  let v287 : BitVec 32 := Scalar.remsi c0_i32_91 c8_i32_92
  let c0_i32_94 : BitVec 32 := 0#32
  let c0_i32_95 : BitVec 32 := 0#32
  ![v287.toNat, 0, 0]
def k0_off34 (v288 : BitVec 32) : Fin 3 → Nat :=
  let c0_i32_96 : BitVec 32 := 0#32
  let c0_i32_97 : BitVec 32 := 0#32
  ![v288.toNat, 0, 0]
def k0_cond1 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) : BitVec 1 :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let c0_i32_45 : BitVec 32 := 0#32
  let v163 : BitVec 1 := Scalar.cmpi .sgt v159 c0_i32_45
  let v164 : BitVec 32 := Scalar.extui v163
  let v165 : BitVec 32 := Scalar.addi v157 v164
  let c0_i32_47 : BitVec 32 := 0#32
  let v171 : BitVec 1 := Scalar.cmpi .sgt v167 c0_i32_47
  let v172 : BitVec 32 := Scalar.extui v171
  let v173 : BitVec 32 := Scalar.addi v165 v172
  let c0_i32_49 : BitVec 32 := 0#32
  let v179 : BitVec 1 := Scalar.cmpi .sgt v175 c0_i32_49
  let v180 : BitVec 32 := Scalar.extui v179
  let v181 : BitVec 32 := Scalar.addi v173 v180
  let c0_i32_51 : BitVec 32 := 0#32
  let v187 : BitVec 1 := Scalar.cmpi .sgt v183 c0_i32_51
  let v188 : BitVec 32 := Scalar.extui v187
  let v189 : BitVec 32 := Scalar.addi v181 v188
  let c0_i32_53 : BitVec 32 := 0#32
  let v195 : BitVec 1 := Scalar.cmpi .sgt v191 c0_i32_53
  let v196 : BitVec 32 := Scalar.extui v195
  let v197 : BitVec 32 := Scalar.addi v189 v196
  let c0_i32_55 : BitVec 32 := 0#32
  let v203 : BitVec 1 := Scalar.cmpi .sgt v199 c0_i32_55
  let v204 : BitVec 32 := Scalar.extui v203
  let v205 : BitVec 32 := Scalar.addi v197 v204
  let c0_i32_57 : BitVec 32 := 0#32
  let v211 : BitVec 1 := Scalar.cmpi .sgt v207 c0_i32_57
  let v212 : BitVec 32 := Scalar.extui v211
  let v213 : BitVec 32 := Scalar.addi v205 v212
  let c0_i32_59 : BitVec 32 := 0#32
  let v219 : BitVec 1 := Scalar.cmpi .sgt v215 c0_i32_59
  let v220 : BitVec 32 := Scalar.extui v219
  let v221 : BitVec 32 := Scalar.addi v213 v220
  let c0_i32_61 : BitVec 32 := 0#32
  let v227 : BitVec 1 := Scalar.cmpi .sgt v223 c0_i32_61
  let v228 : BitVec 32 := Scalar.extui v227
  let v229 : BitVec 32 := Scalar.addi v221 v228
  let c0_i32_63 : BitVec 32 := 0#32
  let v235 : BitVec 1 := Scalar.cmpi .sgt v231 c0_i32_63
  let v236 : BitVec 32 := Scalar.extui v235
  let v237 : BitVec 32 := Scalar.addi v229 v236
  let c0_i32_65 : BitVec 32 := 0#32
  let v243 : BitVec 1 := Scalar.cmpi .sgt v239 c0_i32_65
  let v244 : BitVec 32 := Scalar.extui v243
  let v245 : BitVec 32 := Scalar.addi v237 v244
  let c0_i32_67 : BitVec 32 := 0#32
  let v251 : BitVec 1 := Scalar.cmpi .sgt v247 c0_i32_67
  let v252 : BitVec 32 := Scalar.extui v251
  let v253 : BitVec 32 := Scalar.addi v245 v252
  let c0_i32_68 : BitVec 32 := 0#32
  let v254 : BitVec 1 := Scalar.cmpi .sgt v253 c0_i32_68
  let v255 : BitVec 32 := Scalar.extui v254
  let c0_i32_69 : BitVec 32 := 0#32
  let v256 : BitVec 1 := Scalar.cmpi .ne v255 c0_i32_69
  v256

def k0_chk32 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (v288 : BitVec 32) : Prop :=
  (∀ (k0_h1 : k0_cond1 v0 v7 v15 v23 v31 v39 v47 v55 v63 v71 v79 v87 v95 v103 v111 v119 v127 v135 v143 v151 v159 v167 v175 v183 v191 v199 v207 v215 v223 v231 v239 v247 = 1#1), ∀ a, (k0_off34 v288) a + S1x2048x1536.size a ≤ S32x2048x1536.size a) ∧
  (∀ (k0_h1 : k0_cond1 v0 v7 v15 v23 v31 v39 v47 v55 v63 v71 v79 v87 v95 v103 v111 v119 v127 v135 v143 v151 v159 v167 v175 v183 v191 v199 v207 v215 v223 v231 v239 v247 = 1#1), ∀ (hinb : ∀ a, (k0_off34 v288) a + S1x2048x1536.size a ≤ S32x2048x1536.size a), (Rect.unit (s := S32x2048x1536) (k0_off34 v288) S1x2048x1536.size hinb).WholeWords (EltTy.packing .fp8e4m3))
theorem k0_off34_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (v288 : BitVec 32) (k0_hw32 : k0_chk32 v0 v7 v15 v23 v31 v39 v47 v55 v63 v71 v79 v87 v95 v103 v111 v119 v127 v135 v143 v151 v159 v167 v175 v183 v191 v199 v207 v215 v223 v231 v239 v247 v288), ∀ (k0_h1 : k0_cond1 v0 v7 v15 v23 v31 v39 v47 v55 v63 v71 v79 v87 v95 v103 v111 v119 v127 v135 v143 v151 v159 v167 v175 v183 v191 v199 v207 v215 v223 v231 v239 v247 = 1#1), ∀ a, (k0_off34 v288) a + S1x2048x1536.size a ≤ S32x2048x1536.size a := fun v0 v7 v15 v23 v31 v39 v47 v55 v63 v71 v79 v87 v95 v103 v111 v119 v127 v135 v143 v151 v159 v167 v175 v183 v191 v199 v207 v215 v223 v231 v239 v247 v288 k0_hw32 k0_h1 => k0_hw32.1 k0_h1
theorem k0_off34_wordsfp8e4m3 : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (v288 : BitVec 32) (k0_hw32 : k0_chk32 v0 v7 v15 v23 v31 v39 v47 v55 v63 v71 v79 v87 v95 v103 v111 v119 v127 v135 v143 v151 v159 v167 v175 v183 v191 v199 v207 v215 v223 v231 v239 v247 v288), ∀ (k0_h1 : k0_cond1 v0 v7 v15 v23 v31 v39 v47 v55 v63 v71 v79 v87 v95 v103 v111 v119 v127 v135 v143 v151 v159 v167 v175 v183 v191 v199 v207 v215 v223 v231 v239 v247 = 1#1), (Rect.unit (s := S32x2048x1536) (k0_off34 v288) S1x2048x1536.size (k0_off34_inb v0 v7 v15 v23 v31 v39 v47 v55 v63 v71 v79 v87 v95 v103 v111 v119 v127 v135 v143 v151 v159 v167 v175 v183 v191 v199 v207 v215 v223 v231 v239 v247 v288 k0_hw32 k0_h1)).WholeWords (EltTy.packing .fp8e4m3) := fun v0 v7 v15 v23 v31 v39 v47 v55 v63 v71 v79 v87 v95 v103 v111 v119 v127 v135 v143 v151 v159 v167 v175 v183 v191 v199 v207 v215 v223 v231 v239 v247 v288 k0_hw32 k0_h1 => k0_hw32.2 k0_h1 (k0_off34_inb v0 v7 v15 v23 v31 v39 v47 v55 v63 v71 v79 v87 v95 v103 v111 v119 v127 v135 v143 v151 v159 v167 v175 v183 v191 v199 v207 v215 v223 v231 v239 v247 v288 k0_hw32 k0_h1)

def k0_off35 : Fin 1 → Nat :=
  let c1_i32_91 : BitVec 32 := 1#32
  let c8_i32_92 : BitVec 32 := 8#32
  let v287 : BitVec 32 := Scalar.remsi c1_i32_91 c8_i32_92
  ![v287.toNat]
def k0_off36 : Fin 3 → Nat :=
  let c1_i32_91 : BitVec 32 := 1#32
  let c8_i32_92 : BitVec 32 := 8#32
  let v287 : BitVec 32 := Scalar.remsi c1_i32_91 c8_i32_92
  let c0_i32_94 : BitVec 32 := 0#32
  let c0_i32_95 : BitVec 32 := 0#32
  ![v287.toNat, 0, 0]
def k0_off37 (v288 : BitVec 32) : Fin 3 → Nat :=
  let c0_i32_96 : BitVec 32 := 0#32
  let c0_i32_97 : BitVec 32 := 0#32
  ![v288.toNat, 0, 0]
def k0_cond2 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) : BitVec 1 :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let c0_i32_45 : BitVec 32 := 0#32
  let v163 : BitVec 1 := Scalar.cmpi .sgt v159 c0_i32_45
  let v164 : BitVec 32 := Scalar.extui v163
  let v165 : BitVec 32 := Scalar.addi v157 v164
  let c0_i32_47 : BitVec 32 := 0#32
  let v171 : BitVec 1 := Scalar.cmpi .sgt v167 c0_i32_47
  let v172 : BitVec 32 := Scalar.extui v171
  let v173 : BitVec 32 := Scalar.addi v165 v172
  let c0_i32_49 : BitVec 32 := 0#32
  let v179 : BitVec 1 := Scalar.cmpi .sgt v175 c0_i32_49
  let v180 : BitVec 32 := Scalar.extui v179
  let v181 : BitVec 32 := Scalar.addi v173 v180
  let c0_i32_51 : BitVec 32 := 0#32
  let v187 : BitVec 1 := Scalar.cmpi .sgt v183 c0_i32_51
  let v188 : BitVec 32 := Scalar.extui v187
  let v189 : BitVec 32 := Scalar.addi v181 v188
  let c0_i32_53 : BitVec 32 := 0#32
  let v195 : BitVec 1 := Scalar.cmpi .sgt v191 c0_i32_53
  let v196 : BitVec 32 := Scalar.extui v195
  let v197 : BitVec 32 := Scalar.addi v189 v196
  let c0_i32_55 : BitVec 32 := 0#32
  let v203 : BitVec 1 := Scalar.cmpi .sgt v199 c0_i32_55
  let v204 : BitVec 32 := Scalar.extui v203
  let v205 : BitVec 32 := Scalar.addi v197 v204
  let c0_i32_57 : BitVec 32 := 0#32
  let v211 : BitVec 1 := Scalar.cmpi .sgt v207 c0_i32_57
  let v212 : BitVec 32 := Scalar.extui v211
  let v213 : BitVec 32 := Scalar.addi v205 v212
  let c0_i32_59 : BitVec 32 := 0#32
  let v219 : BitVec 1 := Scalar.cmpi .sgt v215 c0_i32_59
  let v220 : BitVec 32 := Scalar.extui v219
  let v221 : BitVec 32 := Scalar.addi v213 v220
  let c0_i32_61 : BitVec 32 := 0#32
  let v227 : BitVec 1 := Scalar.cmpi .sgt v223 c0_i32_61
  let v228 : BitVec 32 := Scalar.extui v227
  let v229 : BitVec 32 := Scalar.addi v221 v228
  let c0_i32_63 : BitVec 32 := 0#32
  let v235 : BitVec 1 := Scalar.cmpi .sgt v231 c0_i32_63
  let v236 : BitVec 32 := Scalar.extui v235
  let v237 : BitVec 32 := Scalar.addi v229 v236
  let c0_i32_65 : BitVec 32 := 0#32
  let v243 : BitVec 1 := Scalar.cmpi .sgt v239 c0_i32_65
  let v244 : BitVec 32 := Scalar.extui v243
  let v245 : BitVec 32 := Scalar.addi v237 v244
  let c0_i32_67 : BitVec 32 := 0#32
  let v251 : BitVec 1 := Scalar.cmpi .sgt v247 c0_i32_67
  let v252 : BitVec 32 := Scalar.extui v251
  let v253 : BitVec 32 := Scalar.addi v245 v252
  let c1_i32_70 : BitVec 32 := 1#32
  let v257 : BitVec 1 := Scalar.cmpi .sgt v253 c1_i32_70
  let v258 : BitVec 32 := Scalar.extui v257
  let c0_i32_71 : BitVec 32 := 0#32
  let v259 : BitVec 1 := Scalar.cmpi .ne v258 c0_i32_71
  v259

def k0_chk33 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (v288 : BitVec 32) : Prop :=
  (∀ (k0_h2 : k0_cond2 v0 v7 v15 v23 v31 v39 v47 v55 v63 v71 v79 v87 v95 v103 v111 v119 v127 v135 v143 v151 v159 v167 v175 v183 v191 v199 v207 v215 v223 v231 v239 v247 = 1#1), ∀ a, (k0_off37 v288) a + S1x2048x1536.size a ≤ S32x2048x1536.size a) ∧
  (∀ (k0_h2 : k0_cond2 v0 v7 v15 v23 v31 v39 v47 v55 v63 v71 v79 v87 v95 v103 v111 v119 v127 v135 v143 v151 v159 v167 v175 v183 v191 v199 v207 v215 v223 v231 v239 v247 = 1#1), ∀ (hinb : ∀ a, (k0_off37 v288) a + S1x2048x1536.size a ≤ S32x2048x1536.size a), (Rect.unit (s := S32x2048x1536) (k0_off37 v288) S1x2048x1536.size hinb).WholeWords (EltTy.packing .fp8e4m3))
theorem k0_off37_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (v288 : BitVec 32) (k0_hw33 : k0_chk33 v0 v7 v15 v23 v31 v39 v47 v55 v63 v71 v79 v87 v95 v103 v111 v119 v127 v135 v143 v151 v159 v167 v175 v183 v191 v199 v207 v215 v223 v231 v239 v247 v288), ∀ (k0_h2 : k0_cond2 v0 v7 v15 v23 v31 v39 v47 v55 v63 v71 v79 v87 v95 v103 v111 v119 v127 v135 v143 v151 v159 v167 v175 v183 v191 v199 v207 v215 v223 v231 v239 v247 = 1#1), ∀ a, (k0_off37 v288) a + S1x2048x1536.size a ≤ S32x2048x1536.size a := fun v0 v7 v15 v23 v31 v39 v47 v55 v63 v71 v79 v87 v95 v103 v111 v119 v127 v135 v143 v151 v159 v167 v175 v183 v191 v199 v207 v215 v223 v231 v239 v247 v288 k0_hw33 k0_h2 => k0_hw33.1 k0_h2
theorem k0_off37_wordsfp8e4m3 : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (v288 : BitVec 32) (k0_hw33 : k0_chk33 v0 v7 v15 v23 v31 v39 v47 v55 v63 v71 v79 v87 v95 v103 v111 v119 v127 v135 v143 v151 v159 v167 v175 v183 v191 v199 v207 v215 v223 v231 v239 v247 v288), ∀ (k0_h2 : k0_cond2 v0 v7 v15 v23 v31 v39 v47 v55 v63 v71 v79 v87 v95 v103 v111 v119 v127 v135 v143 v151 v159 v167 v175 v183 v191 v199 v207 v215 v223 v231 v239 v247 = 1#1), (Rect.unit (s := S32x2048x1536) (k0_off37 v288) S1x2048x1536.size (k0_off37_inb v0 v7 v15 v23 v31 v39 v47 v55 v63 v71 v79 v87 v95 v103 v111 v119 v127 v135 v143 v151 v159 v167 v175 v183 v191 v199 v207 v215 v223 v231 v239 v247 v288 k0_hw33 k0_h2)).WholeWords (EltTy.packing .fp8e4m3) := fun v0 v7 v15 v23 v31 v39 v47 v55 v63 v71 v79 v87 v95 v103 v111 v119 v127 v135 v143 v151 v159 v167 v175 v183 v191 v199 v207 v215 v223 v231 v239 v247 v288 k0_hw33 k0_h2 => k0_hw33.2 k0_h2 (k0_off37_inb v0 v7 v15 v23 v31 v39 v47 v55 v63 v71 v79 v87 v95 v103 v111 v119 v127 v135 v143 v151 v159 v167 v175 v183 v191 v199 v207 v215 v223 v231 v239 v247 v288 k0_hw33 k0_h2)

def k0_off38 : Fin 1 → Nat :=
  let c2_i32_91 : BitVec 32 := 2#32
  let c8_i32_92 : BitVec 32 := 8#32
  let v287 : BitVec 32 := Scalar.remsi c2_i32_91 c8_i32_92
  ![v287.toNat]
def k0_off39 : Fin 3 → Nat :=
  let c2_i32_91 : BitVec 32 := 2#32
  let c8_i32_92 : BitVec 32 := 8#32
  let v287 : BitVec 32 := Scalar.remsi c2_i32_91 c8_i32_92
  let c0_i32_94 : BitVec 32 := 0#32
  let c0_i32_95 : BitVec 32 := 0#32
  ![v287.toNat, 0, 0]
def k0_off40 (v288 : BitVec 32) : Fin 3 → Nat :=
  let c0_i32_96 : BitVec 32 := 0#32
  let c0_i32_97 : BitVec 32 := 0#32
  ![v288.toNat, 0, 0]
def k0_cond3 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) : BitVec 1 :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let c0_i32_45 : BitVec 32 := 0#32
  let v163 : BitVec 1 := Scalar.cmpi .sgt v159 c0_i32_45
  let v164 : BitVec 32 := Scalar.extui v163
  let v165 : BitVec 32 := Scalar.addi v157 v164
  let c0_i32_47 : BitVec 32 := 0#32
  let v171 : BitVec 1 := Scalar.cmpi .sgt v167 c0_i32_47
  let v172 : BitVec 32 := Scalar.extui v171
  let v173 : BitVec 32 := Scalar.addi v165 v172
  let c0_i32_49 : BitVec 32 := 0#32
  let v179 : BitVec 1 := Scalar.cmpi .sgt v175 c0_i32_49
  let v180 : BitVec 32 := Scalar.extui v179
  let v181 : BitVec 32 := Scalar.addi v173 v180
  let c0_i32_51 : BitVec 32 := 0#32
  let v187 : BitVec 1 := Scalar.cmpi .sgt v183 c0_i32_51
  let v188 : BitVec 32 := Scalar.extui v187
  let v189 : BitVec 32 := Scalar.addi v181 v188
  let c0_i32_53 : BitVec 32 := 0#32
  let v195 : BitVec 1 := Scalar.cmpi .sgt v191 c0_i32_53
  let v196 : BitVec 32 := Scalar.extui v195
  let v197 : BitVec 32 := Scalar.addi v189 v196
  let c0_i32_55 : BitVec 32 := 0#32
  let v203 : BitVec 1 := Scalar.cmpi .sgt v199 c0_i32_55
  let v204 : BitVec 32 := Scalar.extui v203
  let v205 : BitVec 32 := Scalar.addi v197 v204
  let c0_i32_57 : BitVec 32 := 0#32
  let v211 : BitVec 1 := Scalar.cmpi .sgt v207 c0_i32_57
  let v212 : BitVec 32 := Scalar.extui v211
  let v213 : BitVec 32 := Scalar.addi v205 v212
  let c0_i32_59 : BitVec 32 := 0#32
  let v219 : BitVec 1 := Scalar.cmpi .sgt v215 c0_i32_59
  let v220 : BitVec 32 := Scalar.extui v219
  let v221 : BitVec 32 := Scalar.addi v213 v220
  let c0_i32_61 : BitVec 32 := 0#32
  let v227 : BitVec 1 := Scalar.cmpi .sgt v223 c0_i32_61
  let v228 : BitVec 32 := Scalar.extui v227
  let v229 : BitVec 32 := Scalar.addi v221 v228
  let c0_i32_63 : BitVec 32 := 0#32
  let v235 : BitVec 1 := Scalar.cmpi .sgt v231 c0_i32_63
  let v236 : BitVec 32 := Scalar.extui v235
  let v237 : BitVec 32 := Scalar.addi v229 v236
  let c0_i32_65 : BitVec 32 := 0#32
  let v243 : BitVec 1 := Scalar.cmpi .sgt v239 c0_i32_65
  let v244 : BitVec 32 := Scalar.extui v243
  let v245 : BitVec 32 := Scalar.addi v237 v244
  let c0_i32_67 : BitVec 32 := 0#32
  let v251 : BitVec 1 := Scalar.cmpi .sgt v247 c0_i32_67
  let v252 : BitVec 32 := Scalar.extui v251
  let v253 : BitVec 32 := Scalar.addi v245 v252
  let c2_i32_72 : BitVec 32 := 2#32
  let v260 : BitVec 1 := Scalar.cmpi .sgt v253 c2_i32_72
  let v261 : BitVec 32 := Scalar.extui v260
  let c0_i32_73 : BitVec 32 := 0#32
  let v262 : BitVec 1 := Scalar.cmpi .ne v261 c0_i32_73
  v262

def k0_chk34 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (v288 : BitVec 32) : Prop :=
  (∀ (k0_h3 : k0_cond3 v0 v7 v15 v23 v31 v39 v47 v55 v63 v71 v79 v87 v95 v103 v111 v119 v127 v135 v143 v151 v159 v167 v175 v183 v191 v199 v207 v215 v223 v231 v239 v247 = 1#1), ∀ a, (k0_off40 v288) a + S1x2048x1536.size a ≤ S32x2048x1536.size a) ∧
  (∀ (k0_h3 : k0_cond3 v0 v7 v15 v23 v31 v39 v47 v55 v63 v71 v79 v87 v95 v103 v111 v119 v127 v135 v143 v151 v159 v167 v175 v183 v191 v199 v207 v215 v223 v231 v239 v247 = 1#1), ∀ (hinb : ∀ a, (k0_off40 v288) a + S1x2048x1536.size a ≤ S32x2048x1536.size a), (Rect.unit (s := S32x2048x1536) (k0_off40 v288) S1x2048x1536.size hinb).WholeWords (EltTy.packing .fp8e4m3))
theorem k0_off40_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (v288 : BitVec 32) (k0_hw34 : k0_chk34 v0 v7 v15 v23 v31 v39 v47 v55 v63 v71 v79 v87 v95 v103 v111 v119 v127 v135 v143 v151 v159 v167 v175 v183 v191 v199 v207 v215 v223 v231 v239 v247 v288), ∀ (k0_h3 : k0_cond3 v0 v7 v15 v23 v31 v39 v47 v55 v63 v71 v79 v87 v95 v103 v111 v119 v127 v135 v143 v151 v159 v167 v175 v183 v191 v199 v207 v215 v223 v231 v239 v247 = 1#1), ∀ a, (k0_off40 v288) a + S1x2048x1536.size a ≤ S32x2048x1536.size a := fun v0 v7 v15 v23 v31 v39 v47 v55 v63 v71 v79 v87 v95 v103 v111 v119 v127 v135 v143 v151 v159 v167 v175 v183 v191 v199 v207 v215 v223 v231 v239 v247 v288 k0_hw34 k0_h3 => k0_hw34.1 k0_h3
theorem k0_off40_wordsfp8e4m3 : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (v288 : BitVec 32) (k0_hw34 : k0_chk34 v0 v7 v15 v23 v31 v39 v47 v55 v63 v71 v79 v87 v95 v103 v111 v119 v127 v135 v143 v151 v159 v167 v175 v183 v191 v199 v207 v215 v223 v231 v239 v247 v288), ∀ (k0_h3 : k0_cond3 v0 v7 v15 v23 v31 v39 v47 v55 v63 v71 v79 v87 v95 v103 v111 v119 v127 v135 v143 v151 v159 v167 v175 v183 v191 v199 v207 v215 v223 v231 v239 v247 = 1#1), (Rect.unit (s := S32x2048x1536) (k0_off40 v288) S1x2048x1536.size (k0_off40_inb v0 v7 v15 v23 v31 v39 v47 v55 v63 v71 v79 v87 v95 v103 v111 v119 v127 v135 v143 v151 v159 v167 v175 v183 v191 v199 v207 v215 v223 v231 v239 v247 v288 k0_hw34 k0_h3)).WholeWords (EltTy.packing .fp8e4m3) := fun v0 v7 v15 v23 v31 v39 v47 v55 v63 v71 v79 v87 v95 v103 v111 v119 v127 v135 v143 v151 v159 v167 v175 v183 v191 v199 v207 v215 v223 v231 v239 v247 v288 k0_hw34 k0_h3 => k0_hw34.2 k0_h3 (k0_off40_inb v0 v7 v15 v23 v31 v39 v47 v55 v63 v71 v79 v87 v95 v103 v111 v119 v127 v135 v143 v151 v159 v167 v175 v183 v191 v199 v207 v215 v223 v231 v239 v247 v288 k0_hw34 k0_h3)

def k0_off41 : Fin 1 → Nat :=
  let c3_i32_91 : BitVec 32 := 3#32
  let c8_i32_92 : BitVec 32 := 8#32
  let v287 : BitVec 32 := Scalar.remsi c3_i32_91 c8_i32_92
  ![v287.toNat]
def k0_off42 : Fin 3 → Nat :=
  let c3_i32_91 : BitVec 32 := 3#32
  let c8_i32_92 : BitVec 32 := 8#32
  let v287 : BitVec 32 := Scalar.remsi c3_i32_91 c8_i32_92
  let c0_i32_94 : BitVec 32 := 0#32
  let c0_i32_95 : BitVec 32 := 0#32
  ![v287.toNat, 0, 0]
def k0_off43 (v288 : BitVec 32) : Fin 3 → Nat :=
  let c0_i32_96 : BitVec 32 := 0#32
  let c0_i32_97 : BitVec 32 := 0#32
  ![v288.toNat, 0, 0]
def k0_cond4 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) : BitVec 1 :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let c0_i32_45 : BitVec 32 := 0#32
  let v163 : BitVec 1 := Scalar.cmpi .sgt v159 c0_i32_45
  let v164 : BitVec 32 := Scalar.extui v163
  let v165 : BitVec 32 := Scalar.addi v157 v164
  let c0_i32_47 : BitVec 32 := 0#32
  let v171 : BitVec 1 := Scalar.cmpi .sgt v167 c0_i32_47
  let v172 : BitVec 32 := Scalar.extui v171
  let v173 : BitVec 32 := Scalar.addi v165 v172
  let c0_i32_49 : BitVec 32 := 0#32
  let v179 : BitVec 1 := Scalar.cmpi .sgt v175 c0_i32_49
  let v180 : BitVec 32 := Scalar.extui v179
  let v181 : BitVec 32 := Scalar.addi v173 v180
  let c0_i32_51 : BitVec 32 := 0#32
  let v187 : BitVec 1 := Scalar.cmpi .sgt v183 c0_i32_51
  let v188 : BitVec 32 := Scalar.extui v187
  let v189 : BitVec 32 := Scalar.addi v181 v188
  let c0_i32_53 : BitVec 32 := 0#32
  let v195 : BitVec 1 := Scalar.cmpi .sgt v191 c0_i32_53
  let v196 : BitVec 32 := Scalar.extui v195
  let v197 : BitVec 32 := Scalar.addi v189 v196
  let c0_i32_55 : BitVec 32 := 0#32
  let v203 : BitVec 1 := Scalar.cmpi .sgt v199 c0_i32_55
  let v204 : BitVec 32 := Scalar.extui v203
  let v205 : BitVec 32 := Scalar.addi v197 v204
  let c0_i32_57 : BitVec 32 := 0#32
  let v211 : BitVec 1 := Scalar.cmpi .sgt v207 c0_i32_57
  let v212 : BitVec 32 := Scalar.extui v211
  let v213 : BitVec 32 := Scalar.addi v205 v212
  let c0_i32_59 : BitVec 32 := 0#32
  let v219 : BitVec 1 := Scalar.cmpi .sgt v215 c0_i32_59
  let v220 : BitVec 32 := Scalar.extui v219
  let v221 : BitVec 32 := Scalar.addi v213 v220
  let c0_i32_61 : BitVec 32 := 0#32
  let v227 : BitVec 1 := Scalar.cmpi .sgt v223 c0_i32_61
  let v228 : BitVec 32 := Scalar.extui v227
  let v229 : BitVec 32 := Scalar.addi v221 v228
  let c0_i32_63 : BitVec 32 := 0#32
  let v235 : BitVec 1 := Scalar.cmpi .sgt v231 c0_i32_63
  let v236 : BitVec 32 := Scalar.extui v235
  let v237 : BitVec 32 := Scalar.addi v229 v236
  let c0_i32_65 : BitVec 32 := 0#32
  let v243 : BitVec 1 := Scalar.cmpi .sgt v239 c0_i32_65
  let v244 : BitVec 32 := Scalar.extui v243
  let v245 : BitVec 32 := Scalar.addi v237 v244
  let c0_i32_67 : BitVec 32 := 0#32
  let v251 : BitVec 1 := Scalar.cmpi .sgt v247 c0_i32_67
  let v252 : BitVec 32 := Scalar.extui v251
  let v253 : BitVec 32 := Scalar.addi v245 v252
  let c3_i32_74 : BitVec 32 := 3#32
  let v263 : BitVec 1 := Scalar.cmpi .sgt v253 c3_i32_74
  let v264 : BitVec 32 := Scalar.extui v263
  let c0_i32_75 : BitVec 32 := 0#32
  let v265 : BitVec 1 := Scalar.cmpi .ne v264 c0_i32_75
  v265

def k0_chk35 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (v288 : BitVec 32) : Prop :=
  (∀ (k0_h4 : k0_cond4 v0 v7 v15 v23 v31 v39 v47 v55 v63 v71 v79 v87 v95 v103 v111 v119 v127 v135 v143 v151 v159 v167 v175 v183 v191 v199 v207 v215 v223 v231 v239 v247 = 1#1), ∀ a, (k0_off43 v288) a + S1x2048x1536.size a ≤ S32x2048x1536.size a) ∧
  (∀ (k0_h4 : k0_cond4 v0 v7 v15 v23 v31 v39 v47 v55 v63 v71 v79 v87 v95 v103 v111 v119 v127 v135 v143 v151 v159 v167 v175 v183 v191 v199 v207 v215 v223 v231 v239 v247 = 1#1), ∀ (hinb : ∀ a, (k0_off43 v288) a + S1x2048x1536.size a ≤ S32x2048x1536.size a), (Rect.unit (s := S32x2048x1536) (k0_off43 v288) S1x2048x1536.size hinb).WholeWords (EltTy.packing .fp8e4m3))
theorem k0_off43_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (v288 : BitVec 32) (k0_hw35 : k0_chk35 v0 v7 v15 v23 v31 v39 v47 v55 v63 v71 v79 v87 v95 v103 v111 v119 v127 v135 v143 v151 v159 v167 v175 v183 v191 v199 v207 v215 v223 v231 v239 v247 v288), ∀ (k0_h4 : k0_cond4 v0 v7 v15 v23 v31 v39 v47 v55 v63 v71 v79 v87 v95 v103 v111 v119 v127 v135 v143 v151 v159 v167 v175 v183 v191 v199 v207 v215 v223 v231 v239 v247 = 1#1), ∀ a, (k0_off43 v288) a + S1x2048x1536.size a ≤ S32x2048x1536.size a := fun v0 v7 v15 v23 v31 v39 v47 v55 v63 v71 v79 v87 v95 v103 v111 v119 v127 v135 v143 v151 v159 v167 v175 v183 v191 v199 v207 v215 v223 v231 v239 v247 v288 k0_hw35 k0_h4 => k0_hw35.1 k0_h4
theorem k0_off43_wordsfp8e4m3 : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (v288 : BitVec 32) (k0_hw35 : k0_chk35 v0 v7 v15 v23 v31 v39 v47 v55 v63 v71 v79 v87 v95 v103 v111 v119 v127 v135 v143 v151 v159 v167 v175 v183 v191 v199 v207 v215 v223 v231 v239 v247 v288), ∀ (k0_h4 : k0_cond4 v0 v7 v15 v23 v31 v39 v47 v55 v63 v71 v79 v87 v95 v103 v111 v119 v127 v135 v143 v151 v159 v167 v175 v183 v191 v199 v207 v215 v223 v231 v239 v247 = 1#1), (Rect.unit (s := S32x2048x1536) (k0_off43 v288) S1x2048x1536.size (k0_off43_inb v0 v7 v15 v23 v31 v39 v47 v55 v63 v71 v79 v87 v95 v103 v111 v119 v127 v135 v143 v151 v159 v167 v175 v183 v191 v199 v207 v215 v223 v231 v239 v247 v288 k0_hw35 k0_h4)).WholeWords (EltTy.packing .fp8e4m3) := fun v0 v7 v15 v23 v31 v39 v47 v55 v63 v71 v79 v87 v95 v103 v111 v119 v127 v135 v143 v151 v159 v167 v175 v183 v191 v199 v207 v215 v223 v231 v239 v247 v288 k0_hw35 k0_h4 => k0_hw35.2 k0_h4 (k0_off43_inb v0 v7 v15 v23 v31 v39 v47 v55 v63 v71 v79 v87 v95 v103 v111 v119 v127 v135 v143 v151 v159 v167 v175 v183 v191 v199 v207 v215 v223 v231 v239 v247 v288 k0_hw35 k0_h4)

def k0_off44 : Fin 1 → Nat :=
  let c4_i32_91 : BitVec 32 := 4#32
  let c8_i32_92 : BitVec 32 := 8#32
  let v287 : BitVec 32 := Scalar.remsi c4_i32_91 c8_i32_92
  ![v287.toNat]
def k0_off45 : Fin 3 → Nat :=
  let c4_i32_91 : BitVec 32 := 4#32
  let c8_i32_92 : BitVec 32 := 8#32
  let v287 : BitVec 32 := Scalar.remsi c4_i32_91 c8_i32_92
  let c0_i32_94 : BitVec 32 := 0#32
  let c0_i32_95 : BitVec 32 := 0#32
  ![v287.toNat, 0, 0]
def k0_off46 (v288 : BitVec 32) : Fin 3 → Nat :=
  let c0_i32_96 : BitVec 32 := 0#32
  let c0_i32_97 : BitVec 32 := 0#32
  ![v288.toNat, 0, 0]
def k0_cond5 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) : BitVec 1 :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let c0_i32_45 : BitVec 32 := 0#32
  let v163 : BitVec 1 := Scalar.cmpi .sgt v159 c0_i32_45
  let v164 : BitVec 32 := Scalar.extui v163
  let v165 : BitVec 32 := Scalar.addi v157 v164
  let c0_i32_47 : BitVec 32 := 0#32
  let v171 : BitVec 1 := Scalar.cmpi .sgt v167 c0_i32_47
  let v172 : BitVec 32 := Scalar.extui v171
  let v173 : BitVec 32 := Scalar.addi v165 v172
  let c0_i32_49 : BitVec 32 := 0#32
  let v179 : BitVec 1 := Scalar.cmpi .sgt v175 c0_i32_49
  let v180 : BitVec 32 := Scalar.extui v179
  let v181 : BitVec 32 := Scalar.addi v173 v180
  let c0_i32_51 : BitVec 32 := 0#32
  let v187 : BitVec 1 := Scalar.cmpi .sgt v183 c0_i32_51
  let v188 : BitVec 32 := Scalar.extui v187
  let v189 : BitVec 32 := Scalar.addi v181 v188
  let c0_i32_53 : BitVec 32 := 0#32
  let v195 : BitVec 1 := Scalar.cmpi .sgt v191 c0_i32_53
  let v196 : BitVec 32 := Scalar.extui v195
  let v197 : BitVec 32 := Scalar.addi v189 v196
  let c0_i32_55 : BitVec 32 := 0#32
  let v203 : BitVec 1 := Scalar.cmpi .sgt v199 c0_i32_55
  let v204 : BitVec 32 := Scalar.extui v203
  let v205 : BitVec 32 := Scalar.addi v197 v204
  let c0_i32_57 : BitVec 32 := 0#32
  let v211 : BitVec 1 := Scalar.cmpi .sgt v207 c0_i32_57
  let v212 : BitVec 32 := Scalar.extui v211
  let v213 : BitVec 32 := Scalar.addi v205 v212
  let c0_i32_59 : BitVec 32 := 0#32
  let v219 : BitVec 1 := Scalar.cmpi .sgt v215 c0_i32_59
  let v220 : BitVec 32 := Scalar.extui v219
  let v221 : BitVec 32 := Scalar.addi v213 v220
  let c0_i32_61 : BitVec 32 := 0#32
  let v227 : BitVec 1 := Scalar.cmpi .sgt v223 c0_i32_61
  let v228 : BitVec 32 := Scalar.extui v227
  let v229 : BitVec 32 := Scalar.addi v221 v228
  let c0_i32_63 : BitVec 32 := 0#32
  let v235 : BitVec 1 := Scalar.cmpi .sgt v231 c0_i32_63
  let v236 : BitVec 32 := Scalar.extui v235
  let v237 : BitVec 32 := Scalar.addi v229 v236
  let c0_i32_65 : BitVec 32 := 0#32
  let v243 : BitVec 1 := Scalar.cmpi .sgt v239 c0_i32_65
  let v244 : BitVec 32 := Scalar.extui v243
  let v245 : BitVec 32 := Scalar.addi v237 v244
  let c0_i32_67 : BitVec 32 := 0#32
  let v251 : BitVec 1 := Scalar.cmpi .sgt v247 c0_i32_67
  let v252 : BitVec 32 := Scalar.extui v251
  let v253 : BitVec 32 := Scalar.addi v245 v252
  let c4_i32_76 : BitVec 32 := 4#32
  let v266 : BitVec 1 := Scalar.cmpi .sgt v253 c4_i32_76
  let v267 : BitVec 32 := Scalar.extui v266
  let c0_i32_77 : BitVec 32 := 0#32
  let v268 : BitVec 1 := Scalar.cmpi .ne v267 c0_i32_77
  v268

def k0_chk36 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (v288 : BitVec 32) : Prop :=
  (∀ (k0_h5 : k0_cond5 v0 v7 v15 v23 v31 v39 v47 v55 v63 v71 v79 v87 v95 v103 v111 v119 v127 v135 v143 v151 v159 v167 v175 v183 v191 v199 v207 v215 v223 v231 v239 v247 = 1#1), ∀ a, (k0_off46 v288) a + S1x2048x1536.size a ≤ S32x2048x1536.size a) ∧
  (∀ (k0_h5 : k0_cond5 v0 v7 v15 v23 v31 v39 v47 v55 v63 v71 v79 v87 v95 v103 v111 v119 v127 v135 v143 v151 v159 v167 v175 v183 v191 v199 v207 v215 v223 v231 v239 v247 = 1#1), ∀ (hinb : ∀ a, (k0_off46 v288) a + S1x2048x1536.size a ≤ S32x2048x1536.size a), (Rect.unit (s := S32x2048x1536) (k0_off46 v288) S1x2048x1536.size hinb).WholeWords (EltTy.packing .fp8e4m3))
theorem k0_off46_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (v288 : BitVec 32) (k0_hw36 : k0_chk36 v0 v7 v15 v23 v31 v39 v47 v55 v63 v71 v79 v87 v95 v103 v111 v119 v127 v135 v143 v151 v159 v167 v175 v183 v191 v199 v207 v215 v223 v231 v239 v247 v288), ∀ (k0_h5 : k0_cond5 v0 v7 v15 v23 v31 v39 v47 v55 v63 v71 v79 v87 v95 v103 v111 v119 v127 v135 v143 v151 v159 v167 v175 v183 v191 v199 v207 v215 v223 v231 v239 v247 = 1#1), ∀ a, (k0_off46 v288) a + S1x2048x1536.size a ≤ S32x2048x1536.size a := fun v0 v7 v15 v23 v31 v39 v47 v55 v63 v71 v79 v87 v95 v103 v111 v119 v127 v135 v143 v151 v159 v167 v175 v183 v191 v199 v207 v215 v223 v231 v239 v247 v288 k0_hw36 k0_h5 => k0_hw36.1 k0_h5
theorem k0_off46_wordsfp8e4m3 : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (v288 : BitVec 32) (k0_hw36 : k0_chk36 v0 v7 v15 v23 v31 v39 v47 v55 v63 v71 v79 v87 v95 v103 v111 v119 v127 v135 v143 v151 v159 v167 v175 v183 v191 v199 v207 v215 v223 v231 v239 v247 v288), ∀ (k0_h5 : k0_cond5 v0 v7 v15 v23 v31 v39 v47 v55 v63 v71 v79 v87 v95 v103 v111 v119 v127 v135 v143 v151 v159 v167 v175 v183 v191 v199 v207 v215 v223 v231 v239 v247 = 1#1), (Rect.unit (s := S32x2048x1536) (k0_off46 v288) S1x2048x1536.size (k0_off46_inb v0 v7 v15 v23 v31 v39 v47 v55 v63 v71 v79 v87 v95 v103 v111 v119 v127 v135 v143 v151 v159 v167 v175 v183 v191 v199 v207 v215 v223 v231 v239 v247 v288 k0_hw36 k0_h5)).WholeWords (EltTy.packing .fp8e4m3) := fun v0 v7 v15 v23 v31 v39 v47 v55 v63 v71 v79 v87 v95 v103 v111 v119 v127 v135 v143 v151 v159 v167 v175 v183 v191 v199 v207 v215 v223 v231 v239 v247 v288 k0_hw36 k0_h5 => k0_hw36.2 k0_h5 (k0_off46_inb v0 v7 v15 v23 v31 v39 v47 v55 v63 v71 v79 v87 v95 v103 v111 v119 v127 v135 v143 v151 v159 v167 v175 v183 v191 v199 v207 v215 v223 v231 v239 v247 v288 k0_hw36 k0_h5)

def k0_off47 : Fin 1 → Nat :=
  let c5_i32_91 : BitVec 32 := 5#32
  let c8_i32_92 : BitVec 32 := 8#32
  let v287 : BitVec 32 := Scalar.remsi c5_i32_91 c8_i32_92
  ![v287.toNat]
def k0_off48 : Fin 3 → Nat :=
  let c5_i32_91 : BitVec 32 := 5#32
  let c8_i32_92 : BitVec 32 := 8#32
  let v287 : BitVec 32 := Scalar.remsi c5_i32_91 c8_i32_92
  let c0_i32_94 : BitVec 32 := 0#32
  let c0_i32_95 : BitVec 32 := 0#32
  ![v287.toNat, 0, 0]
def k0_off49 (v288 : BitVec 32) : Fin 3 → Nat :=
  let c0_i32_96 : BitVec 32 := 0#32
  let c0_i32_97 : BitVec 32 := 0#32
  ![v288.toNat, 0, 0]
def k0_cond6 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) : BitVec 1 :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let c0_i32_45 : BitVec 32 := 0#32
  let v163 : BitVec 1 := Scalar.cmpi .sgt v159 c0_i32_45
  let v164 : BitVec 32 := Scalar.extui v163
  let v165 : BitVec 32 := Scalar.addi v157 v164
  let c0_i32_47 : BitVec 32 := 0#32
  let v171 : BitVec 1 := Scalar.cmpi .sgt v167 c0_i32_47
  let v172 : BitVec 32 := Scalar.extui v171
  let v173 : BitVec 32 := Scalar.addi v165 v172
  let c0_i32_49 : BitVec 32 := 0#32
  let v179 : BitVec 1 := Scalar.cmpi .sgt v175 c0_i32_49
  let v180 : BitVec 32 := Scalar.extui v179
  let v181 : BitVec 32 := Scalar.addi v173 v180
  let c0_i32_51 : BitVec 32 := 0#32
  let v187 : BitVec 1 := Scalar.cmpi .sgt v183 c0_i32_51
  let v188 : BitVec 32 := Scalar.extui v187
  let v189 : BitVec 32 := Scalar.addi v181 v188
  let c0_i32_53 : BitVec 32 := 0#32
  let v195 : BitVec 1 := Scalar.cmpi .sgt v191 c0_i32_53
  let v196 : BitVec 32 := Scalar.extui v195
  let v197 : BitVec 32 := Scalar.addi v189 v196
  let c0_i32_55 : BitVec 32 := 0#32
  let v203 : BitVec 1 := Scalar.cmpi .sgt v199 c0_i32_55
  let v204 : BitVec 32 := Scalar.extui v203
  let v205 : BitVec 32 := Scalar.addi v197 v204
  let c0_i32_57 : BitVec 32 := 0#32
  let v211 : BitVec 1 := Scalar.cmpi .sgt v207 c0_i32_57
  let v212 : BitVec 32 := Scalar.extui v211
  let v213 : BitVec 32 := Scalar.addi v205 v212
  let c0_i32_59 : BitVec 32 := 0#32
  let v219 : BitVec 1 := Scalar.cmpi .sgt v215 c0_i32_59
  let v220 : BitVec 32 := Scalar.extui v219
  let v221 : BitVec 32 := Scalar.addi v213 v220
  let c0_i32_61 : BitVec 32 := 0#32
  let v227 : BitVec 1 := Scalar.cmpi .sgt v223 c0_i32_61
  let v228 : BitVec 32 := Scalar.extui v227
  let v229 : BitVec 32 := Scalar.addi v221 v228
  let c0_i32_63 : BitVec 32 := 0#32
  let v235 : BitVec 1 := Scalar.cmpi .sgt v231 c0_i32_63
  let v236 : BitVec 32 := Scalar.extui v235
  let v237 : BitVec 32 := Scalar.addi v229 v236
  let c0_i32_65 : BitVec 32 := 0#32
  let v243 : BitVec 1 := Scalar.cmpi .sgt v239 c0_i32_65
  let v244 : BitVec 32 := Scalar.extui v243
  let v245 : BitVec 32 := Scalar.addi v237 v244
  let c0_i32_67 : BitVec 32 := 0#32
  let v251 : BitVec 1 := Scalar.cmpi .sgt v247 c0_i32_67
  let v252 : BitVec 32 := Scalar.extui v251
  let v253 : BitVec 32 := Scalar.addi v245 v252
  let c5_i32_78 : BitVec 32 := 5#32
  let v269 : BitVec 1 := Scalar.cmpi .sgt v253 c5_i32_78
  let v270 : BitVec 32 := Scalar.extui v269
  let c0_i32_79 : BitVec 32 := 0#32
  let v271 : BitVec 1 := Scalar.cmpi .ne v270 c0_i32_79
  v271

def k0_chk37 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (v288 : BitVec 32) : Prop :=
  (∀ (k0_h6 : k0_cond6 v0 v7 v15 v23 v31 v39 v47 v55 v63 v71 v79 v87 v95 v103 v111 v119 v127 v135 v143 v151 v159 v167 v175 v183 v191 v199 v207 v215 v223 v231 v239 v247 = 1#1), ∀ a, (k0_off49 v288) a + S1x2048x1536.size a ≤ S32x2048x1536.size a) ∧
  (∀ (k0_h6 : k0_cond6 v0 v7 v15 v23 v31 v39 v47 v55 v63 v71 v79 v87 v95 v103 v111 v119 v127 v135 v143 v151 v159 v167 v175 v183 v191 v199 v207 v215 v223 v231 v239 v247 = 1#1), ∀ (hinb : ∀ a, (k0_off49 v288) a + S1x2048x1536.size a ≤ S32x2048x1536.size a), (Rect.unit (s := S32x2048x1536) (k0_off49 v288) S1x2048x1536.size hinb).WholeWords (EltTy.packing .fp8e4m3))
theorem k0_off49_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (v288 : BitVec 32) (k0_hw37 : k0_chk37 v0 v7 v15 v23 v31 v39 v47 v55 v63 v71 v79 v87 v95 v103 v111 v119 v127 v135 v143 v151 v159 v167 v175 v183 v191 v199 v207 v215 v223 v231 v239 v247 v288), ∀ (k0_h6 : k0_cond6 v0 v7 v15 v23 v31 v39 v47 v55 v63 v71 v79 v87 v95 v103 v111 v119 v127 v135 v143 v151 v159 v167 v175 v183 v191 v199 v207 v215 v223 v231 v239 v247 = 1#1), ∀ a, (k0_off49 v288) a + S1x2048x1536.size a ≤ S32x2048x1536.size a := fun v0 v7 v15 v23 v31 v39 v47 v55 v63 v71 v79 v87 v95 v103 v111 v119 v127 v135 v143 v151 v159 v167 v175 v183 v191 v199 v207 v215 v223 v231 v239 v247 v288 k0_hw37 k0_h6 => k0_hw37.1 k0_h6
theorem k0_off49_wordsfp8e4m3 : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (v288 : BitVec 32) (k0_hw37 : k0_chk37 v0 v7 v15 v23 v31 v39 v47 v55 v63 v71 v79 v87 v95 v103 v111 v119 v127 v135 v143 v151 v159 v167 v175 v183 v191 v199 v207 v215 v223 v231 v239 v247 v288), ∀ (k0_h6 : k0_cond6 v0 v7 v15 v23 v31 v39 v47 v55 v63 v71 v79 v87 v95 v103 v111 v119 v127 v135 v143 v151 v159 v167 v175 v183 v191 v199 v207 v215 v223 v231 v239 v247 = 1#1), (Rect.unit (s := S32x2048x1536) (k0_off49 v288) S1x2048x1536.size (k0_off49_inb v0 v7 v15 v23 v31 v39 v47 v55 v63 v71 v79 v87 v95 v103 v111 v119 v127 v135 v143 v151 v159 v167 v175 v183 v191 v199 v207 v215 v223 v231 v239 v247 v288 k0_hw37 k0_h6)).WholeWords (EltTy.packing .fp8e4m3) := fun v0 v7 v15 v23 v31 v39 v47 v55 v63 v71 v79 v87 v95 v103 v111 v119 v127 v135 v143 v151 v159 v167 v175 v183 v191 v199 v207 v215 v223 v231 v239 v247 v288 k0_hw37 k0_h6 => k0_hw37.2 k0_h6 (k0_off49_inb v0 v7 v15 v23 v31 v39 v47 v55 v63 v71 v79 v87 v95 v103 v111 v119 v127 v135 v143 v151 v159 v167 v175 v183 v191 v199 v207 v215 v223 v231 v239 v247 v288 k0_hw37 k0_h6)

def k0_off50 : Fin 1 → Nat :=
  let c6_i32_91 : BitVec 32 := 6#32
  let c8_i32_92 : BitVec 32 := 8#32
  let v287 : BitVec 32 := Scalar.remsi c6_i32_91 c8_i32_92
  ![v287.toNat]
def k0_off51 : Fin 3 → Nat :=
  let c6_i32_91 : BitVec 32 := 6#32
  let c8_i32_92 : BitVec 32 := 8#32
  let v287 : BitVec 32 := Scalar.remsi c6_i32_91 c8_i32_92
  let c0_i32_94 : BitVec 32 := 0#32
  let c0_i32_95 : BitVec 32 := 0#32
  ![v287.toNat, 0, 0]
def k0_off52 (v288 : BitVec 32) : Fin 3 → Nat :=
  let c0_i32_96 : BitVec 32 := 0#32
  let c0_i32_97 : BitVec 32 := 0#32
  ![v288.toNat, 0, 0]
def k0_cond7 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) : BitVec 1 :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let c0_i32_45 : BitVec 32 := 0#32
  let v163 : BitVec 1 := Scalar.cmpi .sgt v159 c0_i32_45
  let v164 : BitVec 32 := Scalar.extui v163
  let v165 : BitVec 32 := Scalar.addi v157 v164
  let c0_i32_47 : BitVec 32 := 0#32
  let v171 : BitVec 1 := Scalar.cmpi .sgt v167 c0_i32_47
  let v172 : BitVec 32 := Scalar.extui v171
  let v173 : BitVec 32 := Scalar.addi v165 v172
  let c0_i32_49 : BitVec 32 := 0#32
  let v179 : BitVec 1 := Scalar.cmpi .sgt v175 c0_i32_49
  let v180 : BitVec 32 := Scalar.extui v179
  let v181 : BitVec 32 := Scalar.addi v173 v180
  let c0_i32_51 : BitVec 32 := 0#32
  let v187 : BitVec 1 := Scalar.cmpi .sgt v183 c0_i32_51
  let v188 : BitVec 32 := Scalar.extui v187
  let v189 : BitVec 32 := Scalar.addi v181 v188
  let c0_i32_53 : BitVec 32 := 0#32
  let v195 : BitVec 1 := Scalar.cmpi .sgt v191 c0_i32_53
  let v196 : BitVec 32 := Scalar.extui v195
  let v197 : BitVec 32 := Scalar.addi v189 v196
  let c0_i32_55 : BitVec 32 := 0#32
  let v203 : BitVec 1 := Scalar.cmpi .sgt v199 c0_i32_55
  let v204 : BitVec 32 := Scalar.extui v203
  let v205 : BitVec 32 := Scalar.addi v197 v204
  let c0_i32_57 : BitVec 32 := 0#32
  let v211 : BitVec 1 := Scalar.cmpi .sgt v207 c0_i32_57
  let v212 : BitVec 32 := Scalar.extui v211
  let v213 : BitVec 32 := Scalar.addi v205 v212
  let c0_i32_59 : BitVec 32 := 0#32
  let v219 : BitVec 1 := Scalar.cmpi .sgt v215 c0_i32_59
  let v220 : BitVec 32 := Scalar.extui v219
  let v221 : BitVec 32 := Scalar.addi v213 v220
  let c0_i32_61 : BitVec 32 := 0#32
  let v227 : BitVec 1 := Scalar.cmpi .sgt v223 c0_i32_61
  let v228 : BitVec 32 := Scalar.extui v227
  let v229 : BitVec 32 := Scalar.addi v221 v228
  let c0_i32_63 : BitVec 32 := 0#32
  let v235 : BitVec 1 := Scalar.cmpi .sgt v231 c0_i32_63
  let v236 : BitVec 32 := Scalar.extui v235
  let v237 : BitVec 32 := Scalar.addi v229 v236
  let c0_i32_65 : BitVec 32 := 0#32
  let v243 : BitVec 1 := Scalar.cmpi .sgt v239 c0_i32_65
  let v244 : BitVec 32 := Scalar.extui v243
  let v245 : BitVec 32 := Scalar.addi v237 v244
  let c0_i32_67 : BitVec 32 := 0#32
  let v251 : BitVec 1 := Scalar.cmpi .sgt v247 c0_i32_67
  let v252 : BitVec 32 := Scalar.extui v251
  let v253 : BitVec 32 := Scalar.addi v245 v252
  let c6_i32_80 : BitVec 32 := 6#32
  let v272 : BitVec 1 := Scalar.cmpi .sgt v253 c6_i32_80
  let v273 : BitVec 32 := Scalar.extui v272
  let c0_i32_81 : BitVec 32 := 0#32
  let v274 : BitVec 1 := Scalar.cmpi .ne v273 c0_i32_81
  v274

def k0_chk38 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (v288 : BitVec 32) : Prop :=
  (∀ (k0_h7 : k0_cond7 v0 v7 v15 v23 v31 v39 v47 v55 v63 v71 v79 v87 v95 v103 v111 v119 v127 v135 v143 v151 v159 v167 v175 v183 v191 v199 v207 v215 v223 v231 v239 v247 = 1#1), ∀ a, (k0_off52 v288) a + S1x2048x1536.size a ≤ S32x2048x1536.size a) ∧
  (∀ (k0_h7 : k0_cond7 v0 v7 v15 v23 v31 v39 v47 v55 v63 v71 v79 v87 v95 v103 v111 v119 v127 v135 v143 v151 v159 v167 v175 v183 v191 v199 v207 v215 v223 v231 v239 v247 = 1#1), ∀ (hinb : ∀ a, (k0_off52 v288) a + S1x2048x1536.size a ≤ S32x2048x1536.size a), (Rect.unit (s := S32x2048x1536) (k0_off52 v288) S1x2048x1536.size hinb).WholeWords (EltTy.packing .fp8e4m3))
theorem k0_off52_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (v288 : BitVec 32) (k0_hw38 : k0_chk38 v0 v7 v15 v23 v31 v39 v47 v55 v63 v71 v79 v87 v95 v103 v111 v119 v127 v135 v143 v151 v159 v167 v175 v183 v191 v199 v207 v215 v223 v231 v239 v247 v288), ∀ (k0_h7 : k0_cond7 v0 v7 v15 v23 v31 v39 v47 v55 v63 v71 v79 v87 v95 v103 v111 v119 v127 v135 v143 v151 v159 v167 v175 v183 v191 v199 v207 v215 v223 v231 v239 v247 = 1#1), ∀ a, (k0_off52 v288) a + S1x2048x1536.size a ≤ S32x2048x1536.size a := fun v0 v7 v15 v23 v31 v39 v47 v55 v63 v71 v79 v87 v95 v103 v111 v119 v127 v135 v143 v151 v159 v167 v175 v183 v191 v199 v207 v215 v223 v231 v239 v247 v288 k0_hw38 k0_h7 => k0_hw38.1 k0_h7
theorem k0_off52_wordsfp8e4m3 : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (v288 : BitVec 32) (k0_hw38 : k0_chk38 v0 v7 v15 v23 v31 v39 v47 v55 v63 v71 v79 v87 v95 v103 v111 v119 v127 v135 v143 v151 v159 v167 v175 v183 v191 v199 v207 v215 v223 v231 v239 v247 v288), ∀ (k0_h7 : k0_cond7 v0 v7 v15 v23 v31 v39 v47 v55 v63 v71 v79 v87 v95 v103 v111 v119 v127 v135 v143 v151 v159 v167 v175 v183 v191 v199 v207 v215 v223 v231 v239 v247 = 1#1), (Rect.unit (s := S32x2048x1536) (k0_off52 v288) S1x2048x1536.size (k0_off52_inb v0 v7 v15 v23 v31 v39 v47 v55 v63 v71 v79 v87 v95 v103 v111 v119 v127 v135 v143 v151 v159 v167 v175 v183 v191 v199 v207 v215 v223 v231 v239 v247 v288 k0_hw38 k0_h7)).WholeWords (EltTy.packing .fp8e4m3) := fun v0 v7 v15 v23 v31 v39 v47 v55 v63 v71 v79 v87 v95 v103 v111 v119 v127 v135 v143 v151 v159 v167 v175 v183 v191 v199 v207 v215 v223 v231 v239 v247 v288 k0_hw38 k0_h7 => k0_hw38.2 k0_h7 (k0_off52_inb v0 v7 v15 v23 v31 v39 v47 v55 v63 v71 v79 v87 v95 v103 v111 v119 v127 v135 v143 v151 v159 v167 v175 v183 v191 v199 v207 v215 v223 v231 v239 v247 v288 k0_hw38 k0_h7)

def k0_off53 : Fin 1 → Nat :=
  let c7_i32_91 : BitVec 32 := 7#32
  let c8_i32_92 : BitVec 32 := 8#32
  let v287 : BitVec 32 := Scalar.remsi c7_i32_91 c8_i32_92
  ![v287.toNat]
def k0_off54 : Fin 3 → Nat :=
  let c7_i32_91 : BitVec 32 := 7#32
  let c8_i32_92 : BitVec 32 := 8#32
  let v287 : BitVec 32 := Scalar.remsi c7_i32_91 c8_i32_92
  let c0_i32_94 : BitVec 32 := 0#32
  let c0_i32_95 : BitVec 32 := 0#32
  ![v287.toNat, 0, 0]
def k0_off55 (v288 : BitVec 32) : Fin 3 → Nat :=
  let c0_i32_96 : BitVec 32 := 0#32
  let c0_i32_97 : BitVec 32 := 0#32
  ![v288.toNat, 0, 0]
def k0_cond8 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) : BitVec 1 :=
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let c0_i32_45 : BitVec 32 := 0#32
  let v163 : BitVec 1 := Scalar.cmpi .sgt v159 c0_i32_45
  let v164 : BitVec 32 := Scalar.extui v163
  let v165 : BitVec 32 := Scalar.addi v157 v164
  let c0_i32_47 : BitVec 32 := 0#32
  let v171 : BitVec 1 := Scalar.cmpi .sgt v167 c0_i32_47
  let v172 : BitVec 32 := Scalar.extui v171
  let v173 : BitVec 32 := Scalar.addi v165 v172
  let c0_i32_49 : BitVec 32 := 0#32
  let v179 : BitVec 1 := Scalar.cmpi .sgt v175 c0_i32_49
  let v180 : BitVec 32 := Scalar.extui v179
  let v181 : BitVec 32 := Scalar.addi v173 v180
  let c0_i32_51 : BitVec 32 := 0#32
  let v187 : BitVec 1 := Scalar.cmpi .sgt v183 c0_i32_51
  let v188 : BitVec 32 := Scalar.extui v187
  let v189 : BitVec 32 := Scalar.addi v181 v188
  let c0_i32_53 : BitVec 32 := 0#32
  let v195 : BitVec 1 := Scalar.cmpi .sgt v191 c0_i32_53
  let v196 : BitVec 32 := Scalar.extui v195
  let v197 : BitVec 32 := Scalar.addi v189 v196
  let c0_i32_55 : BitVec 32 := 0#32
  let v203 : BitVec 1 := Scalar.cmpi .sgt v199 c0_i32_55
  let v204 : BitVec 32 := Scalar.extui v203
  let v205 : BitVec 32 := Scalar.addi v197 v204
  let c0_i32_57 : BitVec 32 := 0#32
  let v211 : BitVec 1 := Scalar.cmpi .sgt v207 c0_i32_57
  let v212 : BitVec 32 := Scalar.extui v211
  let v213 : BitVec 32 := Scalar.addi v205 v212
  let c0_i32_59 : BitVec 32 := 0#32
  let v219 : BitVec 1 := Scalar.cmpi .sgt v215 c0_i32_59
  let v220 : BitVec 32 := Scalar.extui v219
  let v221 : BitVec 32 := Scalar.addi v213 v220
  let c0_i32_61 : BitVec 32 := 0#32
  let v227 : BitVec 1 := Scalar.cmpi .sgt v223 c0_i32_61
  let v228 : BitVec 32 := Scalar.extui v227
  let v229 : BitVec 32 := Scalar.addi v221 v228
  let c0_i32_63 : BitVec 32 := 0#32
  let v235 : BitVec 1 := Scalar.cmpi .sgt v231 c0_i32_63
  let v236 : BitVec 32 := Scalar.extui v235
  let v237 : BitVec 32 := Scalar.addi v229 v236
  let c0_i32_65 : BitVec 32 := 0#32
  let v243 : BitVec 1 := Scalar.cmpi .sgt v239 c0_i32_65
  let v244 : BitVec 32 := Scalar.extui v243
  let v245 : BitVec 32 := Scalar.addi v237 v244
  let c0_i32_67 : BitVec 32 := 0#32
  let v251 : BitVec 1 := Scalar.cmpi .sgt v247 c0_i32_67
  let v252 : BitVec 32 := Scalar.extui v251
  let v253 : BitVec 32 := Scalar.addi v245 v252
  let c7_i32_82 : BitVec 32 := 7#32
  let v275 : BitVec 1 := Scalar.cmpi .sgt v253 c7_i32_82
  let v276 : BitVec 32 := Scalar.extui v275
  let c0_i32_83 : BitVec 32 := 0#32
  let v277 : BitVec 1 := Scalar.cmpi .ne v276 c0_i32_83
  v277

def k0_chk39 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (v288 : BitVec 32) : Prop :=
  (∀ (k0_h8 : k0_cond8 v0 v7 v15 v23 v31 v39 v47 v55 v63 v71 v79 v87 v95 v103 v111 v119 v127 v135 v143 v151 v159 v167 v175 v183 v191 v199 v207 v215 v223 v231 v239 v247 = 1#1), ∀ a, (k0_off55 v288) a + S1x2048x1536.size a ≤ S32x2048x1536.size a) ∧
  (∀ (k0_h8 : k0_cond8 v0 v7 v15 v23 v31 v39 v47 v55 v63 v71 v79 v87 v95 v103 v111 v119 v127 v135 v143 v151 v159 v167 v175 v183 v191 v199 v207 v215 v223 v231 v239 v247 = 1#1), ∀ (hinb : ∀ a, (k0_off55 v288) a + S1x2048x1536.size a ≤ S32x2048x1536.size a), (Rect.unit (s := S32x2048x1536) (k0_off55 v288) S1x2048x1536.size hinb).WholeWords (EltTy.packing .fp8e4m3))
theorem k0_off55_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (v288 : BitVec 32) (k0_hw39 : k0_chk39 v0 v7 v15 v23 v31 v39 v47 v55 v63 v71 v79 v87 v95 v103 v111 v119 v127 v135 v143 v151 v159 v167 v175 v183 v191 v199 v207 v215 v223 v231 v239 v247 v288), ∀ (k0_h8 : k0_cond8 v0 v7 v15 v23 v31 v39 v47 v55 v63 v71 v79 v87 v95 v103 v111 v119 v127 v135 v143 v151 v159 v167 v175 v183 v191 v199 v207 v215 v223 v231 v239 v247 = 1#1), ∀ a, (k0_off55 v288) a + S1x2048x1536.size a ≤ S32x2048x1536.size a := fun v0 v7 v15 v23 v31 v39 v47 v55 v63 v71 v79 v87 v95 v103 v111 v119 v127 v135 v143 v151 v159 v167 v175 v183 v191 v199 v207 v215 v223 v231 v239 v247 v288 k0_hw39 k0_h8 => k0_hw39.1 k0_h8
theorem k0_off55_wordsfp8e4m3 : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (v288 : BitVec 32) (k0_hw39 : k0_chk39 v0 v7 v15 v23 v31 v39 v47 v55 v63 v71 v79 v87 v95 v103 v111 v119 v127 v135 v143 v151 v159 v167 v175 v183 v191 v199 v207 v215 v223 v231 v239 v247 v288), ∀ (k0_h8 : k0_cond8 v0 v7 v15 v23 v31 v39 v47 v55 v63 v71 v79 v87 v95 v103 v111 v119 v127 v135 v143 v151 v159 v167 v175 v183 v191 v199 v207 v215 v223 v231 v239 v247 = 1#1), (Rect.unit (s := S32x2048x1536) (k0_off55 v288) S1x2048x1536.size (k0_off55_inb v0 v7 v15 v23 v31 v39 v47 v55 v63 v71 v79 v87 v95 v103 v111 v119 v127 v135 v143 v151 v159 v167 v175 v183 v191 v199 v207 v215 v223 v231 v239 v247 v288 k0_hw39 k0_h8)).WholeWords (EltTy.packing .fp8e4m3) := fun v0 v7 v15 v23 v31 v39 v47 v55 v63 v71 v79 v87 v95 v103 v111 v119 v127 v135 v143 v151 v159 v167 v175 v183 v191 v199 v207 v215 v223 v231 v239 v247 v288 k0_hw39 k0_h8 => k0_hw39.2 k0_h8 (k0_off55_inb v0 v7 v15 v23 v31 v39 v47 v55 v63 v71 v79 v87 v95 v103 v111 v119 v127 v135 v143 v151 v159 v167 v175 v183 v191 v199 v207 v215 v223 v231 v239 v247 v288 k0_hw39 k0_h8)

@[reducible] def k0_t1_loop (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) : Scf.Loop 32 :=
  let c0_i32_86 : BitVec 32 := 0#32
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let c0_i32_45 : BitVec 32 := 0#32
  let v163 : BitVec 1 := Scalar.cmpi .sgt v159 c0_i32_45
  let v164 : BitVec 32 := Scalar.extui v163
  let v165 : BitVec 32 := Scalar.addi v157 v164
  let c0_i32_47 : BitVec 32 := 0#32
  let v171 : BitVec 1 := Scalar.cmpi .sgt v167 c0_i32_47
  let v172 : BitVec 32 := Scalar.extui v171
  let v173 : BitVec 32 := Scalar.addi v165 v172
  let c0_i32_49 : BitVec 32 := 0#32
  let v179 : BitVec 1 := Scalar.cmpi .sgt v175 c0_i32_49
  let v180 : BitVec 32 := Scalar.extui v179
  let v181 : BitVec 32 := Scalar.addi v173 v180
  let c0_i32_51 : BitVec 32 := 0#32
  let v187 : BitVec 1 := Scalar.cmpi .sgt v183 c0_i32_51
  let v188 : BitVec 32 := Scalar.extui v187
  let v189 : BitVec 32 := Scalar.addi v181 v188
  let c0_i32_53 : BitVec 32 := 0#32
  let v195 : BitVec 1 := Scalar.cmpi .sgt v191 c0_i32_53
  let v196 : BitVec 32 := Scalar.extui v195
  let v197 : BitVec 32 := Scalar.addi v189 v196
  let c0_i32_55 : BitVec 32 := 0#32
  let v203 : BitVec 1 := Scalar.cmpi .sgt v199 c0_i32_55
  let v204 : BitVec 32 := Scalar.extui v203
  let v205 : BitVec 32 := Scalar.addi v197 v204
  let c0_i32_57 : BitVec 32 := 0#32
  let v211 : BitVec 1 := Scalar.cmpi .sgt v207 c0_i32_57
  let v212 : BitVec 32 := Scalar.extui v211
  let v213 : BitVec 32 := Scalar.addi v205 v212
  let c0_i32_59 : BitVec 32 := 0#32
  let v219 : BitVec 1 := Scalar.cmpi .sgt v215 c0_i32_59
  let v220 : BitVec 32 := Scalar.extui v219
  let v221 : BitVec 32 := Scalar.addi v213 v220
  let c0_i32_61 : BitVec 32 := 0#32
  let v227 : BitVec 1 := Scalar.cmpi .sgt v223 c0_i32_61
  let v228 : BitVec 32 := Scalar.extui v227
  let v229 : BitVec 32 := Scalar.addi v221 v228
  let c0_i32_63 : BitVec 32 := 0#32
  let v235 : BitVec 1 := Scalar.cmpi .sgt v231 c0_i32_63
  let v236 : BitVec 32 := Scalar.extui v235
  let v237 : BitVec 32 := Scalar.addi v229 v236
  let c0_i32_65 : BitVec 32 := 0#32
  let v243 : BitVec 1 := Scalar.cmpi .sgt v239 c0_i32_65
  let v244 : BitVec 32 := Scalar.extui v243
  let v245 : BitVec 32 := Scalar.addi v237 v244
  let c0_i32_67 : BitVec 32 := 0#32
  let v251 : BitVec 1 := Scalar.cmpi .sgt v247 c0_i32_67
  let v252 : BitVec 32 := Scalar.extui v251
  let v253 : BitVec 32 := Scalar.addi v245 v252
  let v280 : BitVec 32 := Scalar.subi v253 c0_i32_86
  let c1_i32_88 : BitVec 32 := 1#32
  let v282 : BitVec 32 := Scalar.divsi v280 c1_i32_88
  let v283 : BitVec 32 := Scalar.muli v282 c1_i32_88
  let v284 : BitVec 32 := Scalar.addi c0_i32_86 v283
  let c1_i32_89 : BitVec 32 := 1#32
  ⟨c0_i32_86, v284, c1_i32_89⟩

def k0_off56 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) : Fin 1 → Nat :=
  let c0_i32_86 : BitVec 32 := 0#32
  let c1_i32_89 : BitVec 32 := 1#32
  let arg18 : BitVec 32 := Scf.iv c0_i32_86 c1_i32_89 k0_t1
  let v287 : Index := Scalar.indexCast arg18
  ![v287.toNat]
def k0_off57 (v288 : BitVec 32) : Fin 1 → Nat :=
  let v290 : Index := Scalar.indexCast v288
  ![v290.toNat]

def k0_chk41 (v288 : BitVec 32) : Prop :=
  (∀ a, (k0_off57 v288) a + S1.size a ≤ S32.size a)
theorem k0_off57_inb : ∀ (v288 : BitVec 32) (k0_hw41 : k0_chk41 v288), ∀ a, (k0_off57 v288) a + S1.size a ≤ S32.size a := fun v288 k0_hw41 => k0_hw41

def k0_off58 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) : Fin 1 → Nat :=
  let c0_i32_86 : BitVec 32 := 0#32
  let c1_i32_89 : BitVec 32 := 1#32
  let arg18 : BitVec 32 := Scf.iv c0_i32_86 c1_i32_89 k0_t1
  let v317 : Index := Scalar.indexCast arg18
  ![v317.toNat]
def k0_off59 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) : Fin 1 → Nat :=
  let c0_i32_86 : BitVec 32 := 0#32
  let c1_i32_89 : BitVec 32 := 1#32
  let arg18 : BitVec 32 := Scf.iv c0_i32_86 c1_i32_89 k0_t1
  let c8_i32_99 : BitVec 32 := 8#32
  let v316 : BitVec 32 := Scalar.remsi arg18 c8_i32_99
  ![v316.toNat]
def k0_off60 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) : Fin 3 → Nat :=
  let c0_i32_86 : BitVec 32 := 0#32
  let c1_i32_89 : BitVec 32 := 1#32
  let arg18 : BitVec 32 := Scf.iv c0_i32_86 c1_i32_89 k0_t1
  let c8_i32_99 : BitVec 32 := 8#32
  let v316 : BitVec 32 := Scalar.remsi arg18 c8_i32_99
  let c0_i32_100 : BitVec 32 := 0#32
  let c0_i32_101 : BitVec 32 := 0#32
  ![v316.toNat, 0, 0]
def k0_off61 (v318 : BitVec 32) : Fin 3 → Nat :=
  let c0_i32_102 : BitVec 32 := 0#32
  let c0_i32_103 : BitVec 32 := 0#32
  ![v318.toNat, 0, 0]

def k0_chk42 (v318 : BitVec 32) : Prop :=
  (∀ a, (k0_off61 v318) a + S1x2048x1536.size a ≤ S32x2048x1536.size a) ∧
  (∀ (hinb : ∀ a, (k0_off61 v318) a + S1x2048x1536.size a ≤ S32x2048x1536.size a), (Rect.unit (s := S32x2048x1536) (k0_off61 v318) S1x2048x1536.size hinb).WholeWords (EltTy.packing .fp8e4m3))
theorem k0_off61_inb : ∀ (v318 : BitVec 32) (k0_hw42 : k0_chk42 v318), ∀ a, (k0_off61 v318) a + S1x2048x1536.size a ≤ S32x2048x1536.size a := fun v318 k0_hw42 => k0_hw42.1
theorem k0_off61_wordsfp8e4m3 : ∀ (v318 : BitVec 32) (k0_hw42 : k0_chk42 v318), (Rect.unit (s := S32x2048x1536) (k0_off61 v318) S1x2048x1536.size (k0_off61_inb v318 k0_hw42)).WholeWords (EltTy.packing .fp8e4m3) := fun v318 k0_hw42 => k0_hw42.2 (k0_off61_inb v318 k0_hw42)

@[reducible] def k0_t2_loop (v291 : BitVec 32) (v293 : BitVec 32) : Scf.Loop 32 :=
  let c0_i32_104 : BitVec 32 := 0#32
  let v294 : BitVec 32 := Scalar.addi v291 v293
  let c0_i32_92 : BitVec 32 := 0#32
  let v296 : BitVec 1 := Scalar.cmpi .sgt v291 c0_i32_92
  let v297 : BitVec 32 := Scalar.extui v296
  let c0_i32_93 : BitVec 32 := 0#32
  let v298 : BitVec 1 := Scalar.cmpi .slt v291 c0_i32_93
  let v299 : BitVec 32 := Scalar.extui v298
  let v300 : BitVec 32 := Scalar.subi v297 v299
  let c32_i32 : BitVec 32 := 32#32
  let c0_i32_94 : BitVec 32 := 0#32
  let v301 : BitVec 1 := Scalar.cmpi .sgt c32_i32 c0_i32_94
  let v302 : BitVec 32 := Scalar.extui v301
  let c0_i32_95 : BitVec 32 := 0#32
  let v303 : BitVec 1 := Scalar.cmpi .slt c32_i32 c0_i32_95
  let v304 : BitVec 32 := Scalar.extui v303
  let v305 : BitVec 32 := Scalar.subi v302 v304
  let v306 : BitVec 1 := Scalar.cmpi .ne v300 v305
  let v307 : BitVec 32 := Scalar.remsi v291 c32_i32
  let c0_i32_96 : BitVec 32 := 0#32
  let v308 : BitVec 1 := Scalar.cmpi .ne v307 c0_i32_96
  let v309 : BitVec 1 := Scalar.andi v306 v308
  let v295 : BitVec 32 := Scalar.divsi v291 c32_i32
  let c1_i32_97 : BitVec 32 := 1#32
  let v310 : BitVec 32 := Scalar.subi v295 c1_i32_97
  let v311 : BitVec 32 := Scalar.select v309 v310 v295
  let c32_i32_98 : BitVec 32 := 32#32
  let v312 : BitVec 32 := Scalar.muli v311 c32_i32_98
  let v313 : BitVec 32 := Scalar.subi v294 v312
  let c95_i32 : BitVec 32 := 95#32
  let v314 : BitVec 32 := Scalar.addi v313 c95_i32
  let c96_i32 : BitVec 32 := 96#32
  let v315 : BitVec 32 := Scalar.divsi v314 c96_i32
  let v325 : BitVec 32 := Scalar.subi v315 c0_i32_104
  let c1_i32_106 : BitVec 32 := 1#32
  let v327 : BitVec 32 := Scalar.divsi v325 c1_i32_106
  let v328 : BitVec 32 := Scalar.muli v327 c1_i32_106
  let v329 : BitVec 32 := Scalar.addi c0_i32_104 v328
  let c1_i32_107 : BitVec 32 := 1#32
  ⟨c0_i32_104, v329, c1_i32_107⟩

def k0_mult1 (v291 : BitVec 32) (v293 : BitVec 32) (k0_t2 : Fin (k0_t2_loop v291 v293).trips) : BitVec 32 :=
  let c0_i32_92 : BitVec 32 := 0#32
  let v296 : BitVec 1 := Scalar.cmpi .sgt v291 c0_i32_92
  let v297 : BitVec 32 := Scalar.extui v296
  let c0_i32_93 : BitVec 32 := 0#32
  let v298 : BitVec 1 := Scalar.cmpi .slt v291 c0_i32_93
  let v299 : BitVec 32 := Scalar.extui v298
  let v300 : BitVec 32 := Scalar.subi v297 v299
  let c32_i32 : BitVec 32 := 32#32
  let c0_i32_94 : BitVec 32 := 0#32
  let v301 : BitVec 1 := Scalar.cmpi .sgt c32_i32 c0_i32_94
  let v302 : BitVec 32 := Scalar.extui v301
  let c0_i32_95 : BitVec 32 := 0#32
  let v303 : BitVec 1 := Scalar.cmpi .slt c32_i32 c0_i32_95
  let v304 : BitVec 32 := Scalar.extui v303
  let v305 : BitVec 32 := Scalar.subi v302 v304
  let v306 : BitVec 1 := Scalar.cmpi .ne v300 v305
  let v307 : BitVec 32 := Scalar.remsi v291 c32_i32
  let c0_i32_96 : BitVec 32 := 0#32
  let v308 : BitVec 1 := Scalar.cmpi .ne v307 c0_i32_96
  let v309 : BitVec 1 := Scalar.andi v306 v308
  let v295 : BitVec 32 := Scalar.divsi v291 c32_i32
  let c1_i32_97 : BitVec 32 := 1#32
  let v310 : BitVec 32 := Scalar.subi v295 c1_i32_97
  let v311 : BitVec 32 := Scalar.select v309 v310 v295
  let c32_i32_98 : BitVec 32 := 32#32
  let v312 : BitVec 32 := Scalar.muli v311 c32_i32_98
  let c0_i32_104 : BitVec 32 := 0#32
  let c1_i32_107 : BitVec 32 := 1#32
  let arg20 : BitVec 32 := Scf.iv c0_i32_104 c1_i32_107 k0_t2
  let c96_i32_112 : BitVec 32 := 96#32
  let v336 : BitVec 32 := Scalar.muli arg20 c96_i32_112
  let v337 : BitVec 32 := Scalar.addi v312 v336
  let c672_i32 : BitVec 32 := 672#32
  let v338 : BitVec 32 := Scalar.minsi v337 c672_i32
  v338
def k0_off62 (v291 : BitVec 32) (v293 : BitVec 32) (k0_t2 : Fin (k0_t2_loop v291 v293).trips) : Fin 2 → Nat :=
  let c0_i32_92 : BitVec 32 := 0#32
  let v296 : BitVec 1 := Scalar.cmpi .sgt v291 c0_i32_92
  let v297 : BitVec 32 := Scalar.extui v296
  let c0_i32_93 : BitVec 32 := 0#32
  let v298 : BitVec 1 := Scalar.cmpi .slt v291 c0_i32_93
  let v299 : BitVec 32 := Scalar.extui v298
  let v300 : BitVec 32 := Scalar.subi v297 v299
  let c32_i32 : BitVec 32 := 32#32
  let c0_i32_94 : BitVec 32 := 0#32
  let v301 : BitVec 1 := Scalar.cmpi .sgt c32_i32 c0_i32_94
  let v302 : BitVec 32 := Scalar.extui v301
  let c0_i32_95 : BitVec 32 := 0#32
  let v303 : BitVec 1 := Scalar.cmpi .slt c32_i32 c0_i32_95
  let v304 : BitVec 32 := Scalar.extui v303
  let v305 : BitVec 32 := Scalar.subi v302 v304
  let v306 : BitVec 1 := Scalar.cmpi .ne v300 v305
  let v307 : BitVec 32 := Scalar.remsi v291 c32_i32
  let c0_i32_96 : BitVec 32 := 0#32
  let v308 : BitVec 1 := Scalar.cmpi .ne v307 c0_i32_96
  let v309 : BitVec 1 := Scalar.andi v306 v308
  let v295 : BitVec 32 := Scalar.divsi v291 c32_i32
  let c1_i32_97 : BitVec 32 := 1#32
  let v310 : BitVec 32 := Scalar.subi v295 c1_i32_97
  let v311 : BitVec 32 := Scalar.select v309 v310 v295
  let c32_i32_98 : BitVec 32 := 32#32
  let v312 : BitVec 32 := Scalar.muli v311 c32_i32_98
  let c0_i32_104 : BitVec 32 := 0#32
  let c1_i32_107 : BitVec 32 := 1#32
  let arg20 : BitVec 32 := Scf.iv c0_i32_104 c1_i32_107 k0_t2
  let c96_i32_112 : BitVec 32 := 96#32
  let v336 : BitVec 32 := Scalar.muli arg20 c96_i32_112
  let v337 : BitVec 32 := Scalar.addi v312 v336
  let c672_i32 : BitVec 32 := 672#32
  let v338 : BitVec 32 := Scalar.minsi v337 c672_i32
  let v339 : BitVec 32 := v338
  let v348 : Index := Scalar.indexCast v339
  let c0_113 : Index := 0#32
  ![v348.toNat, 0]
def k0_off63 (v291 : BitVec 32) (v293 : BitVec 32) (k0_t2 : Fin (k0_t2_loop v291 v293).trips) : Fin 2 → Nat :=
  let c0_i32_92 : BitVec 32 := 0#32
  let v296 : BitVec 1 := Scalar.cmpi .sgt v291 c0_i32_92
  let v297 : BitVec 32 := Scalar.extui v296
  let c0_i32_93 : BitVec 32 := 0#32
  let v298 : BitVec 1 := Scalar.cmpi .slt v291 c0_i32_93
  let v299 : BitVec 32 := Scalar.extui v298
  let v300 : BitVec 32 := Scalar.subi v297 v299
  let c32_i32 : BitVec 32 := 32#32
  let c0_i32_94 : BitVec 32 := 0#32
  let v301 : BitVec 1 := Scalar.cmpi .sgt c32_i32 c0_i32_94
  let v302 : BitVec 32 := Scalar.extui v301
  let c0_i32_95 : BitVec 32 := 0#32
  let v303 : BitVec 1 := Scalar.cmpi .slt c32_i32 c0_i32_95
  let v304 : BitVec 32 := Scalar.extui v303
  let v305 : BitVec 32 := Scalar.subi v302 v304
  let v306 : BitVec 1 := Scalar.cmpi .ne v300 v305
  let v307 : BitVec 32 := Scalar.remsi v291 c32_i32
  let c0_i32_96 : BitVec 32 := 0#32
  let v308 : BitVec 1 := Scalar.cmpi .ne v307 c0_i32_96
  let v309 : BitVec 1 := Scalar.andi v306 v308
  let v295 : BitVec 32 := Scalar.divsi v291 c32_i32
  let c1_i32_97 : BitVec 32 := 1#32
  let v310 : BitVec 32 := Scalar.subi v295 c1_i32_97
  let v311 : BitVec 32 := Scalar.select v309 v310 v295
  let c32_i32_98 : BitVec 32 := 32#32
  let v312 : BitVec 32 := Scalar.muli v311 c32_i32_98
  let c0_i32_104 : BitVec 32 := 0#32
  let c1_i32_107 : BitVec 32 := 1#32
  let arg20 : BitVec 32 := Scf.iv c0_i32_104 c1_i32_107 k0_t2
  let c96_i32_112 : BitVec 32 := 96#32
  let v336 : BitVec 32 := Scalar.muli arg20 c96_i32_112
  let v337 : BitVec 32 := Scalar.addi v312 v336
  let c672_i32 : BitVec 32 := 672#32
  let v338 : BitVec 32 := Scalar.minsi v337 c672_i32
  let v339 : BitVec 32 := v338
  let v350 : Index := Scalar.indexCast v339
  let c0_114 : Index := 0#32
  ![v350.toNat, 0]
def k0_off64 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) : Fin 3 → Nat :=
  let c0_i32_86 : BitVec 32 := 0#32
  let c1_i32_89 : BitVec 32 := 1#32
  let arg18 : BitVec 32 := Scf.iv c0_i32_86 c1_i32_89 k0_t1
  let c8_i32_91 : BitVec 32 := 8#32
  let v289 : BitVec 32 := Scalar.remsi arg18 c8_i32_91
  let v352 : Index := Scalar.indexCast v289
  let c0_115 : Index := 0#32
  let c0_116 : Index := 0#32
  ![v352.toNat, 0, 0]
def k0_off65 (v288 : BitVec 32) : Fin 2 → Nat :=
  let v358 : Index := Scalar.indexCast v288
  let c0_118 : Index := 0#32
  ![v358.toNat, 0]
def k0_off66 (v291 : BitVec 32) (v293 : BitVec 32) (k0_t2 : Fin (k0_t2_loop v291 v293).trips) : Fin 2 → Nat :=
  let c0_i32_92 : BitVec 32 := 0#32
  let v296 : BitVec 1 := Scalar.cmpi .sgt v291 c0_i32_92
  let v297 : BitVec 32 := Scalar.extui v296
  let c0_i32_93 : BitVec 32 := 0#32
  let v298 : BitVec 1 := Scalar.cmpi .slt v291 c0_i32_93
  let v299 : BitVec 32 := Scalar.extui v298
  let v300 : BitVec 32 := Scalar.subi v297 v299
  let c32_i32 : BitVec 32 := 32#32
  let c0_i32_94 : BitVec 32 := 0#32
  let v301 : BitVec 1 := Scalar.cmpi .sgt c32_i32 c0_i32_94
  let v302 : BitVec 32 := Scalar.extui v301
  let c0_i32_95 : BitVec 32 := 0#32
  let v303 : BitVec 1 := Scalar.cmpi .slt c32_i32 c0_i32_95
  let v304 : BitVec 32 := Scalar.extui v303
  let v305 : BitVec 32 := Scalar.subi v302 v304
  let v306 : BitVec 1 := Scalar.cmpi .ne v300 v305
  let v307 : BitVec 32 := Scalar.remsi v291 c32_i32
  let c0_i32_96 : BitVec 32 := 0#32
  let v308 : BitVec 1 := Scalar.cmpi .ne v307 c0_i32_96
  let v309 : BitVec 1 := Scalar.andi v306 v308
  let v295 : BitVec 32 := Scalar.divsi v291 c32_i32
  let c1_i32_97 : BitVec 32 := 1#32
  let v310 : BitVec 32 := Scalar.subi v295 c1_i32_97
  let v311 : BitVec 32 := Scalar.select v309 v310 v295
  let c32_i32_98 : BitVec 32 := 32#32
  let v312 : BitVec 32 := Scalar.muli v311 c32_i32_98
  let c0_i32_104 : BitVec 32 := 0#32
  let c1_i32_107 : BitVec 32 := 1#32
  let arg20 : BitVec 32 := Scf.iv c0_i32_104 c1_i32_107 k0_t2
  let c96_i32_112 : BitVec 32 := 96#32
  let v336 : BitVec 32 := Scalar.muli arg20 c96_i32_112
  let v337 : BitVec 32 := Scalar.addi v312 v336
  let c672_i32 : BitVec 32 := 672#32
  let v338 : BitVec 32 := Scalar.minsi v337 c672_i32
  let v339 : BitVec 32 := v338
  let v362 : Index := Scalar.indexCast v339
  let c0_119 : Index := 0#32
  ![v362.toNat, 0]
def k0_off67 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) : Fin 3 → Nat :=
  let c0_i32_86 : BitVec 32 := 0#32
  let c1_i32_89 : BitVec 32 := 1#32
  let arg18 : BitVec 32 := Scf.iv c0_i32_86 c1_i32_89 k0_t1
  let c8_i32_91 : BitVec 32 := 8#32
  let v289 : BitVec 32 := Scalar.remsi arg18 c8_i32_91
  let v372 : Index := Scalar.indexCast v289
  let c0_121 : Index := 0#32
  let c512 : Index := 512#32
  ![v372.toNat, 0, 512]
def k0_off68 (v288 : BitVec 32) : Fin 2 → Nat :=
  let v378 : Index := Scalar.indexCast v288
  let c512_123 : Index := 512#32
  ![v378.toNat, 512]
def k0_off69 (v291 : BitVec 32) (v293 : BitVec 32) (k0_t2 : Fin (k0_t2_loop v291 v293).trips) : Fin 2 → Nat :=
  let c0_i32_92 : BitVec 32 := 0#32
  let v296 : BitVec 1 := Scalar.cmpi .sgt v291 c0_i32_92
  let v297 : BitVec 32 := Scalar.extui v296
  let c0_i32_93 : BitVec 32 := 0#32
  let v298 : BitVec 1 := Scalar.cmpi .slt v291 c0_i32_93
  let v299 : BitVec 32 := Scalar.extui v298
  let v300 : BitVec 32 := Scalar.subi v297 v299
  let c32_i32 : BitVec 32 := 32#32
  let c0_i32_94 : BitVec 32 := 0#32
  let v301 : BitVec 1 := Scalar.cmpi .sgt c32_i32 c0_i32_94
  let v302 : BitVec 32 := Scalar.extui v301
  let c0_i32_95 : BitVec 32 := 0#32
  let v303 : BitVec 1 := Scalar.cmpi .slt c32_i32 c0_i32_95
  let v304 : BitVec 32 := Scalar.extui v303
  let v305 : BitVec 32 := Scalar.subi v302 v304
  let v306 : BitVec 1 := Scalar.cmpi .ne v300 v305
  let v307 : BitVec 32 := Scalar.remsi v291 c32_i32
  let c0_i32_96 : BitVec 32 := 0#32
  let v308 : BitVec 1 := Scalar.cmpi .ne v307 c0_i32_96
  let v309 : BitVec 1 := Scalar.andi v306 v308
  let v295 : BitVec 32 := Scalar.divsi v291 c32_i32
  let c1_i32_97 : BitVec 32 := 1#32
  let v310 : BitVec 32 := Scalar.subi v295 c1_i32_97
  let v311 : BitVec 32 := Scalar.select v309 v310 v295
  let c32_i32_98 : BitVec 32 := 32#32
  let v312 : BitVec 32 := Scalar.muli v311 c32_i32_98
  let c0_i32_104 : BitVec 32 := 0#32
  let c1_i32_107 : BitVec 32 := 1#32
  let arg20 : BitVec 32 := Scf.iv c0_i32_104 c1_i32_107 k0_t2
  let c96_i32_112 : BitVec 32 := 96#32
  let v336 : BitVec 32 := Scalar.muli arg20 c96_i32_112
  let v337 : BitVec 32 := Scalar.addi v312 v336
  let c672_i32 : BitVec 32 := 672#32
  let v338 : BitVec 32 := Scalar.minsi v337 c672_i32
  let v339 : BitVec 32 := v338
  let v382 : Index := Scalar.indexCast v339
  let c512_124 : Index := 512#32
  ![v382.toNat, 512]
def k0_off70 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) : Fin 3 → Nat :=
  let c0_i32_86 : BitVec 32 := 0#32
  let c1_i32_89 : BitVec 32 := 1#32
  let arg18 : BitVec 32 := Scf.iv c0_i32_86 c1_i32_89 k0_t1
  let c8_i32_91 : BitVec 32 := 8#32
  let v289 : BitVec 32 := Scalar.remsi arg18 c8_i32_91
  let v392 : Index := Scalar.indexCast v289
  let c0_126 : Index := 0#32
  let c1024 : Index := 1024#32
  ![v392.toNat, 0, 1024]
def k0_off71 (v288 : BitVec 32) : Fin 2 → Nat :=
  let v398 : Index := Scalar.indexCast v288
  let c1024_128 : Index := 1024#32
  ![v398.toNat, 1024]
def k0_off72 (v291 : BitVec 32) (v293 : BitVec 32) (k0_t2 : Fin (k0_t2_loop v291 v293).trips) : Fin 2 → Nat :=
  let c0_i32_92 : BitVec 32 := 0#32
  let v296 : BitVec 1 := Scalar.cmpi .sgt v291 c0_i32_92
  let v297 : BitVec 32 := Scalar.extui v296
  let c0_i32_93 : BitVec 32 := 0#32
  let v298 : BitVec 1 := Scalar.cmpi .slt v291 c0_i32_93
  let v299 : BitVec 32 := Scalar.extui v298
  let v300 : BitVec 32 := Scalar.subi v297 v299
  let c32_i32 : BitVec 32 := 32#32
  let c0_i32_94 : BitVec 32 := 0#32
  let v301 : BitVec 1 := Scalar.cmpi .sgt c32_i32 c0_i32_94
  let v302 : BitVec 32 := Scalar.extui v301
  let c0_i32_95 : BitVec 32 := 0#32
  let v303 : BitVec 1 := Scalar.cmpi .slt c32_i32 c0_i32_95
  let v304 : BitVec 32 := Scalar.extui v303
  let v305 : BitVec 32 := Scalar.subi v302 v304
  let v306 : BitVec 1 := Scalar.cmpi .ne v300 v305
  let v307 : BitVec 32 := Scalar.remsi v291 c32_i32
  let c0_i32_96 : BitVec 32 := 0#32
  let v308 : BitVec 1 := Scalar.cmpi .ne v307 c0_i32_96
  let v309 : BitVec 1 := Scalar.andi v306 v308
  let v295 : BitVec 32 := Scalar.divsi v291 c32_i32
  let c1_i32_97 : BitVec 32 := 1#32
  let v310 : BitVec 32 := Scalar.subi v295 c1_i32_97
  let v311 : BitVec 32 := Scalar.select v309 v310 v295
  let c32_i32_98 : BitVec 32 := 32#32
  let v312 : BitVec 32 := Scalar.muli v311 c32_i32_98
  let c0_i32_104 : BitVec 32 := 0#32
  let c1_i32_107 : BitVec 32 := 1#32
  let arg20 : BitVec 32 := Scf.iv c0_i32_104 c1_i32_107 k0_t2
  let c96_i32_112 : BitVec 32 := 96#32
  let v336 : BitVec 32 := Scalar.muli arg20 c96_i32_112
  let v337 : BitVec 32 := Scalar.addi v312 v336
  let c672_i32 : BitVec 32 := 672#32
  let v338 : BitVec 32 := Scalar.minsi v337 c672_i32
  let v339 : BitVec 32 := v338
  let v402 : Index := Scalar.indexCast v339
  let c1024_129 : Index := 1024#32
  ![v402.toNat, 1024]
@[reducible] def k0_t3_loop (v291 : BitVec 32) (v293 : BitVec 32) : Scf.Loop 32 :=
  let c0_i32_104 : BitVec 32 := 0#32
  let v294 : BitVec 32 := Scalar.addi v291 v293
  let c0_i32_92 : BitVec 32 := 0#32
  let v296 : BitVec 1 := Scalar.cmpi .sgt v291 c0_i32_92
  let v297 : BitVec 32 := Scalar.extui v296
  let c0_i32_93 : BitVec 32 := 0#32
  let v298 : BitVec 1 := Scalar.cmpi .slt v291 c0_i32_93
  let v299 : BitVec 32 := Scalar.extui v298
  let v300 : BitVec 32 := Scalar.subi v297 v299
  let c32_i32 : BitVec 32 := 32#32
  let c0_i32_94 : BitVec 32 := 0#32
  let v301 : BitVec 1 := Scalar.cmpi .sgt c32_i32 c0_i32_94
  let v302 : BitVec 32 := Scalar.extui v301
  let c0_i32_95 : BitVec 32 := 0#32
  let v303 : BitVec 1 := Scalar.cmpi .slt c32_i32 c0_i32_95
  let v304 : BitVec 32 := Scalar.extui v303
  let v305 : BitVec 32 := Scalar.subi v302 v304
  let v306 : BitVec 1 := Scalar.cmpi .ne v300 v305
  let v307 : BitVec 32 := Scalar.remsi v291 c32_i32
  let c0_i32_96 : BitVec 32 := 0#32
  let v308 : BitVec 1 := Scalar.cmpi .ne v307 c0_i32_96
  let v309 : BitVec 1 := Scalar.andi v306 v308
  let v295 : BitVec 32 := Scalar.divsi v291 c32_i32
  let c1_i32_97 : BitVec 32 := 1#32
  let v310 : BitVec 32 := Scalar.subi v295 c1_i32_97
  let v311 : BitVec 32 := Scalar.select v309 v310 v295
  let c32_i32_98 : BitVec 32 := 32#32
  let v312 : BitVec 32 := Scalar.muli v311 c32_i32_98
  let v313 : BitVec 32 := Scalar.subi v294 v312
  let c95_i32 : BitVec 32 := 95#32
  let v314 : BitVec 32 := Scalar.addi v313 c95_i32
  let c96_i32 : BitVec 32 := 96#32
  let v315 : BitVec 32 := Scalar.divsi v314 c96_i32
  let v325 : BitVec 32 := Scalar.subi v315 c0_i32_104
  let c1_i32_106 : BitVec 32 := 1#32
  let v327 : BitVec 32 := Scalar.divsi v325 c1_i32_106
  let v328 : BitVec 32 := Scalar.muli v327 c1_i32_106
  let v329 : BitVec 32 := Scalar.addi c0_i32_104 v328
  let v326 : BitVec 32 := Scalar.addi c0_i32_104 v325
  let c1_i32_108 : BitVec 32 := 1#32
  ⟨v329, v326, c1_i32_108⟩
def k0_mult2 (v291 : BitVec 32) (v293 : BitVec 32) (k0_t3 : Fin (k0_t3_loop v291 v293).trips) : BitVec 32 :=
  let c0_i32_92 : BitVec 32 := 0#32
  let v296 : BitVec 1 := Scalar.cmpi .sgt v291 c0_i32_92
  let v297 : BitVec 32 := Scalar.extui v296
  let c0_i32_93 : BitVec 32 := 0#32
  let v298 : BitVec 1 := Scalar.cmpi .slt v291 c0_i32_93
  let v299 : BitVec 32 := Scalar.extui v298
  let v300 : BitVec 32 := Scalar.subi v297 v299
  let c32_i32 : BitVec 32 := 32#32
  let c0_i32_94 : BitVec 32 := 0#32
  let v301 : BitVec 1 := Scalar.cmpi .sgt c32_i32 c0_i32_94
  let v302 : BitVec 32 := Scalar.extui v301
  let c0_i32_95 : BitVec 32 := 0#32
  let v303 : BitVec 1 := Scalar.cmpi .slt c32_i32 c0_i32_95
  let v304 : BitVec 32 := Scalar.extui v303
  let v305 : BitVec 32 := Scalar.subi v302 v304
  let v306 : BitVec 1 := Scalar.cmpi .ne v300 v305
  let v307 : BitVec 32 := Scalar.remsi v291 c32_i32
  let c0_i32_96 : BitVec 32 := 0#32
  let v308 : BitVec 1 := Scalar.cmpi .ne v307 c0_i32_96
  let v309 : BitVec 1 := Scalar.andi v306 v308
  let v295 : BitVec 32 := Scalar.divsi v291 c32_i32
  let c1_i32_97 : BitVec 32 := 1#32
  let v310 : BitVec 32 := Scalar.subi v295 c1_i32_97
  let v311 : BitVec 32 := Scalar.select v309 v310 v295
  let c32_i32_98 : BitVec 32 := 32#32
  let v312 : BitVec 32 := Scalar.muli v311 c32_i32_98
  let c0_i32_104 : BitVec 32 := 0#32
  let v294 : BitVec 32 := Scalar.addi v291 v293
  let v313 : BitVec 32 := Scalar.subi v294 v312
  let c95_i32 : BitVec 32 := 95#32
  let v314 : BitVec 32 := Scalar.addi v313 c95_i32
  let c96_i32 : BitVec 32 := 96#32
  let v315 : BitVec 32 := Scalar.divsi v314 c96_i32
  let v325 : BitVec 32 := Scalar.subi v315 c0_i32_104
  let c1_i32_106 : BitVec 32 := 1#32
  let v327 : BitVec 32 := Scalar.divsi v325 c1_i32_106
  let v328 : BitVec 32 := Scalar.muli v327 c1_i32_106
  let v329 : BitVec 32 := Scalar.addi c0_i32_104 v328
  let c1_i32_108 : BitVec 32 := 1#32
  let arg20 : BitVec 32 := Scf.iv v329 c1_i32_108 k0_t3
  let c96_i32_112 : BitVec 32 := 96#32
  let v336 : BitVec 32 := Scalar.muli arg20 c96_i32_112
  let v337 : BitVec 32 := Scalar.addi v312 v336
  let c672_i32 : BitVec 32 := 672#32
  let v338 : BitVec 32 := Scalar.minsi v337 c672_i32
  v338
def k0_off73 (v291 : BitVec 32) (v293 : BitVec 32) (k0_t3 : Fin (k0_t3_loop v291 v293).trips) : Fin 2 → Nat :=
  let c0_i32_92 : BitVec 32 := 0#32
  let v296 : BitVec 1 := Scalar.cmpi .sgt v291 c0_i32_92
  let v297 : BitVec 32 := Scalar.extui v296
  let c0_i32_93 : BitVec 32 := 0#32
  let v298 : BitVec 1 := Scalar.cmpi .slt v291 c0_i32_93
  let v299 : BitVec 32 := Scalar.extui v298
  let v300 : BitVec 32 := Scalar.subi v297 v299
  let c32_i32 : BitVec 32 := 32#32
  let c0_i32_94 : BitVec 32 := 0#32
  let v301 : BitVec 1 := Scalar.cmpi .sgt c32_i32 c0_i32_94
  let v302 : BitVec 32 := Scalar.extui v301
  let c0_i32_95 : BitVec 32 := 0#32
  let v303 : BitVec 1 := Scalar.cmpi .slt c32_i32 c0_i32_95
  let v304 : BitVec 32 := Scalar.extui v303
  let v305 : BitVec 32 := Scalar.subi v302 v304
  let v306 : BitVec 1 := Scalar.cmpi .ne v300 v305
  let v307 : BitVec 32 := Scalar.remsi v291 c32_i32
  let c0_i32_96 : BitVec 32 := 0#32
  let v308 : BitVec 1 := Scalar.cmpi .ne v307 c0_i32_96
  let v309 : BitVec 1 := Scalar.andi v306 v308
  let v295 : BitVec 32 := Scalar.divsi v291 c32_i32
  let c1_i32_97 : BitVec 32 := 1#32
  let v310 : BitVec 32 := Scalar.subi v295 c1_i32_97
  let v311 : BitVec 32 := Scalar.select v309 v310 v295
  let c32_i32_98 : BitVec 32 := 32#32
  let v312 : BitVec 32 := Scalar.muli v311 c32_i32_98
  let c0_i32_104 : BitVec 32 := 0#32
  let v294 : BitVec 32 := Scalar.addi v291 v293
  let v313 : BitVec 32 := Scalar.subi v294 v312
  let c95_i32 : BitVec 32 := 95#32
  let v314 : BitVec 32 := Scalar.addi v313 c95_i32
  let c96_i32 : BitVec 32 := 96#32
  let v315 : BitVec 32 := Scalar.divsi v314 c96_i32
  let v325 : BitVec 32 := Scalar.subi v315 c0_i32_104
  let c1_i32_106 : BitVec 32 := 1#32
  let v327 : BitVec 32 := Scalar.divsi v325 c1_i32_106
  let v328 : BitVec 32 := Scalar.muli v327 c1_i32_106
  let v329 : BitVec 32 := Scalar.addi c0_i32_104 v328
  let c1_i32_108 : BitVec 32 := 1#32
  let arg20 : BitVec 32 := Scf.iv v329 c1_i32_108 k0_t3
  let c96_i32_112 : BitVec 32 := 96#32
  let v336 : BitVec 32 := Scalar.muli arg20 c96_i32_112
  let v337 : BitVec 32 := Scalar.addi v312 v336
  let c672_i32 : BitVec 32 := 672#32
  let v338 : BitVec 32 := Scalar.minsi v337 c672_i32
  let v339 : BitVec 32 := v338
  let v348 : Index := Scalar.indexCast v339
  let c0_113 : Index := 0#32
  ![v348.toNat, 0]
def k0_off74 (v291 : BitVec 32) (v293 : BitVec 32) (k0_t3 : Fin (k0_t3_loop v291 v293).trips) : Fin 2 → Nat :=
  let c0_i32_92 : BitVec 32 := 0#32
  let v296 : BitVec 1 := Scalar.cmpi .sgt v291 c0_i32_92
  let v297 : BitVec 32 := Scalar.extui v296
  let c0_i32_93 : BitVec 32 := 0#32
  let v298 : BitVec 1 := Scalar.cmpi .slt v291 c0_i32_93
  let v299 : BitVec 32 := Scalar.extui v298
  let v300 : BitVec 32 := Scalar.subi v297 v299
  let c32_i32 : BitVec 32 := 32#32
  let c0_i32_94 : BitVec 32 := 0#32
  let v301 : BitVec 1 := Scalar.cmpi .sgt c32_i32 c0_i32_94
  let v302 : BitVec 32 := Scalar.extui v301
  let c0_i32_95 : BitVec 32 := 0#32
  let v303 : BitVec 1 := Scalar.cmpi .slt c32_i32 c0_i32_95
  let v304 : BitVec 32 := Scalar.extui v303
  let v305 : BitVec 32 := Scalar.subi v302 v304
  let v306 : BitVec 1 := Scalar.cmpi .ne v300 v305
  let v307 : BitVec 32 := Scalar.remsi v291 c32_i32
  let c0_i32_96 : BitVec 32 := 0#32
  let v308 : BitVec 1 := Scalar.cmpi .ne v307 c0_i32_96
  let v309 : BitVec 1 := Scalar.andi v306 v308
  let v295 : BitVec 32 := Scalar.divsi v291 c32_i32
  let c1_i32_97 : BitVec 32 := 1#32
  let v310 : BitVec 32 := Scalar.subi v295 c1_i32_97
  let v311 : BitVec 32 := Scalar.select v309 v310 v295
  let c32_i32_98 : BitVec 32 := 32#32
  let v312 : BitVec 32 := Scalar.muli v311 c32_i32_98
  let c0_i32_104 : BitVec 32 := 0#32
  let v294 : BitVec 32 := Scalar.addi v291 v293
  let v313 : BitVec 32 := Scalar.subi v294 v312
  let c95_i32 : BitVec 32 := 95#32
  let v314 : BitVec 32 := Scalar.addi v313 c95_i32
  let c96_i32 : BitVec 32 := 96#32
  let v315 : BitVec 32 := Scalar.divsi v314 c96_i32
  let v325 : BitVec 32 := Scalar.subi v315 c0_i32_104
  let c1_i32_106 : BitVec 32 := 1#32
  let v327 : BitVec 32 := Scalar.divsi v325 c1_i32_106
  let v328 : BitVec 32 := Scalar.muli v327 c1_i32_106
  let v329 : BitVec 32 := Scalar.addi c0_i32_104 v328
  let c1_i32_108 : BitVec 32 := 1#32
  let arg20 : BitVec 32 := Scf.iv v329 c1_i32_108 k0_t3
  let c96_i32_112 : BitVec 32 := 96#32
  let v336 : BitVec 32 := Scalar.muli arg20 c96_i32_112
  let v337 : BitVec 32 := Scalar.addi v312 v336
  let c672_i32 : BitVec 32 := 672#32
  let v338 : BitVec 32 := Scalar.minsi v337 c672_i32
  let v339 : BitVec 32 := v338
  let v350 : Index := Scalar.indexCast v339
  let c0_114 : Index := 0#32
  ![v350.toNat, 0]
def k0_off75 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) : Fin 3 → Nat :=
  let c0_i32_86 : BitVec 32 := 0#32
  let c1_i32_89 : BitVec 32 := 1#32
  let arg18 : BitVec 32 := Scf.iv c0_i32_86 c1_i32_89 k0_t1
  let c8_i32_91 : BitVec 32 := 8#32
  let v289 : BitVec 32 := Scalar.remsi arg18 c8_i32_91
  let v352 : Index := Scalar.indexCast v289
  let c0_115 : Index := 0#32
  let c0_116 : Index := 0#32
  ![v352.toNat, 0, 0]
def k0_off76 (v288 : BitVec 32) : Fin 2 → Nat :=
  let v358 : Index := Scalar.indexCast v288
  let c0_118 : Index := 0#32
  ![v358.toNat, 0]
def k0_off77 (v291 : BitVec 32) (v293 : BitVec 32) (k0_t3 : Fin (k0_t3_loop v291 v293).trips) : Fin 2 → Nat :=
  let c0_i32_92 : BitVec 32 := 0#32
  let v296 : BitVec 1 := Scalar.cmpi .sgt v291 c0_i32_92
  let v297 : BitVec 32 := Scalar.extui v296
  let c0_i32_93 : BitVec 32 := 0#32
  let v298 : BitVec 1 := Scalar.cmpi .slt v291 c0_i32_93
  let v299 : BitVec 32 := Scalar.extui v298
  let v300 : BitVec 32 := Scalar.subi v297 v299
  let c32_i32 : BitVec 32 := 32#32
  let c0_i32_94 : BitVec 32 := 0#32
  let v301 : BitVec 1 := Scalar.cmpi .sgt c32_i32 c0_i32_94
  let v302 : BitVec 32 := Scalar.extui v301
  let c0_i32_95 : BitVec 32 := 0#32
  let v303 : BitVec 1 := Scalar.cmpi .slt c32_i32 c0_i32_95
  let v304 : BitVec 32 := Scalar.extui v303
  let v305 : BitVec 32 := Scalar.subi v302 v304
  let v306 : BitVec 1 := Scalar.cmpi .ne v300 v305
  let v307 : BitVec 32 := Scalar.remsi v291 c32_i32
  let c0_i32_96 : BitVec 32 := 0#32
  let v308 : BitVec 1 := Scalar.cmpi .ne v307 c0_i32_96
  let v309 : BitVec 1 := Scalar.andi v306 v308
  let v295 : BitVec 32 := Scalar.divsi v291 c32_i32
  let c1_i32_97 : BitVec 32 := 1#32
  let v310 : BitVec 32 := Scalar.subi v295 c1_i32_97
  let v311 : BitVec 32 := Scalar.select v309 v310 v295
  let c32_i32_98 : BitVec 32 := 32#32
  let v312 : BitVec 32 := Scalar.muli v311 c32_i32_98
  let c0_i32_104 : BitVec 32 := 0#32
  let v294 : BitVec 32 := Scalar.addi v291 v293
  let v313 : BitVec 32 := Scalar.subi v294 v312
  let c95_i32 : BitVec 32 := 95#32
  let v314 : BitVec 32 := Scalar.addi v313 c95_i32
  let c96_i32 : BitVec 32 := 96#32
  let v315 : BitVec 32 := Scalar.divsi v314 c96_i32
  let v325 : BitVec 32 := Scalar.subi v315 c0_i32_104
  let c1_i32_106 : BitVec 32 := 1#32
  let v327 : BitVec 32 := Scalar.divsi v325 c1_i32_106
  let v328 : BitVec 32 := Scalar.muli v327 c1_i32_106
  let v329 : BitVec 32 := Scalar.addi c0_i32_104 v328
  let c1_i32_108 : BitVec 32 := 1#32
  let arg20 : BitVec 32 := Scf.iv v329 c1_i32_108 k0_t3
  let c96_i32_112 : BitVec 32 := 96#32
  let v336 : BitVec 32 := Scalar.muli arg20 c96_i32_112
  let v337 : BitVec 32 := Scalar.addi v312 v336
  let c672_i32 : BitVec 32 := 672#32
  let v338 : BitVec 32 := Scalar.minsi v337 c672_i32
  let v339 : BitVec 32 := v338
  let v362 : Index := Scalar.indexCast v339
  let c0_119 : Index := 0#32
  ![v362.toNat, 0]
def k0_off78 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) : Fin 3 → Nat :=
  let c0_i32_86 : BitVec 32 := 0#32
  let c1_i32_89 : BitVec 32 := 1#32
  let arg18 : BitVec 32 := Scf.iv c0_i32_86 c1_i32_89 k0_t1
  let c8_i32_91 : BitVec 32 := 8#32
  let v289 : BitVec 32 := Scalar.remsi arg18 c8_i32_91
  let v372 : Index := Scalar.indexCast v289
  let c0_121 : Index := 0#32
  let c512 : Index := 512#32
  ![v372.toNat, 0, 512]
def k0_off79 (v288 : BitVec 32) : Fin 2 → Nat :=
  let v378 : Index := Scalar.indexCast v288
  let c512_123 : Index := 512#32
  ![v378.toNat, 512]
def k0_off80 (v291 : BitVec 32) (v293 : BitVec 32) (k0_t3 : Fin (k0_t3_loop v291 v293).trips) : Fin 2 → Nat :=
  let c0_i32_92 : BitVec 32 := 0#32
  let v296 : BitVec 1 := Scalar.cmpi .sgt v291 c0_i32_92
  let v297 : BitVec 32 := Scalar.extui v296
  let c0_i32_93 : BitVec 32 := 0#32
  let v298 : BitVec 1 := Scalar.cmpi .slt v291 c0_i32_93
  let v299 : BitVec 32 := Scalar.extui v298
  let v300 : BitVec 32 := Scalar.subi v297 v299
  let c32_i32 : BitVec 32 := 32#32
  let c0_i32_94 : BitVec 32 := 0#32
  let v301 : BitVec 1 := Scalar.cmpi .sgt c32_i32 c0_i32_94
  let v302 : BitVec 32 := Scalar.extui v301
  let c0_i32_95 : BitVec 32 := 0#32
  let v303 : BitVec 1 := Scalar.cmpi .slt c32_i32 c0_i32_95
  let v304 : BitVec 32 := Scalar.extui v303
  let v305 : BitVec 32 := Scalar.subi v302 v304
  let v306 : BitVec 1 := Scalar.cmpi .ne v300 v305
  let v307 : BitVec 32 := Scalar.remsi v291 c32_i32
  let c0_i32_96 : BitVec 32 := 0#32
  let v308 : BitVec 1 := Scalar.cmpi .ne v307 c0_i32_96
  let v309 : BitVec 1 := Scalar.andi v306 v308
  let v295 : BitVec 32 := Scalar.divsi v291 c32_i32
  let c1_i32_97 : BitVec 32 := 1#32
  let v310 : BitVec 32 := Scalar.subi v295 c1_i32_97
  let v311 : BitVec 32 := Scalar.select v309 v310 v295
  let c32_i32_98 : BitVec 32 := 32#32
  let v312 : BitVec 32 := Scalar.muli v311 c32_i32_98
  let c0_i32_104 : BitVec 32 := 0#32
  let v294 : BitVec 32 := Scalar.addi v291 v293
  let v313 : BitVec 32 := Scalar.subi v294 v312
  let c95_i32 : BitVec 32 := 95#32
  let v314 : BitVec 32 := Scalar.addi v313 c95_i32
  let c96_i32 : BitVec 32 := 96#32
  let v315 : BitVec 32 := Scalar.divsi v314 c96_i32
  let v325 : BitVec 32 := Scalar.subi v315 c0_i32_104
  let c1_i32_106 : BitVec 32 := 1#32
  let v327 : BitVec 32 := Scalar.divsi v325 c1_i32_106
  let v328 : BitVec 32 := Scalar.muli v327 c1_i32_106
  let v329 : BitVec 32 := Scalar.addi c0_i32_104 v328
  let c1_i32_108 : BitVec 32 := 1#32
  let arg20 : BitVec 32 := Scf.iv v329 c1_i32_108 k0_t3
  let c96_i32_112 : BitVec 32 := 96#32
  let v336 : BitVec 32 := Scalar.muli arg20 c96_i32_112
  let v337 : BitVec 32 := Scalar.addi v312 v336
  let c672_i32 : BitVec 32 := 672#32
  let v338 : BitVec 32 := Scalar.minsi v337 c672_i32
  let v339 : BitVec 32 := v338
  let v382 : Index := Scalar.indexCast v339
  let c512_124 : Index := 512#32
  ![v382.toNat, 512]
def k0_off81 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) : Fin 3 → Nat :=
  let c0_i32_86 : BitVec 32 := 0#32
  let c1_i32_89 : BitVec 32 := 1#32
  let arg18 : BitVec 32 := Scf.iv c0_i32_86 c1_i32_89 k0_t1
  let c8_i32_91 : BitVec 32 := 8#32
  let v289 : BitVec 32 := Scalar.remsi arg18 c8_i32_91
  let v392 : Index := Scalar.indexCast v289
  let c0_126 : Index := 0#32
  let c1024 : Index := 1024#32
  ![v392.toNat, 0, 1024]
def k0_off82 (v288 : BitVec 32) : Fin 2 → Nat :=
  let v398 : Index := Scalar.indexCast v288
  let c1024_128 : Index := 1024#32
  ![v398.toNat, 1024]
def k0_off83 (v291 : BitVec 32) (v293 : BitVec 32) (k0_t3 : Fin (k0_t3_loop v291 v293).trips) : Fin 2 → Nat :=
  let c0_i32_92 : BitVec 32 := 0#32
  let v296 : BitVec 1 := Scalar.cmpi .sgt v291 c0_i32_92
  let v297 : BitVec 32 := Scalar.extui v296
  let c0_i32_93 : BitVec 32 := 0#32
  let v298 : BitVec 1 := Scalar.cmpi .slt v291 c0_i32_93
  let v299 : BitVec 32 := Scalar.extui v298
  let v300 : BitVec 32 := Scalar.subi v297 v299
  let c32_i32 : BitVec 32 := 32#32
  let c0_i32_94 : BitVec 32 := 0#32
  let v301 : BitVec 1 := Scalar.cmpi .sgt c32_i32 c0_i32_94
  let v302 : BitVec 32 := Scalar.extui v301
  let c0_i32_95 : BitVec 32 := 0#32
  let v303 : BitVec 1 := Scalar.cmpi .slt c32_i32 c0_i32_95
  let v304 : BitVec 32 := Scalar.extui v303
  let v305 : BitVec 32 := Scalar.subi v302 v304
  let v306 : BitVec 1 := Scalar.cmpi .ne v300 v305
  let v307 : BitVec 32 := Scalar.remsi v291 c32_i32
  let c0_i32_96 : BitVec 32 := 0#32
  let v308 : BitVec 1 := Scalar.cmpi .ne v307 c0_i32_96
  let v309 : BitVec 1 := Scalar.andi v306 v308
  let v295 : BitVec 32 := Scalar.divsi v291 c32_i32
  let c1_i32_97 : BitVec 32 := 1#32
  let v310 : BitVec 32 := Scalar.subi v295 c1_i32_97
  let v311 : BitVec 32 := Scalar.select v309 v310 v295
  let c32_i32_98 : BitVec 32 := 32#32
  let v312 : BitVec 32 := Scalar.muli v311 c32_i32_98
  let c0_i32_104 : BitVec 32 := 0#32
  let v294 : BitVec 32 := Scalar.addi v291 v293
  let v313 : BitVec 32 := Scalar.subi v294 v312
  let c95_i32 : BitVec 32 := 95#32
  let v314 : BitVec 32 := Scalar.addi v313 c95_i32
  let c96_i32 : BitVec 32 := 96#32
  let v315 : BitVec 32 := Scalar.divsi v314 c96_i32
  let v325 : BitVec 32 := Scalar.subi v315 c0_i32_104
  let c1_i32_106 : BitVec 32 := 1#32
  let v327 : BitVec 32 := Scalar.divsi v325 c1_i32_106
  let v328 : BitVec 32 := Scalar.muli v327 c1_i32_106
  let v329 : BitVec 32 := Scalar.addi c0_i32_104 v328
  let c1_i32_108 : BitVec 32 := 1#32
  let arg20 : BitVec 32 := Scf.iv v329 c1_i32_108 k0_t3
  let c96_i32_112 : BitVec 32 := 96#32
  let v336 : BitVec 32 := Scalar.muli arg20 c96_i32_112
  let v337 : BitVec 32 := Scalar.addi v312 v336
  let c672_i32 : BitVec 32 := 672#32
  let v338 : BitVec 32 := Scalar.minsi v337 c672_i32
  let v339 : BitVec 32 := v338
  let v402 : Index := Scalar.indexCast v339
  let c1024_129 : Index := 1024#32
  ![v402.toNat, 1024]

def k0_chk43 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) : Prop :=
  ((k0_t2_loop v291 v293).OK) ∧
  (∀ k0_t2 : Fin (k0_t2_loop v291 v293).trips, 32 ∣ (k0_mult1 v291 v293 k0_t2).toNat) ∧
  (∀ k0_t2 : Fin (k0_t2_loop v291 v293).trips, ∀ a, (k0_off62 v291 v293 k0_t2) a + S96x2048.size a ≤ S768x2048.size a) ∧
  (∀ k0_t2 : Fin (k0_t2_loop v291 v293).trips, ∀ a, (k0_off63 v291 v293 k0_t2) a + S96x1.size a ≤ S768x1.size a) ∧
  (∀ k0_t2 : Fin (k0_t2_loop v291 v293).trips, ∀ a, (k0_off64 v0 v7 v15 v23 v31 v39 v47 v55 v63 v71 v79 v87 v95 v103 v111 v119 v127 v135 v143 v151 v159 v167 v175 v183 v191 v199 v207 v215 v223 v231 v239 v247 k0_t1) a + S1x2048x512.size a ≤ S8x2048x1536.size a) ∧
  (∀ k0_t2 : Fin (k0_t2_loop v291 v293).trips, ∀ a, (k0_off65 v288) a + S1x512.size a ≤ S32x1536.size a) ∧
  (∀ k0_t2 : Fin (k0_t2_loop v291 v293).trips, ∀ a, (k0_off66 v291 v293 k0_t2) a + S96x512.size a ≤ S768x1536.size a) ∧
  (∀ k0_t2 : Fin (k0_t2_loop v291 v293).trips, ∀ (hinb : ∀ a, (k0_off66 v291 v293 k0_t2) a + S96x512.size a ≤ S768x1536.size a), (Rect.unit (s := S768x1536) (k0_off66 v291 v293 k0_t2) S96x512.size hinb).PackedRows (EltTy.packing .bf16)) ∧
  (∀ k0_t2 : Fin (k0_t2_loop v291 v293).trips, ∀ a, (k0_off67 v0 v7 v15 v23 v31 v39 v47 v55 v63 v71 v79 v87 v95 v103 v111 v119 v127 v135 v143 v151 v159 v167 v175 v183 v191 v199 v207 v215 v223 v231 v239 v247 k0_t1) a + S1x2048x512.size a ≤ S8x2048x1536.size a) ∧
  (∀ k0_t2 : Fin (k0_t2_loop v291 v293).trips, ∀ a, (k0_off68 v288) a + S1x512.size a ≤ S32x1536.size a) ∧
  (∀ k0_t2 : Fin (k0_t2_loop v291 v293).trips, ∀ a, (k0_off69 v291 v293 k0_t2) a + S96x512.size a ≤ S768x1536.size a) ∧
  (∀ k0_t2 : Fin (k0_t2_loop v291 v293).trips, ∀ (hinb : ∀ a, (k0_off69 v291 v293 k0_t2) a + S96x512.size a ≤ S768x1536.size a), (Rect.unit (s := S768x1536) (k0_off69 v291 v293 k0_t2) S96x512.size hinb).PackedRows (EltTy.packing .bf16)) ∧
  (∀ k0_t2 : Fin (k0_t2_loop v291 v293).trips, ∀ a, (k0_off70 v0 v7 v15 v23 v31 v39 v47 v55 v63 v71 v79 v87 v95 v103 v111 v119 v127 v135 v143 v151 v159 v167 v175 v183 v191 v199 v207 v215 v223 v231 v239 v247 k0_t1) a + S1x2048x512.size a ≤ S8x2048x1536.size a) ∧
  (∀ k0_t2 : Fin (k0_t2_loop v291 v293).trips, ∀ a, (k0_off71 v288) a + S1x512.size a ≤ S32x1536.size a) ∧
  (∀ k0_t2 : Fin (k0_t2_loop v291 v293).trips, ∀ a, (k0_off72 v291 v293 k0_t2) a + S96x512.size a ≤ S768x1536.size a) ∧
  (∀ k0_t2 : Fin (k0_t2_loop v291 v293).trips, ∀ (hinb : ∀ a, (k0_off72 v291 v293 k0_t2) a + S96x512.size a ≤ S768x1536.size a), (Rect.unit (s := S768x1536) (k0_off72 v291 v293 k0_t2) S96x512.size hinb).PackedRows (EltTy.packing .bf16)) ∧
  ((k0_t3_loop v291 v293).OK) ∧
  (∀ k0_t3 : Fin (k0_t3_loop v291 v293).trips, 32 ∣ (k0_mult2 v291 v293 k0_t3).toNat) ∧
  (∀ k0_t3 : Fin (k0_t3_loop v291 v293).trips, ∀ a, (k0_off73 v291 v293 k0_t3) a + S96x2048.size a ≤ S768x2048.size a) ∧
  (∀ k0_t3 : Fin (k0_t3_loop v291 v293).trips, ∀ a, (k0_off74 v291 v293 k0_t3) a + S96x1.size a ≤ S768x1.size a) ∧
  (∀ k0_t3 : Fin (k0_t3_loop v291 v293).trips, ∀ a, (k0_off75 v0 v7 v15 v23 v31 v39 v47 v55 v63 v71 v79 v87 v95 v103 v111 v119 v127 v135 v143 v151 v159 v167 v175 v183 v191 v199 v207 v215 v223 v231 v239 v247 k0_t1) a + S1x2048x512.size a ≤ S8x2048x1536.size a) ∧
  (∀ k0_t3 : Fin (k0_t3_loop v291 v293).trips, ∀ a, (k0_off76 v288) a + S1x512.size a ≤ S32x1536.size a) ∧
  (∀ k0_t3 : Fin (k0_t3_loop v291 v293).trips, ∀ a, (k0_off77 v291 v293 k0_t3) a + S96x512.size a ≤ S768x1536.size a) ∧
  (∀ k0_t3 : Fin (k0_t3_loop v291 v293).trips, ∀ (hinb : ∀ a, (k0_off77 v291 v293 k0_t3) a + S96x512.size a ≤ S768x1536.size a), (Rect.unit (s := S768x1536) (k0_off77 v291 v293 k0_t3) S96x512.size hinb).PackedRows (EltTy.packing .bf16)) ∧
  (∀ k0_t3 : Fin (k0_t3_loop v291 v293).trips, ∀ a, (k0_off78 v0 v7 v15 v23 v31 v39 v47 v55 v63 v71 v79 v87 v95 v103 v111 v119 v127 v135 v143 v151 v159 v167 v175 v183 v191 v199 v207 v215 v223 v231 v239 v247 k0_t1) a + S1x2048x512.size a ≤ S8x2048x1536.size a) ∧
  (∀ k0_t3 : Fin (k0_t3_loop v291 v293).trips, ∀ a, (k0_off79 v288) a + S1x512.size a ≤ S32x1536.size a) ∧
  (∀ k0_t3 : Fin (k0_t3_loop v291 v293).trips, ∀ a, (k0_off80 v291 v293 k0_t3) a + S96x512.size a ≤ S768x1536.size a) ∧
  (∀ k0_t3 : Fin (k0_t3_loop v291 v293).trips, ∀ (hinb : ∀ a, (k0_off80 v291 v293 k0_t3) a + S96x512.size a ≤ S768x1536.size a), (Rect.unit (s := S768x1536) (k0_off80 v291 v293 k0_t3) S96x512.size hinb).PackedRows (EltTy.packing .bf16)) ∧
  (∀ k0_t3 : Fin (k0_t3_loop v291 v293).trips, ∀ a, (k0_off81 v0 v7 v15 v23 v31 v39 v47 v55 v63 v71 v79 v87 v95 v103 v111 v119 v127 v135 v143 v151 v159 v167 v175 v183 v191 v199 v207 v215 v223 v231 v239 v247 k0_t1) a + S1x2048x512.size a ≤ S8x2048x1536.size a) ∧
  (∀ k0_t3 : Fin (k0_t3_loop v291 v293).trips, ∀ a, (k0_off82 v288) a + S1x512.size a ≤ S32x1536.size a) ∧
  (∀ k0_t3 : Fin (k0_t3_loop v291 v293).trips, ∀ a, (k0_off83 v291 v293 k0_t3) a + S96x512.size a ≤ S768x1536.size a) ∧
  (∀ k0_t3 : Fin (k0_t3_loop v291 v293).trips, ∀ (hinb : ∀ a, (k0_off83 v291 v293 k0_t3) a + S96x512.size a ≤ S768x1536.size a), (Rect.unit (s := S768x1536) (k0_off83 v291 v293 k0_t3) S96x512.size hinb).PackedRows (EltTy.packing .bf16))
theorem k0_t2_ok : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw43 : k0_chk43 v0 v7 v15 v23 v31 v39 v47 v55 v63 v71 v79 v87 v95 v103 v111 v119 v127 v135 v143 v151 v159 v167 v175 v183 v191 v199 v207 v215 v223 v231 v239 v247 k0_t1 v288 v291 v293), (k0_t2_loop v291 v293).OK := fun v0 v7 v15 v23 v31 v39 v47 v55 v63 v71 v79 v87 v95 v103 v111 v119 v127 v135 v143 v151 v159 v167 v175 v183 v191 v199 v207 v215 v223 v231 v239 v247 k0_t1 v288 v291 v293 k0_hw43 => k0_hw43.1
theorem k0_mult1_dvd : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw43 : k0_chk43 v0 v7 v15 v23 v31 v39 v47 v55 v63 v71 v79 v87 v95 v103 v111 v119 v127 v135 v143 v151 v159 v167 v175 v183 v191 v199 v207 v215 v223 v231 v239 v247 k0_t1 v288 v291 v293) (k0_t2 : Fin (k0_t2_loop v291 v293).trips), 32 ∣ (k0_mult1 v291 v293 k0_t2).toNat := fun v0 v7 v15 v23 v31 v39 v47 v55 v63 v71 v79 v87 v95 v103 v111 v119 v127 v135 v143 v151 v159 v167 v175 v183 v191 v199 v207 v215 v223 v231 v239 v247 k0_t1 v288 v291 v293 k0_hw43 k0_t2 => k0_hw43.2.1 k0_t2
theorem k0_off62_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw43 : k0_chk43 v0 v7 v15 v23 v31 v39 v47 v55 v63 v71 v79 v87 v95 v103 v111 v119 v127 v135 v143 v151 v159 v167 v175 v183 v191 v199 v207 v215 v223 v231 v239 v247 k0_t1 v288 v291 v293) (k0_t2 : Fin (k0_t2_loop v291 v293).trips), ∀ a, (k0_off62 v291 v293 k0_t2) a + S96x2048.size a ≤ S768x2048.size a := fun v0 v7 v15 v23 v31 v39 v47 v55 v63 v71 v79 v87 v95 v103 v111 v119 v127 v135 v143 v151 v159 v167 v175 v183 v191 v199 v207 v215 v223 v231 v239 v247 k0_t1 v288 v291 v293 k0_hw43 k0_t2 => k0_hw43.2.2.1 k0_t2
theorem k0_off63_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw43 : k0_chk43 v0 v7 v15 v23 v31 v39 v47 v55 v63 v71 v79 v87 v95 v103 v111 v119 v127 v135 v143 v151 v159 v167 v175 v183 v191 v199 v207 v215 v223 v231 v239 v247 k0_t1 v288 v291 v293) (k0_t2 : Fin (k0_t2_loop v291 v293).trips), ∀ a, (k0_off63 v291 v293 k0_t2) a + S96x1.size a ≤ S768x1.size a := fun v0 v7 v15 v23 v31 v39 v47 v55 v63 v71 v79 v87 v95 v103 v111 v119 v127 v135 v143 v151 v159 v167 v175 v183 v191 v199 v207 v215 v223 v231 v239 v247 k0_t1 v288 v291 v293 k0_hw43 k0_t2 => k0_hw43.2.2.2.1 k0_t2
theorem k0_off64_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw43 : k0_chk43 v0 v7 v15 v23 v31 v39 v47 v55 v63 v71 v79 v87 v95 v103 v111 v119 v127 v135 v143 v151 v159 v167 v175 v183 v191 v199 v207 v215 v223 v231 v239 v247 k0_t1 v288 v291 v293) (k0_t2 : Fin (k0_t2_loop v291 v293).trips), ∀ a, (k0_off64 v0 v7 v15 v23 v31 v39 v47 v55 v63 v71 v79 v87 v95 v103 v111 v119 v127 v135 v143 v151 v159 v167 v175 v183 v191 v199 v207 v215 v223 v231 v239 v247 k0_t1) a + S1x2048x512.size a ≤ S8x2048x1536.size a := fun v0 v7 v15 v23 v31 v39 v47 v55 v63 v71 v79 v87 v95 v103 v111 v119 v127 v135 v143 v151 v159 v167 v175 v183 v191 v199 v207 v215 v223 v231 v239 v247 k0_t1 v288 v291 v293 k0_hw43 k0_t2 => k0_hw43.2.2.2.2.1 k0_t2
theorem k0_off65_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw43 : k0_chk43 v0 v7 v15 v23 v31 v39 v47 v55 v63 v71 v79 v87 v95 v103 v111 v119 v127 v135 v143 v151 v159 v167 v175 v183 v191 v199 v207 v215 v223 v231 v239 v247 k0_t1 v288 v291 v293) (k0_t2 : Fin (k0_t2_loop v291 v293).trips), ∀ a, (k0_off65 v288) a + S1x512.size a ≤ S32x1536.size a := fun v0 v7 v15 v23 v31 v39 v47 v55 v63 v71 v79 v87 v95 v103 v111 v119 v127 v135 v143 v151 v159 v167 v175 v183 v191 v199 v207 v215 v223 v231 v239 v247 k0_t1 v288 v291 v293 k0_hw43 k0_t2 => k0_hw43.2.2.2.2.2.1 k0_t2
theorem k0_off66_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw43 : k0_chk43 v0 v7 v15 v23 v31 v39 v47 v55 v63 v71 v79 v87 v95 v103 v111 v119 v127 v135 v143 v151 v159 v167 v175 v183 v191 v199 v207 v215 v223 v231 v239 v247 k0_t1 v288 v291 v293) (k0_t2 : Fin (k0_t2_loop v291 v293).trips), ∀ a, (k0_off66 v291 v293 k0_t2) a + S96x512.size a ≤ S768x1536.size a := fun v0 v7 v15 v23 v31 v39 v47 v55 v63 v71 v79 v87 v95 v103 v111 v119 v127 v135 v143 v151 v159 v167 v175 v183 v191 v199 v207 v215 v223 v231 v239 v247 k0_t1 v288 v291 v293 k0_hw43 k0_t2 => k0_hw43.2.2.2.2.2.2.1 k0_t2
theorem k0_off66_packedbf16 : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw43 : k0_chk43 v0 v7 v15 v23 v31 v39 v47 v55 v63 v71 v79 v87 v95 v103 v111 v119 v127 v135 v143 v151 v159 v167 v175 v183 v191 v199 v207 v215 v223 v231 v239 v247 k0_t1 v288 v291 v293) (k0_t2 : Fin (k0_t2_loop v291 v293).trips), (Rect.unit (s := S768x1536) (k0_off66 v291 v293 k0_t2) S96x512.size (k0_off66_inb v0 v7 v15 v23 v31 v39 v47 v55 v63 v71 v79 v87 v95 v103 v111 v119 v127 v135 v143 v151 v159 v167 v175 v183 v191 v199 v207 v215 v223 v231 v239 v247 k0_t1 v288 v291 v293 k0_hw43 k0_t2)).PackedRows (EltTy.packing .bf16) := fun v0 v7 v15 v23 v31 v39 v47 v55 v63 v71 v79 v87 v95 v103 v111 v119 v127 v135 v143 v151 v159 v167 v175 v183 v191 v199 v207 v215 v223 v231 v239 v247 k0_t1 v288 v291 v293 k0_hw43 k0_t2 => k0_hw43.2.2.2.2.2.2.2.1 k0_t2 (k0_off66_inb v0 v7 v15 v23 v31 v39 v47 v55 v63 v71 v79 v87 v95 v103 v111 v119 v127 v135 v143 v151 v159 v167 v175 v183 v191 v199 v207 v215 v223 v231 v239 v247 k0_t1 v288 v291 v293 k0_hw43 k0_t2)
theorem k0_off67_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw43 : k0_chk43 v0 v7 v15 v23 v31 v39 v47 v55 v63 v71 v79 v87 v95 v103 v111 v119 v127 v135 v143 v151 v159 v167 v175 v183 v191 v199 v207 v215 v223 v231 v239 v247 k0_t1 v288 v291 v293) (k0_t2 : Fin (k0_t2_loop v291 v293).trips), ∀ a, (k0_off67 v0 v7 v15 v23 v31 v39 v47 v55 v63 v71 v79 v87 v95 v103 v111 v119 v127 v135 v143 v151 v159 v167 v175 v183 v191 v199 v207 v215 v223 v231 v239 v247 k0_t1) a + S1x2048x512.size a ≤ S8x2048x1536.size a := fun v0 v7 v15 v23 v31 v39 v47 v55 v63 v71 v79 v87 v95 v103 v111 v119 v127 v135 v143 v151 v159 v167 v175 v183 v191 v199 v207 v215 v223 v231 v239 v247 k0_t1 v288 v291 v293 k0_hw43 k0_t2 => k0_hw43.2.2.2.2.2.2.2.2.1 k0_t2
theorem k0_off68_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw43 : k0_chk43 v0 v7 v15 v23 v31 v39 v47 v55 v63 v71 v79 v87 v95 v103 v111 v119 v127 v135 v143 v151 v159 v167 v175 v183 v191 v199 v207 v215 v223 v231 v239 v247 k0_t1 v288 v291 v293) (k0_t2 : Fin (k0_t2_loop v291 v293).trips), ∀ a, (k0_off68 v288) a + S1x512.size a ≤ S32x1536.size a := fun v0 v7 v15 v23 v31 v39 v47 v55 v63 v71 v79 v87 v95 v103 v111 v119 v127 v135 v143 v151 v159 v167 v175 v183 v191 v199 v207 v215 v223 v231 v239 v247 k0_t1 v288 v291 v293 k0_hw43 k0_t2 => k0_hw43.2.2.2.2.2.2.2.2.2.1 k0_t2
theorem k0_off69_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw43 : k0_chk43 v0 v7 v15 v23 v31 v39 v47 v55 v63 v71 v79 v87 v95 v103 v111 v119 v127 v135 v143 v151 v159 v167 v175 v183 v191 v199 v207 v215 v223 v231 v239 v247 k0_t1 v288 v291 v293) (k0_t2 : Fin (k0_t2_loop v291 v293).trips), ∀ a, (k0_off69 v291 v293 k0_t2) a + S96x512.size a ≤ S768x1536.size a := fun v0 v7 v15 v23 v31 v39 v47 v55 v63 v71 v79 v87 v95 v103 v111 v119 v127 v135 v143 v151 v159 v167 v175 v183 v191 v199 v207 v215 v223 v231 v239 v247 k0_t1 v288 v291 v293 k0_hw43 k0_t2 => k0_hw43.2.2.2.2.2.2.2.2.2.2.1 k0_t2
theorem k0_off69_packedbf16 : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw43 : k0_chk43 v0 v7 v15 v23 v31 v39 v47 v55 v63 v71 v79 v87 v95 v103 v111 v119 v127 v135 v143 v151 v159 v167 v175 v183 v191 v199 v207 v215 v223 v231 v239 v247 k0_t1 v288 v291 v293) (k0_t2 : Fin (k0_t2_loop v291 v293).trips), (Rect.unit (s := S768x1536) (k0_off69 v291 v293 k0_t2) S96x512.size (k0_off69_inb v0 v7 v15 v23 v31 v39 v47 v55 v63 v71 v79 v87 v95 v103 v111 v119 v127 v135 v143 v151 v159 v167 v175 v183 v191 v199 v207 v215 v223 v231 v239 v247 k0_t1 v288 v291 v293 k0_hw43 k0_t2)).PackedRows (EltTy.packing .bf16) := fun v0 v7 v15 v23 v31 v39 v47 v55 v63 v71 v79 v87 v95 v103 v111 v119 v127 v135 v143 v151 v159 v167 v175 v183 v191 v199 v207 v215 v223 v231 v239 v247 k0_t1 v288 v291 v293 k0_hw43 k0_t2 => k0_hw43.2.2.2.2.2.2.2.2.2.2.2.1 k0_t2 (k0_off69_inb v0 v7 v15 v23 v31 v39 v47 v55 v63 v71 v79 v87 v95 v103 v111 v119 v127 v135 v143 v151 v159 v167 v175 v183 v191 v199 v207 v215 v223 v231 v239 v247 k0_t1 v288 v291 v293 k0_hw43 k0_t2)
theorem k0_off70_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw43 : k0_chk43 v0 v7 v15 v23 v31 v39 v47 v55 v63 v71 v79 v87 v95 v103 v111 v119 v127 v135 v143 v151 v159 v167 v175 v183 v191 v199 v207 v215 v223 v231 v239 v247 k0_t1 v288 v291 v293) (k0_t2 : Fin (k0_t2_loop v291 v293).trips), ∀ a, (k0_off70 v0 v7 v15 v23 v31 v39 v47 v55 v63 v71 v79 v87 v95 v103 v111 v119 v127 v135 v143 v151 v159 v167 v175 v183 v191 v199 v207 v215 v223 v231 v239 v247 k0_t1) a + S1x2048x512.size a ≤ S8x2048x1536.size a := fun v0 v7 v15 v23 v31 v39 v47 v55 v63 v71 v79 v87 v95 v103 v111 v119 v127 v135 v143 v151 v159 v167 v175 v183 v191 v199 v207 v215 v223 v231 v239 v247 k0_t1 v288 v291 v293 k0_hw43 k0_t2 => k0_hw43.2.2.2.2.2.2.2.2.2.2.2.2.1 k0_t2
theorem k0_off71_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw43 : k0_chk43 v0 v7 v15 v23 v31 v39 v47 v55 v63 v71 v79 v87 v95 v103 v111 v119 v127 v135 v143 v151 v159 v167 v175 v183 v191 v199 v207 v215 v223 v231 v239 v247 k0_t1 v288 v291 v293) (k0_t2 : Fin (k0_t2_loop v291 v293).trips), ∀ a, (k0_off71 v288) a + S1x512.size a ≤ S32x1536.size a := fun v0 v7 v15 v23 v31 v39 v47 v55 v63 v71 v79 v87 v95 v103 v111 v119 v127 v135 v143 v151 v159 v167 v175 v183 v191 v199 v207 v215 v223 v231 v239 v247 k0_t1 v288 v291 v293 k0_hw43 k0_t2 => k0_hw43.2.2.2.2.2.2.2.2.2.2.2.2.2.1 k0_t2
theorem k0_off72_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw43 : k0_chk43 v0 v7 v15 v23 v31 v39 v47 v55 v63 v71 v79 v87 v95 v103 v111 v119 v127 v135 v143 v151 v159 v167 v175 v183 v191 v199 v207 v215 v223 v231 v239 v247 k0_t1 v288 v291 v293) (k0_t2 : Fin (k0_t2_loop v291 v293).trips), ∀ a, (k0_off72 v291 v293 k0_t2) a + S96x512.size a ≤ S768x1536.size a := fun v0 v7 v15 v23 v31 v39 v47 v55 v63 v71 v79 v87 v95 v103 v111 v119 v127 v135 v143 v151 v159 v167 v175 v183 v191 v199 v207 v215 v223 v231 v239 v247 k0_t1 v288 v291 v293 k0_hw43 k0_t2 => k0_hw43.2.2.2.2.2.2.2.2.2.2.2.2.2.2.1 k0_t2
theorem k0_off72_packedbf16 : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw43 : k0_chk43 v0 v7 v15 v23 v31 v39 v47 v55 v63 v71 v79 v87 v95 v103 v111 v119 v127 v135 v143 v151 v159 v167 v175 v183 v191 v199 v207 v215 v223 v231 v239 v247 k0_t1 v288 v291 v293) (k0_t2 : Fin (k0_t2_loop v291 v293).trips), (Rect.unit (s := S768x1536) (k0_off72 v291 v293 k0_t2) S96x512.size (k0_off72_inb v0 v7 v15 v23 v31 v39 v47 v55 v63 v71 v79 v87 v95 v103 v111 v119 v127 v135 v143 v151 v159 v167 v175 v183 v191 v199 v207 v215 v223 v231 v239 v247 k0_t1 v288 v291 v293 k0_hw43 k0_t2)).PackedRows (EltTy.packing .bf16) := fun v0 v7 v15 v23 v31 v39 v47 v55 v63 v71 v79 v87 v95 v103 v111 v119 v127 v135 v143 v151 v159 v167 v175 v183 v191 v199 v207 v215 v223 v231 v239 v247 k0_t1 v288 v291 v293 k0_hw43 k0_t2 => k0_hw43.2.2.2.2.2.2.2.2.2.2.2.2.2.2.2.1 k0_t2 (k0_off72_inb v0 v7 v15 v23 v31 v39 v47 v55 v63 v71 v79 v87 v95 v103 v111 v119 v127 v135 v143 v151 v159 v167 v175 v183 v191 v199 v207 v215 v223 v231 v239 v247 k0_t1 v288 v291 v293 k0_hw43 k0_t2)
theorem k0_t3_ok : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw43 : k0_chk43 v0 v7 v15 v23 v31 v39 v47 v55 v63 v71 v79 v87 v95 v103 v111 v119 v127 v135 v143 v151 v159 v167 v175 v183 v191 v199 v207 v215 v223 v231 v239 v247 k0_t1 v288 v291 v293), (k0_t3_loop v291 v293).OK := fun v0 v7 v15 v23 v31 v39 v47 v55 v63 v71 v79 v87 v95 v103 v111 v119 v127 v135 v143 v151 v159 v167 v175 v183 v191 v199 v207 v215 v223 v231 v239 v247 k0_t1 v288 v291 v293 k0_hw43 => k0_hw43.2.2.2.2.2.2.2.2.2.2.2.2.2.2.2.2.1
theorem k0_mult2_dvd : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw43 : k0_chk43 v0 v7 v15 v23 v31 v39 v47 v55 v63 v71 v79 v87 v95 v103 v111 v119 v127 v135 v143 v151 v159 v167 v175 v183 v191 v199 v207 v215 v223 v231 v239 v247 k0_t1 v288 v291 v293) (k0_t3 : Fin (k0_t3_loop v291 v293).trips), 32 ∣ (k0_mult2 v291 v293 k0_t3).toNat := fun v0 v7 v15 v23 v31 v39 v47 v55 v63 v71 v79 v87 v95 v103 v111 v119 v127 v135 v143 v151 v159 v167 v175 v183 v191 v199 v207 v215 v223 v231 v239 v247 k0_t1 v288 v291 v293 k0_hw43 k0_t3 => k0_hw43.2.2.2.2.2.2.2.2.2.2.2.2.2.2.2.2.2.1 k0_t3
theorem k0_off73_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw43 : k0_chk43 v0 v7 v15 v23 v31 v39 v47 v55 v63 v71 v79 v87 v95 v103 v111 v119 v127 v135 v143 v151 v159 v167 v175 v183 v191 v199 v207 v215 v223 v231 v239 v247 k0_t1 v288 v291 v293) (k0_t3 : Fin (k0_t3_loop v291 v293).trips), ∀ a, (k0_off73 v291 v293 k0_t3) a + S96x2048.size a ≤ S768x2048.size a := fun v0 v7 v15 v23 v31 v39 v47 v55 v63 v71 v79 v87 v95 v103 v111 v119 v127 v135 v143 v151 v159 v167 v175 v183 v191 v199 v207 v215 v223 v231 v239 v247 k0_t1 v288 v291 v293 k0_hw43 k0_t3 => k0_hw43.2.2.2.2.2.2.2.2.2.2.2.2.2.2.2.2.2.2.1 k0_t3
theorem k0_off74_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw43 : k0_chk43 v0 v7 v15 v23 v31 v39 v47 v55 v63 v71 v79 v87 v95 v103 v111 v119 v127 v135 v143 v151 v159 v167 v175 v183 v191 v199 v207 v215 v223 v231 v239 v247 k0_t1 v288 v291 v293) (k0_t3 : Fin (k0_t3_loop v291 v293).trips), ∀ a, (k0_off74 v291 v293 k0_t3) a + S96x1.size a ≤ S768x1.size a := fun v0 v7 v15 v23 v31 v39 v47 v55 v63 v71 v79 v87 v95 v103 v111 v119 v127 v135 v143 v151 v159 v167 v175 v183 v191 v199 v207 v215 v223 v231 v239 v247 k0_t1 v288 v291 v293 k0_hw43 k0_t3 => k0_hw43.2.2.2.2.2.2.2.2.2.2.2.2.2.2.2.2.2.2.2.1 k0_t3
theorem k0_off75_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw43 : k0_chk43 v0 v7 v15 v23 v31 v39 v47 v55 v63 v71 v79 v87 v95 v103 v111 v119 v127 v135 v143 v151 v159 v167 v175 v183 v191 v199 v207 v215 v223 v231 v239 v247 k0_t1 v288 v291 v293) (k0_t3 : Fin (k0_t3_loop v291 v293).trips), ∀ a, (k0_off75 v0 v7 v15 v23 v31 v39 v47 v55 v63 v71 v79 v87 v95 v103 v111 v119 v127 v135 v143 v151 v159 v167 v175 v183 v191 v199 v207 v215 v223 v231 v239 v247 k0_t1) a + S1x2048x512.size a ≤ S8x2048x1536.size a := fun v0 v7 v15 v23 v31 v39 v47 v55 v63 v71 v79 v87 v95 v103 v111 v119 v127 v135 v143 v151 v159 v167 v175 v183 v191 v199 v207 v215 v223 v231 v239 v247 k0_t1 v288 v291 v293 k0_hw43 k0_t3 => k0_hw43.2.2.2.2.2.2.2.2.2.2.2.2.2.2.2.2.2.2.2.2.1 k0_t3
theorem k0_off76_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw43 : k0_chk43 v0 v7 v15 v23 v31 v39 v47 v55 v63 v71 v79 v87 v95 v103 v111 v119 v127 v135 v143 v151 v159 v167 v175 v183 v191 v199 v207 v215 v223 v231 v239 v247 k0_t1 v288 v291 v293) (k0_t3 : Fin (k0_t3_loop v291 v293).trips), ∀ a, (k0_off76 v288) a + S1x512.size a ≤ S32x1536.size a := fun v0 v7 v15 v23 v31 v39 v47 v55 v63 v71 v79 v87 v95 v103 v111 v119 v127 v135 v143 v151 v159 v167 v175 v183 v191 v199 v207 v215 v223 v231 v239 v247 k0_t1 v288 v291 v293 k0_hw43 k0_t3 => k0_hw43.2.2.2.2.2.2.2.2.2.2.2.2.2.2.2.2.2.2.2.2.2.1 k0_t3
theorem k0_off77_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw43 : k0_chk43 v0 v7 v15 v23 v31 v39 v47 v55 v63 v71 v79 v87 v95 v103 v111 v119 v127 v135 v143 v151 v159 v167 v175 v183 v191 v199 v207 v215 v223 v231 v239 v247 k0_t1 v288 v291 v293) (k0_t3 : Fin (k0_t3_loop v291 v293).trips), ∀ a, (k0_off77 v291 v293 k0_t3) a + S96x512.size a ≤ S768x1536.size a := fun v0 v7 v15 v23 v31 v39 v47 v55 v63 v71 v79 v87 v95 v103 v111 v119 v127 v135 v143 v151 v159 v167 v175 v183 v191 v199 v207 v215 v223 v231 v239 v247 k0_t1 v288 v291 v293 k0_hw43 k0_t3 => k0_hw43.2.2.2.2.2.2.2.2.2.2.2.2.2.2.2.2.2.2.2.2.2.2.1 k0_t3
theorem k0_off77_packedbf16 : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw43 : k0_chk43 v0 v7 v15 v23 v31 v39 v47 v55 v63 v71 v79 v87 v95 v103 v111 v119 v127 v135 v143 v151 v159 v167 v175 v183 v191 v199 v207 v215 v223 v231 v239 v247 k0_t1 v288 v291 v293) (k0_t3 : Fin (k0_t3_loop v291 v293).trips), (Rect.unit (s := S768x1536) (k0_off77 v291 v293 k0_t3) S96x512.size (k0_off77_inb v0 v7 v15 v23 v31 v39 v47 v55 v63 v71 v79 v87 v95 v103 v111 v119 v127 v135 v143 v151 v159 v167 v175 v183 v191 v199 v207 v215 v223 v231 v239 v247 k0_t1 v288 v291 v293 k0_hw43 k0_t3)).PackedRows (EltTy.packing .bf16) := fun v0 v7 v15 v23 v31 v39 v47 v55 v63 v71 v79 v87 v95 v103 v111 v119 v127 v135 v143 v151 v159 v167 v175 v183 v191 v199 v207 v215 v223 v231 v239 v247 k0_t1 v288 v291 v293 k0_hw43 k0_t3 => k0_hw43.2.2.2.2.2.2.2.2.2.2.2.2.2.2.2.2.2.2.2.2.2.2.2.1 k0_t3 (k0_off77_inb v0 v7 v15 v23 v31 v39 v47 v55 v63 v71 v79 v87 v95 v103 v111 v119 v127 v135 v143 v151 v159 v167 v175 v183 v191 v199 v207 v215 v223 v231 v239 v247 k0_t1 v288 v291 v293 k0_hw43 k0_t3)
theorem k0_off78_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw43 : k0_chk43 v0 v7 v15 v23 v31 v39 v47 v55 v63 v71 v79 v87 v95 v103 v111 v119 v127 v135 v143 v151 v159 v167 v175 v183 v191 v199 v207 v215 v223 v231 v239 v247 k0_t1 v288 v291 v293) (k0_t3 : Fin (k0_t3_loop v291 v293).trips), ∀ a, (k0_off78 v0 v7 v15 v23 v31 v39 v47 v55 v63 v71 v79 v87 v95 v103 v111 v119 v127 v135 v143 v151 v159 v167 v175 v183 v191 v199 v207 v215 v223 v231 v239 v247 k0_t1) a + S1x2048x512.size a ≤ S8x2048x1536.size a := fun v0 v7 v15 v23 v31 v39 v47 v55 v63 v71 v79 v87 v95 v103 v111 v119 v127 v135 v143 v151 v159 v167 v175 v183 v191 v199 v207 v215 v223 v231 v239 v247 k0_t1 v288 v291 v293 k0_hw43 k0_t3 => k0_hw43.2.2.2.2.2.2.2.2.2.2.2.2.2.2.2.2.2.2.2.2.2.2.2.2.1 k0_t3
theorem k0_off79_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw43 : k0_chk43 v0 v7 v15 v23 v31 v39 v47 v55 v63 v71 v79 v87 v95 v103 v111 v119 v127 v135 v143 v151 v159 v167 v175 v183 v191 v199 v207 v215 v223 v231 v239 v247 k0_t1 v288 v291 v293) (k0_t3 : Fin (k0_t3_loop v291 v293).trips), ∀ a, (k0_off79 v288) a + S1x512.size a ≤ S32x1536.size a := fun v0 v7 v15 v23 v31 v39 v47 v55 v63 v71 v79 v87 v95 v103 v111 v119 v127 v135 v143 v151 v159 v167 v175 v183 v191 v199 v207 v215 v223 v231 v239 v247 k0_t1 v288 v291 v293 k0_hw43 k0_t3 => k0_hw43.2.2.2.2.2.2.2.2.2.2.2.2.2.2.2.2.2.2.2.2.2.2.2.2.2.1 k0_t3
theorem k0_off80_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw43 : k0_chk43 v0 v7 v15 v23 v31 v39 v47 v55 v63 v71 v79 v87 v95 v103 v111 v119 v127 v135 v143 v151 v159 v167 v175 v183 v191 v199 v207 v215 v223 v231 v239 v247 k0_t1 v288 v291 v293) (k0_t3 : Fin (k0_t3_loop v291 v293).trips), ∀ a, (k0_off80 v291 v293 k0_t3) a + S96x512.size a ≤ S768x1536.size a := fun v0 v7 v15 v23 v31 v39 v47 v55 v63 v71 v79 v87 v95 v103 v111 v119 v127 v135 v143 v151 v159 v167 v175 v183 v191 v199 v207 v215 v223 v231 v239 v247 k0_t1 v288 v291 v293 k0_hw43 k0_t3 => k0_hw43.2.2.2.2.2.2.2.2.2.2.2.2.2.2.2.2.2.2.2.2.2.2.2.2.2.2.1 k0_t3
theorem k0_off80_packedbf16 : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw43 : k0_chk43 v0 v7 v15 v23 v31 v39 v47 v55 v63 v71 v79 v87 v95 v103 v111 v119 v127 v135 v143 v151 v159 v167 v175 v183 v191 v199 v207 v215 v223 v231 v239 v247 k0_t1 v288 v291 v293) (k0_t3 : Fin (k0_t3_loop v291 v293).trips), (Rect.unit (s := S768x1536) (k0_off80 v291 v293 k0_t3) S96x512.size (k0_off80_inb v0 v7 v15 v23 v31 v39 v47 v55 v63 v71 v79 v87 v95 v103 v111 v119 v127 v135 v143 v151 v159 v167 v175 v183 v191 v199 v207 v215 v223 v231 v239 v247 k0_t1 v288 v291 v293 k0_hw43 k0_t3)).PackedRows (EltTy.packing .bf16) := fun v0 v7 v15 v23 v31 v39 v47 v55 v63 v71 v79 v87 v95 v103 v111 v119 v127 v135 v143 v151 v159 v167 v175 v183 v191 v199 v207 v215 v223 v231 v239 v247 k0_t1 v288 v291 v293 k0_hw43 k0_t3 => k0_hw43.2.2.2.2.2.2.2.2.2.2.2.2.2.2.2.2.2.2.2.2.2.2.2.2.2.2.2.1 k0_t3 (k0_off80_inb v0 v7 v15 v23 v31 v39 v47 v55 v63 v71 v79 v87 v95 v103 v111 v119 v127 v135 v143 v151 v159 v167 v175 v183 v191 v199 v207 v215 v223 v231 v239 v247 k0_t1 v288 v291 v293 k0_hw43 k0_t3)
theorem k0_off81_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw43 : k0_chk43 v0 v7 v15 v23 v31 v39 v47 v55 v63 v71 v79 v87 v95 v103 v111 v119 v127 v135 v143 v151 v159 v167 v175 v183 v191 v199 v207 v215 v223 v231 v239 v247 k0_t1 v288 v291 v293) (k0_t3 : Fin (k0_t3_loop v291 v293).trips), ∀ a, (k0_off81 v0 v7 v15 v23 v31 v39 v47 v55 v63 v71 v79 v87 v95 v103 v111 v119 v127 v135 v143 v151 v159 v167 v175 v183 v191 v199 v207 v215 v223 v231 v239 v247 k0_t1) a + S1x2048x512.size a ≤ S8x2048x1536.size a := fun v0 v7 v15 v23 v31 v39 v47 v55 v63 v71 v79 v87 v95 v103 v111 v119 v127 v135 v143 v151 v159 v167 v175 v183 v191 v199 v207 v215 v223 v231 v239 v247 k0_t1 v288 v291 v293 k0_hw43 k0_t3 => k0_hw43.2.2.2.2.2.2.2.2.2.2.2.2.2.2.2.2.2.2.2.2.2.2.2.2.2.2.2.2.1 k0_t3
theorem k0_off82_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw43 : k0_chk43 v0 v7 v15 v23 v31 v39 v47 v55 v63 v71 v79 v87 v95 v103 v111 v119 v127 v135 v143 v151 v159 v167 v175 v183 v191 v199 v207 v215 v223 v231 v239 v247 k0_t1 v288 v291 v293) (k0_t3 : Fin (k0_t3_loop v291 v293).trips), ∀ a, (k0_off82 v288) a + S1x512.size a ≤ S32x1536.size a := fun v0 v7 v15 v23 v31 v39 v47 v55 v63 v71 v79 v87 v95 v103 v111 v119 v127 v135 v143 v151 v159 v167 v175 v183 v191 v199 v207 v215 v223 v231 v239 v247 k0_t1 v288 v291 v293 k0_hw43 k0_t3 => k0_hw43.2.2.2.2.2.2.2.2.2.2.2.2.2.2.2.2.2.2.2.2.2.2.2.2.2.2.2.2.2.1 k0_t3
theorem k0_off83_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw43 : k0_chk43 v0 v7 v15 v23 v31 v39 v47 v55 v63 v71 v79 v87 v95 v103 v111 v119 v127 v135 v143 v151 v159 v167 v175 v183 v191 v199 v207 v215 v223 v231 v239 v247 k0_t1 v288 v291 v293) (k0_t3 : Fin (k0_t3_loop v291 v293).trips), ∀ a, (k0_off83 v291 v293 k0_t3) a + S96x512.size a ≤ S768x1536.size a := fun v0 v7 v15 v23 v31 v39 v47 v55 v63 v71 v79 v87 v95 v103 v111 v119 v127 v135 v143 v151 v159 v167 v175 v183 v191 v199 v207 v215 v223 v231 v239 v247 k0_t1 v288 v291 v293 k0_hw43 k0_t3 => k0_hw43.2.2.2.2.2.2.2.2.2.2.2.2.2.2.2.2.2.2.2.2.2.2.2.2.2.2.2.2.2.2.1 k0_t3
theorem k0_off83_packedbf16 : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw43 : k0_chk43 v0 v7 v15 v23 v31 v39 v47 v55 v63 v71 v79 v87 v95 v103 v111 v119 v127 v135 v143 v151 v159 v167 v175 v183 v191 v199 v207 v215 v223 v231 v239 v247 k0_t1 v288 v291 v293) (k0_t3 : Fin (k0_t3_loop v291 v293).trips), (Rect.unit (s := S768x1536) (k0_off83 v291 v293 k0_t3) S96x512.size (k0_off83_inb v0 v7 v15 v23 v31 v39 v47 v55 v63 v71 v79 v87 v95 v103 v111 v119 v127 v135 v143 v151 v159 v167 v175 v183 v191 v199 v207 v215 v223 v231 v239 v247 k0_t1 v288 v291 v293 k0_hw43 k0_t3)).PackedRows (EltTy.packing .bf16) := fun v0 v7 v15 v23 v31 v39 v47 v55 v63 v71 v79 v87 v95 v103 v111 v119 v127 v135 v143 v151 v159 v167 v175 v183 v191 v199 v207 v215 v223 v231 v239 v247 k0_t1 v288 v291 v293 k0_hw43 k0_t3 => k0_hw43.2.2.2.2.2.2.2.2.2.2.2.2.2.2.2.2.2.2.2.2.2.2.2.2.2.2.2.2.2.2.2 k0_t3 (k0_off83_inb v0 v7 v15 v23 v31 v39 v47 v55 v63 v71 v79 v87 v95 v103 v111 v119 v127 v135 v143 v151 v159 v167 v175 v183 v191 v199 v207 v215 v223 v231 v239 v247 k0_t1 v288 v291 v293 k0_hw43 k0_t3)

def k0_off84 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) : Fin 1 → Nat :=
  let c0_i32_86 : BitVec 32 := 0#32
  let c1_i32_89 : BitVec 32 := 1#32
  let arg18 : BitVec 32 := Scf.iv c0_i32_86 c1_i32_89 k0_t1
  let c8_i32_112 : BitVec 32 := 8#32
  let v336 : BitVec 32 := Scalar.addi arg18 c8_i32_112
  let v338 : Index := Scalar.indexCast v336
  ![v338.toNat]
def k0_cond9 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) : BitVec 1 :=
  let c0_i32_86 : BitVec 32 := 0#32
  let c1_i32_89 : BitVec 32 := 1#32
  let arg18 : BitVec 32 := Scf.iv c0_i32_86 c1_i32_89 k0_t1
  let c8_i32_109 : BitVec 32 := 8#32
  let v332 : BitVec 32 := Scalar.addi arg18 c8_i32_109
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let c0_i32_45 : BitVec 32 := 0#32
  let v163 : BitVec 1 := Scalar.cmpi .sgt v159 c0_i32_45
  let v164 : BitVec 32 := Scalar.extui v163
  let v165 : BitVec 32 := Scalar.addi v157 v164
  let c0_i32_47 : BitVec 32 := 0#32
  let v171 : BitVec 1 := Scalar.cmpi .sgt v167 c0_i32_47
  let v172 : BitVec 32 := Scalar.extui v171
  let v173 : BitVec 32 := Scalar.addi v165 v172
  let c0_i32_49 : BitVec 32 := 0#32
  let v179 : BitVec 1 := Scalar.cmpi .sgt v175 c0_i32_49
  let v180 : BitVec 32 := Scalar.extui v179
  let v181 : BitVec 32 := Scalar.addi v173 v180
  let c0_i32_51 : BitVec 32 := 0#32
  let v187 : BitVec 1 := Scalar.cmpi .sgt v183 c0_i32_51
  let v188 : BitVec 32 := Scalar.extui v187
  let v189 : BitVec 32 := Scalar.addi v181 v188
  let c0_i32_53 : BitVec 32 := 0#32
  let v195 : BitVec 1 := Scalar.cmpi .sgt v191 c0_i32_53
  let v196 : BitVec 32 := Scalar.extui v195
  let v197 : BitVec 32 := Scalar.addi v189 v196
  let c0_i32_55 : BitVec 32 := 0#32
  let v203 : BitVec 1 := Scalar.cmpi .sgt v199 c0_i32_55
  let v204 : BitVec 32 := Scalar.extui v203
  let v205 : BitVec 32 := Scalar.addi v197 v204
  let c0_i32_57 : BitVec 32 := 0#32
  let v211 : BitVec 1 := Scalar.cmpi .sgt v207 c0_i32_57
  let v212 : BitVec 32 := Scalar.extui v211
  let v213 : BitVec 32 := Scalar.addi v205 v212
  let c0_i32_59 : BitVec 32 := 0#32
  let v219 : BitVec 1 := Scalar.cmpi .sgt v215 c0_i32_59
  let v220 : BitVec 32 := Scalar.extui v219
  let v221 : BitVec 32 := Scalar.addi v213 v220
  let c0_i32_61 : BitVec 32 := 0#32
  let v227 : BitVec 1 := Scalar.cmpi .sgt v223 c0_i32_61
  let v228 : BitVec 32 := Scalar.extui v227
  let v229 : BitVec 32 := Scalar.addi v221 v228
  let c0_i32_63 : BitVec 32 := 0#32
  let v235 : BitVec 1 := Scalar.cmpi .sgt v231 c0_i32_63
  let v236 : BitVec 32 := Scalar.extui v235
  let v237 : BitVec 32 := Scalar.addi v229 v236
  let c0_i32_65 : BitVec 32 := 0#32
  let v243 : BitVec 1 := Scalar.cmpi .sgt v239 c0_i32_65
  let v244 : BitVec 32 := Scalar.extui v243
  let v245 : BitVec 32 := Scalar.addi v237 v244
  let c0_i32_67 : BitVec 32 := 0#32
  let v251 : BitVec 1 := Scalar.cmpi .sgt v247 c0_i32_67
  let v252 : BitVec 32 := Scalar.extui v251
  let v253 : BitVec 32 := Scalar.addi v245 v252
  let v333 : BitVec 1 := Scalar.cmpi .slt v332 v253
  let v334 : BitVec 32 := Scalar.extui v333
  let c0_i32_110 : BitVec 32 := 0#32
  let v335 : BitVec 1 := Scalar.cmpi .ne v334 c0_i32_110
  v335

def k0_off85 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) : Fin 1 → Nat :=
  let c0_i32_86 : BitVec 32 := 0#32
  let c1_i32_89 : BitVec 32 := 1#32
  let arg18 : BitVec 32 := Scf.iv c0_i32_86 c1_i32_89 k0_t1
  let c8_i32_112 : BitVec 32 := 8#32
  let v336 : BitVec 32 := Scalar.addi arg18 c8_i32_112
  let c8_i32_113 : BitVec 32 := 8#32
  let v337 : BitVec 32 := Scalar.remsi v336 c8_i32_113
  ![v337.toNat]
def k0_off86 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) : Fin 3 → Nat :=
  let c0_i32_86 : BitVec 32 := 0#32
  let c1_i32_89 : BitVec 32 := 1#32
  let arg18 : BitVec 32 := Scf.iv c0_i32_86 c1_i32_89 k0_t1
  let c8_i32_112 : BitVec 32 := 8#32
  let v336 : BitVec 32 := Scalar.addi arg18 c8_i32_112
  let c8_i32_113 : BitVec 32 := 8#32
  let v337 : BitVec 32 := Scalar.remsi v336 c8_i32_113
  let c0_i32_114 : BitVec 32 := 0#32
  let c0_i32_115 : BitVec 32 := 0#32
  ![v337.toNat, 0, 0]
def k0_off87 (v339 : BitVec 32) : Fin 3 → Nat :=
  let c0_i32_116 : BitVec 32 := 0#32
  let c0_i32_117 : BitVec 32 := 0#32
  ![v339.toNat, 0, 0]

def k0_chk44 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) (v339 : BitVec 32) : Prop :=
  (∀ (k0_h9 : k0_cond9 v0 v7 v15 v23 v31 v39 v47 v55 v63 v71 v79 v87 v95 v103 v111 v119 v127 v135 v143 v151 v159 v167 v175 v183 v191 v199 v207 v215 v223 v231 v239 v247 k0_t1 = 1#1), ∀ a, (k0_off87 v339) a + S1x2048x1536.size a ≤ S32x2048x1536.size a) ∧
  (∀ (k0_h9 : k0_cond9 v0 v7 v15 v23 v31 v39 v47 v55 v63 v71 v79 v87 v95 v103 v111 v119 v127 v135 v143 v151 v159 v167 v175 v183 v191 v199 v207 v215 v223 v231 v239 v247 k0_t1 = 1#1), ∀ (hinb : ∀ a, (k0_off87 v339) a + S1x2048x1536.size a ≤ S32x2048x1536.size a), (Rect.unit (s := S32x2048x1536) (k0_off87 v339) S1x2048x1536.size hinb).WholeWords (EltTy.packing .fp8e4m3))
theorem k0_off87_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) (v339 : BitVec 32) (k0_hw44 : k0_chk44 v0 v7 v15 v23 v31 v39 v47 v55 v63 v71 v79 v87 v95 v103 v111 v119 v127 v135 v143 v151 v159 v167 v175 v183 v191 v199 v207 v215 v223 v231 v239 v247 k0_t1 v339), ∀ (k0_h9 : k0_cond9 v0 v7 v15 v23 v31 v39 v47 v55 v63 v71 v79 v87 v95 v103 v111 v119 v127 v135 v143 v151 v159 v167 v175 v183 v191 v199 v207 v215 v223 v231 v239 v247 k0_t1 = 1#1), ∀ a, (k0_off87 v339) a + S1x2048x1536.size a ≤ S32x2048x1536.size a := fun v0 v7 v15 v23 v31 v39 v47 v55 v63 v71 v79 v87 v95 v103 v111 v119 v127 v135 v143 v151 v159 v167 v175 v183 v191 v199 v207 v215 v223 v231 v239 v247 k0_t1 v339 k0_hw44 k0_h9 => k0_hw44.1 k0_h9
theorem k0_off87_wordsfp8e4m3 : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t1 : Fin (k0_t1_loop v0 v7 v15 v23 v31 v39 v47 v55 v63 v71 v79 v87 v95 v103 v111 v119 v127 v135 v143 v151 v159 v167 v175 v183 v191 v199 v207 v215 v223 v231 v239 v247).trips) (v339 : BitVec 32) (k0_hw44 : k0_chk44 v0 v7 v15 v23 v31 v39 v47 v55 v63 v71 v79 v87 v95 v103 v111 v119 v127 v135 v143 v151 v159 v167 v175 v183 v191 v199 v207 v215 v223 v231 v239 v247 k0_t1 v339), ∀ (k0_h9 : k0_cond9 v0 v7 v15 v23 v31 v39 v47 v55 v63 v71 v79 v87 v95 v103 v111 v119 v127 v135 v143 v151 v159 v167 v175 v183 v191 v199 v207 v215 v223 v231 v239 v247 k0_t1 = 1#1), (Rect.unit (s := S32x2048x1536) (k0_off87 v339) S1x2048x1536.size (k0_off87_inb v0 v7 v15 v23 v31 v39 v47 v55 v63 v71 v79 v87 v95 v103 v111 v119 v127 v135 v143 v151 v159 v167 v175 v183 v191 v199 v207 v215 v223 v231 v239 v247 k0_t1 v339 k0_hw44 k0_h9)).WholeWords (EltTy.packing .fp8e4m3) := fun v0 v7 v15 v23 v31 v39 v47 v55 v63 v71 v79 v87 v95 v103 v111 v119 v127 v135 v143 v151 v159 v167 v175 v183 v191 v199 v207 v215 v223 v231 v239 v247 k0_t1 v339 k0_hw44 k0_h9 => k0_hw44.2 k0_h9 (k0_off87_inb v0 v7 v15 v23 v31 v39 v47 v55 v63 v71 v79 v87 v95 v103 v111 v119 v127 v135 v143 v151 v159 v167 v175 v183 v191 v199 v207 v215 v223 v231 v239 v247 k0_t1 v339 k0_hw44 k0_h9)

@[reducible] def k0_t4_loop (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) : Scf.Loop 32 :=
  let c0_i32_86 : BitVec 32 := 0#32
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let c0_i32_45 : BitVec 32 := 0#32
  let v163 : BitVec 1 := Scalar.cmpi .sgt v159 c0_i32_45
  let v164 : BitVec 32 := Scalar.extui v163
  let v165 : BitVec 32 := Scalar.addi v157 v164
  let c0_i32_47 : BitVec 32 := 0#32
  let v171 : BitVec 1 := Scalar.cmpi .sgt v167 c0_i32_47
  let v172 : BitVec 32 := Scalar.extui v171
  let v173 : BitVec 32 := Scalar.addi v165 v172
  let c0_i32_49 : BitVec 32 := 0#32
  let v179 : BitVec 1 := Scalar.cmpi .sgt v175 c0_i32_49
  let v180 : BitVec 32 := Scalar.extui v179
  let v181 : BitVec 32 := Scalar.addi v173 v180
  let c0_i32_51 : BitVec 32 := 0#32
  let v187 : BitVec 1 := Scalar.cmpi .sgt v183 c0_i32_51
  let v188 : BitVec 32 := Scalar.extui v187
  let v189 : BitVec 32 := Scalar.addi v181 v188
  let c0_i32_53 : BitVec 32 := 0#32
  let v195 : BitVec 1 := Scalar.cmpi .sgt v191 c0_i32_53
  let v196 : BitVec 32 := Scalar.extui v195
  let v197 : BitVec 32 := Scalar.addi v189 v196
  let c0_i32_55 : BitVec 32 := 0#32
  let v203 : BitVec 1 := Scalar.cmpi .sgt v199 c0_i32_55
  let v204 : BitVec 32 := Scalar.extui v203
  let v205 : BitVec 32 := Scalar.addi v197 v204
  let c0_i32_57 : BitVec 32 := 0#32
  let v211 : BitVec 1 := Scalar.cmpi .sgt v207 c0_i32_57
  let v212 : BitVec 32 := Scalar.extui v211
  let v213 : BitVec 32 := Scalar.addi v205 v212
  let c0_i32_59 : BitVec 32 := 0#32
  let v219 : BitVec 1 := Scalar.cmpi .sgt v215 c0_i32_59
  let v220 : BitVec 32 := Scalar.extui v219
  let v221 : BitVec 32 := Scalar.addi v213 v220
  let c0_i32_61 : BitVec 32 := 0#32
  let v227 : BitVec 1 := Scalar.cmpi .sgt v223 c0_i32_61
  let v228 : BitVec 32 := Scalar.extui v227
  let v229 : BitVec 32 := Scalar.addi v221 v228
  let c0_i32_63 : BitVec 32 := 0#32
  let v235 : BitVec 1 := Scalar.cmpi .sgt v231 c0_i32_63
  let v236 : BitVec 32 := Scalar.extui v235
  let v237 : BitVec 32 := Scalar.addi v229 v236
  let c0_i32_65 : BitVec 32 := 0#32
  let v243 : BitVec 1 := Scalar.cmpi .sgt v239 c0_i32_65
  let v244 : BitVec 32 := Scalar.extui v243
  let v245 : BitVec 32 := Scalar.addi v237 v244
  let c0_i32_67 : BitVec 32 := 0#32
  let v251 : BitVec 1 := Scalar.cmpi .sgt v247 c0_i32_67
  let v252 : BitVec 32 := Scalar.extui v251
  let v253 : BitVec 32 := Scalar.addi v245 v252
  let v280 : BitVec 32 := Scalar.subi v253 c0_i32_86
  let c1_i32_88 : BitVec 32 := 1#32
  let v282 : BitVec 32 := Scalar.divsi v280 c1_i32_88
  let v283 : BitVec 32 := Scalar.muli v282 c1_i32_88
  let v284 : BitVec 32 := Scalar.addi c0_i32_86 v283
  let v281 : BitVec 32 := Scalar.addi c0_i32_86 v280
  let c1_i32_90 : BitVec 32 := 1#32
  ⟨v284, v281, c1_i32_90⟩
def k0_off88 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) : Fin 1 → Nat :=
  let c0_i32_86 : BitVec 32 := 0#32
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let c0_i32_45 : BitVec 32 := 0#32
  let v163 : BitVec 1 := Scalar.cmpi .sgt v159 c0_i32_45
  let v164 : BitVec 32 := Scalar.extui v163
  let v165 : BitVec 32 := Scalar.addi v157 v164
  let c0_i32_47 : BitVec 32 := 0#32
  let v171 : BitVec 1 := Scalar.cmpi .sgt v167 c0_i32_47
  let v172 : BitVec 32 := Scalar.extui v171
  let v173 : BitVec 32 := Scalar.addi v165 v172
  let c0_i32_49 : BitVec 32 := 0#32
  let v179 : BitVec 1 := Scalar.cmpi .sgt v175 c0_i32_49
  let v180 : BitVec 32 := Scalar.extui v179
  let v181 : BitVec 32 := Scalar.addi v173 v180
  let c0_i32_51 : BitVec 32 := 0#32
  let v187 : BitVec 1 := Scalar.cmpi .sgt v183 c0_i32_51
  let v188 : BitVec 32 := Scalar.extui v187
  let v189 : BitVec 32 := Scalar.addi v181 v188
  let c0_i32_53 : BitVec 32 := 0#32
  let v195 : BitVec 1 := Scalar.cmpi .sgt v191 c0_i32_53
  let v196 : BitVec 32 := Scalar.extui v195
  let v197 : BitVec 32 := Scalar.addi v189 v196
  let c0_i32_55 : BitVec 32 := 0#32
  let v203 : BitVec 1 := Scalar.cmpi .sgt v199 c0_i32_55
  let v204 : BitVec 32 := Scalar.extui v203
  let v205 : BitVec 32 := Scalar.addi v197 v204
  let c0_i32_57 : BitVec 32 := 0#32
  let v211 : BitVec 1 := Scalar.cmpi .sgt v207 c0_i32_57
  let v212 : BitVec 32 := Scalar.extui v211
  let v213 : BitVec 32 := Scalar.addi v205 v212
  let c0_i32_59 : BitVec 32 := 0#32
  let v219 : BitVec 1 := Scalar.cmpi .sgt v215 c0_i32_59
  let v220 : BitVec 32 := Scalar.extui v219
  let v221 : BitVec 32 := Scalar.addi v213 v220
  let c0_i32_61 : BitVec 32 := 0#32
  let v227 : BitVec 1 := Scalar.cmpi .sgt v223 c0_i32_61
  let v228 : BitVec 32 := Scalar.extui v227
  let v229 : BitVec 32 := Scalar.addi v221 v228
  let c0_i32_63 : BitVec 32 := 0#32
  let v235 : BitVec 1 := Scalar.cmpi .sgt v231 c0_i32_63
  let v236 : BitVec 32 := Scalar.extui v235
  let v237 : BitVec 32 := Scalar.addi v229 v236
  let c0_i32_65 : BitVec 32 := 0#32
  let v243 : BitVec 1 := Scalar.cmpi .sgt v239 c0_i32_65
  let v244 : BitVec 32 := Scalar.extui v243
  let v245 : BitVec 32 := Scalar.addi v237 v244
  let c0_i32_67 : BitVec 32 := 0#32
  let v251 : BitVec 1 := Scalar.cmpi .sgt v247 c0_i32_67
  let v252 : BitVec 32 := Scalar.extui v251
  let v253 : BitVec 32 := Scalar.addi v245 v252
  let v280 : BitVec 32 := Scalar.subi v253 c0_i32_86
  let c1_i32_88 : BitVec 32 := 1#32
  let v282 : BitVec 32 := Scalar.divsi v280 c1_i32_88
  let v283 : BitVec 32 := Scalar.muli v282 c1_i32_88
  let v284 : BitVec 32 := Scalar.addi c0_i32_86 v283
  let c1_i32_90 : BitVec 32 := 1#32
  let arg18 : BitVec 32 := Scf.iv v284 c1_i32_90 k0_t4
  let v287 : Index := Scalar.indexCast arg18
  ![v287.toNat]
def k0_off89 (v288 : BitVec 32) : Fin 1 → Nat :=
  let v290 : Index := Scalar.indexCast v288
  ![v290.toNat]

def k0_chk45 (v288 : BitVec 32) : Prop :=
  (∀ a, (k0_off89 v288) a + S1.size a ≤ S32.size a)
theorem k0_off89_inb : ∀ (v288 : BitVec 32) (k0_hw45 : k0_chk45 v288), ∀ a, (k0_off89 v288) a + S1.size a ≤ S32.size a := fun v288 k0_hw45 => k0_hw45

def k0_off90 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) : Fin 1 → Nat :=
  let c0_i32_86 : BitVec 32 := 0#32
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let c0_i32_45 : BitVec 32 := 0#32
  let v163 : BitVec 1 := Scalar.cmpi .sgt v159 c0_i32_45
  let v164 : BitVec 32 := Scalar.extui v163
  let v165 : BitVec 32 := Scalar.addi v157 v164
  let c0_i32_47 : BitVec 32 := 0#32
  let v171 : BitVec 1 := Scalar.cmpi .sgt v167 c0_i32_47
  let v172 : BitVec 32 := Scalar.extui v171
  let v173 : BitVec 32 := Scalar.addi v165 v172
  let c0_i32_49 : BitVec 32 := 0#32
  let v179 : BitVec 1 := Scalar.cmpi .sgt v175 c0_i32_49
  let v180 : BitVec 32 := Scalar.extui v179
  let v181 : BitVec 32 := Scalar.addi v173 v180
  let c0_i32_51 : BitVec 32 := 0#32
  let v187 : BitVec 1 := Scalar.cmpi .sgt v183 c0_i32_51
  let v188 : BitVec 32 := Scalar.extui v187
  let v189 : BitVec 32 := Scalar.addi v181 v188
  let c0_i32_53 : BitVec 32 := 0#32
  let v195 : BitVec 1 := Scalar.cmpi .sgt v191 c0_i32_53
  let v196 : BitVec 32 := Scalar.extui v195
  let v197 : BitVec 32 := Scalar.addi v189 v196
  let c0_i32_55 : BitVec 32 := 0#32
  let v203 : BitVec 1 := Scalar.cmpi .sgt v199 c0_i32_55
  let v204 : BitVec 32 := Scalar.extui v203
  let v205 : BitVec 32 := Scalar.addi v197 v204
  let c0_i32_57 : BitVec 32 := 0#32
  let v211 : BitVec 1 := Scalar.cmpi .sgt v207 c0_i32_57
  let v212 : BitVec 32 := Scalar.extui v211
  let v213 : BitVec 32 := Scalar.addi v205 v212
  let c0_i32_59 : BitVec 32 := 0#32
  let v219 : BitVec 1 := Scalar.cmpi .sgt v215 c0_i32_59
  let v220 : BitVec 32 := Scalar.extui v219
  let v221 : BitVec 32 := Scalar.addi v213 v220
  let c0_i32_61 : BitVec 32 := 0#32
  let v227 : BitVec 1 := Scalar.cmpi .sgt v223 c0_i32_61
  let v228 : BitVec 32 := Scalar.extui v227
  let v229 : BitVec 32 := Scalar.addi v221 v228
  let c0_i32_63 : BitVec 32 := 0#32
  let v235 : BitVec 1 := Scalar.cmpi .sgt v231 c0_i32_63
  let v236 : BitVec 32 := Scalar.extui v235
  let v237 : BitVec 32 := Scalar.addi v229 v236
  let c0_i32_65 : BitVec 32 := 0#32
  let v243 : BitVec 1 := Scalar.cmpi .sgt v239 c0_i32_65
  let v244 : BitVec 32 := Scalar.extui v243
  let v245 : BitVec 32 := Scalar.addi v237 v244
  let c0_i32_67 : BitVec 32 := 0#32
  let v251 : BitVec 1 := Scalar.cmpi .sgt v247 c0_i32_67
  let v252 : BitVec 32 := Scalar.extui v251
  let v253 : BitVec 32 := Scalar.addi v245 v252
  let v280 : BitVec 32 := Scalar.subi v253 c0_i32_86
  let c1_i32_88 : BitVec 32 := 1#32
  let v282 : BitVec 32 := Scalar.divsi v280 c1_i32_88
  let v283 : BitVec 32 := Scalar.muli v282 c1_i32_88
  let v284 : BitVec 32 := Scalar.addi c0_i32_86 v283
  let c1_i32_90 : BitVec 32 := 1#32
  let arg18 : BitVec 32 := Scf.iv v284 c1_i32_90 k0_t4
  let v317 : Index := Scalar.indexCast arg18
  ![v317.toNat]
def k0_off91 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) : Fin 1 → Nat :=
  let c0_i32_86 : BitVec 32 := 0#32
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let c0_i32_45 : BitVec 32 := 0#32
  let v163 : BitVec 1 := Scalar.cmpi .sgt v159 c0_i32_45
  let v164 : BitVec 32 := Scalar.extui v163
  let v165 : BitVec 32 := Scalar.addi v157 v164
  let c0_i32_47 : BitVec 32 := 0#32
  let v171 : BitVec 1 := Scalar.cmpi .sgt v167 c0_i32_47
  let v172 : BitVec 32 := Scalar.extui v171
  let v173 : BitVec 32 := Scalar.addi v165 v172
  let c0_i32_49 : BitVec 32 := 0#32
  let v179 : BitVec 1 := Scalar.cmpi .sgt v175 c0_i32_49
  let v180 : BitVec 32 := Scalar.extui v179
  let v181 : BitVec 32 := Scalar.addi v173 v180
  let c0_i32_51 : BitVec 32 := 0#32
  let v187 : BitVec 1 := Scalar.cmpi .sgt v183 c0_i32_51
  let v188 : BitVec 32 := Scalar.extui v187
  let v189 : BitVec 32 := Scalar.addi v181 v188
  let c0_i32_53 : BitVec 32 := 0#32
  let v195 : BitVec 1 := Scalar.cmpi .sgt v191 c0_i32_53
  let v196 : BitVec 32 := Scalar.extui v195
  let v197 : BitVec 32 := Scalar.addi v189 v196
  let c0_i32_55 : BitVec 32 := 0#32
  let v203 : BitVec 1 := Scalar.cmpi .sgt v199 c0_i32_55
  let v204 : BitVec 32 := Scalar.extui v203
  let v205 : BitVec 32 := Scalar.addi v197 v204
  let c0_i32_57 : BitVec 32 := 0#32
  let v211 : BitVec 1 := Scalar.cmpi .sgt v207 c0_i32_57
  let v212 : BitVec 32 := Scalar.extui v211
  let v213 : BitVec 32 := Scalar.addi v205 v212
  let c0_i32_59 : BitVec 32 := 0#32
  let v219 : BitVec 1 := Scalar.cmpi .sgt v215 c0_i32_59
  let v220 : BitVec 32 := Scalar.extui v219
  let v221 : BitVec 32 := Scalar.addi v213 v220
  let c0_i32_61 : BitVec 32 := 0#32
  let v227 : BitVec 1 := Scalar.cmpi .sgt v223 c0_i32_61
  let v228 : BitVec 32 := Scalar.extui v227
  let v229 : BitVec 32 := Scalar.addi v221 v228
  let c0_i32_63 : BitVec 32 := 0#32
  let v235 : BitVec 1 := Scalar.cmpi .sgt v231 c0_i32_63
  let v236 : BitVec 32 := Scalar.extui v235
  let v237 : BitVec 32 := Scalar.addi v229 v236
  let c0_i32_65 : BitVec 32 := 0#32
  let v243 : BitVec 1 := Scalar.cmpi .sgt v239 c0_i32_65
  let v244 : BitVec 32 := Scalar.extui v243
  let v245 : BitVec 32 := Scalar.addi v237 v244
  let c0_i32_67 : BitVec 32 := 0#32
  let v251 : BitVec 1 := Scalar.cmpi .sgt v247 c0_i32_67
  let v252 : BitVec 32 := Scalar.extui v251
  let v253 : BitVec 32 := Scalar.addi v245 v252
  let v280 : BitVec 32 := Scalar.subi v253 c0_i32_86
  let c1_i32_88 : BitVec 32 := 1#32
  let v282 : BitVec 32 := Scalar.divsi v280 c1_i32_88
  let v283 : BitVec 32 := Scalar.muli v282 c1_i32_88
  let v284 : BitVec 32 := Scalar.addi c0_i32_86 v283
  let c1_i32_90 : BitVec 32 := 1#32
  let arg18 : BitVec 32 := Scf.iv v284 c1_i32_90 k0_t4
  let c8_i32_99 : BitVec 32 := 8#32
  let v316 : BitVec 32 := Scalar.remsi arg18 c8_i32_99
  ![v316.toNat]
def k0_off92 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) : Fin 3 → Nat :=
  let c0_i32_86 : BitVec 32 := 0#32
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let c0_i32_45 : BitVec 32 := 0#32
  let v163 : BitVec 1 := Scalar.cmpi .sgt v159 c0_i32_45
  let v164 : BitVec 32 := Scalar.extui v163
  let v165 : BitVec 32 := Scalar.addi v157 v164
  let c0_i32_47 : BitVec 32 := 0#32
  let v171 : BitVec 1 := Scalar.cmpi .sgt v167 c0_i32_47
  let v172 : BitVec 32 := Scalar.extui v171
  let v173 : BitVec 32 := Scalar.addi v165 v172
  let c0_i32_49 : BitVec 32 := 0#32
  let v179 : BitVec 1 := Scalar.cmpi .sgt v175 c0_i32_49
  let v180 : BitVec 32 := Scalar.extui v179
  let v181 : BitVec 32 := Scalar.addi v173 v180
  let c0_i32_51 : BitVec 32 := 0#32
  let v187 : BitVec 1 := Scalar.cmpi .sgt v183 c0_i32_51
  let v188 : BitVec 32 := Scalar.extui v187
  let v189 : BitVec 32 := Scalar.addi v181 v188
  let c0_i32_53 : BitVec 32 := 0#32
  let v195 : BitVec 1 := Scalar.cmpi .sgt v191 c0_i32_53
  let v196 : BitVec 32 := Scalar.extui v195
  let v197 : BitVec 32 := Scalar.addi v189 v196
  let c0_i32_55 : BitVec 32 := 0#32
  let v203 : BitVec 1 := Scalar.cmpi .sgt v199 c0_i32_55
  let v204 : BitVec 32 := Scalar.extui v203
  let v205 : BitVec 32 := Scalar.addi v197 v204
  let c0_i32_57 : BitVec 32 := 0#32
  let v211 : BitVec 1 := Scalar.cmpi .sgt v207 c0_i32_57
  let v212 : BitVec 32 := Scalar.extui v211
  let v213 : BitVec 32 := Scalar.addi v205 v212
  let c0_i32_59 : BitVec 32 := 0#32
  let v219 : BitVec 1 := Scalar.cmpi .sgt v215 c0_i32_59
  let v220 : BitVec 32 := Scalar.extui v219
  let v221 : BitVec 32 := Scalar.addi v213 v220
  let c0_i32_61 : BitVec 32 := 0#32
  let v227 : BitVec 1 := Scalar.cmpi .sgt v223 c0_i32_61
  let v228 : BitVec 32 := Scalar.extui v227
  let v229 : BitVec 32 := Scalar.addi v221 v228
  let c0_i32_63 : BitVec 32 := 0#32
  let v235 : BitVec 1 := Scalar.cmpi .sgt v231 c0_i32_63
  let v236 : BitVec 32 := Scalar.extui v235
  let v237 : BitVec 32 := Scalar.addi v229 v236
  let c0_i32_65 : BitVec 32 := 0#32
  let v243 : BitVec 1 := Scalar.cmpi .sgt v239 c0_i32_65
  let v244 : BitVec 32 := Scalar.extui v243
  let v245 : BitVec 32 := Scalar.addi v237 v244
  let c0_i32_67 : BitVec 32 := 0#32
  let v251 : BitVec 1 := Scalar.cmpi .sgt v247 c0_i32_67
  let v252 : BitVec 32 := Scalar.extui v251
  let v253 : BitVec 32 := Scalar.addi v245 v252
  let v280 : BitVec 32 := Scalar.subi v253 c0_i32_86
  let c1_i32_88 : BitVec 32 := 1#32
  let v282 : BitVec 32 := Scalar.divsi v280 c1_i32_88
  let v283 : BitVec 32 := Scalar.muli v282 c1_i32_88
  let v284 : BitVec 32 := Scalar.addi c0_i32_86 v283
  let c1_i32_90 : BitVec 32 := 1#32
  let arg18 : BitVec 32 := Scf.iv v284 c1_i32_90 k0_t4
  let c8_i32_99 : BitVec 32 := 8#32
  let v316 : BitVec 32 := Scalar.remsi arg18 c8_i32_99
  let c0_i32_100 : BitVec 32 := 0#32
  let c0_i32_101 : BitVec 32 := 0#32
  ![v316.toNat, 0, 0]
def k0_off93 (v318 : BitVec 32) : Fin 3 → Nat :=
  let c0_i32_102 : BitVec 32 := 0#32
  let c0_i32_103 : BitVec 32 := 0#32
  ![v318.toNat, 0, 0]

def k0_chk46 (v318 : BitVec 32) : Prop :=
  (∀ a, (k0_off93 v318) a + S1x2048x1536.size a ≤ S32x2048x1536.size a) ∧
  (∀ (hinb : ∀ a, (k0_off93 v318) a + S1x2048x1536.size a ≤ S32x2048x1536.size a), (Rect.unit (s := S32x2048x1536) (k0_off93 v318) S1x2048x1536.size hinb).WholeWords (EltTy.packing .fp8e4m3))
theorem k0_off93_inb : ∀ (v318 : BitVec 32) (k0_hw46 : k0_chk46 v318), ∀ a, (k0_off93 v318) a + S1x2048x1536.size a ≤ S32x2048x1536.size a := fun v318 k0_hw46 => k0_hw46.1
theorem k0_off93_wordsfp8e4m3 : ∀ (v318 : BitVec 32) (k0_hw46 : k0_chk46 v318), (Rect.unit (s := S32x2048x1536) (k0_off93 v318) S1x2048x1536.size (k0_off93_inb v318 k0_hw46)).WholeWords (EltTy.packing .fp8e4m3) := fun v318 k0_hw46 => k0_hw46.2 (k0_off93_inb v318 k0_hw46)

@[reducible] def k0_t5_loop (v291 : BitVec 32) (v293 : BitVec 32) : Scf.Loop 32 :=
  let c0_i32_104 : BitVec 32 := 0#32
  let v294 : BitVec 32 := Scalar.addi v291 v293
  let c0_i32_92 : BitVec 32 := 0#32
  let v296 : BitVec 1 := Scalar.cmpi .sgt v291 c0_i32_92
  let v297 : BitVec 32 := Scalar.extui v296
  let c0_i32_93 : BitVec 32 := 0#32
  let v298 : BitVec 1 := Scalar.cmpi .slt v291 c0_i32_93
  let v299 : BitVec 32 := Scalar.extui v298
  let v300 : BitVec 32 := Scalar.subi v297 v299
  let c32_i32 : BitVec 32 := 32#32
  let c0_i32_94 : BitVec 32 := 0#32
  let v301 : BitVec 1 := Scalar.cmpi .sgt c32_i32 c0_i32_94
  let v302 : BitVec 32 := Scalar.extui v301
  let c0_i32_95 : BitVec 32 := 0#32
  let v303 : BitVec 1 := Scalar.cmpi .slt c32_i32 c0_i32_95
  let v304 : BitVec 32 := Scalar.extui v303
  let v305 : BitVec 32 := Scalar.subi v302 v304
  let v306 : BitVec 1 := Scalar.cmpi .ne v300 v305
  let v307 : BitVec 32 := Scalar.remsi v291 c32_i32
  let c0_i32_96 : BitVec 32 := 0#32
  let v308 : BitVec 1 := Scalar.cmpi .ne v307 c0_i32_96
  let v309 : BitVec 1 := Scalar.andi v306 v308
  let v295 : BitVec 32 := Scalar.divsi v291 c32_i32
  let c1_i32_97 : BitVec 32 := 1#32
  let v310 : BitVec 32 := Scalar.subi v295 c1_i32_97
  let v311 : BitVec 32 := Scalar.select v309 v310 v295
  let c32_i32_98 : BitVec 32 := 32#32
  let v312 : BitVec 32 := Scalar.muli v311 c32_i32_98
  let v313 : BitVec 32 := Scalar.subi v294 v312
  let c95_i32 : BitVec 32 := 95#32
  let v314 : BitVec 32 := Scalar.addi v313 c95_i32
  let c96_i32 : BitVec 32 := 96#32
  let v315 : BitVec 32 := Scalar.divsi v314 c96_i32
  let v325 : BitVec 32 := Scalar.subi v315 c0_i32_104
  let c1_i32_106 : BitVec 32 := 1#32
  let v327 : BitVec 32 := Scalar.divsi v325 c1_i32_106
  let v328 : BitVec 32 := Scalar.muli v327 c1_i32_106
  let v329 : BitVec 32 := Scalar.addi c0_i32_104 v328
  let c1_i32_107 : BitVec 32 := 1#32
  ⟨c0_i32_104, v329, c1_i32_107⟩

def k0_mult3 (v291 : BitVec 32) (v293 : BitVec 32) (k0_t5 : Fin (k0_t5_loop v291 v293).trips) : BitVec 32 :=
  let c0_i32_92 : BitVec 32 := 0#32
  let v296 : BitVec 1 := Scalar.cmpi .sgt v291 c0_i32_92
  let v297 : BitVec 32 := Scalar.extui v296
  let c0_i32_93 : BitVec 32 := 0#32
  let v298 : BitVec 1 := Scalar.cmpi .slt v291 c0_i32_93
  let v299 : BitVec 32 := Scalar.extui v298
  let v300 : BitVec 32 := Scalar.subi v297 v299
  let c32_i32 : BitVec 32 := 32#32
  let c0_i32_94 : BitVec 32 := 0#32
  let v301 : BitVec 1 := Scalar.cmpi .sgt c32_i32 c0_i32_94
  let v302 : BitVec 32 := Scalar.extui v301
  let c0_i32_95 : BitVec 32 := 0#32
  let v303 : BitVec 1 := Scalar.cmpi .slt c32_i32 c0_i32_95
  let v304 : BitVec 32 := Scalar.extui v303
  let v305 : BitVec 32 := Scalar.subi v302 v304
  let v306 : BitVec 1 := Scalar.cmpi .ne v300 v305
  let v307 : BitVec 32 := Scalar.remsi v291 c32_i32
  let c0_i32_96 : BitVec 32 := 0#32
  let v308 : BitVec 1 := Scalar.cmpi .ne v307 c0_i32_96
  let v309 : BitVec 1 := Scalar.andi v306 v308
  let v295 : BitVec 32 := Scalar.divsi v291 c32_i32
  let c1_i32_97 : BitVec 32 := 1#32
  let v310 : BitVec 32 := Scalar.subi v295 c1_i32_97
  let v311 : BitVec 32 := Scalar.select v309 v310 v295
  let c32_i32_98 : BitVec 32 := 32#32
  let v312 : BitVec 32 := Scalar.muli v311 c32_i32_98
  let c0_i32_104 : BitVec 32 := 0#32
  let c1_i32_107 : BitVec 32 := 1#32
  let arg20 : BitVec 32 := Scf.iv c0_i32_104 c1_i32_107 k0_t5
  let c96_i32_112 : BitVec 32 := 96#32
  let v336 : BitVec 32 := Scalar.muli arg20 c96_i32_112
  let v337 : BitVec 32 := Scalar.addi v312 v336
  let c672_i32 : BitVec 32 := 672#32
  let v338 : BitVec 32 := Scalar.minsi v337 c672_i32
  v338
def k0_off94 (v291 : BitVec 32) (v293 : BitVec 32) (k0_t5 : Fin (k0_t5_loop v291 v293).trips) : Fin 2 → Nat :=
  let c0_i32_92 : BitVec 32 := 0#32
  let v296 : BitVec 1 := Scalar.cmpi .sgt v291 c0_i32_92
  let v297 : BitVec 32 := Scalar.extui v296
  let c0_i32_93 : BitVec 32 := 0#32
  let v298 : BitVec 1 := Scalar.cmpi .slt v291 c0_i32_93
  let v299 : BitVec 32 := Scalar.extui v298
  let v300 : BitVec 32 := Scalar.subi v297 v299
  let c32_i32 : BitVec 32 := 32#32
  let c0_i32_94 : BitVec 32 := 0#32
  let v301 : BitVec 1 := Scalar.cmpi .sgt c32_i32 c0_i32_94
  let v302 : BitVec 32 := Scalar.extui v301
  let c0_i32_95 : BitVec 32 := 0#32
  let v303 : BitVec 1 := Scalar.cmpi .slt c32_i32 c0_i32_95
  let v304 : BitVec 32 := Scalar.extui v303
  let v305 : BitVec 32 := Scalar.subi v302 v304
  let v306 : BitVec 1 := Scalar.cmpi .ne v300 v305
  let v307 : BitVec 32 := Scalar.remsi v291 c32_i32
  let c0_i32_96 : BitVec 32 := 0#32
  let v308 : BitVec 1 := Scalar.cmpi .ne v307 c0_i32_96
  let v309 : BitVec 1 := Scalar.andi v306 v308
  let v295 : BitVec 32 := Scalar.divsi v291 c32_i32
  let c1_i32_97 : BitVec 32 := 1#32
  let v310 : BitVec 32 := Scalar.subi v295 c1_i32_97
  let v311 : BitVec 32 := Scalar.select v309 v310 v295
  let c32_i32_98 : BitVec 32 := 32#32
  let v312 : BitVec 32 := Scalar.muli v311 c32_i32_98
  let c0_i32_104 : BitVec 32 := 0#32
  let c1_i32_107 : BitVec 32 := 1#32
  let arg20 : BitVec 32 := Scf.iv c0_i32_104 c1_i32_107 k0_t5
  let c96_i32_112 : BitVec 32 := 96#32
  let v336 : BitVec 32 := Scalar.muli arg20 c96_i32_112
  let v337 : BitVec 32 := Scalar.addi v312 v336
  let c672_i32 : BitVec 32 := 672#32
  let v338 : BitVec 32 := Scalar.minsi v337 c672_i32
  let v339 : BitVec 32 := v338
  let v348 : Index := Scalar.indexCast v339
  let c0_113 : Index := 0#32
  ![v348.toNat, 0]
def k0_off95 (v291 : BitVec 32) (v293 : BitVec 32) (k0_t5 : Fin (k0_t5_loop v291 v293).trips) : Fin 2 → Nat :=
  let c0_i32_92 : BitVec 32 := 0#32
  let v296 : BitVec 1 := Scalar.cmpi .sgt v291 c0_i32_92
  let v297 : BitVec 32 := Scalar.extui v296
  let c0_i32_93 : BitVec 32 := 0#32
  let v298 : BitVec 1 := Scalar.cmpi .slt v291 c0_i32_93
  let v299 : BitVec 32 := Scalar.extui v298
  let v300 : BitVec 32 := Scalar.subi v297 v299
  let c32_i32 : BitVec 32 := 32#32
  let c0_i32_94 : BitVec 32 := 0#32
  let v301 : BitVec 1 := Scalar.cmpi .sgt c32_i32 c0_i32_94
  let v302 : BitVec 32 := Scalar.extui v301
  let c0_i32_95 : BitVec 32 := 0#32
  let v303 : BitVec 1 := Scalar.cmpi .slt c32_i32 c0_i32_95
  let v304 : BitVec 32 := Scalar.extui v303
  let v305 : BitVec 32 := Scalar.subi v302 v304
  let v306 : BitVec 1 := Scalar.cmpi .ne v300 v305
  let v307 : BitVec 32 := Scalar.remsi v291 c32_i32
  let c0_i32_96 : BitVec 32 := 0#32
  let v308 : BitVec 1 := Scalar.cmpi .ne v307 c0_i32_96
  let v309 : BitVec 1 := Scalar.andi v306 v308
  let v295 : BitVec 32 := Scalar.divsi v291 c32_i32
  let c1_i32_97 : BitVec 32 := 1#32
  let v310 : BitVec 32 := Scalar.subi v295 c1_i32_97
  let v311 : BitVec 32 := Scalar.select v309 v310 v295
  let c32_i32_98 : BitVec 32 := 32#32
  let v312 : BitVec 32 := Scalar.muli v311 c32_i32_98
  let c0_i32_104 : BitVec 32 := 0#32
  let c1_i32_107 : BitVec 32 := 1#32
  let arg20 : BitVec 32 := Scf.iv c0_i32_104 c1_i32_107 k0_t5
  let c96_i32_112 : BitVec 32 := 96#32
  let v336 : BitVec 32 := Scalar.muli arg20 c96_i32_112
  let v337 : BitVec 32 := Scalar.addi v312 v336
  let c672_i32 : BitVec 32 := 672#32
  let v338 : BitVec 32 := Scalar.minsi v337 c672_i32
  let v339 : BitVec 32 := v338
  let v350 : Index := Scalar.indexCast v339
  let c0_114 : Index := 0#32
  ![v350.toNat, 0]
def k0_off96 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) : Fin 3 → Nat :=
  let c0_i32_86 : BitVec 32 := 0#32
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let c0_i32_45 : BitVec 32 := 0#32
  let v163 : BitVec 1 := Scalar.cmpi .sgt v159 c0_i32_45
  let v164 : BitVec 32 := Scalar.extui v163
  let v165 : BitVec 32 := Scalar.addi v157 v164
  let c0_i32_47 : BitVec 32 := 0#32
  let v171 : BitVec 1 := Scalar.cmpi .sgt v167 c0_i32_47
  let v172 : BitVec 32 := Scalar.extui v171
  let v173 : BitVec 32 := Scalar.addi v165 v172
  let c0_i32_49 : BitVec 32 := 0#32
  let v179 : BitVec 1 := Scalar.cmpi .sgt v175 c0_i32_49
  let v180 : BitVec 32 := Scalar.extui v179
  let v181 : BitVec 32 := Scalar.addi v173 v180
  let c0_i32_51 : BitVec 32 := 0#32
  let v187 : BitVec 1 := Scalar.cmpi .sgt v183 c0_i32_51
  let v188 : BitVec 32 := Scalar.extui v187
  let v189 : BitVec 32 := Scalar.addi v181 v188
  let c0_i32_53 : BitVec 32 := 0#32
  let v195 : BitVec 1 := Scalar.cmpi .sgt v191 c0_i32_53
  let v196 : BitVec 32 := Scalar.extui v195
  let v197 : BitVec 32 := Scalar.addi v189 v196
  let c0_i32_55 : BitVec 32 := 0#32
  let v203 : BitVec 1 := Scalar.cmpi .sgt v199 c0_i32_55
  let v204 : BitVec 32 := Scalar.extui v203
  let v205 : BitVec 32 := Scalar.addi v197 v204
  let c0_i32_57 : BitVec 32 := 0#32
  let v211 : BitVec 1 := Scalar.cmpi .sgt v207 c0_i32_57
  let v212 : BitVec 32 := Scalar.extui v211
  let v213 : BitVec 32 := Scalar.addi v205 v212
  let c0_i32_59 : BitVec 32 := 0#32
  let v219 : BitVec 1 := Scalar.cmpi .sgt v215 c0_i32_59
  let v220 : BitVec 32 := Scalar.extui v219
  let v221 : BitVec 32 := Scalar.addi v213 v220
  let c0_i32_61 : BitVec 32 := 0#32
  let v227 : BitVec 1 := Scalar.cmpi .sgt v223 c0_i32_61
  let v228 : BitVec 32 := Scalar.extui v227
  let v229 : BitVec 32 := Scalar.addi v221 v228
  let c0_i32_63 : BitVec 32 := 0#32
  let v235 : BitVec 1 := Scalar.cmpi .sgt v231 c0_i32_63
  let v236 : BitVec 32 := Scalar.extui v235
  let v237 : BitVec 32 := Scalar.addi v229 v236
  let c0_i32_65 : BitVec 32 := 0#32
  let v243 : BitVec 1 := Scalar.cmpi .sgt v239 c0_i32_65
  let v244 : BitVec 32 := Scalar.extui v243
  let v245 : BitVec 32 := Scalar.addi v237 v244
  let c0_i32_67 : BitVec 32 := 0#32
  let v251 : BitVec 1 := Scalar.cmpi .sgt v247 c0_i32_67
  let v252 : BitVec 32 := Scalar.extui v251
  let v253 : BitVec 32 := Scalar.addi v245 v252
  let v280 : BitVec 32 := Scalar.subi v253 c0_i32_86
  let c1_i32_88 : BitVec 32 := 1#32
  let v282 : BitVec 32 := Scalar.divsi v280 c1_i32_88
  let v283 : BitVec 32 := Scalar.muli v282 c1_i32_88
  let v284 : BitVec 32 := Scalar.addi c0_i32_86 v283
  let c1_i32_90 : BitVec 32 := 1#32
  let arg18 : BitVec 32 := Scf.iv v284 c1_i32_90 k0_t4
  let c8_i32_91 : BitVec 32 := 8#32
  let v289 : BitVec 32 := Scalar.remsi arg18 c8_i32_91
  let v352 : Index := Scalar.indexCast v289
  let c0_115 : Index := 0#32
  let c0_116 : Index := 0#32
  ![v352.toNat, 0, 0]
def k0_off97 (v288 : BitVec 32) : Fin 2 → Nat :=
  let v358 : Index := Scalar.indexCast v288
  let c0_118 : Index := 0#32
  ![v358.toNat, 0]
def k0_off98 (v291 : BitVec 32) (v293 : BitVec 32) (k0_t5 : Fin (k0_t5_loop v291 v293).trips) : Fin 2 → Nat :=
  let c0_i32_92 : BitVec 32 := 0#32
  let v296 : BitVec 1 := Scalar.cmpi .sgt v291 c0_i32_92
  let v297 : BitVec 32 := Scalar.extui v296
  let c0_i32_93 : BitVec 32 := 0#32
  let v298 : BitVec 1 := Scalar.cmpi .slt v291 c0_i32_93
  let v299 : BitVec 32 := Scalar.extui v298
  let v300 : BitVec 32 := Scalar.subi v297 v299
  let c32_i32 : BitVec 32 := 32#32
  let c0_i32_94 : BitVec 32 := 0#32
  let v301 : BitVec 1 := Scalar.cmpi .sgt c32_i32 c0_i32_94
  let v302 : BitVec 32 := Scalar.extui v301
  let c0_i32_95 : BitVec 32 := 0#32
  let v303 : BitVec 1 := Scalar.cmpi .slt c32_i32 c0_i32_95
  let v304 : BitVec 32 := Scalar.extui v303
  let v305 : BitVec 32 := Scalar.subi v302 v304
  let v306 : BitVec 1 := Scalar.cmpi .ne v300 v305
  let v307 : BitVec 32 := Scalar.remsi v291 c32_i32
  let c0_i32_96 : BitVec 32 := 0#32
  let v308 : BitVec 1 := Scalar.cmpi .ne v307 c0_i32_96
  let v309 : BitVec 1 := Scalar.andi v306 v308
  let v295 : BitVec 32 := Scalar.divsi v291 c32_i32
  let c1_i32_97 : BitVec 32 := 1#32
  let v310 : BitVec 32 := Scalar.subi v295 c1_i32_97
  let v311 : BitVec 32 := Scalar.select v309 v310 v295
  let c32_i32_98 : BitVec 32 := 32#32
  let v312 : BitVec 32 := Scalar.muli v311 c32_i32_98
  let c0_i32_104 : BitVec 32 := 0#32
  let c1_i32_107 : BitVec 32 := 1#32
  let arg20 : BitVec 32 := Scf.iv c0_i32_104 c1_i32_107 k0_t5
  let c96_i32_112 : BitVec 32 := 96#32
  let v336 : BitVec 32 := Scalar.muli arg20 c96_i32_112
  let v337 : BitVec 32 := Scalar.addi v312 v336
  let c672_i32 : BitVec 32 := 672#32
  let v338 : BitVec 32 := Scalar.minsi v337 c672_i32
  let v339 : BitVec 32 := v338
  let v362 : Index := Scalar.indexCast v339
  let c0_119 : Index := 0#32
  ![v362.toNat, 0]
def k0_off99 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) : Fin 3 → Nat :=
  let c0_i32_86 : BitVec 32 := 0#32
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let c0_i32_45 : BitVec 32 := 0#32
  let v163 : BitVec 1 := Scalar.cmpi .sgt v159 c0_i32_45
  let v164 : BitVec 32 := Scalar.extui v163
  let v165 : BitVec 32 := Scalar.addi v157 v164
  let c0_i32_47 : BitVec 32 := 0#32
  let v171 : BitVec 1 := Scalar.cmpi .sgt v167 c0_i32_47
  let v172 : BitVec 32 := Scalar.extui v171
  let v173 : BitVec 32 := Scalar.addi v165 v172
  let c0_i32_49 : BitVec 32 := 0#32
  let v179 : BitVec 1 := Scalar.cmpi .sgt v175 c0_i32_49
  let v180 : BitVec 32 := Scalar.extui v179
  let v181 : BitVec 32 := Scalar.addi v173 v180
  let c0_i32_51 : BitVec 32 := 0#32
  let v187 : BitVec 1 := Scalar.cmpi .sgt v183 c0_i32_51
  let v188 : BitVec 32 := Scalar.extui v187
  let v189 : BitVec 32 := Scalar.addi v181 v188
  let c0_i32_53 : BitVec 32 := 0#32
  let v195 : BitVec 1 := Scalar.cmpi .sgt v191 c0_i32_53
  let v196 : BitVec 32 := Scalar.extui v195
  let v197 : BitVec 32 := Scalar.addi v189 v196
  let c0_i32_55 : BitVec 32 := 0#32
  let v203 : BitVec 1 := Scalar.cmpi .sgt v199 c0_i32_55
  let v204 : BitVec 32 := Scalar.extui v203
  let v205 : BitVec 32 := Scalar.addi v197 v204
  let c0_i32_57 : BitVec 32 := 0#32
  let v211 : BitVec 1 := Scalar.cmpi .sgt v207 c0_i32_57
  let v212 : BitVec 32 := Scalar.extui v211
  let v213 : BitVec 32 := Scalar.addi v205 v212
  let c0_i32_59 : BitVec 32 := 0#32
  let v219 : BitVec 1 := Scalar.cmpi .sgt v215 c0_i32_59
  let v220 : BitVec 32 := Scalar.extui v219
  let v221 : BitVec 32 := Scalar.addi v213 v220
  let c0_i32_61 : BitVec 32 := 0#32
  let v227 : BitVec 1 := Scalar.cmpi .sgt v223 c0_i32_61
  let v228 : BitVec 32 := Scalar.extui v227
  let v229 : BitVec 32 := Scalar.addi v221 v228
  let c0_i32_63 : BitVec 32 := 0#32
  let v235 : BitVec 1 := Scalar.cmpi .sgt v231 c0_i32_63
  let v236 : BitVec 32 := Scalar.extui v235
  let v237 : BitVec 32 := Scalar.addi v229 v236
  let c0_i32_65 : BitVec 32 := 0#32
  let v243 : BitVec 1 := Scalar.cmpi .sgt v239 c0_i32_65
  let v244 : BitVec 32 := Scalar.extui v243
  let v245 : BitVec 32 := Scalar.addi v237 v244
  let c0_i32_67 : BitVec 32 := 0#32
  let v251 : BitVec 1 := Scalar.cmpi .sgt v247 c0_i32_67
  let v252 : BitVec 32 := Scalar.extui v251
  let v253 : BitVec 32 := Scalar.addi v245 v252
  let v280 : BitVec 32 := Scalar.subi v253 c0_i32_86
  let c1_i32_88 : BitVec 32 := 1#32
  let v282 : BitVec 32 := Scalar.divsi v280 c1_i32_88
  let v283 : BitVec 32 := Scalar.muli v282 c1_i32_88
  let v284 : BitVec 32 := Scalar.addi c0_i32_86 v283
  let c1_i32_90 : BitVec 32 := 1#32
  let arg18 : BitVec 32 := Scf.iv v284 c1_i32_90 k0_t4
  let c8_i32_91 : BitVec 32 := 8#32
  let v289 : BitVec 32 := Scalar.remsi arg18 c8_i32_91
  let v372 : Index := Scalar.indexCast v289
  let c0_121 : Index := 0#32
  let c512 : Index := 512#32
  ![v372.toNat, 0, 512]
def k0_off100 (v288 : BitVec 32) : Fin 2 → Nat :=
  let v378 : Index := Scalar.indexCast v288
  let c512_123 : Index := 512#32
  ![v378.toNat, 512]
def k0_off101 (v291 : BitVec 32) (v293 : BitVec 32) (k0_t5 : Fin (k0_t5_loop v291 v293).trips) : Fin 2 → Nat :=
  let c0_i32_92 : BitVec 32 := 0#32
  let v296 : BitVec 1 := Scalar.cmpi .sgt v291 c0_i32_92
  let v297 : BitVec 32 := Scalar.extui v296
  let c0_i32_93 : BitVec 32 := 0#32
  let v298 : BitVec 1 := Scalar.cmpi .slt v291 c0_i32_93
  let v299 : BitVec 32 := Scalar.extui v298
  let v300 : BitVec 32 := Scalar.subi v297 v299
  let c32_i32 : BitVec 32 := 32#32
  let c0_i32_94 : BitVec 32 := 0#32
  let v301 : BitVec 1 := Scalar.cmpi .sgt c32_i32 c0_i32_94
  let v302 : BitVec 32 := Scalar.extui v301
  let c0_i32_95 : BitVec 32 := 0#32
  let v303 : BitVec 1 := Scalar.cmpi .slt c32_i32 c0_i32_95
  let v304 : BitVec 32 := Scalar.extui v303
  let v305 : BitVec 32 := Scalar.subi v302 v304
  let v306 : BitVec 1 := Scalar.cmpi .ne v300 v305
  let v307 : BitVec 32 := Scalar.remsi v291 c32_i32
  let c0_i32_96 : BitVec 32 := 0#32
  let v308 : BitVec 1 := Scalar.cmpi .ne v307 c0_i32_96
  let v309 : BitVec 1 := Scalar.andi v306 v308
  let v295 : BitVec 32 := Scalar.divsi v291 c32_i32
  let c1_i32_97 : BitVec 32 := 1#32
  let v310 : BitVec 32 := Scalar.subi v295 c1_i32_97
  let v311 : BitVec 32 := Scalar.select v309 v310 v295
  let c32_i32_98 : BitVec 32 := 32#32
  let v312 : BitVec 32 := Scalar.muli v311 c32_i32_98
  let c0_i32_104 : BitVec 32 := 0#32
  let c1_i32_107 : BitVec 32 := 1#32
  let arg20 : BitVec 32 := Scf.iv c0_i32_104 c1_i32_107 k0_t5
  let c96_i32_112 : BitVec 32 := 96#32
  let v336 : BitVec 32 := Scalar.muli arg20 c96_i32_112
  let v337 : BitVec 32 := Scalar.addi v312 v336
  let c672_i32 : BitVec 32 := 672#32
  let v338 : BitVec 32 := Scalar.minsi v337 c672_i32
  let v339 : BitVec 32 := v338
  let v382 : Index := Scalar.indexCast v339
  let c512_124 : Index := 512#32
  ![v382.toNat, 512]
def k0_off102 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) : Fin 3 → Nat :=
  let c0_i32_86 : BitVec 32 := 0#32
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let c0_i32_45 : BitVec 32 := 0#32
  let v163 : BitVec 1 := Scalar.cmpi .sgt v159 c0_i32_45
  let v164 : BitVec 32 := Scalar.extui v163
  let v165 : BitVec 32 := Scalar.addi v157 v164
  let c0_i32_47 : BitVec 32 := 0#32
  let v171 : BitVec 1 := Scalar.cmpi .sgt v167 c0_i32_47
  let v172 : BitVec 32 := Scalar.extui v171
  let v173 : BitVec 32 := Scalar.addi v165 v172
  let c0_i32_49 : BitVec 32 := 0#32
  let v179 : BitVec 1 := Scalar.cmpi .sgt v175 c0_i32_49
  let v180 : BitVec 32 := Scalar.extui v179
  let v181 : BitVec 32 := Scalar.addi v173 v180
  let c0_i32_51 : BitVec 32 := 0#32
  let v187 : BitVec 1 := Scalar.cmpi .sgt v183 c0_i32_51
  let v188 : BitVec 32 := Scalar.extui v187
  let v189 : BitVec 32 := Scalar.addi v181 v188
  let c0_i32_53 : BitVec 32 := 0#32
  let v195 : BitVec 1 := Scalar.cmpi .sgt v191 c0_i32_53
  let v196 : BitVec 32 := Scalar.extui v195
  let v197 : BitVec 32 := Scalar.addi v189 v196
  let c0_i32_55 : BitVec 32 := 0#32
  let v203 : BitVec 1 := Scalar.cmpi .sgt v199 c0_i32_55
  let v204 : BitVec 32 := Scalar.extui v203
  let v205 : BitVec 32 := Scalar.addi v197 v204
  let c0_i32_57 : BitVec 32 := 0#32
  let v211 : BitVec 1 := Scalar.cmpi .sgt v207 c0_i32_57
  let v212 : BitVec 32 := Scalar.extui v211
  let v213 : BitVec 32 := Scalar.addi v205 v212
  let c0_i32_59 : BitVec 32 := 0#32
  let v219 : BitVec 1 := Scalar.cmpi .sgt v215 c0_i32_59
  let v220 : BitVec 32 := Scalar.extui v219
  let v221 : BitVec 32 := Scalar.addi v213 v220
  let c0_i32_61 : BitVec 32 := 0#32
  let v227 : BitVec 1 := Scalar.cmpi .sgt v223 c0_i32_61
  let v228 : BitVec 32 := Scalar.extui v227
  let v229 : BitVec 32 := Scalar.addi v221 v228
  let c0_i32_63 : BitVec 32 := 0#32
  let v235 : BitVec 1 := Scalar.cmpi .sgt v231 c0_i32_63
  let v236 : BitVec 32 := Scalar.extui v235
  let v237 : BitVec 32 := Scalar.addi v229 v236
  let c0_i32_65 : BitVec 32 := 0#32
  let v243 : BitVec 1 := Scalar.cmpi .sgt v239 c0_i32_65
  let v244 : BitVec 32 := Scalar.extui v243
  let v245 : BitVec 32 := Scalar.addi v237 v244
  let c0_i32_67 : BitVec 32 := 0#32
  let v251 : BitVec 1 := Scalar.cmpi .sgt v247 c0_i32_67
  let v252 : BitVec 32 := Scalar.extui v251
  let v253 : BitVec 32 := Scalar.addi v245 v252
  let v280 : BitVec 32 := Scalar.subi v253 c0_i32_86
  let c1_i32_88 : BitVec 32 := 1#32
  let v282 : BitVec 32 := Scalar.divsi v280 c1_i32_88
  let v283 : BitVec 32 := Scalar.muli v282 c1_i32_88
  let v284 : BitVec 32 := Scalar.addi c0_i32_86 v283
  let c1_i32_90 : BitVec 32 := 1#32
  let arg18 : BitVec 32 := Scf.iv v284 c1_i32_90 k0_t4
  let c8_i32_91 : BitVec 32 := 8#32
  let v289 : BitVec 32 := Scalar.remsi arg18 c8_i32_91
  let v392 : Index := Scalar.indexCast v289
  let c0_126 : Index := 0#32
  let c1024 : Index := 1024#32
  ![v392.toNat, 0, 1024]
def k0_off103 (v288 : BitVec 32) : Fin 2 → Nat :=
  let v398 : Index := Scalar.indexCast v288
  let c1024_128 : Index := 1024#32
  ![v398.toNat, 1024]
def k0_off104 (v291 : BitVec 32) (v293 : BitVec 32) (k0_t5 : Fin (k0_t5_loop v291 v293).trips) : Fin 2 → Nat :=
  let c0_i32_92 : BitVec 32 := 0#32
  let v296 : BitVec 1 := Scalar.cmpi .sgt v291 c0_i32_92
  let v297 : BitVec 32 := Scalar.extui v296
  let c0_i32_93 : BitVec 32 := 0#32
  let v298 : BitVec 1 := Scalar.cmpi .slt v291 c0_i32_93
  let v299 : BitVec 32 := Scalar.extui v298
  let v300 : BitVec 32 := Scalar.subi v297 v299
  let c32_i32 : BitVec 32 := 32#32
  let c0_i32_94 : BitVec 32 := 0#32
  let v301 : BitVec 1 := Scalar.cmpi .sgt c32_i32 c0_i32_94
  let v302 : BitVec 32 := Scalar.extui v301
  let c0_i32_95 : BitVec 32 := 0#32
  let v303 : BitVec 1 := Scalar.cmpi .slt c32_i32 c0_i32_95
  let v304 : BitVec 32 := Scalar.extui v303
  let v305 : BitVec 32 := Scalar.subi v302 v304
  let v306 : BitVec 1 := Scalar.cmpi .ne v300 v305
  let v307 : BitVec 32 := Scalar.remsi v291 c32_i32
  let c0_i32_96 : BitVec 32 := 0#32
  let v308 : BitVec 1 := Scalar.cmpi .ne v307 c0_i32_96
  let v309 : BitVec 1 := Scalar.andi v306 v308
  let v295 : BitVec 32 := Scalar.divsi v291 c32_i32
  let c1_i32_97 : BitVec 32 := 1#32
  let v310 : BitVec 32 := Scalar.subi v295 c1_i32_97
  let v311 : BitVec 32 := Scalar.select v309 v310 v295
  let c32_i32_98 : BitVec 32 := 32#32
  let v312 : BitVec 32 := Scalar.muli v311 c32_i32_98
  let c0_i32_104 : BitVec 32 := 0#32
  let c1_i32_107 : BitVec 32 := 1#32
  let arg20 : BitVec 32 := Scf.iv c0_i32_104 c1_i32_107 k0_t5
  let c96_i32_112 : BitVec 32 := 96#32
  let v336 : BitVec 32 := Scalar.muli arg20 c96_i32_112
  let v337 : BitVec 32 := Scalar.addi v312 v336
  let c672_i32 : BitVec 32 := 672#32
  let v338 : BitVec 32 := Scalar.minsi v337 c672_i32
  let v339 : BitVec 32 := v338
  let v402 : Index := Scalar.indexCast v339
  let c1024_129 : Index := 1024#32
  ![v402.toNat, 1024]
@[reducible] def k0_t6_loop (v291 : BitVec 32) (v293 : BitVec 32) : Scf.Loop 32 :=
  let c0_i32_104 : BitVec 32 := 0#32
  let v294 : BitVec 32 := Scalar.addi v291 v293
  let c0_i32_92 : BitVec 32 := 0#32
  let v296 : BitVec 1 := Scalar.cmpi .sgt v291 c0_i32_92
  let v297 : BitVec 32 := Scalar.extui v296
  let c0_i32_93 : BitVec 32 := 0#32
  let v298 : BitVec 1 := Scalar.cmpi .slt v291 c0_i32_93
  let v299 : BitVec 32 := Scalar.extui v298
  let v300 : BitVec 32 := Scalar.subi v297 v299
  let c32_i32 : BitVec 32 := 32#32
  let c0_i32_94 : BitVec 32 := 0#32
  let v301 : BitVec 1 := Scalar.cmpi .sgt c32_i32 c0_i32_94
  let v302 : BitVec 32 := Scalar.extui v301
  let c0_i32_95 : BitVec 32 := 0#32
  let v303 : BitVec 1 := Scalar.cmpi .slt c32_i32 c0_i32_95
  let v304 : BitVec 32 := Scalar.extui v303
  let v305 : BitVec 32 := Scalar.subi v302 v304
  let v306 : BitVec 1 := Scalar.cmpi .ne v300 v305
  let v307 : BitVec 32 := Scalar.remsi v291 c32_i32
  let c0_i32_96 : BitVec 32 := 0#32
  let v308 : BitVec 1 := Scalar.cmpi .ne v307 c0_i32_96
  let v309 : BitVec 1 := Scalar.andi v306 v308
  let v295 : BitVec 32 := Scalar.divsi v291 c32_i32
  let c1_i32_97 : BitVec 32 := 1#32
  let v310 : BitVec 32 := Scalar.subi v295 c1_i32_97
  let v311 : BitVec 32 := Scalar.select v309 v310 v295
  let c32_i32_98 : BitVec 32 := 32#32
  let v312 : BitVec 32 := Scalar.muli v311 c32_i32_98
  let v313 : BitVec 32 := Scalar.subi v294 v312
  let c95_i32 : BitVec 32 := 95#32
  let v314 : BitVec 32 := Scalar.addi v313 c95_i32
  let c96_i32 : BitVec 32 := 96#32
  let v315 : BitVec 32 := Scalar.divsi v314 c96_i32
  let v325 : BitVec 32 := Scalar.subi v315 c0_i32_104
  let c1_i32_106 : BitVec 32 := 1#32
  let v327 : BitVec 32 := Scalar.divsi v325 c1_i32_106
  let v328 : BitVec 32 := Scalar.muli v327 c1_i32_106
  let v329 : BitVec 32 := Scalar.addi c0_i32_104 v328
  let v326 : BitVec 32 := Scalar.addi c0_i32_104 v325
  let c1_i32_108 : BitVec 32 := 1#32
  ⟨v329, v326, c1_i32_108⟩
def k0_mult4 (v291 : BitVec 32) (v293 : BitVec 32) (k0_t6 : Fin (k0_t6_loop v291 v293).trips) : BitVec 32 :=
  let c0_i32_92 : BitVec 32 := 0#32
  let v296 : BitVec 1 := Scalar.cmpi .sgt v291 c0_i32_92
  let v297 : BitVec 32 := Scalar.extui v296
  let c0_i32_93 : BitVec 32 := 0#32
  let v298 : BitVec 1 := Scalar.cmpi .slt v291 c0_i32_93
  let v299 : BitVec 32 := Scalar.extui v298
  let v300 : BitVec 32 := Scalar.subi v297 v299
  let c32_i32 : BitVec 32 := 32#32
  let c0_i32_94 : BitVec 32 := 0#32
  let v301 : BitVec 1 := Scalar.cmpi .sgt c32_i32 c0_i32_94
  let v302 : BitVec 32 := Scalar.extui v301
  let c0_i32_95 : BitVec 32 := 0#32
  let v303 : BitVec 1 := Scalar.cmpi .slt c32_i32 c0_i32_95
  let v304 : BitVec 32 := Scalar.extui v303
  let v305 : BitVec 32 := Scalar.subi v302 v304
  let v306 : BitVec 1 := Scalar.cmpi .ne v300 v305
  let v307 : BitVec 32 := Scalar.remsi v291 c32_i32
  let c0_i32_96 : BitVec 32 := 0#32
  let v308 : BitVec 1 := Scalar.cmpi .ne v307 c0_i32_96
  let v309 : BitVec 1 := Scalar.andi v306 v308
  let v295 : BitVec 32 := Scalar.divsi v291 c32_i32
  let c1_i32_97 : BitVec 32 := 1#32
  let v310 : BitVec 32 := Scalar.subi v295 c1_i32_97
  let v311 : BitVec 32 := Scalar.select v309 v310 v295
  let c32_i32_98 : BitVec 32 := 32#32
  let v312 : BitVec 32 := Scalar.muli v311 c32_i32_98
  let c0_i32_104 : BitVec 32 := 0#32
  let v294 : BitVec 32 := Scalar.addi v291 v293
  let v313 : BitVec 32 := Scalar.subi v294 v312
  let c95_i32 : BitVec 32 := 95#32
  let v314 : BitVec 32 := Scalar.addi v313 c95_i32
  let c96_i32 : BitVec 32 := 96#32
  let v315 : BitVec 32 := Scalar.divsi v314 c96_i32
  let v325 : BitVec 32 := Scalar.subi v315 c0_i32_104
  let c1_i32_106 : BitVec 32 := 1#32
  let v327 : BitVec 32 := Scalar.divsi v325 c1_i32_106
  let v328 : BitVec 32 := Scalar.muli v327 c1_i32_106
  let v329 : BitVec 32 := Scalar.addi c0_i32_104 v328
  let c1_i32_108 : BitVec 32 := 1#32
  let arg20 : BitVec 32 := Scf.iv v329 c1_i32_108 k0_t6
  let c96_i32_112 : BitVec 32 := 96#32
  let v336 : BitVec 32 := Scalar.muli arg20 c96_i32_112
  let v337 : BitVec 32 := Scalar.addi v312 v336
  let c672_i32 : BitVec 32 := 672#32
  let v338 : BitVec 32 := Scalar.minsi v337 c672_i32
  v338
def k0_off105 (v291 : BitVec 32) (v293 : BitVec 32) (k0_t6 : Fin (k0_t6_loop v291 v293).trips) : Fin 2 → Nat :=
  let c0_i32_92 : BitVec 32 := 0#32
  let v296 : BitVec 1 := Scalar.cmpi .sgt v291 c0_i32_92
  let v297 : BitVec 32 := Scalar.extui v296
  let c0_i32_93 : BitVec 32 := 0#32
  let v298 : BitVec 1 := Scalar.cmpi .slt v291 c0_i32_93
  let v299 : BitVec 32 := Scalar.extui v298
  let v300 : BitVec 32 := Scalar.subi v297 v299
  let c32_i32 : BitVec 32 := 32#32
  let c0_i32_94 : BitVec 32 := 0#32
  let v301 : BitVec 1 := Scalar.cmpi .sgt c32_i32 c0_i32_94
  let v302 : BitVec 32 := Scalar.extui v301
  let c0_i32_95 : BitVec 32 := 0#32
  let v303 : BitVec 1 := Scalar.cmpi .slt c32_i32 c0_i32_95
  let v304 : BitVec 32 := Scalar.extui v303
  let v305 : BitVec 32 := Scalar.subi v302 v304
  let v306 : BitVec 1 := Scalar.cmpi .ne v300 v305
  let v307 : BitVec 32 := Scalar.remsi v291 c32_i32
  let c0_i32_96 : BitVec 32 := 0#32
  let v308 : BitVec 1 := Scalar.cmpi .ne v307 c0_i32_96
  let v309 : BitVec 1 := Scalar.andi v306 v308
  let v295 : BitVec 32 := Scalar.divsi v291 c32_i32
  let c1_i32_97 : BitVec 32 := 1#32
  let v310 : BitVec 32 := Scalar.subi v295 c1_i32_97
  let v311 : BitVec 32 := Scalar.select v309 v310 v295
  let c32_i32_98 : BitVec 32 := 32#32
  let v312 : BitVec 32 := Scalar.muli v311 c32_i32_98
  let c0_i32_104 : BitVec 32 := 0#32
  let v294 : BitVec 32 := Scalar.addi v291 v293
  let v313 : BitVec 32 := Scalar.subi v294 v312
  let c95_i32 : BitVec 32 := 95#32
  let v314 : BitVec 32 := Scalar.addi v313 c95_i32
  let c96_i32 : BitVec 32 := 96#32
  let v315 : BitVec 32 := Scalar.divsi v314 c96_i32
  let v325 : BitVec 32 := Scalar.subi v315 c0_i32_104
  let c1_i32_106 : BitVec 32 := 1#32
  let v327 : BitVec 32 := Scalar.divsi v325 c1_i32_106
  let v328 : BitVec 32 := Scalar.muli v327 c1_i32_106
  let v329 : BitVec 32 := Scalar.addi c0_i32_104 v328
  let c1_i32_108 : BitVec 32 := 1#32
  let arg20 : BitVec 32 := Scf.iv v329 c1_i32_108 k0_t6
  let c96_i32_112 : BitVec 32 := 96#32
  let v336 : BitVec 32 := Scalar.muli arg20 c96_i32_112
  let v337 : BitVec 32 := Scalar.addi v312 v336
  let c672_i32 : BitVec 32 := 672#32
  let v338 : BitVec 32 := Scalar.minsi v337 c672_i32
  let v339 : BitVec 32 := v338
  let v348 : Index := Scalar.indexCast v339
  let c0_113 : Index := 0#32
  ![v348.toNat, 0]
def k0_off106 (v291 : BitVec 32) (v293 : BitVec 32) (k0_t6 : Fin (k0_t6_loop v291 v293).trips) : Fin 2 → Nat :=
  let c0_i32_92 : BitVec 32 := 0#32
  let v296 : BitVec 1 := Scalar.cmpi .sgt v291 c0_i32_92
  let v297 : BitVec 32 := Scalar.extui v296
  let c0_i32_93 : BitVec 32 := 0#32
  let v298 : BitVec 1 := Scalar.cmpi .slt v291 c0_i32_93
  let v299 : BitVec 32 := Scalar.extui v298
  let v300 : BitVec 32 := Scalar.subi v297 v299
  let c32_i32 : BitVec 32 := 32#32
  let c0_i32_94 : BitVec 32 := 0#32
  let v301 : BitVec 1 := Scalar.cmpi .sgt c32_i32 c0_i32_94
  let v302 : BitVec 32 := Scalar.extui v301
  let c0_i32_95 : BitVec 32 := 0#32
  let v303 : BitVec 1 := Scalar.cmpi .slt c32_i32 c0_i32_95
  let v304 : BitVec 32 := Scalar.extui v303
  let v305 : BitVec 32 := Scalar.subi v302 v304
  let v306 : BitVec 1 := Scalar.cmpi .ne v300 v305
  let v307 : BitVec 32 := Scalar.remsi v291 c32_i32
  let c0_i32_96 : BitVec 32 := 0#32
  let v308 : BitVec 1 := Scalar.cmpi .ne v307 c0_i32_96
  let v309 : BitVec 1 := Scalar.andi v306 v308
  let v295 : BitVec 32 := Scalar.divsi v291 c32_i32
  let c1_i32_97 : BitVec 32 := 1#32
  let v310 : BitVec 32 := Scalar.subi v295 c1_i32_97
  let v311 : BitVec 32 := Scalar.select v309 v310 v295
  let c32_i32_98 : BitVec 32 := 32#32
  let v312 : BitVec 32 := Scalar.muli v311 c32_i32_98
  let c0_i32_104 : BitVec 32 := 0#32
  let v294 : BitVec 32 := Scalar.addi v291 v293
  let v313 : BitVec 32 := Scalar.subi v294 v312
  let c95_i32 : BitVec 32 := 95#32
  let v314 : BitVec 32 := Scalar.addi v313 c95_i32
  let c96_i32 : BitVec 32 := 96#32
  let v315 : BitVec 32 := Scalar.divsi v314 c96_i32
  let v325 : BitVec 32 := Scalar.subi v315 c0_i32_104
  let c1_i32_106 : BitVec 32 := 1#32
  let v327 : BitVec 32 := Scalar.divsi v325 c1_i32_106
  let v328 : BitVec 32 := Scalar.muli v327 c1_i32_106
  let v329 : BitVec 32 := Scalar.addi c0_i32_104 v328
  let c1_i32_108 : BitVec 32 := 1#32
  let arg20 : BitVec 32 := Scf.iv v329 c1_i32_108 k0_t6
  let c96_i32_112 : BitVec 32 := 96#32
  let v336 : BitVec 32 := Scalar.muli arg20 c96_i32_112
  let v337 : BitVec 32 := Scalar.addi v312 v336
  let c672_i32 : BitVec 32 := 672#32
  let v338 : BitVec 32 := Scalar.minsi v337 c672_i32
  let v339 : BitVec 32 := v338
  let v350 : Index := Scalar.indexCast v339
  let c0_114 : Index := 0#32
  ![v350.toNat, 0]
def k0_off107 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) : Fin 3 → Nat :=
  let c0_i32_86 : BitVec 32 := 0#32
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let c0_i32_45 : BitVec 32 := 0#32
  let v163 : BitVec 1 := Scalar.cmpi .sgt v159 c0_i32_45
  let v164 : BitVec 32 := Scalar.extui v163
  let v165 : BitVec 32 := Scalar.addi v157 v164
  let c0_i32_47 : BitVec 32 := 0#32
  let v171 : BitVec 1 := Scalar.cmpi .sgt v167 c0_i32_47
  let v172 : BitVec 32 := Scalar.extui v171
  let v173 : BitVec 32 := Scalar.addi v165 v172
  let c0_i32_49 : BitVec 32 := 0#32
  let v179 : BitVec 1 := Scalar.cmpi .sgt v175 c0_i32_49
  let v180 : BitVec 32 := Scalar.extui v179
  let v181 : BitVec 32 := Scalar.addi v173 v180
  let c0_i32_51 : BitVec 32 := 0#32
  let v187 : BitVec 1 := Scalar.cmpi .sgt v183 c0_i32_51
  let v188 : BitVec 32 := Scalar.extui v187
  let v189 : BitVec 32 := Scalar.addi v181 v188
  let c0_i32_53 : BitVec 32 := 0#32
  let v195 : BitVec 1 := Scalar.cmpi .sgt v191 c0_i32_53
  let v196 : BitVec 32 := Scalar.extui v195
  let v197 : BitVec 32 := Scalar.addi v189 v196
  let c0_i32_55 : BitVec 32 := 0#32
  let v203 : BitVec 1 := Scalar.cmpi .sgt v199 c0_i32_55
  let v204 : BitVec 32 := Scalar.extui v203
  let v205 : BitVec 32 := Scalar.addi v197 v204
  let c0_i32_57 : BitVec 32 := 0#32
  let v211 : BitVec 1 := Scalar.cmpi .sgt v207 c0_i32_57
  let v212 : BitVec 32 := Scalar.extui v211
  let v213 : BitVec 32 := Scalar.addi v205 v212
  let c0_i32_59 : BitVec 32 := 0#32
  let v219 : BitVec 1 := Scalar.cmpi .sgt v215 c0_i32_59
  let v220 : BitVec 32 := Scalar.extui v219
  let v221 : BitVec 32 := Scalar.addi v213 v220
  let c0_i32_61 : BitVec 32 := 0#32
  let v227 : BitVec 1 := Scalar.cmpi .sgt v223 c0_i32_61
  let v228 : BitVec 32 := Scalar.extui v227
  let v229 : BitVec 32 := Scalar.addi v221 v228
  let c0_i32_63 : BitVec 32 := 0#32
  let v235 : BitVec 1 := Scalar.cmpi .sgt v231 c0_i32_63
  let v236 : BitVec 32 := Scalar.extui v235
  let v237 : BitVec 32 := Scalar.addi v229 v236
  let c0_i32_65 : BitVec 32 := 0#32
  let v243 : BitVec 1 := Scalar.cmpi .sgt v239 c0_i32_65
  let v244 : BitVec 32 := Scalar.extui v243
  let v245 : BitVec 32 := Scalar.addi v237 v244
  let c0_i32_67 : BitVec 32 := 0#32
  let v251 : BitVec 1 := Scalar.cmpi .sgt v247 c0_i32_67
  let v252 : BitVec 32 := Scalar.extui v251
  let v253 : BitVec 32 := Scalar.addi v245 v252
  let v280 : BitVec 32 := Scalar.subi v253 c0_i32_86
  let c1_i32_88 : BitVec 32 := 1#32
  let v282 : BitVec 32 := Scalar.divsi v280 c1_i32_88
  let v283 : BitVec 32 := Scalar.muli v282 c1_i32_88
  let v284 : BitVec 32 := Scalar.addi c0_i32_86 v283
  let c1_i32_90 : BitVec 32 := 1#32
  let arg18 : BitVec 32 := Scf.iv v284 c1_i32_90 k0_t4
  let c8_i32_91 : BitVec 32 := 8#32
  let v289 : BitVec 32 := Scalar.remsi arg18 c8_i32_91
  let v352 : Index := Scalar.indexCast v289
  let c0_115 : Index := 0#32
  let c0_116 : Index := 0#32
  ![v352.toNat, 0, 0]
def k0_off108 (v288 : BitVec 32) : Fin 2 → Nat :=
  let v358 : Index := Scalar.indexCast v288
  let c0_118 : Index := 0#32
  ![v358.toNat, 0]
def k0_off109 (v291 : BitVec 32) (v293 : BitVec 32) (k0_t6 : Fin (k0_t6_loop v291 v293).trips) : Fin 2 → Nat :=
  let c0_i32_92 : BitVec 32 := 0#32
  let v296 : BitVec 1 := Scalar.cmpi .sgt v291 c0_i32_92
  let v297 : BitVec 32 := Scalar.extui v296
  let c0_i32_93 : BitVec 32 := 0#32
  let v298 : BitVec 1 := Scalar.cmpi .slt v291 c0_i32_93
  let v299 : BitVec 32 := Scalar.extui v298
  let v300 : BitVec 32 := Scalar.subi v297 v299
  let c32_i32 : BitVec 32 := 32#32
  let c0_i32_94 : BitVec 32 := 0#32
  let v301 : BitVec 1 := Scalar.cmpi .sgt c32_i32 c0_i32_94
  let v302 : BitVec 32 := Scalar.extui v301
  let c0_i32_95 : BitVec 32 := 0#32
  let v303 : BitVec 1 := Scalar.cmpi .slt c32_i32 c0_i32_95
  let v304 : BitVec 32 := Scalar.extui v303
  let v305 : BitVec 32 := Scalar.subi v302 v304
  let v306 : BitVec 1 := Scalar.cmpi .ne v300 v305
  let v307 : BitVec 32 := Scalar.remsi v291 c32_i32
  let c0_i32_96 : BitVec 32 := 0#32
  let v308 : BitVec 1 := Scalar.cmpi .ne v307 c0_i32_96
  let v309 : BitVec 1 := Scalar.andi v306 v308
  let v295 : BitVec 32 := Scalar.divsi v291 c32_i32
  let c1_i32_97 : BitVec 32 := 1#32
  let v310 : BitVec 32 := Scalar.subi v295 c1_i32_97
  let v311 : BitVec 32 := Scalar.select v309 v310 v295
  let c32_i32_98 : BitVec 32 := 32#32
  let v312 : BitVec 32 := Scalar.muli v311 c32_i32_98
  let c0_i32_104 : BitVec 32 := 0#32
  let v294 : BitVec 32 := Scalar.addi v291 v293
  let v313 : BitVec 32 := Scalar.subi v294 v312
  let c95_i32 : BitVec 32 := 95#32
  let v314 : BitVec 32 := Scalar.addi v313 c95_i32
  let c96_i32 : BitVec 32 := 96#32
  let v315 : BitVec 32 := Scalar.divsi v314 c96_i32
  let v325 : BitVec 32 := Scalar.subi v315 c0_i32_104
  let c1_i32_106 : BitVec 32 := 1#32
  let v327 : BitVec 32 := Scalar.divsi v325 c1_i32_106
  let v328 : BitVec 32 := Scalar.muli v327 c1_i32_106
  let v329 : BitVec 32 := Scalar.addi c0_i32_104 v328
  let c1_i32_108 : BitVec 32 := 1#32
  let arg20 : BitVec 32 := Scf.iv v329 c1_i32_108 k0_t6
  let c96_i32_112 : BitVec 32 := 96#32
  let v336 : BitVec 32 := Scalar.muli arg20 c96_i32_112
  let v337 : BitVec 32 := Scalar.addi v312 v336
  let c672_i32 : BitVec 32 := 672#32
  let v338 : BitVec 32 := Scalar.minsi v337 c672_i32
  let v339 : BitVec 32 := v338
  let v362 : Index := Scalar.indexCast v339
  let c0_119 : Index := 0#32
  ![v362.toNat, 0]
def k0_off110 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) : Fin 3 → Nat :=
  let c0_i32_86 : BitVec 32 := 0#32
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let c0_i32_45 : BitVec 32 := 0#32
  let v163 : BitVec 1 := Scalar.cmpi .sgt v159 c0_i32_45
  let v164 : BitVec 32 := Scalar.extui v163
  let v165 : BitVec 32 := Scalar.addi v157 v164
  let c0_i32_47 : BitVec 32 := 0#32
  let v171 : BitVec 1 := Scalar.cmpi .sgt v167 c0_i32_47
  let v172 : BitVec 32 := Scalar.extui v171
  let v173 : BitVec 32 := Scalar.addi v165 v172
  let c0_i32_49 : BitVec 32 := 0#32
  let v179 : BitVec 1 := Scalar.cmpi .sgt v175 c0_i32_49
  let v180 : BitVec 32 := Scalar.extui v179
  let v181 : BitVec 32 := Scalar.addi v173 v180
  let c0_i32_51 : BitVec 32 := 0#32
  let v187 : BitVec 1 := Scalar.cmpi .sgt v183 c0_i32_51
  let v188 : BitVec 32 := Scalar.extui v187
  let v189 : BitVec 32 := Scalar.addi v181 v188
  let c0_i32_53 : BitVec 32 := 0#32
  let v195 : BitVec 1 := Scalar.cmpi .sgt v191 c0_i32_53
  let v196 : BitVec 32 := Scalar.extui v195
  let v197 : BitVec 32 := Scalar.addi v189 v196
  let c0_i32_55 : BitVec 32 := 0#32
  let v203 : BitVec 1 := Scalar.cmpi .sgt v199 c0_i32_55
  let v204 : BitVec 32 := Scalar.extui v203
  let v205 : BitVec 32 := Scalar.addi v197 v204
  let c0_i32_57 : BitVec 32 := 0#32
  let v211 : BitVec 1 := Scalar.cmpi .sgt v207 c0_i32_57
  let v212 : BitVec 32 := Scalar.extui v211
  let v213 : BitVec 32 := Scalar.addi v205 v212
  let c0_i32_59 : BitVec 32 := 0#32
  let v219 : BitVec 1 := Scalar.cmpi .sgt v215 c0_i32_59
  let v220 : BitVec 32 := Scalar.extui v219
  let v221 : BitVec 32 := Scalar.addi v213 v220
  let c0_i32_61 : BitVec 32 := 0#32
  let v227 : BitVec 1 := Scalar.cmpi .sgt v223 c0_i32_61
  let v228 : BitVec 32 := Scalar.extui v227
  let v229 : BitVec 32 := Scalar.addi v221 v228
  let c0_i32_63 : BitVec 32 := 0#32
  let v235 : BitVec 1 := Scalar.cmpi .sgt v231 c0_i32_63
  let v236 : BitVec 32 := Scalar.extui v235
  let v237 : BitVec 32 := Scalar.addi v229 v236
  let c0_i32_65 : BitVec 32 := 0#32
  let v243 : BitVec 1 := Scalar.cmpi .sgt v239 c0_i32_65
  let v244 : BitVec 32 := Scalar.extui v243
  let v245 : BitVec 32 := Scalar.addi v237 v244
  let c0_i32_67 : BitVec 32 := 0#32
  let v251 : BitVec 1 := Scalar.cmpi .sgt v247 c0_i32_67
  let v252 : BitVec 32 := Scalar.extui v251
  let v253 : BitVec 32 := Scalar.addi v245 v252
  let v280 : BitVec 32 := Scalar.subi v253 c0_i32_86
  let c1_i32_88 : BitVec 32 := 1#32
  let v282 : BitVec 32 := Scalar.divsi v280 c1_i32_88
  let v283 : BitVec 32 := Scalar.muli v282 c1_i32_88
  let v284 : BitVec 32 := Scalar.addi c0_i32_86 v283
  let c1_i32_90 : BitVec 32 := 1#32
  let arg18 : BitVec 32 := Scf.iv v284 c1_i32_90 k0_t4
  let c8_i32_91 : BitVec 32 := 8#32
  let v289 : BitVec 32 := Scalar.remsi arg18 c8_i32_91
  let v372 : Index := Scalar.indexCast v289
  let c0_121 : Index := 0#32
  let c512 : Index := 512#32
  ![v372.toNat, 0, 512]
def k0_off111 (v288 : BitVec 32) : Fin 2 → Nat :=
  let v378 : Index := Scalar.indexCast v288
  let c512_123 : Index := 512#32
  ![v378.toNat, 512]
def k0_off112 (v291 : BitVec 32) (v293 : BitVec 32) (k0_t6 : Fin (k0_t6_loop v291 v293).trips) : Fin 2 → Nat :=
  let c0_i32_92 : BitVec 32 := 0#32
  let v296 : BitVec 1 := Scalar.cmpi .sgt v291 c0_i32_92
  let v297 : BitVec 32 := Scalar.extui v296
  let c0_i32_93 : BitVec 32 := 0#32
  let v298 : BitVec 1 := Scalar.cmpi .slt v291 c0_i32_93
  let v299 : BitVec 32 := Scalar.extui v298
  let v300 : BitVec 32 := Scalar.subi v297 v299
  let c32_i32 : BitVec 32 := 32#32
  let c0_i32_94 : BitVec 32 := 0#32
  let v301 : BitVec 1 := Scalar.cmpi .sgt c32_i32 c0_i32_94
  let v302 : BitVec 32 := Scalar.extui v301
  let c0_i32_95 : BitVec 32 := 0#32
  let v303 : BitVec 1 := Scalar.cmpi .slt c32_i32 c0_i32_95
  let v304 : BitVec 32 := Scalar.extui v303
  let v305 : BitVec 32 := Scalar.subi v302 v304
  let v306 : BitVec 1 := Scalar.cmpi .ne v300 v305
  let v307 : BitVec 32 := Scalar.remsi v291 c32_i32
  let c0_i32_96 : BitVec 32 := 0#32
  let v308 : BitVec 1 := Scalar.cmpi .ne v307 c0_i32_96
  let v309 : BitVec 1 := Scalar.andi v306 v308
  let v295 : BitVec 32 := Scalar.divsi v291 c32_i32
  let c1_i32_97 : BitVec 32 := 1#32
  let v310 : BitVec 32 := Scalar.subi v295 c1_i32_97
  let v311 : BitVec 32 := Scalar.select v309 v310 v295
  let c32_i32_98 : BitVec 32 := 32#32
  let v312 : BitVec 32 := Scalar.muli v311 c32_i32_98
  let c0_i32_104 : BitVec 32 := 0#32
  let v294 : BitVec 32 := Scalar.addi v291 v293
  let v313 : BitVec 32 := Scalar.subi v294 v312
  let c95_i32 : BitVec 32 := 95#32
  let v314 : BitVec 32 := Scalar.addi v313 c95_i32
  let c96_i32 : BitVec 32 := 96#32
  let v315 : BitVec 32 := Scalar.divsi v314 c96_i32
  let v325 : BitVec 32 := Scalar.subi v315 c0_i32_104
  let c1_i32_106 : BitVec 32 := 1#32
  let v327 : BitVec 32 := Scalar.divsi v325 c1_i32_106
  let v328 : BitVec 32 := Scalar.muli v327 c1_i32_106
  let v329 : BitVec 32 := Scalar.addi c0_i32_104 v328
  let c1_i32_108 : BitVec 32 := 1#32
  let arg20 : BitVec 32 := Scf.iv v329 c1_i32_108 k0_t6
  let c96_i32_112 : BitVec 32 := 96#32
  let v336 : BitVec 32 := Scalar.muli arg20 c96_i32_112
  let v337 : BitVec 32 := Scalar.addi v312 v336
  let c672_i32 : BitVec 32 := 672#32
  let v338 : BitVec 32 := Scalar.minsi v337 c672_i32
  let v339 : BitVec 32 := v338
  let v382 : Index := Scalar.indexCast v339
  let c512_124 : Index := 512#32
  ![v382.toNat, 512]
def k0_off113 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) : Fin 3 → Nat :=
  let c0_i32_86 : BitVec 32 := 0#32
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let c0_i32_45 : BitVec 32 := 0#32
  let v163 : BitVec 1 := Scalar.cmpi .sgt v159 c0_i32_45
  let v164 : BitVec 32 := Scalar.extui v163
  let v165 : BitVec 32 := Scalar.addi v157 v164
  let c0_i32_47 : BitVec 32 := 0#32
  let v171 : BitVec 1 := Scalar.cmpi .sgt v167 c0_i32_47
  let v172 : BitVec 32 := Scalar.extui v171
  let v173 : BitVec 32 := Scalar.addi v165 v172
  let c0_i32_49 : BitVec 32 := 0#32
  let v179 : BitVec 1 := Scalar.cmpi .sgt v175 c0_i32_49
  let v180 : BitVec 32 := Scalar.extui v179
  let v181 : BitVec 32 := Scalar.addi v173 v180
  let c0_i32_51 : BitVec 32 := 0#32
  let v187 : BitVec 1 := Scalar.cmpi .sgt v183 c0_i32_51
  let v188 : BitVec 32 := Scalar.extui v187
  let v189 : BitVec 32 := Scalar.addi v181 v188
  let c0_i32_53 : BitVec 32 := 0#32
  let v195 : BitVec 1 := Scalar.cmpi .sgt v191 c0_i32_53
  let v196 : BitVec 32 := Scalar.extui v195
  let v197 : BitVec 32 := Scalar.addi v189 v196
  let c0_i32_55 : BitVec 32 := 0#32
  let v203 : BitVec 1 := Scalar.cmpi .sgt v199 c0_i32_55
  let v204 : BitVec 32 := Scalar.extui v203
  let v205 : BitVec 32 := Scalar.addi v197 v204
  let c0_i32_57 : BitVec 32 := 0#32
  let v211 : BitVec 1 := Scalar.cmpi .sgt v207 c0_i32_57
  let v212 : BitVec 32 := Scalar.extui v211
  let v213 : BitVec 32 := Scalar.addi v205 v212
  let c0_i32_59 : BitVec 32 := 0#32
  let v219 : BitVec 1 := Scalar.cmpi .sgt v215 c0_i32_59
  let v220 : BitVec 32 := Scalar.extui v219
  let v221 : BitVec 32 := Scalar.addi v213 v220
  let c0_i32_61 : BitVec 32 := 0#32
  let v227 : BitVec 1 := Scalar.cmpi .sgt v223 c0_i32_61
  let v228 : BitVec 32 := Scalar.extui v227
  let v229 : BitVec 32 := Scalar.addi v221 v228
  let c0_i32_63 : BitVec 32 := 0#32
  let v235 : BitVec 1 := Scalar.cmpi .sgt v231 c0_i32_63
  let v236 : BitVec 32 := Scalar.extui v235
  let v237 : BitVec 32 := Scalar.addi v229 v236
  let c0_i32_65 : BitVec 32 := 0#32
  let v243 : BitVec 1 := Scalar.cmpi .sgt v239 c0_i32_65
  let v244 : BitVec 32 := Scalar.extui v243
  let v245 : BitVec 32 := Scalar.addi v237 v244
  let c0_i32_67 : BitVec 32 := 0#32
  let v251 : BitVec 1 := Scalar.cmpi .sgt v247 c0_i32_67
  let v252 : BitVec 32 := Scalar.extui v251
  let v253 : BitVec 32 := Scalar.addi v245 v252
  let v280 : BitVec 32 := Scalar.subi v253 c0_i32_86
  let c1_i32_88 : BitVec 32 := 1#32
  let v282 : BitVec 32 := Scalar.divsi v280 c1_i32_88
  let v283 : BitVec 32 := Scalar.muli v282 c1_i32_88
  let v284 : BitVec 32 := Scalar.addi c0_i32_86 v283
  let c1_i32_90 : BitVec 32 := 1#32
  let arg18 : BitVec 32 := Scf.iv v284 c1_i32_90 k0_t4
  let c8_i32_91 : BitVec 32 := 8#32
  let v289 : BitVec 32 := Scalar.remsi arg18 c8_i32_91
  let v392 : Index := Scalar.indexCast v289
  let c0_126 : Index := 0#32
  let c1024 : Index := 1024#32
  ![v392.toNat, 0, 1024]
def k0_off114 (v288 : BitVec 32) : Fin 2 → Nat :=
  let v398 : Index := Scalar.indexCast v288
  let c1024_128 : Index := 1024#32
  ![v398.toNat, 1024]
def k0_off115 (v291 : BitVec 32) (v293 : BitVec 32) (k0_t6 : Fin (k0_t6_loop v291 v293).trips) : Fin 2 → Nat :=
  let c0_i32_92 : BitVec 32 := 0#32
  let v296 : BitVec 1 := Scalar.cmpi .sgt v291 c0_i32_92
  let v297 : BitVec 32 := Scalar.extui v296
  let c0_i32_93 : BitVec 32 := 0#32
  let v298 : BitVec 1 := Scalar.cmpi .slt v291 c0_i32_93
  let v299 : BitVec 32 := Scalar.extui v298
  let v300 : BitVec 32 := Scalar.subi v297 v299
  let c32_i32 : BitVec 32 := 32#32
  let c0_i32_94 : BitVec 32 := 0#32
  let v301 : BitVec 1 := Scalar.cmpi .sgt c32_i32 c0_i32_94
  let v302 : BitVec 32 := Scalar.extui v301
  let c0_i32_95 : BitVec 32 := 0#32
  let v303 : BitVec 1 := Scalar.cmpi .slt c32_i32 c0_i32_95
  let v304 : BitVec 32 := Scalar.extui v303
  let v305 : BitVec 32 := Scalar.subi v302 v304
  let v306 : BitVec 1 := Scalar.cmpi .ne v300 v305
  let v307 : BitVec 32 := Scalar.remsi v291 c32_i32
  let c0_i32_96 : BitVec 32 := 0#32
  let v308 : BitVec 1 := Scalar.cmpi .ne v307 c0_i32_96
  let v309 : BitVec 1 := Scalar.andi v306 v308
  let v295 : BitVec 32 := Scalar.divsi v291 c32_i32
  let c1_i32_97 : BitVec 32 := 1#32
  let v310 : BitVec 32 := Scalar.subi v295 c1_i32_97
  let v311 : BitVec 32 := Scalar.select v309 v310 v295
  let c32_i32_98 : BitVec 32 := 32#32
  let v312 : BitVec 32 := Scalar.muli v311 c32_i32_98
  let c0_i32_104 : BitVec 32 := 0#32
  let v294 : BitVec 32 := Scalar.addi v291 v293
  let v313 : BitVec 32 := Scalar.subi v294 v312
  let c95_i32 : BitVec 32 := 95#32
  let v314 : BitVec 32 := Scalar.addi v313 c95_i32
  let c96_i32 : BitVec 32 := 96#32
  let v315 : BitVec 32 := Scalar.divsi v314 c96_i32
  let v325 : BitVec 32 := Scalar.subi v315 c0_i32_104
  let c1_i32_106 : BitVec 32 := 1#32
  let v327 : BitVec 32 := Scalar.divsi v325 c1_i32_106
  let v328 : BitVec 32 := Scalar.muli v327 c1_i32_106
  let v329 : BitVec 32 := Scalar.addi c0_i32_104 v328
  let c1_i32_108 : BitVec 32 := 1#32
  let arg20 : BitVec 32 := Scf.iv v329 c1_i32_108 k0_t6
  let c96_i32_112 : BitVec 32 := 96#32
  let v336 : BitVec 32 := Scalar.muli arg20 c96_i32_112
  let v337 : BitVec 32 := Scalar.addi v312 v336
  let c672_i32 : BitVec 32 := 672#32
  let v338 : BitVec 32 := Scalar.minsi v337 c672_i32
  let v339 : BitVec 32 := v338
  let v402 : Index := Scalar.indexCast v339
  let c1024_129 : Index := 1024#32
  ![v402.toNat, 1024]

def k0_chk47 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) : Prop :=
  ((k0_t5_loop v291 v293).OK) ∧
  (∀ k0_t5 : Fin (k0_t5_loop v291 v293).trips, 32 ∣ (k0_mult3 v291 v293 k0_t5).toNat) ∧
  (∀ k0_t5 : Fin (k0_t5_loop v291 v293).trips, ∀ a, (k0_off94 v291 v293 k0_t5) a + S96x2048.size a ≤ S768x2048.size a) ∧
  (∀ k0_t5 : Fin (k0_t5_loop v291 v293).trips, ∀ a, (k0_off95 v291 v293 k0_t5) a + S96x1.size a ≤ S768x1.size a) ∧
  (∀ k0_t5 : Fin (k0_t5_loop v291 v293).trips, ∀ a, (k0_off96 v0 v7 v15 v23 v31 v39 v47 v55 v63 v71 v79 v87 v95 v103 v111 v119 v127 v135 v143 v151 v159 v167 v175 v183 v191 v199 v207 v215 v223 v231 v239 v247 k0_t4) a + S1x2048x512.size a ≤ S8x2048x1536.size a) ∧
  (∀ k0_t5 : Fin (k0_t5_loop v291 v293).trips, ∀ a, (k0_off97 v288) a + S1x512.size a ≤ S32x1536.size a) ∧
  (∀ k0_t5 : Fin (k0_t5_loop v291 v293).trips, ∀ a, (k0_off98 v291 v293 k0_t5) a + S96x512.size a ≤ S768x1536.size a) ∧
  (∀ k0_t5 : Fin (k0_t5_loop v291 v293).trips, ∀ (hinb : ∀ a, (k0_off98 v291 v293 k0_t5) a + S96x512.size a ≤ S768x1536.size a), (Rect.unit (s := S768x1536) (k0_off98 v291 v293 k0_t5) S96x512.size hinb).PackedRows (EltTy.packing .bf16)) ∧
  (∀ k0_t5 : Fin (k0_t5_loop v291 v293).trips, ∀ a, (k0_off99 v0 v7 v15 v23 v31 v39 v47 v55 v63 v71 v79 v87 v95 v103 v111 v119 v127 v135 v143 v151 v159 v167 v175 v183 v191 v199 v207 v215 v223 v231 v239 v247 k0_t4) a + S1x2048x512.size a ≤ S8x2048x1536.size a) ∧
  (∀ k0_t5 : Fin (k0_t5_loop v291 v293).trips, ∀ a, (k0_off100 v288) a + S1x512.size a ≤ S32x1536.size a) ∧
  (∀ k0_t5 : Fin (k0_t5_loop v291 v293).trips, ∀ a, (k0_off101 v291 v293 k0_t5) a + S96x512.size a ≤ S768x1536.size a) ∧
  (∀ k0_t5 : Fin (k0_t5_loop v291 v293).trips, ∀ (hinb : ∀ a, (k0_off101 v291 v293 k0_t5) a + S96x512.size a ≤ S768x1536.size a), (Rect.unit (s := S768x1536) (k0_off101 v291 v293 k0_t5) S96x512.size hinb).PackedRows (EltTy.packing .bf16)) ∧
  (∀ k0_t5 : Fin (k0_t5_loop v291 v293).trips, ∀ a, (k0_off102 v0 v7 v15 v23 v31 v39 v47 v55 v63 v71 v79 v87 v95 v103 v111 v119 v127 v135 v143 v151 v159 v167 v175 v183 v191 v199 v207 v215 v223 v231 v239 v247 k0_t4) a + S1x2048x512.size a ≤ S8x2048x1536.size a) ∧
  (∀ k0_t5 : Fin (k0_t5_loop v291 v293).trips, ∀ a, (k0_off103 v288) a + S1x512.size a ≤ S32x1536.size a) ∧
  (∀ k0_t5 : Fin (k0_t5_loop v291 v293).trips, ∀ a, (k0_off104 v291 v293 k0_t5) a + S96x512.size a ≤ S768x1536.size a) ∧
  (∀ k0_t5 : Fin (k0_t5_loop v291 v293).trips, ∀ (hinb : ∀ a, (k0_off104 v291 v293 k0_t5) a + S96x512.size a ≤ S768x1536.size a), (Rect.unit (s := S768x1536) (k0_off104 v291 v293 k0_t5) S96x512.size hinb).PackedRows (EltTy.packing .bf16)) ∧
  ((k0_t6_loop v291 v293).OK) ∧
  (∀ k0_t6 : Fin (k0_t6_loop v291 v293).trips, 32 ∣ (k0_mult4 v291 v293 k0_t6).toNat) ∧
  (∀ k0_t6 : Fin (k0_t6_loop v291 v293).trips, ∀ a, (k0_off105 v291 v293 k0_t6) a + S96x2048.size a ≤ S768x2048.size a) ∧
  (∀ k0_t6 : Fin (k0_t6_loop v291 v293).trips, ∀ a, (k0_off106 v291 v293 k0_t6) a + S96x1.size a ≤ S768x1.size a) ∧
  (∀ k0_t6 : Fin (k0_t6_loop v291 v293).trips, ∀ a, (k0_off107 v0 v7 v15 v23 v31 v39 v47 v55 v63 v71 v79 v87 v95 v103 v111 v119 v127 v135 v143 v151 v159 v167 v175 v183 v191 v199 v207 v215 v223 v231 v239 v247 k0_t4) a + S1x2048x512.size a ≤ S8x2048x1536.size a) ∧
  (∀ k0_t6 : Fin (k0_t6_loop v291 v293).trips, ∀ a, (k0_off108 v288) a + S1x512.size a ≤ S32x1536.size a) ∧
  (∀ k0_t6 : Fin (k0_t6_loop v291 v293).trips, ∀ a, (k0_off109 v291 v293 k0_t6) a + S96x512.size a ≤ S768x1536.size a) ∧
  (∀ k0_t6 : Fin (k0_t6_loop v291 v293).trips, ∀ (hinb : ∀ a, (k0_off109 v291 v293 k0_t6) a + S96x512.size a ≤ S768x1536.size a), (Rect.unit (s := S768x1536) (k0_off109 v291 v293 k0_t6) S96x512.size hinb).PackedRows (EltTy.packing .bf16)) ∧
  (∀ k0_t6 : Fin (k0_t6_loop v291 v293).trips, ∀ a, (k0_off110 v0 v7 v15 v23 v31 v39 v47 v55 v63 v71 v79 v87 v95 v103 v111 v119 v127 v135 v143 v151 v159 v167 v175 v183 v191 v199 v207 v215 v223 v231 v239 v247 k0_t4) a + S1x2048x512.size a ≤ S8x2048x1536.size a) ∧
  (∀ k0_t6 : Fin (k0_t6_loop v291 v293).trips, ∀ a, (k0_off111 v288) a + S1x512.size a ≤ S32x1536.size a) ∧
  (∀ k0_t6 : Fin (k0_t6_loop v291 v293).trips, ∀ a, (k0_off112 v291 v293 k0_t6) a + S96x512.size a ≤ S768x1536.size a) ∧
  (∀ k0_t6 : Fin (k0_t6_loop v291 v293).trips, ∀ (hinb : ∀ a, (k0_off112 v291 v293 k0_t6) a + S96x512.size a ≤ S768x1536.size a), (Rect.unit (s := S768x1536) (k0_off112 v291 v293 k0_t6) S96x512.size hinb).PackedRows (EltTy.packing .bf16)) ∧
  (∀ k0_t6 : Fin (k0_t6_loop v291 v293).trips, ∀ a, (k0_off113 v0 v7 v15 v23 v31 v39 v47 v55 v63 v71 v79 v87 v95 v103 v111 v119 v127 v135 v143 v151 v159 v167 v175 v183 v191 v199 v207 v215 v223 v231 v239 v247 k0_t4) a + S1x2048x512.size a ≤ S8x2048x1536.size a) ∧
  (∀ k0_t6 : Fin (k0_t6_loop v291 v293).trips, ∀ a, (k0_off114 v288) a + S1x512.size a ≤ S32x1536.size a) ∧
  (∀ k0_t6 : Fin (k0_t6_loop v291 v293).trips, ∀ a, (k0_off115 v291 v293 k0_t6) a + S96x512.size a ≤ S768x1536.size a) ∧
  (∀ k0_t6 : Fin (k0_t6_loop v291 v293).trips, ∀ (hinb : ∀ a, (k0_off115 v291 v293 k0_t6) a + S96x512.size a ≤ S768x1536.size a), (Rect.unit (s := S768x1536) (k0_off115 v291 v293 k0_t6) S96x512.size hinb).PackedRows (EltTy.packing .bf16))
theorem k0_t5_ok : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw47 : k0_chk47 v0 v7 v15 v23 v31 v39 v47 v55 v63 v71 v79 v87 v95 v103 v111 v119 v127 v135 v143 v151 v159 v167 v175 v183 v191 v199 v207 v215 v223 v231 v239 v247 k0_t4 v288 v291 v293), (k0_t5_loop v291 v293).OK := fun v0 v7 v15 v23 v31 v39 v47 v55 v63 v71 v79 v87 v95 v103 v111 v119 v127 v135 v143 v151 v159 v167 v175 v183 v191 v199 v207 v215 v223 v231 v239 v247 k0_t4 v288 v291 v293 k0_hw47 => k0_hw47.1
theorem k0_mult3_dvd : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw47 : k0_chk47 v0 v7 v15 v23 v31 v39 v47 v55 v63 v71 v79 v87 v95 v103 v111 v119 v127 v135 v143 v151 v159 v167 v175 v183 v191 v199 v207 v215 v223 v231 v239 v247 k0_t4 v288 v291 v293) (k0_t5 : Fin (k0_t5_loop v291 v293).trips), 32 ∣ (k0_mult3 v291 v293 k0_t5).toNat := fun v0 v7 v15 v23 v31 v39 v47 v55 v63 v71 v79 v87 v95 v103 v111 v119 v127 v135 v143 v151 v159 v167 v175 v183 v191 v199 v207 v215 v223 v231 v239 v247 k0_t4 v288 v291 v293 k0_hw47 k0_t5 => k0_hw47.2.1 k0_t5
theorem k0_off94_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw47 : k0_chk47 v0 v7 v15 v23 v31 v39 v47 v55 v63 v71 v79 v87 v95 v103 v111 v119 v127 v135 v143 v151 v159 v167 v175 v183 v191 v199 v207 v215 v223 v231 v239 v247 k0_t4 v288 v291 v293) (k0_t5 : Fin (k0_t5_loop v291 v293).trips), ∀ a, (k0_off94 v291 v293 k0_t5) a + S96x2048.size a ≤ S768x2048.size a := fun v0 v7 v15 v23 v31 v39 v47 v55 v63 v71 v79 v87 v95 v103 v111 v119 v127 v135 v143 v151 v159 v167 v175 v183 v191 v199 v207 v215 v223 v231 v239 v247 k0_t4 v288 v291 v293 k0_hw47 k0_t5 => k0_hw47.2.2.1 k0_t5
theorem k0_off95_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw47 : k0_chk47 v0 v7 v15 v23 v31 v39 v47 v55 v63 v71 v79 v87 v95 v103 v111 v119 v127 v135 v143 v151 v159 v167 v175 v183 v191 v199 v207 v215 v223 v231 v239 v247 k0_t4 v288 v291 v293) (k0_t5 : Fin (k0_t5_loop v291 v293).trips), ∀ a, (k0_off95 v291 v293 k0_t5) a + S96x1.size a ≤ S768x1.size a := fun v0 v7 v15 v23 v31 v39 v47 v55 v63 v71 v79 v87 v95 v103 v111 v119 v127 v135 v143 v151 v159 v167 v175 v183 v191 v199 v207 v215 v223 v231 v239 v247 k0_t4 v288 v291 v293 k0_hw47 k0_t5 => k0_hw47.2.2.2.1 k0_t5
theorem k0_off96_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw47 : k0_chk47 v0 v7 v15 v23 v31 v39 v47 v55 v63 v71 v79 v87 v95 v103 v111 v119 v127 v135 v143 v151 v159 v167 v175 v183 v191 v199 v207 v215 v223 v231 v239 v247 k0_t4 v288 v291 v293) (k0_t5 : Fin (k0_t5_loop v291 v293).trips), ∀ a, (k0_off96 v0 v7 v15 v23 v31 v39 v47 v55 v63 v71 v79 v87 v95 v103 v111 v119 v127 v135 v143 v151 v159 v167 v175 v183 v191 v199 v207 v215 v223 v231 v239 v247 k0_t4) a + S1x2048x512.size a ≤ S8x2048x1536.size a := fun v0 v7 v15 v23 v31 v39 v47 v55 v63 v71 v79 v87 v95 v103 v111 v119 v127 v135 v143 v151 v159 v167 v175 v183 v191 v199 v207 v215 v223 v231 v239 v247 k0_t4 v288 v291 v293 k0_hw47 k0_t5 => k0_hw47.2.2.2.2.1 k0_t5
theorem k0_off97_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw47 : k0_chk47 v0 v7 v15 v23 v31 v39 v47 v55 v63 v71 v79 v87 v95 v103 v111 v119 v127 v135 v143 v151 v159 v167 v175 v183 v191 v199 v207 v215 v223 v231 v239 v247 k0_t4 v288 v291 v293) (k0_t5 : Fin (k0_t5_loop v291 v293).trips), ∀ a, (k0_off97 v288) a + S1x512.size a ≤ S32x1536.size a := fun v0 v7 v15 v23 v31 v39 v47 v55 v63 v71 v79 v87 v95 v103 v111 v119 v127 v135 v143 v151 v159 v167 v175 v183 v191 v199 v207 v215 v223 v231 v239 v247 k0_t4 v288 v291 v293 k0_hw47 k0_t5 => k0_hw47.2.2.2.2.2.1 k0_t5
theorem k0_off98_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw47 : k0_chk47 v0 v7 v15 v23 v31 v39 v47 v55 v63 v71 v79 v87 v95 v103 v111 v119 v127 v135 v143 v151 v159 v167 v175 v183 v191 v199 v207 v215 v223 v231 v239 v247 k0_t4 v288 v291 v293) (k0_t5 : Fin (k0_t5_loop v291 v293).trips), ∀ a, (k0_off98 v291 v293 k0_t5) a + S96x512.size a ≤ S768x1536.size a := fun v0 v7 v15 v23 v31 v39 v47 v55 v63 v71 v79 v87 v95 v103 v111 v119 v127 v135 v143 v151 v159 v167 v175 v183 v191 v199 v207 v215 v223 v231 v239 v247 k0_t4 v288 v291 v293 k0_hw47 k0_t5 => k0_hw47.2.2.2.2.2.2.1 k0_t5
theorem k0_off98_packedbf16 : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw47 : k0_chk47 v0 v7 v15 v23 v31 v39 v47 v55 v63 v71 v79 v87 v95 v103 v111 v119 v127 v135 v143 v151 v159 v167 v175 v183 v191 v199 v207 v215 v223 v231 v239 v247 k0_t4 v288 v291 v293) (k0_t5 : Fin (k0_t5_loop v291 v293).trips), (Rect.unit (s := S768x1536) (k0_off98 v291 v293 k0_t5) S96x512.size (k0_off98_inb v0 v7 v15 v23 v31 v39 v47 v55 v63 v71 v79 v87 v95 v103 v111 v119 v127 v135 v143 v151 v159 v167 v175 v183 v191 v199 v207 v215 v223 v231 v239 v247 k0_t4 v288 v291 v293 k0_hw47 k0_t5)).PackedRows (EltTy.packing .bf16) := fun v0 v7 v15 v23 v31 v39 v47 v55 v63 v71 v79 v87 v95 v103 v111 v119 v127 v135 v143 v151 v159 v167 v175 v183 v191 v199 v207 v215 v223 v231 v239 v247 k0_t4 v288 v291 v293 k0_hw47 k0_t5 => k0_hw47.2.2.2.2.2.2.2.1 k0_t5 (k0_off98_inb v0 v7 v15 v23 v31 v39 v47 v55 v63 v71 v79 v87 v95 v103 v111 v119 v127 v135 v143 v151 v159 v167 v175 v183 v191 v199 v207 v215 v223 v231 v239 v247 k0_t4 v288 v291 v293 k0_hw47 k0_t5)
theorem k0_off99_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw47 : k0_chk47 v0 v7 v15 v23 v31 v39 v47 v55 v63 v71 v79 v87 v95 v103 v111 v119 v127 v135 v143 v151 v159 v167 v175 v183 v191 v199 v207 v215 v223 v231 v239 v247 k0_t4 v288 v291 v293) (k0_t5 : Fin (k0_t5_loop v291 v293).trips), ∀ a, (k0_off99 v0 v7 v15 v23 v31 v39 v47 v55 v63 v71 v79 v87 v95 v103 v111 v119 v127 v135 v143 v151 v159 v167 v175 v183 v191 v199 v207 v215 v223 v231 v239 v247 k0_t4) a + S1x2048x512.size a ≤ S8x2048x1536.size a := fun v0 v7 v15 v23 v31 v39 v47 v55 v63 v71 v79 v87 v95 v103 v111 v119 v127 v135 v143 v151 v159 v167 v175 v183 v191 v199 v207 v215 v223 v231 v239 v247 k0_t4 v288 v291 v293 k0_hw47 k0_t5 => k0_hw47.2.2.2.2.2.2.2.2.1 k0_t5
theorem k0_off100_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw47 : k0_chk47 v0 v7 v15 v23 v31 v39 v47 v55 v63 v71 v79 v87 v95 v103 v111 v119 v127 v135 v143 v151 v159 v167 v175 v183 v191 v199 v207 v215 v223 v231 v239 v247 k0_t4 v288 v291 v293) (k0_t5 : Fin (k0_t5_loop v291 v293).trips), ∀ a, (k0_off100 v288) a + S1x512.size a ≤ S32x1536.size a := fun v0 v7 v15 v23 v31 v39 v47 v55 v63 v71 v79 v87 v95 v103 v111 v119 v127 v135 v143 v151 v159 v167 v175 v183 v191 v199 v207 v215 v223 v231 v239 v247 k0_t4 v288 v291 v293 k0_hw47 k0_t5 => k0_hw47.2.2.2.2.2.2.2.2.2.1 k0_t5
theorem k0_off101_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw47 : k0_chk47 v0 v7 v15 v23 v31 v39 v47 v55 v63 v71 v79 v87 v95 v103 v111 v119 v127 v135 v143 v151 v159 v167 v175 v183 v191 v199 v207 v215 v223 v231 v239 v247 k0_t4 v288 v291 v293) (k0_t5 : Fin (k0_t5_loop v291 v293).trips), ∀ a, (k0_off101 v291 v293 k0_t5) a + S96x512.size a ≤ S768x1536.size a := fun v0 v7 v15 v23 v31 v39 v47 v55 v63 v71 v79 v87 v95 v103 v111 v119 v127 v135 v143 v151 v159 v167 v175 v183 v191 v199 v207 v215 v223 v231 v239 v247 k0_t4 v288 v291 v293 k0_hw47 k0_t5 => k0_hw47.2.2.2.2.2.2.2.2.2.2.1 k0_t5
theorem k0_off101_packedbf16 : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw47 : k0_chk47 v0 v7 v15 v23 v31 v39 v47 v55 v63 v71 v79 v87 v95 v103 v111 v119 v127 v135 v143 v151 v159 v167 v175 v183 v191 v199 v207 v215 v223 v231 v239 v247 k0_t4 v288 v291 v293) (k0_t5 : Fin (k0_t5_loop v291 v293).trips), (Rect.unit (s := S768x1536) (k0_off101 v291 v293 k0_t5) S96x512.size (k0_off101_inb v0 v7 v15 v23 v31 v39 v47 v55 v63 v71 v79 v87 v95 v103 v111 v119 v127 v135 v143 v151 v159 v167 v175 v183 v191 v199 v207 v215 v223 v231 v239 v247 k0_t4 v288 v291 v293 k0_hw47 k0_t5)).PackedRows (EltTy.packing .bf16) := fun v0 v7 v15 v23 v31 v39 v47 v55 v63 v71 v79 v87 v95 v103 v111 v119 v127 v135 v143 v151 v159 v167 v175 v183 v191 v199 v207 v215 v223 v231 v239 v247 k0_t4 v288 v291 v293 k0_hw47 k0_t5 => k0_hw47.2.2.2.2.2.2.2.2.2.2.2.1 k0_t5 (k0_off101_inb v0 v7 v15 v23 v31 v39 v47 v55 v63 v71 v79 v87 v95 v103 v111 v119 v127 v135 v143 v151 v159 v167 v175 v183 v191 v199 v207 v215 v223 v231 v239 v247 k0_t4 v288 v291 v293 k0_hw47 k0_t5)
theorem k0_off102_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw47 : k0_chk47 v0 v7 v15 v23 v31 v39 v47 v55 v63 v71 v79 v87 v95 v103 v111 v119 v127 v135 v143 v151 v159 v167 v175 v183 v191 v199 v207 v215 v223 v231 v239 v247 k0_t4 v288 v291 v293) (k0_t5 : Fin (k0_t5_loop v291 v293).trips), ∀ a, (k0_off102 v0 v7 v15 v23 v31 v39 v47 v55 v63 v71 v79 v87 v95 v103 v111 v119 v127 v135 v143 v151 v159 v167 v175 v183 v191 v199 v207 v215 v223 v231 v239 v247 k0_t4) a + S1x2048x512.size a ≤ S8x2048x1536.size a := fun v0 v7 v15 v23 v31 v39 v47 v55 v63 v71 v79 v87 v95 v103 v111 v119 v127 v135 v143 v151 v159 v167 v175 v183 v191 v199 v207 v215 v223 v231 v239 v247 k0_t4 v288 v291 v293 k0_hw47 k0_t5 => k0_hw47.2.2.2.2.2.2.2.2.2.2.2.2.1 k0_t5
theorem k0_off103_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw47 : k0_chk47 v0 v7 v15 v23 v31 v39 v47 v55 v63 v71 v79 v87 v95 v103 v111 v119 v127 v135 v143 v151 v159 v167 v175 v183 v191 v199 v207 v215 v223 v231 v239 v247 k0_t4 v288 v291 v293) (k0_t5 : Fin (k0_t5_loop v291 v293).trips), ∀ a, (k0_off103 v288) a + S1x512.size a ≤ S32x1536.size a := fun v0 v7 v15 v23 v31 v39 v47 v55 v63 v71 v79 v87 v95 v103 v111 v119 v127 v135 v143 v151 v159 v167 v175 v183 v191 v199 v207 v215 v223 v231 v239 v247 k0_t4 v288 v291 v293 k0_hw47 k0_t5 => k0_hw47.2.2.2.2.2.2.2.2.2.2.2.2.2.1 k0_t5
theorem k0_off104_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw47 : k0_chk47 v0 v7 v15 v23 v31 v39 v47 v55 v63 v71 v79 v87 v95 v103 v111 v119 v127 v135 v143 v151 v159 v167 v175 v183 v191 v199 v207 v215 v223 v231 v239 v247 k0_t4 v288 v291 v293) (k0_t5 : Fin (k0_t5_loop v291 v293).trips), ∀ a, (k0_off104 v291 v293 k0_t5) a + S96x512.size a ≤ S768x1536.size a := fun v0 v7 v15 v23 v31 v39 v47 v55 v63 v71 v79 v87 v95 v103 v111 v119 v127 v135 v143 v151 v159 v167 v175 v183 v191 v199 v207 v215 v223 v231 v239 v247 k0_t4 v288 v291 v293 k0_hw47 k0_t5 => k0_hw47.2.2.2.2.2.2.2.2.2.2.2.2.2.2.1 k0_t5
theorem k0_off104_packedbf16 : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw47 : k0_chk47 v0 v7 v15 v23 v31 v39 v47 v55 v63 v71 v79 v87 v95 v103 v111 v119 v127 v135 v143 v151 v159 v167 v175 v183 v191 v199 v207 v215 v223 v231 v239 v247 k0_t4 v288 v291 v293) (k0_t5 : Fin (k0_t5_loop v291 v293).trips), (Rect.unit (s := S768x1536) (k0_off104 v291 v293 k0_t5) S96x512.size (k0_off104_inb v0 v7 v15 v23 v31 v39 v47 v55 v63 v71 v79 v87 v95 v103 v111 v119 v127 v135 v143 v151 v159 v167 v175 v183 v191 v199 v207 v215 v223 v231 v239 v247 k0_t4 v288 v291 v293 k0_hw47 k0_t5)).PackedRows (EltTy.packing .bf16) := fun v0 v7 v15 v23 v31 v39 v47 v55 v63 v71 v79 v87 v95 v103 v111 v119 v127 v135 v143 v151 v159 v167 v175 v183 v191 v199 v207 v215 v223 v231 v239 v247 k0_t4 v288 v291 v293 k0_hw47 k0_t5 => k0_hw47.2.2.2.2.2.2.2.2.2.2.2.2.2.2.2.1 k0_t5 (k0_off104_inb v0 v7 v15 v23 v31 v39 v47 v55 v63 v71 v79 v87 v95 v103 v111 v119 v127 v135 v143 v151 v159 v167 v175 v183 v191 v199 v207 v215 v223 v231 v239 v247 k0_t4 v288 v291 v293 k0_hw47 k0_t5)
theorem k0_t6_ok : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw47 : k0_chk47 v0 v7 v15 v23 v31 v39 v47 v55 v63 v71 v79 v87 v95 v103 v111 v119 v127 v135 v143 v151 v159 v167 v175 v183 v191 v199 v207 v215 v223 v231 v239 v247 k0_t4 v288 v291 v293), (k0_t6_loop v291 v293).OK := fun v0 v7 v15 v23 v31 v39 v47 v55 v63 v71 v79 v87 v95 v103 v111 v119 v127 v135 v143 v151 v159 v167 v175 v183 v191 v199 v207 v215 v223 v231 v239 v247 k0_t4 v288 v291 v293 k0_hw47 => k0_hw47.2.2.2.2.2.2.2.2.2.2.2.2.2.2.2.2.1
theorem k0_mult4_dvd : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw47 : k0_chk47 v0 v7 v15 v23 v31 v39 v47 v55 v63 v71 v79 v87 v95 v103 v111 v119 v127 v135 v143 v151 v159 v167 v175 v183 v191 v199 v207 v215 v223 v231 v239 v247 k0_t4 v288 v291 v293) (k0_t6 : Fin (k0_t6_loop v291 v293).trips), 32 ∣ (k0_mult4 v291 v293 k0_t6).toNat := fun v0 v7 v15 v23 v31 v39 v47 v55 v63 v71 v79 v87 v95 v103 v111 v119 v127 v135 v143 v151 v159 v167 v175 v183 v191 v199 v207 v215 v223 v231 v239 v247 k0_t4 v288 v291 v293 k0_hw47 k0_t6 => k0_hw47.2.2.2.2.2.2.2.2.2.2.2.2.2.2.2.2.2.1 k0_t6
theorem k0_off105_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw47 : k0_chk47 v0 v7 v15 v23 v31 v39 v47 v55 v63 v71 v79 v87 v95 v103 v111 v119 v127 v135 v143 v151 v159 v167 v175 v183 v191 v199 v207 v215 v223 v231 v239 v247 k0_t4 v288 v291 v293) (k0_t6 : Fin (k0_t6_loop v291 v293).trips), ∀ a, (k0_off105 v291 v293 k0_t6) a + S96x2048.size a ≤ S768x2048.size a := fun v0 v7 v15 v23 v31 v39 v47 v55 v63 v71 v79 v87 v95 v103 v111 v119 v127 v135 v143 v151 v159 v167 v175 v183 v191 v199 v207 v215 v223 v231 v239 v247 k0_t4 v288 v291 v293 k0_hw47 k0_t6 => k0_hw47.2.2.2.2.2.2.2.2.2.2.2.2.2.2.2.2.2.2.1 k0_t6
theorem k0_off106_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw47 : k0_chk47 v0 v7 v15 v23 v31 v39 v47 v55 v63 v71 v79 v87 v95 v103 v111 v119 v127 v135 v143 v151 v159 v167 v175 v183 v191 v199 v207 v215 v223 v231 v239 v247 k0_t4 v288 v291 v293) (k0_t6 : Fin (k0_t6_loop v291 v293).trips), ∀ a, (k0_off106 v291 v293 k0_t6) a + S96x1.size a ≤ S768x1.size a := fun v0 v7 v15 v23 v31 v39 v47 v55 v63 v71 v79 v87 v95 v103 v111 v119 v127 v135 v143 v151 v159 v167 v175 v183 v191 v199 v207 v215 v223 v231 v239 v247 k0_t4 v288 v291 v293 k0_hw47 k0_t6 => k0_hw47.2.2.2.2.2.2.2.2.2.2.2.2.2.2.2.2.2.2.2.1 k0_t6
theorem k0_off107_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw47 : k0_chk47 v0 v7 v15 v23 v31 v39 v47 v55 v63 v71 v79 v87 v95 v103 v111 v119 v127 v135 v143 v151 v159 v167 v175 v183 v191 v199 v207 v215 v223 v231 v239 v247 k0_t4 v288 v291 v293) (k0_t6 : Fin (k0_t6_loop v291 v293).trips), ∀ a, (k0_off107 v0 v7 v15 v23 v31 v39 v47 v55 v63 v71 v79 v87 v95 v103 v111 v119 v127 v135 v143 v151 v159 v167 v175 v183 v191 v199 v207 v215 v223 v231 v239 v247 k0_t4) a + S1x2048x512.size a ≤ S8x2048x1536.size a := fun v0 v7 v15 v23 v31 v39 v47 v55 v63 v71 v79 v87 v95 v103 v111 v119 v127 v135 v143 v151 v159 v167 v175 v183 v191 v199 v207 v215 v223 v231 v239 v247 k0_t4 v288 v291 v293 k0_hw47 k0_t6 => k0_hw47.2.2.2.2.2.2.2.2.2.2.2.2.2.2.2.2.2.2.2.2.1 k0_t6
theorem k0_off108_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw47 : k0_chk47 v0 v7 v15 v23 v31 v39 v47 v55 v63 v71 v79 v87 v95 v103 v111 v119 v127 v135 v143 v151 v159 v167 v175 v183 v191 v199 v207 v215 v223 v231 v239 v247 k0_t4 v288 v291 v293) (k0_t6 : Fin (k0_t6_loop v291 v293).trips), ∀ a, (k0_off108 v288) a + S1x512.size a ≤ S32x1536.size a := fun v0 v7 v15 v23 v31 v39 v47 v55 v63 v71 v79 v87 v95 v103 v111 v119 v127 v135 v143 v151 v159 v167 v175 v183 v191 v199 v207 v215 v223 v231 v239 v247 k0_t4 v288 v291 v293 k0_hw47 k0_t6 => k0_hw47.2.2.2.2.2.2.2.2.2.2.2.2.2.2.2.2.2.2.2.2.2.1 k0_t6
theorem k0_off109_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw47 : k0_chk47 v0 v7 v15 v23 v31 v39 v47 v55 v63 v71 v79 v87 v95 v103 v111 v119 v127 v135 v143 v151 v159 v167 v175 v183 v191 v199 v207 v215 v223 v231 v239 v247 k0_t4 v288 v291 v293) (k0_t6 : Fin (k0_t6_loop v291 v293).trips), ∀ a, (k0_off109 v291 v293 k0_t6) a + S96x512.size a ≤ S768x1536.size a := fun v0 v7 v15 v23 v31 v39 v47 v55 v63 v71 v79 v87 v95 v103 v111 v119 v127 v135 v143 v151 v159 v167 v175 v183 v191 v199 v207 v215 v223 v231 v239 v247 k0_t4 v288 v291 v293 k0_hw47 k0_t6 => k0_hw47.2.2.2.2.2.2.2.2.2.2.2.2.2.2.2.2.2.2.2.2.2.2.1 k0_t6
theorem k0_off109_packedbf16 : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw47 : k0_chk47 v0 v7 v15 v23 v31 v39 v47 v55 v63 v71 v79 v87 v95 v103 v111 v119 v127 v135 v143 v151 v159 v167 v175 v183 v191 v199 v207 v215 v223 v231 v239 v247 k0_t4 v288 v291 v293) (k0_t6 : Fin (k0_t6_loop v291 v293).trips), (Rect.unit (s := S768x1536) (k0_off109 v291 v293 k0_t6) S96x512.size (k0_off109_inb v0 v7 v15 v23 v31 v39 v47 v55 v63 v71 v79 v87 v95 v103 v111 v119 v127 v135 v143 v151 v159 v167 v175 v183 v191 v199 v207 v215 v223 v231 v239 v247 k0_t4 v288 v291 v293 k0_hw47 k0_t6)).PackedRows (EltTy.packing .bf16) := fun v0 v7 v15 v23 v31 v39 v47 v55 v63 v71 v79 v87 v95 v103 v111 v119 v127 v135 v143 v151 v159 v167 v175 v183 v191 v199 v207 v215 v223 v231 v239 v247 k0_t4 v288 v291 v293 k0_hw47 k0_t6 => k0_hw47.2.2.2.2.2.2.2.2.2.2.2.2.2.2.2.2.2.2.2.2.2.2.2.1 k0_t6 (k0_off109_inb v0 v7 v15 v23 v31 v39 v47 v55 v63 v71 v79 v87 v95 v103 v111 v119 v127 v135 v143 v151 v159 v167 v175 v183 v191 v199 v207 v215 v223 v231 v239 v247 k0_t4 v288 v291 v293 k0_hw47 k0_t6)
theorem k0_off110_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw47 : k0_chk47 v0 v7 v15 v23 v31 v39 v47 v55 v63 v71 v79 v87 v95 v103 v111 v119 v127 v135 v143 v151 v159 v167 v175 v183 v191 v199 v207 v215 v223 v231 v239 v247 k0_t4 v288 v291 v293) (k0_t6 : Fin (k0_t6_loop v291 v293).trips), ∀ a, (k0_off110 v0 v7 v15 v23 v31 v39 v47 v55 v63 v71 v79 v87 v95 v103 v111 v119 v127 v135 v143 v151 v159 v167 v175 v183 v191 v199 v207 v215 v223 v231 v239 v247 k0_t4) a + S1x2048x512.size a ≤ S8x2048x1536.size a := fun v0 v7 v15 v23 v31 v39 v47 v55 v63 v71 v79 v87 v95 v103 v111 v119 v127 v135 v143 v151 v159 v167 v175 v183 v191 v199 v207 v215 v223 v231 v239 v247 k0_t4 v288 v291 v293 k0_hw47 k0_t6 => k0_hw47.2.2.2.2.2.2.2.2.2.2.2.2.2.2.2.2.2.2.2.2.2.2.2.2.1 k0_t6
theorem k0_off111_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw47 : k0_chk47 v0 v7 v15 v23 v31 v39 v47 v55 v63 v71 v79 v87 v95 v103 v111 v119 v127 v135 v143 v151 v159 v167 v175 v183 v191 v199 v207 v215 v223 v231 v239 v247 k0_t4 v288 v291 v293) (k0_t6 : Fin (k0_t6_loop v291 v293).trips), ∀ a, (k0_off111 v288) a + S1x512.size a ≤ S32x1536.size a := fun v0 v7 v15 v23 v31 v39 v47 v55 v63 v71 v79 v87 v95 v103 v111 v119 v127 v135 v143 v151 v159 v167 v175 v183 v191 v199 v207 v215 v223 v231 v239 v247 k0_t4 v288 v291 v293 k0_hw47 k0_t6 => k0_hw47.2.2.2.2.2.2.2.2.2.2.2.2.2.2.2.2.2.2.2.2.2.2.2.2.2.1 k0_t6
theorem k0_off112_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw47 : k0_chk47 v0 v7 v15 v23 v31 v39 v47 v55 v63 v71 v79 v87 v95 v103 v111 v119 v127 v135 v143 v151 v159 v167 v175 v183 v191 v199 v207 v215 v223 v231 v239 v247 k0_t4 v288 v291 v293) (k0_t6 : Fin (k0_t6_loop v291 v293).trips), ∀ a, (k0_off112 v291 v293 k0_t6) a + S96x512.size a ≤ S768x1536.size a := fun v0 v7 v15 v23 v31 v39 v47 v55 v63 v71 v79 v87 v95 v103 v111 v119 v127 v135 v143 v151 v159 v167 v175 v183 v191 v199 v207 v215 v223 v231 v239 v247 k0_t4 v288 v291 v293 k0_hw47 k0_t6 => k0_hw47.2.2.2.2.2.2.2.2.2.2.2.2.2.2.2.2.2.2.2.2.2.2.2.2.2.2.1 k0_t6
theorem k0_off112_packedbf16 : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw47 : k0_chk47 v0 v7 v15 v23 v31 v39 v47 v55 v63 v71 v79 v87 v95 v103 v111 v119 v127 v135 v143 v151 v159 v167 v175 v183 v191 v199 v207 v215 v223 v231 v239 v247 k0_t4 v288 v291 v293) (k0_t6 : Fin (k0_t6_loop v291 v293).trips), (Rect.unit (s := S768x1536) (k0_off112 v291 v293 k0_t6) S96x512.size (k0_off112_inb v0 v7 v15 v23 v31 v39 v47 v55 v63 v71 v79 v87 v95 v103 v111 v119 v127 v135 v143 v151 v159 v167 v175 v183 v191 v199 v207 v215 v223 v231 v239 v247 k0_t4 v288 v291 v293 k0_hw47 k0_t6)).PackedRows (EltTy.packing .bf16) := fun v0 v7 v15 v23 v31 v39 v47 v55 v63 v71 v79 v87 v95 v103 v111 v119 v127 v135 v143 v151 v159 v167 v175 v183 v191 v199 v207 v215 v223 v231 v239 v247 k0_t4 v288 v291 v293 k0_hw47 k0_t6 => k0_hw47.2.2.2.2.2.2.2.2.2.2.2.2.2.2.2.2.2.2.2.2.2.2.2.2.2.2.2.1 k0_t6 (k0_off112_inb v0 v7 v15 v23 v31 v39 v47 v55 v63 v71 v79 v87 v95 v103 v111 v119 v127 v135 v143 v151 v159 v167 v175 v183 v191 v199 v207 v215 v223 v231 v239 v247 k0_t4 v288 v291 v293 k0_hw47 k0_t6)
theorem k0_off113_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw47 : k0_chk47 v0 v7 v15 v23 v31 v39 v47 v55 v63 v71 v79 v87 v95 v103 v111 v119 v127 v135 v143 v151 v159 v167 v175 v183 v191 v199 v207 v215 v223 v231 v239 v247 k0_t4 v288 v291 v293) (k0_t6 : Fin (k0_t6_loop v291 v293).trips), ∀ a, (k0_off113 v0 v7 v15 v23 v31 v39 v47 v55 v63 v71 v79 v87 v95 v103 v111 v119 v127 v135 v143 v151 v159 v167 v175 v183 v191 v199 v207 v215 v223 v231 v239 v247 k0_t4) a + S1x2048x512.size a ≤ S8x2048x1536.size a := fun v0 v7 v15 v23 v31 v39 v47 v55 v63 v71 v79 v87 v95 v103 v111 v119 v127 v135 v143 v151 v159 v167 v175 v183 v191 v199 v207 v215 v223 v231 v239 v247 k0_t4 v288 v291 v293 k0_hw47 k0_t6 => k0_hw47.2.2.2.2.2.2.2.2.2.2.2.2.2.2.2.2.2.2.2.2.2.2.2.2.2.2.2.2.1 k0_t6
theorem k0_off114_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw47 : k0_chk47 v0 v7 v15 v23 v31 v39 v47 v55 v63 v71 v79 v87 v95 v103 v111 v119 v127 v135 v143 v151 v159 v167 v175 v183 v191 v199 v207 v215 v223 v231 v239 v247 k0_t4 v288 v291 v293) (k0_t6 : Fin (k0_t6_loop v291 v293).trips), ∀ a, (k0_off114 v288) a + S1x512.size a ≤ S32x1536.size a := fun v0 v7 v15 v23 v31 v39 v47 v55 v63 v71 v79 v87 v95 v103 v111 v119 v127 v135 v143 v151 v159 v167 v175 v183 v191 v199 v207 v215 v223 v231 v239 v247 k0_t4 v288 v291 v293 k0_hw47 k0_t6 => k0_hw47.2.2.2.2.2.2.2.2.2.2.2.2.2.2.2.2.2.2.2.2.2.2.2.2.2.2.2.2.2.1 k0_t6
theorem k0_off115_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw47 : k0_chk47 v0 v7 v15 v23 v31 v39 v47 v55 v63 v71 v79 v87 v95 v103 v111 v119 v127 v135 v143 v151 v159 v167 v175 v183 v191 v199 v207 v215 v223 v231 v239 v247 k0_t4 v288 v291 v293) (k0_t6 : Fin (k0_t6_loop v291 v293).trips), ∀ a, (k0_off115 v291 v293 k0_t6) a + S96x512.size a ≤ S768x1536.size a := fun v0 v7 v15 v23 v31 v39 v47 v55 v63 v71 v79 v87 v95 v103 v111 v119 v127 v135 v143 v151 v159 v167 v175 v183 v191 v199 v207 v215 v223 v231 v239 v247 k0_t4 v288 v291 v293 k0_hw47 k0_t6 => k0_hw47.2.2.2.2.2.2.2.2.2.2.2.2.2.2.2.2.2.2.2.2.2.2.2.2.2.2.2.2.2.2.1 k0_t6
theorem k0_off115_packedbf16 : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) (v288 : BitVec 32) (v291 : BitVec 32) (v293 : BitVec 32) (k0_hw47 : k0_chk47 v0 v7 v15 v23 v31 v39 v47 v55 v63 v71 v79 v87 v95 v103 v111 v119 v127 v135 v143 v151 v159 v167 v175 v183 v191 v199 v207 v215 v223 v231 v239 v247 k0_t4 v288 v291 v293) (k0_t6 : Fin (k0_t6_loop v291 v293).trips), (Rect.unit (s := S768x1536) (k0_off115 v291 v293 k0_t6) S96x512.size (k0_off115_inb v0 v7 v15 v23 v31 v39 v47 v55 v63 v71 v79 v87 v95 v103 v111 v119 v127 v135 v143 v151 v159 v167 v175 v183 v191 v199 v207 v215 v223 v231 v239 v247 k0_t4 v288 v291 v293 k0_hw47 k0_t6)).PackedRows (EltTy.packing .bf16) := fun v0 v7 v15 v23 v31 v39 v47 v55 v63 v71 v79 v87 v95 v103 v111 v119 v127 v135 v143 v151 v159 v167 v175 v183 v191 v199 v207 v215 v223 v231 v239 v247 k0_t4 v288 v291 v293 k0_hw47 k0_t6 => k0_hw47.2.2.2.2.2.2.2.2.2.2.2.2.2.2.2.2.2.2.2.2.2.2.2.2.2.2.2.2.2.2.2 k0_t6 (k0_off115_inb v0 v7 v15 v23 v31 v39 v47 v55 v63 v71 v79 v87 v95 v103 v111 v119 v127 v135 v143 v151 v159 v167 v175 v183 v191 v199 v207 v215 v223 v231 v239 v247 k0_t4 v288 v291 v293 k0_hw47 k0_t6)

def k0_off116 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) : Fin 1 → Nat :=
  let c0_i32_86 : BitVec 32 := 0#32
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let c0_i32_45 : BitVec 32 := 0#32
  let v163 : BitVec 1 := Scalar.cmpi .sgt v159 c0_i32_45
  let v164 : BitVec 32 := Scalar.extui v163
  let v165 : BitVec 32 := Scalar.addi v157 v164
  let c0_i32_47 : BitVec 32 := 0#32
  let v171 : BitVec 1 := Scalar.cmpi .sgt v167 c0_i32_47
  let v172 : BitVec 32 := Scalar.extui v171
  let v173 : BitVec 32 := Scalar.addi v165 v172
  let c0_i32_49 : BitVec 32 := 0#32
  let v179 : BitVec 1 := Scalar.cmpi .sgt v175 c0_i32_49
  let v180 : BitVec 32 := Scalar.extui v179
  let v181 : BitVec 32 := Scalar.addi v173 v180
  let c0_i32_51 : BitVec 32 := 0#32
  let v187 : BitVec 1 := Scalar.cmpi .sgt v183 c0_i32_51
  let v188 : BitVec 32 := Scalar.extui v187
  let v189 : BitVec 32 := Scalar.addi v181 v188
  let c0_i32_53 : BitVec 32 := 0#32
  let v195 : BitVec 1 := Scalar.cmpi .sgt v191 c0_i32_53
  let v196 : BitVec 32 := Scalar.extui v195
  let v197 : BitVec 32 := Scalar.addi v189 v196
  let c0_i32_55 : BitVec 32 := 0#32
  let v203 : BitVec 1 := Scalar.cmpi .sgt v199 c0_i32_55
  let v204 : BitVec 32 := Scalar.extui v203
  let v205 : BitVec 32 := Scalar.addi v197 v204
  let c0_i32_57 : BitVec 32 := 0#32
  let v211 : BitVec 1 := Scalar.cmpi .sgt v207 c0_i32_57
  let v212 : BitVec 32 := Scalar.extui v211
  let v213 : BitVec 32 := Scalar.addi v205 v212
  let c0_i32_59 : BitVec 32 := 0#32
  let v219 : BitVec 1 := Scalar.cmpi .sgt v215 c0_i32_59
  let v220 : BitVec 32 := Scalar.extui v219
  let v221 : BitVec 32 := Scalar.addi v213 v220
  let c0_i32_61 : BitVec 32 := 0#32
  let v227 : BitVec 1 := Scalar.cmpi .sgt v223 c0_i32_61
  let v228 : BitVec 32 := Scalar.extui v227
  let v229 : BitVec 32 := Scalar.addi v221 v228
  let c0_i32_63 : BitVec 32 := 0#32
  let v235 : BitVec 1 := Scalar.cmpi .sgt v231 c0_i32_63
  let v236 : BitVec 32 := Scalar.extui v235
  let v237 : BitVec 32 := Scalar.addi v229 v236
  let c0_i32_65 : BitVec 32 := 0#32
  let v243 : BitVec 1 := Scalar.cmpi .sgt v239 c0_i32_65
  let v244 : BitVec 32 := Scalar.extui v243
  let v245 : BitVec 32 := Scalar.addi v237 v244
  let c0_i32_67 : BitVec 32 := 0#32
  let v251 : BitVec 1 := Scalar.cmpi .sgt v247 c0_i32_67
  let v252 : BitVec 32 := Scalar.extui v251
  let v253 : BitVec 32 := Scalar.addi v245 v252
  let v280 : BitVec 32 := Scalar.subi v253 c0_i32_86
  let c1_i32_88 : BitVec 32 := 1#32
  let v282 : BitVec 32 := Scalar.divsi v280 c1_i32_88
  let v283 : BitVec 32 := Scalar.muli v282 c1_i32_88
  let v284 : BitVec 32 := Scalar.addi c0_i32_86 v283
  let c1_i32_90 : BitVec 32 := 1#32
  let arg18 : BitVec 32 := Scf.iv v284 c1_i32_90 k0_t4
  let c8_i32_112 : BitVec 32 := 8#32
  let v336 : BitVec 32 := Scalar.addi arg18 c8_i32_112
  let v338 : Index := Scalar.indexCast v336
  ![v338.toNat]
def k0_cond10 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) : BitVec 1 :=
  let c0_i32_86 : BitVec 32 := 0#32
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let c0_i32_45 : BitVec 32 := 0#32
  let v163 : BitVec 1 := Scalar.cmpi .sgt v159 c0_i32_45
  let v164 : BitVec 32 := Scalar.extui v163
  let v165 : BitVec 32 := Scalar.addi v157 v164
  let c0_i32_47 : BitVec 32 := 0#32
  let v171 : BitVec 1 := Scalar.cmpi .sgt v167 c0_i32_47
  let v172 : BitVec 32 := Scalar.extui v171
  let v173 : BitVec 32 := Scalar.addi v165 v172
  let c0_i32_49 : BitVec 32 := 0#32
  let v179 : BitVec 1 := Scalar.cmpi .sgt v175 c0_i32_49
  let v180 : BitVec 32 := Scalar.extui v179
  let v181 : BitVec 32 := Scalar.addi v173 v180
  let c0_i32_51 : BitVec 32 := 0#32
  let v187 : BitVec 1 := Scalar.cmpi .sgt v183 c0_i32_51
  let v188 : BitVec 32 := Scalar.extui v187
  let v189 : BitVec 32 := Scalar.addi v181 v188
  let c0_i32_53 : BitVec 32 := 0#32
  let v195 : BitVec 1 := Scalar.cmpi .sgt v191 c0_i32_53
  let v196 : BitVec 32 := Scalar.extui v195
  let v197 : BitVec 32 := Scalar.addi v189 v196
  let c0_i32_55 : BitVec 32 := 0#32
  let v203 : BitVec 1 := Scalar.cmpi .sgt v199 c0_i32_55
  let v204 : BitVec 32 := Scalar.extui v203
  let v205 : BitVec 32 := Scalar.addi v197 v204
  let c0_i32_57 : BitVec 32 := 0#32
  let v211 : BitVec 1 := Scalar.cmpi .sgt v207 c0_i32_57
  let v212 : BitVec 32 := Scalar.extui v211
  let v213 : BitVec 32 := Scalar.addi v205 v212
  let c0_i32_59 : BitVec 32 := 0#32
  let v219 : BitVec 1 := Scalar.cmpi .sgt v215 c0_i32_59
  let v220 : BitVec 32 := Scalar.extui v219
  let v221 : BitVec 32 := Scalar.addi v213 v220
  let c0_i32_61 : BitVec 32 := 0#32
  let v227 : BitVec 1 := Scalar.cmpi .sgt v223 c0_i32_61
  let v228 : BitVec 32 := Scalar.extui v227
  let v229 : BitVec 32 := Scalar.addi v221 v228
  let c0_i32_63 : BitVec 32 := 0#32
  let v235 : BitVec 1 := Scalar.cmpi .sgt v231 c0_i32_63
  let v236 : BitVec 32 := Scalar.extui v235
  let v237 : BitVec 32 := Scalar.addi v229 v236
  let c0_i32_65 : BitVec 32 := 0#32
  let v243 : BitVec 1 := Scalar.cmpi .sgt v239 c0_i32_65
  let v244 : BitVec 32 := Scalar.extui v243
  let v245 : BitVec 32 := Scalar.addi v237 v244
  let c0_i32_67 : BitVec 32 := 0#32
  let v251 : BitVec 1 := Scalar.cmpi .sgt v247 c0_i32_67
  let v252 : BitVec 32 := Scalar.extui v251
  let v253 : BitVec 32 := Scalar.addi v245 v252
  let v280 : BitVec 32 := Scalar.subi v253 c0_i32_86
  let c1_i32_88 : BitVec 32 := 1#32
  let v282 : BitVec 32 := Scalar.divsi v280 c1_i32_88
  let v283 : BitVec 32 := Scalar.muli v282 c1_i32_88
  let v284 : BitVec 32 := Scalar.addi c0_i32_86 v283
  let c1_i32_90 : BitVec 32 := 1#32
  let arg18 : BitVec 32 := Scf.iv v284 c1_i32_90 k0_t4
  let c8_i32_109 : BitVec 32 := 8#32
  let v332 : BitVec 32 := Scalar.addi arg18 c8_i32_109
  let v333 : BitVec 1 := Scalar.cmpi .slt v332 v253
  let v334 : BitVec 32 := Scalar.extui v333
  let c0_i32_110 : BitVec 32 := 0#32
  let v335 : BitVec 1 := Scalar.cmpi .ne v334 c0_i32_110
  v335

def k0_off117 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) : Fin 1 → Nat :=
  let c0_i32_86 : BitVec 32 := 0#32
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let c0_i32_45 : BitVec 32 := 0#32
  let v163 : BitVec 1 := Scalar.cmpi .sgt v159 c0_i32_45
  let v164 : BitVec 32 := Scalar.extui v163
  let v165 : BitVec 32 := Scalar.addi v157 v164
  let c0_i32_47 : BitVec 32 := 0#32
  let v171 : BitVec 1 := Scalar.cmpi .sgt v167 c0_i32_47
  let v172 : BitVec 32 := Scalar.extui v171
  let v173 : BitVec 32 := Scalar.addi v165 v172
  let c0_i32_49 : BitVec 32 := 0#32
  let v179 : BitVec 1 := Scalar.cmpi .sgt v175 c0_i32_49
  let v180 : BitVec 32 := Scalar.extui v179
  let v181 : BitVec 32 := Scalar.addi v173 v180
  let c0_i32_51 : BitVec 32 := 0#32
  let v187 : BitVec 1 := Scalar.cmpi .sgt v183 c0_i32_51
  let v188 : BitVec 32 := Scalar.extui v187
  let v189 : BitVec 32 := Scalar.addi v181 v188
  let c0_i32_53 : BitVec 32 := 0#32
  let v195 : BitVec 1 := Scalar.cmpi .sgt v191 c0_i32_53
  let v196 : BitVec 32 := Scalar.extui v195
  let v197 : BitVec 32 := Scalar.addi v189 v196
  let c0_i32_55 : BitVec 32 := 0#32
  let v203 : BitVec 1 := Scalar.cmpi .sgt v199 c0_i32_55
  let v204 : BitVec 32 := Scalar.extui v203
  let v205 : BitVec 32 := Scalar.addi v197 v204
  let c0_i32_57 : BitVec 32 := 0#32
  let v211 : BitVec 1 := Scalar.cmpi .sgt v207 c0_i32_57
  let v212 : BitVec 32 := Scalar.extui v211
  let v213 : BitVec 32 := Scalar.addi v205 v212
  let c0_i32_59 : BitVec 32 := 0#32
  let v219 : BitVec 1 := Scalar.cmpi .sgt v215 c0_i32_59
  let v220 : BitVec 32 := Scalar.extui v219
  let v221 : BitVec 32 := Scalar.addi v213 v220
  let c0_i32_61 : BitVec 32 := 0#32
  let v227 : BitVec 1 := Scalar.cmpi .sgt v223 c0_i32_61
  let v228 : BitVec 32 := Scalar.extui v227
  let v229 : BitVec 32 := Scalar.addi v221 v228
  let c0_i32_63 : BitVec 32 := 0#32
  let v235 : BitVec 1 := Scalar.cmpi .sgt v231 c0_i32_63
  let v236 : BitVec 32 := Scalar.extui v235
  let v237 : BitVec 32 := Scalar.addi v229 v236
  let c0_i32_65 : BitVec 32 := 0#32
  let v243 : BitVec 1 := Scalar.cmpi .sgt v239 c0_i32_65
  let v244 : BitVec 32 := Scalar.extui v243
  let v245 : BitVec 32 := Scalar.addi v237 v244
  let c0_i32_67 : BitVec 32 := 0#32
  let v251 : BitVec 1 := Scalar.cmpi .sgt v247 c0_i32_67
  let v252 : BitVec 32 := Scalar.extui v251
  let v253 : BitVec 32 := Scalar.addi v245 v252
  let v280 : BitVec 32 := Scalar.subi v253 c0_i32_86
  let c1_i32_88 : BitVec 32 := 1#32
  let v282 : BitVec 32 := Scalar.divsi v280 c1_i32_88
  let v283 : BitVec 32 := Scalar.muli v282 c1_i32_88
  let v284 : BitVec 32 := Scalar.addi c0_i32_86 v283
  let c1_i32_90 : BitVec 32 := 1#32
  let arg18 : BitVec 32 := Scf.iv v284 c1_i32_90 k0_t4
  let c8_i32_112 : BitVec 32 := 8#32
  let v336 : BitVec 32 := Scalar.addi arg18 c8_i32_112
  let c8_i32_113 : BitVec 32 := 8#32
  let v337 : BitVec 32 := Scalar.remsi v336 c8_i32_113
  ![v337.toNat]
def k0_off118 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) : Fin 3 → Nat :=
  let c0_i32_86 : BitVec 32 := 0#32
  let c0_i32_4 : BitVec 32 := 0#32
  let c0_i32_3 : BitVec 32 := 0#32
  let v3 : BitVec 1 := Scalar.cmpi .sgt v0 c0_i32_3
  let v4 : BitVec 32 := Scalar.extui v3
  let v5 : BitVec 32 := Scalar.addi c0_i32_4 v4
  let c0_i32_7 : BitVec 32 := 0#32
  let v11 : BitVec 1 := Scalar.cmpi .sgt v7 c0_i32_7
  let v12 : BitVec 32 := Scalar.extui v11
  let v13 : BitVec 32 := Scalar.addi v5 v12
  let c0_i32_9 : BitVec 32 := 0#32
  let v19 : BitVec 1 := Scalar.cmpi .sgt v15 c0_i32_9
  let v20 : BitVec 32 := Scalar.extui v19
  let v21 : BitVec 32 := Scalar.addi v13 v20
  let c0_i32_11 : BitVec 32 := 0#32
  let v27 : BitVec 1 := Scalar.cmpi .sgt v23 c0_i32_11
  let v28 : BitVec 32 := Scalar.extui v27
  let v29 : BitVec 32 := Scalar.addi v21 v28
  let c0_i32_13 : BitVec 32 := 0#32
  let v35 : BitVec 1 := Scalar.cmpi .sgt v31 c0_i32_13
  let v36 : BitVec 32 := Scalar.extui v35
  let v37 : BitVec 32 := Scalar.addi v29 v36
  let c0_i32_15 : BitVec 32 := 0#32
  let v43 : BitVec 1 := Scalar.cmpi .sgt v39 c0_i32_15
  let v44 : BitVec 32 := Scalar.extui v43
  let v45 : BitVec 32 := Scalar.addi v37 v44
  let c0_i32_17 : BitVec 32 := 0#32
  let v51 : BitVec 1 := Scalar.cmpi .sgt v47 c0_i32_17
  let v52 : BitVec 32 := Scalar.extui v51
  let v53 : BitVec 32 := Scalar.addi v45 v52
  let c0_i32_19 : BitVec 32 := 0#32
  let v59 : BitVec 1 := Scalar.cmpi .sgt v55 c0_i32_19
  let v60 : BitVec 32 := Scalar.extui v59
  let v61 : BitVec 32 := Scalar.addi v53 v60
  let c0_i32_21 : BitVec 32 := 0#32
  let v67 : BitVec 1 := Scalar.cmpi .sgt v63 c0_i32_21
  let v68 : BitVec 32 := Scalar.extui v67
  let v69 : BitVec 32 := Scalar.addi v61 v68
  let c0_i32_23 : BitVec 32 := 0#32
  let v75 : BitVec 1 := Scalar.cmpi .sgt v71 c0_i32_23
  let v76 : BitVec 32 := Scalar.extui v75
  let v77 : BitVec 32 := Scalar.addi v69 v76
  let c0_i32_25 : BitVec 32 := 0#32
  let v83 : BitVec 1 := Scalar.cmpi .sgt v79 c0_i32_25
  let v84 : BitVec 32 := Scalar.extui v83
  let v85 : BitVec 32 := Scalar.addi v77 v84
  let c0_i32_27 : BitVec 32 := 0#32
  let v91 : BitVec 1 := Scalar.cmpi .sgt v87 c0_i32_27
  let v92 : BitVec 32 := Scalar.extui v91
  let v93 : BitVec 32 := Scalar.addi v85 v92
  let c0_i32_29 : BitVec 32 := 0#32
  let v99 : BitVec 1 := Scalar.cmpi .sgt v95 c0_i32_29
  let v100 : BitVec 32 := Scalar.extui v99
  let v101 : BitVec 32 := Scalar.addi v93 v100
  let c0_i32_31 : BitVec 32 := 0#32
  let v107 : BitVec 1 := Scalar.cmpi .sgt v103 c0_i32_31
  let v108 : BitVec 32 := Scalar.extui v107
  let v109 : BitVec 32 := Scalar.addi v101 v108
  let c0_i32_33 : BitVec 32 := 0#32
  let v115 : BitVec 1 := Scalar.cmpi .sgt v111 c0_i32_33
  let v116 : BitVec 32 := Scalar.extui v115
  let v117 : BitVec 32 := Scalar.addi v109 v116
  let c0_i32_35 : BitVec 32 := 0#32
  let v123 : BitVec 1 := Scalar.cmpi .sgt v119 c0_i32_35
  let v124 : BitVec 32 := Scalar.extui v123
  let v125 : BitVec 32 := Scalar.addi v117 v124
  let c0_i32_37 : BitVec 32 := 0#32
  let v131 : BitVec 1 := Scalar.cmpi .sgt v127 c0_i32_37
  let v132 : BitVec 32 := Scalar.extui v131
  let v133 : BitVec 32 := Scalar.addi v125 v132
  let c0_i32_39 : BitVec 32 := 0#32
  let v139 : BitVec 1 := Scalar.cmpi .sgt v135 c0_i32_39
  let v140 : BitVec 32 := Scalar.extui v139
  let v141 : BitVec 32 := Scalar.addi v133 v140
  let c0_i32_41 : BitVec 32 := 0#32
  let v147 : BitVec 1 := Scalar.cmpi .sgt v143 c0_i32_41
  let v148 : BitVec 32 := Scalar.extui v147
  let v149 : BitVec 32 := Scalar.addi v141 v148
  let c0_i32_43 : BitVec 32 := 0#32
  let v155 : BitVec 1 := Scalar.cmpi .sgt v151 c0_i32_43
  let v156 : BitVec 32 := Scalar.extui v155
  let v157 : BitVec 32 := Scalar.addi v149 v156
  let c0_i32_45 : BitVec 32 := 0#32
  let v163 : BitVec 1 := Scalar.cmpi .sgt v159 c0_i32_45
  let v164 : BitVec 32 := Scalar.extui v163
  let v165 : BitVec 32 := Scalar.addi v157 v164
  let c0_i32_47 : BitVec 32 := 0#32
  let v171 : BitVec 1 := Scalar.cmpi .sgt v167 c0_i32_47
  let v172 : BitVec 32 := Scalar.extui v171
  let v173 : BitVec 32 := Scalar.addi v165 v172
  let c0_i32_49 : BitVec 32 := 0#32
  let v179 : BitVec 1 := Scalar.cmpi .sgt v175 c0_i32_49
  let v180 : BitVec 32 := Scalar.extui v179
  let v181 : BitVec 32 := Scalar.addi v173 v180
  let c0_i32_51 : BitVec 32 := 0#32
  let v187 : BitVec 1 := Scalar.cmpi .sgt v183 c0_i32_51
  let v188 : BitVec 32 := Scalar.extui v187
  let v189 : BitVec 32 := Scalar.addi v181 v188
  let c0_i32_53 : BitVec 32 := 0#32
  let v195 : BitVec 1 := Scalar.cmpi .sgt v191 c0_i32_53
  let v196 : BitVec 32 := Scalar.extui v195
  let v197 : BitVec 32 := Scalar.addi v189 v196
  let c0_i32_55 : BitVec 32 := 0#32
  let v203 : BitVec 1 := Scalar.cmpi .sgt v199 c0_i32_55
  let v204 : BitVec 32 := Scalar.extui v203
  let v205 : BitVec 32 := Scalar.addi v197 v204
  let c0_i32_57 : BitVec 32 := 0#32
  let v211 : BitVec 1 := Scalar.cmpi .sgt v207 c0_i32_57
  let v212 : BitVec 32 := Scalar.extui v211
  let v213 : BitVec 32 := Scalar.addi v205 v212
  let c0_i32_59 : BitVec 32 := 0#32
  let v219 : BitVec 1 := Scalar.cmpi .sgt v215 c0_i32_59
  let v220 : BitVec 32 := Scalar.extui v219
  let v221 : BitVec 32 := Scalar.addi v213 v220
  let c0_i32_61 : BitVec 32 := 0#32
  let v227 : BitVec 1 := Scalar.cmpi .sgt v223 c0_i32_61
  let v228 : BitVec 32 := Scalar.extui v227
  let v229 : BitVec 32 := Scalar.addi v221 v228
  let c0_i32_63 : BitVec 32 := 0#32
  let v235 : BitVec 1 := Scalar.cmpi .sgt v231 c0_i32_63
  let v236 : BitVec 32 := Scalar.extui v235
  let v237 : BitVec 32 := Scalar.addi v229 v236
  let c0_i32_65 : BitVec 32 := 0#32
  let v243 : BitVec 1 := Scalar.cmpi .sgt v239 c0_i32_65
  let v244 : BitVec 32 := Scalar.extui v243
  let v245 : BitVec 32 := Scalar.addi v237 v244
  let c0_i32_67 : BitVec 32 := 0#32
  let v251 : BitVec 1 := Scalar.cmpi .sgt v247 c0_i32_67
  let v252 : BitVec 32 := Scalar.extui v251
  let v253 : BitVec 32 := Scalar.addi v245 v252
  let v280 : BitVec 32 := Scalar.subi v253 c0_i32_86
  let c1_i32_88 : BitVec 32 := 1#32
  let v282 : BitVec 32 := Scalar.divsi v280 c1_i32_88
  let v283 : BitVec 32 := Scalar.muli v282 c1_i32_88
  let v284 : BitVec 32 := Scalar.addi c0_i32_86 v283
  let c1_i32_90 : BitVec 32 := 1#32
  let arg18 : BitVec 32 := Scf.iv v284 c1_i32_90 k0_t4
  let c8_i32_112 : BitVec 32 := 8#32
  let v336 : BitVec 32 := Scalar.addi arg18 c8_i32_112
  let c8_i32_113 : BitVec 32 := 8#32
  let v337 : BitVec 32 := Scalar.remsi v336 c8_i32_113
  let c0_i32_114 : BitVec 32 := 0#32
  let c0_i32_115 : BitVec 32 := 0#32
  ![v337.toNat, 0, 0]
def k0_off119 (v339 : BitVec 32) : Fin 3 → Nat :=
  let c0_i32_116 : BitVec 32 := 0#32
  let c0_i32_117 : BitVec 32 := 0#32
  ![v339.toNat, 0, 0]

def k0_chk48 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) (v339 : BitVec 32) : Prop :=
  (∀ (k0_h10 : k0_cond10 v0 v7 v15 v23 v31 v39 v47 v55 v63 v71 v79 v87 v95 v103 v111 v119 v127 v135 v143 v151 v159 v167 v175 v183 v191 v199 v207 v215 v223 v231 v239 v247 k0_t4 = 1#1), ∀ a, (k0_off119 v339) a + S1x2048x1536.size a ≤ S32x2048x1536.size a) ∧
  (∀ (k0_h10 : k0_cond10 v0 v7 v15 v23 v31 v39 v47 v55 v63 v71 v79 v87 v95 v103 v111 v119 v127 v135 v143 v151 v159 v167 v175 v183 v191 v199 v207 v215 v223 v231 v239 v247 k0_t4 = 1#1), ∀ (hinb : ∀ a, (k0_off119 v339) a + S1x2048x1536.size a ≤ S32x2048x1536.size a), (Rect.unit (s := S32x2048x1536) (k0_off119 v339) S1x2048x1536.size hinb).WholeWords (EltTy.packing .fp8e4m3))
theorem k0_off119_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) (v339 : BitVec 32) (k0_hw48 : k0_chk48 v0 v7 v15 v23 v31 v39 v47 v55 v63 v71 v79 v87 v95 v103 v111 v119 v127 v135 v143 v151 v159 v167 v175 v183 v191 v199 v207 v215 v223 v231 v239 v247 k0_t4 v339), ∀ (k0_h10 : k0_cond10 v0 v7 v15 v23 v31 v39 v47 v55 v63 v71 v79 v87 v95 v103 v111 v119 v127 v135 v143 v151 v159 v167 v175 v183 v191 v199 v207 v215 v223 v231 v239 v247 k0_t4 = 1#1), ∀ a, (k0_off119 v339) a + S1x2048x1536.size a ≤ S32x2048x1536.size a := fun v0 v7 v15 v23 v31 v39 v47 v55 v63 v71 v79 v87 v95 v103 v111 v119 v127 v135 v143 v151 v159 v167 v175 v183 v191 v199 v207 v215 v223 v231 v239 v247 k0_t4 v339 k0_hw48 k0_h10 => k0_hw48.1 k0_h10
theorem k0_off119_wordsfp8e4m3 : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_t4 : Fin (k0_t4_loop v0 v7 v15 v23 v31 v39 v47 v55 v63 v71 v79 v87 v95 v103 v111 v119 v127 v135 v143 v151 v159 v167 v175 v183 v191 v199 v207 v215 v223 v231 v239 v247).trips) (v339 : BitVec 32) (k0_hw48 : k0_chk48 v0 v7 v15 v23 v31 v39 v47 v55 v63 v71 v79 v87 v95 v103 v111 v119 v127 v135 v143 v151 v159 v167 v175 v183 v191 v199 v207 v215 v223 v231 v239 v247 k0_t4 v339), ∀ (k0_h10 : k0_cond10 v0 v7 v15 v23 v31 v39 v47 v55 v63 v71 v79 v87 v95 v103 v111 v119 v127 v135 v143 v151 v159 v167 v175 v183 v191 v199 v207 v215 v223 v231 v239 v247 k0_t4 = 1#1), (Rect.unit (s := S32x2048x1536) (k0_off119 v339) S1x2048x1536.size (k0_off119_inb v0 v7 v15 v23 v31 v39 v47 v55 v63 v71 v79 v87 v95 v103 v111 v119 v127 v135 v143 v151 v159 v167 v175 v183 v191 v199 v207 v215 v223 v231 v239 v247 k0_t4 v339 k0_hw48 k0_h10)).WholeWords (EltTy.packing .fp8e4m3) := fun v0 v7 v15 v23 v31 v39 v47 v55 v63 v71 v79 v87 v95 v103 v111 v119 v127 v135 v143 v151 v159 v167 v175 v183 v191 v199 v207 v215 v223 v231 v239 v247 k0_t4 v339 k0_hw48 k0_h10 => k0_hw48.2 k0_h10 (k0_off119_inb v0 v7 v15 v23 v31 v39 v47 v55 v63 v71 v79 v87 v95 v103 v111 v119 v127 v135 v143 v151 v159 v167 v175 v183 v191 v199 v207 v215 v223 v231 v239 v247 k0_t4 v339 k0_hw48 k0_h10)

def k0_chk40 (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) : Prop :=
  ((k0_t1_loop v0 v7 v15 v23 v31 v39 v47 v55 v63 v71 v79 v87 v95 v103 v111 v119 v127 v135 v143 v151 v159 v167 v175 v183 v191 v199 v207 v215 v223 v231 v239 v247).OK) ∧
  (∀ k0_t1 : Fin (k0_t1_loop v0 v7 v15 v23 v31 v39 v47 v55 v63 v71 v79 v87 v95 v103 v111 v119 v127 v135 v143 v151 v159 v167 v175 v183 v191 v199 v207 v215 v223 v231 v239 v247).trips, ∀ a, (k0_off56 v0 v7 v15 v23 v31 v39 v47 v55 v63 v71 v79 v87 v95 v103 v111 v119 v127 v135 v143 v151 v159 v167 v175 v183 v191 v199 v207 v215 v223 v231 v239 v247 k0_t1) a + S1.size a ≤ S32.size a) ∧
  (∀ k0_t1 : Fin (k0_t1_loop v0 v7 v15 v23 v31 v39 v47 v55 v63 v71 v79 v87 v95 v103 v111 v119 v127 v135 v143 v151 v159 v167 v175 v183 v191 v199 v207 v215 v223 v231 v239 v247).trips, ∀ a, (k0_off58 v0 v7 v15 v23 v31 v39 v47 v55 v63 v71 v79 v87 v95 v103 v111 v119 v127 v135 v143 v151 v159 v167 v175 v183 v191 v199 v207 v215 v223 v231 v239 v247 k0_t1) a + S1.size a ≤ S32.size a) ∧
  (∀ k0_t1 : Fin (k0_t1_loop v0 v7 v15 v23 v31 v39 v47 v55 v63 v71 v79 v87 v95 v103 v111 v119 v127 v135 v143 v151 v159 v167 v175 v183 v191 v199 v207 v215 v223 v231 v239 v247).trips, ∀ a, (k0_off59 v0 v7 v15 v23 v31 v39 v47 v55 v63 v71 v79 v87 v95 v103 v111 v119 v127 v135 v143 v151 v159 v167 v175 v183 v191 v199 v207 v215 v223 v231 v239 v247 k0_t1) a + S1.size a ≤ S8.size a) ∧
  (∀ k0_t1 : Fin (k0_t1_loop v0 v7 v15 v23 v31 v39 v47 v55 v63 v71 v79 v87 v95 v103 v111 v119 v127 v135 v143 v151 v159 v167 v175 v183 v191 v199 v207 v215 v223 v231 v239 v247).trips, ∀ a, (k0_off60 v0 v7 v15 v23 v31 v39 v47 v55 v63 v71 v79 v87 v95 v103 v111 v119 v127 v135 v143 v151 v159 v167 v175 v183 v191 v199 v207 v215 v223 v231 v239 v247 k0_t1) a + S1x2048x1536.size a ≤ S8x2048x1536.size a) ∧
  (∀ k0_t1 : Fin (k0_t1_loop v0 v7 v15 v23 v31 v39 v47 v55 v63 v71 v79 v87 v95 v103 v111 v119 v127 v135 v143 v151 v159 v167 v175 v183 v191 v199 v207 v215 v223 v231 v239 v247).trips, ∀ (hinb : ∀ a, (k0_off60 v0 v7 v15 v23 v31 v39 v47 v55 v63 v71 v79 v87 v95 v103 v111 v119 v127 v135 v143 v151 v159 v167 v175 v183 v191 v199 v207 v215 v223 v231 v239 v247 k0_t1) a + S1x2048x1536.size a ≤ S8x2048x1536.size a), (Rect.unit (s := S8x2048x1536) (k0_off60 v0 v7 v15 v23 v31 v39 v47 v55 v63 v71 v79 v87 v95 v103 v111 v119 v127 v135 v143 v151 v159 v167 v175 v183 v191 v199 v207 v215 v223 v231 v239 v247 k0_t1) S1x2048x1536.size hinb).WholeWords (EltTy.packing .fp8e4m3)) ∧
  (∀ k0_t1 : Fin (k0_t1_loop v0 v7 v15 v23 v31 v39 v47 v55 v63 v71 v79 v87 v95 v103 v111 v119 v127 v135 v143 v151 v159 v167 v175 v183 v191 v199 v207 v215 v223 v231 v239 v247).trips, ∀ (k0_h9 : k0_cond9 v0 v7 v15 v23 v31 v39 v47 v55 v63 v71 v79 v87 v95 v103 v111 v119 v127 v135 v143 v151 v159 v167 v175 v183 v191 v199 v207 v215 v223 v231 v239 v247 k0_t1 = 1#1), ∀ a, (k0_off84 v0 v7 v15 v23 v31 v39 v47 v55 v63 v71 v79 v87 v95 v103 v111 v119 v127 v135 v143 v151 v159 v167 v175 v183 v191 v199 v207 v215 v223 v231 v239 v247 k0_t1) a + S1.size a ≤ S32.size a) ∧
  (∀ k0_t1 : Fin (k0_t1_loop v0 v7 v15 v23 v31 v39 v47 v55 v63 v71 v79 v87 v95 v103 v111 v119 v127 v135 v143 v151 v159 v167 v175 v183 v191 v199 v207 v215 v223 v231 v239 v247).trips, ∀ (k0_h9 : k0_cond9 v0 v7 v15 v23 v31 v39 v47 v55 v63 v71 v79 v87 v95 v103 v111 v119 v127 v135 v143 v151 v159 v167 v175 v183 v191 v199 v207 v215 v223 v231 v239 v247 k0_t1 = 1#1), ∀ a, (k0_off85 v0 v7 v15 v23 v31 v39 v47 v55 v63 v71 v79 v87 v95 v103 v111 v119 v127 v135 v143 v151 v159 v167 v175 v183 v191 v199 v207 v215 v223 v231 v239 v247 k0_t1) a + S1.size a ≤ S8.size a) ∧
  (∀ k0_t1 : Fin (k0_t1_loop v0 v7 v15 v23 v31 v39 v47 v55 v63 v71 v79 v87 v95 v103 v111 v119 v127 v135 v143 v151 v159 v167 v175 v183 v191 v199 v207 v215 v223 v231 v239 v247).trips, ∀ (k0_h9 : k0_cond9 v0 v7 v15 v23 v31 v39 v47 v55 v63 v71 v79 v87 v95 v103 v111 v119 v127 v135 v143 v151 v159 v167 v175 v183 v191 v199 v207 v215 v223 v231 v239 v247 k0_t1 = 1#1), ∀ a, (k0_off86 v0 v7 v15 v23 v31 v39 v47 v55 v63 v71 v79 v87 v95 v103 v111 v119 v127 v135 v143 v151 v159 v167 v175 v183 v191 v199 v207 v215 v223 v231 v239 v247 k0_t1) a + S1x2048x1536.size a ≤ S8x2048x1536.size a) ∧
  (∀ k0_t1 : Fin (k0_t1_loop v0 v7 v15 v23 v31 v39 v47 v55 v63 v71 v79 v87 v95 v103 v111 v119 v127 v135 v143 v151 v159 v167 v175 v183 v191 v199 v207 v215 v223 v231 v239 v247).trips, ∀ (k0_h9 : k0_cond9 v0 v7 v15 v23 v31 v39 v47 v55 v63 v71 v79 v87 v95 v103 v111 v119 v127 v135 v143 v151 v159 v167 v175 v183 v191 v199 v207 v215 v223 v231 v239 v247 k0_t1 = 1#1), ∀ (hinb : ∀ a, (k0_off86 v0 v7 v15 v23 v31 v39 v47 v55 v63 v71 v79 v87 v95 v103 v111 v119 v127 v135 v143 v151 v159 v167 v175 v183 v191 v199 v207 v215 v223 v231 v239 v247 k0_t1) a + S1x2048x1536.size a ≤ S8x2048x1536.size a), (Rect.unit (s := S8x2048x1536) (k0_off86 v0 v7 v15 v23 v31 v39 v47 v55 v63 v71 v79 v87 v95 v103 v111 v119 v127 v135 v143 v151 v159 v167 v175 v183 v191 v199 v207 v215 v223 v231 v239 v247 k0_t1) S1x2048x1536.size hinb).WholeWords (EltTy.packing .fp8e4m3)) ∧
  ((k0_t4_loop v0 v7 v15 v23 v31 v39 v47 v55 v63 v71 v79 v87 v95 v103 v111 v119 v127 v135 v143 v151 v159 v167 v175 v183 v191 v199 v207 v215 v223 v231 v239 v247).OK) ∧
  (∀ k0_t4 : Fin (k0_t4_loop v0 v7 v15 v23 v31 v39 v47 v55 v63 v71 v79 v87 v95 v103 v111 v119 v127 v135 v143 v151 v159 v167 v175 v183 v191 v199 v207 v215 v223 v231 v239 v247).trips, ∀ a, (k0_off88 v0 v7 v15 v23 v31 v39 v47 v55 v63 v71 v79 v87 v95 v103 v111 v119 v127 v135 v143 v151 v159 v167 v175 v183 v191 v199 v207 v215 v223 v231 v239 v247 k0_t4) a + S1.size a ≤ S32.size a) ∧
  (∀ k0_t4 : Fin (k0_t4_loop v0 v7 v15 v23 v31 v39 v47 v55 v63 v71 v79 v87 v95 v103 v111 v119 v127 v135 v143 v151 v159 v167 v175 v183 v191 v199 v207 v215 v223 v231 v239 v247).trips, ∀ a, (k0_off90 v0 v7 v15 v23 v31 v39 v47 v55 v63 v71 v79 v87 v95 v103 v111 v119 v127 v135 v143 v151 v159 v167 v175 v183 v191 v199 v207 v215 v223 v231 v239 v247 k0_t4) a + S1.size a ≤ S32.size a) ∧
  (∀ k0_t4 : Fin (k0_t4_loop v0 v7 v15 v23 v31 v39 v47 v55 v63 v71 v79 v87 v95 v103 v111 v119 v127 v135 v143 v151 v159 v167 v175 v183 v191 v199 v207 v215 v223 v231 v239 v247).trips, ∀ a, (k0_off91 v0 v7 v15 v23 v31 v39 v47 v55 v63 v71 v79 v87 v95 v103 v111 v119 v127 v135 v143 v151 v159 v167 v175 v183 v191 v199 v207 v215 v223 v231 v239 v247 k0_t4) a + S1.size a ≤ S8.size a) ∧
  (∀ k0_t4 : Fin (k0_t4_loop v0 v7 v15 v23 v31 v39 v47 v55 v63 v71 v79 v87 v95 v103 v111 v119 v127 v135 v143 v151 v159 v167 v175 v183 v191 v199 v207 v215 v223 v231 v239 v247).trips, ∀ a, (k0_off92 v0 v7 v15 v23 v31 v39 v47 v55 v63 v71 v79 v87 v95 v103 v111 v119 v127 v135 v143 v151 v159 v167 v175 v183 v191 v199 v207 v215 v223 v231 v239 v247 k0_t4) a + S1x2048x1536.size a ≤ S8x2048x1536.size a) ∧
  (∀ k0_t4 : Fin (k0_t4_loop v0 v7 v15 v23 v31 v39 v47 v55 v63 v71 v79 v87 v95 v103 v111 v119 v127 v135 v143 v151 v159 v167 v175 v183 v191 v199 v207 v215 v223 v231 v239 v247).trips, ∀ (hinb : ∀ a, (k0_off92 v0 v7 v15 v23 v31 v39 v47 v55 v63 v71 v79 v87 v95 v103 v111 v119 v127 v135 v143 v151 v159 v167 v175 v183 v191 v199 v207 v215 v223 v231 v239 v247 k0_t4) a + S1x2048x1536.size a ≤ S8x2048x1536.size a), (Rect.unit (s := S8x2048x1536) (k0_off92 v0 v7 v15 v23 v31 v39 v47 v55 v63 v71 v79 v87 v95 v103 v111 v119 v127 v135 v143 v151 v159 v167 v175 v183 v191 v199 v207 v215 v223 v231 v239 v247 k0_t4) S1x2048x1536.size hinb).WholeWords (EltTy.packing .fp8e4m3)) ∧
  (∀ k0_t4 : Fin (k0_t4_loop v0 v7 v15 v23 v31 v39 v47 v55 v63 v71 v79 v87 v95 v103 v111 v119 v127 v135 v143 v151 v159 v167 v175 v183 v191 v199 v207 v215 v223 v231 v239 v247).trips, ∀ (k0_h10 : k0_cond10 v0 v7 v15 v23 v31 v39 v47 v55 v63 v71 v79 v87 v95 v103 v111 v119 v127 v135 v143 v151 v159 v167 v175 v183 v191 v199 v207 v215 v223 v231 v239 v247 k0_t4 = 1#1), ∀ a, (k0_off116 v0 v7 v15 v23 v31 v39 v47 v55 v63 v71 v79 v87 v95 v103 v111 v119 v127 v135 v143 v151 v159 v167 v175 v183 v191 v199 v207 v215 v223 v231 v239 v247 k0_t4) a + S1.size a ≤ S32.size a) ∧
  (∀ k0_t4 : Fin (k0_t4_loop v0 v7 v15 v23 v31 v39 v47 v55 v63 v71 v79 v87 v95 v103 v111 v119 v127 v135 v143 v151 v159 v167 v175 v183 v191 v199 v207 v215 v223 v231 v239 v247).trips, ∀ (k0_h10 : k0_cond10 v0 v7 v15 v23 v31 v39 v47 v55 v63 v71 v79 v87 v95 v103 v111 v119 v127 v135 v143 v151 v159 v167 v175 v183 v191 v199 v207 v215 v223 v231 v239 v247 k0_t4 = 1#1), ∀ a, (k0_off117 v0 v7 v15 v23 v31 v39 v47 v55 v63 v71 v79 v87 v95 v103 v111 v119 v127 v135 v143 v151 v159 v167 v175 v183 v191 v199 v207 v215 v223 v231 v239 v247 k0_t4) a + S1.size a ≤ S8.size a) ∧
  (∀ k0_t4 : Fin (k0_t4_loop v0 v7 v15 v23 v31 v39 v47 v55 v63 v71 v79 v87 v95 v103 v111 v119 v127 v135 v143 v151 v159 v167 v175 v183 v191 v199 v207 v215 v223 v231 v239 v247).trips, ∀ (k0_h10 : k0_cond10 v0 v7 v15 v23 v31 v39 v47 v55 v63 v71 v79 v87 v95 v103 v111 v119 v127 v135 v143 v151 v159 v167 v175 v183 v191 v199 v207 v215 v223 v231 v239 v247 k0_t4 = 1#1), ∀ a, (k0_off118 v0 v7 v15 v23 v31 v39 v47 v55 v63 v71 v79 v87 v95 v103 v111 v119 v127 v135 v143 v151 v159 v167 v175 v183 v191 v199 v207 v215 v223 v231 v239 v247 k0_t4) a + S1x2048x1536.size a ≤ S8x2048x1536.size a) ∧
  (∀ k0_t4 : Fin (k0_t4_loop v0 v7 v15 v23 v31 v39 v47 v55 v63 v71 v79 v87 v95 v103 v111 v119 v127 v135 v143 v151 v159 v167 v175 v183 v191 v199 v207 v215 v223 v231 v239 v247).trips, ∀ (k0_h10 : k0_cond10 v0 v7 v15 v23 v31 v39 v47 v55 v63 v71 v79 v87 v95 v103 v111 v119 v127 v135 v143 v151 v159 v167 v175 v183 v191 v199 v207 v215 v223 v231 v239 v247 k0_t4 = 1#1), ∀ (hinb : ∀ a, (k0_off118 v0 v7 v15 v23 v31 v39 v47 v55 v63 v71 v79 v87 v95 v103 v111 v119 v127 v135 v143 v151 v159 v167 v175 v183 v191 v199 v207 v215 v223 v231 v239 v247 k0_t4) a + S1x2048x1536.size a ≤ S8x2048x1536.size a), (Rect.unit (s := S8x2048x1536) (k0_off118 v0 v7 v15 v23 v31 v39 v47 v55 v63 v71 v79 v87 v95 v103 v111 v119 v127 v135 v143 v151 v159 v167 v175 v183 v191 v199 v207 v215 v223 v231 v239 v247 k0_t4) S1x2048x1536.size hinb).WholeWords (EltTy.packing .fp8e4m3))
theorem k0_t1_ok : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_hw40 : k0_chk40 v0 v7 v15 v23 v31 v39 v47 v55 v63 v71 v79 v87 v95 v103 v111 v119 v127 v135 v143 v151 v159 v167 v175 v183 v191 v199 v207 v215 v223 v231 v239 v247), (k0_t1_loop v0 v7 v15 v23 v31 v39 v47 v55 v63 v71 v79 v87 v95 v103 v111 v119 v127 v135 v143 v151 v159 v167 v175 v183 v191 v199 v207 v215 v223 v231 v239 v247).OK := fun v0 v7 v15 v23 v31 v39 v47 v55 v63 v71 v79 v87 v95 v103 v111 v119 v127 v135 v143 v151 v159 v167 v175 v183 v191 v199 v207 v215 v223 v231 v239 v247 k0_hw40 => k0_hw40.1
theorem k0_off56_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_hw40 : k0_chk40 v0 v7 v15 v23 v31 v39 v47 v55 v63 v71 v79 v87 v95 v103 v111 v119 v127 v135 v143 v151 v159 v167 v175 v183 v191 v199 v207 v215 v223 v231 v239 v247) (k0_t1 : Fin (k0_t1_loop v0 v7 v15 v23 v31 v39 v47 v55 v63 v71 v79 v87 v95 v103 v111 v119 v127 v135 v143 v151 v159 v167 v175 v183 v191 v199 v207 v215 v223 v231 v239 v247).trips), ∀ a, (k0_off56 v0 v7 v15 v23 v31 v39 v47 v55 v63 v71 v79 v87 v95 v103 v111 v119 v127 v135 v143 v151 v159 v167 v175 v183 v191 v199 v207 v215 v223 v231 v239 v247 k0_t1) a + S1.size a ≤ S32.size a := fun v0 v7 v15 v23 v31 v39 v47 v55 v63 v71 v79 v87 v95 v103 v111 v119 v127 v135 v143 v151 v159 v167 v175 v183 v191 v199 v207 v215 v223 v231 v239 v247 k0_hw40 k0_t1 => k0_hw40.2.1 k0_t1
theorem k0_off58_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_hw40 : k0_chk40 v0 v7 v15 v23 v31 v39 v47 v55 v63 v71 v79 v87 v95 v103 v111 v119 v127 v135 v143 v151 v159 v167 v175 v183 v191 v199 v207 v215 v223 v231 v239 v247) (k0_t1 : Fin (k0_t1_loop v0 v7 v15 v23 v31 v39 v47 v55 v63 v71 v79 v87 v95 v103 v111 v119 v127 v135 v143 v151 v159 v167 v175 v183 v191 v199 v207 v215 v223 v231 v239 v247).trips), ∀ a, (k0_off58 v0 v7 v15 v23 v31 v39 v47 v55 v63 v71 v79 v87 v95 v103 v111 v119 v127 v135 v143 v151 v159 v167 v175 v183 v191 v199 v207 v215 v223 v231 v239 v247 k0_t1) a + S1.size a ≤ S32.size a := fun v0 v7 v15 v23 v31 v39 v47 v55 v63 v71 v79 v87 v95 v103 v111 v119 v127 v135 v143 v151 v159 v167 v175 v183 v191 v199 v207 v215 v223 v231 v239 v247 k0_hw40 k0_t1 => k0_hw40.2.2.1 k0_t1
theorem k0_off59_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_hw40 : k0_chk40 v0 v7 v15 v23 v31 v39 v47 v55 v63 v71 v79 v87 v95 v103 v111 v119 v127 v135 v143 v151 v159 v167 v175 v183 v191 v199 v207 v215 v223 v231 v239 v247) (k0_t1 : Fin (k0_t1_loop v0 v7 v15 v23 v31 v39 v47 v55 v63 v71 v79 v87 v95 v103 v111 v119 v127 v135 v143 v151 v159 v167 v175 v183 v191 v199 v207 v215 v223 v231 v239 v247).trips), ∀ a, (k0_off59 v0 v7 v15 v23 v31 v39 v47 v55 v63 v71 v79 v87 v95 v103 v111 v119 v127 v135 v143 v151 v159 v167 v175 v183 v191 v199 v207 v215 v223 v231 v239 v247 k0_t1) a + S1.size a ≤ S8.size a := fun v0 v7 v15 v23 v31 v39 v47 v55 v63 v71 v79 v87 v95 v103 v111 v119 v127 v135 v143 v151 v159 v167 v175 v183 v191 v199 v207 v215 v223 v231 v239 v247 k0_hw40 k0_t1 => k0_hw40.2.2.2.1 k0_t1
theorem k0_off60_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_hw40 : k0_chk40 v0 v7 v15 v23 v31 v39 v47 v55 v63 v71 v79 v87 v95 v103 v111 v119 v127 v135 v143 v151 v159 v167 v175 v183 v191 v199 v207 v215 v223 v231 v239 v247) (k0_t1 : Fin (k0_t1_loop v0 v7 v15 v23 v31 v39 v47 v55 v63 v71 v79 v87 v95 v103 v111 v119 v127 v135 v143 v151 v159 v167 v175 v183 v191 v199 v207 v215 v223 v231 v239 v247).trips), ∀ a, (k0_off60 v0 v7 v15 v23 v31 v39 v47 v55 v63 v71 v79 v87 v95 v103 v111 v119 v127 v135 v143 v151 v159 v167 v175 v183 v191 v199 v207 v215 v223 v231 v239 v247 k0_t1) a + S1x2048x1536.size a ≤ S8x2048x1536.size a := fun v0 v7 v15 v23 v31 v39 v47 v55 v63 v71 v79 v87 v95 v103 v111 v119 v127 v135 v143 v151 v159 v167 v175 v183 v191 v199 v207 v215 v223 v231 v239 v247 k0_hw40 k0_t1 => k0_hw40.2.2.2.2.1 k0_t1
theorem k0_off60_wordsfp8e4m3 : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_hw40 : k0_chk40 v0 v7 v15 v23 v31 v39 v47 v55 v63 v71 v79 v87 v95 v103 v111 v119 v127 v135 v143 v151 v159 v167 v175 v183 v191 v199 v207 v215 v223 v231 v239 v247) (k0_t1 : Fin (k0_t1_loop v0 v7 v15 v23 v31 v39 v47 v55 v63 v71 v79 v87 v95 v103 v111 v119 v127 v135 v143 v151 v159 v167 v175 v183 v191 v199 v207 v215 v223 v231 v239 v247).trips), (Rect.unit (s := S8x2048x1536) (k0_off60 v0 v7 v15 v23 v31 v39 v47 v55 v63 v71 v79 v87 v95 v103 v111 v119 v127 v135 v143 v151 v159 v167 v175 v183 v191 v199 v207 v215 v223 v231 v239 v247 k0_t1) S1x2048x1536.size (k0_off60_inb v0 v7 v15 v23 v31 v39 v47 v55 v63 v71 v79 v87 v95 v103 v111 v119 v127 v135 v143 v151 v159 v167 v175 v183 v191 v199 v207 v215 v223 v231 v239 v247 k0_hw40 k0_t1)).WholeWords (EltTy.packing .fp8e4m3) := fun v0 v7 v15 v23 v31 v39 v47 v55 v63 v71 v79 v87 v95 v103 v111 v119 v127 v135 v143 v151 v159 v167 v175 v183 v191 v199 v207 v215 v223 v231 v239 v247 k0_hw40 k0_t1 => k0_hw40.2.2.2.2.2.1 k0_t1 (k0_off60_inb v0 v7 v15 v23 v31 v39 v47 v55 v63 v71 v79 v87 v95 v103 v111 v119 v127 v135 v143 v151 v159 v167 v175 v183 v191 v199 v207 v215 v223 v231 v239 v247 k0_hw40 k0_t1)
theorem k0_off84_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_hw40 : k0_chk40 v0 v7 v15 v23 v31 v39 v47 v55 v63 v71 v79 v87 v95 v103 v111 v119 v127 v135 v143 v151 v159 v167 v175 v183 v191 v199 v207 v215 v223 v231 v239 v247) (k0_t1 : Fin (k0_t1_loop v0 v7 v15 v23 v31 v39 v47 v55 v63 v71 v79 v87 v95 v103 v111 v119 v127 v135 v143 v151 v159 v167 v175 v183 v191 v199 v207 v215 v223 v231 v239 v247).trips), ∀ (k0_h9 : k0_cond9 v0 v7 v15 v23 v31 v39 v47 v55 v63 v71 v79 v87 v95 v103 v111 v119 v127 v135 v143 v151 v159 v167 v175 v183 v191 v199 v207 v215 v223 v231 v239 v247 k0_t1 = 1#1), ∀ a, (k0_off84 v0 v7 v15 v23 v31 v39 v47 v55 v63 v71 v79 v87 v95 v103 v111 v119 v127 v135 v143 v151 v159 v167 v175 v183 v191 v199 v207 v215 v223 v231 v239 v247 k0_t1) a + S1.size a ≤ S32.size a := fun v0 v7 v15 v23 v31 v39 v47 v55 v63 v71 v79 v87 v95 v103 v111 v119 v127 v135 v143 v151 v159 v167 v175 v183 v191 v199 v207 v215 v223 v231 v239 v247 k0_hw40 k0_t1 k0_h9 => k0_hw40.2.2.2.2.2.2.1 k0_t1 k0_h9
theorem k0_off85_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_hw40 : k0_chk40 v0 v7 v15 v23 v31 v39 v47 v55 v63 v71 v79 v87 v95 v103 v111 v119 v127 v135 v143 v151 v159 v167 v175 v183 v191 v199 v207 v215 v223 v231 v239 v247) (k0_t1 : Fin (k0_t1_loop v0 v7 v15 v23 v31 v39 v47 v55 v63 v71 v79 v87 v95 v103 v111 v119 v127 v135 v143 v151 v159 v167 v175 v183 v191 v199 v207 v215 v223 v231 v239 v247).trips), ∀ (k0_h9 : k0_cond9 v0 v7 v15 v23 v31 v39 v47 v55 v63 v71 v79 v87 v95 v103 v111 v119 v127 v135 v143 v151 v159 v167 v175 v183 v191 v199 v207 v215 v223 v231 v239 v247 k0_t1 = 1#1), ∀ a, (k0_off85 v0 v7 v15 v23 v31 v39 v47 v55 v63 v71 v79 v87 v95 v103 v111 v119 v127 v135 v143 v151 v159 v167 v175 v183 v191 v199 v207 v215 v223 v231 v239 v247 k0_t1) a + S1.size a ≤ S8.size a := fun v0 v7 v15 v23 v31 v39 v47 v55 v63 v71 v79 v87 v95 v103 v111 v119 v127 v135 v143 v151 v159 v167 v175 v183 v191 v199 v207 v215 v223 v231 v239 v247 k0_hw40 k0_t1 k0_h9 => k0_hw40.2.2.2.2.2.2.2.1 k0_t1 k0_h9
theorem k0_off86_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_hw40 : k0_chk40 v0 v7 v15 v23 v31 v39 v47 v55 v63 v71 v79 v87 v95 v103 v111 v119 v127 v135 v143 v151 v159 v167 v175 v183 v191 v199 v207 v215 v223 v231 v239 v247) (k0_t1 : Fin (k0_t1_loop v0 v7 v15 v23 v31 v39 v47 v55 v63 v71 v79 v87 v95 v103 v111 v119 v127 v135 v143 v151 v159 v167 v175 v183 v191 v199 v207 v215 v223 v231 v239 v247).trips), ∀ (k0_h9 : k0_cond9 v0 v7 v15 v23 v31 v39 v47 v55 v63 v71 v79 v87 v95 v103 v111 v119 v127 v135 v143 v151 v159 v167 v175 v183 v191 v199 v207 v215 v223 v231 v239 v247 k0_t1 = 1#1), ∀ a, (k0_off86 v0 v7 v15 v23 v31 v39 v47 v55 v63 v71 v79 v87 v95 v103 v111 v119 v127 v135 v143 v151 v159 v167 v175 v183 v191 v199 v207 v215 v223 v231 v239 v247 k0_t1) a + S1x2048x1536.size a ≤ S8x2048x1536.size a := fun v0 v7 v15 v23 v31 v39 v47 v55 v63 v71 v79 v87 v95 v103 v111 v119 v127 v135 v143 v151 v159 v167 v175 v183 v191 v199 v207 v215 v223 v231 v239 v247 k0_hw40 k0_t1 k0_h9 => k0_hw40.2.2.2.2.2.2.2.2.1 k0_t1 k0_h9
theorem k0_off86_wordsfp8e4m3 : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_hw40 : k0_chk40 v0 v7 v15 v23 v31 v39 v47 v55 v63 v71 v79 v87 v95 v103 v111 v119 v127 v135 v143 v151 v159 v167 v175 v183 v191 v199 v207 v215 v223 v231 v239 v247) (k0_t1 : Fin (k0_t1_loop v0 v7 v15 v23 v31 v39 v47 v55 v63 v71 v79 v87 v95 v103 v111 v119 v127 v135 v143 v151 v159 v167 v175 v183 v191 v199 v207 v215 v223 v231 v239 v247).trips), ∀ (k0_h9 : k0_cond9 v0 v7 v15 v23 v31 v39 v47 v55 v63 v71 v79 v87 v95 v103 v111 v119 v127 v135 v143 v151 v159 v167 v175 v183 v191 v199 v207 v215 v223 v231 v239 v247 k0_t1 = 1#1), (Rect.unit (s := S8x2048x1536) (k0_off86 v0 v7 v15 v23 v31 v39 v47 v55 v63 v71 v79 v87 v95 v103 v111 v119 v127 v135 v143 v151 v159 v167 v175 v183 v191 v199 v207 v215 v223 v231 v239 v247 k0_t1) S1x2048x1536.size (k0_off86_inb v0 v7 v15 v23 v31 v39 v47 v55 v63 v71 v79 v87 v95 v103 v111 v119 v127 v135 v143 v151 v159 v167 v175 v183 v191 v199 v207 v215 v223 v231 v239 v247 k0_hw40 k0_t1 k0_h9)).WholeWords (EltTy.packing .fp8e4m3) := fun v0 v7 v15 v23 v31 v39 v47 v55 v63 v71 v79 v87 v95 v103 v111 v119 v127 v135 v143 v151 v159 v167 v175 v183 v191 v199 v207 v215 v223 v231 v239 v247 k0_hw40 k0_t1 k0_h9 => k0_hw40.2.2.2.2.2.2.2.2.2.1 k0_t1 k0_h9 (k0_off86_inb v0 v7 v15 v23 v31 v39 v47 v55 v63 v71 v79 v87 v95 v103 v111 v119 v127 v135 v143 v151 v159 v167 v175 v183 v191 v199 v207 v215 v223 v231 v239 v247 k0_hw40 k0_t1 k0_h9)
theorem k0_t4_ok : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_hw40 : k0_chk40 v0 v7 v15 v23 v31 v39 v47 v55 v63 v71 v79 v87 v95 v103 v111 v119 v127 v135 v143 v151 v159 v167 v175 v183 v191 v199 v207 v215 v223 v231 v239 v247), (k0_t4_loop v0 v7 v15 v23 v31 v39 v47 v55 v63 v71 v79 v87 v95 v103 v111 v119 v127 v135 v143 v151 v159 v167 v175 v183 v191 v199 v207 v215 v223 v231 v239 v247).OK := fun v0 v7 v15 v23 v31 v39 v47 v55 v63 v71 v79 v87 v95 v103 v111 v119 v127 v135 v143 v151 v159 v167 v175 v183 v191 v199 v207 v215 v223 v231 v239 v247 k0_hw40 => k0_hw40.2.2.2.2.2.2.2.2.2.2.1
theorem k0_off88_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_hw40 : k0_chk40 v0 v7 v15 v23 v31 v39 v47 v55 v63 v71 v79 v87 v95 v103 v111 v119 v127 v135 v143 v151 v159 v167 v175 v183 v191 v199 v207 v215 v223 v231 v239 v247) (k0_t4 : Fin (k0_t4_loop v0 v7 v15 v23 v31 v39 v47 v55 v63 v71 v79 v87 v95 v103 v111 v119 v127 v135 v143 v151 v159 v167 v175 v183 v191 v199 v207 v215 v223 v231 v239 v247).trips), ∀ a, (k0_off88 v0 v7 v15 v23 v31 v39 v47 v55 v63 v71 v79 v87 v95 v103 v111 v119 v127 v135 v143 v151 v159 v167 v175 v183 v191 v199 v207 v215 v223 v231 v239 v247 k0_t4) a + S1.size a ≤ S32.size a := fun v0 v7 v15 v23 v31 v39 v47 v55 v63 v71 v79 v87 v95 v103 v111 v119 v127 v135 v143 v151 v159 v167 v175 v183 v191 v199 v207 v215 v223 v231 v239 v247 k0_hw40 k0_t4 => k0_hw40.2.2.2.2.2.2.2.2.2.2.2.1 k0_t4
theorem k0_off90_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_hw40 : k0_chk40 v0 v7 v15 v23 v31 v39 v47 v55 v63 v71 v79 v87 v95 v103 v111 v119 v127 v135 v143 v151 v159 v167 v175 v183 v191 v199 v207 v215 v223 v231 v239 v247) (k0_t4 : Fin (k0_t4_loop v0 v7 v15 v23 v31 v39 v47 v55 v63 v71 v79 v87 v95 v103 v111 v119 v127 v135 v143 v151 v159 v167 v175 v183 v191 v199 v207 v215 v223 v231 v239 v247).trips), ∀ a, (k0_off90 v0 v7 v15 v23 v31 v39 v47 v55 v63 v71 v79 v87 v95 v103 v111 v119 v127 v135 v143 v151 v159 v167 v175 v183 v191 v199 v207 v215 v223 v231 v239 v247 k0_t4) a + S1.size a ≤ S32.size a := fun v0 v7 v15 v23 v31 v39 v47 v55 v63 v71 v79 v87 v95 v103 v111 v119 v127 v135 v143 v151 v159 v167 v175 v183 v191 v199 v207 v215 v223 v231 v239 v247 k0_hw40 k0_t4 => k0_hw40.2.2.2.2.2.2.2.2.2.2.2.2.1 k0_t4
theorem k0_off91_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_hw40 : k0_chk40 v0 v7 v15 v23 v31 v39 v47 v55 v63 v71 v79 v87 v95 v103 v111 v119 v127 v135 v143 v151 v159 v167 v175 v183 v191 v199 v207 v215 v223 v231 v239 v247) (k0_t4 : Fin (k0_t4_loop v0 v7 v15 v23 v31 v39 v47 v55 v63 v71 v79 v87 v95 v103 v111 v119 v127 v135 v143 v151 v159 v167 v175 v183 v191 v199 v207 v215 v223 v231 v239 v247).trips), ∀ a, (k0_off91 v0 v7 v15 v23 v31 v39 v47 v55 v63 v71 v79 v87 v95 v103 v111 v119 v127 v135 v143 v151 v159 v167 v175 v183 v191 v199 v207 v215 v223 v231 v239 v247 k0_t4) a + S1.size a ≤ S8.size a := fun v0 v7 v15 v23 v31 v39 v47 v55 v63 v71 v79 v87 v95 v103 v111 v119 v127 v135 v143 v151 v159 v167 v175 v183 v191 v199 v207 v215 v223 v231 v239 v247 k0_hw40 k0_t4 => k0_hw40.2.2.2.2.2.2.2.2.2.2.2.2.2.1 k0_t4
theorem k0_off92_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_hw40 : k0_chk40 v0 v7 v15 v23 v31 v39 v47 v55 v63 v71 v79 v87 v95 v103 v111 v119 v127 v135 v143 v151 v159 v167 v175 v183 v191 v199 v207 v215 v223 v231 v239 v247) (k0_t4 : Fin (k0_t4_loop v0 v7 v15 v23 v31 v39 v47 v55 v63 v71 v79 v87 v95 v103 v111 v119 v127 v135 v143 v151 v159 v167 v175 v183 v191 v199 v207 v215 v223 v231 v239 v247).trips), ∀ a, (k0_off92 v0 v7 v15 v23 v31 v39 v47 v55 v63 v71 v79 v87 v95 v103 v111 v119 v127 v135 v143 v151 v159 v167 v175 v183 v191 v199 v207 v215 v223 v231 v239 v247 k0_t4) a + S1x2048x1536.size a ≤ S8x2048x1536.size a := fun v0 v7 v15 v23 v31 v39 v47 v55 v63 v71 v79 v87 v95 v103 v111 v119 v127 v135 v143 v151 v159 v167 v175 v183 v191 v199 v207 v215 v223 v231 v239 v247 k0_hw40 k0_t4 => k0_hw40.2.2.2.2.2.2.2.2.2.2.2.2.2.2.1 k0_t4
theorem k0_off92_wordsfp8e4m3 : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_hw40 : k0_chk40 v0 v7 v15 v23 v31 v39 v47 v55 v63 v71 v79 v87 v95 v103 v111 v119 v127 v135 v143 v151 v159 v167 v175 v183 v191 v199 v207 v215 v223 v231 v239 v247) (k0_t4 : Fin (k0_t4_loop v0 v7 v15 v23 v31 v39 v47 v55 v63 v71 v79 v87 v95 v103 v111 v119 v127 v135 v143 v151 v159 v167 v175 v183 v191 v199 v207 v215 v223 v231 v239 v247).trips), (Rect.unit (s := S8x2048x1536) (k0_off92 v0 v7 v15 v23 v31 v39 v47 v55 v63 v71 v79 v87 v95 v103 v111 v119 v127 v135 v143 v151 v159 v167 v175 v183 v191 v199 v207 v215 v223 v231 v239 v247 k0_t4) S1x2048x1536.size (k0_off92_inb v0 v7 v15 v23 v31 v39 v47 v55 v63 v71 v79 v87 v95 v103 v111 v119 v127 v135 v143 v151 v159 v167 v175 v183 v191 v199 v207 v215 v223 v231 v239 v247 k0_hw40 k0_t4)).WholeWords (EltTy.packing .fp8e4m3) := fun v0 v7 v15 v23 v31 v39 v47 v55 v63 v71 v79 v87 v95 v103 v111 v119 v127 v135 v143 v151 v159 v167 v175 v183 v191 v199 v207 v215 v223 v231 v239 v247 k0_hw40 k0_t4 => k0_hw40.2.2.2.2.2.2.2.2.2.2.2.2.2.2.2.1 k0_t4 (k0_off92_inb v0 v7 v15 v23 v31 v39 v47 v55 v63 v71 v79 v87 v95 v103 v111 v119 v127 v135 v143 v151 v159 v167 v175 v183 v191 v199 v207 v215 v223 v231 v239 v247 k0_hw40 k0_t4)
theorem k0_off116_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_hw40 : k0_chk40 v0 v7 v15 v23 v31 v39 v47 v55 v63 v71 v79 v87 v95 v103 v111 v119 v127 v135 v143 v151 v159 v167 v175 v183 v191 v199 v207 v215 v223 v231 v239 v247) (k0_t4 : Fin (k0_t4_loop v0 v7 v15 v23 v31 v39 v47 v55 v63 v71 v79 v87 v95 v103 v111 v119 v127 v135 v143 v151 v159 v167 v175 v183 v191 v199 v207 v215 v223 v231 v239 v247).trips), ∀ (k0_h10 : k0_cond10 v0 v7 v15 v23 v31 v39 v47 v55 v63 v71 v79 v87 v95 v103 v111 v119 v127 v135 v143 v151 v159 v167 v175 v183 v191 v199 v207 v215 v223 v231 v239 v247 k0_t4 = 1#1), ∀ a, (k0_off116 v0 v7 v15 v23 v31 v39 v47 v55 v63 v71 v79 v87 v95 v103 v111 v119 v127 v135 v143 v151 v159 v167 v175 v183 v191 v199 v207 v215 v223 v231 v239 v247 k0_t4) a + S1.size a ≤ S32.size a := fun v0 v7 v15 v23 v31 v39 v47 v55 v63 v71 v79 v87 v95 v103 v111 v119 v127 v135 v143 v151 v159 v167 v175 v183 v191 v199 v207 v215 v223 v231 v239 v247 k0_hw40 k0_t4 k0_h10 => k0_hw40.2.2.2.2.2.2.2.2.2.2.2.2.2.2.2.2.1 k0_t4 k0_h10
theorem k0_off117_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_hw40 : k0_chk40 v0 v7 v15 v23 v31 v39 v47 v55 v63 v71 v79 v87 v95 v103 v111 v119 v127 v135 v143 v151 v159 v167 v175 v183 v191 v199 v207 v215 v223 v231 v239 v247) (k0_t4 : Fin (k0_t4_loop v0 v7 v15 v23 v31 v39 v47 v55 v63 v71 v79 v87 v95 v103 v111 v119 v127 v135 v143 v151 v159 v167 v175 v183 v191 v199 v207 v215 v223 v231 v239 v247).trips), ∀ (k0_h10 : k0_cond10 v0 v7 v15 v23 v31 v39 v47 v55 v63 v71 v79 v87 v95 v103 v111 v119 v127 v135 v143 v151 v159 v167 v175 v183 v191 v199 v207 v215 v223 v231 v239 v247 k0_t4 = 1#1), ∀ a, (k0_off117 v0 v7 v15 v23 v31 v39 v47 v55 v63 v71 v79 v87 v95 v103 v111 v119 v127 v135 v143 v151 v159 v167 v175 v183 v191 v199 v207 v215 v223 v231 v239 v247 k0_t4) a + S1.size a ≤ S8.size a := fun v0 v7 v15 v23 v31 v39 v47 v55 v63 v71 v79 v87 v95 v103 v111 v119 v127 v135 v143 v151 v159 v167 v175 v183 v191 v199 v207 v215 v223 v231 v239 v247 k0_hw40 k0_t4 k0_h10 => k0_hw40.2.2.2.2.2.2.2.2.2.2.2.2.2.2.2.2.2.1 k0_t4 k0_h10
theorem k0_off118_inb : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_hw40 : k0_chk40 v0 v7 v15 v23 v31 v39 v47 v55 v63 v71 v79 v87 v95 v103 v111 v119 v127 v135 v143 v151 v159 v167 v175 v183 v191 v199 v207 v215 v223 v231 v239 v247) (k0_t4 : Fin (k0_t4_loop v0 v7 v15 v23 v31 v39 v47 v55 v63 v71 v79 v87 v95 v103 v111 v119 v127 v135 v143 v151 v159 v167 v175 v183 v191 v199 v207 v215 v223 v231 v239 v247).trips), ∀ (k0_h10 : k0_cond10 v0 v7 v15 v23 v31 v39 v47 v55 v63 v71 v79 v87 v95 v103 v111 v119 v127 v135 v143 v151 v159 v167 v175 v183 v191 v199 v207 v215 v223 v231 v239 v247 k0_t4 = 1#1), ∀ a, (k0_off118 v0 v7 v15 v23 v31 v39 v47 v55 v63 v71 v79 v87 v95 v103 v111 v119 v127 v135 v143 v151 v159 v167 v175 v183 v191 v199 v207 v215 v223 v231 v239 v247 k0_t4) a + S1x2048x1536.size a ≤ S8x2048x1536.size a := fun v0 v7 v15 v23 v31 v39 v47 v55 v63 v71 v79 v87 v95 v103 v111 v119 v127 v135 v143 v151 v159 v167 v175 v183 v191 v199 v207 v215 v223 v231 v239 v247 k0_hw40 k0_t4 k0_h10 => k0_hw40.2.2.2.2.2.2.2.2.2.2.2.2.2.2.2.2.2.2.1 k0_t4 k0_h10
theorem k0_off118_wordsfp8e4m3 : ∀ (v0 : BitVec 32) (v7 : BitVec 32) (v15 : BitVec 32) (v23 : BitVec 32) (v31 : BitVec 32) (v39 : BitVec 32) (v47 : BitVec 32) (v55 : BitVec 32) (v63 : BitVec 32) (v71 : BitVec 32) (v79 : BitVec 32) (v87 : BitVec 32) (v95 : BitVec 32) (v103 : BitVec 32) (v111 : BitVec 32) (v119 : BitVec 32) (v127 : BitVec 32) (v135 : BitVec 32) (v143 : BitVec 32) (v151 : BitVec 32) (v159 : BitVec 32) (v167 : BitVec 32) (v175 : BitVec 32) (v183 : BitVec 32) (v191 : BitVec 32) (v199 : BitVec 32) (v207 : BitVec 32) (v215 : BitVec 32) (v223 : BitVec 32) (v231 : BitVec 32) (v239 : BitVec 32) (v247 : BitVec 32) (k0_hw40 : k0_chk40 v0 v7 v15 v23 v31 v39 v47 v55 v63 v71 v79 v87 v95 v103 v111 v119 v127 v135 v143 v151 v159 v167 v175 v183 v191 v199 v207 v215 v223 v231 v239 v247) (k0_t4 : Fin (k0_t4_loop v0 v7 v15 v23 v31 v39 v47 v55 v63 v71 v79 v87 v95 v103 v111 v119 v127 v135 v143 v151 v159 v167 v175 v183 v191 v199 v207 v215 v223 v231 v239 v247).trips), ∀ (k0_h10 : k0_cond10 v0 v7 v15 v23 v31 v39 v47 v55 v63 v71 v79 v87 v95 v103 v111 v119 v127 v135 v143 v151 v159 v167 v175 v183 v191 v199 v207 v215 v223 v231 v239 v247 k0_t4 = 1#1), (Rect.unit (s := S8x2048x1536) (k0_off118 v0 v7 v15 v23 v31 v39 v47 v55 v63 v71 v79 v87 v95 v103 v111 v119 v127 v135 v143 v151 v159 v167 v175 v183 v191 v199 v207 v215 v223 v231 v239 v247 k0_t4) S1x2048x1536.size (k0_off118_inb v0 v7 v15 v23 v31 v39 v47 v55 v63 v71 v79 v87 v95 v103 v111 v119 v127 v135 v143 v151 v159 v167 v175 v183 v191 v199 v207 v215 v223 v231 v239 v247 k0_hw40 k0_t4 k0_h10)).WholeWords (EltTy.packing .fp8e4m3) := fun v0 v7 v15 v23 v31 v39 v47 v55 v63 v71 v79 v87 v95 v103 v111 v119 v127 v135 v143 v151 v159 v167 v175 v183 v191 v199 v207 v215 v223 v231 v239 v247 k0_hw40 k0_t4 k0_h10 => k0_hw40.2.2.2.2.2.2.2.2.2.2.2.2.2.2.2.2.2.2.2 k0_t4 k0_h10 (k0_off118_inb v0 v7 v15 v23 v31 v39 v47 v55 v63 v71 v79 v87 v95 v103 v111 v119 v127 v135 v143 v151 v159 v167 v175 v183 v191 v199 v207 v215 v223 v231 v239 v247 k0_hw40 k0_t4 k0_h10)

abbrev stage0_0 : Fin 1 → Memref sig .tc .vmem S768x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S768x2048 : Shape := ⟨2, ![768, 2048]⟩
abbrev S768x1 : Shape := ⟨2, ![768, 1]⟩
abbrev S32 : Shape := ⟨1, ![32]⟩
abbrev S32x2048x1536 : Shape := ⟨3, ![32, 2048, 1536]⟩
abbrev S32x1536 : Shape := ⟨2, ![32, 1536]⟩
abbrev S768x1536 : Shape := ⟨2, ![768, 1536]⟩
abbrev S1 : Shape := ⟨1, ![1]⟩
abbrev S1x2048x1536 : Shape := ⟨3, ![1, 2048, 1536]⟩
abbrev S2048x1536 : Shape := ⟨2, ![2048, 1536]⟩
abbrev S1x1536 : Shape := ⟨2, ![1, 1536]⟩

abbrev nBuf : Space → Nat
  | .hbm => 6
  | .vmem => 5
  | .smem => 1
  | _ => 0

abbrev bufTy : (tb : Table) → Fin (tcTables nBuf tb) → BufTy
  | .hbm, ⟨0, _⟩ => ⟨S768x2048, .fp8e4m3⟩
  | .hbm, ⟨1, _⟩ => ⟨S768x1, .f32⟩
  | .hbm, ⟨2, _⟩ => ⟨S32, .i32⟩
  | .hbm, ⟨3, _⟩ => ⟨S32x2048x1536, .fp8e4m3⟩
  | .hbm, ⟨4, _⟩ => ⟨S32x1536, .f32⟩
  | .hbm, ⟨5, _⟩ => ⟨S768x1536, .bf16⟩
  | .local _ .vmem, ⟨0, _⟩ => ⟨S768x2048, .fp8e4m3⟩
  | .local _ .vmem, ⟨1, _⟩ => ⟨S768x1, .f32⟩
  | .local _ .vmem, ⟨2, _⟩ => ⟨S32x2048x1536, .fp8e4m3⟩
  | .local _ .vmem, ⟨3, _⟩ => ⟨S32x1536, .f32⟩
  | .local _ .vmem, ⟨4, _⟩ => ⟨S768x1536, .bf16⟩
  | .local _ .smem, ⟨0, _⟩ => ⟨S32, .i32⟩
  | _, _ => ⟨S768x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32_0 : BitVec 32 := 0#32
  let c32_i32 : BitVec 32 := 32#32
  let v2 : BitVec 32 := Scalar.addi c0_i32_0 c32_i32
  let c1_i32 : BitVec 32 := 1#32
  ⟨c0_i32_0, v2, c1_i32⟩
def k0_off1 (k0_t1 : Fin k0_t1_loop.trips) : Fin 1 → Nat :=
  let c0_i32_0 : BitVec 32 := 0#32
  let c1_i32 : BitVec 32 := 1#32
  let arg6 : BitVec 32 := Scf.iv c0_i32_0 c1_i32 k0_t1
  let v10 : Index := Scalar.indexCast arg6
  ![v10.toNat]
def k0_off2 (k0_t1 : Fin k0_t1_loop.trips) : Fin 3 → Nat :=
  let c0_i32_0 : BitVec 32 := 0#32
  let c1_i32 : BitVec 32 := 1#32
  let arg6 : BitVec 32 := Scf.iv c0_i32_0 c1_i32 k0_t1
  let v19 : Index := Scalar.indexCast arg6
  let c0_7 : Index := 0#32
  let c0_8 : Index := 0#32
  ![v19.toNat, 0, 0]
def k0_off3 (k0_t1 : Fin k0_t1_loop.trips) : Fin 2 → Nat :=
  let c0_i32_0 : BitVec 32 := 0#32
  let c1_i32 : BitVec 32 := 1#32
  let arg6 : BitVec 32 := Scf.iv c0_i32_0 c1_i32 k0_t1
  let v26 : Index := Scalar.indexCast arg6
  let c0_10 : Index := 0#32
  ![v26.toNat, 0]
abbrev stage0_0 : Fin 1 → Memref sig .tc .vmem S768x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S32 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x2048x1536 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Kernel.Base.lean ====
/- The kernel's memory operands under short names, and the launch memory seen by the body. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The arguments and the result (left in HBM; the result's staging buffer) -/

abbrev aX : Memref sig .tc .hbm S768x2048 .fp8e4m3 := Memref.whole main_arg0
abbrev aXs : Memref sig .tc .hbm S768x1 .f32 := Memref.whole main_arg1
abbrev aGs : Memref sig .tc .hbm S32 .i32 := Memref.whole main_arg2
abbrev aW : Memref sig .tc .hbm S32x2048x1536 .fp8e4m3 := Memref.whole main_arg3
abbrev aWs : Memref sig .tc .hbm S32x1536 .f32 := Memref.whole main_arg4
abbrev mOut : Memref sig .tc .vmem S768x1536 .bf16 := Memref.whole cc0_stg0_0

/-! ## The scratch buffers -/

/-- The group sizes, the list of nonempty groups, the groups' first rows. -/
abbrev mGs : Memref sig .tc .smem S32 .i32 := Memref.whole cc0_scratch0
abbrev mAct : Memref sig .tc .smem S32 .i32 := Memref.whole cc0_scratch1
abbrev mSt : Memref sig .tc .smem S32 .i32 := Memref.whole cc0_scratch2
/-- The copies of x, its scales and the weights' scales; the ring of weight blocks. -/
abbrev mX : Memref sig .tc .vmem S768x2048 .fp8e4m3 := Memref.whole cc0_scratch3
abbrev mXs : Memref sig .tc .vmem S768x1 .f32 := Memref.whole cc0_scratch4
abbrev mWs : Memref sig .tc .vmem S32x1536 .f32 := Memref.whole cc0_scratch5
abbrev mRing : Memref sig .tc .vmem S8x2048x1536 .fp8e4m3 := Memref.whole cc0_scratch6

/-- The contents of a memref's buffer on core `c`. -/
abbrev BufOf (F : FTy → Type) (c : Dev nD) {sp : Space} {S : Shape} {e : EltTy} (M : Memref sig .tc sp S e) : Type :=
  Buf (Elt F) (M.view.loc (c : Thread nD τ))
/-- A buffer held whole at contents `f`. -/
abbrev pt (c : Dev nD) {sp : Space} {S : Shape} {e : EltTy} (M : Memref sig .tc sp S e) (f : BufOf F c M) : sProp 𝕄 :=
  M.view.loc (c : Thread nD τ) ↦{fullShare} f

/-- A program of the kernel run on core `c`. -/
abbrev wpc (c : Dev nD) {α : Type} (p : Prog (TpuEff nD τ sig (Elt F) Λ₀ .tc) α) (Q : α → sProp 𝕄) : sProp 𝕄 :=
  wp frame (wpE (defs₀ (F := F)) Variants.none c none) Set.univ p Q

end Cert.Kernel.Hand

end
-- ==== Proof.Kernel.Ring.lean ====
/-
  The ring of weight blocks. Slot `k` of eight is one expert's block of weights; a copy into it runs on DMA cell
  `5 + k`, reading its expert's block of the weight array under a read share of the cell's own. A slot is free (`none`)
  or holds a copy in flight of the block of expert `e` (`some e`).
-/
module

public import proofs.«01_k».proof.Proof.Kernel.Base
public import Idealize.ShloMosaic.Lib.ViewIndex

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem inbSlot (k : Fin 8) : ∀ a, (![k.val, 0, 0] : Fin 3 → Nat) a + S1x2048x1536.size a ≤ S8x2048x1536.size a := by
  have := k.isLt; intro a; fin_cases a
  · show k.val + 1 ≤ 8; omega
  · show 0 + 2048 ≤ 2048; omega
  · show 0 + 1536 ≤ 1536; omega

theorem inbBlk (e : Fin 32) : ∀ a, (![e.val, 0, 0] : Fin 3 → Nat) a + S1x2048x1536.size a ≤ S32x2048x1536.size a := by
  have := e.isLt; intro a; fin_cases a
  · show e.val + 1 ≤ 32; omega
  · show 0 + 2048 ≤ 2048; omega
  · show 0 + 1536 ≤ 1536; omega

/-- Slot `k` of the ring, expert `e`'s block of the weights, and the cell of slot `k`. -/
def slotM (k : Fin 8) : Memref sig .tc .vmem S2048x1536 .fp8e4m3 :=
  (mRing.slice (Rect.unit ![k.val, 0, 0] S1x2048x1536.size (inbSlot k)) (fun _ => rfl)).squeeze S2048x1536 squeezes_S1x2048x1536_S2048x1536
def blkM (e : Fin 32) : Memref sig .tc .hbm S2048x1536 .fp8e4m3 :=
  (aW.slice (Rect.unit ![e.val, 0, 0] S1x2048x1536.size (inbBlk e)) (fun _ => rfl)).squeeze S2048x1536 squeezes_S1x2048x1536_S2048x1536
theorem inbCell (k : Fin 8) : ∀ a, (![k.val] : Fin 1 → Nat) a + S1.size a ≤ S8.size a := by
  intro a; fin_cases a; show k.val + 1 ≤ 8; have := k.isLt; omega
abbrev cellR (k : Fin 8) : SemLoc sig :=
  SemLoc.dma ((cc0_scratch11.slice (Rect.unit (s := S8) ![k.val] S1.size (inbCell k))).squeeze S_ squeezes_S1_S_).sem

theorem cellR_eq (k : Fin 8) : cellR k = SemLoc.dma ⟨5 + k.val, by have := k.isLt; show 5 + k.val < 13; omega⟩ := by
  fin_cases k <;> rfl

/-- The weights' read share of cell `k`. -/
abbrev tokW (c : Dev nD) (fW : BufOf F c aW) (k : Fin 8) (S : Finset (Idx (aW.view.loc (c : Thread nD τ)))) : sProp 𝕄 :=
  aW.view.loc (c : Thread nD τ) ↦[S]{Transfers.shareTok fullShare 8 k} fW

/-- Slot `k` at contents `f`, held by its own elements. -/
abbrev slotPt (c : Dev nD) (k : Fin 8) (f : Buf (Elt F) ((slotM k).view.loc (c : Thread nD τ))) : sProp 𝕄 :=
  (slotM k).view.loc (c : Thread nD τ) ↦[(slotM k).view.set]{fullShare} f

abbrev freeR (c : Dev nD) (fW : BufOf F c aW) (k : Fin 8) : sProp 𝕄 :=
  iprop(semVal ((c : Thread nD τ), cellR k) 0 ∗ (∃ f, slotPt c k f) ∗ tokW c fW k Finset.univ)

abbrev busyR (c : Dev nD) (fW : BufOf F c aW) (k : Fin 8) (e : Fin 32) : sProp 𝕄 :=
  iprop((∃ f, Transfers.Flight (countersEmb (U := Pipeline.UD sig nD τ)) (c : Thread nD τ) (cellR k) () 98304
            iprop(slotPt c k ((slotM k).view.writes (Elt F) f [⟨Rect.whole S2048x1536, ReadAs.same.apply ((blkM e).view.read (Elt F) fW)⟩])
              ∗ tokW c fW k (blkM e).view.set))
    ∗ tokW c fW k (Finset.univ \ (blkM e).view.set))

/-- Slot `k` in its state. -/
def ΦR (c : Dev nD) (fW : BufOf F c aW) (k : Fin 8) : Option (Fin 32) → sProp 𝕄
  | none => freeR c fW k
  | some e => busyR c fW k e

/-- Expert `e`'s block in every slot: what a slot's elements hold once the copy of that block has landed. -/
def ringB (c : Dev nD) (fW : BufOf F c aW) (e : Fin 32) : BufOf F c mRing :=
  fun (i : S8x2048x1536.Idx) => fW (fun a => match a with | ⟨0, _⟩ => e | ⟨1, _⟩ => i 1 | ⟨2, _⟩ => i 2)

theorem slotM_set (k : Fin 8) : (slotM k).view.set = (Rect.unit (s := S8x2048x1536) ![k.val, 0, 0] S1x2048x1536.size (inbSlot k)).set := by
  unfold slotM
  exact (View.set_reshape _ _).trans (View.set_slice_whole _ _)

theorem mem_slotM (k : Fin 8) (i : S8x2048x1536.Idx) : i ∈ (slotM k).view.set ↔ (i 0).val = k.val := by
  rw [slotM_set]
  refine Rect.mem_set_unit.trans ⟨fun h => ?_, fun h a => ?_⟩
  · have := h 0
    have h1 : k.val ≤ (i 0).val := this.1
    have h2 : (i 0).val < k.val + 1 := this.2
    omega
  · have h1 : (i 1).val < 2048 := (i 1).isLt
    have h2 : (i 2).val < 1536 := (i 2).isLt
    fin_cases a
    · show k.val ≤ (i 0).val ∧ (i 0).val < k.val + 1; omega
    · show 0 ≤ (i 1).val ∧ (i 1).val < 0 + 2048; omega
    · show 0 ≤ (i 2).val ∧ (i 2).val < 0 + 1536; omega

/-- Where entry `y` of slot `k` and of block `e` lie. -/
theorem slotM_emb (k : Fin 8) (x : S2048x1536.Idx) :
    (slotM k).view.emb x = (Rect.unit (s := S8x2048x1536) ![k.val, 0, 0] S1x2048x1536.size (inbSlot k)).emb
      (Shape.reshapeEquiv squeezes_S1x2048x1536_S2048x1536.numel_eq x) := rfl
theorem blkM_emb (e : Fin 32) (x : S2048x1536.Idx) :
    (blkM e).view.emb x = (Rect.unit (s := S32x2048x1536) ![e.val, 0, 0] S1x2048x1536.size (inbBlk e)).emb
      (Shape.reshapeEquiv squeezes_S1x2048x1536_S2048x1536.numel_eq x) := rfl

theorem ringB_emb (c : Dev nD) (fW : BufOf F c aW) (k : Fin 8) (e : Fin 32) (x : S2048x1536.Idx) :
    ringB c fW e ((slotM k).view.emb x) = fW ((blkM e).view.emb x) := by
  rw [slotM_emb, blkM_emb]
  generalize Shape.reshapeEquiv squeezes_S1x2048x1536_S2048x1536.numel_eq x = y
  unfold ringB
  refine congrArg fW (funext fun a => Fin.ext ?_)
  have h0 : (y 0).val < 1 := (y 0).isLt
  fin_cases a
  · show e.val = e.val + 1 * (y 0).val; omega
  · rfl
  · rfl

theorem read_ringB (c : Dev nD) (fW : BufOf F c aW) (k : Fin 8) (e : Fin 32) (x : S2048x1536.Idx) :
    (slotM k).view.read (Elt F) (ringB c fW e) x = (blkM e).view.read (Elt F) fW x := ringB_emb c fW k e x

/-- Contents written whole through a view, at an element of the view. -/
theorem writes_whole_eq {sp : Space} {s : Shape} {e : EltTy} (v : View sig .tc sp s e) (f g : v.ty.Contents (Elt F)) (w : s.Idx → Elt F e)
    (h : ∀ x, v.read (Elt F) g x = w x) (i : v.ty.Idx) (hi : i ∈ v.set) : v.writes (Elt F) f [⟨Rect.whole s, w⟩] i = g i := by
  obtain ⟨x, -, rfl⟩ := Finset.mem_map.mp hi
  refine View.eq_of_read_eq ?_
  rw [h]
  exact View.read_writes_cons_hit v f (Rect.whole s) w [] x x (by
    funext a; apply Fin.ext; rw [Rect.emb_apply]; show 0 + 1 * (x a).val = (x a).val; omega)

/-- What the copy leaves in the slot is the expert's block. -/
theorem landed (c : Dev nD) (fW : BufOf F c aW) (k : Fin 8) (e : Fin 32) (f : Buf (Elt F) ((slotM k).view.loc (c : Thread nD τ))) :
    (slotPt c k ((slotM k).view.writes (Elt F) f [⟨Rect.whole S2048x1536, ReadAs.same.apply ((blkM e).view.read (Elt F) fW)⟩]) : sProp 𝕄)
      = (mRing.view.loc (c : Thread nD τ) ↦[(slotM k).view.set]{fullShare} ringB c fW e) :=
  pointsTo_congr (writes_whole_eq (slotM k).view f (ringB c fW e) _ (read_ringB c fW k e))

theorem slot_subset (k : Fin 8) {off size : Fin 3 → Nat} (inb : ∀ a, off a + size a ≤ S8x2048x1536.size a) (h0 : off 0 = k.val) (h1 : size 0 = 1) :
    (mRing.access (Rect.unit (s := S8x2048x1536) off size inb)).set ⊆ (slotM k).view.set := by
  intro i hi
  have hi' : i ∈ (Rect.unit (s := S8x2048x1536) off size inb).set := by
    rw [← View.set_slice_whole cc0_scratch6]; exact hi
  refine (mem_slotM k i).mpr ?_
  have h := (Rect.mem_set_unit.mp hi') 0
  rw [h0, h1] at h
  omega

/-- The elements of slot `k`, among the ring buffer's. The slots partition the ring. -/
abbrev slotSet (c : Dev nD) (k : Fin 8) : Finset (Idx (mRing.view.loc (c : Thread nD τ))) := (slotM k).view.set

theorem slots_disjoint (c : Dev nD) (k k' : Fin 8) (h : k ≠ k') : Disjoint (slotSet c k) (slotSet c k') := by
  rw [Finset.disjoint_left]
  intro i hi hi'
  exact h (Fin.ext (((mem_slotM k i).mp hi).symm.trans ((mem_slotM k' i).mp hi')))

theorem slots_cover (c : Dev nD) : (Finset.univ : Finset (Fin 8)).biUnion (slotSet c) = Finset.univ :=
  Finset.eq_univ_of_forall fun (i : S8x2048x1536.Idx) => Finset.mem_biUnion.mpr ⟨⟨(i 0).val, (i 0).isLt⟩, Finset.mem_univ _, (mem_slotM _ i).mpr rfl⟩

theorem ring_blocks (c : Dev nD) (g : BufOf F c mRing) :
    (pt c mRing g : sProp 𝕄) = bigSep Finset.univ (fun k : Fin 8 => (mRing.view.loc (c : Thread nD τ) ↦[slotSet c k]{fullShare} g : sProp 𝕄)) :=
  Ring.pointsTo_blocks (slotSet c) (slots_disjoint c) (slots_cover c) g

theorem ring_blocks_join (c : Dev nD) (g : BufOf F c mRing) :
    bigSep Finset.univ (fun k : Fin 8 => (iprop(∃ f, mRing.view.loc (c : Thread nD τ) ↦[slotSet c k]{fullShare} f) : sProp 𝕄)) ⊢ (iprop(∃ g, pt c mRing g) : sProp 𝕄) :=
  Ring.pointsTo_blocks_join_exists (slotSet c) (slots_disjoint c) (slots_cover c) g

/-- The weights' read shares: one for each cell, and the rest. -/
theorem tok_split (c : Dev nD) (fW : BufOf F c aW) :
    (pt c aW fW : sProp 𝕄) ⊣⊢ iprop((aW.view.loc (c : Thread nD τ) ↦{Transfers.shareDrop fullShare 8} fW)
      ∗ bigSep Finset.univ (fun k : Fin 8 => (tokW c fW k Finset.univ : sProp 𝕄))) :=
  Transfers.pointsTo_toks fullShare 8

theorem atW_free (c : Dev nD) (fW : BufOf F c aW) :
    (Ring.AtW (ΦR c fW) (fun _ => none) : sProp 𝕄) = iprop(bigSep Finset.univ (fun k : Fin 8 => (semVal ((c : Thread nD τ), cellR k) 0 : sProp 𝕄))
      ∗ bigSep Finset.univ (fun k : Fin 8 => (iprop(∃ f, slotPt c k f) : sProp 𝕄))
      ∗ bigSep Finset.univ (fun k : Fin 8 => (tokW c fW k Finset.univ : sProp 𝕄))) := by
  unfold Ring.AtW ΦR freeR
  rw [BI.bigSep_sep', BI.bigSep_sep']

theorem slotPt_intro (c : Dev nD) (k : Fin 8) (g : BufOf F c mRing) :
    (mRing.view.loc (c : Thread nD τ) ↦[slotSet c k]{fullShare} g : sProp 𝕄) ⊢ iprop(∃ f, slotPt c k f) := by
  have h : (slotPt c k g : sProp 𝕄) ⊢ iprop(∃ f, slotPt c k f) := by iintro H; iexists g; iexact H
  exact h

theorem slotPts_eq (c : Dev nD) : bigSep Finset.univ (fun k : Fin 8 => (iprop(∃ f, slotPt c k f) : sProp 𝕄))
    = bigSep Finset.univ (fun k : Fin 8 => (iprop(∃ f, mRing.view.loc (c : Thread nD τ) ↦[slotSet c k]{fullShare} f) : sProp 𝕄)) := rfl

theorem slots_intro (c : Dev nD) (g : BufOf F c mRing) :
    bigSep Finset.univ (fun k : Fin 8 => (mRing.view.loc (c : Thread nD τ) ↦[slotSet c k]{fullShare} g : sProp 𝕄))
      ⊢ bigSep Finset.univ (fun k : Fin 8 => (iprop(∃ f, slotPt c k f) : sProp 𝕄)) :=
  BI.bigSep_mono fun k _ => slotPt_intro c k g

/-- The ring and the weights, held whole, are the eight slots free, with the rest of the weights' share. -/
theorem ring_split (c : Dev nD) (fW : BufOf F c aW) (g : BufOf F c mRing) :
    iprop(pt c mRing g ∗ pt c aW fW ∗ bigSep Finset.univ (fun k : Fin 8 => (semVal ((c : Thread nD τ), cellR k) 0 : sProp 𝕄)))
      ⊢ (iprop(Ring.AtW (ΦR c fW) (fun _ => none) ∗ aW.view.loc (c : Thread nD τ) ↦{Transfers.shareDrop fullShare 8} fW) : sProp 𝕄) := by
  rw [ring_blocks, atW_free]
  iintro ⟨HR, HW, HS⟩
  ihave HW := (tok_split c fW).1 $$ HW
  icases HW with ⟨HD, HT⟩
  isplitr [HD]
  · isplitl [HS]; · iexact HS
    isplitl [HR]
    · iapply (slots_intro c g) $$ HR
    · iexact HT
  · iexact HD

theorem ring_join (c : Dev nD) (fW : BufOf F c aW) (g : BufOf F c mRing) :
    (iprop(Ring.AtW (ΦR c fW) (fun _ => none) ∗ aW.view.loc (c : Thread nD τ) ↦{Transfers.shareDrop fullShare 8} fW) : sProp 𝕄)
      ⊢ iprop((∃ g, pt c mRing g) ∗ pt c aW fW ∗ bigSep Finset.univ (fun k : Fin 8 => (semVal ((c : Thread nD τ), cellR k) 0 : sProp 𝕄))) := by
  rw [atW_free, slotPts_eq]
  iintro ⟨⟨HS, HR, HT⟩, HD⟩
  isplitl [HR]
  · iapply (ring_blocks_join c g) $$ HR
  isplitr [HS]
  · iapply (tok_split c fW).2
    isplitl [HD] <;> iassumption
  · iexact HS

/-! ## A slot's copy started, and waited for -/

/-- The state of the slot in which the copy of the block of expert word `v` is in flight. -/
theorem slot_focus (c : Dev nD) (fW : BufOf F c aW) (st : Fin 8 → Option (Fin 32)) (k : Fin 8) :
    (Ring.AtW (ΦR c fW) st : sProp 𝕄) = iprop(ΦR c fW k (st k) ∗ Ring.restW (ΦR c fW) st k) := Ring.AtW_focus _ _ _

end Cert.Kernel.Hand
-- ==== Proof.Words.lean ====
/-
  The machine words the kernel computes on its scalar core, read as natural numbers.

  From the group sizes `g 0, …, g 31` the kernel counts the experts with a nonempty group (`cntW`) and adds up the
  rows before each group (`rowW`); from one group's first row and size it computes the aligned base row of its
  first window (`baseW`), the number of 96-row windows (`nwinW`) and the first row of each window (`r0W`).
-/
module

public import Idealize.ShloMosaic.Lib.Affine
public import Idealize.ShloMosaic.Lib.WordCmp
public import Idealize.ShloMosaic.Lib.WordArith
public import Idealize.ShloMosaic.Lib.WordArith.Masks
public import Idealize.ShloMosaic.Lib.LoopRemainder
public import Mathlib.Data.Nat.Count
public import Mathlib.Algebra.Order.BigOperators.Group.Finset
public import Mathlib.Tactic.Ring

@[expose] public section

namespace Cert.Hand

open Idealize.ShloMosaic Idealize.ShloMosaic.WordCmp

/-! ## Signed and unsigned readings -/

theorem toInt_of_toNat {x : BitVec 32} {n : Nat} (h : x.toNat = n) (hn : n < 2 ^ 31) : x.toInt = n := by
  rw [BitVec.toInt_eq_toNat_of_lt (by omega), h]

theorem toNat_of_toInt {x : BitVec 32} {n : Nat} (h : x.toInt = n) : x.toNat = n := by
  have := x.isLt
  rw [BitVec.toInt_eq_toNat_cond] at h
  split at h <;> omega

theorem isInt_intro {x : BitVec 32} {e : Int} (h : x.toInt = e) : Affine.IsInt x e := by
  unfold Affine.IsInt; exact h

theorem isInt_toInt {x : BitVec 32} {e : Int} (h : Affine.IsInt x e) : x.toInt = e := by
  unfold Affine.IsInt at h; exact h

theorem isInt_nat {x : BitVec 32} {n : Nat} (h : x.toNat = n) (hn : n < 2 ^ 31) : Affine.IsInt x n :=
  isInt_intro (toInt_of_toNat h hn)

/-! ## Counting the nonempty groups, and adding up the rows -/

/-- The running count of nonempty groups before expert `k`. -/
def cntW (g : Nat → BitVec 32) : Nat → BitVec 32
  | 0 => 0#32
  | k + 1 => Scalar.addi (cntW g k) (Scalar.extui (Scalar.cmpi .sgt (g k) 0#32))

/-- The running number of rows before expert `k`. -/
def rowW (g : Nat → BitVec 32) : Nat → BitVec 32
  | 0 => 0#32
  | k + 1 => Scalar.addi (rowW g k) (g k)

/-- Expert `e` has rows. -/
def isAct (g : Nat → BitVec 32) (e : Nat) : Prop := 0 < (g e).toNat

instance (g : Nat → BitVec 32) : DecidablePred (isAct g) := fun _ => Nat.decLt _ _

/-- The number of nonempty groups before expert `k`. -/
def cnt (g : Nat → BitVec 32) (k : Nat) : Nat := Nat.count (isAct g) k

/-- The number of rows before expert `k`. -/
def row (g : Nat → BitVec 32) (k : Nat) : Nat := ∑ e ∈ Finset.range k, (g e).toNat

/-- Every group size is at most the number of rows. -/
def Fits (g : Nat → BitVec 32) : Prop := ∀ e, (g e).toNat ≤ 768

variable {g : Nat → BitVec 32}

theorem cnt_le (g : Nat → BitVec 32) (k : Nat) : cnt g k ≤ k := Nat.count_le _

theorem row_le (hg : Fits g) (k : Nat) : row g k ≤ 768 * k := by
  unfold row
  calc ∑ e ∈ Finset.range k, (g e).toNat ≤ ∑ _e ∈ Finset.range k, 768 := Finset.sum_le_sum fun e _ => hg e
    _ = 768 * k := by simp [mul_comm]

theorem row_succ (g : Nat → BitVec 32) (k : Nat) : row g (k + 1) = row g k + (g k).toNat := by
  unfold row; rw [Finset.sum_range_succ]

theorem sgt_zero_iff (hg : Fits g) (k : Nat) : Scalar.cmpi .sgt (g k) 0#32 = BitVec.ofBool (decide (isAct g k)) := by
  have h := hg k
  rw [scalar_cmpi_eq, cmpi_sgt_eq, toInt_of_toNat rfl (by omega : (g k).toNat < 2 ^ 31)]
  congr 1
  simp [isAct]

theorem cntW_toNat (hg : Fits g) : ∀ k, k ≤ 32 → (cntW g k).toNat = cnt g k
  | 0, _ => rfl
  | k + 1, hk => by
    have ih := cntW_toNat hg k (by omega)
    have hc := cnt_le g k
    unfold cntW
    rw [sgt_zero_iff hg, scalar_extui_ofBool, cnt, Nat.count_succ, ← cnt]
    unfold Scalar.addi IntOp.addi
    rw [BitVec.toNat_add, ih]
    by_cases h : isAct g k <;> simp [h] <;> omega

theorem cntW_eq (hg : Fits g) {k : Nat} (hk : k ≤ 32) : cntW g k = BitVec.ofNat 32 (cnt g k) := by
  apply BitVec.eq_of_toNat_eq
  rw [cntW_toNat hg k hk, BitVec.toNat_ofNat]
  have := cnt_le g k
  omega

theorem rowW_toNat (hg : Fits g) : ∀ k, k ≤ 32 → (rowW g k).toNat = row g k
  | 0, _ => rfl
  | k + 1, hk => by
    have ih := rowW_toNat hg k (by omega)
    have hr := row_le hg k
    have hk' := hg k
    unfold rowW
    unfold Scalar.addi IntOp.addi
    rw [BitVec.toNat_add, ih, row_succ]
    omega

/-- The count never passes the number of experts counted, whatever the sizes are. -/
theorem cntW_le (g : Nat → BitVec 32) : ∀ k, k ≤ 32 → (cntW g k).toNat ≤ k
  | 0, _ => le_refl _
  | k + 1, hk => by
    have ih := cntW_le g k (by omega)
    have h1 : (Scalar.extui (Scalar.cmpi .sgt (g k) 0#32)).toNat ≤ 1 := by
      rw [scalar_cmpi_eq, cmpi_sgt_eq, scalar_extui_ofBool]
      split <;> simp
    unfold cntW
    unfold Scalar.addi IntOp.addi
    rw [BitVec.toNat_add]
    omega

/-! ## The nonempty groups in order -/

/-- For each `i` below the count of the first `k` experts, one of them has rows and `i` nonempty ones before it. -/
theorem exists_act {i : Nat} : ∀ k, i < cnt g k → ∃ e, e < k ∧ isAct g e ∧ cnt g e = i
  | 0, h => absurd h (by simp [cnt])
  | k + 1, h => by
    by_cases hk : i < cnt g k
    · obtain ⟨e, he, h1, h2⟩ := exists_act k hk
      exact ⟨e, by omega, h1, h2⟩
    · unfold cnt at h hk ⊢
      rw [Nat.count_succ] at h
      by_cases ha : isAct g k
      · rw [if_pos ha] at h
        exact ⟨k, by omega, ha, by omega⟩
      · rw [if_neg ha] at h; omega

theorem act_unique {e k : Nat} (he : isAct g e) (hk : isAct g k) (h : cnt g e = cnt g k) : e = k :=
  Nat.count_injective he hk h

open Classical in
/-- The `i`-th expert with rows. -/
noncomputable def act (g : Nat → BitVec 32) (i : Nat) : Nat :=
  if h : ∃ e, isAct g e ∧ cnt g e = i then h.choose else 0

theorem act_count {k : Nat} (h : isAct g k) : act g (cnt g k) = k := by
  have hx : ∃ e, isAct g e ∧ cnt g e = cnt g k := ⟨k, h, rfl⟩
  unfold act
  rw [dif_pos hx]
  exact act_unique hx.choose_spec.1 h hx.choose_spec.2

theorem act_spec {k i : Nat} (hi : i < cnt g k) : act g i < k ∧ isAct g (act g i) ∧ cnt g (act g i) = i := by
  obtain ⟨e, he, h1, h2⟩ := exists_act k hi
  have : act g i = e := by rw [← h2]; exact act_count h1
  rw [this]; exact ⟨he, h1, h2⟩

/-! ## Loops from 0 by steps of 1 -/

/-- The upper bound of a loop of `n` steps, as the kernel computes it. -/
abbrev ubW (n : BitVec 32) : BitVec 32 := Scalar.addi 0#32 (Scalar.muli (Scalar.divsi (Scalar.subi n 0#32) 1#32) 1#32)

theorem ubW_eq (n : BitVec 32) : ubW n = n := by
  unfold ubW
  rw [Scalar.muli_divsi_one]
  simp [Scalar.addi, IntOp.addi, Scalar.subi, IntOp.subi]

theorem trips_ubW {n : BitVec 32} {k : Nat} (h : n.toNat = k) (hk : k < 2 ^ 31) : Scf.trips 0#32 (ubW n) 1#32 = k := by
  rw [ubW_eq]
  unfold Scf.trips
  rw [toInt_of_toNat h hk, show (0#32 : BitVec 32).toInt = 0 from rfl, show (1#32 : BitVec 32).toInt = 1 from rfl]
  omega

theorem ok_ubW {n : BitVec 32} {k : Nat} (h : n.toNat = k) (hk : k < 2 ^ 31) : Scf.OK 0#32 (ubW n) 1#32 := by
  unfold Scf.OK
  rw [trips_ubW h hk, show (0#32 : BitVec 32).toInt = 0 from rfl, show (1#32 : BitVec 32).toInt = 1 from rfl]
  constructor <;> omega

theorem iv_toNat {k : Nat} (hk : k < 2 ^ 31) : (Scf.iv 0#32 1#32 k).toNat = k := WordArith.toNat_iv_zero_one k (by omega)

theorem iv_isInt {k : Nat} (hk : k < 2 ^ 31) : Affine.IsInt (Scf.iv 0#32 1#32 k) k := isInt_nat (iv_toNat hk) hk

/-! ## The windows of a group -/

theorem lit {n : Nat} (hn : n < 2 ^ 31) : Affine.IsInt (BitVec.ofNat 32 n) n := Affine.ofNat n ⟨rfl, hn⟩

/-- The first row rounded down to a multiple of 32, as the kernel computes it. -/
abbrev baseW (v : BitVec 32) : BitVec 32 :=
  Scalar.muli (Scalar.select
    (Scalar.andi
      (Scalar.cmpi .ne
        (Scalar.subi (Scalar.extui (Scalar.cmpi .sgt v 0#32)) (Scalar.extui (Scalar.cmpi .slt v 0#32)))
        (Scalar.subi (Scalar.extui (Scalar.cmpi .sgt 32#32 0#32)) (Scalar.extui (Scalar.cmpi .slt 32#32 0#32))))
      (Scalar.cmpi .ne (Scalar.remsi v 32#32) 0#32))
    (Scalar.subi (Scalar.divsi v 32#32) 1#32) (Scalar.divsi v 32#32)) 32#32

/-- The number of windows of 96 rows from the base row on, as the kernel computes it. -/
abbrev nwinW (v s : BitVec 32) : BitVec 32 :=
  Scalar.divsi (Scalar.addi (Scalar.subi (Scalar.addi v s) (baseW v)) 95#32) 96#32

/-- The first row of window `t`, as the kernel computes it. -/
abbrev r0W (v : BitVec 32) (t : Nat) : BitVec 32 :=
  Scalar.minsi (Scalar.addi (baseW v) (Scalar.muli (Scf.iv 0#32 1#32 t) 96#32)) 672#32

/-- The base row of a group whose first row is `F`. -/
def base (F : Nat) : Nat := F / 32 * 32

/-- The number of windows of a group of `S` rows from row `F`. -/
def nwin (F S : Nat) : Nat := (F + S - base F + 95) / 96

/-- The first row of window `t`. -/
def r0 (F t : Nat) : Nat := min (base F + t * 96) 672

variable {v s : BitVec 32} {F S : Nat}

theorem baseW_isInt (hv : v.toNat = F) (hF : F ≤ 24576) : Affine.IsInt (baseW v) (base F : Nat) := by
  have iv : Affine.IsInt v F := isInt_nat hv (by omega)
  have l0 : Affine.IsInt 0#32 0 := lit (n := 0) (by omega)
  have l1 : Affine.IsInt 1#32 1 := lit (n := 1) (by omega)
  have l32 : Affine.IsInt 32#32 32 := lit (n := 32) (by omega)
  have hq : Affine.IsInt (Scalar.divsi v 32#32) ((F / 32 : Nat) : Int) := Affine.divsi iv l32 ⟨by omega, by omega, by omega⟩
  have hr : Affine.IsInt (Scalar.remsi v 32#32) ((F % 32 : Nat) : Int) := Affine.remsi iv l32 ⟨by omega, by omega, by omega⟩
  have hsel : Affine.IsInt (Scalar.select
      (Scalar.andi
        (Scalar.cmpi .ne
          (Scalar.subi (Scalar.extui (Scalar.cmpi .sgt v 0#32)) (Scalar.extui (Scalar.cmpi .slt v 0#32)))
          (Scalar.subi (Scalar.extui (Scalar.cmpi .sgt 32#32 0#32)) (Scalar.extui (Scalar.cmpi .slt 32#32 0#32))))
        (Scalar.cmpi .ne (Scalar.remsi v 32#32) 0#32))
      (Scalar.subi (Scalar.divsi v 32#32) 1#32) (Scalar.divsi v 32#32)) ((F / 32 : Nat) : Int) := by
    have hs : Affine.IsInt (Scalar.subi (Scalar.divsi v 32#32) 1#32) (((F / 32 : Nat) : Int) - 1) :=
      Affine.subi hq l1 ⟨rfl, by omega, by omega⟩
    have hlt : Affine.IsInt (Scalar.extui (Scalar.cmpi .slt v 0#32)) 0 := Affine.extui_fails (Affine.slt_fails iv l0 (by omega)) rfl
    have c1 : Affine.IsInt (Scalar.subi (Scalar.extui (Scalar.cmpi .sgt 32#32 0#32)) (Scalar.extui (Scalar.cmpi .slt 32#32 0#32))) 1 :=
      isInt_intro (by decide)
    refine Affine.select_fails ?_ hs hq rfl
    by_cases h0 : F = 0
    · exact Affine.andi_fails_right trivial (Affine.ne_fails hr l0 (by subst h0; rfl))
    · refine Affine.andi_fails_left (Affine.ne_fails (Affine.subi
        (Affine.extui_holds (e := 1) (Affine.sgt_holds iv l0 (by omega)) rfl) hlt ⟨rfl, by omega, by omega⟩) c1 (by omega)) trivial
  refine Affine.muli hsel l32 ⟨?_, ?_, ?_⟩ <;> unfold base <;> omega

theorem base_le (F : Nat) : base F ≤ F := by unfold base; omega

theorem nwinW_toNat (hv : v.toNat = F) (hF : F ≤ 24576) (hs : s.toNat = S) (hS : S ≤ 768) :
    (nwinW v s).toNat = nwin F S := by
  have hb := baseW_isInt hv hF
  have hle := base_le F
  have h1 : Affine.IsInt (Scalar.addi v s) ((F + S : Nat) : Int) :=
    Affine.addi (isInt_nat hv (by omega)) (isInt_nat hs (by omega)) ⟨by omega, by omega, by omega⟩
  have h2 := Affine.subi h1 hb (e := ((F + S - base F : Nat) : Int)) ⟨by omega, by omega, by omega⟩
  have h3 := Affine.addi h2 (lit (n := 95) (by omega)) (e := ((F + S - base F + 95 : Nat) : Int)) ⟨by omega, by omega, by omega⟩
  have h4 := Affine.divsi h3 (lit (n := 96) (by omega)) (e := ((nwin F S : Nat) : Int)) ⟨by unfold nwin; omega, by omega, by omega⟩
  exact toNat_of_toInt (isInt_toInt h4)

theorem nwin_le (hS : S ≤ 768) : nwin F S ≤ 9 := by
  have : F - base F < 32 := by unfold base; omega
  have := base_le F
  unfold nwin; omega

theorem r0W_toNat (hv : v.toNat = F) (hF : F ≤ 24576) {t : Nat} (ht : t ≤ 9) : (r0W v t).toNat = r0 F t := by
  have hb := baseW_isInt hv hF
  have hle := base_le F
  have h1 := Affine.muli (iv_isInt (k := t) (by omega)) (lit (n := 96) (by omega)) (e := ((t * 96 : Nat) : Int)) ⟨by push_cast; ring, by omega, by omega⟩
  have h2 := Affine.addi hb h1 (e := ((base F + t * 96 : Nat) : Int)) ⟨by omega, by omega, by omega⟩
  have h3 := Affine.minsi h2 (lit (n := 672) (by omega)) (e := ((r0 F t : Nat) : Int)) (by unfold r0; omega)
  exact toNat_of_toInt (isInt_toInt h3)

theorem r0_le (F t : Nat) : r0 F t ≤ 672 := by unfold r0; omega

theorem r0_dvd (F t : Nat) : 32 ∣ r0 F t := by
  unfold r0 base
  rcases le_total (F / 32 * 32 + t * 96) 672 with h | h
  · rw [min_eq_left h]; omega
  · rw [min_eq_right h]; decide

/-- The windows cover the group's rows: each row of the group below 768 lies in one. -/
theorem row_in_window {r : Nat} (h1 : F ≤ r) (h2 : r < F + S) (h3 : r < 768) : ∃ t < nwin F S, r0 F t ≤ r ∧ r < r0 F t + 96 := by
  have hb := base_le F
  refine ⟨(r - base F) / 96, ?_, ?_, ?_⟩
  · unfold nwin; omega
  · unfold r0; omega
  · unfold r0; omega

/-- The slot word of item `i` of the ring. -/
theorem slotW_toNat {i : Nat} (hi : i < 2 ^ 31) : (Scalar.remsi (Scf.iv 0#32 1#32 i) 8#32).toNat = i % 8 :=
  toNat_of_toInt (isInt_toInt (Affine.remsi (iv_isInt hi) (lit (n := 8) (by omega)) ⟨by omega, by omega, by omega⟩))

theorem aheadW_toNat {i : Nat} (hi : i < 1000) : (Scalar.addi (Scf.iv 0#32 1#32 i) 8#32).toNat = i + 8 :=
  toNat_of_toInt (isInt_toInt (Affine.addi (iv_isInt (by omega)) (lit (n := 8) (by omega)) ⟨by omega, by omega, by omega⟩))

theorem slotAheadW_toNat {i : Nat} (hi : i < 1000) :
    (Scalar.remsi (Scalar.addi (Scf.iv 0#32 1#32 i) 8#32) 8#32).toNat = (i + 8) % 8 :=
  toNat_of_toInt (isInt_toInt (Affine.remsi (isInt_nat (aheadW_toNat hi) (by omega)) (lit (n := 8) (by omega)) ⟨by omega, by omega, by omega⟩))

/-- A signed comparison of two small words compares the numbers. -/
theorem slt_iff {x y : BitVec 32} {a b : Nat} (hx : x.toNat = a) (hy : y.toNat = b) (ha : a < 2 ^ 31) (hb : b < 2 ^ 31) :
    Scalar.cmpi .slt x y = 1#1 ↔ a < b := by
  rw [scalar_cmpi_eq, cmpi_slt_eq, toInt_of_toNat hx ha, toInt_of_toNat hy hb]
  by_cases h : a < b <;> simp [h]

theorem sgt_iff {x y : BitVec 32} {a b : Nat} (hx : x.toNat = a) (hy : y.toNat = b) (ha : a < 2 ^ 31) (hb : b < 2 ^ 31) :
    Scalar.cmpi .sgt x y = 1#1 ↔ b < a := by
  rw [scalar_cmpi_eq, cmpi_sgt_eq, toInt_of_toNat hx ha, toInt_of_toNat hy hb]
  by_cases h : b < a <;> simp [h]

theorem sgt_ext_iff {x y : BitVec 32} {a b : Nat} (hx : x.toNat = a) (hy : y.toNat = b) (ha : a < 2 ^ 31) (hb : b < 2 ^ 31) :
    Scalar.cmpi .ne (Scalar.extui (Scalar.cmpi .sgt x y)) 0#32 = 1#1 ↔ b < a := by
  have e : Scalar.cmpi .sgt x y = BitVec.ofBool (decide (b < a)) := by
    rw [scalar_cmpi_eq, cmpi_sgt_eq, toInt_of_toNat hx ha, toInt_of_toNat hy hb]; simp
  rw [e, scalar_extui_ofBool]
  by_cases h : b < a <;> simp [h] <;> decide

theorem slt_ext_iff {x y : BitVec 32} {a b : Nat} (hx : x.toNat = a) (hy : y.toNat = b) (ha : a < 2 ^ 31) (hb : b < 2 ^ 31) :
    Scalar.cmpi .ne (Scalar.extui (Scalar.cmpi .slt x y)) 0#32 = 1#1 ↔ a < b := by
  have e : Scalar.cmpi .slt x y = BitVec.ofBool (decide (a < b)) := by
    rw [scalar_cmpi_eq, cmpi_slt_eq, toInt_of_toNat hx ha, toInt_of_toNat hy hb]; simp
  rw [e, scalar_extui_ofBool]
  by_cases h : a < b <;> simp [h] <;> decide

end Cert.Hand
-- ==== Proof.Kernel.Chk.lean ====
/-
The side conditions of the kernel's accesses hold: every word that places an access is the number it is meant to
be, so the access lies inside its buffer, and the rows it moves are whole words.
-/
module
public import proofs.«01_k».proof.Proof.Kernel.Base
public import proofs.«01_k».proof.Proof.Words
public import Idealize.ShloMosaic.Lib.LoopRemainder

@[expose] public section

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## One window of one group -/

section Window

variable {F S e : Nat} {v288 v291 v293 : BitVec 32}

theorem off62_eq (hv : v291.toNat = F) (hF : F ≤ 24576) (hs : v293.toNat = S) (hS : S ≤ 768)
    (t : Fin (k0_t2_loop v291 v293).trips) : k0_off62 v291 v293 t = ![r0 F t.val, 0] := by
  have ht : t.val ≤ 9 := by
    have h1 : (k0_t2_loop v291 v293).trips = nwin F S := trips_ubW (nwinW_toNat hv hF hs hS) (by have := nwin_le hS (F := F); omega)
    have := nwin_le hS (F := F); have := t.isLt; omega
  show ![(r0W v291 t.val).toNat, 0] = _
  rw [r0W_toNat hv hF ht]

/-- The trips of a group's window loop. -/
theorem t2_trips (hv : v291.toNat = F) (hF : F ≤ 24576) (hs : v293.toNat = S) (hS : S ≤ 768) :
    (k0_t2_loop v291 v293).trips = nwin F S :=
  trips_ubW (nwinW_toNat hv hF hs hS) (by have := nwin_le hS (F := F); omega)

theorem mult1_eq (hv : v291.toNat = F) (hF : F ≤ 24576) (hs : v293.toNat = S) (hS : S ≤ 768)
    (t : Fin (k0_t2_loop v291 v293).trips) : (k0_mult1 v291 v293 t).toNat = r0 F t.val :=
  congrFun (off62_eq hv hF hs hS t) 0

/-- A box of 96 rows from row `r ≤ 672`, some columns, lies inside 768 rows. -/
theorem inb_rows {off : Fin 2 → Nat} {r c w C : Nat} (ho : off = ![r, c]) (hr : r ≤ 672) (hc : c + w ≤ C) :
    ∀ a, off a + (![96, w] : Fin 2 → Nat) a ≤ (![768, C] : Fin 2 → Nat) a := by
  subst ho; intro a; fin_cases a
  · show r + 96 ≤ 768; omega
  · exact hc

theorem inb_row {off : Fin 2 → Nat} {r c w C : Nat} (ho : off = ![r, c]) (hr : r < 32) (hc : c + w ≤ C) :
    ∀ a, off a + (![1, w] : Fin 2 → Nat) a ≤ (![32, C] : Fin 2 → Nat) a := by
  subst ho; intro a; fin_cases a
  · show r + 1 ≤ 32; omega
  · exact hc

theorem inb_slot {off : Fin 3 → Nat} {r c w C n : Nat} (ho : off = ![r, 0, c]) (hr : r < n) (hc : c + w ≤ C) :
    ∀ a, off a + (![1, 2048, w] : Fin 3 → Nat) a ≤ (![n, 2048, C] : Fin 3 → Nat) a := by
  subst ho; intro a; fin_cases a
  · show r + 1 ≤ n; omega
  · show 0 + 2048 ≤ 2048; omega
  · exact hc

theorem packed_out {off : Fin 2 → Nat} {r c w : Nat} (ho : off = ![r, c]) (hr : 32 ∣ r)
    (inb : ∀ a, off a + (⟨2, ![96, w]⟩ : Shape).size a ≤ S768x1536.size a) :
    (Rect.unit (s := S768x1536) off (⟨2, ![96, w]⟩ : Shape).size inb).PackedRows (EltTy.packing .bf16) := by
  subst ho
  refine Affine.packed_dvd (by decide) ?_ ?_
  · show 2 ∣ r; omega
  · show 2 ∣ 96; decide

variable {g : Nat → BitVec 32}

/-- Every access of a group's windows is in bounds, once the group starts at row `F ≤ 24576`, has `S ≤ 768` rows, and
    `v288` is the number of a group. -/
theorem chk43 (t1 : Fin (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips) (hslot : (Scalar.remsi (Scf.iv 0#32 1#32 t1.val) 8#32).toNat < 8)
    (he : v288.toNat = e) (he' : e < 32)
    (hv : v291.toNat = F) (hF : F ≤ 24576) (hs : v293.toNat = S) (hS : S ≤ 768) :
    k0_chk43 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 := by
  have o := off62_eq hv hF hs hS
  have hok : (k0_t2_loop v291 v293).OK := ok_ubW (nwinW_toNat hv hF hs hS) (by have := nwin_le hS (F := F); omega)
  have no3 : Fin (k0_t3_loop v291 v293).trips → False := fun t => Scf.rem_no_trip _ _ t
  have r672 := r0_le F
  have rd := r0_dvd F
  refine ⟨hok, ?_, ?_, ?_, ?_, ?_, ?_, ?_, ?_, ?_, ?_, ?_, ?_, ?_, ?_, ?_, Scf.rem_ok _ _,
    fun t => (no3 t).elim, fun t => (no3 t).elim, fun t => (no3 t).elim, fun t => (no3 t).elim, fun t => (no3 t).elim,
    fun t => (no3 t).elim, fun t => (no3 t).elim, fun t => (no3 t).elim, fun t => (no3 t).elim, fun t => (no3 t).elim,
    fun t => (no3 t).elim, fun t => (no3 t).elim, fun t => (no3 t).elim, fun t => (no3 t).elim, fun t => (no3 t).elim⟩
  · intro t; rw [mult1_eq hv hF hs hS t]; exact rd t.val
  · intro t; exact inb_rows (o t) (r672 t.val) (by decide)
  · intro t; exact inb_rows (o t) (r672 t.val) (by decide)
  · intro t; exact inb_slot rfl hslot (by decide)
  · intro t; exact inb_row rfl (he ▸ he') (by decide)
  · intro t; exact inb_rows (o t) (r672 t.val) (by decide)
  · intro t inb; exact packed_out (o t) (rd t.val) inb
  · intro t; exact inb_slot rfl hslot (by decide)
  · intro t; exact inb_row rfl (he ▸ he') (by decide)
  · intro t; exact inb_rows (c := 512) (congrArg (fun f : Fin 2 → Nat => ![f 0, 512]) (o t)) (r672 t.val) (by decide)
  · intro t inb; exact packed_out (congrArg (fun f : Fin 2 → Nat => ![f 0, 512]) (o t)) (rd t.val) inb
  · intro t; exact inb_slot rfl hslot (by decide)
  · intro t; exact inb_row rfl (he ▸ he') (by decide)
  · intro t; exact inb_rows (c := 1024) (congrArg (fun f : Fin 2 → Nat => ![f 0, 1024]) (o t)) (r672 t.val) (by decide)
  · intro t inb; exact packed_out (congrArg (fun f : Fin 2 → Nat => ![f 0, 1024]) (o t)) (rd t.val) inb

end Window

/-! ## The kernel's other words -/

theorem inb_word {n : Nat} {w : BitVec 32} (h : w.toNat < n) : ∀ a, (![w.toNat] : Fin 1 → Nat) a + S1.size a ≤ (![n] : Fin 1 → Nat) a := by
  intro a; fin_cases a
  show w.toNat + 1 ≤ n; omega

/-- The place of the next nonempty group lies inside the list, whatever the sizes. -/
theorem inb_at (g : Nat → BitVec 32) (k : Nat) (hk : k < 32) :
    ∀ a, (![(cntW g k).toNat] : Fin 1 → Nat) a + S1.size a ≤ S32.size a :=
  inb_word (lt_of_le_of_lt (cntW_le g k (by omega)) hk)

/-- The stores of the list of nonempty groups are in bounds. -/
theorem chk_list :
    (∀ v0, k0_chk1 v0)
    ∧ (∀ v0 v1, k0_chk2 v0 v1)
    ∧ (∀ v0 v1 v2, k0_chk3 v0 v1 v2)
    ∧ (∀ v0 v1 v2 v3, k0_chk4 v0 v1 v2 v3)
    ∧ (∀ v0 v1 v2 v3 v4, k0_chk5 v0 v1 v2 v3 v4)
    ∧ (∀ v0 v1 v2 v3 v4 v5, k0_chk6 v0 v1 v2 v3 v4 v5)
    ∧ (∀ v0 v1 v2 v3 v4 v5 v6, k0_chk7 v0 v1 v2 v3 v4 v5 v6)
    ∧ (∀ v0 v1 v2 v3 v4 v5 v6 v7, k0_chk8 v0 v1 v2 v3 v4 v5 v6 v7)
    ∧ (∀ v0 v1 v2 v3 v4 v5 v6 v7 v8, k0_chk9 v0 v1 v2 v3 v4 v5 v6 v7 v8)
    ∧ (∀ v0 v1 v2 v3 v4 v5 v6 v7 v8 v9, k0_chk10 v0 v1 v2 v3 v4 v5 v6 v7 v8 v9)
    ∧ (∀ v0 v1 v2 v3 v4 v5 v6 v7 v8 v9 v10, k0_chk11 v0 v1 v2 v3 v4 v5 v6 v7 v8 v9 v10)
    ∧ (∀ v0 v1 v2 v3 v4 v5 v6 v7 v8 v9 v10 v11, k0_chk12 v0 v1 v2 v3 v4 v5 v6 v7 v8 v9 v10 v11)
    ∧ (∀ v0 v1 v2 v3 v4 v5 v6 v7 v8 v9 v10 v11 v12, k0_chk13 v0 v1 v2 v3 v4 v5 v6 v7 v8 v9 v10 v11 v12)
    ∧ (∀ v0 v1 v2 v3 v4 v5 v6 v7 v8 v9 v10 v11 v12 v13, k0_chk14 v0 v1 v2 v3 v4 v5 v6 v7 v8 v9 v10 v11 v12 v13)
    ∧ (∀ v0 v1 v2 v3 v4 v5 v6 v7 v8 v9 v10 v11 v12 v13 v14, k0_chk15 v0 v1 v2 v3 v4 v5 v6 v7 v8 v9 v10 v11 v12 v13 v14)
    ∧ (∀ v0 v1 v2 v3 v4 v5 v6 v7 v8 v9 v10 v11 v12 v13 v14 v15, k0_chk16 v0 v1 v2 v3 v4 v5 v6 v7 v8 v9 v10 v11 v12 v13 v14 v15)
    ∧ (∀ v0 v1 v2 v3 v4 v5 v6 v7 v8 v9 v10 v11 v12 v13 v14 v15 v16, k0_chk17 v0 v1 v2 v3 v4 v5 v6 v7 v8 v9 v10 v11 v12 v13 v14 v15 v16)
    ∧ (∀ v0 v1 v2 v3 v4 v5 v6 v7 v8 v9 v10 v11 v12 v13 v14 v15 v16 v17, k0_chk18 v0 v1 v2 v3 v4 v5 v6 v7 v8 v9 v10 v11 v12 v13 v14 v15 v16 v17)
    ∧ (∀ v0 v1 v2 v3 v4 v5 v6 v7 v8 v9 v10 v11 v12 v13 v14 v15 v16 v17 v18, k0_chk19 v0 v1 v2 v3 v4 v5 v6 v7 v8 v9 v10 v11 v12 v13 v14 v15 v16 v17 v18)
    ∧ (∀ v0 v1 v2 v3 v4 v5 v6 v7 v8 v9 v10 v11 v12 v13 v14 v15 v16 v17 v18 v19, k0_chk20 v0 v1 v2 v3 v4 v5 v6 v7 v8 v9 v10 v11 v12 v13 v14 v15 v16 v17 v18 v19)
    ∧ (∀ v0 v1 v2 v3 v4 v5 v6 v7 v8 v9 v10 v11 v12 v13 v14 v15 v16 v17 v18 v19 v20, k0_chk21 v0 v1 v2 v3 v4 v5 v6 v7 v8 v9 v10 v11 v12 v13 v14 v15 v16 v17 v18 v19 v20)
    ∧ (∀ v0 v1 v2 v3 v4 v5 v6 v7 v8 v9 v10 v11 v12 v13 v14 v15 v16 v17 v18 v19 v20 v21, k0_chk22 v0 v1 v2 v3 v4 v5 v6 v7 v8 v9 v10 v11 v12 v13 v14 v15 v16 v17 v18 v19 v20 v21)
    ∧ (∀ v0 v1 v2 v3 v4 v5 v6 v7 v8 v9 v10 v11 v12 v13 v14 v15 v16 v17 v18 v19 v20 v21 v22, k0_chk23 v0 v1 v2 v3 v4 v5 v6 v7 v8 v9 v10 v11 v12 v13 v14 v15 v16 v17 v18 v19 v20 v21 v22)
    ∧ (∀ v0 v1 v2 v3 v4 v5 v6 v7 v8 v9 v10 v11 v12 v13 v14 v15 v16 v17 v18 v19 v20 v21 v22 v23, k0_chk24 v0 v1 v2 v3 v4 v5 v6 v7 v8 v9 v10 v11 v12 v13 v14 v15 v16 v17 v18 v19 v20 v21 v22 v23)
    ∧ (∀ v0 v1 v2 v3 v4 v5 v6 v7 v8 v9 v10 v11 v12 v13 v14 v15 v16 v17 v18 v19 v20 v21 v22 v23 v24, k0_chk25 v0 v1 v2 v3 v4 v5 v6 v7 v8 v9 v10 v11 v12 v13 v14 v15 v16 v17 v18 v19 v20 v21 v22 v23 v24)
    ∧ (∀ v0 v1 v2 v3 v4 v5 v6 v7 v8 v9 v10 v11 v12 v13 v14 v15 v16 v17 v18 v19 v20 v21 v22 v23 v24 v25, k0_chk26 v0 v1 v2 v3 v4 v5 v6 v7 v8 v9 v10 v11 v12 v13 v14 v15 v16 v17 v18 v19 v20 v21 v22 v23 v24 v25)
    ∧ (∀ v0 v1 v2 v3 v4 v5 v6 v7 v8 v9 v10 v11 v12 v13 v14 v15 v16 v17 v18 v19 v20 v21 v22 v23 v24 v25 v26, k0_chk27 v0 v1 v2 v3 v4 v5 v6 v7 v8 v9 v10 v11 v12 v13 v14 v15 v16 v17 v18 v19 v20 v21 v22 v23 v24 v25 v26)
    ∧ (∀ v0 v1 v2 v3 v4 v5 v6 v7 v8 v9 v10 v11 v12 v13 v14 v15 v16 v17 v18 v19 v20 v21 v22 v23 v24 v25 v26 v27, k0_chk28 v0 v1 v2 v3 v4 v5 v6 v7 v8 v9 v10 v11 v12 v13 v14 v15 v16 v17 v18 v19 v20 v21 v22 v23 v24 v25 v26 v27)
    ∧ (∀ v0 v1 v2 v3 v4 v5 v6 v7 v8 v9 v10 v11 v12 v13 v14 v15 v16 v17 v18 v19 v20 v21 v22 v23 v24 v25 v26 v27 v28, k0_chk29 v0 v1 v2 v3 v4 v5 v6 v7 v8 v9 v10 v11 v12 v13 v14 v15 v16 v17 v18 v19 v20 v21 v22 v23 v24 v25 v26 v27 v28)
    ∧ (∀ v0 v1 v2 v3 v4 v5 v6 v7 v8 v9 v10 v11 v12 v13 v14 v15 v16 v17 v18 v19 v20 v21 v22 v23 v24 v25 v26 v27 v28 v29, k0_chk30 v0 v1 v2 v3 v4 v5 v6 v7 v8 v9 v10 v11 v12 v13 v14 v15 v16 v17 v18 v19 v20 v21 v22 v23 v24 v25 v26 v27 v28 v29)
    ∧ (∀ v0 v1 v2 v3 v4 v5 v6 v7 v8 v9 v10 v11 v12 v13 v14 v15 v16 v17 v18 v19 v20 v21 v22 v23 v24 v25 v26 v27 v28 v29 v30, k0_chk31 v0 v1 v2 v3 v4 v5 v6 v7 v8 v9 v10 v11 v12 v13 v14 v15 v16 v17 v18 v19 v20 v21 v22 v23 v24 v25 v26 v27 v28 v29 v30) :=
  ⟨fun v0 => inb_at (fun k => [v0].getD k 0#32) 1 (by decide),
   fun v0 v1 => inb_at (fun k => [v0, v1].getD k 0#32) 2 (by decide),
   fun v0 v1 v2 => inb_at (fun k => [v0, v1, v2].getD k 0#32) 3 (by decide),
   fun v0 v1 v2 v3 => inb_at (fun k => [v0, v1, v2, v3].getD k 0#32) 4 (by decide),
   fun v0 v1 v2 v3 v4 => inb_at (fun k => [v0, v1, v2, v3, v4].getD k 0#32) 5 (by decide),
   fun v0 v1 v2 v3 v4 v5 => inb_at (fun k => [v0, v1, v2, v3, v4, v5].getD k 0#32) 6 (by decide),
   fun v0 v1 v2 v3 v4 v5 v6 => inb_at (fun k => [v0, v1, v2, v3, v4, v5, v6].getD k 0#32) 7 (by decide),
   fun v0 v1 v2 v3 v4 v5 v6 v7 => inb_at (fun k => [v0, v1, v2, v3, v4, v5, v6, v7].getD k 0#32) 8 (by decide),
   fun v0 v1 v2 v3 v4 v5 v6 v7 v8 => inb_at (fun k => [v0, v1, v2, v3, v4, v5, v6, v7, v8].getD k 0#32) 9 (by decide),
   fun v0 v1 v2 v3 v4 v5 v6 v7 v8 v9 => inb_at (fun k => [v0, v1, v2, v3, v4, v5, v6, v7, v8, v9].getD k 0#32) 10 (by decide),
   fun v0 v1 v2 v3 v4 v5 v6 v7 v8 v9 v10 => inb_at (fun k => [v0, v1, v2, v3, v4, v5, v6, v7, v8, v9, v10].getD k 0#32) 11 (by decide),
   fun v0 v1 v2 v3 v4 v5 v6 v7 v8 v9 v10 v11 => inb_at (fun k => [v0, v1, v2, v3, v4, v5, v6, v7, v8, v9, v10, v11].getD k 0#32) 12 (by decide),
   fun v0 v1 v2 v3 v4 v5 v6 v7 v8 v9 v10 v11 v12 => inb_at (fun k => [v0, v1, v2, v3, v4, v5, v6, v7, v8, v9, v10, v11, v12].getD k 0#32) 13 (by decide),
   fun v0 v1 v2 v3 v4 v5 v6 v7 v8 v9 v10 v11 v12 v13 => inb_at (fun k => [v0, v1, v2, v3, v4, v5, v6, v7, v8, v9, v10, v11, v12, v13].getD k 0#32) 14 (by decide),
   fun v0 v1 v2 v3 v4 v5 v6 v7 v8 v9 v10 v11 v12 v13 v14 => inb_at (fun k => [v0, v1, v2, v3, v4, v5, v6, v7, v8, v9, v10, v11, v12, v13, v14].getD k 0#32) 15 (by decide),
   fun v0 v1 v2 v3 v4 v5 v6 v7 v8 v9 v10 v11 v12 v13 v14 v15 => inb_at (fun k => [v0, v1, v2, v3, v4, v5, v6, v7, v8, v9, v10, v11, v12, v13, v14, v15].getD k 0#32) 16 (by decide),
   fun v0 v1 v2 v3 v4 v5 v6 v7 v8 v9 v10 v11 v12 v13 v14 v15 v16 => inb_at (fun k => [v0, v1, v2, v3, v4, v5, v6, v7, v8, v9, v10, v11, v12, v13, v14, v15, v16].getD k 0#32) 17 (by decide),
   fun v0 v1 v2 v3 v4 v5 v6 v7 v8 v9 v10 v11 v12 v13 v14 v15 v16 v17 => inb_at (fun k => [v0, v1, v2, v3, v4, v5, v6, v7, v8, v9, v10, v11, v12, v13, v14, v15, v16, v17].getD k 0#32) 18 (by decide),
   fun v0 v1 v2 v3 v4 v5 v6 v7 v8 v9 v10 v11 v12 v13 v14 v15 v16 v17 v18 => inb_at (fun k => [v0, v1, v2, v3, v4, v5, v6, v7, v8, v9, v10, v11, v12, v13, v14, v15, v16, v17, v18].getD k 0#32) 19 (by decide),
   fun v0 v1 v2 v3 v4 v5 v6 v7 v8 v9 v10 v11 v12 v13 v14 v15 v16 v17 v18 v19 => inb_at (fun k => [v0, v1, v2, v3, v4, v5, v6, v7, v8, v9, v10, v11, v12, v13, v14, v15, v16, v17, v18, v19].getD k 0#32) 20 (by decide),
   fun v0 v1 v2 v3 v4 v5 v6 v7 v8 v9 v10 v11 v12 v13 v14 v15 v16 v17 v18 v19 v20 => inb_at (fun k => [v0, v1, v2, v3, v4, v5, v6, v7, v8, v9, v10, v11, v12, v13, v14, v15, v16, v17, v18, v19, v20].getD k 0#32) 21 (by decide),
   fun v0 v1 v2 v3 v4 v5 v6 v7 v8 v9 v10 v11 v12 v13 v14 v15 v16 v17 v18 v19 v20 v21 => inb_at (fun k => [v0, v1, v2, v3, v4, v5, v6, v7, v8, v9, v10, v11, v12, v13, v14, v15, v16, v17, v18, v19, v20, v21].getD k 0#32) 22 (by decide),
   fun v0 v1 v2 v3 v4 v5 v6 v7 v8 v9 v10 v11 v12 v13 v14 v15 v16 v17 v18 v19 v20 v21 v22 => inb_at (fun k => [v0, v1, v2, v3, v4, v5, v6, v7, v8, v9, v10, v11, v12, v13, v14, v15, v16, v17, v18, v19, v20, v21, v22].getD k 0#32) 23 (by decide),
   fun v0 v1 v2 v3 v4 v5 v6 v7 v8 v9 v10 v11 v12 v13 v14 v15 v16 v17 v18 v19 v20 v21 v22 v23 => inb_at (fun k => [v0, v1, v2, v3, v4, v5, v6, v7, v8, v9, v10, v11, v12, v13, v14, v15, v16, v17, v18, v19, v20, v21, v22, v23].getD k 0#32) 24 (by decide),
   fun v0 v1 v2 v3 v4 v5 v6 v7 v8 v9 v10 v11 v12 v13 v14 v15 v16 v17 v18 v19 v20 v21 v22 v23 v24 => inb_at (fun k => [v0, v1, v2, v3, v4, v5, v6, v7, v8, v9, v10, v11, v12, v13, v14, v15, v16, v17, v18, v19, v20, v21, v22, v23, v24].getD k 0#32) 25 (by decide),
   fun v0 v1 v2 v3 v4 v5 v6 v7 v8 v9 v10 v11 v12 v13 v14 v15 v16 v17 v18 v19 v20 v21 v22 v23 v24 v25 => inb_at (fun k => [v0, v1, v2, v3, v4, v5, v6, v7, v8, v9, v10, v11, v12, v13, v14, v15, v16, v17, v18, v19, v20, v21, v22, v23, v24, v25].getD k 0#32) 26 (by decide),
   fun v0 v1 v2 v3 v4 v5 v6 v7 v8 v9 v10 v11 v12 v13 v14 v15 v16 v17 v18 v19 v20 v21 v22 v23 v24 v25 v26 => inb_at (fun k => [v0, v1, v2, v3, v4, v5, v6, v7, v8, v9, v10, v11, v12, v13, v14, v15, v16, v17, v18, v19, v20, v21, v22, v23, v24, v25, v26].getD k 0#32) 27 (by decide),
   fun v0 v1 v2 v3 v4 v5 v6 v7 v8 v9 v10 v11 v12 v13 v14 v15 v16 v17 v18 v19 v20 v21 v22 v23 v24 v25 v26 v27 => inb_at (fun k => [v0, v1, v2, v3, v4, v5, v6, v7, v8, v9, v10, v11, v12, v13, v14, v15, v16, v17, v18, v19, v20, v21, v22, v23, v24, v25, v26, v27].getD k 0#32) 28 (by decide),
   fun v0 v1 v2 v3 v4 v5 v6 v7 v8 v9 v10 v11 v12 v13 v14 v15 v16 v17 v18 v19 v20 v21 v22 v23 v24 v25 v26 v27 v28 => inb_at (fun k => [v0, v1, v2, v3, v4, v5, v6, v7, v8, v9, v10, v11, v12, v13, v14, v15, v16, v17, v18, v19, v20, v21, v22, v23, v24, v25, v26, v27, v28].getD k 0#32) 29 (by decide),
   fun v0 v1 v2 v3 v4 v5 v6 v7 v8 v9 v10 v11 v12 v13 v14 v15 v16 v17 v18 v19 v20 v21 v22 v23 v24 v25 v26 v27 v28 v29 => inb_at (fun k => [v0, v1, v2, v3, v4, v5, v6, v7, v8, v9, v10, v11, v12, v13, v14, v15, v16, v17, v18, v19, v20, v21, v22, v23, v24, v25, v26, v27, v28, v29].getD k 0#32) 30 (by decide),
   fun v0 v1 v2 v3 v4 v5 v6 v7 v8 v9 v10 v11 v12 v13 v14 v15 v16 v17 v18 v19 v20 v21 v22 v23 v24 v25 v26 v27 v28 v29 v30 => inb_at (fun k => [v0, v1, v2, v3, v4, v5, v6, v7, v8, v9, v10, v11, v12, v13, v14, v15, v16, v17, v18, v19, v20, v21, v22, v23, v24, v25, v26, v27, v28, v29, v30].getD k 0#32) 31 (by decide)⟩

/-- Expert `e`'s block is inside the weights, and whole words. -/
theorem inb_blk {v : BitVec 32} (h : v.toNat < 32) : ∀ a, (![v.toNat, 0, 0] : Fin 3 → Nat) a + S1x2048x1536.size a ≤ S32x2048x1536.size a :=
  inb_slot rfl h (by decide)

theorem words_blk {n : Nat} {v : BitVec 32} (inb : ∀ a, (![v.toNat, 0, 0] : Fin 3 → Nat) a + S1x2048x1536.size a ≤ (⟨3, ![n, 2048, 1536]⟩ : Shape).size a) :
    (Rect.unit (s := ⟨3, ![n, 2048, 1536]⟩) ![v.toNat, 0, 0] S1x2048x1536.size inb).WholeWords (EltTy.packing .fp8e4m3) :=
  Affine.words_rows (s := ⟨3, ![n, 2048, 1536]⟩) (off := ![v.toNat, 0, 0]) (size := S1x2048x1536.size) (show 2 ≤ 3 by decide) rfl rfl

section

variable {g : Nat → BitVec 32}

theorem cnt32_lt (g : Nat → BitVec 32) : cnt g 32 < 2 ^ 31 := by have := cnt_le g 32; omega

/-- As many trips as there are nonempty groups. -/
theorem t1_trips (hg : Fits g) : (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips = cnt g 32 :=
  trips_ubW (cntW_toNat hg 32 (by omega)) (cnt32_lt g)

theorem t1_lt (hg : Fits g) (t : Fin (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips) : t.val < cnt g 32 := by
  exact lt_of_lt_of_eq t.isLt (t1_trips hg)

theorem t1_lt32 (hg : Fits g) (t : Fin (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips) : t.val < 32 := by
  have := t1_lt hg t; have := cnt_le g 32; omega

/-- The first eight copies are started only as far as there are nonempty groups. -/
theorem conds (hg : Fits g) :
    (k0_cond1 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) = 1#1 ↔ 0 < cnt g 32)
    ∧ (k0_cond2 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) = 1#1 ↔ 1 < cnt g 32)
    ∧ (k0_cond3 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) = 1#1 ↔ 2 < cnt g 32)
    ∧ (k0_cond4 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) = 1#1 ↔ 3 < cnt g 32)
    ∧ (k0_cond5 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) = 1#1 ↔ 4 < cnt g 32)
    ∧ (k0_cond6 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) = 1#1 ↔ 5 < cnt g 32)
    ∧ (k0_cond7 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) = 1#1 ↔ 6 < cnt g 32)
    ∧ (k0_cond8 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) = 1#1 ↔ 7 < cnt g 32) := by
  have h := cntW_toNat hg 32 (by omega)
  have hc := cnt32_lt g
  refine ⟨?_, ?_, ?_, ?_, ?_, ?_, ?_, ?_⟩ <;> exact sgt_ext_iff h rfl hc (by decide)

theorem cond9 (hg : Fits g) (t : Fin (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips) : k0_cond9 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t = 1#1 ↔ t.val + 8 < cnt g 32 := by
  have ht := t1_lt32 hg t
  exact slt_ext_iff (aheadW_toNat (by omega)) (cntW_toNat hg 32 (by omega)) (by omega) (cnt32_lt g)

theorem slot_lt (hg : Fits g) (t : Fin (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips) : (Scalar.remsi (Scf.iv 0#32 1#32 t.val) 8#32).toNat < 8 := by
  rw [slotW_toNat (by have := t1_lt32 hg t; omega)]; omega

theorem chk40 (hg : Fits g) : k0_chk40 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) := by
  have no4 : Fin (k0_t4_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips → False := fun t => Scf.rem_no_trip _ _ t
  have i32 : ∀ t : Fin (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips, (Scf.iv 0#32 1#32 t.val).toNat < 32 := fun t => by
    have := t1_lt32 hg t; rw [iv_toNat (by omega)]; exact this
  have ah : ∀ t : Fin (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips, k0_cond9 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t = 1#1 → (Scalar.addi (Scf.iv 0#32 1#32 t.val) 8#32).toNat < 32 := fun t h => by
    have := (cond9 hg t).mp h; have := t1_lt32 hg t; have := cnt_le g 32; rw [aheadW_toNat (by omega)]; omega
  have sa : ∀ t : Fin (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips, (Scalar.remsi (Scalar.addi (Scf.iv 0#32 1#32 t.val) 8#32) 8#32).toNat < 8 := fun t => by
    have := t1_lt32 hg t; rw [slotAheadW_toNat (by omega)]; omega
  refine ⟨ok_ubW (cntW_toNat hg 32 (by omega)) (cnt32_lt g), ?_, ?_, ?_, ?_, ?_, ?_, ?_, ?_, ?_, Scf.rem_ok _ _,
    fun t => (no4 t).elim, fun t => (no4 t).elim, fun t => (no4 t).elim, fun t => (no4 t).elim, fun t => (no4 t).elim,
    fun t => (no4 t).elim, fun t => (no4 t).elim, fun t => (no4 t).elim, fun t => (no4 t).elim⟩
  · intro t; exact inb_word (i32 t)
  · intro t; exact inb_word (i32 t)
  · intro t; exact inb_word (slot_lt hg t)
  · intro t; exact inb_slot rfl (slot_lt hg t) (by decide)
  · intro t inb; exact words_blk (n := 8) inb
  · intro t h; exact inb_word (ah t h)
  · intro t h; exact inb_word (sa t)
  · intro t h; exact inb_slot rfl (sa t) (by decide)
  · intro t h inb; exact words_blk (n := 8) inb

end

end Cert.Kernel.Hand

end
-- ==== Proof.Kernel.Window.lean ====
/-
One window of one group: 96 rows of x times the group's block, 512 columns at a time, scaled, and written over the
rows of the window that belong to the group. The result buffer after it, as a function of what it held.
-/
module
public import proofs.«01_k».proof.Proof.Kernel.Ring
public import proofs.«01_k».proof.Proof.Kernel.Chk

@[expose] public section

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable {v288 v291 v293 : BitVec 32}

/-- The window's accesses are in bounds. -/
structure WinInb (v288 v291 v293 : BitVec 32) (t : Fin (k0_t2_loop v291 v293).trips) : Prop where
  x : ∀ a, k0_off62 v291 v293 t a + S96x2048.size a ≤ S768x2048.size a
  xs : ∀ a, k0_off63 v291 v293 t a + S96x1.size a ≤ S768x1.size a
  ws0 : ∀ a, k0_off65 v288 a + S1x512.size a ≤ S32x1536.size a
  ws1 : ∀ a, k0_off68 v288 a + S1x512.size a ≤ S32x1536.size a
  ws2 : ∀ a, k0_off71 v288 a + S1x512.size a ≤ S32x1536.size a
  o0 : ∀ a, k0_off66 v291 v293 t a + S96x512.size a ≤ S768x1536.size a
  o1 : ∀ a, k0_off69 v291 v293 t a + S96x512.size a ≤ S768x1536.size a
  o2 : ∀ a, k0_off72 v291 v293 t a + S96x512.size a ≤ S768x1536.size a

/-- The block's columns `512·j` to `512·j + 511`, given as the three parts' own contents. -/
abbrev Cols (F : FTy → Type) [FloatOps F] := Vec F S1x2048x512 .fp8e4m3

section

variable (c : Dev nD) (t : Fin (k0_t2_loop v291 v293).trips) (h : WinInb v288 v291 v293 t)
  (X : BufOf F c mX) (Xs : BufOf F c mXs) (Ws : BufOf F c mWs)

/-- The window's rows of x and of x's scales, the group's scales by columns. -/
abbrev winX : Vec F S96x2048 .fp8e4m3 := (mX.access (Rect.unit (s := S768x2048) (k0_off62 v291 v293 t) S96x2048.size h.x)).read (Elt F) X
abbrev winXs : Vec F S96x1 .f32 := (mXs.access (Rect.unit (s := S768x1) (k0_off63 v291 v293 t) S96x1.size h.xs)).read (Elt F) Xs
abbrev ws0 : Vec F S1x512 .f32 := (mWs.access (Rect.unit (s := S32x1536) (k0_off65 v288) S1x512.size h.ws0)).read (Elt F) Ws
abbrev ws1 : Vec F S1x512 .f32 := (mWs.access (Rect.unit (s := S32x1536) (k0_off68 v288) S1x512.size h.ws1)).read (Elt F) Ws
abbrev ws2 : Vec F S1x512 .f32 := (mWs.access (Rect.unit (s := S32x1536) (k0_off71 v288) S1x512.size h.ws2)).read (Elt F) Ws

/-- The window's rows of the result, by columns. -/
abbrev ro0 : Rect S768x1536 := Rect.unit (s := S768x1536) (k0_off66 v291 v293 t) S96x512.size h.o0
abbrev ro1 : Rect S768x1536 := Rect.unit (s := S768x1536) (k0_off69 v291 v293 t) S96x512.size h.o1
abbrev ro2 : Rect S768x1536 := Rect.unit (s := S768x1536) (k0_off72 v291 v293 t) S96x512.size h.o2

/-- The result after the first 512 columns, the second, the third. -/
def win0 (w0 : Cols F) (O : BufOf F c mOut) : BufOf F c mOut :=
  (mOut.access (ro0 t h)).write (Elt F) O
    (k0_pay10 v291 v293 (Scalar.addi v291 v293) (baseW v291) 0#32 1#32 t (winX c t h X) (winXs c t h Xs) w0 (ws0 c t h Ws)
      ((mOut.access (ro0 t h)).read (Elt F) O)) Finset.univ
def win1 (w1 : Cols F) (O : BufOf F c mOut) : BufOf F c mOut :=
  (mOut.access (ro1 t h)).write (Elt F) O
    (k0_pay1 (k0_pay9 (F := F) v291 v293 (Scalar.addi v291 v293) (baseW v291) 0#32 1#32 t) (k0_pay11 (winX c t h X) (winXs c t h Xs) w1)
      (ws1 c t h Ws) ((mOut.access (ro1 t h)).read (Elt F) O)) Finset.univ
def win2 (w2 : Cols F) (O : BufOf F c mOut) : BufOf F c mOut :=
  (mOut.access (ro2 t h)).write (Elt F) O
    (k0_pay2 (k0_pay9 (F := F) v291 v293 (Scalar.addi v291 v293) (baseW v291) 0#32 1#32 t) (winX c t h X) (winXs c t h Xs) w2
      (ws2 c t h Ws) ((mOut.access (ro2 t h)).read (Elt F) O)) Finset.univ

/-- The result after the window. -/
def winF (w0 w1 w2 : Cols F) (O : BufOf F c mOut) : BufOf F c mOut :=
  win2 c t h X Xs Ws w2 (win1 c t h X Xs Ws w1 (win0 c t h X Xs Ws w0 O))

end

theorem winInb {g : Nat → BitVec 32} {t1 : Fin (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips} (hw : k0_chk43 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293)
    (t : Fin (k0_t2_loop v291 v293).trips) : WinInb v288 v291 v293 t where
  x := k0_off62_inb (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 hw t
  xs := k0_off63_inb (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 hw t
  ws0 := k0_off65_inb (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 hw t
  ws1 := k0_off68_inb (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 hw t
  ws2 := k0_off71_inb (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 hw t
  o0 := k0_off66_inb (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 hw t
  o1 := k0_off69_inb (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 hw t
  o2 := k0_off72_inb (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 hw t

/-- A window's trip, the ring read through any elements that include the slot's. -/
theorem win_run (c : Dev nD) (g : Nat → BitVec 32) (t1 : Fin (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips)
    (hw : k0_chk43 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293) (t2 : Fin (k0_t2_loop v291 v293).trips)
    (R : BufOf F c mRing) (S : Finset (Idx (mRing.view.loc (c : Thread nD τ))))
    (hS1 : (mRing.access (Rect.unit (s := S8x2048x1536) (k0_off64 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1) S1x2048x512.size (k0_off64_inb (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 hw t2))).set ⊆ S)
    (hS2 : (mRing.access (Rect.unit (s := S8x2048x1536) (k0_off67 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1) S1x2048x512.size (k0_off67_inb (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 hw t2))).set ⊆ S)
    (hS3 : (mRing.access (Rect.unit (s := S8x2048x1536) (k0_off70 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1) S1x2048x512.size (k0_off70_inb (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 hw t2))).set ⊆ S)
    (X : BufOf F c mX) (Xs : BufOf F c mXs) (Ws : BufOf F c mWs) (O : BufOf F c mOut) (v289 : BitVec 32) (acc : BitVec 32)
    (Q : BitVec 32 → sProp 𝕄) :
    iprop((pt c mX X ∗ pt c mXs Xs ∗ pt c mWs Ws ∗ pt c mOut O ∗ (mRing.view.loc (c : Thread nD τ) ↦[S]{fullShare} R)) ∗
        ((pt c mX X ∗ pt c mXs Xs ∗ pt c mWs Ws ∗ pt c mOut (winF c t2 (winInb hw t2) X Xs Ws
            ((mRing.access (Rect.unit (s := S8x2048x1536) (k0_off64 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1) S1x2048x512.size (k0_off64_inb (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 hw t2))).read (Elt F) R)
            ((mRing.access (Rect.unit (s := S8x2048x1536) (k0_off67 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1) S1x2048x512.size (k0_off67_inb (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 hw t2))).read (Elt F) R)
            ((mRing.access (Rect.unit (s := S8x2048x1536) (k0_off70 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1) S1x2048x512.size (k0_off70_inb (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 hw t2))).read (Elt F) R) O) ∗
          (mRing.view.loc (c : Thread nD τ) ↦[S]{fullShare} R)) -∗ Q 0#32))
      ⊢ wpc c (k0_t2_body aGs (Memref.isWhole_whole _) aX (Memref.isWhole_whole _) aXs (Memref.isWhole_whole _) aW (Memref.isWhole_whole _) aWs (Memref.isWhole_whole _) mOut (Memref.isWhole_whole _) mGs (Memref.isWhole_whole _) mAct (Memref.isWhole_whole _) mSt (Memref.isWhole_whole _) mX (Memref.isWhole_whole _) mXs (Memref.isWhole_whole _) mWs (Memref.isWhole_whole _) mRing (Memref.isWhole_whole _) cc0_scratch7 cc0_scratch8 cc0_scratch9 cc0_scratch10 cc0_scratch11 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v289 v291 v293 hw (Scalar.addi v291 v293) (baseW v291) 0#32 t2 acc) Q := by
  unfold k0_t2_body wpc
  simp only [k0_part1_eq_skeleton]; unfold k0_part1_skel
  iintro ⟨⟨HX, HXs, HWs, HO, HR⟩, HQ⟩
  sl_exec
  iapply (wp_load_rect Variants.none (c : Thread nD τ) none Set.univ (m := mRing) hS1) $$ HR; iintro HR
  sl_exec
  iapply (wp_load_rect Variants.none (c : Thread nD τ) none Set.univ (m := mRing) hS2) $$ HR; iintro HR
  sl_exec
  iapply (wp_load_rect Variants.none (c : Thread nD τ) none Set.univ (m := mRing) hS3) $$ HR; iintro HR
  sl_exec
  sl_step
  iapply HQ
  isplitl [HX]; · iexact HX
  isplitl [HXs]; · iexact HXs
  isplitl [HWs]; · iexact HWs
  isplitl [HO]; · iexact HO
  iexact HR

end Cert.Kernel.Hand

end
-- ==== Proof.Kernel.Group.lean ====
/-
One nonempty group: its windows in turn, each by `winF`, the group's block read from its slot of the ring.
-/
module
public import proofs.«01_k».proof.Proof.Kernel.Window

@[expose] public section

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- 512 columns from `o` of expert `e`'s block. -/
def cols (c : Dev nD) (fW : BufOf F c aW) (e : Fin 32) (o : Nat) (ho : o ≤ 1024) : Cols F :=
  fun (i : S1x2048x512.Idx) => fW (fun a => match a with
    | ⟨0, _⟩ => e
    | ⟨1, _⟩ => i 1
    | ⟨2, _⟩ => (⟨o + (i 2).val, by have : (i 2).val < 512 := (i 2).isLt; show o + (i 2).val < 1536; omega⟩ : Fin 1536))

/-- 512 columns of a slot in which expert `e`'s block has landed are those of the block. -/
theorem read_cols (c : Dev nD) (fW : BufOf F c aW) (e : Fin 32) (o : Nat) (ho : o ≤ 1024) {off : Fin 3 → Nat}
    (inb : ∀ a, off a + S1x2048x512.size a ≤ S8x2048x1536.size a) (h1 : off 1 = 0) (h2 : off 2 = o) :
    (mRing.access (Rect.unit (s := S8x2048x1536) off S1x2048x512.size inb)).read (Elt F) (ringB c fW e) = cols c fW e o ho := by
  funext (i : S1x2048x512.Idx)
  show ringB c fW e ((Rect.unit (s := S8x2048x1536) off S1x2048x512.size inb).emb i) = _
  unfold ringB cols
  refine congrArg fW (funext fun a => Fin.ext ?_)
  fin_cases a
  · rfl
  · show off 1 + 1 * (i 1).val = (i 1).val; omega
  · show off 2 + 1 * (i 2).val = o + (i 2).val; omega

section

variable (c : Dev nD) (fW : BufOf F c aW) (X : BufOf F c mX) (Xs : BufOf F c mXs) (Ws : BufOf F c mWs)

/-- The result after the first `t` windows of expert `e`, whose rows start at `v` and are `s` many. -/
def winsF (e : Fin 32) (v288 v s : BitVec 32) (O : BufOf F c mOut) : Nat → BufOf F c mOut
  | 0 => O
  | t + 1 =>
    open scoped Classical in
    if h : ∃ ht : t < (k0_t2_loop v s).trips, WinInb v288 v s ⟨t, ht⟩ then
      winF c ⟨t, h.1⟩ h.2 X Xs Ws (cols c fW e 0 (by omega)) (cols c fW e 512 (by omega)) (cols c fW e 1024 (by omega)) (winsF e v288 v s O t)
    else winsF e v288 v s O t

theorem winsF_succ (e : Fin 32) (v288 v s : BitVec 32) (O : BufOf F c mOut) (t : Fin (k0_t2_loop v s).trips) (h : WinInb v288 v s t) :
    winsF c fW X Xs Ws e v288 v s O (t.val + 1) =
      winF c t h X Xs Ws (cols c fW e 0 (by omega)) (cols c fW e 512 (by omega)) (cols c fW e 1024 (by omega)) (winsF c fW X Xs Ws e v288 v s O t.val) := by
  rw [winsF]
  exact dif_pos ⟨t.isLt, h⟩

end

/-- What a group's windows are run in: x and the scales in place, the result, and the group's block in its slot. -/
abbrev winR (c : Dev nD) (fW : BufOf F c aW) (k : Fin 8) (e : Fin 32) (X : BufOf F c mX) (Xs : BufOf F c mXs) (Ws : BufOf F c mWs)
    (O : BufOf F c mOut) : sProp 𝕄 :=
  iprop(pt c mX X ∗ pt c mXs Xs ∗ pt c mWs Ws ∗ pt c mOut O ∗ (mRing.view.loc (c : Thread nD τ) ↦[(slotM k).view.set]{fullShare} ringB c fW e))

variable {v288 v291 v293 : BitVec 32}

theorem win_step (c : Dev nD) (g : Nat → BitVec 32) (t1 : Fin (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips)
    (hw : k0_chk43 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293) (fW : BufOf F c aW) (k : Fin 8) (e : Fin 32)
    (hk : (Scalar.remsi (Scf.iv 0#32 1#32 t1.val) 8#32).toNat = k.val)
    (X : BufOf F c mX) (Xs : BufOf F c mXs) (Ws : BufOf F c mWs) (O : BufOf F c mOut) (v289 acc : BitVec 32)
    (t2 : Fin (k0_t2_loop v291 v293).trips) :
    winR c fW k e X Xs Ws (winsF c fW X Xs Ws e v288 v291 v293 O t2.val)
      ⊢ wpc c (k0_t2_body aGs (Memref.isWhole_whole _) aX (Memref.isWhole_whole _) aXs (Memref.isWhole_whole _) aW (Memref.isWhole_whole _) aWs (Memref.isWhole_whole _) mOut (Memref.isWhole_whole _) mGs (Memref.isWhole_whole _) mAct (Memref.isWhole_whole _) mSt (Memref.isWhole_whole _) mX (Memref.isWhole_whole _) mXs (Memref.isWhole_whole _) mWs (Memref.isWhole_whole _) mRing (Memref.isWhole_whole _) cc0_scratch7 cc0_scratch8 cc0_scratch9 cc0_scratch10 cc0_scratch11 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v289 v291 v293 hw (Scalar.addi v291 v293) (baseW v291) 0#32 t2 acc)
          (fun _ => winR c fW k e X Xs Ws (winsF c fW X Xs Ws e v288 v291 v293 O (t2.val + 1))) := by
  have i1 := k0_off64_inb (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 hw t2
  have i2 := k0_off67_inb (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 hw t2
  have i3 := k0_off70_inb (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 hw t2
  have hr := win_run c g t1 hw t2 (ringB c fW e) (slotM k).view.set (slot_subset k i1 hk rfl) (slot_subset k i2 hk rfl) (slot_subset k i3 hk rfl)
    X Xs Ws (winsF c fW X Xs Ws e v288 v291 v293 O t2.val) v289 acc
    (fun _ => winR c fW k e X Xs Ws (winsF c fW X Xs Ws e v288 v291 v293 O (t2.val + 1)))
  rw [read_cols c fW e 0 (by omega) i1 rfl rfl, read_cols c fW e 512 (by omega) i2 rfl rfl, read_cols c fW e 1024 (by omega) i3 rfl rfl,
    ← winsF_succ] at hr
  refine .trans ?_ hr
  iintro H
  isplitl [H]; · iexact H
  iintro H; iexact H

/-- A group's windows, at the head of a program. -/
theorem wins_run (c : Dev nD) (g : Nat → BitVec 32) (t1 : Fin (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips)
    (hw : k0_chk43 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293) (fW : BufOf F c aW) (k : Fin 8) (e : Fin 32)
    (hk : (Scalar.remsi (Scf.iv 0#32 1#32 t1.val) 8#32).toNat = k.val)
    (X : BufOf F c mX) (Xs : BufOf F c mXs) (Ws : BufOf F c mWs) (O : BufOf F c mOut) (v289 : BitVec 32)
    {β : Type} {kk : BitVec 32 → Prog (TpuEff nD τ sig (Elt F) Λ₀ .tc) β} {Q : β → sProp 𝕄} :
    winR c fW k e X Xs Ws O ⊢
      iprop((∀ acc, winR c fW k e X Xs Ws (winsF c fW X Xs Ws e v288 v291 v293 O (k0_t2_loop v291 v293).trips) -∗ wpc c (kk acc) Q) -∗
        wpc c (Scf.Loop.for (k0_t2_loop v291 v293) (k0_t2_ok (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 hw) 0#32
          (k0_t2_body aGs (Memref.isWhole_whole _) aX (Memref.isWhole_whole _) aXs (Memref.isWhole_whole _) aW (Memref.isWhole_whole _) aWs (Memref.isWhole_whole _) mOut (Memref.isWhole_whole _) mGs (Memref.isWhole_whole _) mAct (Memref.isWhole_whole _) mSt (Memref.isWhole_whole _) mX (Memref.isWhole_whole _) mXs (Memref.isWhole_whole _) mWs (Memref.isWhole_whole _) mRing (Memref.isWhole_whole _) cc0_scratch7 cc0_scratch8 cc0_scratch9 cc0_scratch10 cc0_scratch11 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v289 v291 v293 hw (Scalar.addi v291 v293) (baseW v291) 0#32) >>= kk) Q) :=
  Scf.wp_for_bind frame (wpE (defs₀ (F := F)) Variants.none c none) Set.univ _ _ _ _ _ _
    (fun t _ => winR c fW k e X Xs Ws (winsF c fW X Xs Ws e v288 v291 v293 O t))
    (fun t2 acc => win_step c g t1 hw fW k e hk X Xs Ws O v289 acc t2)

end Cert.Kernel.Hand

end
-- ==== Proof.Slots.lean ====
/-
Which nonempty group's block is on its way into which slot of the ring: with the groups numbered `lo`, `lo + 1`, …,
`hi - 1` under way, at most eight of them, number `j` is in slot `j % 8`.
-/
module
public import proofs.«01_k».proof.Proof.Words

@[expose] public section

namespace Cert.Hand

/-- The number from `lo` to `lo + 7` that belongs to slot `s`. -/
def slotNum (lo s : Nat) : Nat := lo + (s + 8 - lo % 8) % 8

/-- The `i`-th nonempty group. -/
noncomputable def actF (g : Nat → BitVec 32) (i : Nat) : Fin 32 := ⟨act g i % 32, Nat.mod_lt _ (by decide)⟩

/-- What the slots hold while the groups numbered from `lo` to below `hi` are under way. -/
noncomputable def stR (g : Nat → BitVec 32) (lo hi : Nat) (s : Fin 8) : Option (Fin 32) :=
  if slotNum lo s.val < hi then some (actF g (slotNum lo s.val)) else none

theorem slotNum_spec (lo s : Nat) (hs : s < 8) : lo ≤ slotNum lo s ∧ slotNum lo s < lo + 8 ∧ slotNum lo s % 8 = s := by
  unfold slotNum; omega

theorem slotNum_eq {lo s j : Nat} (hs : s < 8) (h1 : lo ≤ j) (h2 : j < lo + 8) (h3 : j % 8 = s) : slotNum lo s = j := by
  have := slotNum_spec lo s hs; omega

variable (g : Nat → BitVec 32)

theorem stR_self (n : Nat) : stR g n n = fun _ => none := by
  funext s
  have := slotNum_spec n s.val s.isLt
  rw [stR, if_neg (by omega)]

theorem stR_head {lo hi : Nat} (k : Fin 8) (hk : k.val = lo % 8) (h : lo < hi) : stR g lo hi k = some (actF g lo) := by
  rw [stR, slotNum_eq k.isLt (le_refl lo) (by omega) hk.symm, if_pos h]

theorem stR_next {lo hi : Nat} (k : Fin 8) (hk : k.val = hi % 8) (h1 : lo ≤ hi) (h2 : hi < lo + 8) : stR g lo hi k = none := by
  rw [stR, slotNum_eq k.isLt h1 h2 hk.symm, if_neg (lt_irrefl hi)]

theorem stR_drain {lo hi : Nat} (k : Fin 8) (hk : k.val = lo % 8) (h1 : lo < hi) (h2 : hi ≤ lo + 8) :
    Function.update (stR g lo hi) k none = stR g (lo + 1) hi := by
  funext s
  by_cases hs : s = k
  · subst hs
    rw [Function.update_self]
    have h := slotNum_eq s.isLt (lo := lo + 1) (j := lo + 8) (by omega) (by omega) (by omega)
    rw [stR, h, if_neg (by omega)]
  · rw [Function.update_of_ne hs]
    have h0 : s.val ≠ k.val := fun h => hs (Fin.ext h)
    have h := slotNum_spec lo s.val s.isLt
    have h' := slotNum_eq s.isLt (lo := lo + 1) (j := slotNum lo s.val) (by omega) (by omega) h.2.2
    rw [stR, stR, h']

theorem stR_issue {lo hi : Nat} (k : Fin 8) (hk : k.val = hi % 8) (h1 : lo ≤ hi) (h2 : hi < lo + 8) :
    Function.update (stR g lo hi) k (some (actF g hi)) = stR g lo (hi + 1) := by
  funext s
  by_cases hs : s = k
  · subst hs
    rw [Function.update_self, stR, slotNum_eq s.isLt h1 h2 hk.symm, if_pos (by omega)]
  · rw [Function.update_of_ne hs]
    have h0 : s.val ≠ k.val := fun h => hs (Fin.ext h)
    have h := slotNum_spec lo s.val s.isLt
    have hne : slotNum lo s.val ≠ hi := fun e => h0 (by omega)
    unfold stR
    by_cases hlt : slotNum lo s.val < hi
    · rw [if_pos hlt, if_pos (by omega)]
    · rw [if_neg hlt, if_neg (by omega)]

end Cert.Hand
-- ==== Proof.Kernel.Lists.lean ====
/-
The head of a trip: the group's number, first row and size are read from the lists, and the wait for its block ends.
-/
module
public import proofs.«01_k».proof.Proof.Kernel.Group
public import proofs.«01_k».proof.Proof.Slots

@[expose] public section

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The three lists of words -/

/-- Entry `i` of a list of 32 words. -/
def at32 (A : S32.Idx → BitVec 32) (i : Nat) : BitVec 32 :=
  A (fun a => ⟨i % 32, by
    have h : S32.size a = 32 := match a with | ⟨0, _⟩ => rfl
    rw [h]; exact Nat.mod_lt _ (by decide)⟩)

/-- The group sizes in a buffer, by number. -/
abbrev gOf {c : Dev nD} (G : BufOf F c mGs) : Nat → BitVec 32 := at32 G

/-- The list of nonempty groups; the groups' first rows. -/
def PAct (g A : Nat → BitVec 32) (k : Nat) : Prop := ∀ e < k, isAct g e → A (cnt g e) = BitVec.ofNat 32 e
def PSt (g S : Nat → BitVec 32) (k : Nat) : Prop := ∀ e < k, S e = rowW g e

theorem read_gs (c : Dev nD) (G : BufOf F c mGs) {off : Fin 1 → Nat} {i : Nat} (inb : ∀ a, off a + S1.size a ≤ S32.size a) (h : off 0 = i) (hi : i < 32) (x : S1.Idx) :
    (mGs.access (Rect.unit (s := S32) off S1.size inb)).read (Elt F) G x = at32 G i := by
  show G ((Rect.unit (s := S32) off S1.size inb).emb x) = _
  unfold at32
  refine congrArg G (funext fun a => Fin.ext ?_)
  have hx : (x 0).val < 1 := (x 0).isLt
  fin_cases a
  show off 0 + 1 * (x 0).val = i % 32
  omega

theorem read_act (c : Dev nD) (G : BufOf F c mAct) {off : Fin 1 → Nat} {i : Nat} (inb : ∀ a, off a + S1.size a ≤ S32.size a) (h : off 0 = i) (hi : i < 32) (x : S1.Idx) :
    (mAct.access (Rect.unit (s := S32) off S1.size inb)).read (Elt F) G x = at32 G i := read_gs (F := F) c G inb h hi x

theorem read_st (c : Dev nD) (G : BufOf F c mSt) {off : Fin 1 → Nat} {i : Nat} (inb : ∀ a, off a + S1.size a ≤ S32.size a) (h : off 0 = i) (hi : i < 32) (x : S1.Idx) :
    (mSt.access (Rect.unit (s := S32) off S1.size inb)).read (Elt F) G x = at32 G i := read_gs (F := F) c G inb h hi x

/-- A word read from a list at the head of a program: the program goes on with the word. -/
theorem word_load (c : Dev nD) (m : Memref sig .tc .smem S32 .i32) (A : BufOf F c m) {off : Fin 1 → Nat}
    {inb : ∀ a, off a + S1.size a ≤ S32.size a} {v : BitVec 32}
    (hv : ∀ x : S1.Idx, (m.access (Rect.unit (s := S32) off S1.size inb)).read (Elt F) A x = v)
    {β : Type} {kk : Elt F .i32 → Prog (TpuEff nD τ sig (Elt F) Λ₀ .tc) β} {Q : β → sProp 𝕄} :
    pt c m A ⊢ iprop((pt c m A -∗ wpc c (kk v) Q) -∗ wpc c (smemLoad m (Rect.unit (s := S32) off S1.size inb) numel1_S1 rfl >>= kk) Q) := by
  unfold wpc
  iintro Hpt Hk
  iapply (wp_smemLoadElt Variants.none (c : Thread nD τ) none Set.univ (m := m) (r := Rect.unit (s := S32) off S1.size inb)
    (hw := View.loads_smem_one rfl numel1_S1) (x := Shape.Idx.first (numel1_S1.symm ▸ Nat.one_pos)) (S := Finset.univ) (Finset.subset_univ _)) $$ Hpt
  iintro Hpt
  rw [hv]
  iapply Hk $$ Hpt

/-- A proved side condition at the head of a program. -/
theorem assume_run (c : Dev nD) {P : Prop} {d : Decidable P} (h : P) {β : Type}
    {kk : PLift P → Prog (TpuEff nD τ sig (Elt F) Λ₀ .tc) β} {Q : β → sProp 𝕄} :
    wpc c (kk ⟨h⟩) Q ⊢ wpc c (Prog.lift (TpuEff.assume P d) >>= kk) Q := by
  unfold wpc
  iintro H
  iapply (wp_assume Variants.none (c : Thread nD τ) none Set.univ h)
  iexact H

end Cert.Kernel.Hand

end
-- ==== Proof.Kernel.Issue.lean ====
/-
The start of a block's copy into a free slot.
-/
module
public import proofs.«01_k».proof.Proof.Kernel.Lists
public import proofs.«01_k».proof.Proof.Kernel.Chk

@[expose] public section

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Expert `e`'s block is copied into slot `k`, which was free: the slot is then in flight with `e`. -/
theorem issue_run (c : Dev nD) (fW : BufOf F c aW) (st : Fin 8 → Option (Fin 32)) (k : Fin 8) (e : Fin 32) (hst : st k = none)
    {o1 : Fin 1 → Nat} {o2 o3 : Fin 3 → Nat} (h1 : o1 = ![k.val]) (h2 : o2 = ![k.val, 0, 0]) (h3 : o3 = ![e.val, 0, 0])
    {i1 : ∀ a, o1 a + S1.size a ≤ S8.size a} {i2 : ∀ a, o2 a + S1x2048x1536.size a ≤ S8x2048x1536.size a}
    {i3 : ∀ a, o3 a + S1x2048x1536.size a ≤ S32x2048x1536.size a} {x1 x2 x3}
    {β : Type} {kk : PUnit → Prog (TpuEff nD τ sig (Elt F) Λ₀ .tc) β} {Q : β → sProp 𝕄} :
    Ring.AtW (ΦR c fW) st ⊢ iprop((Ring.AtW (ΦR c fW) (Function.update st k (some e)) -∗ wpc c (kk ⟨⟩) Q) -∗
      wpc c (Prog.lift (TpuEff.enqueueDma
        ((aW.slice (Rect.unit (s := S32x2048x1536) o3 S1x2048x1536.size i3) (fun _ => rfl)).squeeze S2048x1536 squeezes_S1x2048x1536_S2048x1536)
        (.here ((mRing.slice (Rect.unit (s := S8x2048x1536) o2 S1x2048x1536.size i2) (fun _ => rfl)).squeeze S2048x1536 squeezes_S1x2048x1536_S2048x1536))
        (.dma ((cc0_scratch11.slice (Rect.unit (s := S8) o1 S1.size i1)).squeeze S_ squeezes_S1_S_).sem) x1 x2 x3) >>= kk) Q) := by
  subst h1 h2 h3
  rw [slot_focus c fW st k]
  iintro ⟨Hk, Hrest⟩ HQ
  unfold wpc
  simp only [ΦR, hst]
  icases Hk with ⟨Hcell, ⟨%f, Hslot⟩, Htok⟩
  sl_exec
  iapply HQ
  iapply (Ring.AtW_update (ΦR c fW) st k (some e))
  isplitr [Hrest]
  · simp only [ΦR]
    isplitl [Hcell]
    · iexists f; iexact Hcell
    · iexact Htok
  · iexact Hrest

/-- One of the first eight copies: block `i` of the list is copied into slot `i`, if the list is that long. -/
theorem issue_if (c : Dev nD) {g : Nat → BitVec 32} (fW : BufOf F c aW) (A : BufOf F c mAct) (hA : PAct g (at32 A) 32)
    {i : Nat} (hi : i < 8) {P : Prop} [Decidable P] (hP : P ↔ i < cnt g 32)
    {chk : BitVec 32 → Prop} {d : ∀ v, Decidable (chk v)} (hchk : ∀ v : BitVec 32, v.toNat < 32 → chk v)
    {o0 o1 : Fin 1 → Nat} {o2 : Fin 3 → Nat} {o3 : BitVec 32 → Fin 3 → Nat} (h0 : o0 0 = i) (h1 : o1 = ![i]) (h2 : o2 = ![i, 0, 0])
    (h3 : ∀ v, o3 v = ![v.toNat, 0, 0])
    {i0 : ∀ a, o0 a + S1.size a ≤ S32.size a} {i1 : ∀ a, o1 a + S1.size a ≤ S8.size a} {i2 : ∀ a, o2 a + S1x2048x1536.size a ≤ S8x2048x1536.size a}
    {i3 : P → ∀ v, chk v → ∀ a, o3 v a + S1x2048x1536.size a ≤ S32x2048x1536.size a}
    {x1 : ∀ (h : P) v (hc : chk v),
      ((aW.slice (Rect.unit (s := S32x2048x1536) (o3 v) S1x2048x1536.size (i3 h v hc)) (fun _ => rfl)).squeeze S2048x1536 squeezes_S1x2048x1536_S2048x1536).view.WordExact}
    {x2 x3}
    {β : Type} {rest : Prog (TpuEff nD τ sig (Elt F) Λ₀ .tc) β} {Q : β → sProp 𝕄} :
    iprop(pt c mAct A ∗ Ring.AtW (ΦR c fW) (stR g 0 (min (cnt g 32) i))) ⊢
      iprop((pt c mAct A ∗ Ring.AtW (ΦR c fW) (stR g 0 (min (cnt g 32) (i + 1))) -∗ wpc c (rest) Q) -∗
      wpc c (dite P (fun h => smemLoad mAct (Rect.unit (s := S32) o0 S1.size i0) numel1_S1 rfl >>= fun v =>
        Prog.lift (TpuEff.assume (chk v) (d v)) >>= fun hc => Prog.lift (TpuEff.enqueueDma
        ((aW.slice (Rect.unit (s := S32x2048x1536) (o3 v) S1x2048x1536.size (i3 h v hc.down)) (fun _ => rfl)).squeeze S2048x1536 squeezes_S1x2048x1536_S2048x1536)
        (.here ((mRing.slice (Rect.unit (s := S8x2048x1536) o2 S1x2048x1536.size i2) (fun _ => rfl)).squeeze S2048x1536 squeezes_S1x2048x1536_S2048x1536))
        (.dma ((cc0_scratch11.slice (Rect.unit (s := S8) o1 S1.size i1)).squeeze S_ squeezes_S1_S_).sem) (x1 h v hc.down) x2 x3) >>= fun _ => rest)
        (fun _ => rest)) Q) := by
  iintro ⟨HA, HR⟩ HQ
  by_cases h : P
  · have hc := hP.mp h
    have hn := cnt_le g 32
    obtain ⟨ha, hact, hcnt⟩ := act_spec hc
    have hv : (BitVec.ofNat 32 (act g i)).toNat = act g i := by rw [BitVec.toNat_ofNat]; omega
    have hv32 : (BitVec.ofNat 32 (act g i)).toNat < 32 := by omega
    have hAv : at32 A i = BitVec.ofNat 32 (act g i) := by have := hA _ ha hact; rwa [hcnt] at this
    have he : actF g i = ⟨(BitVec.ofNat 32 (act g i)).toNat, hv32⟩ :=
      Fin.ext (by show act g i % 32 = (BitVec.ofNat 32 (act g i)).toNat; omega)
    have hm1 : min (cnt g 32) i = i := by omega
    have hm2 : min (cnt g 32) (i + 1) = i + 1 := by omega
    have hnx := stR_next g (lo := 0) (hi := i) ⟨i, hi⟩ (by show i = i % 8; omega) (by omega) (by omega)
    have his := stR_issue g (lo := 0) (hi := i) ⟨i, hi⟩ (by show i = i % 8; omega) (by omega) (by omega)
    rw [hm1, hm2, ← his, he, dif_pos h]
    iapply (word_load c mAct A (v := BitVec.ofNat 32 (act g i)) (fun x => (read_act c A _ h0 (by omega) x).trans hAv)) $$ HA; iintro HA
    iapply (assume_run c (hchk _ hv32))
    iapply (issue_run c fW _ ⟨i, hi⟩ ⟨(BitVec.ofNat 32 (act g i)).toNat, hv32⟩ hnx h1 h2 (h3 _)) $$ HR
    iintro HR
    iapply HQ
    isplitl [HA]; · iexact HA
    iexact HR
  · have hc : ¬ i < cnt g 32 := fun h' => h (hP.mpr h')
    have hm : min (cnt g 32) (i + 1) = min (cnt g 32) i := by omega
    rw [hm, dif_neg h]
    iapply HQ
    isplitl [HA]; · iexact HA
    iexact HR

end Cert.Kernel.Hand

end
-- ==== Proof.Kernel.Trip.lean ====
/-
One trip of the outer loop: the group's words are read, its block is awaited, its windows are multiplied, and the
copy eight groups ahead is started.
-/
module
public import proofs.«01_k».proof.Proof.Kernel.Lists
public import proofs.«01_k».proof.Proof.Kernel.Issue
public import Idealize.ShloMosaic.Lib.LoopRemainder

@[expose] public section

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The head of a trip: the group's number `v`, its first row `f` and its size `s` are read, and its block has landed. -/
theorem part3_run (c : Dev nD) {g : Nat → BitVec 32} (hw : k0_chk40 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)) (t1 : Fin (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips) (ht : t1.val < 32)
    {v f s : BitVec 32} (hv : v.toNat < 32) (G : BufOf F c mGs) (A : BufOf F c mAct) (S : BufOf F c mSt)
    (hA : at32 A t1.val = v) (hS : at32 S v.toNat = f) (hG : at32 G v.toNat = s)
    (h43 : k0_chk43 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v f s) (hk : (Scalar.remsi (Scf.iv 0#32 1#32 t1.val) 8#32).toNat < 8)
    (fW : BufOf F c aW) (W : Finset (SemLoc sig × Unit)) {Q : _ → sProp 𝕄} :
    iprop(pt c mGs G ∗ pt c mAct A ∗ pt c mSt S ∗ busyR c fW ⟨(Scalar.remsi (Scf.iv 0#32 1#32 t1.val) 8#32).toNat, hk⟩ ⟨v.toNat, hv⟩
        ∗ owes (c : Thread nD τ) 0 W
        ∗ ((pt c mGs G ∗ pt c mAct A ∗ pt c mSt S
            ∗ semVal ((c : Thread nD τ), cellR ⟨(Scalar.remsi (Scf.iv 0#32 1#32 t1.val) 8#32).toNat, hk⟩) 0
            ∗ (mRing.view.loc (c : Thread nD τ) ↦[(slotM ⟨(Scalar.remsi (Scf.iv 0#32 1#32 t1.val) 8#32).toNat, hk⟩).view.set]{fullShare} ringB c fW ⟨v.toNat, hv⟩)
            ∗ tokW c fW ⟨(Scalar.remsi (Scf.iv 0#32 1#32 t1.val) 8#32).toNat, hk⟩ Finset.univ ∗ ∃ W', owes (c : Thread nD τ) 0 W')
          -∗ Q ⟨Scf.iv 0#32 1#32 t1.val, v, Scalar.remsi (Scf.iv 0#32 1#32 t1.val) 8#32, f, s, h43, Scalar.addi f s, baseW f, nwinW f s, 0#32⟩))
      ⊢ wpc c (k0_part3 (F := F) aGs (Memref.isWhole_whole _) aX (Memref.isWhole_whole _) aXs (Memref.isWhole_whole _) aW (Memref.isWhole_whole _) aWs (Memref.isWhole_whole _) mOut (Memref.isWhole_whole _) mGs (Memref.isWhole_whole _) mAct (Memref.isWhole_whole _) mSt (Memref.isWhole_whole _) mX (Memref.isWhole_whole _) mXs (Memref.isWhole_whole _) mWs (Memref.isWhole_whole _) mRing (Memref.isWhole_whole _) cc0_scratch7 cc0_scratch8 cc0_scratch9 cc0_scratch10 cc0_scratch11 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) hw 0#32 1#32 t1) Q := by
  have h41 : k0_chk41 v := inb_word hv
  have h42 : k0_chk42 v := ⟨inb_blk hv, fun inb => words_blk inb⟩
  have o56 : k0_off56 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 0 = t1.val := iv_toNat (by omega)
  have o58 : k0_off58 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 0 = t1.val := iv_toNat (by omega)
  iintro ⟨HG, HA, HS, Hk, HO, HQ⟩
  icases Hk with ⟨⟨%f0, Hfl⟩, Htok⟩
  unfold k0_part3
  iapply (word_load c mAct A (v := v) (fun x => (read_act c A _ o56 ht x).trans hA)) $$ HA; iintro HA
  iapply (assume_run c h41)
  iapply (word_load c mSt S (v := f) (fun x => (read_st c S _ rfl hv x).trans hS)) $$ HS; iintro HS
  iapply (word_load c mGs G (v := s) (fun x => (read_gs c G _ rfl hv x).trans hG)) $$ HG; iintro HG
  iapply (assume_run c h43)
  iapply (word_load c mAct A (v := v) (fun x => (read_act c A _ o58 ht x).trans hA)) $$ HA; iintro HA
  iapply (assume_run c h42)
  unfold wpc
  sl_exec
  sl_step
  iapply HQ
  isplitl [HG]; · iexact HG
  isplitl [HA]; · iexact HA
  isplitl [HS]; · iexact HS
  isplitl [Hfl]; · iexact Hfl
  isplitl [Hfl_dst]; · rw [← landed c fW _ _ f0]; iexact Hfl_dst
  isplitl [Htok]; · iexact Htok
  iexists _; iexact HO

/-! ## The result after each group -/

section

variable (c : Dev nD) (fW : BufOf F c aW) (X : BufOf F c mX) (Xs : BufOf F c mXs) (Ws : BufOf F c mWs)

/-- The result after group `e`'s windows. -/
def groupF (g : Nat → BitVec 32) (e : Fin 32) (O : BufOf F c mOut) : BufOf F c mOut :=
  winsF c fW X Xs Ws e (BitVec.ofNat 32 e.val) (rowW g e.val) (g e.val) O (k0_t2_loop (rowW g e.val) (g e.val)).trips

/-- The result after the first `i` nonempty groups. -/
def outF (g : Nat → BitVec 32) (O : BufOf F c mOut) : Nat → BufOf F c mOut
  | 0 => O
  | i + 1 => groupF c fW X Xs Ws g (actF g i) (outF g O i)

end

/-- What holds before trip `i` of the outer loop. -/
abbrev tripI (c : Dev nD) (g : Nat → BitVec 32) (fW : BufOf F c aW) (G : BufOf F c mGs) (A : BufOf F c mAct) (S : BufOf F c mSt)
    (X : BufOf F c mX) (Xs : BufOf F c mXs) (Ws : BufOf F c mWs) (O : BufOf F c mOut) (i : Nat) : sProp 𝕄 :=
  iprop(pt c mGs G ∗ pt c mAct A ∗ pt c mSt S ∗ (pt c mX X ∗ pt c mXs Xs ∗ pt c mWs Ws ∗ pt c mOut (outF c fW X Xs Ws g O i))
    ∗ Ring.AtW (ΦR c fW) (stR g i (min (cnt g 32) (i + 8))) ∗ ∃ W, owes (c : Thread nD τ) 0 W)

theorem trip_step (c : Dev nD) {g : Nat → BitVec 32} (hg : Fits g) (hw : k0_chk40 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)) (t1 : Fin (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips)
    (fW : BufOf F c aW) (G : BufOf F c mGs) (A : BufOf F c mAct) (S : BufOf F c mSt)
    (hG : ∀ e < 32, at32 G e = g e) (hA : PAct g (at32 A) 32) (hS : PSt g (at32 S) 32)
    (X : BufOf F c mX) (Xs : BufOf F c mXs) (Ws : BufOf F c mWs) (O : BufOf F c mOut) (acc : BitVec 32) :
    tripI c g fW G A S X Xs Ws O t1.val
      ⊢ wpc c (k0_t1_body (F := F) aGs (Memref.isWhole_whole _) aX (Memref.isWhole_whole _) aXs (Memref.isWhole_whole _) aW (Memref.isWhole_whole _) aWs (Memref.isWhole_whole _) mOut (Memref.isWhole_whole _) mGs (Memref.isWhole_whole _) mAct (Memref.isWhole_whole _) mSt (Memref.isWhole_whole _) mX (Memref.isWhole_whole _) mXs (Memref.isWhole_whole _) mWs (Memref.isWhole_whole _) mRing (Memref.isWhole_whole _) cc0_scratch7 cc0_scratch8 cc0_scratch9 cc0_scratch10 cc0_scratch11 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) hw t1 acc) (fun _ => tripI c g fW G A S X Xs Ws O (t1.val + 1)) := by
  have hi := t1_lt hg t1
  have hi32 := t1_lt32 hg t1
  obtain ⟨ha, hact, hcnt⟩ := act_spec hi
  have hk := slot_lt hg t1
  have hkv : (Scalar.remsi (Scf.iv 0#32 1#32 t1.val) 8#32).toNat = t1.val % 8 := slotW_toNat (by omega)
  have hv : (BitVec.ofNat 32 (act g t1.val)).toNat = act g t1.val := by rw [BitVec.toNat_ofNat]; omega
  have hv32 : (BitVec.ofNat 32 (act g t1.val)).toNat < 32 := by omega
  have hAv : at32 A t1.val = BitVec.ofNat 32 (act g t1.val) := by have := hA _ ha hact; rwa [hcnt] at this
  have hSv : at32 S (BitVec.ofNat 32 (act g t1.val)).toNat = rowW g (act g t1.val) := by rw [hv]; exact hS _ ha
  have hGv : at32 G (BitVec.ofNat 32 (act g t1.val)).toNat = g (act g t1.val) := by rw [hv]; exact hG _ ha
  have h43 := chk43 (v288 := BitVec.ofNat 32 (act g t1.val)) (v291 := rowW g (act g t1.val)) (v293 := g (act g t1.val)) t1 hk hv ha
    (rowW_toNat hg _ (by omega)) ((row_le hg _).trans (by omega)) rfl (hg _)
  have he : actF g t1.val = ⟨(BitVec.ofNat 32 (act g t1.val)).toNat, hv32⟩ := Fin.ext (by show act g t1.val % 32 = (BitVec.ofNat 32 (act g t1.val)).toNat; omega)
  have hlo : t1.val < min (cnt g 32) (t1.val + 8) := by omega
  have hst := stR_head g ⟨(Scalar.remsi (Scf.iv 0#32 1#32 t1.val) 8#32).toNat, hk⟩ hkv hlo
  have e1 : (Ring.AtW (ΦR c fW) (stR g t1.val (min (cnt g 32) (t1.val + 8))) : sProp 𝕄)
      = iprop(busyR c fW ⟨(Scalar.remsi (Scf.iv 0#32 1#32 t1.val) 8#32).toNat, hk⟩ ⟨(BitVec.ofNat 32 (act g t1.val)).toNat, hv32⟩
        ∗ Ring.restW (ΦR c fW) (stR g t1.val (min (cnt g 32) (t1.val + 8))) ⟨(Scalar.remsi (Scf.iv 0#32 1#32 t1.val) 8#32).toNat, hk⟩) := by
    rw [slot_focus c fW _ ⟨(Scalar.remsi (Scf.iv 0#32 1#32 t1.val) 8#32).toNat, hk⟩, hst, he]; rfl
  unfold tripI k0_t1_body wpc
  rw [e1, wp_bind]
  iintro ⟨HG, HA, HS, HV, ⟨Hk, Hrest⟩, %W, HO⟩
  iapply (part3_run c hw t1 hi32 hv32 G A S hAv hSv hGv h43 hk fW W)
  isplitl [HG]; · iexact HG
  isplitl [HA]; · iexact HA
  isplitl [HS]; · iexact HS
  isplitl [Hk]; · iexact Hk
  isplitl [HO]; · iexact HO
  iintro ⟨HG, HA, HS, Hcell, Hslot, Htok, HO⟩
  iapply (wins_run c g t1 h43 fW ⟨(Scalar.remsi (Scf.iv 0#32 1#32 t1.val) 8#32).toNat, hk⟩ ⟨(BitVec.ofNat 32 (act g t1.val)).toNat, hv32⟩ rfl X Xs Ws
    (outF c fW X Xs Ws g O t1.val) _) $$ [HV Hslot]
  · icases HV with ⟨H1, H2, H3, H4⟩
    isplitl [H1]; · iexact H1
    isplitl [H2]; · iexact H2
    isplitl [H3]; · iexact H3
    isplitl [H4]; · iexact H4
    iexact Hslot
  iintro %acc2 ⟨H1, H2, H3, H4, Hslot⟩
  ihave HR := (Ring.AtW_update (ΦR c fW) _ _ none) $$ [Hrest Hcell Hslot Htok]
  · isplitr [Hrest]
    · simp only [ΦR]
      isplitl [Hcell]; · iexact Hcell
      isplitl [Hslot]; · iexists _; iexact Hslot
      iexact Htok
    · iexact Hrest
  unfold wpc
  sl_exec
  have hdr := stR_drain g ⟨(Scalar.remsi (Scf.iv 0#32 1#32 t1.val) 8#32).toNat, hk⟩ hkv hlo (by omega)
  have hO : winsF c fW X Xs Ws ⟨(BitVec.ofNat 32 (act g t1.val)).toNat, hv32⟩ (BitVec.ofNat 32 (act g t1.val)) (rowW g (act g t1.val))
      (g (act g t1.val)) (outF c fW X Xs Ws g O t1.val) (k0_t2_loop (rowW g (act g t1.val)) (g (act g t1.val))).trips
      = outF c fW X Xs Ws g O (t1.val + 1) := by
    show _ = groupF c fW X Xs Ws g (actF g t1.val) _
    unfold groupF
    rw [he]; simp only [hv]
  by_cases h9 : k0_cond9 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 = 1#1
  · have hi8 : t1.val + 8 < cnt g 32 := (cond9 hg t1).mp h9
    obtain ⟨ha', hact', hcnt'⟩ := act_spec hi8
    have hv' : (BitVec.ofNat 32 (act g (t1.val + 8))).toNat = act g (t1.val + 8) := by rw [BitVec.toNat_ofNat]; omega
    have hv32' : (BitVec.ofNat 32 (act g (t1.val + 8))).toNat < 32 := by omega
    have hn := cnt_le g 32
    have hAv' : at32 A (t1.val + 8) = BitVec.ofNat 32 (act g (t1.val + 8)) := by have := hA _ ha' hact'; rwa [hcnt'] at this
    have o84 : k0_off84 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 0 = t1.val + 8 := aheadW_toNat (by omega)
    have hkv' : (Scalar.remsi (Scalar.addi (Scf.iv 0#32 1#32 t1.val) 8#32) 8#32).toNat = (t1.val + 8) % 8 := slotAheadW_toNat (by omega)
    have hk' : (Scalar.remsi (Scalar.addi (Scf.iv 0#32 1#32 t1.val) 8#32) 8#32).toNat < 8 := by omega
    have he' : actF g (t1.val + 8) = ⟨(BitVec.ofNat 32 (act g (t1.val + 8))).toNat, hv32'⟩ :=
      Fin.ext (by show act g (t1.val + 8) % 32 = (BitVec.ofNat 32 (act g (t1.val + 8))).toNat; omega)
    have h44 : k0_chk44 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 (BitVec.ofNat 32 (act g (t1.val + 8))) := ⟨fun _ => inb_blk hv32', fun _ inb => words_blk inb⟩
    have hm1 : min (cnt g 32) (t1.val + 8) = t1.val + 8 := by omega
    have hm2 : min (cnt g 32) (t1.val + 1 + 8) = t1.val + 8 + 1 := by omega
    have hnx := stR_next g ⟨(Scalar.remsi (Scalar.addi (Scf.iv 0#32 1#32 t1.val) 8#32) 8#32).toNat, hk'⟩ (lo := t1.val + 1) (hi := t1.val + 8) hkv' (by omega) (by omega)
    have his := stR_issue g ⟨(Scalar.remsi (Scalar.addi (Scf.iv 0#32 1#32 t1.val) 8#32) 8#32).toNat, hk'⟩ (lo := t1.val + 1) (hi := t1.val + 8) hkv' (by omega) (by omega)
    rw [hm1] at hdr
    rw [hm1, hdr, hO, hm2, ← his, he', dif_pos h9]
    iapply (word_load c mAct A (v := BitVec.ofNat 32 (act g (t1.val + 8))) (fun x => (read_act c A _ o84 (by omega) x).trans hAv')) $$ HA; iintro HA
    iapply (assume_run c h44)
    iapply (issue_run c fW _ ⟨(Scalar.remsi (Scalar.addi (Scf.iv 0#32 1#32 t1.val) 8#32) 8#32).toNat, hk'⟩ ⟨(BitVec.ofNat 32 (act g (t1.val + 8))).toNat, hv32'⟩
      hnx rfl rfl rfl) $$ HR
    iintro HR
    unfold wpc
    sl_exec
    sl_step
    isplitl [HG]; · iexact HG
    isplitl [HA]; · iexact HA
    isplitl [HS]; · iexact HS
    isplitl [H1 H2 H3 H4]
    · isplitl [H1]; · iexact H1
      isplitl [H2]; · iexact H2
      isplitl [H3]; · iexact H3
      iexact H4
    isplitl [HR]; · iexact HR
    iexact HO
  · have hi8 : ¬ t1.val + 8 < cnt g 32 := fun h => h9 ((cond9 hg t1).mpr h)
    have hm : min (cnt g 32) (t1.val + 1 + 8) = min (cnt g 32) (t1.val + 8) := by omega
    rw [hdr, hO, hm, dif_neg h9]
    sl_exec
    sl_step
    isplitl [HG]; · iexact HG
    isplitl [HA]; · iexact HA
    isplitl [HS]; · iexact HS
    isplitl [H1 H2 H3 H4]
    · isplitl [H1]; · iexact H1
      isplitl [H2]; · iexact H2
      isplitl [H3]; · iexact H3
      iexact H4
    isplitl [HR]; · iexact HR
    iexact HO

end Cert.Kernel.Hand

end
-- ==== Proof.Kernel.Tail.lean ====
/-
The lists' entries as they are written, the first eight copies, and the outer loop.
-/
module
public import proofs.«01_k».proof.Proof.Kernel.Trip
public import Idealize.ShloMosaic.Lib.CellWrites

@[expose] public section

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Writing the lists -/

theorem at32_writes (v : View sig .tc .smem S32 .i32) (f : v.ty.Contents (Elt F)) (L : List _) {off : Fin 1 → Nat}
    (inb : ∀ a, off a + S1.size a ≤ S32.size a) (w : BitVec 32) (i : Nat) (hi : i < 32) :
    at32 (v.read (Elt F) (v.writes (Elt F) f (⟨Rect.unit (s := S32) off S1.size inb, fun _ => w⟩ :: L))) i
      = if off 0 = i then w else at32 (v.read (Elt F) (v.writes (Elt F) f L)) i := by
  have e : i % 32 = i := Nat.mod_eq_of_lt hi
  refine (View.read_writes_cons_cell (d := ![32]) v f inb w L (fun a => ⟨i % 32, by
    have h : S32.size a = 32 := match a with | ⟨0, _⟩ => rfl
    show i % 32 < S32.size a
    rw [h]; exact Nat.mod_lt _ (by decide)⟩)).trans ?_
  show (if i % 32 = off 0 then w else at32 (v.read (Elt F) (v.writes (Elt F) f L)) i) = _
  by_cases h : off 0 = i
  · rw [if_pos h, if_pos (e.trans h.symm)]
  · rw [if_neg h, if_neg (fun h' => h (h'.symm.trans e))]

theorem at32_act (c : Dev nD) (A : BufOf F c mAct) (L : List _) {off : Fin 1 → Nat} (inb : ∀ a, off a + S1.size a ≤ S32.size a) (w : BitVec 32)
    (i : Nat) (hi : i < 32) :
    at32 (mAct.view.writes (Elt F) A (⟨Rect.unit (s := S32) off S1.size inb, fun _ => w⟩ :: L)) i
      = if off 0 = i then w else at32 (mAct.view.writes (Elt F) A L) i := at32_writes mAct.view A L inb w i hi

theorem at32_st (c : Dev nD) (A : BufOf F c mSt) (L : List _) {off : Fin 1 → Nat} (inb : ∀ a, off a + S1.size a ≤ S32.size a) (w : BitVec 32)
    (i : Nat) (hi : i < 32) :
    at32 (mSt.view.writes (Elt F) A (⟨Rect.unit (s := S32) off S1.size inb, fun _ => w⟩ :: L)) i
      = if off 0 = i then w else at32 (mSt.view.writes (Elt F) A L) i := at32_writes mSt.view A L inb w i hi

theorem PAct_nil (g : Nat → BitVec 32) (A : Nat → BitVec 32) : PAct g A 0 := fun e he => absurd he (Nat.not_lt_zero e)
theorem PSt_nil (g : Nat → BitVec 32) (A : Nat → BitVec 32) : PSt g A 0 := fun e he => absurd he (Nat.not_lt_zero e)

/-- Group `k` is written at the end of the list; the next group overwrites it if it is empty. -/
theorem PAct_cons (c : Dev nD) {g : Nat → BitVec 32} (hg : Fits g) (A : BufOf F c mAct) {L : List _} {k : Nat} (hk : k < 32)
    {off : Fin 1 → Nat} {inb : ∀ a, off a + S1.size a ≤ S32.size a} {w : BitVec 32} (ho : off 0 = (cntW g k).toNat) (hw : w = BitVec.ofNat 32 k)
    (h : PAct g (at32 (mAct.view.writes (Elt F) A L)) k) :
    PAct g (at32 (mAct.view.writes (Elt F) A (⟨Rect.unit (s := S32) off S1.size inb, fun _ => w⟩ :: L))) (k + 1) := by
  intro e he ha
  rw [cntW_toNat hg k (by omega)] at ho
  have h1 := cnt_le g e
  rw [at32_act c A L inb w _ (by omega), ho]
  by_cases hek : e = k
  · subst hek; rw [if_pos rfl, hw]
  · have hlt : e < k := by omega
    have : cnt g e < cnt g k := by
      have h2 : cnt g (e + 1) = cnt g e + 1 := by unfold cnt; rw [Nat.count_succ, if_pos ha]
      have h3 : cnt g (e + 1) ≤ cnt g k := Nat.count_monotone _ hlt
      omega
    rw [if_neg (by omega)]
    exact h e hlt ha

/-- Group `k`'s first row is written at `k`. -/
theorem PSt_cons (c : Dev nD) {g : Nat → BitVec 32} (A : BufOf F c mSt) {L : List _} {k : Nat} (hk : k < 32)
    {off : Fin 1 → Nat} {inb : ∀ a, off a + S1.size a ≤ S32.size a} {w : BitVec 32} (ho : off 0 = k) (hw : w = rowW g k)
    (h : PSt g (at32 (mSt.view.writes (Elt F) A L)) k) :
    PSt g (at32 (mSt.view.writes (Elt F) A (⟨Rect.unit (s := S32) off S1.size inb, fun _ => w⟩ :: L))) (k + 1) := by
  intro e he
  refine (at32_st c A L inb w e (by omega)).trans ?_
  rw [ho]
  by_cases hek : e = k
  · subst hek; rw [if_pos rfl, hw]
  · rw [if_neg (by omega)]
    exact h e (by omega)

/-! ## The first eight copies -/

theorem part15_run (c : Dev nD) {g : Nat → BitVec 32} (hg : Fits g) (hw31 : k0_chk31 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30)) (fW : BufOf F c aW)
    (A : BufOf F c mAct) (hA : PAct g (at32 A) 31) (O : BufOf F c mOut) {Q : _ → sProp 𝕄} :
    iprop(pt c mAct A ∗ Ring.AtW (ΦR c fW) (fun _ => none) ∗ pt c mOut O
        ∗ (∀ (w : BitVec 32) (A' : BufOf F c mAct), ⌜PAct g (at32 A') 32⌝ -∗ pt c mAct A' ∗ Ring.AtW (ΦR c fW) (stR g 0 (min (cnt g 32) 8)) ∗ pt c mOut O
            -∗ Q ⟨w, k0_pay21⟩))
      ⊢ wpc c (k0_part15 (F := F) aGs (Memref.isWhole_whole _) aX (Memref.isWhole_whole _) aXs (Memref.isWhole_whole _) aW (Memref.isWhole_whole _) aWs (Memref.isWhole_whole _) mOut (Memref.isWhole_whole _) mGs (Memref.isWhole_whole _) mAct (Memref.isWhole_whole _) mSt (Memref.isWhole_whole _) mX (Memref.isWhole_whole _) mXs (Memref.isWhole_whole _) mWs (Memref.isWhole_whole _) mRing (Memref.isWhole_whole _) cc0_scratch7 cc0_scratch8 cc0_scratch9 cc0_scratch10 cc0_scratch11 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) hw31 (cntW g 31) (g 31) 31#32) Q := by
  have h0 : stR g 0 (min (cnt g 32) 0) = fun _ => none := by rw [Nat.min_zero]; exact stR_self g 0
  rw [← h0]
  iintro ⟨HA, HR, HO, HQ⟩
  rw [k0_part15_eq_skeleton]
  unfold k0_part15_skel wpc
  sl_exec
  have hA' := PAct_cons (F := F) c hg A (L := []) (k := 31) (by decide) (off := k0_off31 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30)) (inb := k0_off31_inb (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) hw31) (w := 31#32) rfl rfl hA
  iapply (issue_if c fW _ hA' (i := 0) (by decide) (conds hg).1 (chk := k0_chk32 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31))
    (fun v hv => ⟨fun _ => inb_blk hv, fun _ inb => words_blk inb⟩) rfl rfl rfl (fun _ => rfl)) $$ [HA HR]
  · isplitl [HA] <;> iassumption
  iintro ⟨HA, HR⟩
  iapply (issue_if c fW _ hA' (i := 1) (by decide) (conds hg).2.1 (chk := k0_chk33 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31))
    (fun v hv => ⟨fun _ => inb_blk hv, fun _ inb => words_blk inb⟩) rfl rfl rfl (fun _ => rfl)) $$ [HA HR]
  · isplitl [HA] <;> iassumption
  iintro ⟨HA, HR⟩
  iapply (issue_if c fW _ hA' (i := 2) (by decide) (conds hg).2.2.1 (chk := k0_chk34 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31))
    (fun v hv => ⟨fun _ => inb_blk hv, fun _ inb => words_blk inb⟩) rfl rfl rfl (fun _ => rfl)) $$ [HA HR]
  · isplitl [HA] <;> iassumption
  iintro ⟨HA, HR⟩
  iapply (issue_if c fW _ hA' (i := 3) (by decide) (conds hg).2.2.2.1 (chk := k0_chk35 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31))
    (fun v hv => ⟨fun _ => inb_blk hv, fun _ inb => words_blk inb⟩) rfl rfl rfl (fun _ => rfl)) $$ [HA HR]
  · isplitl [HA] <;> iassumption
  iintro ⟨HA, HR⟩
  iapply (issue_if c fW _ hA' (i := 4) (by decide) (conds hg).2.2.2.2.1 (chk := k0_chk36 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31))
    (fun v hv => ⟨fun _ => inb_blk hv, fun _ inb => words_blk inb⟩) rfl rfl rfl (fun _ => rfl)) $$ [HA HR]
  · isplitl [HA] <;> iassumption
  iintro ⟨HA, HR⟩
  iapply (issue_if c fW _ hA' (i := 5) (by decide) (conds hg).2.2.2.2.2.1 (chk := k0_chk37 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31))
    (fun v hv => ⟨fun _ => inb_blk hv, fun _ inb => words_blk inb⟩) rfl rfl rfl (fun _ => rfl)) $$ [HA HR]
  · isplitl [HA] <;> iassumption
  iintro ⟨HA, HR⟩
  iapply (issue_if c fW _ hA' (i := 6) (by decide) (conds hg).2.2.2.2.2.2.1 (chk := k0_chk38 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31))
    (fun v hv => ⟨fun _ => inb_blk hv, fun _ inb => words_blk inb⟩) rfl rfl rfl (fun _ => rfl)) $$ [HA HR]
  · isplitl [HA] <;> iassumption
  iintro ⟨HA, HR⟩
  iapply (issue_if c fW _ hA' (i := 7) (by decide) (conds hg).2.2.2.2.2.2.2 (chk := k0_chk39 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31))
    (fun v hv => ⟨fun _ => inb_blk hv, fun _ inb => words_blk inb⟩) rfl rfl rfl (fun _ => rfl)) $$ [HA HR]
  · isplitl [HA] <;> iassumption
  iintro ⟨HA, HR⟩
  unfold wpc
  sl_exec
  sl_step
  iapply HQ $$ %_ %_ %hA' [HA HR HO]
  isplitl [HA]; · iexact HA
  isplitl [HR]; · iexact HR
  iexact HO

end Cert.Kernel.Hand

end
-- ==== Proof.Kernel.Stages.lean ====
/-
The last two stages of the kernel, over the 32 words the program read as the group sizes.
-/
module
public import proofs.«01_k».proof.Proof.Kernel.Tail
public import Idealize.ShloMosaic.Lib.LoopRemainder

@[expose] public section

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The words are the group sizes `g`. -/
abbrev Words32 (g : Nat → BitVec 32) (w0 w1 w2 w3 w4 w5 w6 w7 w8 w9 w10 w11 w12 w13 w14 w15 w16 w17 w18 w19 w20 w21 w22 w23 w24 w25 w26 w27 w28 w29 w30 w31 : BitVec 32) : Prop := w0 = g 0 ∧ w1 = g 1 ∧ w2 = g 2 ∧ w3 = g 3 ∧ w4 = g 4 ∧ w5 = g 5 ∧ w6 = g 6 ∧ w7 = g 7 ∧ w8 = g 8 ∧ w9 = g 9 ∧ w10 = g 10 ∧ w11 = g 11 ∧ w12 = g 12 ∧ w13 = g 13 ∧ w14 = g 14 ∧ w15 = g 15 ∧ w16 = g 16 ∧ w17 = g 17 ∧ w18 = g 18 ∧ w19 = g 19 ∧ w20 = g 20 ∧ w21 = g 21 ∧ w22 = g 22 ∧ w23 = g 23 ∧ w24 = g 24 ∧ w25 = g 25 ∧ w26 = g 26 ∧ w27 = g 27 ∧ w28 = g 28 ∧ w29 = g 29 ∧ w30 = g 30 ∧ w31 = g 31

/-- The end of the list and the first copies, over the words read. -/
theorem part15_w (c : Dev nD) {g : Nat → BitVec 32} (hg : Fits g) {w0 w1 w2 w3 w4 w5 w6 w7 w8 w9 w10 w11 w12 w13 w14 w15 w16 w17 w18 w19 w20 w21 w22 w23 w24 w25 w26 w27 w28 w29 w30 w31 v : BitVec 32} (hw31 : k0_chk31 w0 w1 w2 w3 w4 w5 w6 w7 w8 w9 w10 w11 w12 w13 w14 w15 w16 w17 w18 w19 w20 w21 w22 w23 w24 w25 w26 w27 w28 w29 w30) (fW : BufOf F c aW)
    (e : Words32 g w0 w1 w2 w3 w4 w5 w6 w7 w8 w9 w10 w11 w12 w13 w14 w15 w16 w17 w18 w19 w20 w21 w22 w23 w24 w25 w26 w27 w28 w29 w30 w31) (hv : v = cntW g 31) (A : BufOf F c mAct) (hA : PAct g (at32 A) 31) (O : BufOf F c mOut) {Q : _ → sProp 𝕄} :
    iprop(pt c mAct A ∗ Ring.AtW (ΦR c fW) (fun _ => none) ∗ pt c mOut O
        ∗ (∀ (w : BitVec 32) (A' : BufOf F c mAct), ⌜PAct g (at32 A') 32⌝ -∗ pt c mAct A' ∗ Ring.AtW (ΦR c fW) (stR g 0 (min (cnt g 32) 8)) ∗ pt c mOut O
            -∗ Q ⟨w, k0_pay21⟩))
      ⊢ wpc c (k0_part15 (F := F) aGs (Memref.isWhole_whole _) aX (Memref.isWhole_whole _) aXs (Memref.isWhole_whole _) aW (Memref.isWhole_whole _) aWs (Memref.isWhole_whole _) mOut (Memref.isWhole_whole _) mGs (Memref.isWhole_whole _) mAct (Memref.isWhole_whole _) mSt (Memref.isWhole_whole _) mX (Memref.isWhole_whole _) mXs (Memref.isWhole_whole _) mWs (Memref.isWhole_whole _) mRing (Memref.isWhole_whole _) cc0_scratch7 cc0_scratch8 cc0_scratch9 cc0_scratch10 cc0_scratch11 w0 w1 w2 w3 w4 w5 w6 w7 w8 w9 w10 w11 w12 w13 w14 w15 w16 w17 w18 w19 w20 w21 w22 w23 w24 w25 w26 w27 w28 w29 w30 hw31 v w31 31#32) Q := by
  obtain ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ := e
  subst hv
  exact part15_run c hg hw31 fW A hA O

/-- The loop over the active groups, over the words read. -/
theorem loop_w (c : Dev nD) {g : Nat → BitVec 32} (hg : Fits g) {w0 w1 w2 w3 w4 w5 w6 w7 w8 w9 w10 w11 w12 w13 w14 w15 w16 w17 w18 w19 w20 w21 w22 w23 w24 w25 w26 w27 w28 w29 w30 w31 : BitVec 32} (hw : k0_chk40 w0 w1 w2 w3 w4 w5 w6 w7 w8 w9 w10 w11 w12 w13 w14 w15 w16 w17 w18 w19 w20 w21 w22 w23 w24 w25 w26 w27 w28 w29 w30 w31) (e : Words32 g w0 w1 w2 w3 w4 w5 w6 w7 w8 w9 w10 w11 w12 w13 w14 w15 w16 w17 w18 w19 w20 w21 w22 w23 w24 w25 w26 w27 w28 w29 w30 w31)
    (fW : BufOf F c aW) (G : BufOf F c mGs) (A : BufOf F c mAct) (S : BufOf F c mSt)
    (hG : ∀ e < 32, at32 G e = g e) (hA : PAct g (at32 A) 32) (hS : PSt g (at32 S) 32)
    (X : BufOf F c mX) (Xs : BufOf F c mXs) (Ws : BufOf F c mWs) (O : BufOf F c mOut) {kk : BitVec 32 → Prog (TpuEff nD τ sig (Elt F) Λ₀ .tc) PUnit}
    {Q : PUnit → sProp 𝕄} :
    iprop(tripI c g fW G A S X Xs Ws O 0 ∗ (∀ acc, tripI c g fW G A S X Xs Ws O (cnt g 32) -∗ wpc c (kk acc) Q))
      ⊢ wpc c (Scf.Loop.for (k0_t1_loop w0 w1 w2 w3 w4 w5 w6 w7 w8 w9 w10 w11 w12 w13 w14 w15 w16 w17 w18 w19 w20 w21 w22 w23 w24 w25 w26 w27 w28 w29 w30 w31) (k0_t1_ok w0 w1 w2 w3 w4 w5 w6 w7 w8 w9 w10 w11 w12 w13 w14 w15 w16 w17 w18 w19 w20 w21 w22 w23 w24 w25 w26 w27 w28 w29 w30 w31 hw) 0#32 (k0_t1_body (F := F) aGs (Memref.isWhole_whole _) aX (Memref.isWhole_whole _) aXs (Memref.isWhole_whole _) aW (Memref.isWhole_whole _) aWs (Memref.isWhole_whole _) mOut (Memref.isWhole_whole _) mGs (Memref.isWhole_whole _) mAct (Memref.isWhole_whole _) mSt (Memref.isWhole_whole _) mX (Memref.isWhole_whole _) mXs (Memref.isWhole_whole _) mWs (Memref.isWhole_whole _) mRing (Memref.isWhole_whole _) cc0_scratch7 cc0_scratch8 cc0_scratch9 cc0_scratch10 cc0_scratch11 w0 w1 w2 w3 w4 w5 w6 w7 w8 w9 w10 w11 w12 w13 w14 w15 w16 w17 w18 w19 w20 w21 w22 w23 w24 w25 w26 w27 w28 w29 w30 w31 hw) >>= kk) Q := by
  obtain ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ := e
  have ht := t1_trips hg
  iintro ⟨HI, HK⟩
  unfold wpc
  iapply (Scf.wp_for_bind frame (wpE (defs₀ (F := F)) Variants.none (c : Thread nD τ) none) Set.univ _ _ _ (k0_t1_ok (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) hw) 0#32
    (k0_t1_body (F := F) aGs (Memref.isWhole_whole _) aX (Memref.isWhole_whole _) aXs (Memref.isWhole_whole _) aW (Memref.isWhole_whole _) aWs (Memref.isWhole_whole _) mOut (Memref.isWhole_whole _) mGs (Memref.isWhole_whole _) mAct (Memref.isWhole_whole _) mSt (Memref.isWhole_whole _) mX (Memref.isWhole_whole _) mXs (Memref.isWhole_whole _) mWs (Memref.isWhole_whole _) mRing (Memref.isWhole_whole _) cc0_scratch7 cc0_scratch8 cc0_scratch9 cc0_scratch10 cc0_scratch11 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) hw) (fun i _ => tripI c g fW G A S X Xs Ws O i)
    (fun t acc => trip_step c hg hw t fW G A S hG hA hS X Xs Ws O acc)) $$ HI
  iintro %acc HI
  iapply HK $$ %acc [HI]
  rw [← ht]
  iexact HI

end Cert.Kernel.Hand

end
-- ==== Proof.Kernel.Entries.lean ====
/-
What the two lists hold after the straight-line stores, over the 32 words the program read as the group sizes.
-/
module
public import proofs.«01_k».proof.Proof.Kernel.Stages

@[expose] public section

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem inbAt (k : Nat) : ∀ a, (![k % 32] : Fin 1 → Nat) a + S1.size a ≤ S32.size a := by
  intro a; fin_cases a; show k % 32 + 1 ≤ 32; omega

/-- The first 31 entries written into the list of active groups. -/
theorem act_w (c : Dev nD) {g : Nat → BitVec 32} (hg : Fits g) {w0 w1 w2 w3 w4 w5 w6 w7 w8 w9 w10 w11 w12 w13 w14 w15 w16 w17 w18 w19 w20 w21 w22 w23 w24 w25 w26 w27 w28 w29 w30 w31 : BitVec 32} (e : Words32 g w0 w1 w2 w3 w4 w5 w6 w7 w8 w9 w10 w11 w12 w13 w14 w15 w16 w17 w18 w19 w20 w21 w22 w23 w24 w25 w26 w27 w28 w29 w30 w31) (a : BufOf F c mAct)
    {i0 : ∀ a, (![0] : Fin 1 → Nat) a + S1.size a ≤ S32.size a}
    {i1 : ∀ a, (k0_off1 w0 : Fin 1 → Nat) a + S1.size a ≤ S32.size a}
    {i2 : ∀ a, (k0_off2 w0 w1 : Fin 1 → Nat) a + S1.size a ≤ S32.size a}
    {i3 : ∀ a, (k0_off3 w0 w1 w2 : Fin 1 → Nat) a + S1.size a ≤ S32.size a}
    {i4 : ∀ a, (k0_off4 w0 w1 w2 w3 : Fin 1 → Nat) a + S1.size a ≤ S32.size a}
    {i5 : ∀ a, (k0_off5 w0 w1 w2 w3 w4 : Fin 1 → Nat) a + S1.size a ≤ S32.size a}
    {i6 : ∀ a, (k0_off6 w0 w1 w2 w3 w4 w5 : Fin 1 → Nat) a + S1.size a ≤ S32.size a}
    {i7 : ∀ a, (k0_off7 w0 w1 w2 w3 w4 w5 w6 : Fin 1 → Nat) a + S1.size a ≤ S32.size a}
    {i8 : ∀ a, (k0_off8 w0 w1 w2 w3 w4 w5 w6 w7 : Fin 1 → Nat) a + S1.size a ≤ S32.size a}
    {i9 : ∀ a, (k0_off9 w0 w1 w2 w3 w4 w5 w6 w7 w8 : Fin 1 → Nat) a + S1.size a ≤ S32.size a}
    {i10 : ∀ a, (k0_off10 w0 w1 w2 w3 w4 w5 w6 w7 w8 w9 : Fin 1 → Nat) a + S1.size a ≤ S32.size a}
    {i11 : ∀ a, (k0_off11 w0 w1 w2 w3 w4 w5 w6 w7 w8 w9 w10 : Fin 1 → Nat) a + S1.size a ≤ S32.size a}
    {i12 : ∀ a, (k0_off12 w0 w1 w2 w3 w4 w5 w6 w7 w8 w9 w10 w11 : Fin 1 → Nat) a + S1.size a ≤ S32.size a}
    {i13 : ∀ a, (k0_off13 w0 w1 w2 w3 w4 w5 w6 w7 w8 w9 w10 w11 w12 : Fin 1 → Nat) a + S1.size a ≤ S32.size a}
    {i14 : ∀ a, (k0_off14 w0 w1 w2 w3 w4 w5 w6 w7 w8 w9 w10 w11 w12 w13 : Fin 1 → Nat) a + S1.size a ≤ S32.size a}
    {i15 : ∀ a, (k0_off15 w0 w1 w2 w3 w4 w5 w6 w7 w8 w9 w10 w11 w12 w13 w14 : Fin 1 → Nat) a + S1.size a ≤ S32.size a}
    {i16 : ∀ a, (k0_off16 w0 w1 w2 w3 w4 w5 w6 w7 w8 w9 w10 w11 w12 w13 w14 w15 : Fin 1 → Nat) a + S1.size a ≤ S32.size a}
    {i17 : ∀ a, (k0_off17 w0 w1 w2 w3 w4 w5 w6 w7 w8 w9 w10 w11 w12 w13 w14 w15 w16 : Fin 1 → Nat) a + S1.size a ≤ S32.size a}
    {i18 : ∀ a, (k0_off18 w0 w1 w2 w3 w4 w5 w6 w7 w8 w9 w10 w11 w12 w13 w14 w15 w16 w17 : Fin 1 → Nat) a + S1.size a ≤ S32.size a}
    {i19 : ∀ a, (k0_off19 w0 w1 w2 w3 w4 w5 w6 w7 w8 w9 w10 w11 w12 w13 w14 w15 w16 w17 w18 : Fin 1 → Nat) a + S1.size a ≤ S32.size a}
    {i20 : ∀ a, (k0_off20 w0 w1 w2 w3 w4 w5 w6 w7 w8 w9 w10 w11 w12 w13 w14 w15 w16 w17 w18 w19 : Fin 1 → Nat) a + S1.size a ≤ S32.size a}
    {i21 : ∀ a, (k0_off21 w0 w1 w2 w3 w4 w5 w6 w7 w8 w9 w10 w11 w12 w13 w14 w15 w16 w17 w18 w19 w20 : Fin 1 → Nat) a + S1.size a ≤ S32.size a}
    {i22 : ∀ a, (k0_off22 w0 w1 w2 w3 w4 w5 w6 w7 w8 w9 w10 w11 w12 w13 w14 w15 w16 w17 w18 w19 w20 w21 : Fin 1 → Nat) a + S1.size a ≤ S32.size a}
    {i23 : ∀ a, (k0_off23 w0 w1 w2 w3 w4 w5 w6 w7 w8 w9 w10 w11 w12 w13 w14 w15 w16 w17 w18 w19 w20 w21 w22 : Fin 1 → Nat) a + S1.size a ≤ S32.size a}
    {i24 : ∀ a, (k0_off24 w0 w1 w2 w3 w4 w5 w6 w7 w8 w9 w10 w11 w12 w13 w14 w15 w16 w17 w18 w19 w20 w21 w22 w23 : Fin 1 → Nat) a + S1.size a ≤ S32.size a}
    {i25 : ∀ a, (k0_off25 w0 w1 w2 w3 w4 w5 w6 w7 w8 w9 w10 w11 w12 w13 w14 w15 w16 w17 w18 w19 w20 w21 w22 w23 w24 : Fin 1 → Nat) a + S1.size a ≤ S32.size a}
    {i26 : ∀ a, (k0_off26 w0 w1 w2 w3 w4 w5 w6 w7 w8 w9 w10 w11 w12 w13 w14 w15 w16 w17 w18 w19 w20 w21 w22 w23 w24 w25 : Fin 1 → Nat) a + S1.size a ≤ S32.size a}
    {i27 : ∀ a, (k0_off27 w0 w1 w2 w3 w4 w5 w6 w7 w8 w9 w10 w11 w12 w13 w14 w15 w16 w17 w18 w19 w20 w21 w22 w23 w24 w25 w26 : Fin 1 → Nat) a + S1.size a ≤ S32.size a}
    {i28 : ∀ a, (k0_off28 w0 w1 w2 w3 w4 w5 w6 w7 w8 w9 w10 w11 w12 w13 w14 w15 w16 w17 w18 w19 w20 w21 w22 w23 w24 w25 w26 w27 : Fin 1 → Nat) a + S1.size a ≤ S32.size a}
    {i29 : ∀ a, (k0_off29 w0 w1 w2 w3 w4 w5 w6 w7 w8 w9 w10 w11 w12 w13 w14 w15 w16 w17 w18 w19 w20 w21 w22 w23 w24 w25 w26 w27 w28 : Fin 1 → Nat) a + S1.size a ≤ S32.size a}
    {i30 : ∀ a, (k0_off30 w0 w1 w2 w3 w4 w5 w6 w7 w8 w9 w10 w11 w12 w13 w14 w15 w16 w17 w18 w19 w20 w21 w22 w23 w24 w25 w26 w27 w28 w29 : Fin 1 → Nat) a + S1.size a ≤ S32.size a} :
    PAct g (at32 (mAct.view.writes (Elt F) a [⟨Rect.unit (s := S32) (k0_off30 w0 w1 w2 w3 w4 w5 w6 w7 w8 w9 w10 w11 w12 w13 w14 w15 w16 w17 w18 w19 w20 w21 w22 w23 w24 w25 w26 w27 w28 w29) S1.size i30, fun _ => 30#32⟩,
      ⟨Rect.unit (s := S32) (k0_off29 w0 w1 w2 w3 w4 w5 w6 w7 w8 w9 w10 w11 w12 w13 w14 w15 w16 w17 w18 w19 w20 w21 w22 w23 w24 w25 w26 w27 w28) S1.size i29, fun _ => 29#32⟩,
      ⟨Rect.unit (s := S32) (k0_off28 w0 w1 w2 w3 w4 w5 w6 w7 w8 w9 w10 w11 w12 w13 w14 w15 w16 w17 w18 w19 w20 w21 w22 w23 w24 w25 w26 w27) S1.size i28, fun _ => 28#32⟩,
      ⟨Rect.unit (s := S32) (k0_off27 w0 w1 w2 w3 w4 w5 w6 w7 w8 w9 w10 w11 w12 w13 w14 w15 w16 w17 w18 w19 w20 w21 w22 w23 w24 w25 w26) S1.size i27, fun _ => 27#32⟩,
      ⟨Rect.unit (s := S32) (k0_off26 w0 w1 w2 w3 w4 w5 w6 w7 w8 w9 w10 w11 w12 w13 w14 w15 w16 w17 w18 w19 w20 w21 w22 w23 w24 w25) S1.size i26, fun _ => 26#32⟩,
      ⟨Rect.unit (s := S32) (k0_off25 w0 w1 w2 w3 w4 w5 w6 w7 w8 w9 w10 w11 w12 w13 w14 w15 w16 w17 w18 w19 w20 w21 w22 w23 w24) S1.size i25, fun _ => 25#32⟩,
      ⟨Rect.unit (s := S32) (k0_off24 w0 w1 w2 w3 w4 w5 w6 w7 w8 w9 w10 w11 w12 w13 w14 w15 w16 w17 w18 w19 w20 w21 w22 w23) S1.size i24, fun _ => 24#32⟩,
      ⟨Rect.unit (s := S32) (k0_off23 w0 w1 w2 w3 w4 w5 w6 w7 w8 w9 w10 w11 w12 w13 w14 w15 w16 w17 w18 w19 w20 w21 w22) S1.size i23, fun _ => 23#32⟩,
      ⟨Rect.unit (s := S32) (k0_off22 w0 w1 w2 w3 w4 w5 w6 w7 w8 w9 w10 w11 w12 w13 w14 w15 w16 w17 w18 w19 w20 w21) S1.size i22, fun _ => 22#32⟩,
      ⟨Rect.unit (s := S32) (k0_off21 w0 w1 w2 w3 w4 w5 w6 w7 w8 w9 w10 w11 w12 w13 w14 w15 w16 w17 w18 w19 w20) S1.size i21, fun _ => 21#32⟩,
      ⟨Rect.unit (s := S32) (k0_off20 w0 w1 w2 w3 w4 w5 w6 w7 w8 w9 w10 w11 w12 w13 w14 w15 w16 w17 w18 w19) S1.size i20, fun _ => 20#32⟩,
      ⟨Rect.unit (s := S32) (k0_off19 w0 w1 w2 w3 w4 w5 w6 w7 w8 w9 w10 w11 w12 w13 w14 w15 w16 w17 w18) S1.size i19, fun _ => 19#32⟩,
      ⟨Rect.unit (s := S32) (k0_off18 w0 w1 w2 w3 w4 w5 w6 w7 w8 w9 w10 w11 w12 w13 w14 w15 w16 w17) S1.size i18, fun _ => 18#32⟩,
      ⟨Rect.unit (s := S32) (k0_off17 w0 w1 w2 w3 w4 w5 w6 w7 w8 w9 w10 w11 w12 w13 w14 w15 w16) S1.size i17, fun _ => 17#32⟩,
      ⟨Rect.unit (s := S32) (k0_off16 w0 w1 w2 w3 w4 w5 w6 w7 w8 w9 w10 w11 w12 w13 w14 w15) S1.size i16, fun _ => 16#32⟩,
      ⟨Rect.unit (s := S32) (k0_off15 w0 w1 w2 w3 w4 w5 w6 w7 w8 w9 w10 w11 w12 w13 w14) S1.size i15, fun _ => 15#32⟩,
      ⟨Rect.unit (s := S32) (k0_off14 w0 w1 w2 w3 w4 w5 w6 w7 w8 w9 w10 w11 w12 w13) S1.size i14, fun _ => 14#32⟩,
      ⟨Rect.unit (s := S32) (k0_off13 w0 w1 w2 w3 w4 w5 w6 w7 w8 w9 w10 w11 w12) S1.size i13, fun _ => 13#32⟩,
      ⟨Rect.unit (s := S32) (k0_off12 w0 w1 w2 w3 w4 w5 w6 w7 w8 w9 w10 w11) S1.size i12, fun _ => 12#32⟩,
      ⟨Rect.unit (s := S32) (k0_off11 w0 w1 w2 w3 w4 w5 w6 w7 w8 w9 w10) S1.size i11, fun _ => 11#32⟩,
      ⟨Rect.unit (s := S32) (k0_off10 w0 w1 w2 w3 w4 w5 w6 w7 w8 w9) S1.size i10, fun _ => 10#32⟩,
      ⟨Rect.unit (s := S32) (k0_off9 w0 w1 w2 w3 w4 w5 w6 w7 w8) S1.size i9, fun _ => 9#32⟩,
      ⟨Rect.unit (s := S32) (k0_off8 w0 w1 w2 w3 w4 w5 w6 w7) S1.size i8, fun _ => 8#32⟩,
      ⟨Rect.unit (s := S32) (k0_off7 w0 w1 w2 w3 w4 w5 w6) S1.size i7, fun _ => 7#32⟩,
      ⟨Rect.unit (s := S32) (k0_off6 w0 w1 w2 w3 w4 w5) S1.size i6, fun _ => 6#32⟩,
      ⟨Rect.unit (s := S32) (k0_off5 w0 w1 w2 w3 w4) S1.size i5, fun _ => 5#32⟩,
      ⟨Rect.unit (s := S32) (k0_off4 w0 w1 w2 w3) S1.size i4, fun _ => 4#32⟩,
      ⟨Rect.unit (s := S32) (k0_off3 w0 w1 w2) S1.size i3, fun _ => 3#32⟩,
      ⟨Rect.unit (s := S32) (k0_off2 w0 w1) S1.size i2, fun _ => 2#32⟩,
      ⟨Rect.unit (s := S32) (k0_off1 w0) S1.size i1, fun _ => 1#32⟩,
      ⟨Rect.unit (s := S32) ![0] S1.size i0, fun _ => 0#32⟩])) 31 := by
  obtain ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ := e
  iterate 31 refine PAct_cons c hg a (by decide) rfl rfl ?_
  exact PAct_nil _ _

/-- The 32 first rows written into the list of starts. -/
theorem st_w (c : Dev nD) {g : Nat → BitVec 32} {w0 w1 w2 w3 w4 w5 w6 w7 w8 w9 w10 w11 w12 w13 w14 w15 w16 w17 w18 w19 w20 w21 w22 w23 w24 w25 w26 w27 w28 w29 w30 w31 v1 v2 v3 v4 v5 v6 v7 v8 v9 v10 v11 v12 v13 v14 v15 v16 v17 v18 v19 v20 v21 v22 v23 v24 v25 v26 v27 v28 v29 v30 v31 : BitVec 32} (e : Words32 g w0 w1 w2 w3 w4 w5 w6 w7 w8 w9 w10 w11 w12 w13 w14 w15 w16 w17 w18 w19 w20 w21 w22 w23 w24 w25 w26 w27 w28 w29 w30 w31)
    (ev : v1 = Scalar.addi 0#32 w0 ∧ v2 = Scalar.addi v1 w1 ∧ v3 = Scalar.addi v2 w2 ∧ v4 = Scalar.addi v3 w3 ∧ v5 = Scalar.addi v4 w4 ∧ v6 = Scalar.addi v5 w5 ∧ v7 = Scalar.addi v6 w6 ∧ v8 = Scalar.addi v7 w7 ∧ v9 = Scalar.addi v8 w8 ∧ v10 = Scalar.addi v9 w9 ∧ v11 = Scalar.addi v10 w10 ∧ v12 = Scalar.addi v11 w11 ∧ v13 = Scalar.addi v12 w12 ∧ v14 = Scalar.addi v13 w13 ∧ v15 = Scalar.addi v14 w14 ∧ v16 = Scalar.addi v15 w15 ∧ v17 = Scalar.addi v16 w16 ∧ v18 = Scalar.addi v17 w17 ∧ v19 = Scalar.addi v18 w18 ∧ v20 = Scalar.addi v19 w19 ∧ v21 = Scalar.addi v20 w20 ∧ v22 = Scalar.addi v21 w21 ∧ v23 = Scalar.addi v22 w22 ∧ v24 = Scalar.addi v23 w23 ∧ v25 = Scalar.addi v24 w24 ∧ v26 = Scalar.addi v25 w25 ∧ v27 = Scalar.addi v26 w26 ∧ v28 = Scalar.addi v27 w27 ∧ v29 = Scalar.addi v28 w28 ∧ v30 = Scalar.addi v29 w29 ∧ v31 = Scalar.addi v30 w30) (s : BufOf F c mSt) :
    PSt g (at32 (mSt.view.writes (Elt F) s [⟨Rect.unit (s := S32) ![31] S1.size (inbAt 31), fun _ => v31⟩,
      ⟨Rect.unit (s := S32) ![30] S1.size (inbAt 30), fun _ => v30⟩,
      ⟨Rect.unit (s := S32) ![29] S1.size (inbAt 29), fun _ => v29⟩,
      ⟨Rect.unit (s := S32) ![28] S1.size (inbAt 28), fun _ => v28⟩,
      ⟨Rect.unit (s := S32) ![27] S1.size (inbAt 27), fun _ => v27⟩,
      ⟨Rect.unit (s := S32) ![26] S1.size (inbAt 26), fun _ => v26⟩,
      ⟨Rect.unit (s := S32) ![25] S1.size (inbAt 25), fun _ => v25⟩,
      ⟨Rect.unit (s := S32) ![24] S1.size (inbAt 24), fun _ => v24⟩,
      ⟨Rect.unit (s := S32) ![23] S1.size (inbAt 23), fun _ => v23⟩,
      ⟨Rect.unit (s := S32) ![22] S1.size (inbAt 22), fun _ => v22⟩,
      ⟨Rect.unit (s := S32) ![21] S1.size (inbAt 21), fun _ => v21⟩,
      ⟨Rect.unit (s := S32) ![20] S1.size (inbAt 20), fun _ => v20⟩,
      ⟨Rect.unit (s := S32) ![19] S1.size (inbAt 19), fun _ => v19⟩,
      ⟨Rect.unit (s := S32) ![18] S1.size (inbAt 18), fun _ => v18⟩,
      ⟨Rect.unit (s := S32) ![17] S1.size (inbAt 17), fun _ => v17⟩,
      ⟨Rect.unit (s := S32) ![16] S1.size (inbAt 16), fun _ => v16⟩,
      ⟨Rect.unit (s := S32) ![15] S1.size (inbAt 15), fun _ => v15⟩,
      ⟨Rect.unit (s := S32) ![14] S1.size (inbAt 14), fun _ => v14⟩,
      ⟨Rect.unit (s := S32) ![13] S1.size (inbAt 13), fun _ => v13⟩,
      ⟨Rect.unit (s := S32) ![12] S1.size (inbAt 12), fun _ => v12⟩,
      ⟨Rect.unit (s := S32) ![11] S1.size (inbAt 11), fun _ => v11⟩,
      ⟨Rect.unit (s := S32) ![10] S1.size (inbAt 10), fun _ => v10⟩,
      ⟨Rect.unit (s := S32) ![9] S1.size (inbAt 9), fun _ => v9⟩,
      ⟨Rect.unit (s := S32) ![8] S1.size (inbAt 8), fun _ => v8⟩,
      ⟨Rect.unit (s := S32) ![7] S1.size (inbAt 7), fun _ => v7⟩,
      ⟨Rect.unit (s := S32) ![6] S1.size (inbAt 6), fun _ => v6⟩,
      ⟨Rect.unit (s := S32) ![5] S1.size (inbAt 5), fun _ => v5⟩,
      ⟨Rect.unit (s := S32) ![4] S1.size (inbAt 4), fun _ => v4⟩,
      ⟨Rect.unit (s := S32) ![3] S1.size (inbAt 3), fun _ => v3⟩,
      ⟨Rect.unit (s := S32) ![2] S1.size (inbAt 2), fun _ => v2⟩,
      ⟨Rect.unit (s := S32) ![1] S1.size (inbAt 1), fun _ => v1⟩,
      ⟨Rect.unit (s := S32) ![0] S1.size (inbAt 0), fun _ => 0#32⟩])) 32 := by
  obtain ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ := e
  obtain ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ := ev
  iterate 32 refine PSt_cons c s (by decide) rfl rfl ?_
  exact PSt_nil _ _

/-- The running count of the active groups. -/
theorem cnt_w {g : Nat → BitVec 32} {w0 w1 w2 w3 w4 w5 w6 w7 w8 w9 w10 w11 w12 w13 w14 w15 w16 w17 w18 w19 w20 w21 w22 w23 w24 w25 w26 w27 w28 w29 w30 w31 v1 v2 v3 v4 v5 v6 v7 v8 v9 v10 v11 v12 v13 v14 v15 v16 v17 v18 v19 v20 v21 v22 v23 v24 v25 v26 v27 v28 v29 v30 v31 : BitVec 32} (e : Words32 g w0 w1 w2 w3 w4 w5 w6 w7 w8 w9 w10 w11 w12 w13 w14 w15 w16 w17 w18 w19 w20 w21 w22 w23 w24 w25 w26 w27 w28 w29 w30 w31)
    (ev : v1 = Scalar.addi 0#32 (Scalar.extui (Scalar.cmpi .sgt w0 0#32)) ∧ v2 = Scalar.addi v1 (Scalar.extui (Scalar.cmpi .sgt w1 0#32)) ∧ v3 = Scalar.addi v2 (Scalar.extui (Scalar.cmpi .sgt w2 0#32)) ∧ v4 = Scalar.addi v3 (Scalar.extui (Scalar.cmpi .sgt w3 0#32)) ∧ v5 = Scalar.addi v4 (Scalar.extui (Scalar.cmpi .sgt w4 0#32)) ∧ v6 = Scalar.addi v5 (Scalar.extui (Scalar.cmpi .sgt w5 0#32)) ∧ v7 = Scalar.addi v6 (Scalar.extui (Scalar.cmpi .sgt w6 0#32)) ∧ v8 = Scalar.addi v7 (Scalar.extui (Scalar.cmpi .sgt w7 0#32)) ∧ v9 = Scalar.addi v8 (Scalar.extui (Scalar.cmpi .sgt w8 0#32)) ∧ v10 = Scalar.addi v9 (Scalar.extui (Scalar.cmpi .sgt w9 0#32)) ∧ v11 = Scalar.addi v10 (Scalar.extui (Scalar.cmpi .sgt w10 0#32)) ∧ v12 = Scalar.addi v11 (Scalar.extui (Scalar.cmpi .sgt w11 0#32)) ∧ v13 = Scalar.addi v12 (Scalar.extui (Scalar.cmpi .sgt w12 0#32)) ∧ v14 = Scalar.addi v13 (Scalar.extui (Scalar.cmpi .sgt w13 0#32)) ∧ v15 = Scalar.addi v14 (Scalar.extui (Scalar.cmpi .sgt w14 0#32)) ∧ v16 = Scalar.addi v15 (Scalar.extui (Scalar.cmpi .sgt w15 0#32)) ∧ v17 = Scalar.addi v16 (Scalar.extui (Scalar.cmpi .sgt w16 0#32)) ∧ v18 = Scalar.addi v17 (Scalar.extui (Scalar.cmpi .sgt w17 0#32)) ∧ v19 = Scalar.addi v18 (Scalar.extui (Scalar.cmpi .sgt w18 0#32)) ∧ v20 = Scalar.addi v19 (Scalar.extui (Scalar.cmpi .sgt w19 0#32)) ∧ v21 = Scalar.addi v20 (Scalar.extui (Scalar.cmpi .sgt w20 0#32)) ∧ v22 = Scalar.addi v21 (Scalar.extui (Scalar.cmpi .sgt w21 0#32)) ∧ v23 = Scalar.addi v22 (Scalar.extui (Scalar.cmpi .sgt w22 0#32)) ∧ v24 = Scalar.addi v23 (Scalar.extui (Scalar.cmpi .sgt w23 0#32)) ∧ v25 = Scalar.addi v24 (Scalar.extui (Scalar.cmpi .sgt w24 0#32)) ∧ v26 = Scalar.addi v25 (Scalar.extui (Scalar.cmpi .sgt w25 0#32)) ∧ v27 = Scalar.addi v26 (Scalar.extui (Scalar.cmpi .sgt w26 0#32)) ∧ v28 = Scalar.addi v27 (Scalar.extui (Scalar.cmpi .sgt w27 0#32)) ∧ v29 = Scalar.addi v28 (Scalar.extui (Scalar.cmpi .sgt w28 0#32)) ∧ v30 = Scalar.addi v29 (Scalar.extui (Scalar.cmpi .sgt w29 0#32)) ∧ v31 = Scalar.addi v30 (Scalar.extui (Scalar.cmpi .sgt w30 0#32))) : v31 = cntW g 31 := by
  obtain ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ := e
  obtain ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ := ev
  rfl

end Cert.Kernel.Hand

end
-- ==== Proof.Kernel.Run.lean ====
/-
The kernel from start to end: the lists are written, the first copies started, the groups' windows multiplied.
-/
module
public import proofs.«01_k».proof.Proof.Kernel.Entries
public import Idealize.ShloMosaic.Lib.VecWindow

@[expose] public section

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The word a load of entry `k` of the group sizes reads. -/
def gR {c : Dev nD} (G : BufOf F c mGs) (k : Nat) : BitVec 32 :=
  View.readAt (Elt F) mGs.view (Rect.unit (s := S32) ![k % 32] S1.size (inbAt k)).toLoadRect G (Shape.Idx.first (numel1_S1.symm ▸ Nat.one_pos))

theorem gR_eq {c : Dev nD} (G : BufOf F c mGs) (k : Nat) : gR G k = at32 G k := by
  refine (read_gs c G (i := k % 32) (inbAt k) rfl (Nat.mod_lt _ (by decide)) _).trans ?_
  unfold at32
  refine congrArg G (funext fun a => Fin.ext ?_)
  show k % 32 % 32 = k % 32
  omega

/-- The group sizes once the copy of the argument has landed. -/
abbrev gsOf (c : Dev nD) (f2 : BufOf F c aGs) (gs : BufOf F c mGs) : BufOf F c mGs :=
  mGs.view.write (Elt F) gs (ReadAs.same.apply (aGs.view.read (Elt F) f2)) Finset.univ

theorem gsOf_eq (c : Dev nD) (f2 : BufOf F c aGs) (gs : BufOf F c mGs) : gsOf c f2 gs = f2 := View.write_whole_univ ..

theorem gR_gsOf (c : Dev nD) (f2 : BufOf F c aGs) (gs : BufOf F c mGs) : gR (gsOf c f2 gs) = at32 f2 := by
  funext k
  rw [gR_eq, gsOf_eq]

/-- A store of the whole output tile leaves the tile stored. -/
theorem out_whole (c : Dev nD) (f : BufOf F c mOut) {inb : ∀ a, (![0, 0] : Fin 2 → Nat) a + S768x1536.size a ≤ S768x1536.size a} (z : BufOf F c mOut) :
    mOut.view.writes (Elt F) f [⟨Rect.unit (s := S768x1536) ![0, 0] S768x1536.size inb, z⟩] = z := by
  have h := Idealize.ShloMosaic.View.read_writes_full (Val := Elt F) mOut.view f inb z []
  exact (View.read_whole (Val := Elt F) cc0_stg0_0 _).symm.trans h

/-- The output the kernel leaves: every active group's windows written in turn over zeros. -/
def finOut (c : Dev nD) (f2 : BufOf F c aGs) (f0 : BufOf F c aX) (f1 : BufOf F c aXs) (f3 : BufOf F c aW) (f4 : BufOf F c aWs) : BufOf F c mOut :=
  outF c f3 f0 f1 f4 (at32 f2) k0_pay21 (cnt (at32 f2) 32)

set_option maxHeartbeats 2000000 in
set_option sl_exec.dischHeartbeats 200000 in
theorem kernel_run (c : Dev nD) (f2 : BufOf F c aGs) (f0 : BufOf F c aX) (f1 : BufOf F c aXs) (f3 : BufOf F c aW) (f4 : BufOf F c aWs)
    (o : BufOf F c mOut) (gs : BufOf F c mGs) (a : BufOf F c mAct) (s : BufOf F c mSt) (x : BufOf F c mX) (xs : BufOf F c mXs) (ws : BufOf F c mWs)
    (W : Finset (SemLoc sig × Unit)) (hg : Fits (at32 f2)) {Q : PUnit → sProp 𝕄} :
    iprop(pt c aGs f2 ∗ pt c aX f0 ∗ pt c aXs f1 ∗ pt c aWs f4 ∗ pt c mOut o ∗ pt c mGs gs ∗ pt c mAct a ∗ pt c mSt s
        ∗ pt c mX x ∗ pt c mXs xs ∗ pt c mWs ws
        ∗ semVal ((c : Thread nD τ), SemLoc.dma ⟨1, by decide⟩) 0 ∗ semVal ((c : Thread nD τ), SemLoc.dma ⟨2, by decide⟩) 0
        ∗ semVal ((c : Thread nD τ), SemLoc.dma ⟨3, by decide⟩) 0 ∗ semVal ((c : Thread nD τ), SemLoc.dma ⟨4, by decide⟩) 0
        ∗ owes (c : Thread nD τ) 0 W ∗ Ring.AtW (ΦR c f3) (fun _ => none)
        ∗ (∀ (gs : BufOf F c mGs) (a : BufOf F c mAct) (s : BufOf F c mSt) (x : BufOf F c mX) (xs : BufOf F c mXs) (ws : BufOf F c mWs)
            (W : Finset (SemLoc sig × Unit)),
          pt c aGs f2 ∗ pt c aX f0 ∗ pt c aXs f1 ∗ pt c aWs f4 ∗ pt c mOut (finOut c f2 f0 f1 f3 f4) ∗ pt c mGs gs ∗ pt c mAct a ∗ pt c mSt s
            ∗ pt c mX x ∗ pt c mXs xs ∗ pt c mWs ws
            ∗ semVal ((c : Thread nD τ), SemLoc.dma ⟨1, by decide⟩) 0 ∗ semVal ((c : Thread nD τ), SemLoc.dma ⟨2, by decide⟩) 0
            ∗ semVal ((c : Thread nD τ), SemLoc.dma ⟨3, by decide⟩) 0 ∗ semVal ((c : Thread nD τ), SemLoc.dma ⟨4, by decide⟩) 0
            ∗ owes (c : Thread nD τ) 0 W ∗ Ring.AtW (ΦR c f3) (fun _ => none) -∗ Q ⟨⟩))
      ⊢ wpc c (cc0_moe_fp8_ragged_dot (F := F) aGs (Memref.isWhole_whole _) aX (Memref.isWhole_whole _) aXs (Memref.isWhole_whole _) aW (Memref.isWhole_whole _) aWs (Memref.isWhole_whole _) mOut (Memref.isWhole_whole _) mGs (Memref.isWhole_whole _) mAct (Memref.isWhole_whole _) mSt (Memref.isWhole_whole _) mX (Memref.isWhole_whole _) mXs (Memref.isWhole_whole _) mWs (Memref.isWhole_whole _) mRing (Memref.isWhole_whole _) cc0_scratch7 cc0_scratch8 cc0_scratch9 cc0_scratch10 cc0_scratch11) Q := by
  obtain ⟨h1, h2, h3, h4, h5, h6, h7, h8, h9, h10, h11, h12, h13, h14, h15, h16, h17, h18, h19, h20, h21, h22, h23, h24, h25, h26, h27, h28, h29, h30, h31⟩ := chk_list
  replace hg : Fits (gR (gsOf c f2 gs)) := by rw [gR_gsOf]; exact hg
  have h40 : k0_chk40 (gR (gsOf c f2 gs) 0) (gR (gsOf c f2 gs) 1) (gR (gsOf c f2 gs) 2) (gR (gsOf c f2 gs) 3) (gR (gsOf c f2 gs) 4) (gR (gsOf c f2 gs) 5) (gR (gsOf c f2 gs) 6) (gR (gsOf c f2 gs) 7) (gR (gsOf c f2 gs) 8) (gR (gsOf c f2 gs) 9) (gR (gsOf c f2 gs) 10) (gR (gsOf c f2 gs) 11) (gR (gsOf c f2 gs) 12) (gR (gsOf c f2 gs) 13) (gR (gsOf c f2 gs) 14) (gR (gsOf c f2 gs) 15) (gR (gsOf c f2 gs) 16) (gR (gsOf c f2 gs) 17) (gR (gsOf c f2 gs) 18) (gR (gsOf c f2 gs) 19) (gR (gsOf c f2 gs) 20) (gR (gsOf c f2 gs) 21) (gR (gsOf c f2 gs) 22) (gR (gsOf c f2 gs) 23) (gR (gsOf c f2 gs) 24) (gR (gsOf c f2 gs) 25) (gR (gsOf c f2 gs) 26) (gR (gsOf c f2 gs) 27) (gR (gsOf c f2 gs) 28) (gR (gsOf c f2 gs) 29) (gR (gsOf c f2 gs) 30) (gR (gsOf c f2 gs) 31) := chk40 hg
  rw [cc0_moe_fp8_ragged_dot_eq_skeleton]
  unfold cc0_moe_fp8_ragged_dot_skel wpc
  generalize hp15 : @k0_part15 F _ = p15
  iintro ⟨H2, H0, H1, H4, HO, HG, HA, HS, HX, HXs, HWs, Hs1, Hs2, Hs3, Hs4, HW, HR, HQ⟩
  sl_exec (disch := first | exact h1 _ | exact h2 _ _ | exact h3 _ _ _ | exact h4 _ _ _ _ | exact h5 _ _ _ _ _ | exact h6 _ _ _ _ _ _ | exact h7 _ _ _ _ _ _ _ | exact h8 _ _ _ _ _ _ _ _ | exact h9 _ _ _ _ _ _ _ _ _ | exact h10 _ _ _ _ _ _ _ _ _ _ | exact h11 _ _ _ _ _ _ _ _ _ _ _ | exact h12 _ _ _ _ _ _ _ _ _ _ _ _ | exact h13 _ _ _ _ _ _ _ _ _ _ _ _ _ | exact h14 _ _ _ _ _ _ _ _ _ _ _ _ _ _ | exact h15 _ _ _ _ _ _ _ _ _ _ _ _ _ _ _ | exact h16 _ _ _ _ _ _ _ _ _ _ _ _ _ _ _ _ | exact h17 _ _ _ _ _ _ _ _ _ _ _ _ _ _ _ _ _ | exact h18 _ _ _ _ _ _ _ _ _ _ _ _ _ _ _ _ _ _ | exact h19 _ _ _ _ _ _ _ _ _ _ _ _ _ _ _ _ _ _ _ | exact h20 _ _ _ _ _ _ _ _ _ _ _ _ _ _ _ _ _ _ _ _ | exact h21 _ _ _ _ _ _ _ _ _ _ _ _ _ _ _ _ _ _ _ _ _ | exact h22 _ _ _ _ _ _ _ _ _ _ _ _ _ _ _ _ _ _ _ _ _ _ | exact h23 _ _ _ _ _ _ _ _ _ _ _ _ _ _ _ _ _ _ _ _ _ _ _ | exact h24 _ _ _ _ _ _ _ _ _ _ _ _ _ _ _ _ _ _ _ _ _ _ _ _ | exact h25 _ _ _ _ _ _ _ _ _ _ _ _ _ _ _ _ _ _ _ _ _ _ _ _ _ | exact h26 _ _ _ _ _ _ _ _ _ _ _ _ _ _ _ _ _ _ _ _ _ _ _ _ _ _ | exact h27 _ _ _ _ _ _ _ _ _ _ _ _ _ _ _ _ _ _ _ _ _ _ _ _ _ _ _ | exact h28 _ _ _ _ _ _ _ _ _ _ _ _ _ _ _ _ _ _ _ _ _ _ _ _ _ _ _ _ | exact h29 _ _ _ _ _ _ _ _ _ _ _ _ _ _ _ _ _ _ _ _ _ _ _ _ _ _ _ _ _ | exact h30 _ _ _ _ _ _ _ _ _ _ _ _ _ _ _ _ _ _ _ _ _ _ _ _ _ _ _ _ _ _ | exact h31 _ _ _ _ _ _ _ _ _ _ _ _ _ _ _ _ _ _ _ _ _ _ _ _ _ _ _ _ _ _ _ | exact h40)
  subst hp15
  rw [wp_bind]
  iapply (part15_w (F := F) c (g := gR (gsOf c f2 gs)) hg _ f3 ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ (cnt_w (g := gR (gsOf c f2 gs)) ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩) _
    (act_w c (g := gR (gsOf c f2 gs)) hg ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ a) o) $$ [HA HR HO HS Hs1 Hs2 Hs3 Hs4 HG H0 H1 H2 H4 HW HQ]
  isplitl [HA]; · iexact HA
  isplitl [HR]; · iexact HR
  isplitl [HO]; · iexact HO
  iintro %w %A' %hA' ⟨HA, HR, HO⟩
  sl_exec
  ihave HS' : (∃ S : BufOf F c mSt, ⌜PSt (gR (gsOf c f2 gs)) (at32 S) 32⌝ ∗ pt c mSt S) $$ [HS]
  · iexists _
    isplitr
    rotate_left
    · iexact HS
    ipureintro
    refine st_w c ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ ?ev _
    exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
  icases HS' with ⟨%S, %hS, HS⟩
  have hX : View.write (Elt F) mX.view x (kernel_run.sl.dma0_1 c f0) Finset.univ = f0 := View.write_whole_univ ..
  have hXs : View.write (Elt F) mXs.view xs (kernel_run.sl.dma0_2 c f1) Finset.univ = f1 := View.write_whole_univ ..
  have hWs : View.write (Elt F) mWs.view ws (kernel_run.sl.dma0_3 c f4) Finset.univ = f4 := View.write_whole_univ ..
  iapply (loop_w (F := F) c (g := gR (gsOf c f2 gs)) hg h40 ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ f3 (gsOf c f2 gs) A' S (fun e _ => (gR_eq _ e).symm) hA'
    hS f0 f1 f4 k0_pay21) $$ [HS HG H2 Hs1 HA HR HO HX H0 Hs2 HXs H1 Hs3 HWs H4 Hs4 HW HQ]
  isplitl [HS HG HA HR HO HX HXs HWs HW]
  · unfold tripI
    isplitl [HG]; · iexact HG
    isplitl [HA]; · iexact HA
    isplitl [HS]; · iexact HS
    isplitl [HO HX HXs HWs]
    · isplitl [HX]
      · iapply (Entails.of_eq (congrArg (pt c mX) hX)) $$ HX
      isplitl [HXs]
      · iapply (Entails.of_eq (congrArg (pt c mXs) hXs)) $$ HXs
      isplitl [HWs]
      · iapply (Entails.of_eq (congrArg (pt c mWs) hWs)) $$ HWs
      have hO : mOut.view.writes (Elt F) mOut.view.junk kernel_run.sl.HO_1 = k0_pay21 := out_whole c mOut.view.junk k0_pay21
      iapply (Entails.of_eq (congrArg (pt c mOut) hO)) $$ HO
    isplitl [HR]; · iexact HR
    iexists _
    iexact HW
  iintro %acc HI
  unfold tripI
  icases HI with ⟨HG, HA, HS, ⟨HX, HXs, HWs, HO⟩, HR, ⟨%W', HW⟩⟩
  unfold wpc
  sl_exec
  sl_step
  have hst : stR (gR (gsOf c f2 gs)) (cnt (gR (gsOf c f2 gs)) 32) (min (cnt (gR (gsOf c f2 gs)) 32) (cnt (gR (gsOf c f2 gs)) 32 + 8)) = fun _ => none := by
    rw [Nat.min_eq_left (Nat.le_add_right _ _)]; exact stR_self _ _
  have hfin : outF c f3 f0 f1 f4 (gR (gsOf c f2 gs)) k0_pay21 (cnt (gR (gsOf c f2 gs)) 32) = finOut c f2 f0 f1 f3 f4 := by
    unfold finOut; rw [gR_gsOf]
  iapply HQ $$ %_ %_ %_ %_ %_ %_ %W' [HG HA HS HX HXs HWs HO HR HW H0 H1 H2 H4 Hs1 Hs2 Hs3 Hs4]
  isplitl [H2]; · iexact H2
  isplitl [H0]; · iexact H0
  isplitl [H1]; · iexact H1
  isplitl [H4]; · iexact H4
  isplitl [HO]; · iapply (Entails.of_eq (congrArg (pt c mOut) hfin)) $$ HO
  isplitl [HG]; · iexact HG
  isplitl [HA]; · iexact HA
  isplitl [HS]; · iexact HS
  isplitl [HX]; · iexact HX
  isplitl [HXs]; · iexact HXs
  isplitl [HWs]; · iexact HWs
  isplitl [Hs1]; · iexact Hs1
  isplitl [Hs2]; · iexact Hs2
  isplitl [Hs3]; · iexact Hs3
  isplitl [Hs4]; · iexact Hs4
  isplitl [HW]; · iexact HW
  iapply (Entails.of_eq (congrArg (Ring.AtW (ΦR c f3)) hst)) $$ HR

end Cert.Kernel.Hand

end
-- ==== Proof.Kernel.Frame.lean ====
/-
The kernel's frame: it terminates, nothing faults, its arguments end unchanged and every semaphore at zero; and the
result's array ends at the contents `finOut` names.
-/
module
public import proofs.«01_k».proof.Proof.Kernel.Run

@[expose] public section

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Core `c`'s buffers as the kernel's region finds them: as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem frame_of (dats : (p : Fin 1) → (c : Dev nD) → Dat τ (Elt F) Unit ℕ (Pipeline.UD sig nD τ) ℕ (cfgs p) c)
    (h : θ_run defs (onTc (τ := τ) (main (F := F))) (s₀ m ρ) (fun r => Pipeline.FramePost cfgs dats 0 (V m) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).2 main_arg0 (Pipeline.mem_restRefs_of main_arg0 (by decide) (by decide)),
      (h.1 c).2 main_arg1 (Pipeline.mem_restRefs_of main_arg1 (by decide) (by decide)),
      (h.1 c).2 main_arg2 (Pipeline.mem_restRefs_of main_arg2 (by decide) (by decide)),
      (h.1 c).2 main_arg3 (Pipeline.mem_restRefs_of main_arg3 (by decide) (by decide)),
      (h.1 c).2 main_arg4 (Pipeline.mem_restRefs_of main_arg4 (by decide) (by decide))⟩, h.2⟩) h

/-- The kernel's own cells: one for each staging copy it makes itself, eight for the ring. -/
abbrev osem0 : Fin 12 → SemLoc sig := fun j => SemLoc.dma ⟨j.val + 1, by have := j.isLt; show j.val + 1 < 13; omega⟩
theorem ownSemFacts0 : Pipeline.OwnSemFacts spec0 osem0 := by decide
theorem cells_eq (c : Dev nD) :
    (bigSep Finset.univ (fun k : Fin 8 => (semVal ((c : Thread nD τ), cellR k) 0 : sProp 𝕄))) = iprop(semVal ((c : Thread nD τ), SemLoc.dma ⟨5, by decide⟩) 0 ∗ semVal ((c : Thread nD τ), SemLoc.dma ⟨6, by decide⟩) 0 ∗ semVal ((c : Thread nD τ), SemLoc.dma ⟨7, by decide⟩) 0 ∗ semVal ((c : Thread nD τ), SemLoc.dma ⟨8, by decide⟩) 0 ∗ semVal ((c : Thread nD τ), SemLoc.dma ⟨9, by decide⟩) 0 ∗ semVal ((c : Thread nD τ), SemLoc.dma ⟨10, by decide⟩) 0 ∗ semVal ((c : Thread nD τ), SemLoc.dma ⟨11, by decide⟩) 0 ∗ semVal ((c : Thread nD τ), SemLoc.dma ⟨12, by decide⟩) 0) := by
  rw [BI.bigSep_eq_bigSepL_of_eq [0, 1, 2, 3, 4, 5, 6, 7] (by decide) (by decide)]; rfl
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma ⟨1, by decide⟩) 0 ∗ semVal ((c : Thread nD τ), SemLoc.dma ⟨2, by decide⟩) 0 ∗ semVal ((c : Thread nD τ), SemLoc.dma ⟨3, by decide⟩) 0 ∗ semVal ((c : Thread nD τ), SemLoc.dma ⟨4, by decide⟩) 0 ∗ bigSep Finset.univ (fun k : Fin 8 => (semVal ((c : Thread nD τ), cellR k) 0 : sProp 𝕄))) := by
  rw [cells_eq, Pipeline.ownSems0_eq_of_list c osem0 [0, 1, 2, 3, 4, 5, 6, 7, 8, 9, 10, 11] (by decide) (by decide)]; rfl

/-- The arguments, which the kernel reads in place. -/
def H0 : Finset (Ref sig .tc) := {main_arg0, main_arg1, main_arg2, main_arg3, main_arg4}
theorem H0_sub : H0 ⊆ Pipeline.restRefs sig spec0 := by decide
theorem hbmPts0_eq (c : Dev nD) :
    (bigSep H0 (fun b => ((c : Thread nD τ).loc b) ↦{fullShare} V m c b) : sProp 𝕄)
      = iprop(pt c aX (V m c main_arg0) ∗ pt c aXs (V m c main_arg1) ∗ pt c aGs (V m c main_arg2)
          ∗ pt c aW (V m c main_arg3) ∗ pt c aWs (V m c main_arg4)) := by
  rw [BI.bigSep_eq_bigSepL_of_eq [main_arg0, main_arg1, main_arg2, main_arg3, main_arg4] (by decide) (by decide)]; rfl

theorem PhiD0_eq (c : Dev nD) :
    (Pipeline.ΦD osem0 spec0 H0 (V m) c : sProp 𝕄)
      = iprop(iprop((∃ f, pt c mX f) ∗ (∃ f, pt c mXs f) ∗ (∃ f, pt c mWs f) ∗ (∃ f, pt c mRing f)
            ∗ (∃ f, pt c mGs f) ∗ (∃ f, pt c mAct f) ∗ (∃ f, pt c mSt f))
          ∗ (∃ r, prngReg c r)
          ∗ iprop(semVal ((c : Thread nD τ), SemLoc.dma ⟨1, by decide⟩) 0 ∗ semVal ((c : Thread nD τ), SemLoc.dma ⟨2, by decide⟩) 0 ∗ semVal ((c : Thread nD τ), SemLoc.dma ⟨3, by decide⟩) 0 ∗ semVal ((c : Thread nD τ), SemLoc.dma ⟨4, by decide⟩) 0 ∗ bigSep Finset.univ (fun k : Fin 8 => (semVal ((c : Thread nD τ), cellR k) 0 : sProp 𝕄)))
          ∗ iprop(pt c aX (V m c main_arg0) ∗ pt c aXs (V m c main_arg1) ∗ pt c aGs (V m c main_arg2)
            ∗ pt c aW (V m c main_arg3) ∗ pt c aWs (V m c main_arg4))) := by
  rw [Pipeline.ΦD_eq, scopedRest0_eq, ownSems00_eq, hbmPts0_eq]

/-- What the kernel leaves in the result's tile. -/
abbrev outAt (c : Dev nD) : BufOf F c mOut :=
  finOut c (V m c main_arg2) (V m c main_arg0) (V m c main_arg1) (V m c main_arg3) (V m c main_arg4)

def dats (_ : Fin 1) (c : Dev nD) : Dat τ (Elt F) Unit ℕ (Pipeline.UD sig nD τ) ℕ cfg0 c where
  A w := V m c (Pipeline.arrRef spec0 w)
  after w t := match w with
    | ⟨0, _⟩ => outAt m c
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = outAt m c := by dsimp only [dats]

abbrev ms0_0 (t : Fin cfg0.N) : Memref sig .tc .vmem S768x1536 .bf16 := win0_0.stage (cfg0.slots t 0)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t))

theorem own_in (c : Dev nD) (d : BufOf F c mOut) : (owns (c : Thread nD τ) mOut fullShare d : sProp 𝕄) ⊢ pt c mOut d :=
  Entails.of_eq (owns_whole (c : Thread nD τ) cc0_stg0_0 fullShare d)
theorem own_out (c : Dev nD) (d : BufOf F c mOut) : pt c mOut d ⊢ (owns (c : Thread nD τ) mOut fullShare d : sProp 𝕄) :=
  Entails.of_eq (owns_whole (c : Thread nD τ) cc0_stg0_0 fullShare d).symm

set_option maxHeartbeats 1000000 in
theorem sound_body (c : Dev nD) (hg : Fits (at32 (V m c main_arg2))) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  have hs : ms0_0 t = mOut := rfl
  rw [hs]
  iintro ⟨⟨⟨⟨%x, HX⟩, ⟨%xs, HXs⟩, ⟨%ws, HWs⟩, ⟨%g, HRg⟩, ⟨%gs, HG⟩, ⟨%a, HA⟩, ⟨%s, HS⟩⟩, Hg, ⟨Hs1, Hs2, Hs3, Hs4, HC⟩, ⟨H0, H1, H2, H3, H4⟩⟩, ⟨%W, -, HW⟩, ⟨%d, HO⟩⟩
  ihave HO := (own_in c _) $$ HO
  ihave HR := (ring_split c (V m c main_arg3) g) $$ [HRg H3 HC]
  · isplitl [HRg]; · iexact HRg
    isplitl [H3]; · iexact H3
    iexact HC
  icases HR with ⟨HR, H3⟩
  iapply (kernel_run (F := F) c (V m c main_arg2) (V m c main_arg0) (V m c main_arg1) (V m c main_arg3) (V m c main_arg4) _ gs a s x xs ws W hg)
  isplitl [H2]; · iexact H2
  isplitl [H0]; · iexact H0
  isplitl [H1]; · iexact H1
  isplitl [H4]; · iexact H4
  isplitl [HO]; · iexact HO
  isplitl [HG]; · iexact HG
  isplitl [HA]; · iexact HA
  isplitl [HS]; · iexact HS
  isplitl [HX]; · iexact HX
  isplitl [HXs]; · iexact HXs
  isplitl [HWs]; · iexact HWs
  isplitl [Hs1]; · iexact Hs1
  isplitl [Hs2]; · iexact Hs2
  isplitl [Hs3]; · iexact Hs3
  isplitl [Hs4]; · iexact Hs4
  isplitl [HW]; · iexact HW
  isplitl [HR]; · iexact HR
  iintro %gs' %a' %s' %x' %xs' %ws' %W' ⟨H2, H0, H1, H4, HO, HG, HA, HS, HX, HXs, HWs, Hs1, Hs2, Hs3, Hs4, HW, HR⟩
  ihave HR := (ring_join c (V m c main_arg3) g) $$ [HR H3]
  · isplitl [HR]; · iexact HR
    iexact H3
  icases HR with ⟨HRg, H3, HC⟩
  isplitl [HX HXs HWs HRg HG HA HS Hg Hs1 Hs2 Hs3 Hs4 HC H0 H1 H2 H3 H4]
  · isplitl [HX HXs HWs HRg HG HA HS]
    · isplitl [HX]; · iexists _; iexact HX
      isplitl [HXs]; · iexists _; iexact HXs
      isplitl [HWs]; · iexists _; iexact HWs
      isplitl [HRg]; · iexact HRg
      isplitl [HG]; · iexists _; iexact HG
      isplitl [HA]; · iexists _; iexact HA
      iexists _; iexact HS
    isplitl [Hg]; · iexact Hg
    isplitl [Hs1 Hs2 Hs3 Hs4 HC]
    · isplitl [Hs1]; · iexact Hs1
      isplitl [Hs2]; · iexact Hs2
      isplitl [Hs3]; · iexact Hs3
      isplitl [Hs4]; · iexact Hs4
      iexact HC
    isplitl [H0]; · iexact H0
    isplitl [H1]; · iexact H1
    isplitl [H2]; · iexact H2
    isplitl [H3]; · iexact H3
    iexact H4
  isplitl [HW]
  · iexists W'; isplitr; · ipureintro; exact fun _ _ => Or.inl trivial
    iexact HW
  iapply (own_out c _) $$ HO

theorem defs₀_row (t : Fin cfg0.N) :
    defs₀ (F := F) .tc cfg0.body (cfg0.bodyArgs t (cfg0.slots t)) = bodyAt0 t := by
  unfold defs₀; rw [Defs.onTc_tc]

theorem body_obligation (c : Dev nD) (hg : Fits (at32 (V m c main_arg2))) : BodyObligation (dats (F := F) m 0 c) (defs₀ (F := F)) Variants.none () Set.univ := fun t => by
  rw [bigSep_W0, bigSep_W0, defs₀_row]
  exact triple_restated (sound_body m c hg t) rfl .rfl fun _ => .rfl

set_option backward.isDefEq.respectTransparency.types false in
theorem run_main (hg : ∀ c, Fits (at32 (V m c main_arg2))) :
    θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c (hg c)).loose) (hshare := fun c => (dats m 0 c).share_full fun _ => rfl)
    (howed := fun _ _ => rfl) (V := V m) (hmain := hmain m Variants.none) (hA := A_eq m)
    (hin := fun _ => .rfl) (hout := fun _ => .rfl)

/-- The frame, from group sizes that fit. -/
theorem frame_run (hg : ∀ c, Fits (at32 (V m c main_arg2))) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  frame_of m ρ (dats m) (run_main m ρ hg)

end Cert.Kernel.Hand

end
-- ==== Proof.KernelIdeal.Base.lean ====
/- The kernel's memory operands under short names, and the launch memory seen by the body. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The arguments and the result (left in HBM; the result's staging buffer) -/

abbrev aX : Memref sig .tc .hbm S768x2048 .fp8e4m3 := Memref.whole main_arg0
abbrev aXs : Memref sig .tc .hbm S768x1 .f32 := Memref.whole main_arg1
abbrev aGs : Memref sig .tc .hbm S32 .i32 := Memref.whole main_arg2
abbrev aW : Memref sig .tc .hbm S32x2048x1536 .fp8e4m3 := Memref.whole main_arg3
abbrev aWs : Memref sig .tc .hbm S32x1536 .f32 := Memref.whole main_arg4
abbrev mOut : Memref sig .tc .vmem S768x1536 .bf16 := Memref.whole cc0_stg0_0

/-! ## The scratch buffers -/

/-- The group sizes, the list of nonempty groups, the groups' first rows. -/
abbrev mGs : Memref sig .tc .smem S32 .i32 := Memref.whole cc0_scratch0
abbrev mAct : Memref sig .tc .smem S32 .i32 := Memref.whole cc0_scratch1
abbrev mSt : Memref sig .tc .smem S32 .i32 := Memref.whole cc0_scratch2
/-- The copies of x, its scales and the weights' scales; the ring of weight blocks. -/
abbrev mX : Memref sig .tc .vmem S768x2048 .fp8e4m3 := Memref.whole cc0_scratch3
abbrev mXs : Memref sig .tc .vmem S768x1 .f32 := Memref.whole cc0_scratch4
abbrev mWs : Memref sig .tc .vmem S32x1536 .f32 := Memref.whole cc0_scratch5
abbrev mRing : Memref sig .tc .vmem S8x2048x1536 .fp8e4m3 := Memref.whole cc0_scratch6

/-- The contents of a memref's buffer on core `c`. -/
abbrev BufOf (F : FTy → Type) (c : Dev nD) {sp : Space} {S : Shape} {e : EltTy} (M : Memref sig .tc sp S e) : Type :=
  Buf (Elt F) (M.view.loc (c : Thread nD τ))
/-- A buffer held whole at contents `f`. -/
abbrev pt (c : Dev nD) {sp : Space} {S : Shape} {e : EltTy} (M : Memref sig .tc sp S e) (f : BufOf F c M) : sProp 𝕄 :=
  M.view.loc (c : Thread nD τ) ↦{fullShare} f

/-- A program of the kernel run on core `c`. -/
abbrev wpc (c : Dev nD) {α : Type} (p : Prog (TpuEff nD τ sig (Elt F) Λ₀ .tc) α) (Q : α → sProp 𝕄) : sProp 𝕄 :=
  wp frame (wpE (defs₀ (F := F)) Variants.none c none) Set.univ p Q

end Cert.KernelIdeal.Hand

end
-- ==== Proof.KernelIdeal.Ring.lean ====
/-
  The ring of weight blocks. Slot `k` of eight is one expert's block of weights; a copy into it runs on DMA cell
  `5 + k`, reading its expert's block of the weight array under a read share of the cell's own. A slot is free (`none`)
  or holds a copy in flight of the block of expert `e` (`some e`).
-/
module

public import proofs.«01_k».proof.Proof.KernelIdeal.Base
public import Idealize.ShloMosaic.Lib.ViewIndex

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem inbSlot (k : Fin 8) : ∀ a, (![k.val, 0, 0] : Fin 3 → Nat) a + S1x2048x1536.size a ≤ S8x2048x1536.size a := by
  have := k.isLt; intro a; fin_cases a
  · show k.val + 1 ≤ 8; omega
  · show 0 + 2048 ≤ 2048; omega
  · show 0 + 1536 ≤ 1536; omega

theorem inbBlk (e : Fin 32) : ∀ a, (![e.val, 0, 0] : Fin 3 → Nat) a + S1x2048x1536.size a ≤ S32x2048x1536.size a := by
  have := e.isLt; intro a; fin_cases a
  · show e.val + 1 ≤ 32; omega
  · show 0 + 2048 ≤ 2048; omega
  · show 0 + 1536 ≤ 1536; omega

/-- Slot `k` of the ring, expert `e`'s block of the weights, and the cell of slot `k`. -/
def slotM (k : Fin 8) : Memref sig .tc .vmem S2048x1536 .fp8e4m3 :=
  (mRing.slice (Rect.unit ![k.val, 0, 0] S1x2048x1536.size (inbSlot k)) (fun _ => rfl)).squeeze S2048x1536 squeezes_S1x2048x1536_S2048x1536
def blkM (e : Fin 32) : Memref sig .tc .hbm S2048x1536 .fp8e4m3 :=
  (aW.slice (Rect.unit ![e.val, 0, 0] S1x2048x1536.size (inbBlk e)) (fun _ => rfl)).squeeze S2048x1536 squeezes_S1x2048x1536_S2048x1536
theorem inbCell (k : Fin 8) : ∀ a, (![k.val] : Fin 1 → Nat) a + S1.size a ≤ S8.size a := by
  intro a; fin_cases a; show k.val + 1 ≤ 8; have := k.isLt; omega
abbrev cellR (k : Fin 8) : SemLoc sig :=
  SemLoc.dma ((cc0_scratch11.slice (Rect.unit (s := S8) ![k.val] S1.size (inbCell k))).squeeze S_ squeezes_S1_S_).sem

theorem cellR_eq (k : Fin 8) : cellR k = SemLoc.dma ⟨5 + k.val, by have := k.isLt; show 5 + k.val < 13; omega⟩ := by
  fin_cases k <;> rfl

/-- The weights' read share of cell `k`. -/
abbrev tokW (c : Dev nD) (fW : BufOf F c aW) (k : Fin 8) (S : Finset (Idx (aW.view.loc (c : Thread nD τ)))) : sProp 𝕄 :=
  aW.view.loc (c : Thread nD τ) ↦[S]{Transfers.shareTok fullShare 8 k} fW

/-- Slot `k` at contents `f`, held by its own elements. -/
abbrev slotPt (c : Dev nD) (k : Fin 8) (f : Buf (Elt F) ((slotM k).view.loc (c : Thread nD τ))) : sProp 𝕄 :=
  (slotM k).view.loc (c : Thread nD τ) ↦[(slotM k).view.set]{fullShare} f

abbrev freeR (c : Dev nD) (fW : BufOf F c aW) (k : Fin 8) : sProp 𝕄 :=
  iprop(semVal ((c : Thread nD τ), cellR k) 0 ∗ (∃ f, slotPt c k f) ∗ tokW c fW k Finset.univ)

abbrev busyR (c : Dev nD) (fW : BufOf F c aW) (k : Fin 8) (e : Fin 32) : sProp 𝕄 :=
  iprop((∃ f, Transfers.Flight (countersEmb (U := Pipeline.UD sig nD τ)) (c : Thread nD τ) (cellR k) () 98304
            iprop(slotPt c k ((slotM k).view.writes (Elt F) f [⟨Rect.whole S2048x1536, ReadAs.same.apply ((blkM e).view.read (Elt F) fW)⟩])
              ∗ tokW c fW k (blkM e).view.set))
    ∗ tokW c fW k (Finset.univ \ (blkM e).view.set))

/-- Slot `k` in its state. -/
def ΦR (c : Dev nD) (fW : BufOf F c aW) (k : Fin 8) : Option (Fin 32) → sProp 𝕄
  | none => freeR c fW k
  | some e => busyR c fW k e

/-- Expert `e`'s block in every slot: what a slot's elements hold once the copy of that block has landed. -/
def ringB (c : Dev nD) (fW : BufOf F c aW) (e : Fin 32) : BufOf F c mRing :=
  fun (i : S8x2048x1536.Idx) => fW (fun a => match a with | ⟨0, _⟩ => e | ⟨1, _⟩ => i 1 | ⟨2, _⟩ => i 2)

theorem slotM_set (k : Fin 8) : (slotM k).view.set = (Rect.unit (s := S8x2048x1536) ![k.val, 0, 0] S1x2048x1536.size (inbSlot k)).set := by
  unfold slotM
  exact (View.set_reshape _ _).trans (View.set_slice_whole _ _)

theorem mem_slotM (k : Fin 8) (i : S8x2048x1536.Idx) : i ∈ (slotM k).view.set ↔ (i 0).val = k.val := by
  rw [slotM_set]
  refine Rect.mem_set_unit.trans ⟨fun h => ?_, fun h a => ?_⟩
  · have := h 0
    have h1 : k.val ≤ (i 0).val := this.1
    have h2 : (i 0).val < k.val + 1 := this.2
    omega
  · have h1 : (i 1).val < 2048 := (i 1).isLt
    have h2 : (i 2).val < 1536 := (i 2).isLt
    fin_cases a
    · show k.val ≤ (i 0).val ∧ (i 0).val < k.val + 1; omega
    · show 0 ≤ (i 1).val ∧ (i 1).val < 0 + 2048; omega
    · show 0 ≤ (i 2).val ∧ (i 2).val < 0 + 1536; omega

/-- Where entry `y` of slot `k` and of block `e` lie. -/
theorem slotM_emb (k : Fin 8) (x : S2048x1536.Idx) :
    (slotM k).view.emb x = (Rect.unit (s := S8x2048x1536) ![k.val, 0, 0] S1x2048x1536.size (inbSlot k)).emb
      (Shape.reshapeEquiv squeezes_S1x2048x1536_S2048x1536.numel_eq x) := rfl
theorem blkM_emb (e : Fin 32) (x : S2048x1536.Idx) :
    (blkM e).view.emb x = (Rect.unit (s := S32x2048x1536) ![e.val, 0, 0] S1x2048x1536.size (inbBlk e)).emb
      (Shape.reshapeEquiv squeezes_S1x2048x1536_S2048x1536.numel_eq x) := rfl

theorem ringB_emb (c : Dev nD) (fW : BufOf F c aW) (k : Fin 8) (e : Fin 32) (x : S2048x1536.Idx) :
    ringB c fW e ((slotM k).view.emb x) = fW ((blkM e).view.emb x) := by
  rw [slotM_emb, blkM_emb]
  generalize Shape.reshapeEquiv squeezes_S1x2048x1536_S2048x1536.numel_eq x = y
  unfold ringB
  refine congrArg fW (funext fun a => Fin.ext ?_)
  have h0 : (y 0).val < 1 := (y 0).isLt
  fin_cases a
  · show e.val = e.val + 1 * (y 0).val; omega
  · rfl
  · rfl

theorem read_ringB (c : Dev nD) (fW : BufOf F c aW) (k : Fin 8) (e : Fin 32) (x : S2048x1536.Idx) :
    (slotM k).view.read (Elt F) (ringB c fW e) x = (blkM e).view.read (Elt F) fW x := ringB_emb c fW k e x

/-- Contents written whole through a view, at an element of the view. -/
theorem writes_whole_eq {sp : Space} {s : Shape} {e : EltTy} (v : View sig .tc sp s e) (f g : v.ty.Contents (Elt F)) (w : s.Idx → Elt F e)
    (h : ∀ x, v.read (Elt F) g x = w x) (i : v.ty.Idx) (hi : i ∈ v.set) : v.writes (Elt F) f [⟨Rect.whole s, w⟩] i = g i := by
  obtain ⟨x, -, rfl⟩ := Finset.mem_map.mp hi
  refine View.eq_of_read_eq ?_
  rw [h]
  exact View.read_writes_cons_hit v f (Rect.whole s) w [] x x (by
    funext a; apply Fin.ext; rw [Rect.emb_apply]; show 0 + 1 * (x a).val = (x a).val; omega)

/-- What the copy leaves in the slot is the expert's block. -/
theorem landed (c : Dev nD) (fW : BufOf F c aW) (k : Fin 8) (e : Fin 32) (f : Buf (Elt F) ((slotM k).view.loc (c : Thread nD τ))) :
    (slotPt c k ((slotM k).view.writes (Elt F) f [⟨Rect.whole S2048x1536, ReadAs.same.apply ((blkM e).view.read (Elt F) fW)⟩]) : sProp 𝕄)
      = (mRing.view.loc (c : Thread nD τ) ↦[(slotM k).view.set]{fullShare} ringB c fW e) :=
  pointsTo_congr (writes_whole_eq (slotM k).view f (ringB c fW e) _ (read_ringB c fW k e))

theorem slot_subset (k : Fin 8) {off size : Fin 3 → Nat} (inb : ∀ a, off a + size a ≤ S8x2048x1536.size a) (h0 : off 0 = k.val) (h1 : size 0 = 1) :
    (mRing.access (Rect.unit (s := S8x2048x1536) off size inb)).set ⊆ (slotM k).view.set := by
  intro i hi
  have hi' : i ∈ (Rect.unit (s := S8x2048x1536) off size inb).set := by
    rw [← View.set_slice_whole cc0_scratch6]; exact hi
  refine (mem_slotM k i).mpr ?_
  have h := (Rect.mem_set_unit.mp hi') 0
  rw [h0, h1] at h
  omega

/-- The elements of slot `k`, among the ring buffer's. The slots partition the ring. -/
abbrev slotSet (c : Dev nD) (k : Fin 8) : Finset (Idx (mRing.view.loc (c : Thread nD τ))) := (slotM k).view.set

theorem slots_disjoint (c : Dev nD) (k k' : Fin 8) (h : k ≠ k') : Disjoint (slotSet c k) (slotSet c k') := by
  rw [Finset.disjoint_left]
  intro i hi hi'
  exact h (Fin.ext (((mem_slotM k i).mp hi).symm.trans ((mem_slotM k' i).mp hi')))

theorem slots_cover (c : Dev nD) : (Finset.univ : Finset (Fin 8)).biUnion (slotSet c) = Finset.univ :=
  Finset.eq_univ_of_forall fun (i : S8x2048x1536.Idx) => Finset.mem_biUnion.mpr ⟨⟨(i 0).val, (i 0).isLt⟩, Finset.mem_univ _, (mem_slotM _ i).mpr rfl⟩

theorem ring_blocks (c : Dev nD) (g : BufOf F c mRing) :
    (pt c mRing g : sProp 𝕄) = bigSep Finset.univ (fun k : Fin 8 => (mRing.view.loc (c : Thread nD τ) ↦[slotSet c k]{fullShare} g : sProp 𝕄)) :=
  Ring.pointsTo_blocks (slotSet c) (slots_disjoint c) (slots_cover c) g

theorem ring_blocks_join (c : Dev nD) (g : BufOf F c mRing) :
    bigSep Finset.univ (fun k : Fin 8 => (iprop(∃ f, mRing.view.loc (c : Thread nD τ) ↦[slotSet c k]{fullShare} f) : sProp 𝕄)) ⊢ (iprop(∃ g, pt c mRing g) : sProp 𝕄) :=
  Ring.pointsTo_blocks_join_exists (slotSet c) (slots_disjoint c) (slots_cover c) g

/-- The weights' read shares: one for each cell, and the rest. -/
theorem tok_split (c : Dev nD) (fW : BufOf F c aW) :
    (pt c aW fW : sProp 𝕄) ⊣⊢ iprop((aW.view.loc (c : Thread nD τ) ↦{Transfers.shareDrop fullShare 8} fW)
      ∗ bigSep Finset.univ (fun k : Fin 8 => (tokW c fW k Finset.univ : sProp 𝕄))) :=
  Transfers.pointsTo_toks fullShare 8

theorem atW_free (c : Dev nD) (fW : BufOf F c aW) :
    (Ring.AtW (ΦR c fW) (fun _ => none) : sProp 𝕄) = iprop(bigSep Finset.univ (fun k : Fin 8 => (semVal ((c : Thread nD τ), cellR k) 0 : sProp 𝕄))
      ∗ bigSep Finset.univ (fun k : Fin 8 => (iprop(∃ f, slotPt c k f) : sProp 𝕄))
      ∗ bigSep Finset.univ (fun k : Fin 8 => (tokW c fW k Finset.univ : sProp 𝕄))) := by
  unfold Ring.AtW ΦR freeR
  rw [BI.bigSep_sep', BI.bigSep_sep']

theorem slotPt_intro (c : Dev nD) (k : Fin 8) (g : BufOf F c mRing) :
    (mRing.view.loc (c : Thread nD τ) ↦[slotSet c k]{fullShare} g : sProp 𝕄) ⊢ iprop(∃ f, slotPt c k f) := by
  have h : (slotPt c k g : sProp 𝕄) ⊢ iprop(∃ f, slotPt c k f) := by iintro H; iexists g; iexact H
  exact h

theorem slotPts_eq (c : Dev nD) : bigSep Finset.univ (fun k : Fin 8 => (iprop(∃ f, slotPt c k f) : sProp 𝕄))
    = bigSep Finset.univ (fun k : Fin 8 => (iprop(∃ f, mRing.view.loc (c : Thread nD τ) ↦[slotSet c k]{fullShare} f) : sProp 𝕄)) := rfl

theorem slots_intro (c : Dev nD) (g : BufOf F c mRing) :
    bigSep Finset.univ (fun k : Fin 8 => (mRing.view.loc (c : Thread nD τ) ↦[slotSet c k]{fullShare} g : sProp 𝕄))
      ⊢ bigSep Finset.univ (fun k : Fin 8 => (iprop(∃ f, slotPt c k f) : sProp 𝕄)) :=
  BI.bigSep_mono fun k _ => slotPt_intro c k g

/-- The ring and the weights, held whole, are the eight slots free, with the rest of the weights' share. -/
theorem ring_split (c : Dev nD) (fW : BufOf F c aW) (g : BufOf F c mRing) :
    iprop(pt c mRing g ∗ pt c aW fW ∗ bigSep Finset.univ (fun k : Fin 8 => (semVal ((c : Thread nD τ), cellR k) 0 : sProp 𝕄)))
      ⊢ (iprop(Ring.AtW (ΦR c fW) (fun _ => none) ∗ aW.view.loc (c : Thread nD τ) ↦{Transfers.shareDrop fullShare 8} fW) : sProp 𝕄) := by
  rw [ring_blocks, atW_free]
  iintro ⟨HR, HW, HS⟩
  ihave HW := (tok_split c fW).1 $$ HW
  icases HW with ⟨HD, HT⟩
  isplitr [HD]
  · isplitl [HS]; · iexact HS
    isplitl [HR]
    · iapply (slots_intro c g) $$ HR
    · iexact HT
  · iexact HD

theorem ring_join (c : Dev nD) (fW : BufOf F c aW) (g : BufOf F c mRing) :
    (iprop(Ring.AtW (ΦR c fW) (fun _ => none) ∗ aW.view.loc (c : Thread nD τ) ↦{Transfers.shareDrop fullShare 8} fW) : sProp 𝕄)
      ⊢ iprop((∃ g, pt c mRing g) ∗ pt c aW fW ∗ bigSep Finset.univ (fun k : Fin 8 => (semVal ((c : Thread nD τ), cellR k) 0 : sProp 𝕄))) := by
  rw [atW_free, slotPts_eq]
  iintro ⟨⟨HS, HR, HT⟩, HD⟩
  isplitl [HR]
  · iapply (ring_blocks_join c g) $$ HR
  isplitr [HS]
  · iapply (tok_split c fW).2
    isplitl [HD] <;> iassumption
  · iexact HS

/-! ## A slot's copy started, and waited for -/

/-- The state of the slot in which the copy of the block of expert word `v` is in flight. -/
theorem slot_focus (c : Dev nD) (fW : BufOf F c aW) (st : Fin 8 → Option (Fin 32)) (k : Fin 8) :
    (Ring.AtW (ΦR c fW) st : sProp 𝕄) = iprop(ΦR c fW k (st k) ∗ Ring.restW (ΦR c fW) st k) := Ring.AtW_focus _ _ _

end Cert.KernelIdeal.Hand
-- ==== Proof.KernelIdeal.Chk.lean ====
/-
The side conditions of the kernel's accesses hold: every word that places an access is the number it is meant to
be, so the access lies inside its buffer, and the rows it moves are whole words.
-/
module
public import proofs.«01_k».proof.Proof.KernelIdeal.Base
public import proofs.«01_k».proof.Proof.Words
public import Idealize.ShloMosaic.Lib.LoopRemainder

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## One window of one group -/

section Window

variable {F S e : Nat} {v288 v291 v293 : BitVec 32}

theorem off62_eq (hv : v291.toNat = F) (hF : F ≤ 24576) (hs : v293.toNat = S) (hS : S ≤ 768)
    (t : Fin (k0_t2_loop v291 v293).trips) : k0_off62 v291 v293 t = ![r0 F t.val, 0] := by
  have ht : t.val ≤ 9 := by
    have h1 : (k0_t2_loop v291 v293).trips = nwin F S := trips_ubW (nwinW_toNat hv hF hs hS) (by have := nwin_le hS (F := F); omega)
    have := nwin_le hS (F := F); have := t.isLt; omega
  show ![(r0W v291 t.val).toNat, 0] = _
  rw [r0W_toNat hv hF ht]

/-- The trips of a group's window loop. -/
theorem t2_trips (hv : v291.toNat = F) (hF : F ≤ 24576) (hs : v293.toNat = S) (hS : S ≤ 768) :
    (k0_t2_loop v291 v293).trips = nwin F S :=
  trips_ubW (nwinW_toNat hv hF hs hS) (by have := nwin_le hS (F := F); omega)

theorem mult1_eq (hv : v291.toNat = F) (hF : F ≤ 24576) (hs : v293.toNat = S) (hS : S ≤ 768)
    (t : Fin (k0_t2_loop v291 v293).trips) : (k0_mult1 v291 v293 t).toNat = r0 F t.val :=
  congrFun (off62_eq hv hF hs hS t) 0

/-- A box of 96 rows from row `r ≤ 672`, some columns, lies inside 768 rows. -/
theorem inb_rows {off : Fin 2 → Nat} {r c w C : Nat} (ho : off = ![r, c]) (hr : r ≤ 672) (hc : c + w ≤ C) :
    ∀ a, off a + (![96, w] : Fin 2 → Nat) a ≤ (![768, C] : Fin 2 → Nat) a := by
  subst ho; intro a; fin_cases a
  · show r + 96 ≤ 768; omega
  · exact hc

theorem inb_row {off : Fin 2 → Nat} {r c w C : Nat} (ho : off = ![r, c]) (hr : r < 32) (hc : c + w ≤ C) :
    ∀ a, off a + (![1, w] : Fin 2 → Nat) a ≤ (![32, C] : Fin 2 → Nat) a := by
  subst ho; intro a; fin_cases a
  · show r + 1 ≤ 32; omega
  · exact hc

theorem inb_slot {off : Fin 3 → Nat} {r c w C n : Nat} (ho : off = ![r, 0, c]) (hr : r < n) (hc : c + w ≤ C) :
    ∀ a, off a + (![1, 2048, w] : Fin 3 → Nat) a ≤ (![n, 2048, C] : Fin 3 → Nat) a := by
  subst ho; intro a; fin_cases a
  · show r + 1 ≤ n; omega
  · show 0 + 2048 ≤ 2048; omega
  · exact hc

theorem packed_out {off : Fin 2 → Nat} {r c w : Nat} (ho : off = ![r, c]) (hr : 32 ∣ r)
    (inb : ∀ a, off a + (⟨2, ![96, w]⟩ : Shape).size a ≤ S768x1536.size a) :
    (Rect.unit (s := S768x1536) off (⟨2, ![96, w]⟩ : Shape).size inb).PackedRows (EltTy.packing .bf16) := by
  subst ho
  refine Affine.packed_dvd (by decide) ?_ ?_
  · show 2 ∣ r; omega
  · show 2 ∣ 96; decide

variable {g : Nat → BitVec 32}

/-- Every access of a group's windows is in bounds, once the group starts at row `F ≤ 24576`, has `S ≤ 768` rows, and
    `v288` is the number of a group. -/
theorem chk43 (t1 : Fin (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips) (hslot : (Scalar.remsi (Scf.iv 0#32 1#32 t1.val) 8#32).toNat < 8)
    (he : v288.toNat = e) (he' : e < 32)
    (hv : v291.toNat = F) (hF : F ≤ 24576) (hs : v293.toNat = S) (hS : S ≤ 768) :
    k0_chk43 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 := by
  have o := off62_eq hv hF hs hS
  have hok : (k0_t2_loop v291 v293).OK := ok_ubW (nwinW_toNat hv hF hs hS) (by have := nwin_le hS (F := F); omega)
  have no3 : Fin (k0_t3_loop v291 v293).trips → False := fun t => Scf.rem_no_trip _ _ t
  have r672 := r0_le F
  have rd := r0_dvd F
  refine ⟨hok, ?_, ?_, ?_, ?_, ?_, ?_, ?_, ?_, ?_, ?_, ?_, ?_, ?_, ?_, ?_, Scf.rem_ok _ _,
    fun t => (no3 t).elim, fun t => (no3 t).elim, fun t => (no3 t).elim, fun t => (no3 t).elim, fun t => (no3 t).elim,
    fun t => (no3 t).elim, fun t => (no3 t).elim, fun t => (no3 t).elim, fun t => (no3 t).elim, fun t => (no3 t).elim,
    fun t => (no3 t).elim, fun t => (no3 t).elim, fun t => (no3 t).elim, fun t => (no3 t).elim, fun t => (no3 t).elim⟩
  · intro t; rw [mult1_eq hv hF hs hS t]; exact rd t.val
  · intro t; exact inb_rows (o t) (r672 t.val) (by decide)
  · intro t; exact inb_rows (o t) (r672 t.val) (by decide)
  · intro t; exact inb_slot rfl hslot (by decide)
  · intro t; exact inb_row rfl (he ▸ he') (by decide)
  · intro t; exact inb_rows (o t) (r672 t.val) (by decide)
  · intro t inb; exact packed_out (o t) (rd t.val) inb
  · intro t; exact inb_slot rfl hslot (by decide)
  · intro t; exact inb_row rfl (he ▸ he') (by decide)
  · intro t; exact inb_rows (c := 512) (congrArg (fun f : Fin 2 → Nat => ![f 0, 512]) (o t)) (r672 t.val) (by decide)
  · intro t inb; exact packed_out (congrArg (fun f : Fin 2 → Nat => ![f 0, 512]) (o t)) (rd t.val) inb
  · intro t; exact inb_slot rfl hslot (by decide)
  · intro t; exact inb_row rfl (he ▸ he') (by decide)
  · intro t; exact inb_rows (c := 1024) (congrArg (fun f : Fin 2 → Nat => ![f 0, 1024]) (o t)) (r672 t.val) (by decide)
  · intro t inb; exact packed_out (congrArg (fun f : Fin 2 → Nat => ![f 0, 1024]) (o t)) (rd t.val) inb

end Window

/-! ## The kernel's other words -/

theorem inb_word {n : Nat} {w : BitVec 32} (h : w.toNat < n) : ∀ a, (![w.toNat] : Fin 1 → Nat) a + S1.size a ≤ (![n] : Fin 1 → Nat) a := by
  intro a; fin_cases a
  show w.toNat + 1 ≤ n; omega

/-- The place of the next nonempty group lies inside the list, whatever the sizes. -/
theorem inb_at (g : Nat → BitVec 32) (k : Nat) (hk : k < 32) :
    ∀ a, (![(cntW g k).toNat] : Fin 1 → Nat) a + S1.size a ≤ S32.size a :=
  inb_word (lt_of_le_of_lt (cntW_le g k (by omega)) hk)

/-- The stores of the list of nonempty groups are in bounds. -/
theorem chk_list :
    (∀ v0, k0_chk1 v0)
    ∧ (∀ v0 v1, k0_chk2 v0 v1)
    ∧ (∀ v0 v1 v2, k0_chk3 v0 v1 v2)
    ∧ (∀ v0 v1 v2 v3, k0_chk4 v0 v1 v2 v3)
    ∧ (∀ v0 v1 v2 v3 v4, k0_chk5 v0 v1 v2 v3 v4)
    ∧ (∀ v0 v1 v2 v3 v4 v5, k0_chk6 v0 v1 v2 v3 v4 v5)
    ∧ (∀ v0 v1 v2 v3 v4 v5 v6, k0_chk7 v0 v1 v2 v3 v4 v5 v6)
    ∧ (∀ v0 v1 v2 v3 v4 v5 v6 v7, k0_chk8 v0 v1 v2 v3 v4 v5 v6 v7)
    ∧ (∀ v0 v1 v2 v3 v4 v5 v6 v7 v8, k0_chk9 v0 v1 v2 v3 v4 v5 v6 v7 v8)
    ∧ (∀ v0 v1 v2 v3 v4 v5 v6 v7 v8 v9, k0_chk10 v0 v1 v2 v3 v4 v5 v6 v7 v8 v9)
    ∧ (∀ v0 v1 v2 v3 v4 v5 v6 v7 v8 v9 v10, k0_chk11 v0 v1 v2 v3 v4 v5 v6 v7 v8 v9 v10)
    ∧ (∀ v0 v1 v2 v3 v4 v5 v6 v7 v8 v9 v10 v11, k0_chk12 v0 v1 v2 v3 v4 v5 v6 v7 v8 v9 v10 v11)
    ∧ (∀ v0 v1 v2 v3 v4 v5 v6 v7 v8 v9 v10 v11 v12, k0_chk13 v0 v1 v2 v3 v4 v5 v6 v7 v8 v9 v10 v11 v12)
    ∧ (∀ v0 v1 v2 v3 v4 v5 v6 v7 v8 v9 v10 v11 v12 v13, k0_chk14 v0 v1 v2 v3 v4 v5 v6 v7 v8 v9 v10 v11 v12 v13)
    ∧ (∀ v0 v1 v2 v3 v4 v5 v6 v7 v8 v9 v10 v11 v12 v13 v14, k0_chk15 v0 v1 v2 v3 v4 v5 v6 v7 v8 v9 v10 v11 v12 v13 v14)
    ∧ (∀ v0 v1 v2 v3 v4 v5 v6 v7 v8 v9 v10 v11 v12 v13 v14 v15, k0_chk16 v0 v1 v2 v3 v4 v5 v6 v7 v8 v9 v10 v11 v12 v13 v14 v15)
    ∧ (∀ v0 v1 v2 v3 v4 v5 v6 v7 v8 v9 v10 v11 v12 v13 v14 v15 v16, k0_chk17 v0 v1 v2 v3 v4 v5 v6 v7 v8 v9 v10 v11 v12 v13 v14 v15 v16)
    ∧ (∀ v0 v1 v2 v3 v4 v5 v6 v7 v8 v9 v10 v11 v12 v13 v14 v15 v16 v17, k0_chk18 v0 v1 v2 v3 v4 v5 v6 v7 v8 v9 v10 v11 v12 v13 v14 v15 v16 v17)
    ∧ (∀ v0 v1 v2 v3 v4 v5 v6 v7 v8 v9 v10 v11 v12 v13 v14 v15 v16 v17 v18, k0_chk19 v0 v1 v2 v3 v4 v5 v6 v7 v8 v9 v10 v11 v12 v13 v14 v15 v16 v17 v18)
    ∧ (∀ v0 v1 v2 v3 v4 v5 v6 v7 v8 v9 v10 v11 v12 v13 v14 v15 v16 v17 v18 v19, k0_chk20 v0 v1 v2 v3 v4 v5 v6 v7 v8 v9 v10 v11 v12 v13 v14 v15 v16 v17 v18 v19)
    ∧ (∀ v0 v1 v2 v3 v4 v5 v6 v7 v8 v9 v10 v11 v12 v13 v14 v15 v16 v17 v18 v19 v20, k0_chk21 v0 v1 v2 v3 v4 v5 v6 v7 v8 v9 v10 v11 v12 v13 v14 v15 v16 v17 v18 v19 v20)
    ∧ (∀ v0 v1 v2 v3 v4 v5 v6 v7 v8 v9 v10 v11 v12 v13 v14 v15 v16 v17 v18 v19 v20 v21, k0_chk22 v0 v1 v2 v3 v4 v5 v6 v7 v8 v9 v10 v11 v12 v13 v14 v15 v16 v17 v18 v19 v20 v21)
    ∧ (∀ v0 v1 v2 v3 v4 v5 v6 v7 v8 v9 v10 v11 v12 v13 v14 v15 v16 v17 v18 v19 v20 v21 v22, k0_chk23 v0 v1 v2 v3 v4 v5 v6 v7 v8 v9 v10 v11 v12 v13 v14 v15 v16 v17 v18 v19 v20 v21 v22)
    ∧ (∀ v0 v1 v2 v3 v4 v5 v6 v7 v8 v9 v10 v11 v12 v13 v14 v15 v16 v17 v18 v19 v20 v21 v22 v23, k0_chk24 v0 v1 v2 v3 v4 v5 v6 v7 v8 v9 v10 v11 v12 v13 v14 v15 v16 v17 v18 v19 v20 v21 v22 v23)
    ∧ (∀ v0 v1 v2 v3 v4 v5 v6 v7 v8 v9 v10 v11 v12 v13 v14 v15 v16 v17 v18 v19 v20 v21 v22 v23 v24, k0_chk25 v0 v1 v2 v3 v4 v5 v6 v7 v8 v9 v10 v11 v12 v13 v14 v15 v16 v17 v18 v19 v20 v21 v22 v23 v24)
    ∧ (∀ v0 v1 v2 v3 v4 v5 v6 v7 v8 v9 v10 v11 v12 v13 v14 v15 v16 v17 v18 v19 v20 v21 v22 v23 v24 v25, k0_chk26 v0 v1 v2 v3 v4 v5 v6 v7 v8 v9 v10 v11 v12 v13 v14 v15 v16 v17 v18 v19 v20 v21 v22 v23 v24 v25)
    ∧ (∀ v0 v1 v2 v3 v4 v5 v6 v7 v8 v9 v10 v11 v12 v13 v14 v15 v16 v17 v18 v19 v20 v21 v22 v23 v24 v25 v26, k0_chk27 v0 v1 v2 v3 v4 v5 v6 v7 v8 v9 v10 v11 v12 v13 v14 v15 v16 v17 v18 v19 v20 v21 v22 v23 v24 v25 v26)
    ∧ (∀ v0 v1 v2 v3 v4 v5 v6 v7 v8 v9 v10 v11 v12 v13 v14 v15 v16 v17 v18 v19 v20 v21 v22 v23 v24 v25 v26 v27, k0_chk28 v0 v1 v2 v3 v4 v5 v6 v7 v8 v9 v10 v11 v12 v13 v14 v15 v16 v17 v18 v19 v20 v21 v22 v23 v24 v25 v26 v27)
    ∧ (∀ v0 v1 v2 v3 v4 v5 v6 v7 v8 v9 v10 v11 v12 v13 v14 v15 v16 v17 v18 v19 v20 v21 v22 v23 v24 v25 v26 v27 v28, k0_chk29 v0 v1 v2 v3 v4 v5 v6 v7 v8 v9 v10 v11 v12 v13 v14 v15 v16 v17 v18 v19 v20 v21 v22 v23 v24 v25 v26 v27 v28)
    ∧ (∀ v0 v1 v2 v3 v4 v5 v6 v7 v8 v9 v10 v11 v12 v13 v14 v15 v16 v17 v18 v19 v20 v21 v22 v23 v24 v25 v26 v27 v28 v29, k0_chk30 v0 v1 v2 v3 v4 v5 v6 v7 v8 v9 v10 v11 v12 v13 v14 v15 v16 v17 v18 v19 v20 v21 v22 v23 v24 v25 v26 v27 v28 v29)
    ∧ (∀ v0 v1 v2 v3 v4 v5 v6 v7 v8 v9 v10 v11 v12 v13 v14 v15 v16 v17 v18 v19 v20 v21 v22 v23 v24 v25 v26 v27 v28 v29 v30, k0_chk31 v0 v1 v2 v3 v4 v5 v6 v7 v8 v9 v10 v11 v12 v13 v14 v15 v16 v17 v18 v19 v20 v21 v22 v23 v24 v25 v26 v27 v28 v29 v30) :=
  ⟨fun v0 => inb_at (fun k => [v0].getD k 0#32) 1 (by decide),
   fun v0 v1 => inb_at (fun k => [v0, v1].getD k 0#32) 2 (by decide),
   fun v0 v1 v2 => inb_at (fun k => [v0, v1, v2].getD k 0#32) 3 (by decide),
   fun v0 v1 v2 v3 => inb_at (fun k => [v0, v1, v2, v3].getD k 0#32) 4 (by decide),
   fun v0 v1 v2 v3 v4 => inb_at (fun k => [v0, v1, v2, v3, v4].getD k 0#32) 5 (by decide),
   fun v0 v1 v2 v3 v4 v5 => inb_at (fun k => [v0, v1, v2, v3, v4, v5].getD k 0#32) 6 (by decide),
   fun v0 v1 v2 v3 v4 v5 v6 => inb_at (fun k => [v0, v1, v2, v3, v4, v5, v6].getD k 0#32) 7 (by decide),
   fun v0 v1 v2 v3 v4 v5 v6 v7 => inb_at (fun k => [v0, v1, v2, v3, v4, v5, v6, v7].getD k 0#32) 8 (by decide),
   fun v0 v1 v2 v3 v4 v5 v6 v7 v8 => inb_at (fun k => [v0, v1, v2, v3, v4, v5, v6, v7, v8].getD k 0#32) 9 (by decide),
   fun v0 v1 v2 v3 v4 v5 v6 v7 v8 v9 => inb_at (fun k => [v0, v1, v2, v3, v4, v5, v6, v7, v8, v9].getD k 0#32) 10 (by decide),
   fun v0 v1 v2 v3 v4 v5 v6 v7 v8 v9 v10 => inb_at (fun k => [v0, v1, v2, v3, v4, v5, v6, v7, v8, v9, v10].getD k 0#32) 11 (by decide),
   fun v0 v1 v2 v3 v4 v5 v6 v7 v8 v9 v10 v11 => inb_at (fun k => [v0, v1, v2, v3, v4, v5, v6, v7, v8, v9, v10, v11].getD k 0#32) 12 (by decide),
   fun v0 v1 v2 v3 v4 v5 v6 v7 v8 v9 v10 v11 v12 => inb_at (fun k => [v0, v1, v2, v3, v4, v5, v6, v7, v8, v9, v10, v11, v12].getD k 0#32) 13 (by decide),
   fun v0 v1 v2 v3 v4 v5 v6 v7 v8 v9 v10 v11 v12 v13 => inb_at (fun k => [v0, v1, v2, v3, v4, v5, v6, v7, v8, v9, v10, v11, v12, v13].getD k 0#32) 14 (by decide),
   fun v0 v1 v2 v3 v4 v5 v6 v7 v8 v9 v10 v11 v12 v13 v14 => inb_at (fun k => [v0, v1, v2, v3, v4, v5, v6, v7, v8, v9, v10, v11, v12, v13, v14].getD k 0#32) 15 (by decide),
   fun v0 v1 v2 v3 v4 v5 v6 v7 v8 v9 v10 v11 v12 v13 v14 v15 => inb_at (fun k => [v0, v1, v2, v3, v4, v5, v6, v7, v8, v9, v10, v11, v12, v13, v14, v15].getD k 0#32) 16 (by decide),
   fun v0 v1 v2 v3 v4 v5 v6 v7 v8 v9 v10 v11 v12 v13 v14 v15 v16 => inb_at (fun k => [v0, v1, v2, v3, v4, v5, v6, v7, v8, v9, v10, v11, v12, v13, v14, v15, v16].getD k 0#32) 17 (by decide),
   fun v0 v1 v2 v3 v4 v5 v6 v7 v8 v9 v10 v11 v12 v13 v14 v15 v16 v17 => inb_at (fun k => [v0, v1, v2, v3, v4, v5, v6, v7, v8, v9, v10, v11, v12, v13, v14, v15, v16, v17].getD k 0#32) 18 (by decide),
   fun v0 v1 v2 v3 v4 v5 v6 v7 v8 v9 v10 v11 v12 v13 v14 v15 v16 v17 v18 => inb_at (fun k => [v0, v1, v2, v3, v4, v5, v6, v7, v8, v9, v10, v11, v12, v13, v14, v15, v16, v17, v18].getD k 0#32) 19 (by decide),
   fun v0 v1 v2 v3 v4 v5 v6 v7 v8 v9 v10 v11 v12 v13 v14 v15 v16 v17 v18 v19 => inb_at (fun k => [v0, v1, v2, v3, v4, v5, v6, v7, v8, v9, v10, v11, v12, v13, v14, v15, v16, v17, v18, v19].getD k 0#32) 20 (by decide),
   fun v0 v1 v2 v3 v4 v5 v6 v7 v8 v9 v10 v11 v12 v13 v14 v15 v16 v17 v18 v19 v20 => inb_at (fun k => [v0, v1, v2, v3, v4, v5, v6, v7, v8, v9, v10, v11, v12, v13, v14, v15, v16, v17, v18, v19, v20].getD k 0#32) 21 (by decide),
   fun v0 v1 v2 v3 v4 v5 v6 v7 v8 v9 v10 v11 v12 v13 v14 v15 v16 v17 v18 v19 v20 v21 => inb_at (fun k => [v0, v1, v2, v3, v4, v5, v6, v7, v8, v9, v10, v11, v12, v13, v14, v15, v16, v17, v18, v19, v20, v21].getD k 0#32) 22 (by decide),
   fun v0 v1 v2 v3 v4 v5 v6 v7 v8 v9 v10 v11 v12 v13 v14 v15 v16 v17 v18 v19 v20 v21 v22 => inb_at (fun k => [v0, v1, v2, v3, v4, v5, v6, v7, v8, v9, v10, v11, v12, v13, v14, v15, v16, v17, v18, v19, v20, v21, v22].getD k 0#32) 23 (by decide),
   fun v0 v1 v2 v3 v4 v5 v6 v7 v8 v9 v10 v11 v12 v13 v14 v15 v16 v17 v18 v19 v20 v21 v22 v23 => inb_at (fun k => [v0, v1, v2, v3, v4, v5, v6, v7, v8, v9, v10, v11, v12, v13, v14, v15, v16, v17, v18, v19, v20, v21, v22, v23].getD k 0#32) 24 (by decide),
   fun v0 v1 v2 v3 v4 v5 v6 v7 v8 v9 v10 v11 v12 v13 v14 v15 v16 v17 v18 v19 v20 v21 v22 v23 v24 => inb_at (fun k => [v0, v1, v2, v3, v4, v5, v6, v7, v8, v9, v10, v11, v12, v13, v14, v15, v16, v17, v18, v19, v20, v21, v22, v23, v24].getD k 0#32) 25 (by decide),
   fun v0 v1 v2 v3 v4 v5 v6 v7 v8 v9 v10 v11 v12 v13 v14 v15 v16 v17 v18 v19 v20 v21 v22 v23 v24 v25 => inb_at (fun k => [v0, v1, v2, v3, v4, v5, v6, v7, v8, v9, v10, v11, v12, v13, v14, v15, v16, v17, v18, v19, v20, v21, v22, v23, v24, v25].getD k 0#32) 26 (by decide),
   fun v0 v1 v2 v3 v4 v5 v6 v7 v8 v9 v10 v11 v12 v13 v14 v15 v16 v17 v18 v19 v20 v21 v22 v23 v24 v25 v26 => inb_at (fun k => [v0, v1, v2, v3, v4, v5, v6, v7, v8, v9, v10, v11, v12, v13, v14, v15, v16, v17, v18, v19, v20, v21, v22, v23, v24, v25, v26].getD k 0#32) 27 (by decide),
   fun v0 v1 v2 v3 v4 v5 v6 v7 v8 v9 v10 v11 v12 v13 v14 v15 v16 v17 v18 v19 v20 v21 v22 v23 v24 v25 v26 v27 => inb_at (fun k => [v0, v1, v2, v3, v4, v5, v6, v7, v8, v9, v10, v11, v12, v13, v14, v15, v16, v17, v18, v19, v20, v21, v22, v23, v24, v25, v26, v27].getD k 0#32) 28 (by decide),
   fun v0 v1 v2 v3 v4 v5 v6 v7 v8 v9 v10 v11 v12 v13 v14 v15 v16 v17 v18 v19 v20 v21 v22 v23 v24 v25 v26 v27 v28 => inb_at (fun k => [v0, v1, v2, v3, v4, v5, v6, v7, v8, v9, v10, v11, v12, v13, v14, v15, v16, v17, v18, v19, v20, v21, v22, v23, v24, v25, v26, v27, v28].getD k 0#32) 29 (by decide),
   fun v0 v1 v2 v3 v4 v5 v6 v7 v8 v9 v10 v11 v12 v13 v14 v15 v16 v17 v18 v19 v20 v21 v22 v23 v24 v25 v26 v27 v28 v29 => inb_at (fun k => [v0, v1, v2, v3, v4, v5, v6, v7, v8, v9, v10, v11, v12, v13, v14, v15, v16, v17, v18, v19, v20, v21, v22, v23, v24, v25, v26, v27, v28, v29].getD k 0#32) 30 (by decide),
   fun v0 v1 v2 v3 v4 v5 v6 v7 v8 v9 v10 v11 v12 v13 v14 v15 v16 v17 v18 v19 v20 v21 v22 v23 v24 v25 v26 v27 v28 v29 v30 => inb_at (fun k => [v0, v1, v2, v3, v4, v5, v6, v7, v8, v9, v10, v11, v12, v13, v14, v15, v16, v17, v18, v19, v20, v21, v22, v23, v24, v25, v26, v27, v28, v29, v30].getD k 0#32) 31 (by decide)⟩

/-- Expert `e`'s block is inside the weights, and whole words. -/
theorem inb_blk {v : BitVec 32} (h : v.toNat < 32) : ∀ a, (![v.toNat, 0, 0] : Fin 3 → Nat) a + S1x2048x1536.size a ≤ S32x2048x1536.size a :=
  inb_slot rfl h (by decide)

theorem words_blk {n : Nat} {v : BitVec 32} (inb : ∀ a, (![v.toNat, 0, 0] : Fin 3 → Nat) a + S1x2048x1536.size a ≤ (⟨3, ![n, 2048, 1536]⟩ : Shape).size a) :
    (Rect.unit (s := ⟨3, ![n, 2048, 1536]⟩) ![v.toNat, 0, 0] S1x2048x1536.size inb).WholeWords (EltTy.packing .fp8e4m3) :=
  Affine.words_rows (s := ⟨3, ![n, 2048, 1536]⟩) (off := ![v.toNat, 0, 0]) (size := S1x2048x1536.size) (show 2 ≤ 3 by decide) rfl rfl

section

variable {g : Nat → BitVec 32}

theorem cnt32_lt (g : Nat → BitVec 32) : cnt g 32 < 2 ^ 31 := by have := cnt_le g 32; omega

/-- As many trips as there are nonempty groups. -/
theorem t1_trips (hg : Fits g) : (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips = cnt g 32 :=
  trips_ubW (cntW_toNat hg 32 (by omega)) (cnt32_lt g)

theorem t1_lt (hg : Fits g) (t : Fin (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips) : t.val < cnt g 32 := by
  exact lt_of_lt_of_eq t.isLt (t1_trips hg)

theorem t1_lt32 (hg : Fits g) (t : Fin (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips) : t.val < 32 := by
  have := t1_lt hg t; have := cnt_le g 32; omega

/-- The first eight copies are started only as far as there are nonempty groups. -/
theorem conds (hg : Fits g) :
    (k0_cond1 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) = 1#1 ↔ 0 < cnt g 32)
    ∧ (k0_cond2 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) = 1#1 ↔ 1 < cnt g 32)
    ∧ (k0_cond3 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) = 1#1 ↔ 2 < cnt g 32)
    ∧ (k0_cond4 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) = 1#1 ↔ 3 < cnt g 32)
    ∧ (k0_cond5 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) = 1#1 ↔ 4 < cnt g 32)
    ∧ (k0_cond6 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) = 1#1 ↔ 5 < cnt g 32)
    ∧ (k0_cond7 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) = 1#1 ↔ 6 < cnt g 32)
    ∧ (k0_cond8 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) = 1#1 ↔ 7 < cnt g 32) := by
  have h := cntW_toNat hg 32 (by omega)
  have hc := cnt32_lt g
  refine ⟨?_, ?_, ?_, ?_, ?_, ?_, ?_, ?_⟩ <;> exact sgt_ext_iff h rfl hc (by decide)

theorem cond9 (hg : Fits g) (t : Fin (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips) : k0_cond9 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t = 1#1 ↔ t.val + 8 < cnt g 32 := by
  have ht := t1_lt32 hg t
  exact slt_ext_iff (aheadW_toNat (by omega)) (cntW_toNat hg 32 (by omega)) (by omega) (cnt32_lt g)

theorem slot_lt (hg : Fits g) (t : Fin (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips) : (Scalar.remsi (Scf.iv 0#32 1#32 t.val) 8#32).toNat < 8 := by
  rw [slotW_toNat (by have := t1_lt32 hg t; omega)]; omega

theorem chk40 (hg : Fits g) : k0_chk40 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) := by
  have no4 : Fin (k0_t4_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips → False := fun t => Scf.rem_no_trip _ _ t
  have i32 : ∀ t : Fin (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips, (Scf.iv 0#32 1#32 t.val).toNat < 32 := fun t => by
    have := t1_lt32 hg t; rw [iv_toNat (by omega)]; exact this
  have ah : ∀ t : Fin (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips, k0_cond9 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t = 1#1 → (Scalar.addi (Scf.iv 0#32 1#32 t.val) 8#32).toNat < 32 := fun t h => by
    have := (cond9 hg t).mp h; have := t1_lt32 hg t; have := cnt_le g 32; rw [aheadW_toNat (by omega)]; omega
  have sa : ∀ t : Fin (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips, (Scalar.remsi (Scalar.addi (Scf.iv 0#32 1#32 t.val) 8#32) 8#32).toNat < 8 := fun t => by
    have := t1_lt32 hg t; rw [slotAheadW_toNat (by omega)]; omega
  refine ⟨ok_ubW (cntW_toNat hg 32 (by omega)) (cnt32_lt g), ?_, ?_, ?_, ?_, ?_, ?_, ?_, ?_, ?_, Scf.rem_ok _ _,
    fun t => (no4 t).elim, fun t => (no4 t).elim, fun t => (no4 t).elim, fun t => (no4 t).elim, fun t => (no4 t).elim,
    fun t => (no4 t).elim, fun t => (no4 t).elim, fun t => (no4 t).elim, fun t => (no4 t).elim⟩
  · intro t; exact inb_word (i32 t)
  · intro t; exact inb_word (i32 t)
  · intro t; exact inb_word (slot_lt hg t)
  · intro t; exact inb_slot rfl (slot_lt hg t) (by decide)
  · intro t inb; exact words_blk (n := 8) inb
  · intro t h; exact inb_word (ah t h)
  · intro t h; exact inb_word (sa t)
  · intro t h; exact inb_slot rfl (sa t) (by decide)
  · intro t h inb; exact words_blk (n := 8) inb

end

end Cert.KernelIdeal.Hand

end
-- ==== Proof.KernelIdeal.Window.lean ====
/-
One window of one group: 96 rows of x times the group's block, 512 columns at a time, scaled, and written over the
rows of the window that belong to the group. The result buffer after it, as a function of what it held.
-/
module
public import proofs.«01_k».proof.Proof.KernelIdeal.Ring
public import proofs.«01_k».proof.Proof.KernelIdeal.Chk

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable {v288 v291 v293 : BitVec 32}

/-- The window's accesses are in bounds. -/
structure WinInb (v288 v291 v293 : BitVec 32) (t : Fin (k0_t2_loop v291 v293).trips) : Prop where
  x : ∀ a, k0_off62 v291 v293 t a + S96x2048.size a ≤ S768x2048.size a
  xs : ∀ a, k0_off63 v291 v293 t a + S96x1.size a ≤ S768x1.size a
  ws0 : ∀ a, k0_off65 v288 a + S1x512.size a ≤ S32x1536.size a
  ws1 : ∀ a, k0_off68 v288 a + S1x512.size a ≤ S32x1536.size a
  ws2 : ∀ a, k0_off71 v288 a + S1x512.size a ≤ S32x1536.size a
  o0 : ∀ a, k0_off66 v291 v293 t a + S96x512.size a ≤ S768x1536.size a
  o1 : ∀ a, k0_off69 v291 v293 t a + S96x512.size a ≤ S768x1536.size a
  o2 : ∀ a, k0_off72 v291 v293 t a + S96x512.size a ≤ S768x1536.size a

/-- The block's columns `512·j` to `512·j + 511`, given as the three parts' own contents. -/
abbrev Cols (F : FTy → Type) [FloatOps F] := Vec F S1x2048x512 .fp8e4m3

section

variable (c : Dev nD) (t : Fin (k0_t2_loop v291 v293).trips) (h : WinInb v288 v291 v293 t)
  (X : BufOf F c mX) (Xs : BufOf F c mXs) (Ws : BufOf F c mWs)

/-- The window's rows of x and of x's scales, the group's scales by columns. -/
abbrev winX : Vec F S96x2048 .fp8e4m3 := (mX.access (Rect.unit (s := S768x2048) (k0_off62 v291 v293 t) S96x2048.size h.x)).read (Elt F) X
abbrev winXs : Vec F S96x1 .f32 := (mXs.access (Rect.unit (s := S768x1) (k0_off63 v291 v293 t) S96x1.size h.xs)).read (Elt F) Xs
abbrev ws0 : Vec F S1x512 .f32 := (mWs.access (Rect.unit (s := S32x1536) (k0_off65 v288) S1x512.size h.ws0)).read (Elt F) Ws
abbrev ws1 : Vec F S1x512 .f32 := (mWs.access (Rect.unit (s := S32x1536) (k0_off68 v288) S1x512.size h.ws1)).read (Elt F) Ws
abbrev ws2 : Vec F S1x512 .f32 := (mWs.access (Rect.unit (s := S32x1536) (k0_off71 v288) S1x512.size h.ws2)).read (Elt F) Ws

/-- The window's rows of the result, by columns. -/
abbrev ro0 : Rect S768x1536 := Rect.unit (s := S768x1536) (k0_off66 v291 v293 t) S96x512.size h.o0
abbrev ro1 : Rect S768x1536 := Rect.unit (s := S768x1536) (k0_off69 v291 v293 t) S96x512.size h.o1
abbrev ro2 : Rect S768x1536 := Rect.unit (s := S768x1536) (k0_off72 v291 v293 t) S96x512.size h.o2

/-- The result after the first 512 columns, the second, the third. -/
def win0 (w0 : Cols F) (O : BufOf F c mOut) : BufOf F c mOut :=
  (mOut.access (ro0 t h)).write (Elt F) O
    (k0_pay10 v291 v293 (Scalar.addi v291 v293) (baseW v291) 0#32 1#32 t (winX c t h X) (winXs c t h Xs) w0 (ws0 c t h Ws)
      ((mOut.access (ro0 t h)).read (Elt F) O)) Finset.univ
def win1 (w1 : Cols F) (O : BufOf F c mOut) : BufOf F c mOut :=
  (mOut.access (ro1 t h)).write (Elt F) O
    (k0_pay1 (k0_pay9 (F := F) v291 v293 (Scalar.addi v291 v293) (baseW v291) 0#32 1#32 t) (k0_pay11 (winX c t h X) (winXs c t h Xs) w1)
      (ws1 c t h Ws) ((mOut.access (ro1 t h)).read (Elt F) O)) Finset.univ
def win2 (w2 : Cols F) (O : BufOf F c mOut) : BufOf F c mOut :=
  (mOut.access (ro2 t h)).write (Elt F) O
    (k0_pay2 (k0_pay9 (F := F) v291 v293 (Scalar.addi v291 v293) (baseW v291) 0#32 1#32 t) (winX c t h X) (winXs c t h Xs) w2
      (ws2 c t h Ws) ((mOut.access (ro2 t h)).read (Elt F) O)) Finset.univ

/-- The result after the window. -/
def winF (w0 w1 w2 : Cols F) (O : BufOf F c mOut) : BufOf F c mOut :=
  win2 c t h X Xs Ws w2 (win1 c t h X Xs Ws w1 (win0 c t h X Xs Ws w0 O))

end

theorem winInb {g : Nat → BitVec 32} {t1 : Fin (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips} (hw : k0_chk43 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293)
    (t : Fin (k0_t2_loop v291 v293).trips) : WinInb v288 v291 v293 t where
  x := k0_off62_inb (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 hw t
  xs := k0_off63_inb (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 hw t
  ws0 := k0_off65_inb (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 hw t
  ws1 := k0_off68_inb (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 hw t
  ws2 := k0_off71_inb (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 hw t
  o0 := k0_off66_inb (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 hw t
  o1 := k0_off69_inb (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 hw t
  o2 := k0_off72_inb (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 hw t

/-- A window's trip, the ring read through any elements that include the slot's. -/
theorem win_run (c : Dev nD) (g : Nat → BitVec 32) (t1 : Fin (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips)
    (hw : k0_chk43 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293) (t2 : Fin (k0_t2_loop v291 v293).trips)
    (R : BufOf F c mRing) (S : Finset (Idx (mRing.view.loc (c : Thread nD τ))))
    (hS1 : (mRing.access (Rect.unit (s := S8x2048x1536) (k0_off64 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1) S1x2048x512.size (k0_off64_inb (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 hw t2))).set ⊆ S)
    (hS2 : (mRing.access (Rect.unit (s := S8x2048x1536) (k0_off67 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1) S1x2048x512.size (k0_off67_inb (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 hw t2))).set ⊆ S)
    (hS3 : (mRing.access (Rect.unit (s := S8x2048x1536) (k0_off70 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1) S1x2048x512.size (k0_off70_inb (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 hw t2))).set ⊆ S)
    (X : BufOf F c mX) (Xs : BufOf F c mXs) (Ws : BufOf F c mWs) (O : BufOf F c mOut) (v289 : BitVec 32) (acc : BitVec 32)
    (Q : BitVec 32 → sProp 𝕄) :
    iprop((pt c mX X ∗ pt c mXs Xs ∗ pt c mWs Ws ∗ pt c mOut O ∗ (mRing.view.loc (c : Thread nD τ) ↦[S]{fullShare} R)) ∗
        ((pt c mX X ∗ pt c mXs Xs ∗ pt c mWs Ws ∗ pt c mOut (winF c t2 (winInb hw t2) X Xs Ws
            ((mRing.access (Rect.unit (s := S8x2048x1536) (k0_off64 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1) S1x2048x512.size (k0_off64_inb (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 hw t2))).read (Elt F) R)
            ((mRing.access (Rect.unit (s := S8x2048x1536) (k0_off67 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1) S1x2048x512.size (k0_off67_inb (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 hw t2))).read (Elt F) R)
            ((mRing.access (Rect.unit (s := S8x2048x1536) (k0_off70 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1) S1x2048x512.size (k0_off70_inb (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 hw t2))).read (Elt F) R) O) ∗
          (mRing.view.loc (c : Thread nD τ) ↦[S]{fullShare} R)) -∗ Q 0#32))
      ⊢ wpc c (k0_t2_body aGs (Memref.isWhole_whole _) aX (Memref.isWhole_whole _) aXs (Memref.isWhole_whole _) aW (Memref.isWhole_whole _) aWs (Memref.isWhole_whole _) mOut (Memref.isWhole_whole _) mGs (Memref.isWhole_whole _) mAct (Memref.isWhole_whole _) mSt (Memref.isWhole_whole _) mX (Memref.isWhole_whole _) mXs (Memref.isWhole_whole _) mWs (Memref.isWhole_whole _) mRing (Memref.isWhole_whole _) cc0_scratch7 cc0_scratch8 cc0_scratch9 cc0_scratch10 cc0_scratch11 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v289 v291 v293 hw (Scalar.addi v291 v293) (baseW v291) 0#32 t2 acc) Q := by
  unfold k0_t2_body wpc
  simp only [k0_part1_eq_skeleton]; unfold k0_part1_skel
  iintro ⟨⟨HX, HXs, HWs, HO, HR⟩, HQ⟩
  sl_exec
  iapply (wp_load_rect Variants.none (c : Thread nD τ) none Set.univ (m := mRing) hS1) $$ HR; iintro HR
  sl_exec
  iapply (wp_load_rect Variants.none (c : Thread nD τ) none Set.univ (m := mRing) hS2) $$ HR; iintro HR
  sl_exec
  iapply (wp_load_rect Variants.none (c : Thread nD τ) none Set.univ (m := mRing) hS3) $$ HR; iintro HR
  sl_exec
  sl_step
  iapply HQ
  isplitl [HX]; · iexact HX
  isplitl [HXs]; · iexact HXs
  isplitl [HWs]; · iexact HWs
  isplitl [HO]; · iexact HO
  iexact HR

end Cert.KernelIdeal.Hand

end
-- ==== Proof.KernelIdeal.Group.lean ====
/-
One nonempty group: its windows in turn, each by `winF`, the group's block read from its slot of the ring.
-/
module
public import proofs.«01_k».proof.Proof.KernelIdeal.Window

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- 512 columns from `o` of expert `e`'s block. -/
def cols (c : Dev nD) (fW : BufOf F c aW) (e : Fin 32) (o : Nat) (ho : o ≤ 1024) : Cols F :=
  fun (i : S1x2048x512.Idx) => fW (fun a => match a with
    | ⟨0, _⟩ => e
    | ⟨1, _⟩ => i 1
    | ⟨2, _⟩ => (⟨o + (i 2).val, by have : (i 2).val < 512 := (i 2).isLt; show o + (i 2).val < 1536; omega⟩ : Fin 1536))

/-- 512 columns of a slot in which expert `e`'s block has landed are those of the block. -/
theorem read_cols (c : Dev nD) (fW : BufOf F c aW) (e : Fin 32) (o : Nat) (ho : o ≤ 1024) {off : Fin 3 → Nat}
    (inb : ∀ a, off a + S1x2048x512.size a ≤ S8x2048x1536.size a) (h1 : off 1 = 0) (h2 : off 2 = o) :
    (mRing.access (Rect.unit (s := S8x2048x1536) off S1x2048x512.size inb)).read (Elt F) (ringB c fW e) = cols c fW e o ho := by
  funext (i : S1x2048x512.Idx)
  show ringB c fW e ((Rect.unit (s := S8x2048x1536) off S1x2048x512.size inb).emb i) = _
  unfold ringB cols
  refine congrArg fW (funext fun a => Fin.ext ?_)
  fin_cases a
  · rfl
  · show off 1 + 1 * (i 1).val = (i 1).val; omega
  · show off 2 + 1 * (i 2).val = o + (i 2).val; omega

section

variable (c : Dev nD) (fW : BufOf F c aW) (X : BufOf F c mX) (Xs : BufOf F c mXs) (Ws : BufOf F c mWs)

/-- The result after the first `t` windows of expert `e`, whose rows start at `v` and are `s` many. -/
def winsF (e : Fin 32) (v288 v s : BitVec 32) (O : BufOf F c mOut) : Nat → BufOf F c mOut
  | 0 => O
  | t + 1 =>
    open scoped Classical in
    if h : ∃ ht : t < (k0_t2_loop v s).trips, WinInb v288 v s ⟨t, ht⟩ then
      winF c ⟨t, h.1⟩ h.2 X Xs Ws (cols c fW e 0 (by omega)) (cols c fW e 512 (by omega)) (cols c fW e 1024 (by omega)) (winsF e v288 v s O t)
    else winsF e v288 v s O t

theorem winsF_succ (e : Fin 32) (v288 v s : BitVec 32) (O : BufOf F c mOut) (t : Fin (k0_t2_loop v s).trips) (h : WinInb v288 v s t) :
    winsF c fW X Xs Ws e v288 v s O (t.val + 1) =
      winF c t h X Xs Ws (cols c fW e 0 (by omega)) (cols c fW e 512 (by omega)) (cols c fW e 1024 (by omega)) (winsF c fW X Xs Ws e v288 v s O t.val) := by
  rw [winsF]
  exact dif_pos ⟨t.isLt, h⟩

end

/-- What a group's windows are run in: x and the scales in place, the result, and the group's block in its slot. -/
abbrev winR (c : Dev nD) (fW : BufOf F c aW) (k : Fin 8) (e : Fin 32) (X : BufOf F c mX) (Xs : BufOf F c mXs) (Ws : BufOf F c mWs)
    (O : BufOf F c mOut) : sProp 𝕄 :=
  iprop(pt c mX X ∗ pt c mXs Xs ∗ pt c mWs Ws ∗ pt c mOut O ∗ (mRing.view.loc (c : Thread nD τ) ↦[(slotM k).view.set]{fullShare} ringB c fW e))

variable {v288 v291 v293 : BitVec 32}

theorem win_step (c : Dev nD) (g : Nat → BitVec 32) (t1 : Fin (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips)
    (hw : k0_chk43 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293) (fW : BufOf F c aW) (k : Fin 8) (e : Fin 32)
    (hk : (Scalar.remsi (Scf.iv 0#32 1#32 t1.val) 8#32).toNat = k.val)
    (X : BufOf F c mX) (Xs : BufOf F c mXs) (Ws : BufOf F c mWs) (O : BufOf F c mOut) (v289 acc : BitVec 32)
    (t2 : Fin (k0_t2_loop v291 v293).trips) :
    winR c fW k e X Xs Ws (winsF c fW X Xs Ws e v288 v291 v293 O t2.val)
      ⊢ wpc c (k0_t2_body aGs (Memref.isWhole_whole _) aX (Memref.isWhole_whole _) aXs (Memref.isWhole_whole _) aW (Memref.isWhole_whole _) aWs (Memref.isWhole_whole _) mOut (Memref.isWhole_whole _) mGs (Memref.isWhole_whole _) mAct (Memref.isWhole_whole _) mSt (Memref.isWhole_whole _) mX (Memref.isWhole_whole _) mXs (Memref.isWhole_whole _) mWs (Memref.isWhole_whole _) mRing (Memref.isWhole_whole _) cc0_scratch7 cc0_scratch8 cc0_scratch9 cc0_scratch10 cc0_scratch11 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v289 v291 v293 hw (Scalar.addi v291 v293) (baseW v291) 0#32 t2 acc)
          (fun _ => winR c fW k e X Xs Ws (winsF c fW X Xs Ws e v288 v291 v293 O (t2.val + 1))) := by
  have i1 := k0_off64_inb (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 hw t2
  have i2 := k0_off67_inb (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 hw t2
  have i3 := k0_off70_inb (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 hw t2
  have hr := win_run c g t1 hw t2 (ringB c fW e) (slotM k).view.set (slot_subset k i1 hk rfl) (slot_subset k i2 hk rfl) (slot_subset k i3 hk rfl)
    X Xs Ws (winsF c fW X Xs Ws e v288 v291 v293 O t2.val) v289 acc
    (fun _ => winR c fW k e X Xs Ws (winsF c fW X Xs Ws e v288 v291 v293 O (t2.val + 1)))
  rw [read_cols c fW e 0 (by omega) i1 rfl rfl, read_cols c fW e 512 (by omega) i2 rfl rfl, read_cols c fW e 1024 (by omega) i3 rfl rfl,
    ← winsF_succ] at hr
  refine .trans ?_ hr
  iintro H
  isplitl [H]; · iexact H
  iintro H; iexact H

/-- A group's windows, at the head of a program. -/
theorem wins_run (c : Dev nD) (g : Nat → BitVec 32) (t1 : Fin (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips)
    (hw : k0_chk43 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293) (fW : BufOf F c aW) (k : Fin 8) (e : Fin 32)
    (hk : (Scalar.remsi (Scf.iv 0#32 1#32 t1.val) 8#32).toNat = k.val)
    (X : BufOf F c mX) (Xs : BufOf F c mXs) (Ws : BufOf F c mWs) (O : BufOf F c mOut) (v289 : BitVec 32)
    {β : Type} {kk : BitVec 32 → Prog (TpuEff nD τ sig (Elt F) Λ₀ .tc) β} {Q : β → sProp 𝕄} :
    winR c fW k e X Xs Ws O ⊢
      iprop((∀ acc, winR c fW k e X Xs Ws (winsF c fW X Xs Ws e v288 v291 v293 O (k0_t2_loop v291 v293).trips) -∗ wpc c (kk acc) Q) -∗
        wpc c (Scf.Loop.for (k0_t2_loop v291 v293) (k0_t2_ok (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v291 v293 hw) 0#32
          (k0_t2_body aGs (Memref.isWhole_whole _) aX (Memref.isWhole_whole _) aXs (Memref.isWhole_whole _) aW (Memref.isWhole_whole _) aWs (Memref.isWhole_whole _) mOut (Memref.isWhole_whole _) mGs (Memref.isWhole_whole _) mAct (Memref.isWhole_whole _) mSt (Memref.isWhole_whole _) mX (Memref.isWhole_whole _) mXs (Memref.isWhole_whole _) mWs (Memref.isWhole_whole _) mRing (Memref.isWhole_whole _) cc0_scratch7 cc0_scratch8 cc0_scratch9 cc0_scratch10 cc0_scratch11 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v288 v289 v291 v293 hw (Scalar.addi v291 v293) (baseW v291) 0#32) >>= kk) Q) :=
  Scf.wp_for_bind frame (wpE (defs₀ (F := F)) Variants.none c none) Set.univ _ _ _ _ _ _
    (fun t _ => winR c fW k e X Xs Ws (winsF c fW X Xs Ws e v288 v291 v293 O t))
    (fun t2 acc => win_step c g t1 hw fW k e hk X Xs Ws O v289 acc t2)

end Cert.KernelIdeal.Hand

end
-- ==== Proof.KernelIdeal.Lists.lean ====
/-
The head of a trip: the group's number, first row and size are read from the lists, and the wait for its block ends.
-/
module
public import proofs.«01_k».proof.Proof.KernelIdeal.Group
public import proofs.«01_k».proof.Proof.Slots

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The three lists of words -/

/-- Entry `i` of a list of 32 words. -/
def at32 (A : S32.Idx → BitVec 32) (i : Nat) : BitVec 32 :=
  A (fun a => ⟨i % 32, by
    have h : S32.size a = 32 := match a with | ⟨0, _⟩ => rfl
    rw [h]; exact Nat.mod_lt _ (by decide)⟩)

/-- The group sizes in a buffer, by number. -/
abbrev gOf {c : Dev nD} (G : BufOf F c mGs) : Nat → BitVec 32 := at32 G

/-- The list of nonempty groups; the groups' first rows. -/
def PAct (g A : Nat → BitVec 32) (k : Nat) : Prop := ∀ e < k, isAct g e → A (cnt g e) = BitVec.ofNat 32 e
def PSt (g S : Nat → BitVec 32) (k : Nat) : Prop := ∀ e < k, S e = rowW g e

theorem read_gs (c : Dev nD) (G : BufOf F c mGs) {off : Fin 1 → Nat} {i : Nat} (inb : ∀ a, off a + S1.size a ≤ S32.size a) (h : off 0 = i) (hi : i < 32) (x : S1.Idx) :
    (mGs.access (Rect.unit (s := S32) off S1.size inb)).read (Elt F) G x = at32 G i := by
  show G ((Rect.unit (s := S32) off S1.size inb).emb x) = _
  unfold at32
  refine congrArg G (funext fun a => Fin.ext ?_)
  have hx : (x 0).val < 1 := (x 0).isLt
  fin_cases a
  show off 0 + 1 * (x 0).val = i % 32
  omega

theorem read_act (c : Dev nD) (G : BufOf F c mAct) {off : Fin 1 → Nat} {i : Nat} (inb : ∀ a, off a + S1.size a ≤ S32.size a) (h : off 0 = i) (hi : i < 32) (x : S1.Idx) :
    (mAct.access (Rect.unit (s := S32) off S1.size inb)).read (Elt F) G x = at32 G i := read_gs (F := F) c G inb h hi x

theorem read_st (c : Dev nD) (G : BufOf F c mSt) {off : Fin 1 → Nat} {i : Nat} (inb : ∀ a, off a + S1.size a ≤ S32.size a) (h : off 0 = i) (hi : i < 32) (x : S1.Idx) :
    (mSt.access (Rect.unit (s := S32) off S1.size inb)).read (Elt F) G x = at32 G i := read_gs (F := F) c G inb h hi x

/-- A word read from a list at the head of a program: the program goes on with the word. -/
theorem word_load (c : Dev nD) (m : Memref sig .tc .smem S32 .i32) (A : BufOf F c m) {off : Fin 1 → Nat}
    {inb : ∀ a, off a + S1.size a ≤ S32.size a} {v : BitVec 32}
    (hv : ∀ x : S1.Idx, (m.access (Rect.unit (s := S32) off S1.size inb)).read (Elt F) A x = v)
    {β : Type} {kk : Elt F .i32 → Prog (TpuEff nD τ sig (Elt F) Λ₀ .tc) β} {Q : β → sProp 𝕄} :
    pt c m A ⊢ iprop((pt c m A -∗ wpc c (kk v) Q) -∗ wpc c (smemLoad m (Rect.unit (s := S32) off S1.size inb) numel1_S1 rfl >>= kk) Q) := by
  unfold wpc
  iintro Hpt Hk
  iapply (wp_smemLoadElt Variants.none (c : Thread nD τ) none Set.univ (m := m) (r := Rect.unit (s := S32) off S1.size inb)
    (hw := View.loads_smem_one rfl numel1_S1) (x := Shape.Idx.first (numel1_S1.symm ▸ Nat.one_pos)) (S := Finset.univ) (Finset.subset_univ _)) $$ Hpt
  iintro Hpt
  rw [hv]
  iapply Hk $$ Hpt

/-- A proved side condition at the head of a program. -/
theorem assume_run (c : Dev nD) {P : Prop} {d : Decidable P} (h : P) {β : Type}
    {kk : PLift P → Prog (TpuEff nD τ sig (Elt F) Λ₀ .tc) β} {Q : β → sProp 𝕄} :
    wpc c (kk ⟨h⟩) Q ⊢ wpc c (Prog.lift (TpuEff.assume P d) >>= kk) Q := by
  unfold wpc
  iintro H
  iapply (wp_assume Variants.none (c : Thread nD τ) none Set.univ h)
  iexact H

end Cert.KernelIdeal.Hand

end
-- ==== Proof.KernelIdeal.Issue.lean ====
/-
The start of a block's copy into a free slot.
-/
module
public import proofs.«01_k».proof.Proof.KernelIdeal.Lists
public import proofs.«01_k».proof.Proof.KernelIdeal.Chk

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Expert `e`'s block is copied into slot `k`, which was free: the slot is then in flight with `e`. -/
theorem issue_run (c : Dev nD) (fW : BufOf F c aW) (st : Fin 8 → Option (Fin 32)) (k : Fin 8) (e : Fin 32) (hst : st k = none)
    {o1 : Fin 1 → Nat} {o2 o3 : Fin 3 → Nat} (h1 : o1 = ![k.val]) (h2 : o2 = ![k.val, 0, 0]) (h3 : o3 = ![e.val, 0, 0])
    {i1 : ∀ a, o1 a + S1.size a ≤ S8.size a} {i2 : ∀ a, o2 a + S1x2048x1536.size a ≤ S8x2048x1536.size a}
    {i3 : ∀ a, o3 a + S1x2048x1536.size a ≤ S32x2048x1536.size a} {x1 x2 x3}
    {β : Type} {kk : PUnit → Prog (TpuEff nD τ sig (Elt F) Λ₀ .tc) β} {Q : β → sProp 𝕄} :
    Ring.AtW (ΦR c fW) st ⊢ iprop((Ring.AtW (ΦR c fW) (Function.update st k (some e)) -∗ wpc c (kk ⟨⟩) Q) -∗
      wpc c (Prog.lift (TpuEff.enqueueDma
        ((aW.slice (Rect.unit (s := S32x2048x1536) o3 S1x2048x1536.size i3) (fun _ => rfl)).squeeze S2048x1536 squeezes_S1x2048x1536_S2048x1536)
        (.here ((mRing.slice (Rect.unit (s := S8x2048x1536) o2 S1x2048x1536.size i2) (fun _ => rfl)).squeeze S2048x1536 squeezes_S1x2048x1536_S2048x1536))
        (.dma ((cc0_scratch11.slice (Rect.unit (s := S8) o1 S1.size i1)).squeeze S_ squeezes_S1_S_).sem) x1 x2 x3) >>= kk) Q) := by
  subst h1 h2 h3
  rw [slot_focus c fW st k]
  iintro ⟨Hk, Hrest⟩ HQ
  unfold wpc
  simp only [ΦR, hst]
  icases Hk with ⟨Hcell, ⟨%f, Hslot⟩, Htok⟩
  sl_exec
  iapply HQ
  iapply (Ring.AtW_update (ΦR c fW) st k (some e))
  isplitr [Hrest]
  · simp only [ΦR]
    isplitl [Hcell]
    · iexists f; iexact Hcell
    · iexact Htok
  · iexact Hrest

/-- One of the first eight copies: block `i` of the list is copied into slot `i`, if the list is that long. -/
theorem issue_if (c : Dev nD) {g : Nat → BitVec 32} (fW : BufOf F c aW) (A : BufOf F c mAct) (hA : PAct g (at32 A) 32)
    {i : Nat} (hi : i < 8) {P : Prop} [Decidable P] (hP : P ↔ i < cnt g 32)
    {chk : BitVec 32 → Prop} {d : ∀ v, Decidable (chk v)} (hchk : ∀ v : BitVec 32, v.toNat < 32 → chk v)
    {o0 o1 : Fin 1 → Nat} {o2 : Fin 3 → Nat} {o3 : BitVec 32 → Fin 3 → Nat} (h0 : o0 0 = i) (h1 : o1 = ![i]) (h2 : o2 = ![i, 0, 0])
    (h3 : ∀ v, o3 v = ![v.toNat, 0, 0])
    {i0 : ∀ a, o0 a + S1.size a ≤ S32.size a} {i1 : ∀ a, o1 a + S1.size a ≤ S8.size a} {i2 : ∀ a, o2 a + S1x2048x1536.size a ≤ S8x2048x1536.size a}
    {i3 : P → ∀ v, chk v → ∀ a, o3 v a + S1x2048x1536.size a ≤ S32x2048x1536.size a}
    {x1 : ∀ (h : P) v (hc : chk v),
      ((aW.slice (Rect.unit (s := S32x2048x1536) (o3 v) S1x2048x1536.size (i3 h v hc)) (fun _ => rfl)).squeeze S2048x1536 squeezes_S1x2048x1536_S2048x1536).view.WordExact}
    {x2 x3}
    {β : Type} {rest : Prog (TpuEff nD τ sig (Elt F) Λ₀ .tc) β} {Q : β → sProp 𝕄} :
    iprop(pt c mAct A ∗ Ring.AtW (ΦR c fW) (stR g 0 (min (cnt g 32) i))) ⊢
      iprop((pt c mAct A ∗ Ring.AtW (ΦR c fW) (stR g 0 (min (cnt g 32) (i + 1))) -∗ wpc c (rest) Q) -∗
      wpc c (dite P (fun h => smemLoad mAct (Rect.unit (s := S32) o0 S1.size i0) numel1_S1 rfl >>= fun v =>
        Prog.lift (TpuEff.assume (chk v) (d v)) >>= fun hc => Prog.lift (TpuEff.enqueueDma
        ((aW.slice (Rect.unit (s := S32x2048x1536) (o3 v) S1x2048x1536.size (i3 h v hc.down)) (fun _ => rfl)).squeeze S2048x1536 squeezes_S1x2048x1536_S2048x1536)
        (.here ((mRing.slice (Rect.unit (s := S8x2048x1536) o2 S1x2048x1536.size i2) (fun _ => rfl)).squeeze S2048x1536 squeezes_S1x2048x1536_S2048x1536))
        (.dma ((cc0_scratch11.slice (Rect.unit (s := S8) o1 S1.size i1)).squeeze S_ squeezes_S1_S_).sem) (x1 h v hc.down) x2 x3) >>= fun _ => rest)
        (fun _ => rest)) Q) := by
  iintro ⟨HA, HR⟩ HQ
  by_cases h : P
  · have hc := hP.mp h
    have hn := cnt_le g 32
    obtain ⟨ha, hact, hcnt⟩ := act_spec hc
    have hv : (BitVec.ofNat 32 (act g i)).toNat = act g i := by rw [BitVec.toNat_ofNat]; omega
    have hv32 : (BitVec.ofNat 32 (act g i)).toNat < 32 := by omega
    have hAv : at32 A i = BitVec.ofNat 32 (act g i) := by have := hA _ ha hact; rwa [hcnt] at this
    have he : actF g i = ⟨(BitVec.ofNat 32 (act g i)).toNat, hv32⟩ :=
      Fin.ext (by show act g i % 32 = (BitVec.ofNat 32 (act g i)).toNat; omega)
    have hm1 : min (cnt g 32) i = i := by omega
    have hm2 : min (cnt g 32) (i + 1) = i + 1 := by omega
    have hnx := stR_next g (lo := 0) (hi := i) ⟨i, hi⟩ (by show i = i % 8; omega) (by omega) (by omega)
    have his := stR_issue g (lo := 0) (hi := i) ⟨i, hi⟩ (by show i = i % 8; omega) (by omega) (by omega)
    rw [hm1, hm2, ← his, he, dif_pos h]
    iapply (word_load c mAct A (v := BitVec.ofNat 32 (act g i)) (fun x => (read_act c A _ h0 (by omega) x).trans hAv)) $$ HA; iintro HA
    iapply (assume_run c (hchk _ hv32))
    iapply (issue_run c fW _ ⟨i, hi⟩ ⟨(BitVec.ofNat 32 (act g i)).toNat, hv32⟩ hnx h1 h2 (h3 _)) $$ HR
    iintro HR
    iapply HQ
    isplitl [HA]; · iexact HA
    iexact HR
  · have hc : ¬ i < cnt g 32 := fun h' => h (hP.mpr h')
    have hm : min (cnt g 32) (i + 1) = min (cnt g 32) i := by omega
    rw [hm, dif_neg h]
    iapply HQ
    isplitl [HA]; · iexact HA
    iexact HR

end Cert.KernelIdeal.Hand

end
-- ==== Proof.KernelIdeal.Trip.lean ====
/-
One trip of the outer loop: the group's words are read, its block is awaited, its windows are multiplied, and the
copy eight groups ahead is started.
-/
module
public import proofs.«01_k».proof.Proof.KernelIdeal.Lists
public import proofs.«01_k».proof.Proof.KernelIdeal.Issue
public import Idealize.ShloMosaic.Lib.LoopRemainder

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The head of a trip: the group's number `v`, its first row `f` and its size `s` are read, and its block has landed. -/
theorem part3_run (c : Dev nD) {g : Nat → BitVec 32} (hw : k0_chk40 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)) (t1 : Fin (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips) (ht : t1.val < 32)
    {v f s : BitVec 32} (hv : v.toNat < 32) (G : BufOf F c mGs) (A : BufOf F c mAct) (S : BufOf F c mSt)
    (hA : at32 A t1.val = v) (hS : at32 S v.toNat = f) (hG : at32 G v.toNat = s)
    (h43 : k0_chk43 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 v f s) (hk : (Scalar.remsi (Scf.iv 0#32 1#32 t1.val) 8#32).toNat < 8)
    (fW : BufOf F c aW) (W : Finset (SemLoc sig × Unit)) {Q : _ → sProp 𝕄} :
    iprop(pt c mGs G ∗ pt c mAct A ∗ pt c mSt S ∗ busyR c fW ⟨(Scalar.remsi (Scf.iv 0#32 1#32 t1.val) 8#32).toNat, hk⟩ ⟨v.toNat, hv⟩
        ∗ owes (c : Thread nD τ) 0 W
        ∗ ((pt c mGs G ∗ pt c mAct A ∗ pt c mSt S
            ∗ semVal ((c : Thread nD τ), cellR ⟨(Scalar.remsi (Scf.iv 0#32 1#32 t1.val) 8#32).toNat, hk⟩) 0
            ∗ (mRing.view.loc (c : Thread nD τ) ↦[(slotM ⟨(Scalar.remsi (Scf.iv 0#32 1#32 t1.val) 8#32).toNat, hk⟩).view.set]{fullShare} ringB c fW ⟨v.toNat, hv⟩)
            ∗ tokW c fW ⟨(Scalar.remsi (Scf.iv 0#32 1#32 t1.val) 8#32).toNat, hk⟩ Finset.univ ∗ ∃ W', owes (c : Thread nD τ) 0 W')
          -∗ Q ⟨Scf.iv 0#32 1#32 t1.val, v, Scalar.remsi (Scf.iv 0#32 1#32 t1.val) 8#32, f, s, h43, Scalar.addi f s, baseW f, nwinW f s, 0#32⟩))
      ⊢ wpc c (k0_part3 (F := F) aGs (Memref.isWhole_whole _) aX (Memref.isWhole_whole _) aXs (Memref.isWhole_whole _) aW (Memref.isWhole_whole _) aWs (Memref.isWhole_whole _) mOut (Memref.isWhole_whole _) mGs (Memref.isWhole_whole _) mAct (Memref.isWhole_whole _) mSt (Memref.isWhole_whole _) mX (Memref.isWhole_whole _) mXs (Memref.isWhole_whole _) mWs (Memref.isWhole_whole _) mRing (Memref.isWhole_whole _) cc0_scratch7 cc0_scratch8 cc0_scratch9 cc0_scratch10 cc0_scratch11 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) hw 0#32 1#32 t1) Q := by
  have h41 : k0_chk41 v := inb_word hv
  have h42 : k0_chk42 v := ⟨inb_blk hv, fun inb => words_blk inb⟩
  have o56 : k0_off56 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 0 = t1.val := iv_toNat (by omega)
  have o58 : k0_off58 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 0 = t1.val := iv_toNat (by omega)
  iintro ⟨HG, HA, HS, Hk, HO, HQ⟩
  icases Hk with ⟨⟨%f0, Hfl⟩, Htok⟩
  unfold k0_part3
  iapply (word_load c mAct A (v := v) (fun x => (read_act c A _ o56 ht x).trans hA)) $$ HA; iintro HA
  iapply (assume_run c h41)
  iapply (word_load c mSt S (v := f) (fun x => (read_st c S _ rfl hv x).trans hS)) $$ HS; iintro HS
  iapply (word_load c mGs G (v := s) (fun x => (read_gs c G _ rfl hv x).trans hG)) $$ HG; iintro HG
  iapply (assume_run c h43)
  iapply (word_load c mAct A (v := v) (fun x => (read_act c A _ o58 ht x).trans hA)) $$ HA; iintro HA
  iapply (assume_run c h42)
  unfold wpc
  sl_exec
  sl_step
  iapply HQ
  isplitl [HG]; · iexact HG
  isplitl [HA]; · iexact HA
  isplitl [HS]; · iexact HS
  isplitl [Hfl]; · iexact Hfl
  isplitl [Hfl_dst]; · rw [← landed c fW _ _ f0]; iexact Hfl_dst
  isplitl [Htok]; · iexact Htok
  iexists _; iexact HO

/-! ## The result after each group -/

section

variable (c : Dev nD) (fW : BufOf F c aW) (X : BufOf F c mX) (Xs : BufOf F c mXs) (Ws : BufOf F c mWs)

/-- The result after group `e`'s windows. -/
def groupF (g : Nat → BitVec 32) (e : Fin 32) (O : BufOf F c mOut) : BufOf F c mOut :=
  winsF c fW X Xs Ws e (BitVec.ofNat 32 e.val) (rowW g e.val) (g e.val) O (k0_t2_loop (rowW g e.val) (g e.val)).trips

/-- The result after the first `i` nonempty groups. -/
def outF (g : Nat → BitVec 32) (O : BufOf F c mOut) : Nat → BufOf F c mOut
  | 0 => O
  | i + 1 => groupF c fW X Xs Ws g (actF g i) (outF g O i)

end

/-- What holds before trip `i` of the outer loop. -/
abbrev tripI (c : Dev nD) (g : Nat → BitVec 32) (fW : BufOf F c aW) (G : BufOf F c mGs) (A : BufOf F c mAct) (S : BufOf F c mSt)
    (X : BufOf F c mX) (Xs : BufOf F c mXs) (Ws : BufOf F c mWs) (O : BufOf F c mOut) (i : Nat) : sProp 𝕄 :=
  iprop(pt c mGs G ∗ pt c mAct A ∗ pt c mSt S ∗ (pt c mX X ∗ pt c mXs Xs ∗ pt c mWs Ws ∗ pt c mOut (outF c fW X Xs Ws g O i))
    ∗ Ring.AtW (ΦR c fW) (stR g i (min (cnt g 32) (i + 8))) ∗ ∃ W, owes (c : Thread nD τ) 0 W)

theorem trip_step (c : Dev nD) {g : Nat → BitVec 32} (hg : Fits g) (hw : k0_chk40 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)) (t1 : Fin (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips)
    (fW : BufOf F c aW) (G : BufOf F c mGs) (A : BufOf F c mAct) (S : BufOf F c mSt)
    (hG : ∀ e < 32, at32 G e = g e) (hA : PAct g (at32 A) 32) (hS : PSt g (at32 S) 32)
    (X : BufOf F c mX) (Xs : BufOf F c mXs) (Ws : BufOf F c mWs) (O : BufOf F c mOut) (acc : BitVec 32) :
    tripI c g fW G A S X Xs Ws O t1.val
      ⊢ wpc c (k0_t1_body (F := F) aGs (Memref.isWhole_whole _) aX (Memref.isWhole_whole _) aXs (Memref.isWhole_whole _) aW (Memref.isWhole_whole _) aWs (Memref.isWhole_whole _) mOut (Memref.isWhole_whole _) mGs (Memref.isWhole_whole _) mAct (Memref.isWhole_whole _) mSt (Memref.isWhole_whole _) mX (Memref.isWhole_whole _) mXs (Memref.isWhole_whole _) mWs (Memref.isWhole_whole _) mRing (Memref.isWhole_whole _) cc0_scratch7 cc0_scratch8 cc0_scratch9 cc0_scratch10 cc0_scratch11 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) hw t1 acc) (fun _ => tripI c g fW G A S X Xs Ws O (t1.val + 1)) := by
  have hi := t1_lt hg t1
  have hi32 := t1_lt32 hg t1
  obtain ⟨ha, hact, hcnt⟩ := act_spec hi
  have hk := slot_lt hg t1
  have hkv : (Scalar.remsi (Scf.iv 0#32 1#32 t1.val) 8#32).toNat = t1.val % 8 := slotW_toNat (by omega)
  have hv : (BitVec.ofNat 32 (act g t1.val)).toNat = act g t1.val := by rw [BitVec.toNat_ofNat]; omega
  have hv32 : (BitVec.ofNat 32 (act g t1.val)).toNat < 32 := by omega
  have hAv : at32 A t1.val = BitVec.ofNat 32 (act g t1.val) := by have := hA _ ha hact; rwa [hcnt] at this
  have hSv : at32 S (BitVec.ofNat 32 (act g t1.val)).toNat = rowW g (act g t1.val) := by rw [hv]; exact hS _ ha
  have hGv : at32 G (BitVec.ofNat 32 (act g t1.val)).toNat = g (act g t1.val) := by rw [hv]; exact hG _ ha
  have h43 := chk43 (v288 := BitVec.ofNat 32 (act g t1.val)) (v291 := rowW g (act g t1.val)) (v293 := g (act g t1.val)) t1 hk hv ha
    (rowW_toNat hg _ (by omega)) ((row_le hg _).trans (by omega)) rfl (hg _)
  have he : actF g t1.val = ⟨(BitVec.ofNat 32 (act g t1.val)).toNat, hv32⟩ := Fin.ext (by show act g t1.val % 32 = (BitVec.ofNat 32 (act g t1.val)).toNat; omega)
  have hlo : t1.val < min (cnt g 32) (t1.val + 8) := by omega
  have hst := stR_head g ⟨(Scalar.remsi (Scf.iv 0#32 1#32 t1.val) 8#32).toNat, hk⟩ hkv hlo
  have e1 : (Ring.AtW (ΦR c fW) (stR g t1.val (min (cnt g 32) (t1.val + 8))) : sProp 𝕄)
      = iprop(busyR c fW ⟨(Scalar.remsi (Scf.iv 0#32 1#32 t1.val) 8#32).toNat, hk⟩ ⟨(BitVec.ofNat 32 (act g t1.val)).toNat, hv32⟩
        ∗ Ring.restW (ΦR c fW) (stR g t1.val (min (cnt g 32) (t1.val + 8))) ⟨(Scalar.remsi (Scf.iv 0#32 1#32 t1.val) 8#32).toNat, hk⟩) := by
    rw [slot_focus c fW _ ⟨(Scalar.remsi (Scf.iv 0#32 1#32 t1.val) 8#32).toNat, hk⟩, hst, he]; rfl
  unfold tripI k0_t1_body wpc
  rw [e1, wp_bind]
  iintro ⟨HG, HA, HS, HV, ⟨Hk, Hrest⟩, %W, HO⟩
  iapply (part3_run c hw t1 hi32 hv32 G A S hAv hSv hGv h43 hk fW W)
  isplitl [HG]; · iexact HG
  isplitl [HA]; · iexact HA
  isplitl [HS]; · iexact HS
  isplitl [Hk]; · iexact Hk
  isplitl [HO]; · iexact HO
  iintro ⟨HG, HA, HS, Hcell, Hslot, Htok, HO⟩
  iapply (wins_run c g t1 h43 fW ⟨(Scalar.remsi (Scf.iv 0#32 1#32 t1.val) 8#32).toNat, hk⟩ ⟨(BitVec.ofNat 32 (act g t1.val)).toNat, hv32⟩ rfl X Xs Ws
    (outF c fW X Xs Ws g O t1.val) _) $$ [HV Hslot]
  · icases HV with ⟨H1, H2, H3, H4⟩
    isplitl [H1]; · iexact H1
    isplitl [H2]; · iexact H2
    isplitl [H3]; · iexact H3
    isplitl [H4]; · iexact H4
    iexact Hslot
  iintro %acc2 ⟨H1, H2, H3, H4, Hslot⟩
  ihave HR := (Ring.AtW_update (ΦR c fW) _ _ none) $$ [Hrest Hcell Hslot Htok]
  · isplitr [Hrest]
    · simp only [ΦR]
      isplitl [Hcell]; · iexact Hcell
      isplitl [Hslot]; · iexists _; iexact Hslot
      iexact Htok
    · iexact Hrest
  unfold wpc
  sl_exec
  have hdr := stR_drain g ⟨(Scalar.remsi (Scf.iv 0#32 1#32 t1.val) 8#32).toNat, hk⟩ hkv hlo (by omega)
  have hO : winsF c fW X Xs Ws ⟨(BitVec.ofNat 32 (act g t1.val)).toNat, hv32⟩ (BitVec.ofNat 32 (act g t1.val)) (rowW g (act g t1.val))
      (g (act g t1.val)) (outF c fW X Xs Ws g O t1.val) (k0_t2_loop (rowW g (act g t1.val)) (g (act g t1.val))).trips
      = outF c fW X Xs Ws g O (t1.val + 1) := by
    show _ = groupF c fW X Xs Ws g (actF g t1.val) _
    unfold groupF
    rw [he]; simp only [hv]
  by_cases h9 : k0_cond9 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 = 1#1
  · have hi8 : t1.val + 8 < cnt g 32 := (cond9 hg t1).mp h9
    obtain ⟨ha', hact', hcnt'⟩ := act_spec hi8
    have hv' : (BitVec.ofNat 32 (act g (t1.val + 8))).toNat = act g (t1.val + 8) := by rw [BitVec.toNat_ofNat]; omega
    have hv32' : (BitVec.ofNat 32 (act g (t1.val + 8))).toNat < 32 := by omega
    have hn := cnt_le g 32
    have hAv' : at32 A (t1.val + 8) = BitVec.ofNat 32 (act g (t1.val + 8)) := by have := hA _ ha' hact'; rwa [hcnt'] at this
    have o84 : k0_off84 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 0 = t1.val + 8 := aheadW_toNat (by omega)
    have hkv' : (Scalar.remsi (Scalar.addi (Scf.iv 0#32 1#32 t1.val) 8#32) 8#32).toNat = (t1.val + 8) % 8 := slotAheadW_toNat (by omega)
    have hk' : (Scalar.remsi (Scalar.addi (Scf.iv 0#32 1#32 t1.val) 8#32) 8#32).toNat < 8 := by omega
    have he' : actF g (t1.val + 8) = ⟨(BitVec.ofNat 32 (act g (t1.val + 8))).toNat, hv32'⟩ :=
      Fin.ext (by show act g (t1.val + 8) % 32 = (BitVec.ofNat 32 (act g (t1.val + 8))).toNat; omega)
    have h44 : k0_chk44 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t1 (BitVec.ofNat 32 (act g (t1.val + 8))) := ⟨fun _ => inb_blk hv32', fun _ inb => words_blk inb⟩
    have hm1 : min (cnt g 32) (t1.val + 8) = t1.val + 8 := by omega
    have hm2 : min (cnt g 32) (t1.val + 1 + 8) = t1.val + 8 + 1 := by omega
    have hnx := stR_next g ⟨(Scalar.remsi (Scalar.addi (Scf.iv 0#32 1#32 t1.val) 8#32) 8#32).toNat, hk'⟩ (lo := t1.val + 1) (hi := t1.val + 8) hkv' (by omega) (by omega)
    have his := stR_issue g ⟨(Scalar.remsi (Scalar.addi (Scf.iv 0#32 1#32 t1.val) 8#32) 8#32).toNat, hk'⟩ (lo := t1.val + 1) (hi := t1.val + 8) hkv' (by omega) (by omega)
    rw [hm1] at hdr
    rw [hm1, hdr, hO, hm2, ← his, he', dif_pos h9]
    iapply (word_load c mAct A (v := BitVec.ofNat 32 (act g (t1.val + 8))) (fun x => (read_act c A _ o84 (by omega) x).trans hAv')) $$ HA; iintro HA
    iapply (assume_run c h44)
    iapply (issue_run c fW _ ⟨(Scalar.remsi (Scalar.addi (Scf.iv 0#32 1#32 t1.val) 8#32) 8#32).toNat, hk'⟩ ⟨(BitVec.ofNat 32 (act g (t1.val + 8))).toNat, hv32'⟩
      hnx rfl rfl rfl) $$ HR
    iintro HR
    unfold wpc
    sl_exec
    sl_step
    isplitl [HG]; · iexact HG
    isplitl [HA]; · iexact HA
    isplitl [HS]; · iexact HS
    isplitl [H1 H2 H3 H4]
    · isplitl [H1]; · iexact H1
      isplitl [H2]; · iexact H2
      isplitl [H3]; · iexact H3
      iexact H4
    isplitl [HR]; · iexact HR
    iexact HO
  · have hi8 : ¬ t1.val + 8 < cnt g 32 := fun h => h9 ((cond9 hg t1).mpr h)
    have hm : min (cnt g 32) (t1.val + 1 + 8) = min (cnt g 32) (t1.val + 8) := by omega
    rw [hdr, hO, hm, dif_neg h9]
    sl_exec
    sl_step
    isplitl [HG]; · iexact HG
    isplitl [HA]; · iexact HA
    isplitl [HS]; · iexact HS
    isplitl [H1 H2 H3 H4]
    · isplitl [H1]; · iexact H1
      isplitl [H2]; · iexact H2
      isplitl [H3]; · iexact H3
      iexact H4
    isplitl [HR]; · iexact HR
    iexact HO

end Cert.KernelIdeal.Hand

end
-- ==== Proof.KernelIdeal.Tail.lean ====
/-
The lists' entries as they are written, the first eight copies, and the outer loop.
-/
module
public import proofs.«01_k».proof.Proof.KernelIdeal.Trip
public import Idealize.ShloMosaic.Lib.CellWrites

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Writing the lists -/

theorem at32_writes (v : View sig .tc .smem S32 .i32) (f : v.ty.Contents (Elt F)) (L : List _) {off : Fin 1 → Nat}
    (inb : ∀ a, off a + S1.size a ≤ S32.size a) (w : BitVec 32) (i : Nat) (hi : i < 32) :
    at32 (v.read (Elt F) (v.writes (Elt F) f (⟨Rect.unit (s := S32) off S1.size inb, fun _ => w⟩ :: L))) i
      = if off 0 = i then w else at32 (v.read (Elt F) (v.writes (Elt F) f L)) i := by
  have e : i % 32 = i := Nat.mod_eq_of_lt hi
  refine (View.read_writes_cons_cell (d := ![32]) v f inb w L (fun a => ⟨i % 32, by
    have h : S32.size a = 32 := match a with | ⟨0, _⟩ => rfl
    show i % 32 < S32.size a
    rw [h]; exact Nat.mod_lt _ (by decide)⟩)).trans ?_
  show (if i % 32 = off 0 then w else at32 (v.read (Elt F) (v.writes (Elt F) f L)) i) = _
  by_cases h : off 0 = i
  · rw [if_pos h, if_pos (e.trans h.symm)]
  · rw [if_neg h, if_neg (fun h' => h (h'.symm.trans e))]

theorem at32_act (c : Dev nD) (A : BufOf F c mAct) (L : List _) {off : Fin 1 → Nat} (inb : ∀ a, off a + S1.size a ≤ S32.size a) (w : BitVec 32)
    (i : Nat) (hi : i < 32) :
    at32 (mAct.view.writes (Elt F) A (⟨Rect.unit (s := S32) off S1.size inb, fun _ => w⟩ :: L)) i
      = if off 0 = i then w else at32 (mAct.view.writes (Elt F) A L) i := at32_writes mAct.view A L inb w i hi

theorem at32_st (c : Dev nD) (A : BufOf F c mSt) (L : List _) {off : Fin 1 → Nat} (inb : ∀ a, off a + S1.size a ≤ S32.size a) (w : BitVec 32)
    (i : Nat) (hi : i < 32) :
    at32 (mSt.view.writes (Elt F) A (⟨Rect.unit (s := S32) off S1.size inb, fun _ => w⟩ :: L)) i
      = if off 0 = i then w else at32 (mSt.view.writes (Elt F) A L) i := at32_writes mSt.view A L inb w i hi

theorem PAct_nil (g : Nat → BitVec 32) (A : Nat → BitVec 32) : PAct g A 0 := fun e he => absurd he (Nat.not_lt_zero e)
theorem PSt_nil (g : Nat → BitVec 32) (A : Nat → BitVec 32) : PSt g A 0 := fun e he => absurd he (Nat.not_lt_zero e)

/-- Group `k` is written at the end of the list; the next group overwrites it if it is empty. -/
theorem PAct_cons (c : Dev nD) {g : Nat → BitVec 32} (hg : Fits g) (A : BufOf F c mAct) {L : List _} {k : Nat} (hk : k < 32)
    {off : Fin 1 → Nat} {inb : ∀ a, off a + S1.size a ≤ S32.size a} {w : BitVec 32} (ho : off 0 = (cntW g k).toNat) (hw : w = BitVec.ofNat 32 k)
    (h : PAct g (at32 (mAct.view.writes (Elt F) A L)) k) :
    PAct g (at32 (mAct.view.writes (Elt F) A (⟨Rect.unit (s := S32) off S1.size inb, fun _ => w⟩ :: L))) (k + 1) := by
  intro e he ha
  rw [cntW_toNat hg k (by omega)] at ho
  have h1 := cnt_le g e
  rw [at32_act c A L inb w _ (by omega), ho]
  by_cases hek : e = k
  · subst hek; rw [if_pos rfl, hw]
  · have hlt : e < k := by omega
    have : cnt g e < cnt g k := by
      have h2 : cnt g (e + 1) = cnt g e + 1 := by unfold cnt; rw [Nat.count_succ, if_pos ha]
      have h3 : cnt g (e + 1) ≤ cnt g k := Nat.count_monotone _ hlt
      omega
    rw [if_neg (by omega)]
    exact h e hlt ha

/-- Group `k`'s first row is written at `k`. -/
theorem PSt_cons (c : Dev nD) {g : Nat → BitVec 32} (A : BufOf F c mSt) {L : List _} {k : Nat} (hk : k < 32)
    {off : Fin 1 → Nat} {inb : ∀ a, off a + S1.size a ≤ S32.size a} {w : BitVec 32} (ho : off 0 = k) (hw : w = rowW g k)
    (h : PSt g (at32 (mSt.view.writes (Elt F) A L)) k) :
    PSt g (at32 (mSt.view.writes (Elt F) A (⟨Rect.unit (s := S32) off S1.size inb, fun _ => w⟩ :: L))) (k + 1) := by
  intro e he
  refine (at32_st c A L inb w e (by omega)).trans ?_
  rw [ho]
  by_cases hek : e = k
  · subst hek; rw [if_pos rfl, hw]
  · rw [if_neg (by omega)]
    exact h e (by omega)

/-! ## The first eight copies -/

theorem part15_run (c : Dev nD) {g : Nat → BitVec 32} (hg : Fits g) (hw31 : k0_chk31 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30)) (fW : BufOf F c aW)
    (A : BufOf F c mAct) (hA : PAct g (at32 A) 31) (O : BufOf F c mOut) {Q : _ → sProp 𝕄} :
    iprop(pt c mAct A ∗ Ring.AtW (ΦR c fW) (fun _ => none) ∗ pt c mOut O
        ∗ (∀ (w : BitVec 32) (A' : BufOf F c mAct), ⌜PAct g (at32 A') 32⌝ -∗ pt c mAct A' ∗ Ring.AtW (ΦR c fW) (stR g 0 (min (cnt g 32) 8)) ∗ pt c mOut O
            -∗ Q ⟨w, k0_pay21⟩))
      ⊢ wpc c (k0_part15 (F := F) aGs (Memref.isWhole_whole _) aX (Memref.isWhole_whole _) aXs (Memref.isWhole_whole _) aW (Memref.isWhole_whole _) aWs (Memref.isWhole_whole _) mOut (Memref.isWhole_whole _) mGs (Memref.isWhole_whole _) mAct (Memref.isWhole_whole _) mSt (Memref.isWhole_whole _) mX (Memref.isWhole_whole _) mXs (Memref.isWhole_whole _) mWs (Memref.isWhole_whole _) mRing (Memref.isWhole_whole _) cc0_scratch7 cc0_scratch8 cc0_scratch9 cc0_scratch10 cc0_scratch11 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) hw31 (cntW g 31) (g 31) 31#32) Q := by
  have h0 : stR g 0 (min (cnt g 32) 0) = fun _ => none := by rw [Nat.min_zero]; exact stR_self g 0
  rw [← h0]
  iintro ⟨HA, HR, HO, HQ⟩
  rw [k0_part15_eq_skeleton]
  unfold k0_part15_skel wpc
  sl_exec
  have hA' := PAct_cons (F := F) c hg A (L := []) (k := 31) (by decide) (off := k0_off31 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30)) (inb := k0_off31_inb (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) hw31) (w := 31#32) rfl rfl hA
  iapply (issue_if c fW _ hA' (i := 0) (by decide) (conds hg).1 (chk := k0_chk32 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31))
    (fun v hv => ⟨fun _ => inb_blk hv, fun _ inb => words_blk inb⟩) rfl rfl rfl (fun _ => rfl)) $$ [HA HR]
  · isplitl [HA] <;> iassumption
  iintro ⟨HA, HR⟩
  iapply (issue_if c fW _ hA' (i := 1) (by decide) (conds hg).2.1 (chk := k0_chk33 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31))
    (fun v hv => ⟨fun _ => inb_blk hv, fun _ inb => words_blk inb⟩) rfl rfl rfl (fun _ => rfl)) $$ [HA HR]
  · isplitl [HA] <;> iassumption
  iintro ⟨HA, HR⟩
  iapply (issue_if c fW _ hA' (i := 2) (by decide) (conds hg).2.2.1 (chk := k0_chk34 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31))
    (fun v hv => ⟨fun _ => inb_blk hv, fun _ inb => words_blk inb⟩) rfl rfl rfl (fun _ => rfl)) $$ [HA HR]
  · isplitl [HA] <;> iassumption
  iintro ⟨HA, HR⟩
  iapply (issue_if c fW _ hA' (i := 3) (by decide) (conds hg).2.2.2.1 (chk := k0_chk35 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31))
    (fun v hv => ⟨fun _ => inb_blk hv, fun _ inb => words_blk inb⟩) rfl rfl rfl (fun _ => rfl)) $$ [HA HR]
  · isplitl [HA] <;> iassumption
  iintro ⟨HA, HR⟩
  iapply (issue_if c fW _ hA' (i := 4) (by decide) (conds hg).2.2.2.2.1 (chk := k0_chk36 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31))
    (fun v hv => ⟨fun _ => inb_blk hv, fun _ inb => words_blk inb⟩) rfl rfl rfl (fun _ => rfl)) $$ [HA HR]
  · isplitl [HA] <;> iassumption
  iintro ⟨HA, HR⟩
  iapply (issue_if c fW _ hA' (i := 5) (by decide) (conds hg).2.2.2.2.2.1 (chk := k0_chk37 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31))
    (fun v hv => ⟨fun _ => inb_blk hv, fun _ inb => words_blk inb⟩) rfl rfl rfl (fun _ => rfl)) $$ [HA HR]
  · isplitl [HA] <;> iassumption
  iintro ⟨HA, HR⟩
  iapply (issue_if c fW _ hA' (i := 6) (by decide) (conds hg).2.2.2.2.2.2.1 (chk := k0_chk38 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31))
    (fun v hv => ⟨fun _ => inb_blk hv, fun _ inb => words_blk inb⟩) rfl rfl rfl (fun _ => rfl)) $$ [HA HR]
  · isplitl [HA] <;> iassumption
  iintro ⟨HA, HR⟩
  iapply (issue_if c fW _ hA' (i := 7) (by decide) (conds hg).2.2.2.2.2.2.2 (chk := k0_chk39 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31))
    (fun v hv => ⟨fun _ => inb_blk hv, fun _ inb => words_blk inb⟩) rfl rfl rfl (fun _ => rfl)) $$ [HA HR]
  · isplitl [HA] <;> iassumption
  iintro ⟨HA, HR⟩
  unfold wpc
  sl_exec
  sl_step
  iapply HQ $$ %_ %_ %hA' [HA HR HO]
  isplitl [HA]; · iexact HA
  isplitl [HR]; · iexact HR
  iexact HO

end Cert.KernelIdeal.Hand

end
-- ==== Proof.KernelIdeal.Stages.lean ====
/-
The last two stages of the kernel, over the 32 words the program read as the group sizes.
-/
module
public import proofs.«01_k».proof.Proof.KernelIdeal.Tail
public import Idealize.ShloMosaic.Lib.LoopRemainder

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The words are the group sizes `g`. -/
abbrev Words32 (g : Nat → BitVec 32) (w0 w1 w2 w3 w4 w5 w6 w7 w8 w9 w10 w11 w12 w13 w14 w15 w16 w17 w18 w19 w20 w21 w22 w23 w24 w25 w26 w27 w28 w29 w30 w31 : BitVec 32) : Prop := w0 = g 0 ∧ w1 = g 1 ∧ w2 = g 2 ∧ w3 = g 3 ∧ w4 = g 4 ∧ w5 = g 5 ∧ w6 = g 6 ∧ w7 = g 7 ∧ w8 = g 8 ∧ w9 = g 9 ∧ w10 = g 10 ∧ w11 = g 11 ∧ w12 = g 12 ∧ w13 = g 13 ∧ w14 = g 14 ∧ w15 = g 15 ∧ w16 = g 16 ∧ w17 = g 17 ∧ w18 = g 18 ∧ w19 = g 19 ∧ w20 = g 20 ∧ w21 = g 21 ∧ w22 = g 22 ∧ w23 = g 23 ∧ w24 = g 24 ∧ w25 = g 25 ∧ w26 = g 26 ∧ w27 = g 27 ∧ w28 = g 28 ∧ w29 = g 29 ∧ w30 = g 30 ∧ w31 = g 31

/-- The end of the list and the first copies, over the words read. -/
theorem part15_w (c : Dev nD) {g : Nat → BitVec 32} (hg : Fits g) {w0 w1 w2 w3 w4 w5 w6 w7 w8 w9 w10 w11 w12 w13 w14 w15 w16 w17 w18 w19 w20 w21 w22 w23 w24 w25 w26 w27 w28 w29 w30 w31 v : BitVec 32} (hw31 : k0_chk31 w0 w1 w2 w3 w4 w5 w6 w7 w8 w9 w10 w11 w12 w13 w14 w15 w16 w17 w18 w19 w20 w21 w22 w23 w24 w25 w26 w27 w28 w29 w30) (fW : BufOf F c aW)
    (e : Words32 g w0 w1 w2 w3 w4 w5 w6 w7 w8 w9 w10 w11 w12 w13 w14 w15 w16 w17 w18 w19 w20 w21 w22 w23 w24 w25 w26 w27 w28 w29 w30 w31) (hv : v = cntW g 31) (A : BufOf F c mAct) (hA : PAct g (at32 A) 31) (O : BufOf F c mOut) {Q : _ → sProp 𝕄} :
    iprop(pt c mAct A ∗ Ring.AtW (ΦR c fW) (fun _ => none) ∗ pt c mOut O
        ∗ (∀ (w : BitVec 32) (A' : BufOf F c mAct), ⌜PAct g (at32 A') 32⌝ -∗ pt c mAct A' ∗ Ring.AtW (ΦR c fW) (stR g 0 (min (cnt g 32) 8)) ∗ pt c mOut O
            -∗ Q ⟨w, k0_pay21⟩))
      ⊢ wpc c (k0_part15 (F := F) aGs (Memref.isWhole_whole _) aX (Memref.isWhole_whole _) aXs (Memref.isWhole_whole _) aW (Memref.isWhole_whole _) aWs (Memref.isWhole_whole _) mOut (Memref.isWhole_whole _) mGs (Memref.isWhole_whole _) mAct (Memref.isWhole_whole _) mSt (Memref.isWhole_whole _) mX (Memref.isWhole_whole _) mXs (Memref.isWhole_whole _) mWs (Memref.isWhole_whole _) mRing (Memref.isWhole_whole _) cc0_scratch7 cc0_scratch8 cc0_scratch9 cc0_scratch10 cc0_scratch11 w0 w1 w2 w3 w4 w5 w6 w7 w8 w9 w10 w11 w12 w13 w14 w15 w16 w17 w18 w19 w20 w21 w22 w23 w24 w25 w26 w27 w28 w29 w30 hw31 v w31 31#32) Q := by
  obtain ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ := e
  subst hv
  exact part15_run c hg hw31 fW A hA O

/-- The loop over the active groups, over the words read. -/
theorem loop_w (c : Dev nD) {g : Nat → BitVec 32} (hg : Fits g) {w0 w1 w2 w3 w4 w5 w6 w7 w8 w9 w10 w11 w12 w13 w14 w15 w16 w17 w18 w19 w20 w21 w22 w23 w24 w25 w26 w27 w28 w29 w30 w31 : BitVec 32} (hw : k0_chk40 w0 w1 w2 w3 w4 w5 w6 w7 w8 w9 w10 w11 w12 w13 w14 w15 w16 w17 w18 w19 w20 w21 w22 w23 w24 w25 w26 w27 w28 w29 w30 w31) (e : Words32 g w0 w1 w2 w3 w4 w5 w6 w7 w8 w9 w10 w11 w12 w13 w14 w15 w16 w17 w18 w19 w20 w21 w22 w23 w24 w25 w26 w27 w28 w29 w30 w31)
    (fW : BufOf F c aW) (G : BufOf F c mGs) (A : BufOf F c mAct) (S : BufOf F c mSt)
    (hG : ∀ e < 32, at32 G e = g e) (hA : PAct g (at32 A) 32) (hS : PSt g (at32 S) 32)
    (X : BufOf F c mX) (Xs : BufOf F c mXs) (Ws : BufOf F c mWs) (O : BufOf F c mOut) {kk : BitVec 32 → Prog (TpuEff nD τ sig (Elt F) Λ₀ .tc) PUnit}
    {Q : PUnit → sProp 𝕄} :
    iprop(tripI c g fW G A S X Xs Ws O 0 ∗ (∀ acc, tripI c g fW G A S X Xs Ws O (cnt g 32) -∗ wpc c (kk acc) Q))
      ⊢ wpc c (Scf.Loop.for (k0_t1_loop w0 w1 w2 w3 w4 w5 w6 w7 w8 w9 w10 w11 w12 w13 w14 w15 w16 w17 w18 w19 w20 w21 w22 w23 w24 w25 w26 w27 w28 w29 w30 w31) (k0_t1_ok w0 w1 w2 w3 w4 w5 w6 w7 w8 w9 w10 w11 w12 w13 w14 w15 w16 w17 w18 w19 w20 w21 w22 w23 w24 w25 w26 w27 w28 w29 w30 w31 hw) 0#32 (k0_t1_body (F := F) aGs (Memref.isWhole_whole _) aX (Memref.isWhole_whole _) aXs (Memref.isWhole_whole _) aW (Memref.isWhole_whole _) aWs (Memref.isWhole_whole _) mOut (Memref.isWhole_whole _) mGs (Memref.isWhole_whole _) mAct (Memref.isWhole_whole _) mSt (Memref.isWhole_whole _) mX (Memref.isWhole_whole _) mXs (Memref.isWhole_whole _) mWs (Memref.isWhole_whole _) mRing (Memref.isWhole_whole _) cc0_scratch7 cc0_scratch8 cc0_scratch9 cc0_scratch10 cc0_scratch11 w0 w1 w2 w3 w4 w5 w6 w7 w8 w9 w10 w11 w12 w13 w14 w15 w16 w17 w18 w19 w20 w21 w22 w23 w24 w25 w26 w27 w28 w29 w30 w31 hw) >>= kk) Q := by
  obtain ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ := e
  have ht := t1_trips hg
  iintro ⟨HI, HK⟩
  unfold wpc
  iapply (Scf.wp_for_bind frame (wpE (defs₀ (F := F)) Variants.none (c : Thread nD τ) none) Set.univ _ _ _ (k0_t1_ok (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) hw) 0#32
    (k0_t1_body (F := F) aGs (Memref.isWhole_whole _) aX (Memref.isWhole_whole _) aXs (Memref.isWhole_whole _) aW (Memref.isWhole_whole _) aWs (Memref.isWhole_whole _) mOut (Memref.isWhole_whole _) mGs (Memref.isWhole_whole _) mAct (Memref.isWhole_whole _) mSt (Memref.isWhole_whole _) mX (Memref.isWhole_whole _) mXs (Memref.isWhole_whole _) mWs (Memref.isWhole_whole _) mRing (Memref.isWhole_whole _) cc0_scratch7 cc0_scratch8 cc0_scratch9 cc0_scratch10 cc0_scratch11 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) hw) (fun i _ => tripI c g fW G A S X Xs Ws O i)
    (fun t acc => trip_step c hg hw t fW G A S hG hA hS X Xs Ws O acc)) $$ HI
  iintro %acc HI
  iapply HK $$ %acc [HI]
  rw [← ht]
  iexact HI

end Cert.KernelIdeal.Hand

end
-- ==== Proof.KernelIdeal.Entries.lean ====
/-
What the two lists hold after the straight-line stores, over the 32 words the program read as the group sizes.
-/
module
public import proofs.«01_k».proof.Proof.KernelIdeal.Stages

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem inbAt (k : Nat) : ∀ a, (![k % 32] : Fin 1 → Nat) a + S1.size a ≤ S32.size a := by
  intro a; fin_cases a; show k % 32 + 1 ≤ 32; omega

/-- The first 31 entries written into the list of active groups. -/
theorem act_w (c : Dev nD) {g : Nat → BitVec 32} (hg : Fits g) {w0 w1 w2 w3 w4 w5 w6 w7 w8 w9 w10 w11 w12 w13 w14 w15 w16 w17 w18 w19 w20 w21 w22 w23 w24 w25 w26 w27 w28 w29 w30 w31 : BitVec 32} (e : Words32 g w0 w1 w2 w3 w4 w5 w6 w7 w8 w9 w10 w11 w12 w13 w14 w15 w16 w17 w18 w19 w20 w21 w22 w23 w24 w25 w26 w27 w28 w29 w30 w31) (a : BufOf F c mAct)
    {i0 : ∀ a, (![0] : Fin 1 → Nat) a + S1.size a ≤ S32.size a}
    {i1 : ∀ a, (k0_off1 w0 : Fin 1 → Nat) a + S1.size a ≤ S32.size a}
    {i2 : ∀ a, (k0_off2 w0 w1 : Fin 1 → Nat) a + S1.size a ≤ S32.size a}
    {i3 : ∀ a, (k0_off3 w0 w1 w2 : Fin 1 → Nat) a + S1.size a ≤ S32.size a}
    {i4 : ∀ a, (k0_off4 w0 w1 w2 w3 : Fin 1 → Nat) a + S1.size a ≤ S32.size a}
    {i5 : ∀ a, (k0_off5 w0 w1 w2 w3 w4 : Fin 1 → Nat) a + S1.size a ≤ S32.size a}
    {i6 : ∀ a, (k0_off6 w0 w1 w2 w3 w4 w5 : Fin 1 → Nat) a + S1.size a ≤ S32.size a}
    {i7 : ∀ a, (k0_off7 w0 w1 w2 w3 w4 w5 w6 : Fin 1 → Nat) a + S1.size a ≤ S32.size a}
    {i8 : ∀ a, (k0_off8 w0 w1 w2 w3 w4 w5 w6 w7 : Fin 1 → Nat) a + S1.size a ≤ S32.size a}
    {i9 : ∀ a, (k0_off9 w0 w1 w2 w3 w4 w5 w6 w7 w8 : Fin 1 → Nat) a + S1.size a ≤ S32.size a}
    {i10 : ∀ a, (k0_off10 w0 w1 w2 w3 w4 w5 w6 w7 w8 w9 : Fin 1 → Nat) a + S1.size a ≤ S32.size a}
    {i11 : ∀ a, (k0_off11 w0 w1 w2 w3 w4 w5 w6 w7 w8 w9 w10 : Fin 1 → Nat) a + S1.size a ≤ S32.size a}
    {i12 : ∀ a, (k0_off12 w0 w1 w2 w3 w4 w5 w6 w7 w8 w9 w10 w11 : Fin 1 → Nat) a + S1.size a ≤ S32.size a}
    {i13 : ∀ a, (k0_off13 w0 w1 w2 w3 w4 w5 w6 w7 w8 w9 w10 w11 w12 : Fin 1 → Nat) a + S1.size a ≤ S32.size a}
    {i14 : ∀ a, (k0_off14 w0 w1 w2 w3 w4 w5 w6 w7 w8 w9 w10 w11 w12 w13 : Fin 1 → Nat) a + S1.size a ≤ S32.size a}
    {i15 : ∀ a, (k0_off15 w0 w1 w2 w3 w4 w5 w6 w7 w8 w9 w10 w11 w12 w13 w14 : Fin 1 → Nat) a + S1.size a ≤ S32.size a}
    {i16 : ∀ a, (k0_off16 w0 w1 w2 w3 w4 w5 w6 w7 w8 w9 w10 w11 w12 w13 w14 w15 : Fin 1 → Nat) a + S1.size a ≤ S32.size a}
    {i17 : ∀ a, (k0_off17 w0 w1 w2 w3 w4 w5 w6 w7 w8 w9 w10 w11 w12 w13 w14 w15 w16 : Fin 1 → Nat) a + S1.size a ≤ S32.size a}
    {i18 : ∀ a, (k0_off18 w0 w1 w2 w3 w4 w5 w6 w7 w8 w9 w10 w11 w12 w13 w14 w15 w16 w17 : Fin 1 → Nat) a + S1.size a ≤ S32.size a}
    {i19 : ∀ a, (k0_off19 w0 w1 w2 w3 w4 w5 w6 w7 w8 w9 w10 w11 w12 w13 w14 w15 w16 w17 w18 : Fin 1 → Nat) a + S1.size a ≤ S32.size a}
    {i20 : ∀ a, (k0_off20 w0 w1 w2 w3 w4 w5 w6 w7 w8 w9 w10 w11 w12 w13 w14 w15 w16 w17 w18 w19 : Fin 1 → Nat) a + S1.size a ≤ S32.size a}
    {i21 : ∀ a, (k0_off21 w0 w1 w2 w3 w4 w5 w6 w7 w8 w9 w10 w11 w12 w13 w14 w15 w16 w17 w18 w19 w20 : Fin 1 → Nat) a + S1.size a ≤ S32.size a}
    {i22 : ∀ a, (k0_off22 w0 w1 w2 w3 w4 w5 w6 w7 w8 w9 w10 w11 w12 w13 w14 w15 w16 w17 w18 w19 w20 w21 : Fin 1 → Nat) a + S1.size a ≤ S32.size a}
    {i23 : ∀ a, (k0_off23 w0 w1 w2 w3 w4 w5 w6 w7 w8 w9 w10 w11 w12 w13 w14 w15 w16 w17 w18 w19 w20 w21 w22 : Fin 1 → Nat) a + S1.size a ≤ S32.size a}
    {i24 : ∀ a, (k0_off24 w0 w1 w2 w3 w4 w5 w6 w7 w8 w9 w10 w11 w12 w13 w14 w15 w16 w17 w18 w19 w20 w21 w22 w23 : Fin 1 → Nat) a + S1.size a ≤ S32.size a}
    {i25 : ∀ a, (k0_off25 w0 w1 w2 w3 w4 w5 w6 w7 w8 w9 w10 w11 w12 w13 w14 w15 w16 w17 w18 w19 w20 w21 w22 w23 w24 : Fin 1 → Nat) a + S1.size a ≤ S32.size a}
    {i26 : ∀ a, (k0_off26 w0 w1 w2 w3 w4 w5 w6 w7 w8 w9 w10 w11 w12 w13 w14 w15 w16 w17 w18 w19 w20 w21 w22 w23 w24 w25 : Fin 1 → Nat) a + S1.size a ≤ S32.size a}
    {i27 : ∀ a, (k0_off27 w0 w1 w2 w3 w4 w5 w6 w7 w8 w9 w10 w11 w12 w13 w14 w15 w16 w17 w18 w19 w20 w21 w22 w23 w24 w25 w26 : Fin 1 → Nat) a + S1.size a ≤ S32.size a}
    {i28 : ∀ a, (k0_off28 w0 w1 w2 w3 w4 w5 w6 w7 w8 w9 w10 w11 w12 w13 w14 w15 w16 w17 w18 w19 w20 w21 w22 w23 w24 w25 w26 w27 : Fin 1 → Nat) a + S1.size a ≤ S32.size a}
    {i29 : ∀ a, (k0_off29 w0 w1 w2 w3 w4 w5 w6 w7 w8 w9 w10 w11 w12 w13 w14 w15 w16 w17 w18 w19 w20 w21 w22 w23 w24 w25 w26 w27 w28 : Fin 1 → Nat) a + S1.size a ≤ S32.size a}
    {i30 : ∀ a, (k0_off30 w0 w1 w2 w3 w4 w5 w6 w7 w8 w9 w10 w11 w12 w13 w14 w15 w16 w17 w18 w19 w20 w21 w22 w23 w24 w25 w26 w27 w28 w29 : Fin 1 → Nat) a + S1.size a ≤ S32.size a} :
    PAct g (at32 (mAct.view.writes (Elt F) a [⟨Rect.unit (s := S32) (k0_off30 w0 w1 w2 w3 w4 w5 w6 w7 w8 w9 w10 w11 w12 w13 w14 w15 w16 w17 w18 w19 w20 w21 w22 w23 w24 w25 w26 w27 w28 w29) S1.size i30, fun _ => 30#32⟩,
      ⟨Rect.unit (s := S32) (k0_off29 w0 w1 w2 w3 w4 w5 w6 w7 w8 w9 w10 w11 w12 w13 w14 w15 w16 w17 w18 w19 w20 w21 w22 w23 w24 w25 w26 w27 w28) S1.size i29, fun _ => 29#32⟩,
      ⟨Rect.unit (s := S32) (k0_off28 w0 w1 w2 w3 w4 w5 w6 w7 w8 w9 w10 w11 w12 w13 w14 w15 w16 w17 w18 w19 w20 w21 w22 w23 w24 w25 w26 w27) S1.size i28, fun _ => 28#32⟩,
      ⟨Rect.unit (s := S32) (k0_off27 w0 w1 w2 w3 w4 w5 w6 w7 w8 w9 w10 w11 w12 w13 w14 w15 w16 w17 w18 w19 w20 w21 w22 w23 w24 w25 w26) S1.size i27, fun _ => 27#32⟩,
      ⟨Rect.unit (s := S32) (k0_off26 w0 w1 w2 w3 w4 w5 w6 w7 w8 w9 w10 w11 w12 w13 w14 w15 w16 w17 w18 w19 w20 w21 w22 w23 w24 w25) S1.size i26, fun _ => 26#32⟩,
      ⟨Rect.unit (s := S32) (k0_off25 w0 w1 w2 w3 w4 w5 w6 w7 w8 w9 w10 w11 w12 w13 w14 w15 w16 w17 w18 w19 w20 w21 w22 w23 w24) S1.size i25, fun _ => 25#32⟩,
      ⟨Rect.unit (s := S32) (k0_off24 w0 w1 w2 w3 w4 w5 w6 w7 w8 w9 w10 w11 w12 w13 w14 w15 w16 w17 w18 w19 w20 w21 w22 w23) S1.size i24, fun _ => 24#32⟩,
      ⟨Rect.unit (s := S32) (k0_off23 w0 w1 w2 w3 w4 w5 w6 w7 w8 w9 w10 w11 w12 w13 w14 w15 w16 w17 w18 w19 w20 w21 w22) S1.size i23, fun _ => 23#32⟩,
      ⟨Rect.unit (s := S32) (k0_off22 w0 w1 w2 w3 w4 w5 w6 w7 w8 w9 w10 w11 w12 w13 w14 w15 w16 w17 w18 w19 w20 w21) S1.size i22, fun _ => 22#32⟩,
      ⟨Rect.unit (s := S32) (k0_off21 w0 w1 w2 w3 w4 w5 w6 w7 w8 w9 w10 w11 w12 w13 w14 w15 w16 w17 w18 w19 w20) S1.size i21, fun _ => 21#32⟩,
      ⟨Rect.unit (s := S32) (k0_off20 w0 w1 w2 w3 w4 w5 w6 w7 w8 w9 w10 w11 w12 w13 w14 w15 w16 w17 w18 w19) S1.size i20, fun _ => 20#32⟩,
      ⟨Rect.unit (s := S32) (k0_off19 w0 w1 w2 w3 w4 w5 w6 w7 w8 w9 w10 w11 w12 w13 w14 w15 w16 w17 w18) S1.size i19, fun _ => 19#32⟩,
      ⟨Rect.unit (s := S32) (k0_off18 w0 w1 w2 w3 w4 w5 w6 w7 w8 w9 w10 w11 w12 w13 w14 w15 w16 w17) S1.size i18, fun _ => 18#32⟩,
      ⟨Rect.unit (s := S32) (k0_off17 w0 w1 w2 w3 w4 w5 w6 w7 w8 w9 w10 w11 w12 w13 w14 w15 w16) S1.size i17, fun _ => 17#32⟩,
      ⟨Rect.unit (s := S32) (k0_off16 w0 w1 w2 w3 w4 w5 w6 w7 w8 w9 w10 w11 w12 w13 w14 w15) S1.size i16, fun _ => 16#32⟩,
      ⟨Rect.unit (s := S32) (k0_off15 w0 w1 w2 w3 w4 w5 w6 w7 w8 w9 w10 w11 w12 w13 w14) S1.size i15, fun _ => 15#32⟩,
      ⟨Rect.unit (s := S32) (k0_off14 w0 w1 w2 w3 w4 w5 w6 w7 w8 w9 w10 w11 w12 w13) S1.size i14, fun _ => 14#32⟩,
      ⟨Rect.unit (s := S32) (k0_off13 w0 w1 w2 w3 w4 w5 w6 w7 w8 w9 w10 w11 w12) S1.size i13, fun _ => 13#32⟩,
      ⟨Rect.unit (s := S32) (k0_off12 w0 w1 w2 w3 w4 w5 w6 w7 w8 w9 w10 w11) S1.size i12, fun _ => 12#32⟩,
      ⟨Rect.unit (s := S32) (k0_off11 w0 w1 w2 w3 w4 w5 w6 w7 w8 w9 w10) S1.size i11, fun _ => 11#32⟩,
      ⟨Rect.unit (s := S32) (k0_off10 w0 w1 w2 w3 w4 w5 w6 w7 w8 w9) S1.size i10, fun _ => 10#32⟩,
      ⟨Rect.unit (s := S32) (k0_off9 w0 w1 w2 w3 w4 w5 w6 w7 w8) S1.size i9, fun _ => 9#32⟩,
      ⟨Rect.unit (s := S32) (k0_off8 w0 w1 w2 w3 w4 w5 w6 w7) S1.size i8, fun _ => 8#32⟩,
      ⟨Rect.unit (s := S32) (k0_off7 w0 w1 w2 w3 w4 w5 w6) S1.size i7, fun _ => 7#32⟩,
      ⟨Rect.unit (s := S32) (k0_off6 w0 w1 w2 w3 w4 w5) S1.size i6, fun _ => 6#32⟩,
      ⟨Rect.unit (s := S32) (k0_off5 w0 w1 w2 w3 w4) S1.size i5, fun _ => 5#32⟩,
      ⟨Rect.unit (s := S32) (k0_off4 w0 w1 w2 w3) S1.size i4, fun _ => 4#32⟩,
      ⟨Rect.unit (s := S32) (k0_off3 w0 w1 w2) S1.size i3, fun _ => 3#32⟩,
      ⟨Rect.unit (s := S32) (k0_off2 w0 w1) S1.size i2, fun _ => 2#32⟩,
      ⟨Rect.unit (s := S32) (k0_off1 w0) S1.size i1, fun _ => 1#32⟩,
      ⟨Rect.unit (s := S32) ![0] S1.size i0, fun _ => 0#32⟩])) 31 := by
  obtain ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ := e
  iterate 31 refine PAct_cons c hg a (by decide) rfl rfl ?_
  exact PAct_nil _ _

/-- The 32 first rows written into the list of starts. -/
theorem st_w (c : Dev nD) {g : Nat → BitVec 32} {w0 w1 w2 w3 w4 w5 w6 w7 w8 w9 w10 w11 w12 w13 w14 w15 w16 w17 w18 w19 w20 w21 w22 w23 w24 w25 w26 w27 w28 w29 w30 w31 v1 v2 v3 v4 v5 v6 v7 v8 v9 v10 v11 v12 v13 v14 v15 v16 v17 v18 v19 v20 v21 v22 v23 v24 v25 v26 v27 v28 v29 v30 v31 : BitVec 32} (e : Words32 g w0 w1 w2 w3 w4 w5 w6 w7 w8 w9 w10 w11 w12 w13 w14 w15 w16 w17 w18 w19 w20 w21 w22 w23 w24 w25 w26 w27 w28 w29 w30 w31)
    (ev : v1 = Scalar.addi 0#32 w0 ∧ v2 = Scalar.addi v1 w1 ∧ v3 = Scalar.addi v2 w2 ∧ v4 = Scalar.addi v3 w3 ∧ v5 = Scalar.addi v4 w4 ∧ v6 = Scalar.addi v5 w5 ∧ v7 = Scalar.addi v6 w6 ∧ v8 = Scalar.addi v7 w7 ∧ v9 = Scalar.addi v8 w8 ∧ v10 = Scalar.addi v9 w9 ∧ v11 = Scalar.addi v10 w10 ∧ v12 = Scalar.addi v11 w11 ∧ v13 = Scalar.addi v12 w12 ∧ v14 = Scalar.addi v13 w13 ∧ v15 = Scalar.addi v14 w14 ∧ v16 = Scalar.addi v15 w15 ∧ v17 = Scalar.addi v16 w16 ∧ v18 = Scalar.addi v17 w17 ∧ v19 = Scalar.addi v18 w18 ∧ v20 = Scalar.addi v19 w19 ∧ v21 = Scalar.addi v20 w20 ∧ v22 = Scalar.addi v21 w21 ∧ v23 = Scalar.addi v22 w22 ∧ v24 = Scalar.addi v23 w23 ∧ v25 = Scalar.addi v24 w24 ∧ v26 = Scalar.addi v25 w25 ∧ v27 = Scalar.addi v26 w26 ∧ v28 = Scalar.addi v27 w27 ∧ v29 = Scalar.addi v28 w28 ∧ v30 = Scalar.addi v29 w29 ∧ v31 = Scalar.addi v30 w30) (s : BufOf F c mSt) :
    PSt g (at32 (mSt.view.writes (Elt F) s [⟨Rect.unit (s := S32) ![31] S1.size (inbAt 31), fun _ => v31⟩,
      ⟨Rect.unit (s := S32) ![30] S1.size (inbAt 30), fun _ => v30⟩,
      ⟨Rect.unit (s := S32) ![29] S1.size (inbAt 29), fun _ => v29⟩,
      ⟨Rect.unit (s := S32) ![28] S1.size (inbAt 28), fun _ => v28⟩,
      ⟨Rect.unit (s := S32) ![27] S1.size (inbAt 27), fun _ => v27⟩,
      ⟨Rect.unit (s := S32) ![26] S1.size (inbAt 26), fun _ => v26⟩,
      ⟨Rect.unit (s := S32) ![25] S1.size (inbAt 25), fun _ => v25⟩,
      ⟨Rect.unit (s := S32) ![24] S1.size (inbAt 24), fun _ => v24⟩,
      ⟨Rect.unit (s := S32) ![23] S1.size (inbAt 23), fun _ => v23⟩,
      ⟨Rect.unit (s := S32) ![22] S1.size (inbAt 22), fun _ => v22⟩,
      ⟨Rect.unit (s := S32) ![21] S1.size (inbAt 21), fun _ => v21⟩,
      ⟨Rect.unit (s := S32) ![20] S1.size (inbAt 20), fun _ => v20⟩,
      ⟨Rect.unit (s := S32) ![19] S1.size (inbAt 19), fun _ => v19⟩,
      ⟨Rect.unit (s := S32) ![18] S1.size (inbAt 18), fun _ => v18⟩,
      ⟨Rect.unit (s := S32) ![17] S1.size (inbAt 17), fun _ => v17⟩,
      ⟨Rect.unit (s := S32) ![16] S1.size (inbAt 16), fun _ => v16⟩,
      ⟨Rect.unit (s := S32) ![15] S1.size (inbAt 15), fun _ => v15⟩,
      ⟨Rect.unit (s := S32) ![14] S1.size (inbAt 14), fun _ => v14⟩,
      ⟨Rect.unit (s := S32) ![13] S1.size (inbAt 13), fun _ => v13⟩,
      ⟨Rect.unit (s := S32) ![12] S1.size (inbAt 12), fun _ => v12⟩,
      ⟨Rect.unit (s := S32) ![11] S1.size (inbAt 11), fun _ => v11⟩,
      ⟨Rect.unit (s := S32) ![10] S1.size (inbAt 10), fun _ => v10⟩,
      ⟨Rect.unit (s := S32) ![9] S1.size (inbAt 9), fun _ => v9⟩,
      ⟨Rect.unit (s := S32) ![8] S1.size (inbAt 8), fun _ => v8⟩,
      ⟨Rect.unit (s := S32) ![7] S1.size (inbAt 7), fun _ => v7⟩,
      ⟨Rect.unit (s := S32) ![6] S1.size (inbAt 6), fun _ => v6⟩,
      ⟨Rect.unit (s := S32) ![5] S1.size (inbAt 5), fun _ => v5⟩,
      ⟨Rect.unit (s := S32) ![4] S1.size (inbAt 4), fun _ => v4⟩,
      ⟨Rect.unit (s := S32) ![3] S1.size (inbAt 3), fun _ => v3⟩,
      ⟨Rect.unit (s := S32) ![2] S1.size (inbAt 2), fun _ => v2⟩,
      ⟨Rect.unit (s := S32) ![1] S1.size (inbAt 1), fun _ => v1⟩,
      ⟨Rect.unit (s := S32) ![0] S1.size (inbAt 0), fun _ => 0#32⟩])) 32 := by
  obtain ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ := e
  obtain ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ := ev
  iterate 32 refine PSt_cons c s (by decide) rfl rfl ?_
  exact PSt_nil _ _

/-- The running count of the active groups. -/
theorem cnt_w {g : Nat → BitVec 32} {w0 w1 w2 w3 w4 w5 w6 w7 w8 w9 w10 w11 w12 w13 w14 w15 w16 w17 w18 w19 w20 w21 w22 w23 w24 w25 w26 w27 w28 w29 w30 w31 v1 v2 v3 v4 v5 v6 v7 v8 v9 v10 v11 v12 v13 v14 v15 v16 v17 v18 v19 v20 v21 v22 v23 v24 v25 v26 v27 v28 v29 v30 v31 : BitVec 32} (e : Words32 g w0 w1 w2 w3 w4 w5 w6 w7 w8 w9 w10 w11 w12 w13 w14 w15 w16 w17 w18 w19 w20 w21 w22 w23 w24 w25 w26 w27 w28 w29 w30 w31)
    (ev : v1 = Scalar.addi 0#32 (Scalar.extui (Scalar.cmpi .sgt w0 0#32)) ∧ v2 = Scalar.addi v1 (Scalar.extui (Scalar.cmpi .sgt w1 0#32)) ∧ v3 = Scalar.addi v2 (Scalar.extui (Scalar.cmpi .sgt w2 0#32)) ∧ v4 = Scalar.addi v3 (Scalar.extui (Scalar.cmpi .sgt w3 0#32)) ∧ v5 = Scalar.addi v4 (Scalar.extui (Scalar.cmpi .sgt w4 0#32)) ∧ v6 = Scalar.addi v5 (Scalar.extui (Scalar.cmpi .sgt w5 0#32)) ∧ v7 = Scalar.addi v6 (Scalar.extui (Scalar.cmpi .sgt w6 0#32)) ∧ v8 = Scalar.addi v7 (Scalar.extui (Scalar.cmpi .sgt w7 0#32)) ∧ v9 = Scalar.addi v8 (Scalar.extui (Scalar.cmpi .sgt w8 0#32)) ∧ v10 = Scalar.addi v9 (Scalar.extui (Scalar.cmpi .sgt w9 0#32)) ∧ v11 = Scalar.addi v10 (Scalar.extui (Scalar.cmpi .sgt w10 0#32)) ∧ v12 = Scalar.addi v11 (Scalar.extui (Scalar.cmpi .sgt w11 0#32)) ∧ v13 = Scalar.addi v12 (Scalar.extui (Scalar.cmpi .sgt w12 0#32)) ∧ v14 = Scalar.addi v13 (Scalar.extui (Scalar.cmpi .sgt w13 0#32)) ∧ v15 = Scalar.addi v14 (Scalar.extui (Scalar.cmpi .sgt w14 0#32)) ∧ v16 = Scalar.addi v15 (Scalar.extui (Scalar.cmpi .sgt w15 0#32)) ∧ v17 = Scalar.addi v16 (Scalar.extui (Scalar.cmpi .sgt w16 0#32)) ∧ v18 = Scalar.addi v17 (Scalar.extui (Scalar.cmpi .sgt w17 0#32)) ∧ v19 = Scalar.addi v18 (Scalar.extui (Scalar.cmpi .sgt w18 0#32)) ∧ v20 = Scalar.addi v19 (Scalar.extui (Scalar.cmpi .sgt w19 0#32)) ∧ v21 = Scalar.addi v20 (Scalar.extui (Scalar.cmpi .sgt w20 0#32)) ∧ v22 = Scalar.addi v21 (Scalar.extui (Scalar.cmpi .sgt w21 0#32)) ∧ v23 = Scalar.addi v22 (Scalar.extui (Scalar.cmpi .sgt w22 0#32)) ∧ v24 = Scalar.addi v23 (Scalar.extui (Scalar.cmpi .sgt w23 0#32)) ∧ v25 = Scalar.addi v24 (Scalar.extui (Scalar.cmpi .sgt w24 0#32)) ∧ v26 = Scalar.addi v25 (Scalar.extui (Scalar.cmpi .sgt w25 0#32)) ∧ v27 = Scalar.addi v26 (Scalar.extui (Scalar.cmpi .sgt w26 0#32)) ∧ v28 = Scalar.addi v27 (Scalar.extui (Scalar.cmpi .sgt w27 0#32)) ∧ v29 = Scalar.addi v28 (Scalar.extui (Scalar.cmpi .sgt w28 0#32)) ∧ v30 = Scalar.addi v29 (Scalar.extui (Scalar.cmpi .sgt w29 0#32)) ∧ v31 = Scalar.addi v30 (Scalar.extui (Scalar.cmpi .sgt w30 0#32))) : v31 = cntW g 31 := by
  obtain ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ := e
  obtain ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ := ev
  rfl

end Cert.KernelIdeal.Hand

end
-- ==== Proof.KernelIdeal.Run.lean ====
/-
The kernel from start to end: the lists are written, the first copies started, the groups' windows multiplied.
-/
module
public import proofs.«01_k».proof.Proof.KernelIdeal.Entries
public import Idealize.ShloMosaic.Lib.VecWindow

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The word a load of entry `k` of the group sizes reads. -/
def gR {c : Dev nD} (G : BufOf F c mGs) (k : Nat) : BitVec 32 :=
  View.readAt (Elt F) mGs.view (Rect.unit (s := S32) ![k % 32] S1.size (inbAt k)).toLoadRect G (Shape.Idx.first (numel1_S1.symm ▸ Nat.one_pos))

theorem gR_eq {c : Dev nD} (G : BufOf F c mGs) (k : Nat) : gR G k = at32 G k := by
  refine (read_gs c G (i := k % 32) (inbAt k) rfl (Nat.mod_lt _ (by decide)) _).trans ?_
  unfold at32
  refine congrArg G (funext fun a => Fin.ext ?_)
  show k % 32 % 32 = k % 32
  omega

/-- The group sizes once the copy of the argument has landed. -/
abbrev gsOf (c : Dev nD) (f2 : BufOf F c aGs) (gs : BufOf F c mGs) : BufOf F c mGs :=
  mGs.view.write (Elt F) gs (ReadAs.same.apply (aGs.view.read (Elt F) f2)) Finset.univ

theorem gsOf_eq (c : Dev nD) (f2 : BufOf F c aGs) (gs : BufOf F c mGs) : gsOf c f2 gs = f2 := View.write_whole_univ ..

theorem gR_gsOf (c : Dev nD) (f2 : BufOf F c aGs) (gs : BufOf F c mGs) : gR (gsOf c f2 gs) = at32 f2 := by
  funext k
  rw [gR_eq, gsOf_eq]

/-- A store of the whole output tile leaves the tile stored. -/
theorem out_whole (c : Dev nD) (f : BufOf F c mOut) {inb : ∀ a, (![0, 0] : Fin 2 → Nat) a + S768x1536.size a ≤ S768x1536.size a} (z : BufOf F c mOut) :
    mOut.view.writes (Elt F) f [⟨Rect.unit (s := S768x1536) ![0, 0] S768x1536.size inb, z⟩] = z := by
  have h := Idealize.ShloMosaic.View.read_writes_full (Val := Elt F) mOut.view f inb z []
  exact (View.read_whole (Val := Elt F) cc0_stg0_0 _).symm.trans h

/-- The output the kernel leaves: every active group's windows written in turn over zeros. -/
def finOut (c : Dev nD) (f2 : BufOf F c aGs) (f0 : BufOf F c aX) (f1 : BufOf F c aXs) (f3 : BufOf F c aW) (f4 : BufOf F c aWs) : BufOf F c mOut :=
  outF c f3 f0 f1 f4 (at32 f2) k0_pay21 (cnt (at32 f2) 32)

set_option maxHeartbeats 2000000 in
set_option sl_exec.dischHeartbeats 200000 in
theorem kernel_run (c : Dev nD) (f2 : BufOf F c aGs) (f0 : BufOf F c aX) (f1 : BufOf F c aXs) (f3 : BufOf F c aW) (f4 : BufOf F c aWs)
    (o : BufOf F c mOut) (gs : BufOf F c mGs) (a : BufOf F c mAct) (s : BufOf F c mSt) (x : BufOf F c mX) (xs : BufOf F c mXs) (ws : BufOf F c mWs)
    (W : Finset (SemLoc sig × Unit)) (hg : Fits (at32 f2)) {Q : PUnit → sProp 𝕄} :
    iprop(pt c aGs f2 ∗ pt c aX f0 ∗ pt c aXs f1 ∗ pt c aWs f4 ∗ pt c mOut o ∗ pt c mGs gs ∗ pt c mAct a ∗ pt c mSt s
        ∗ pt c mX x ∗ pt c mXs xs ∗ pt c mWs ws
        ∗ semVal ((c : Thread nD τ), SemLoc.dma ⟨1, by decide⟩) 0 ∗ semVal ((c : Thread nD τ), SemLoc.dma ⟨2, by decide⟩) 0
        ∗ semVal ((c : Thread nD τ), SemLoc.dma ⟨3, by decide⟩) 0 ∗ semVal ((c : Thread nD τ), SemLoc.dma ⟨4, by decide⟩) 0
        ∗ owes (c : Thread nD τ) 0 W ∗ Ring.AtW (ΦR c f3) (fun _ => none)
        ∗ (∀ (gs : BufOf F c mGs) (a : BufOf F c mAct) (s : BufOf F c mSt) (x : BufOf F c mX) (xs : BufOf F c mXs) (ws : BufOf F c mWs)
            (W : Finset (SemLoc sig × Unit)),
          pt c aGs f2 ∗ pt c aX f0 ∗ pt c aXs f1 ∗ pt c aWs f4 ∗ pt c mOut (finOut c f2 f0 f1 f3 f4) ∗ pt c mGs gs ∗ pt c mAct a ∗ pt c mSt s
            ∗ pt c mX x ∗ pt c mXs xs ∗ pt c mWs ws
            ∗ semVal ((c : Thread nD τ), SemLoc.dma ⟨1, by decide⟩) 0 ∗ semVal ((c : Thread nD τ), SemLoc.dma ⟨2, by decide⟩) 0
            ∗ semVal ((c : Thread nD τ), SemLoc.dma ⟨3, by decide⟩) 0 ∗ semVal ((c : Thread nD τ), SemLoc.dma ⟨4, by decide⟩) 0
            ∗ owes (c : Thread nD τ) 0 W ∗ Ring.AtW (ΦR c f3) (fun _ => none) -∗ Q ⟨⟩))
      ⊢ wpc c (cc0_moe_fp8_ragged_dot (F := F) aGs (Memref.isWhole_whole _) aX (Memref.isWhole_whole _) aXs (Memref.isWhole_whole _) aW (Memref.isWhole_whole _) aWs (Memref.isWhole_whole _) mOut (Memref.isWhole_whole _) mGs (Memref.isWhole_whole _) mAct (Memref.isWhole_whole _) mSt (Memref.isWhole_whole _) mX (Memref.isWhole_whole _) mXs (Memref.isWhole_whole _) mWs (Memref.isWhole_whole _) mRing (Memref.isWhole_whole _) cc0_scratch7 cc0_scratch8 cc0_scratch9 cc0_scratch10 cc0_scratch11) Q := by
  obtain ⟨h1, h2, h3, h4, h5, h6, h7, h8, h9, h10, h11, h12, h13, h14, h15, h16, h17, h18, h19, h20, h21, h22, h23, h24, h25, h26, h27, h28, h29, h30, h31⟩ := chk_list
  replace hg : Fits (gR (gsOf c f2 gs)) := by rw [gR_gsOf]; exact hg
  have h40 : k0_chk40 (gR (gsOf c f2 gs) 0) (gR (gsOf c f2 gs) 1) (gR (gsOf c f2 gs) 2) (gR (gsOf c f2 gs) 3) (gR (gsOf c f2 gs) 4) (gR (gsOf c f2 gs) 5) (gR (gsOf c f2 gs) 6) (gR (gsOf c f2 gs) 7) (gR (gsOf c f2 gs) 8) (gR (gsOf c f2 gs) 9) (gR (gsOf c f2 gs) 10) (gR (gsOf c f2 gs) 11) (gR (gsOf c f2 gs) 12) (gR (gsOf c f2 gs) 13) (gR (gsOf c f2 gs) 14) (gR (gsOf c f2 gs) 15) (gR (gsOf c f2 gs) 16) (gR (gsOf c f2 gs) 17) (gR (gsOf c f2 gs) 18) (gR (gsOf c f2 gs) 19) (gR (gsOf c f2 gs) 20) (gR (gsOf c f2 gs) 21) (gR (gsOf c f2 gs) 22) (gR (gsOf c f2 gs) 23) (gR (gsOf c f2 gs) 24) (gR (gsOf c f2 gs) 25) (gR (gsOf c f2 gs) 26) (gR (gsOf c f2 gs) 27) (gR (gsOf c f2 gs) 28) (gR (gsOf c f2 gs) 29) (gR (gsOf c f2 gs) 30) (gR (gsOf c f2 gs) 31) := chk40 hg
  rw [cc0_moe_fp8_ragged_dot_eq_skeleton]
  unfold cc0_moe_fp8_ragged_dot_skel wpc
  generalize hp15 : @k0_part15 F _ = p15
  iintro ⟨H2, H0, H1, H4, HO, HG, HA, HS, HX, HXs, HWs, Hs1, Hs2, Hs3, Hs4, HW, HR, HQ⟩
  sl_exec (disch := first | exact h1 _ | exact h2 _ _ | exact h3 _ _ _ | exact h4 _ _ _ _ | exact h5 _ _ _ _ _ | exact h6 _ _ _ _ _ _ | exact h7 _ _ _ _ _ _ _ | exact h8 _ _ _ _ _ _ _ _ | exact h9 _ _ _ _ _ _ _ _ _ | exact h10 _ _ _ _ _ _ _ _ _ _ | exact h11 _ _ _ _ _ _ _ _ _ _ _ | exact h12 _ _ _ _ _ _ _ _ _ _ _ _ | exact h13 _ _ _ _ _ _ _ _ _ _ _ _ _ | exact h14 _ _ _ _ _ _ _ _ _ _ _ _ _ _ | exact h15 _ _ _ _ _ _ _ _ _ _ _ _ _ _ _ | exact h16 _ _ _ _ _ _ _ _ _ _ _ _ _ _ _ _ | exact h17 _ _ _ _ _ _ _ _ _ _ _ _ _ _ _ _ _ | exact h18 _ _ _ _ _ _ _ _ _ _ _ _ _ _ _ _ _ _ | exact h19 _ _ _ _ _ _ _ _ _ _ _ _ _ _ _ _ _ _ _ | exact h20 _ _ _ _ _ _ _ _ _ _ _ _ _ _ _ _ _ _ _ _ | exact h21 _ _ _ _ _ _ _ _ _ _ _ _ _ _ _ _ _ _ _ _ _ | exact h22 _ _ _ _ _ _ _ _ _ _ _ _ _ _ _ _ _ _ _ _ _ _ | exact h23 _ _ _ _ _ _ _ _ _ _ _ _ _ _ _ _ _ _ _ _ _ _ _ | exact h24 _ _ _ _ _ _ _ _ _ _ _ _ _ _ _ _ _ _ _ _ _ _ _ _ | exact h25 _ _ _ _ _ _ _ _ _ _ _ _ _ _ _ _ _ _ _ _ _ _ _ _ _ | exact h26 _ _ _ _ _ _ _ _ _ _ _ _ _ _ _ _ _ _ _ _ _ _ _ _ _ _ | exact h27 _ _ _ _ _ _ _ _ _ _ _ _ _ _ _ _ _ _ _ _ _ _ _ _ _ _ _ | exact h28 _ _ _ _ _ _ _ _ _ _ _ _ _ _ _ _ _ _ _ _ _ _ _ _ _ _ _ _ | exact h29 _ _ _ _ _ _ _ _ _ _ _ _ _ _ _ _ _ _ _ _ _ _ _ _ _ _ _ _ _ | exact h30 _ _ _ _ _ _ _ _ _ _ _ _ _ _ _ _ _ _ _ _ _ _ _ _ _ _ _ _ _ _ | exact h31 _ _ _ _ _ _ _ _ _ _ _ _ _ _ _ _ _ _ _ _ _ _ _ _ _ _ _ _ _ _ _ | exact h40)
  subst hp15
  rw [wp_bind]
  iapply (part15_w (F := F) c (g := gR (gsOf c f2 gs)) hg _ f3 ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ (cnt_w (g := gR (gsOf c f2 gs)) ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩) _
    (act_w c (g := gR (gsOf c f2 gs)) hg ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ a) o) $$ [HA HR HO HS Hs1 Hs2 Hs3 Hs4 HG H0 H1 H2 H4 HW HQ]
  isplitl [HA]; · iexact HA
  isplitl [HR]; · iexact HR
  isplitl [HO]; · iexact HO
  iintro %w %A' %hA' ⟨HA, HR, HO⟩
  sl_exec
  ihave HS' : (∃ S : BufOf F c mSt, ⌜PSt (gR (gsOf c f2 gs)) (at32 S) 32⌝ ∗ pt c mSt S) $$ [HS]
  · iexists _
    isplitr
    rotate_left
    · iexact HS
    ipureintro
    refine st_w c ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ ?ev _
    exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
  icases HS' with ⟨%S, %hS, HS⟩
  have hX : View.write (Elt F) mX.view x (kernel_run.sl.dma0_1 c f0) Finset.univ = f0 := View.write_whole_univ ..
  have hXs : View.write (Elt F) mXs.view xs (kernel_run.sl.dma0_2 c f1) Finset.univ = f1 := View.write_whole_univ ..
  have hWs : View.write (Elt F) mWs.view ws (kernel_run.sl.dma0_3 c f4) Finset.univ = f4 := View.write_whole_univ ..
  iapply (loop_w (F := F) c (g := gR (gsOf c f2 gs)) hg h40 ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ f3 (gsOf c f2 gs) A' S (fun e _ => (gR_eq _ e).symm) hA'
    hS f0 f1 f4 k0_pay21) $$ [HS HG H2 Hs1 HA HR HO HX H0 Hs2 HXs H1 Hs3 HWs H4 Hs4 HW HQ]
  isplitl [HS HG HA HR HO HX HXs HWs HW]
  · unfold tripI
    isplitl [HG]; · iexact HG
    isplitl [HA]; · iexact HA
    isplitl [HS]; · iexact HS
    isplitl [HO HX HXs HWs]
    · isplitl [HX]
      · iapply (Entails.of_eq (congrArg (pt c mX) hX)) $$ HX
      isplitl [HXs]
      · iapply (Entails.of_eq (congrArg (pt c mXs) hXs)) $$ HXs
      isplitl [HWs]
      · iapply (Entails.of_eq (congrArg (pt c mWs) hWs)) $$ HWs
      have hO : mOut.view.writes (Elt F) mOut.view.junk kernel_run.sl.HO_1 = k0_pay21 := out_whole c mOut.view.junk k0_pay21
      iapply (Entails.of_eq (congrArg (pt c mOut) hO)) $$ HO
    isplitl [HR]; · iexact HR
    iexists _
    iexact HW
  iintro %acc HI
  unfold tripI
  icases HI with ⟨HG, HA, HS, ⟨HX, HXs, HWs, HO⟩, HR, ⟨%W', HW⟩⟩
  unfold wpc
  sl_exec
  sl_step
  have hst : stR (gR (gsOf c f2 gs)) (cnt (gR (gsOf c f2 gs)) 32) (min (cnt (gR (gsOf c f2 gs)) 32) (cnt (gR (gsOf c f2 gs)) 32 + 8)) = fun _ => none := by
    rw [Nat.min_eq_left (Nat.le_add_right _ _)]; exact stR_self _ _
  have hfin : outF c f3 f0 f1 f4 (gR (gsOf c f2 gs)) k0_pay21 (cnt (gR (gsOf c f2 gs)) 32) = finOut c f2 f0 f1 f3 f4 := by
    unfold finOut; rw [gR_gsOf]
  iapply HQ $$ %_ %_ %_ %_ %_ %_ %W' [HG HA HS HX HXs HWs HO HR HW H0 H1 H2 H4 Hs1 Hs2 Hs3 Hs4]
  isplitl [H2]; · iexact H2
  isplitl [H0]; · iexact H0
  isplitl [H1]; · iexact H1
  isplitl [H4]; · iexact H4
  isplitl [HO]; · iapply (Entails.of_eq (congrArg (pt c mOut) hfin)) $$ HO
  isplitl [HG]; · iexact HG
  isplitl [HA]; · iexact HA
  isplitl [HS]; · iexact HS
  isplitl [HX]; · iexact HX
  isplitl [HXs]; · iexact HXs
  isplitl [HWs]; · iexact HWs
  isplitl [Hs1]; · iexact Hs1
  isplitl [Hs2]; · iexact Hs2
  isplitl [Hs3]; · iexact Hs3
  isplitl [Hs4]; · iexact Hs4
  isplitl [HW]; · iexact HW
  iapply (Entails.of_eq (congrArg (Ring.AtW (ΦR c f3)) hst)) $$ HR

end Cert.KernelIdeal.Hand

end
-- ==== Proof.KernelIdeal.Frame.lean ====
/-
The kernel's frame: it terminates, nothing faults, its arguments end unchanged and every semaphore at zero; and the
result's array ends at the contents `finOut` names.
-/
module
public import proofs.«01_k».proof.Proof.KernelIdeal.Run

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Core `c`'s buffers as the kernel's region finds them: as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem frame_of (dats : (p : Fin 1) → (c : Dev nD) → Dat τ (Elt F) Unit ℕ (Pipeline.UD sig nD τ) ℕ (cfgs p) c)
    (h : θ_run defs (onTc (τ := τ) (main (F := F))) (s₀ m ρ) (fun r => Pipeline.FramePost cfgs dats 0 (V m) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).2 main_arg0 (Pipeline.mem_restRefs_of main_arg0 (by decide) (by decide)),
      (h.1 c).2 main_arg1 (Pipeline.mem_restRefs_of main_arg1 (by decide) (by decide)),
      (h.1 c).2 main_arg2 (Pipeline.mem_restRefs_of main_arg2 (by decide) (by decide)),
      (h.1 c).2 main_arg3 (Pipeline.mem_restRefs_of main_arg3 (by decide) (by decide)),
      (h.1 c).2 main_arg4 (Pipeline.mem_restRefs_of main_arg4 (by decide) (by decide))⟩, h.2⟩) h

/-- The kernel's own cells: one for each staging copy it makes itself, eight for the ring. -/
abbrev osem0 : Fin 12 → SemLoc sig := fun j => SemLoc.dma ⟨j.val + 1, by have := j.isLt; show j.val + 1 < 13; omega⟩
theorem ownSemFacts0 : Pipeline.OwnSemFacts spec0 osem0 := by decide
theorem cells_eq (c : Dev nD) :
    (bigSep Finset.univ (fun k : Fin 8 => (semVal ((c : Thread nD τ), cellR k) 0 : sProp 𝕄))) = iprop(semVal ((c : Thread nD τ), SemLoc.dma ⟨5, by decide⟩) 0 ∗ semVal ((c : Thread nD τ), SemLoc.dma ⟨6, by decide⟩) 0 ∗ semVal ((c : Thread nD τ), SemLoc.dma ⟨7, by decide⟩) 0 ∗ semVal ((c : Thread nD τ), SemLoc.dma ⟨8, by decide⟩) 0 ∗ semVal ((c : Thread nD τ), SemLoc.dma ⟨9, by decide⟩) 0 ∗ semVal ((c : Thread nD τ), SemLoc.dma ⟨10, by decide⟩) 0 ∗ semVal ((c : Thread nD τ), SemLoc.dma ⟨11, by decide⟩) 0 ∗ semVal ((c : Thread nD τ), SemLoc.dma ⟨12, by decide⟩) 0) := by
  rw [BI.bigSep_eq_bigSepL_of_eq [0, 1, 2, 3, 4, 5, 6, 7] (by decide) (by decide)]; rfl
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma ⟨1, by decide⟩) 0 ∗ semVal ((c : Thread nD τ), SemLoc.dma ⟨2, by decide⟩) 0 ∗ semVal ((c : Thread nD τ), SemLoc.dma ⟨3, by decide⟩) 0 ∗ semVal ((c : Thread nD τ), SemLoc.dma ⟨4, by decide⟩) 0 ∗ bigSep Finset.univ (fun k : Fin 8 => (semVal ((c : Thread nD τ), cellR k) 0 : sProp 𝕄))) := by
  rw [cells_eq, Pipeline.ownSems0_eq_of_list c osem0 [0, 1, 2, 3, 4, 5, 6, 7, 8, 9, 10, 11] (by decide) (by decide)]; rfl

/-- The arguments, which the kernel reads in place. -/
def H0 : Finset (Ref sig .tc) := {main_arg0, main_arg1, main_arg2, main_arg3, main_arg4}
theorem H0_sub : H0 ⊆ Pipeline.restRefs sig spec0 := by decide
theorem hbmPts0_eq (c : Dev nD) :
    (bigSep H0 (fun b => ((c : Thread nD τ).loc b) ↦{fullShare} V m c b) : sProp 𝕄)
      = iprop(pt c aX (V m c main_arg0) ∗ pt c aXs (V m c main_arg1) ∗ pt c aGs (V m c main_arg2)
          ∗ pt c aW (V m c main_arg3) ∗ pt c aWs (V m c main_arg4)) := by
  rw [BI.bigSep_eq_bigSepL_of_eq [main_arg0, main_arg1, main_arg2, main_arg3, main_arg4] (by decide) (by decide)]; rfl

theorem PhiD0_eq (c : Dev nD) :
    (Pipeline.ΦD osem0 spec0 H0 (V m) c : sProp 𝕄)
      = iprop(iprop((∃ f, pt c mX f) ∗ (∃ f, pt c mXs f) ∗ (∃ f, pt c mWs f) ∗ (∃ f, pt c mRing f)
            ∗ (∃ f, pt c mGs f) ∗ (∃ f, pt c mAct f) ∗ (∃ f, pt c mSt f))
          ∗ (∃ r, prngReg c r)
          ∗ iprop(semVal ((c : Thread nD τ), SemLoc.dma ⟨1, by decide⟩) 0 ∗ semVal ((c : Thread nD τ), SemLoc.dma ⟨2, by decide⟩) 0 ∗ semVal ((c : Thread nD τ), SemLoc.dma ⟨3, by decide⟩) 0 ∗ semVal ((c : Thread nD τ), SemLoc.dma ⟨4, by decide⟩) 0 ∗ bigSep Finset.univ (fun k : Fin 8 => (semVal ((c : Thread nD τ), cellR k) 0 : sProp 𝕄)))
          ∗ iprop(pt c aX (V m c main_arg0) ∗ pt c aXs (V m c main_arg1) ∗ pt c aGs (V m c main_arg2)
            ∗ pt c aW (V m c main_arg3) ∗ pt c aWs (V m c main_arg4))) := by
  rw [Pipeline.ΦD_eq, scopedRest0_eq, ownSems00_eq, hbmPts0_eq]

/-- What the kernel leaves in the result's tile. -/
abbrev outAt (c : Dev nD) : BufOf F c mOut :=
  finOut c (V m c main_arg2) (V m c main_arg0) (V m c main_arg1) (V m c main_arg3) (V m c main_arg4)

def dats (_ : Fin 1) (c : Dev nD) : Dat τ (Elt F) Unit ℕ (Pipeline.UD sig nD τ) ℕ cfg0 c where
  A w := V m c (Pipeline.arrRef spec0 w)
  after w t := match w with
    | ⟨0, _⟩ => outAt m c
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = outAt m c := by dsimp only [dats]

abbrev ms0_0 (t : Fin cfg0.N) : Memref sig .tc .vmem S768x1536 .bf16 := win0_0.stage (cfg0.slots t 0)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t))

theorem own_in (c : Dev nD) (d : BufOf F c mOut) : (owns (c : Thread nD τ) mOut fullShare d : sProp 𝕄) ⊢ pt c mOut d :=
  Entails.of_eq (owns_whole (c : Thread nD τ) cc0_stg0_0 fullShare d)
theorem own_out (c : Dev nD) (d : BufOf F c mOut) : pt c mOut d ⊢ (owns (c : Thread nD τ) mOut fullShare d : sProp 𝕄) :=
  Entails.of_eq (owns_whole (c : Thread nD τ) cc0_stg0_0 fullShare d).symm

set_option maxHeartbeats 1000000 in
theorem sound_body (c : Dev nD) (hg : Fits (at32 (V m c main_arg2))) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  have hs : ms0_0 t = mOut := rfl
  rw [hs]
  iintro ⟨⟨⟨⟨%x, HX⟩, ⟨%xs, HXs⟩, ⟨%ws, HWs⟩, ⟨%g, HRg⟩, ⟨%gs, HG⟩, ⟨%a, HA⟩, ⟨%s, HS⟩⟩, Hg, ⟨Hs1, Hs2, Hs3, Hs4, HC⟩, ⟨H0, H1, H2, H3, H4⟩⟩, ⟨%W, -, HW⟩, ⟨%d, HO⟩⟩
  ihave HO := (own_in c _) $$ HO
  ihave HR := (ring_split c (V m c main_arg3) g) $$ [HRg H3 HC]
  · isplitl [HRg]; · iexact HRg
    isplitl [H3]; · iexact H3
    iexact HC
  icases HR with ⟨HR, H3⟩
  iapply (kernel_run (F := F) c (V m c main_arg2) (V m c main_arg0) (V m c main_arg1) (V m c main_arg3) (V m c main_arg4) _ gs a s x xs ws W hg)
  isplitl [H2]; · iexact H2
  isplitl [H0]; · iexact H0
  isplitl [H1]; · iexact H1
  isplitl [H4]; · iexact H4
  isplitl [HO]; · iexact HO
  isplitl [HG]; · iexact HG
  isplitl [HA]; · iexact HA
  isplitl [HS]; · iexact HS
  isplitl [HX]; · iexact HX
  isplitl [HXs]; · iexact HXs
  isplitl [HWs]; · iexact HWs
  isplitl [Hs1]; · iexact Hs1
  isplitl [Hs2]; · iexact Hs2
  isplitl [Hs3]; · iexact Hs3
  isplitl [Hs4]; · iexact Hs4
  isplitl [HW]; · iexact HW
  isplitl [HR]; · iexact HR
  iintro %gs' %a' %s' %x' %xs' %ws' %W' ⟨H2, H0, H1, H4, HO, HG, HA, HS, HX, HXs, HWs, Hs1, Hs2, Hs3, Hs4, HW, HR⟩
  ihave HR := (ring_join c (V m c main_arg3) g) $$ [HR H3]
  · isplitl [HR]; · iexact HR
    iexact H3
  icases HR with ⟨HRg, H3, HC⟩
  isplitl [HX HXs HWs HRg HG HA HS Hg Hs1 Hs2 Hs3 Hs4 HC H0 H1 H2 H3 H4]
  · isplitl [HX HXs HWs HRg HG HA HS]
    · isplitl [HX]; · iexists _; iexact HX
      isplitl [HXs]; · iexists _; iexact HXs
      isplitl [HWs]; · iexists _; iexact HWs
      isplitl [HRg]; · iexact HRg
      isplitl [HG]; · iexists _; iexact HG
      isplitl [HA]; · iexists _; iexact HA
      iexists _; iexact HS
    isplitl [Hg]; · iexact Hg
    isplitl [Hs1 Hs2 Hs3 Hs4 HC]
    · isplitl [Hs1]; · iexact Hs1
      isplitl [Hs2]; · iexact Hs2
      isplitl [Hs3]; · iexact Hs3
      isplitl [Hs4]; · iexact Hs4
      iexact HC
    isplitl [H0]; · iexact H0
    isplitl [H1]; · iexact H1
    isplitl [H2]; · iexact H2
    isplitl [H3]; · iexact H3
    iexact H4
  isplitl [HW]
  · iexists W'; isplitr; · ipureintro; exact fun _ _ => Or.inl trivial
    iexact HW
  iapply (own_out c _) $$ HO

theorem defs₀_row (t : Fin cfg0.N) :
    defs₀ (F := F) .tc cfg0.body (cfg0.bodyArgs t (cfg0.slots t)) = bodyAt0 t := by
  unfold defs₀; rw [Defs.onTc_tc]

theorem body_obligation (c : Dev nD) (hg : Fits (at32 (V m c main_arg2))) : BodyObligation (dats (F := F) m 0 c) (defs₀ (F := F)) Variants.none () Set.univ := fun t => by
  rw [bigSep_W0, bigSep_W0, defs₀_row]
  exact triple_restated (sound_body m c hg t) rfl .rfl fun _ => .rfl

set_option backward.isDefEq.respectTransparency.types false in
theorem run_main (hg : ∀ c, Fits (at32 (V m c main_arg2))) :
    θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c (hg c)).loose) (hshare := fun c => (dats m 0 c).share_full fun _ => rfl)
    (howed := fun _ _ => rfl) (V := V m) (hmain := hmain m Variants.none) (hA := A_eq m)
    (hin := fun _ => .rfl) (hout := fun _ => .rfl)

/-- The frame, from group sizes that fit. -/
theorem frame_run (hg : ∀ c, Fits (at32 (V m c main_arg2))) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  frame_of m ρ (dats m) (run_main m ρ hg)

end Cert.KernelIdeal.Hand

end
-- ==== Proof.Sizes.lean ====
/-
The precondition, decoded: every group size is at most the number of rows.
-/
module
public import proofs.«01_k».proof.Defs
public import proofs.«01_k».proof.Proof.Kernel.Frame
public import proofs.«01_k».proof.Proof.KernelIdeal.Frame

@[expose] public section

noncomputable section

namespace Cert.Hand

open Idealize.ShloMosaic Idealize.ShloMosaic.TcCoe

instance preFacts : Cert.Pre_sizes_fit.Facts where
  bcast_S_S32 := by decide

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by cases p <;> decide

/-- Of an array of which the precondition is all ones, every entry is at most 768. -/
theorem sizes_le {F : FTy → Type} [FloatOps F] {x0 x1 x3 x4} {v : Cert.Pre_sizes_fit.S32.Idx → BitVec 32}
    (h : (Cert.Pre_sizes_fit.fn (F := F) x0 x1 v x3 x4) = fun _ => 1#1) (y) : (v y).toNat ≤ 768 := by
  have e := congrFun h y
  simp only [Cert.Pre_sizes_fit.fn, andi, cmpi, broadcastInDim, constantI, IntOp.cmpi, andi_ofBool, ofBool_eq_one,
    Bool.and_eq_true] at e
  obtain ⟨hge, hlt⟩ := e
  simp only [BitVec.sle, decide_eq_true_eq, BitVec.toInt, BitVec.toNat_ofNat] at hge hlt
  omega

theorem fits_Kernel (m : (ℓ : Loc Cert.Kernel.nD Cert.Kernel.τ Cert.Kernel.sig) → Buf (Elt Bits) ℓ) (h : Cert.Pre_Kernel m) (c : Dev Cert.Kernel.nD) :
    Fits (Cert.Kernel.Hand.at32 (Cert.Kernel.Hand.V m c Cert.Kernel.main_arg2)) := fun _ => sizes_le (h c) _

theorem fits_KernelIdeal (m : (ℓ : Loc Cert.KernelIdeal.nD Cert.KernelIdeal.τ Cert.KernelIdeal.sig) → Buf (Elt Ideal) ℓ) (h : Cert.Pre_KernelIdeal m)
    (c : Dev Cert.KernelIdeal.nD) :
    Fits (Cert.KernelIdeal.Hand.at32 (Cert.KernelIdeal.Hand.V m c Cert.KernelIdeal.main_arg2)) := fun _ => sizes_le (h c) _

end Cert.Hand

end
-- ==== Proof.Values.lean ====
/-
The function both programs compute, over the extended reals.

Row `r` of the result belongs to expert `e` when it is one of the `e`-th group's rows; it then is the product of row
`r` of x with the expert's block, scaled by the row's scale and the columns' scales. A row of no group is zero.
-/
module

public import proofs.«01_k».proof.Proof.Words
public import Idealize.ShloMosaic.Lib.Pointwise

@[expose] public section

noncomputable section

namespace Cert.Hand

open Idealize.ShloMosaic Idealize.ShloMosaic.WordCmp

/-- The entry at row `r`, column `l` if the row is expert `e`'s. -/
def val (X : (⟨2, ![768, 2048]⟩ : Shape).Idx → EReal) (Xs : (⟨2, ![768, 1]⟩ : Shape).Idx → EReal)
    (W : (⟨3, ![32, 2048, 1536]⟩ : Shape).Idx → EReal) (Ws : (⟨2, ![32, 1536]⟩ : Shape).Idx → EReal)
    (e : Fin 32) (r : Fin 768) (l : Fin 1536) : EReal :=
  (∑ k : Fin 2048, X (ix2 r k) * W (ix3 e k l)) * Xs (ix2 r 0) * Ws (ix2 e l)

/-- Row `r` belongs to expert `e`. -/
def InGroup (g : Nat → BitVec 32) (e r : Nat) : Prop := row g e ≤ r ∧ r < row g e + (g e).toNat

instance (g : Nat → BitVec 32) (e r : Nat) : Decidable (InGroup g e r) := instDecidableAnd

variable {g : Nat → BitVec 32}

theorem row_mono (g : Nat → BitVec 32) {a b : Nat} (h : a ≤ b) : row g a ≤ row g b := by
  unfold row
  exact Finset.sum_le_sum_of_subset (Finset.range_subset_range.mpr h)

/-- A row belongs to one expert at most. -/
theorem inGroup_unique {a b r : Nat} (ha : InGroup g a r) (hb : InGroup g b r) : a = b := by
  have key : ∀ {a b}, InGroup g a r → InGroup g b r → ¬ a < b := fun {a b} ha hb h => by
    have h1 := row_mono g (show a + 1 ≤ b from h)
    rw [row_succ] at h1
    have := ha.2; have := hb.1; omega
  have h1 := key ha hb
  have h2 := key hb ha
  omega

/-- An expert that has a row is one with rows. -/
theorem isAct_of_inGroup {e r : Nat} (h : InGroup g e r) : isAct g e := by
  have := h.1; have := h.2; unfold isAct; omega

/-- `O` is the result of the group sizes `g` and the four arrays. -/
def IsResult (g : Nat → BitVec 32) (X : (⟨2, ![768, 2048]⟩ : Shape).Idx → EReal) (Xs : (⟨2, ![768, 1]⟩ : Shape).Idx → EReal)
    (W : (⟨3, ![32, 2048, 1536]⟩ : Shape).Idx → EReal) (Ws : (⟨2, ![32, 1536]⟩ : Shape).Idx → EReal)
    (O : (⟨2, ![768, 1536]⟩ : Shape).Idx → EReal) : Prop :=
  ∀ (r : Fin 768) (l : Fin 1536), (∀ e : Fin 32, InGroup g e.val r.val → O (ix2 r l) = val X Xs W Ws e r l)
    ∧ ((∀ e : Fin 32, ¬ InGroup g e.val r.val) → O (ix2 r l) = 0)

/-- There is one result. -/
theorem isResult_unique {X Xs W Ws O O'} (h : IsResult g X Xs W Ws O) (h' : IsResult g X Xs W Ws O') : O = O' := by
  funext i
  rw [eq_ix2 i]
  by_cases he : ∃ e : Fin 32, InGroup g e.val (i 0).val
  · obtain ⟨e, he⟩ := he
    exact ((h (i 0) (i 1)).1 e he).trans ((h' (i 0) (i 1)).1 e he).symm
  · have hn : ∀ e : Fin 32, ¬ InGroup g e.val (i 0).val := fun e h => he ⟨e, h⟩
    exact ((h (i 0) (i 1)).2 hn).trans ((h' (i 0) (i 1)).2 hn).symm

/-- The test of both programs whether the row of number `x` lies from `v` to below `n`. -/
abbrev maskW (v n x : BitVec 32) : BitVec 1 := IntOp.andi (IntOp.cmpi .sge x v) (IntOp.cmpi .slt x n)

theorem maskW_iff {v n x : BitVec 32} {F N R : Nat} (hv : v.toNat = F) (hF : F < 2 ^ 31) (hn : n.toNat = N) (hN : N < 2 ^ 31)
    (hx : x.toNat = R) (hR : R < 2 ^ 31) : maskW v n x = 1#1 ↔ F ≤ R ∧ R < N := by
  unfold maskW
  rw [cmpi_sge_eq, cmpi_slt_eq, toInt_of_toNat hx hR, toInt_of_toNat hv hF, toInt_of_toNat hn hN]
  by_cases h1 : F ≤ R <;> by_cases h2 : R < N <;> simp [h1, h2, IntOp.andi]

end Cert.Hand

end
-- ==== Proof.KernelIdeal.Value.lean ====
/-
The kernel's window over the extended reals, entry by entry: a row of the window that belongs to the group gets the
group's product, every other entry of the result stays.
-/
module
public import proofs.«01_k».proof.Proof.KernelIdeal.Frame
public import proofs.«01_k».proof.Proof.Values

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The mask of a window at row `i`, as the kernel computes it. -/
abbrev maskI (v s : BitVec 32) (t : Nat) (i : Fin 96) : BitVec 1 := maskW v (Scalar.addi v s) (IntOp.addi (r0W v t) (BitVec.ofNat 32 i.val))

theorem pay9_at (v s : BitVec 32) (t : Fin (k0_t2_loop v s).trips) (i : Fin 96) (j : Fin 1) :
    k0_pay9 (F := Ideal) v s (Scalar.addi v s) (baseW v) 0#32 1#32 t (ix2 i j) = maskI v s t.val i := by
  show IntOp.andi (IntOp.cmpi .sge (IntOp.addi (r0W v t.val) (iota .tc S96x1 32 [0] iota_S96x1_d0_w32 (ix2 i j))) v)
    (IntOp.cmpi .slt (IntOp.addi (r0W v t.val) (iota .tc S96x1 32 [0] iota_S96x1_d0_w32 (ix2 i j))) (Scalar.addi v s)) = _
  have : iota .tc S96x1 32 [0] iota_S96x1_d0_w32 (ix2 i j) = BitVec.ofNat 32 i.val := by pointwise
  rw [this]

theorem pay10_at (v s : BitVec 32) (t : Fin (k0_t2_loop v s).trips) (x : Vec Ideal S96x2048 .fp8e4m3) (xs : Vec Ideal S96x1 .f32)
    (w : Vec Ideal S1x2048x512 .fp8e4m3) (ws : Vec Ideal S1x512 .f32) (o : Vec Ideal S96x512 .bf16) (i : Fin 96) (l : Fin 512) :
    k0_pay10 v s (Scalar.addi v s) (baseW v) 0#32 1#32 t x xs w ws o (ix2 i l)
      = if maskI v s t.val i = 1#1 then (∑ k : Fin 2048, x (ix2 i k) * w (ix3 0 k l)) * xs (ix2 i 0) * ws (ix2 0 l)
        else o (ix2 i l) := by
  rw [← pay9_at v s t i 0]
  pointwise [k0_pay10]
  rfl

theorem pay1_at (v s : BitVec 32) (t : Fin (k0_t2_loop v s).trips) (x : Vec Ideal S96x2048 .fp8e4m3) (xs : Vec Ideal S96x1 .f32)
    (w : Vec Ideal S1x2048x512 .fp8e4m3) (ws : Vec Ideal S1x512 .f32) (o : Vec Ideal S96x512 .bf16) (i : Fin 96) (l : Fin 512) :
    k0_pay1 (k0_pay9 (F := Ideal) v s (Scalar.addi v s) (baseW v) 0#32 1#32 t) (k0_pay11 x xs w) ws o (ix2 i l)
      = if maskI v s t.val i = 1#1 then (∑ k : Fin 2048, x (ix2 i k) * w (ix3 0 k l)) * xs (ix2 i 0) * ws (ix2 0 l)
        else o (ix2 i l) := by
  rw [← pay9_at v s t i 0]
  pointwise [k0_pay1, k0_pay11]
  rfl

theorem pay2_at (v s : BitVec 32) (t : Fin (k0_t2_loop v s).trips) (x : Vec Ideal S96x2048 .fp8e4m3) (xs : Vec Ideal S96x1 .f32)
    (w : Vec Ideal S1x2048x512 .fp8e4m3) (ws : Vec Ideal S1x512 .f32) (o : Vec Ideal S96x512 .bf16) (i : Fin 96) (l : Fin 512) :
    k0_pay2 (k0_pay9 (F := Ideal) v s (Scalar.addi v s) (baseW v) 0#32 1#32 t) x xs w ws o (ix2 i l)
      = if maskI v s t.val i = 1#1 then (∑ k : Fin 2048, x (ix2 i k) * w (ix3 0 k l)) * xs (ix2 i 0) * ws (ix2 0 l)
        else o (ix2 i l) := by
  rw [← pay9_at v s t i 0]
  pointwise [k0_pay2]
  rfl

/-- What a box of 96 rows and 512 columns written into the result leaves at an entry. -/
theorem write_at (c : Dev nD) (O : BufOf Ideal c mOut) {off : Fin 2 → Nat} {a b : Nat} (ho : off = ![a, b])
    (inb : ∀ x, off x + S96x512.size x ≤ S768x1536.size x) (p : Vec Ideal S96x512 .bf16) (r : Fin 768) (l : Fin 1536) :
    (mOut.access (Rect.unit (s := S768x1536) off S96x512.size inb)).write (Elt Ideal) O p Finset.univ (ix2 r l)
      = if h : (a ≤ r.val ∧ r.val < a + 96) ∧ (b ≤ l.val ∧ l.val < b + 512) then
          p (ix2 (⟨r.val - a, by omega⟩ : Fin 96) (⟨l.val - b, by omega⟩ : Fin 512)) else O (ix2 r l) := by
  subst ho
  split
  case isTrue h =>
    have e : (ix2 r l : S768x1536.Idx) = (mOut.access (Rect.unit (s := S768x1536) ![a, b] S96x512.size inb)).emb
        (ix2 (⟨r.val - a, by omega⟩ : Fin 96) (⟨l.val - b, by omega⟩ : Fin 512)) := by
      funext x; apply Fin.ext; fin_cases x
      · show r.val = a + 1 * (r.val - a); omega
      · show l.val = b + 1 * (l.val - b); omega
    exact (congrArg _ e).trans (View.write_emb_of_mem _ _ (Finset.mem_univ _))
  case isFalse h =>
    refine View.write_of_not_mem _ _ _ fun hm => h ?_
    obtain ⟨x, -, hx⟩ := Finset.mem_map.mp hm
    have h0 : a + 1 * (x 0).val = r.val := congrArg (fun i : S768x1536.Idx => (i 0).val) hx
    have h1 : b + 1 * (x 1).val = l.val := congrArg (fun i : S768x1536.Idx => (i 1).val) hx
    have : (x 0).val < 96 := (x 0).isLt
    have : (x 1).val < 512 := (x 1).isLt
    omega

/-- One third of a window, given what its payload is at each entry. -/
theorem third_at (c : Dev nD) (O : BufOf Ideal c mOut) {off : Fin 2 → Nat} {a b F S : Nat} (ho : off = ![a, b]) (ha : a ≤ 672) (hb : b ≤ 1024)
    (inb : ∀ x, off x + S96x512.size x ≤ S768x1536.size x) (p : Vec Ideal S96x512 .bf16) (w : Fin 768 → Fin 1536 → EReal)
    (hp : ∀ (i : Fin 96) (l : Fin 512), p (ix2 i l) = if F ≤ a + i.val ∧ a + i.val < F + S then
        w ⟨a + i.val, by omega⟩ ⟨b + l.val, by omega⟩ else O (ix2 (⟨a + i.val, by omega⟩ : Fin 768) (⟨b + l.val, by omega⟩ : Fin 1536)))
    (r : Fin 768) (l : Fin 1536) :
    (mOut.access (Rect.unit (s := S768x1536) off S96x512.size inb)).write (Elt Ideal) O p Finset.univ (ix2 r l)
      = if ((a ≤ r.val ∧ r.val < a + 96) ∧ (b ≤ l.val ∧ l.val < b + 512)) ∧ (F ≤ r.val ∧ r.val < F + S) then w r l else O (ix2 r l) := by
  rw [write_at c O ho]
  by_cases h : (a ≤ r.val ∧ r.val < a + 96) ∧ (b ≤ l.val ∧ l.val < b + 512)
  · have e0 : (⟨a + (r.val - a), by omega⟩ : Fin 768) = r := Fin.ext (by show a + (r.val - a) = r.val; omega)
    have e1 : (⟨b + (l.val - b), by omega⟩ : Fin 1536) = l := Fin.ext (by show b + (l.val - b) = l.val; omega)
    have e2 : a + (r.val - a) = r.val := by omega
    rw [dif_pos h, hp]
    simp only [e0, e1, e2, h, true_and]
  · rw [dif_neg h, if_neg fun h' => h h'.1]

section

variable (c : Dev nD) (X : BufOf Ideal c mX) (Xs : BufOf Ideal c mXs) (Ws : BufOf Ideal c mWs)

theorem x_at {off : Fin 2 → Nat} {a : Nat} (ho : off = ![a, 0]) (ha : a ≤ 672) (inb : ∀ x, off x + S96x2048.size x ≤ S768x2048.size x)
    (i : Fin 96) (k : Fin 2048) :
    (mX.access (Rect.unit (s := S768x2048) off S96x2048.size inb)).read (Elt Ideal) X (ix2 i k) = X (ix2 (⟨a + i.val, by omega⟩ : Fin 768) k) := by
  subst ho
  refine congrArg X (funext fun x => Fin.ext ?_)
  fin_cases x
  · show a + 1 * i.val = a + i.val; omega
  · show 0 + 1 * k.val = k.val; omega

theorem xs_at {off : Fin 2 → Nat} {a : Nat} (ho : off = ![a, 0]) (ha : a ≤ 672) (inb : ∀ x, off x + S96x1.size x ≤ S768x1.size x)
    (i : Fin 96) :
    (mXs.access (Rect.unit (s := S768x1) off S96x1.size inb)).read (Elt Ideal) Xs (ix2 i 0) = Xs (ix2 (⟨a + i.val, by omega⟩ : Fin 768) 0) := by
  subst ho
  refine congrArg Xs (funext fun x => Fin.ext ?_)
  fin_cases x
  · show a + 1 * i.val = a + i.val; omega
  · rfl

theorem ws_at {off : Fin 2 → Nat} {b : Nat} (e : Fin 32) (ho : off = ![e.val, b]) (hb : b ≤ 1024) (inb : ∀ x, off x + S1x512.size x ≤ S32x1536.size x)
    (l : Fin 512) :
    (mWs.access (Rect.unit (s := S32x1536) off S1x512.size inb)).read (Elt Ideal) Ws (ix2 0 l) = Ws (ix2 e (⟨b + l.val, by omega⟩ : Fin 1536)) := by
  subst ho
  refine congrArg Ws (funext fun x => Fin.ext ?_)
  fin_cases x
  · rfl
  · show b + 1 * l.val = b + l.val; omega

theorem cols_at (fW : BufOf Ideal c aW) (e : Fin 32) (b : Nat) (hb : b ≤ 1024) (k : Fin 2048) (l : Fin 512) :
    cols c fW e b hb (ix3 0 k l) = fW (ix3 e k (⟨b + l.val, by omega⟩ : Fin 1536)) := by
  refine congrArg fW (funext fun x => ?_)
  fin_cases x <;> rfl

theorem o_at (O : BufOf Ideal c mOut) {off : Fin 2 → Nat} {a b : Nat} (ho : off = ![a, b]) (ha : a ≤ 672) (hb : b ≤ 1024)
    (inb : ∀ x, off x + S96x512.size x ≤ S768x1536.size x) (i : Fin 96) (l : Fin 512) :
    (mOut.access (Rect.unit (s := S768x1536) off S96x512.size inb)).read (Elt Ideal) O (ix2 i l)
      = O (ix2 (⟨a + i.val, by omega⟩ : Fin 768) (⟨b + l.val, by omega⟩ : Fin 1536)) := by
  subst ho
  refine congrArg O (funext fun x => Fin.ext ?_)
  fin_cases x
  · show a + 1 * i.val = a + i.val; omega
  · show b + 1 * l.val = b + l.val; omega

end

end Cert.KernelIdeal.Hand

end
-- ==== Proof.KernelIdeal.WinVal.lean ====
/-
The kernel's groups over the extended reals: after a group's windows its rows hold the group's products, the other
rows what they held; and so the result after all nonempty groups.
-/
module
public import proofs.«01_k».proof.Proof.KernelIdeal.Value

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem off_rows {v s : BitVec 32} {F₀ S : Nat} (hv : v.toNat = F₀) (hF : F₀ ≤ 24576) (hs : s.toNat = S) (hS : S ≤ 768)
    (t : Fin (k0_t2_loop v s).trips) : (r0W v t.val).toNat = r0 F₀ t.val := by
  have h1 : (k0_t2_loop v s).trips = nwin F₀ S := trips_ubW (nwinW_toNat hv hF hs hS) (by have := nwin_le hS (F := F₀); omega)
  have := nwin_le hS (F := F₀); have := t.isLt
  exact r0W_toNat hv hF (by omega)

theorem mask_at {v s : BitVec 32} {F₀ S : Nat} (hv : v.toNat = F₀) (hF : F₀ ≤ 24576) (hs : s.toNat = S) (hS : S ≤ 768)
    (t : Fin (k0_t2_loop v s).trips) (i : Fin 96) :
    maskI v s t.val i = 1#1 ↔ F₀ ≤ r0 F₀ t.val + i.val ∧ r0 F₀ t.val + i.val < F₀ + S := by
  have hr := off_rows hv hF hs hS t
  have := r0_le F₀ t.val
  have := i.isLt
  refine maskW_iff hv (by omega) (N := F₀ + S) ?_ (by omega) ?_ (by omega)
  · show (v + s).toNat = _
    rw [BitVec.toNat_add]; omega
  · show (r0W v t.val + BitVec.ofNat 32 i.val).toNat = _
    rw [BitVec.toNat_add, BitVec.toNat_ofNat]; omega

section

variable (c : Dev nD) (fW : BufOf Ideal c aW) (X : BufOf Ideal c mX) (Xs : BufOf Ideal c mXs) (Ws : BufOf Ideal c mWs)
variable {v s : BitVec 32} {F₀ S : Nat} (hv : v.toNat = F₀) (hF : F₀ ≤ 24576) (hs : s.toNat = S) (hS : S ≤ 768)
include hv hF hs hS

/-- One third of window `t`: 512 columns from `b`. -/
theorem part_at (e : Fin 32) (t : Fin (k0_t2_loop v s).trips) (h : WinInb (BitVec.ofNat 32 e.val) v s t) (b : Nat) (hb : b ≤ 1024)
    {offO : Fin 2 → Nat} (hO : offO = ![(r0W v t.val).toNat, b]) (inbO : ∀ x, offO x + S96x512.size x ≤ S768x1536.size x)
    {offW : Fin 2 → Nat} (hW : offW = ![(BitVec.ofNat 32 e.val).toNat, b]) (inbW : ∀ x, offW x + S1x512.size x ≤ S32x1536.size x)
    (O : BufOf Ideal c mOut) (p : Vec Ideal S96x512 .bf16)
    (hp : ∀ (i : Fin 96) (l : Fin 512), p (ix2 i l) = if maskI v s t.val i = 1#1 then
      (∑ k : Fin 2048, winX c t h X (ix2 i k) * cols c fW e b hb (ix3 0 k l)) * winXs c t h Xs (ix2 i 0)
        * (mWs.access (Rect.unit (s := S32x1536) offW S1x512.size inbW)).read (Elt Ideal) Ws (ix2 0 l)
      else (mOut.access (Rect.unit (s := S768x1536) offO S96x512.size inbO)).read (Elt Ideal) O (ix2 i l))
    (r : Fin 768) (l : Fin 1536) :
    (mOut.access (Rect.unit (s := S768x1536) offO S96x512.size inbO)).write (Elt Ideal) O p Finset.univ (ix2 r l)
      = if ((r0 F₀ t.val ≤ r.val ∧ r.val < r0 F₀ t.val + 96) ∧ (b ≤ l.val ∧ l.val < b + 512)) ∧ (F₀ ≤ r.val ∧ r.val < F₀ + S)
        then val X Xs fW Ws e r l else O (ix2 r l) := by
  have hr := off_rows hv hF hs hS t
  have ha := r0_le F₀ t.val
  have he : (BitVec.ofNat 32 e.val).toNat = e.val := by rw [BitVec.toNat_ofNat]; have := e.isLt; omega
  have o62 := off62_eq hv hF hs hS t
  rw [hr] at hO
  rw [he] at hW
  refine third_at c O hO ha hb inbO p (fun r l => val X Xs fW Ws e r l) (fun i l => ?_) r l
  rw [hp, if_congr (mask_at hv hF hs hS t i) rfl rfl]
  refine if_congr Iff.rfl ?_ (o_at c O hO ha hb inbO i l)
  unfold val
  refine congrArg₂ (· * ·) (congrArg₂ (· * ·) (Finset.sum_congr rfl fun k _ => ?_) (xs_at c Xs o62 ha h.xs i)) (ws_at c Ws e hW hb inbW l)
  exact congrArg₂ (· * ·) (x_at c X o62 ha h.x i k) (cols_at c fW e b hb k l)

/-- A window. -/
theorem win_at (e : Fin 32) (t : Fin (k0_t2_loop v s).trips) (h : WinInb (BitVec.ofNat 32 e.val) v s t) (O : BufOf Ideal c mOut)
    (r : Fin 768) (l : Fin 1536) :
    winF c t h X Xs Ws (cols c fW e 0 (by omega)) (cols c fW e 512 (by omega)) (cols c fW e 1024 (by omega)) O (ix2 r l)
      = if (r0 F₀ t.val ≤ r.val ∧ r.val < r0 F₀ t.val + 96) ∧ (F₀ ≤ r.val ∧ r.val < F₀ + S)
        then val X Xs fW Ws e r l else O (ix2 r l) := by
  unfold winF
  have p2 := fun O' => part_at c fW X Xs Ws hv hF hs hS e t h 1024 (by omega) rfl h.o2 rfl h.ws2 O' _ (fun i l => pay2_at v s t _ _ _ _ _ i l) r l
  have p1 := fun O' => part_at c fW X Xs Ws hv hF hs hS e t h 512 (by omega) rfl h.o1 rfl h.ws1 O' _ (fun i l => pay1_at v s t _ _ _ _ _ i l) r l
  have p0 := fun O' => part_at c fW X Xs Ws hv hF hs hS e t h 0 (by omega) rfl h.o0 rfl h.ws0 O' _ (fun i l => pay10_at v s t _ _ _ _ _ i l) r l
  refine (p2 _).trans ?_
  have q1 := p1 (win0 c t h X Xs Ws (cols c fW e 0 (by omega)) O)
  have q0 := p0 O
  have hl := l.isLt
  split
  case isTrue hh => rw [if_pos ⟨hh.1.1, hh.2⟩]
  case isFalse hh =>
    refine q1.trans ?_
    split
    case isTrue h1 => rw [if_pos ⟨h1.1.1, h1.2⟩]
    case isFalse h1 =>
      refine q0.trans ?_
      refine if_congr ⟨fun h0 => ⟨h0.1.1, h0.2⟩, fun h0 => ⟨⟨h0.1, by omega, ?_⟩, h0.2⟩⟩ rfl rfl
      by_contra hc
      by_cases hl2 : l.val < 1024
      · exact h1 ⟨⟨h0.1, by omega, by omega⟩, h0.2⟩
      · exact hh ⟨⟨h0.1, by omega, by omega⟩, h0.2⟩

/-- The first `n` windows. -/
theorem wins_at (e : Fin 32) (h : ∀ t, WinInb (BitVec.ofNat 32 e.val) v s t) (O : BufOf Ideal c mOut) (r : Fin 768) (l : Fin 1536) :
    ∀ n, n ≤ (k0_t2_loop v s).trips → winsF c fW X Xs Ws e (BitVec.ofNat 32 e.val) v s O n (ix2 r l)
      = if (∃ t < n, r0 F₀ t ≤ r.val ∧ r.val < r0 F₀ t + 96) ∧ (F₀ ≤ r.val ∧ r.val < F₀ + S)
        then val X Xs fW Ws e r l else O (ix2 r l)
  | 0, _ => by rw [if_neg fun hh => by obtain ⟨⟨t, ht, _⟩, _⟩ := hh; omega]; rfl
  | n + 1, hn => by
    have ih := wins_at e h O r l n (by omega)
    rw [winsF_succ c fW X Xs Ws e _ v s O ⟨n, by omega⟩ (h _), win_at c fW X Xs Ws hv hF hs hS e ⟨n, by omega⟩ (h _), ih]
    by_cases hg : F₀ ≤ r.val ∧ r.val < F₀ + S
    · by_cases h1 : r0 F₀ n ≤ r.val ∧ r.val < r0 F₀ n + 96
      · rw [if_pos ⟨h1, hg⟩, if_pos ⟨⟨n, by omega, h1⟩, hg⟩]
      · rw [if_neg fun hh => h1 hh.1]
        refine if_congr ⟨fun hh => ?_, fun hh => ?_⟩ rfl rfl
        · obtain ⟨⟨t, ht, h2⟩, h3⟩ := hh; exact ⟨⟨t, by omega, h2⟩, h3⟩
        · obtain ⟨⟨t, ht, h2⟩, h3⟩ := hh
          refine ⟨⟨t, ?_, h2⟩, h3⟩
          by_contra hc
          have : t = n := by omega
          subst this; exact h1 h2
    · rw [if_neg fun hh => hg hh.2, if_neg fun hh => hg hh.2, if_neg fun hh => hg hh.2]

end

section

variable (c : Dev nD) (fW : BufOf Ideal c aW) (X : BufOf Ideal c mX) (Xs : BufOf Ideal c mXs) (Ws : BufOf Ideal c mWs)
variable {g : Nat → BitVec 32}

/-- A group. -/
theorem group_at (hg : Fits g) (e : Fin 32) (h : ∀ t, WinInb (BitVec.ofNat 32 e.val) (rowW g e.val) (g e.val) t) (O : BufOf Ideal c mOut)
    (r : Fin 768) (l : Fin 1536) :
    groupF c fW X Xs Ws g e O (ix2 r l) = if InGroup g e.val r.val then val X Xs fW Ws e r l else O (ix2 r l) := by
  have he := e.isLt
  have hv := rowW_toNat hg e.val (by omega)
  have hF : row g e.val ≤ 24576 := (row_le hg e.val).trans (by omega)
  have hT : (k0_t2_loop (rowW g e.val) (g e.val)).trips = nwin (row g e.val) (g e.val).toNat :=
    trips_ubW (nwinW_toNat hv hF rfl (hg _)) (by have := nwin_le (hg e.val) (F := row g e.val); omega)
  unfold groupF
  rw [wins_at c fW X Xs Ws hv hF rfl (hg _) e h O r l _ le_rfl, hT]
  refine if_congr ⟨fun hh => hh.2, fun hh => ⟨?_, hh⟩⟩ rfl rfl
  exact row_in_window hh.1 hh.2 r.isLt

/-- Every group's accesses are in bounds. -/
theorem group_inb (hg : Fits g) (i : Nat) (hi : i < cnt g 32) (t) :
    WinInb (BitVec.ofNat 32 (actF g i).val) (rowW g (actF g i).val) (g (actF g i).val) t := by
  have he := (actF g i).isLt
  have hc := cnt_le g 32
  have hT : (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips = cnt g 32 := t1_trips hg
  have hv : (BitVec.ofNat 32 (actF g i).val).toNat = (actF g i).val := by rw [BitVec.toNat_ofNat]; omega
  refine winInb (g := g) (t1 := ⟨i, by omega⟩) (chk43 _ ?_ hv he (rowW_toNat hg _ (by omega)) ((row_le hg _).trans (by omega)) rfl (hg _)) t
  rw [slotW_toNat (by show i < 2 ^ 31; omega)]; exact Nat.mod_lt _ (by omega)

/-- The result after the first `n` nonempty groups. -/
theorem out_at (hg : Fits g) (O : BufOf Ideal c mOut) (hO : ∀ r l, O (ix2 (n0 := 768) (n1 := 1536) r l) = (0 : EReal)) (r : Fin 768) (l : Fin 1536) :
    ∀ n, n ≤ cnt g 32 →
      (∀ j < n, InGroup g (actF g j).val r.val → outF c fW X Xs Ws g O n (ix2 r l) = val X Xs fW Ws (actF g j) r l)
      ∧ ((∀ j < n, ¬ InGroup g (actF g j).val r.val) → outF c fW X Xs Ws g O n (ix2 r l) = (0 : EReal))
  | 0, _ => ⟨fun j hj => absurd hj (by omega), fun _ => hO r l⟩
  | n + 1, hn => by
    obtain ⟨ih1, ih2⟩ := out_at hg O hO r l n (by omega)
    have hs : outF c fW X Xs Ws g O (n + 1) (ix2 r l) = if InGroup g (actF g n).val r.val then val X Xs fW Ws (actF g n) r l
        else outF c fW X Xs Ws g O n (ix2 r l) := group_at c fW X Xs Ws hg (actF g n) (group_inb hg n (by omega)) _ r l
    rw [hs]
    refine ⟨fun j hj hin => ?_, fun hno => ?_⟩
    · by_cases h1 : InGroup g (actF g n).val r.val
      · rw [if_pos h1, show actF g n = actF g j from Fin.ext (inGroup_unique h1 hin)]
      · rw [if_neg h1]
        refine ih1 j ?_ hin
        by_contra hc
        have : j = n := by omega
        subst this; exact h1 hin
    · rw [if_neg (hno n (by omega))]
      exact ih2 fun j hj => hno j (by omega)

/-- The kernel's array is the result. -/
theorem finOut_isResult (f2 : BufOf Ideal c aGs) (f0 : BufOf Ideal c aX) (f1 : BufOf Ideal c aXs) (f3 : BufOf Ideal c aW) (f4 : BufOf Ideal c aWs)
    (hg : Fits (at32 f2)) : IsResult (at32 f2) f0 f1 f3 f4 (finOut c f2 f0 f1 f3 f4) := by
  intro r l
  have hO : ∀ r l, (k0_pay21 (F := Ideal)) (ix2 (n0 := 768) (n1 := 1536) r l) = (0 : EReal) := fun r l => by pointwise [k0_pay21]
  obtain ⟨h1, h2⟩ := out_at c f3 f0 f1 f4 hg (k0_pay21 (F := Ideal)) hO r l (cnt (at32 f2) 32) le_rfl
  refine ⟨fun e he => ?_, fun hno => h2 fun j _ => hno _⟩
  have ha := isAct_of_inGroup he
  have hj : cnt (at32 f2) e.val < cnt (at32 f2) 32 := Nat.count_strict_mono ha e.isLt
  have hact : actF (at32 f2) (cnt (at32 f2) e.val) = e := by
    refine Fin.ext ?_
    show act (at32 f2) (cnt (at32 f2) e.val) % 32 = e.val
    rw [act_count ha]; exact Nat.mod_eq_of_lt e.isLt
  have := h1 _ hj (by rw [hact]; exact he)
  rw [hact] at this
  exact this

end

end Cert.KernelIdeal.Hand

end
-- ==== Proof.KernelIdeal.Result.lean ====
/-
The kernel's run with its result named: from group sizes that fit, the result's array ends at the result of the
arguments, which end unchanged.
-/
module

public import proofs.«01_k».proof.Proof.KernelIdeal.Frame
public import proofs.«01_k».proof.Proof.KernelIdeal.WinVal
public import Idealize.ShloMosaic.Lib.Pipeline.ValueKit

@[expose] public section

noncomputable section

namespace Cert.KernelIdeal.Hand

open Cert.KernelIdeal Cert.KernelIdeal.Gen Cert.Hand
open Idealize.ShloMosaic Idealize.ShloMosaic.TcCoe Idealize.SL.Sem

variable (m : (ℓ : Loc nD τ sig) → Buf (Elt Ideal) ℓ) (ρ : Dev nD → PrngReg)

/-- The one point's write-back covers the result's array. -/
theorem arr_eq (c : Dev nD) : (dats m 0 c).arrAt 0 cfg0.N = outAt m c :=
  (dats m 0 c).arrAt_eq_of_after_last 0 ⟨0, by decide⟩ (by decide +kernel) _ fun j => by rw [after0_0]; rfl

theorem run_value (hg : ∀ c, Fits (at32 (V m c main_arg2))) :
    θ_run defs (onTc (τ := τ) (main (F := Ideal))) ⟨m, fun _ => 0, ρ⟩ (fun r => ∀ c : Dev nD,
      r.2.mem ((c.tc : Thread nD τ).loc main_v0) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 0).trans (arr_eq m c),
      (h.1 c).2 main_arg0 (Pipeline.mem_restRefs_of main_arg0 (by decide) (by decide)),
      (h.1 c).2 main_arg1 (Pipeline.mem_restRefs_of main_arg1 (by decide) (by decide)),
      (h.1 c).2 main_arg2 (Pipeline.mem_restRefs_of main_arg2 (by decide) (by decide)),
      (h.1 c).2 main_arg3 (Pipeline.mem_restRefs_of main_arg3 (by decide) (by decide)),
      (h.1 c).2 main_arg4 (Pipeline.mem_restRefs_of main_arg4 (by decide) (by decide))⟩) (run_main m ρ hg)

theorem out_isResult (c : Dev nD) (hg : Fits (at32 (V m c main_arg2))) :
    IsResult (at32 (V m c main_arg2)) (V m c main_arg0) (V m c main_arg1) (V m c main_arg3) (V m c main_arg4) (outAt m c) :=
  finOut_isResult c _ _ _ _ _ hg

end Cert.KernelIdeal.Hand

end
-- ==== Proof.ReferenceIdeal.Value.lean ====
/-
The reference over the extended reals: its loop over the experts keeps the product and the scale of each row's expert,
and its array is the result.
-/
module

public import proofs.«01_k».proof.Proof.Gen.ReferenceIdeal.Value
public import proofs.«01_k».proof.Proof.Values

@[expose] public section

noncomputable section

namespace Cert.ReferenceIdeal.Hand

open Cert.ReferenceIdeal Cert.ReferenceIdeal.Gen Cert.Hand
open Idealize.ShloMosaic Idealize.ShloMosaic.TcCoe

theorem trips_eq : k0_t1_loop.trips = 32 := by decide

theorem off1_eq (k : Fin k0_t1_loop.trips) : k0_off1 k = ![k.val] := by
  have := k.isLt; have := trips_eq
  show ![(Scf.iv 0#32 1#32 k.val).toNat] = _
  rw [iv_toNat (by omega)]
theorem off2_eq (k : Fin k0_t1_loop.trips) : k0_off2 k = ![k.val, 0, 0] := by
  have := k.isLt; have := trips_eq
  show ![(Scf.iv 0#32 1#32 k.val).toNat, 0, 0] = _
  rw [iv_toNat (by omega)]
theorem off3_eq (k : Fin k0_t1_loop.trips) : k0_off3 k = ![k.val, 0] := by
  have := k.isLt; have := trips_eq
  show ![(Scf.iv 0#32 1#32 k.val).toNat, 0] = _
  rw [iv_toNat (by omega)]

/-! ## The values of a trip -/

/-- The mask at row `r`. -/
abbrev maskR (a n : BitVec 32) (r : Fin 768) : BitVec 1 := maskW a (Scalar.addi a n) (BitVec.ofNat 32 r.val)

theorem pay2_at (a n : BitVec 32) (r : Fin 768) (j : Fin 1) : k0_pay2 (F := Ideal) a n (ix2 r j) = maskR a n r := by
  show IntOp.andi (IntOp.cmpi .sge (iota .tc S768x1 32 [0] iota_S768x1_d0_w32 (ix2 r j)) a)
    (IntOp.cmpi .slt (iota .tc S768x1 32 [0] iota_S768x1_d0_w32 (ix2 r j)) (Scalar.addi a n)) = _
  have : iota .tc S768x1 32 [0] iota_S768x1_d0_w32 (ix2 r j) = BitVec.ofNat 32 r.val := by pointwise
  rw [this]

theorem pay3_at (a n : BitVec 32) (A : FVec Ideal S768x1536 .f32) (x : Vec Ideal S768x2048 .fp8e4m3) (w : Vec Ideal S1x2048x1536 .fp8e4m3)
    (r : Fin 768) (l : Fin 1536) :
    k0_pay3 a A n x w (ix2 r l) = if maskR a n r = 1#1 then ∑ k : Fin 2048, x (ix2 r k) * w (ix3 0 k l) else A (ix2 r l) := by
  rw [← pay2_at a n r 0]
  pointwise [k0_pay3]
  rfl

theorem pay4_at (a n : BitVec 32) (B : FVec Ideal S768x1536 .f32) (ws : Vec Ideal S1x1536 .f32) (r : Fin 768) (l : Fin 1536) :
    k0_pay4 a B n ws (ix2 r l) = if maskR a n r = 1#1 then ws (ix2 0 l) else B (ix2 r l) := by
  rw [← pay2_at a n r 0]
  pointwise [k0_pay4]
  rfl

theorem pay5_at (A B : FVec Ideal S768x1536 .f32) (xs : Vec Ideal S768x1 .f32) (r : Fin 768) (l : Fin 1536) :
    k0_pay5 A B xs (ix2 r l) = (A (ix2 r l) : EReal) * xs (ix2 r 0) * B (ix2 r l) := by
  pointwise [k0_pay5]

theorem pay1_at (r : Fin 768) (l : Fin 1536) : k0_pay1 (F := Ideal) (ix2 r l) = (0 : EReal) := by
  pointwise [k0_pay1]

/-! ## The loop -/

section

variable (𝒱 : Variants) (c : Dev nD) (bd : Option 𝒱.V) (arg0 : Memref sig .tc .vmem S768x2048 .fp8e4m3) (harg0 : arg0.IsWhole)
  (arg1 : Memref sig .tc .vmem S768x1 .f32) (harg1 : arg1.IsWhole) (arg2 : Memref sig .tc .smem S32 .i32) (harg2 : arg2.IsWhole)
  (arg3 : Memref sig .tc .vmem S32x2048x1536 .fp8e4m3) (harg3 : arg3.IsWhole) (arg4 : Memref sig .tc .vmem S32x1536 .f32) (harg4 : arg4.IsWhole)
  (arg5 : Memref sig .tc .vmem S768x1536 .bf16) (harg5 : arg5.IsWhole)
  (x0 : Vec Ideal S768x2048 .fp8e4m3) (x2 : Vec Ideal S32 .i32) (x3 : Vec Ideal S32x2048x1536 .fp8e4m3) (x4 : Vec Ideal S32x1536 .f32)

/-- What the loop carries before trip `k`. -/
abbrev st (k : Nat) : BitVec 32 × FVec Ideal S768x1536 .f32 × FVec Ideal S768x1536 .f32 :=
  st_k0_t1 𝒱 c bd arg0 harg0 arg1 harg1 arg2 harg2 arg3 harg3 arg4 harg4 arg5 harg5 (harg0.unread x0) (harg2.unread x2) (harg3.unread x3)
    (harg4.unread x4) (0#32, k0_pay1, k0_pay1) k

/-- The group sizes by number. -/
def sizes (x2 : Vec Ideal S32 .i32) (i : Nat) : BitVec 32 :=
  x2 (ix1 (n0 := 32) ⟨i % 32, Nat.mod_lt _ (by decide)⟩)

theorem size_at (k : Fin k0_t1_loop.trips) : trip_k0_t1.sl.r arg2 (harg2.unread x2) k = sizes x2 k.val := by
  have := k.isLt; have := trips_eq
  unfold trip_k0_t1.sl.r sizes
  refine (congrFun (harg2.read_unread x2) _).trans (congrArg x2 (funext fun a => Fin.ext ?_))
  have o := off1_eq k
  fin_cases a
  have : k0_off1 k 0 = k.val := congrFun o 0
  show k0_off1 k 0 + 1 * 0 = k.val % 32
  omega

theorem x_at (r : Fin 768) (j : Fin 2048) :
    (View.readAt (Elt Ideal) arg0.view (Rect.unit (s := S768x2048) ![0, 0] ![768, 2048] inb_S768x2048_S768x2048_0_0).toLoadRect (harg0.unread x0)
      : Vec Ideal S768x2048 .fp8e4m3) (ix2 r j)
      = x0 (ix2 r j) := by
  refine (congrFun (harg0.read_unread x0) _).trans (congrArg x0 (funext fun a => Fin.ext ?_))
  fin_cases a
  · show 0 + 1 * r.val = r.val; omega
  · show 0 + 1 * j.val = j.val; omega

theorem w_at (k : Fin k0_t1_loop.trips) (e : Fin 32) (he : k.val = e.val) (inb) (j : Fin 2048) (l : Fin 1536) :
    (View.readAt (Elt Ideal) arg3.view (Rect.unit (s := S32x2048x1536) (k0_off2 k) ![1, 2048, 1536] inb).toLoadRect (harg3.unread x3)
      : Vec Ideal S1x2048x1536 .fp8e4m3) (ix3 0 j l) = x3 (ix3 e j l) := by
  refine (congrFun (harg3.read_unread x3) _).trans (congrArg x3 (funext fun a => Fin.ext ?_))
  have o := off2_eq k
  fin_cases a
  · have : k0_off2 k 0 = k.val := congrFun o 0
    show k0_off2 k 0 + 1 * 0 = e.val; omega
  · have : k0_off2 k 1 = 0 := congrFun o 1
    show k0_off2 k 1 + 1 * j.val = j.val; omega
  · have : k0_off2 k 2 = 0 := congrFun o 2
    show k0_off2 k 2 + 1 * l.val = l.val; omega

theorem ws_at (k : Fin k0_t1_loop.trips) (e : Fin 32) (he : k.val = e.val) (inb) (l : Fin 1536) :
    (View.readAt (Elt Ideal) arg4.view (Rect.unit (s := S32x1536) (k0_off3 k) ![1, 1536] inb).toLoadRect (harg4.unread x4)
      : Vec Ideal S1x1536 .f32) (ix2 0 l) = x4 (ix2 e l) := by
  refine (congrFun (harg4.read_unread x4) _).trans (congrArg x4 (funext fun a => Fin.ext ?_))
  have o := off3_eq k
  fin_cases a
  · have : k0_off3 k 0 = k.val := congrFun o 0
    show k0_off3 k 0 + 1 * 0 = e.val; omega
  · have : k0_off3 k 1 = 0 := congrFun o 1
    show k0_off3 k 1 + 1 * l.val = l.val; omega

/-- One trip. -/
theorem st_next (hg : Fits (sizes x2)) (e : Fin 32)
    (h : (st 𝒱 c bd arg0 harg0 arg1 harg1 arg2 harg2 arg3 harg3 arg4 harg4 arg5 harg5 x0 x2 x3 x4 e.val).1 = rowW (sizes x2) e.val) :
    (st 𝒱 c bd arg0 harg0 arg1 harg1 arg2 harg2 arg3 harg3 arg4 harg4 arg5 harg5 x0 x2 x3 x4 (e.val + 1)).1 = rowW (sizes x2) (e.val + 1)
    ∧ (∀ r l, (st 𝒱 c bd arg0 harg0 arg1 harg1 arg2 harg2 arg3 harg3 arg4 harg4 arg5 harg5 x0 x2 x3 x4 (e.val + 1)).2.1 (ix2 r l)
        = if InGroup (sizes x2) e.val r.val then ∑ k : Fin 2048, (x0 (ix2 r k) : EReal) * x3 (ix3 e k l)
          else (st 𝒱 c bd arg0 harg0 arg1 harg1 arg2 harg2 arg3 harg3 arg4 harg4 arg5 harg5 x0 x2 x3 x4 e.val).2.1 (ix2 r l))
    ∧ (∀ r l, (st 𝒱 c bd arg0 harg0 arg1 harg1 arg2 harg2 arg3 harg3 arg4 harg4 arg5 harg5 x0 x2 x3 x4 (e.val + 1)).2.2 (ix2 r l)
        = if InGroup (sizes x2) e.val r.val then (x4 (ix2 e l) : EReal)
          else (st 𝒱 c bd arg0 harg0 arg1 harg1 arg2 harg2 arg3 harg3 arg4 harg4 arg5 harg5 x0 x2 x3 x4 e.val).2.2 (ix2 r l)) := by
  have he := e.isLt
  have hk : e.val < k0_t1_loop.trips := by rw [trips_eq]; exact he
  have hs := st_k0_t1_succ (F := Ideal) 𝒱 c bd arg0 harg0 arg1 harg1 arg2 harg2 arg3 harg3 arg4 harg4 arg5 harg5 (harg0.unread x0) (harg2.unread x2)
    (harg3.unread x3) (harg4.unread x4) (0#32, k0_pay1, k0_pay1) ⟨e.val, hk⟩
  have hmask : ∀ r : Fin 768, maskR (rowW (sizes x2) e.val) (sizes x2 e.val) r = 1#1 ↔ InGroup (sizes x2) e.val r.val := fun r => by
    have h1 := rowW_toNat hg e.val (by omega)
    have h2 := rowW_toNat hg (e.val + 1) (by omega)
    have h3 := row_le hg e.val
    have h4 := row_le hg (e.val + 1)
    have h5 := row_succ (sizes x2) e.val
    have := r.isLt
    unfold InGroup
    rw [← h5]
    exact maskW_iff h1 (by omega) h2 (by omega) (by rw [BitVec.toNat_ofNat]; omega) (by omega)
  unfold st at h ⊢
  rw [hs]
  generalize hst : st_k0_t1 (F := Ideal) 𝒱 c bd arg0 harg0 arg1 harg1 arg2 harg2 arg3 harg3 arg4 harg4 arg5 harg5 (harg0.unread x0) (harg2.unread x2)
    (harg3.unread x3) (harg4.unread x4) (0#32, k0_pay1, k0_pay1) e.val = acc at h ⊢
  unfold tripR_k0_t1 trip_k0_t1
  dsimp only
  rw [size_at, h]
  refine ⟨?_, fun r l => ?_, fun r l => ?_⟩
  · unfold trip_k0_t1.sl.v12
    rw [size_at, h]
    rfl
  · rw [pay3_at, if_congr (hmask r) rfl rfl]
    refine if_congr Iff.rfl (Finset.sum_congr rfl fun k _ => ?_) rfl
    exact congrArg₂ (· * ·) (x_at arg0 harg0 x0 r k) (w_at arg3 harg3 x3 ⟨e.val, hk⟩ e rfl _ k l)
  · rw [pay4_at, if_congr (hmask r) rfl rfl]
    exact if_congr Iff.rfl (ws_at arg4 harg4 x4 ⟨e.val, hk⟩ e rfl _ l) rfl

/-- Before trip `n`: the rows of the first `n` experts hold their product and scale, the others zero. -/
theorem st_at (hg : Fits (sizes x2)) (r : Fin 768) (l : Fin 1536) : ∀ n, n ≤ 32 →
    (st 𝒱 c bd arg0 harg0 arg1 harg1 arg2 harg2 arg3 harg3 arg4 harg4 arg5 harg5 x0 x2 x3 x4 n).1 = rowW (sizes x2) n
    ∧ (∀ e : Fin 32, e.val < n → InGroup (sizes x2) e.val r.val →
        (st 𝒱 c bd arg0 harg0 arg1 harg1 arg2 harg2 arg3 harg3 arg4 harg4 arg5 harg5 x0 x2 x3 x4 n).2.1 (ix2 r l) = ∑ k : Fin 2048, (x0 (ix2 r k) : EReal) * x3 (ix3 e k l)
        ∧ (st 𝒱 c bd arg0 harg0 arg1 harg1 arg2 harg2 arg3 harg3 arg4 harg4 arg5 harg5 x0 x2 x3 x4 n).2.2 (ix2 r l) = (x4 (ix2 e l) : EReal))
    ∧ ((∀ e : Fin 32, e.val < n → ¬ InGroup (sizes x2) e.val r.val) →
        (st 𝒱 c bd arg0 harg0 arg1 harg1 arg2 harg2 arg3 harg3 arg4 harg4 arg5 harg5 x0 x2 x3 x4 n).2.1 (ix2 r l) = (0 : EReal)
        ∧ (st 𝒱 c bd arg0 harg0 arg1 harg1 arg2 harg2 arg3 harg3 arg4 harg4 arg5 harg5 x0 x2 x3 x4 n).2.2 (ix2 r l) = (0 : EReal))
  | 0, _ => ⟨rfl, fun e he => absurd he (by omega), fun _ => ⟨pay1_at r l, pay1_at r l⟩⟩
  | n + 1, hn => by
    obtain ⟨i1, i2, i3⟩ := st_at hg r l n (by omega)
    obtain ⟨s1, s2, s3⟩ := st_next 𝒱 c bd arg0 harg0 arg1 harg1 arg2 harg2 arg3 harg3 arg4 harg4 arg5 harg5 x0 x2 x3 x4 hg ⟨n, by omega⟩ i1
    refine ⟨s1, fun e he hin => ?_, fun hno => ?_⟩
    · rw [s2 r l, s3 r l]
      by_cases h1 : InGroup (sizes x2) n r.val
      · rw [if_pos h1, if_pos h1, show e = ⟨n, by omega⟩ from Fin.ext (inGroup_unique hin h1)]
        exact ⟨rfl, rfl⟩
      · rw [if_neg h1, if_neg h1]
        refine i2 e ?_ hin
        by_contra hc
        have : e.val = n := by omega
        rw [this] at hin
        exact h1 hin
    · have h1 : ¬ InGroup (sizes x2) n r.val := hno ⟨n, by omega⟩ (Nat.lt_succ_self n)
      rw [s2 r l, s3 r l, if_neg h1, if_neg h1]
      exact i3 fun e he => hno e (by omega)

/-- After the loop and the scaling. -/
theorem final (hg : Fits (sizes x2)) (xs : Vec Ideal S768x1 .f32) :
    IsResult (sizes x2) x0 xs x3 x4 (k0_pay5 (st 𝒱 c bd arg0 harg0 arg1 harg1 arg2 harg2 arg3 harg3 arg4 harg4 arg5 harg5 x0 x2 x3 x4 32).2.1
      (st 𝒱 c bd arg0 harg0 arg1 harg1 arg2 harg2 arg3 harg3 arg4 harg4 arg5 harg5 x0 x2 x3 x4 32).2.2 xs) := by
  intro r l
  obtain ⟨-, h1, h2⟩ := st_at 𝒱 c bd arg0 harg0 arg1 harg1 arg2 harg2 arg3 harg3 arg4 harg4 arg5 harg5 x0 x2 x3 x4 hg r l 32 le_rfl
  rw [pay5_at]
  refine ⟨fun e he => ?_, fun hno => ?_⟩
  · obtain ⟨ha, hb⟩ := h1 e e.isLt he
    rw [ha, hb]; rfl
  · obtain ⟨ha, hb⟩ := h2 fun e _ => hno e
    rw [hb]; exact mul_zero _

end

end Cert.ReferenceIdeal.Hand

end
-- ==== Proof.ReferenceIdeal.Result.lean ====
/-
The reference's result: its array after the run is the result of its arguments.
-/
module

public import proofs.«01_k».proof.Proof.ReferenceIdeal.Value
public import Idealize.ShloMosaic.Lib.VecWindow
public import Idealize.ShloMosaic.Lib.Pipeline.ValueKit

@[expose] public section

noncomputable section

namespace Cert.ReferenceIdeal.Hand

open Cert.ReferenceIdeal Cert.ReferenceIdeal.Gen Cert.Hand
open Idealize.ShloMosaic Idealize.ShloMosaic.TcCoe

variable (m : (ℓ : Loc nD τ sig) → Buf (Elt Ideal) ℓ)

/-- Each window's block is its whole array. -/
theorem iblk0 (c : Dev nD) (t : Fin cfg0.N) : iblk m c 0 t = V m c main_arg0 := by
  funext y
  refine congrArg (V m c main_arg0) (funext fun a => Fin.ext ?_)
  exact Pipeline.Window.rect_emb_val_of_index_zero (cfg0.win 0) t a rfl y
theorem iblk1 (c : Dev nD) (t : Fin cfg0.N) : iblk m c 1 t = V m c main_arg1 := by
  funext y
  refine congrArg (V m c main_arg1) (funext fun a => Fin.ext ?_)
  exact Pipeline.Window.rect_emb_val_of_index_zero (cfg0.win 1) t a rfl y
theorem iblk2 (c : Dev nD) (t : Fin cfg0.N) : iblk m c 2 t = V m c main_arg2 := by
  funext y
  refine congrArg (V m c main_arg2) (funext fun a => Fin.ext ?_)
  exact Pipeline.Window.rect_emb_val_of_index_zero (cfg0.win 2) t a rfl y
theorem iblk3 (c : Dev nD) (t : Fin cfg0.N) : iblk m c 3 t = V m c main_arg3 := by
  funext y
  refine congrArg (V m c main_arg3) (funext fun a => Fin.ext ?_)
  exact Pipeline.Window.rect_emb_val_of_index_zero (cfg0.win 3) t a rfl y
theorem iblk4 (c : Dev nD) (t : Fin cfg0.N) : iblk m c 4 t = V m c main_arg4 := by
  funext y
  refine congrArg (V m c main_arg4) (funext fun a => Fin.ext ?_)
  exact Pipeline.Window.rect_emb_val_of_index_zero (cfg0.win 4) t a rfl y

theorem trips_lit : Scf.trips 0#32 (Scalar.addi 0#32 32#32) 1#32 = 32 := by decide

/-- What the body leaves, of any blocks. -/
theorem out_eq (c : Dev nD) (arg0 : Memref sig .tc .vmem S768x2048 .fp8e4m3) (harg0 : arg0.IsWhole)
    (arg1 : Memref sig .tc .vmem S768x1 .f32) (harg1 : arg1.IsWhole) (arg2 : Memref sig .tc .smem S32 .i32) (harg2 : arg2.IsWhole)
    (arg3 : Memref sig .tc .vmem S32x2048x1536 .fp8e4m3) (harg3 : arg3.IsWhole) (arg4 : Memref sig .tc .vmem S32x1536 .f32) (harg4 : arg4.IsWhole)
    (arg5 : Memref sig .tc .vmem S768x1536 .bf16) (harg5 : arg5.IsWhole)
    (x0 : Vec Ideal S768x2048 .fp8e4m3) (x1 : Vec Ideal S768x1 .f32) (x2 : Vec Ideal S32 .i32) (x3 : Vec Ideal S32x2048x1536 .fp8e4m3) (x4 : Vec Ideal S32x1536 .f32) :
    out0_A_5 c arg0 harg0 arg1 harg1 arg2 harg2 arg3 harg3 arg4 harg4 arg5 harg5 x0 x1 x2 x3 x4
      = k0_pay5 (st Variants.none c none arg0 harg0 arg1 harg1 arg2 harg2 arg3 harg3 arg4 harg4 arg5 harg5 x0 x2 x3 x4 32).2.1
          (st Variants.none c none arg0 harg0 arg1 harg1 arg2 harg2 arg3 harg3 arg4 harg4 arg5 harg5 x0 x2 x3 x4 32).2.2 x1 := by
  unfold out0_A_5 kernelRun0_A
  dsimp only
  rw [trips_lit]
  refine (View.read_writes_full _ _ _ _ _).trans (congrArg (k0_pay5 _ _) ?_)
  exact (View.readAt_full _ _ _).trans (harg1.read_unread _)

theorem outs_isResult (c : Dev nD) (t : Fin cfg0.N) (hg : Fits (sizes (V m c main_arg2))) :
    IsResult (sizes (V m c main_arg2)) (V m c main_arg0) (V m c main_arg1) (V m c main_arg3) (V m c main_arg4) (outsAt0 m c t) := by
  unfold outsAt0
  rw [iblk0, iblk1, iblk2, iblk3, iblk4, out_eq]
  exact final _ _ _ _ _ _ _ _ _ _ _ _ _ _ _ _ _ _ _ hg _

/-- The one point's write-back covers the array. -/
theorem arr_of_after (c : Dev nD) (t : Fin cfg0.N) (G : Vec Ideal S768x1536 .bf16) (hG : (dats m 0 c).after 5 t = G) :
    (dats m 0 c).arrAt 5 cfg0.N = G := by
  have h : ∀ t : Fin cfg0.N, (cfg0.win 5).WholeAt t := (by decide +kernel : ∀ t : Fin grid0.N, win0_5.WholeAt t)
  exact (dats m 0 c).arrAt_eq_of_after_last 5 t (h t) G fun j => by rw [hG]; rfl

/-- The reference's array after the run is the result. -/
theorem arr_isResult (c : Dev nD) (hg : Fits (sizes (V m c main_arg2))) :
    IsResult (sizes (V m c main_arg2)) (V m c main_arg0) (V m c main_arg1) (V m c main_arg3) (V m c main_arg4) ((dats m 0 c).arrAt 5 cfg0.N) := by
  rw [arr_of_after m c ⟨0, by decide⟩ _ (after0_5 m c _)]
  exact outs_isResult m c _ hg

end Cert.ReferenceIdeal.Hand

end
-- ==== Proof.lean ====
/-
The certificate: the two frames of the kernel from group sizes that fit, the frame of the reference, the kernel's
ideal program being the kernel's own (no operation was rewritten), and the kernel and the reference ending with equal
results over the extended reals.
-/
module

public import proofs.«01_k».proof.Defs
public import proofs.«01_k».proof.Proof.Sizes
public import proofs.«01_k».proof.Proof.KernelIdeal.Result
public import proofs.«01_k».proof.Proof.ReferenceIdeal.Result

@[expose] public section

noncomputable section

namespace Cert.Proof

open Idealize.ShloMosaic Idealize.SL.Sem Cert.Hand

/-- From arguments that agree the two arrays are the one result the arguments determine. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hg : Fits (Cert.KernelIdeal.Hand.at32 (Cert.KernelIdeal.Hand.V m c Cert.KernelIdeal.main_arg2)))
    (h0 : Cert.ReferenceIdeal.Gen.V m' c Cert.ReferenceIdeal.main_arg0 = Cert.KernelIdeal.Hand.V m c Cert.KernelIdeal.main_arg0)
    (h1 : Cert.ReferenceIdeal.Gen.V m' c Cert.ReferenceIdeal.main_arg1 = Cert.KernelIdeal.Hand.V m c Cert.KernelIdeal.main_arg1)
    (h2 : Cert.ReferenceIdeal.Gen.V m' c Cert.ReferenceIdeal.main_arg2 = Cert.KernelIdeal.Hand.V m c Cert.KernelIdeal.main_arg2)
    (h3 : Cert.ReferenceIdeal.Gen.V m' c Cert.ReferenceIdeal.main_arg3 = Cert.KernelIdeal.Hand.V m c Cert.KernelIdeal.main_arg3)
    (h4 : Cert.ReferenceIdeal.Gen.V m' c Cert.ReferenceIdeal.main_arg4 = Cert.KernelIdeal.Hand.V m c Cert.KernelIdeal.main_arg4) :
    (Cert.ReferenceIdeal.Gen.dats m' 0 c).arrAt 5 Cert.ReferenceIdeal.cfg0.N = Cert.KernelIdeal.Hand.outAt m c := by
  have hs : Cert.ReferenceIdeal.Hand.sizes (Cert.ReferenceIdeal.Gen.V m' c Cert.ReferenceIdeal.main_arg2)
      = Cert.KernelIdeal.Hand.at32 (Cert.KernelIdeal.Hand.V m c Cert.KernelIdeal.main_arg2) := by
    rw [h2]
    funext i
    refine congrArg (Cert.KernelIdeal.Hand.V m c Cert.KernelIdeal.main_arg2) (funext fun a => ?_)
    fin_cases a
    rfl
  have hr := Cert.ReferenceIdeal.Hand.arr_isResult m' c (by rw [hs]; exact hg)
  rw [hs, h0, h1, h3, h4] at hr
  exact isResult_unique hr (Cert.KernelIdeal.Hand.out_isResult m c hg)

theorem algebraic [Cert.KernelIdeal.Facts] [Cert.ReferenceIdeal.Facts] [Cert.Pre_sizes_fit.Facts] :
    Cert.algebraic_KernelIdeal_ReferenceIdeal := fun m g m' g' h ha =>
  ⟨fun c => Cert.KernelIdeal.Hand.outAt m c,
    Cert.KernelIdeal.Hand.run_value m g (fits_KernelIdeal m h),
    (θ_run _ _ _).mono (fun _ hr c => ⟨(hr c).1.trans (results_eq m m' c (fits_KernelIdeal m h c)
        ((Cert.ReferenceIdeal.Gen.V_main_arg0 m' c).trans (ha c).1) ((Cert.ReferenceIdeal.Gen.V_main_arg1 m' c).trans (ha c).2.1)
        ((Cert.ReferenceIdeal.Gen.V_main_arg2 m' c).trans (ha c).2.2.1) ((Cert.ReferenceIdeal.Gen.V_main_arg3 m' c).trans (ha c).2.2.2.1)
        ((Cert.ReferenceIdeal.Gen.V_main_arg4 m' c).trans (ha c).2.2.2.2)), (hr c).2⟩)
      (Cert.ReferenceIdeal.Value.run_blocks m' g')⟩

theorem claim : Cert.Claim :=
  ⟨Cert.Kernel.Gen.facts, Cert.KernelIdeal.Gen.facts, Cert.ReferenceIdeal.Gen.facts, preFacts,
    fun m ρ h => Cert.Kernel.Hand.frame_run m ρ (fits_Kernel m h),
    fun m ρ h => Cert.KernelIdeal.Hand.frame_run m ρ (fits_KernelIdeal m h),
    fun m ρ _ => Cert.ReferenceIdeal.Gen.frame m ρ,
    fun m ρ _ => Cert.ReferenceIdeal.Gen.frame m ρ,
    trivial,
    algebraic⟩

end Cert.Proof

end
